-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_proj [hPre_finite_proj : Cert.Pre_finite_proj.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_proj.fn (F := Ideal) (m ((c.tc : Thread Cert.Kernel18Ideal.nD Cert.Kernel18Ideal.τ).loc Cert.Kernel18Ideal.main_arg0))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_proj [hPre_finite_proj : Cert.Pre_finite_proj.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_proj.fn (F := Ideal) (m ((c.tc : Thread Cert.Reference18Ideal.nD Cert.Reference18Ideal.τ).loc Cert.Reference18Ideal.main_arg0))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_dc [hPre_finite_dc : Cert.Pre_finite_dc.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_dc.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_dc [hPre_finite_dc : Cert.Pre_finite_dc.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_dc.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_pool_bwd [hPre_finite_pool_bwd : Cert.Pre_finite_pool_bwd.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_pool_bwd.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).1 = (fun _ => 1#1)
    ∧ (Cert.Pre_finite_pool_bwd.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.1 = (fun _ => 1#1)
    ∧ (Cert.Pre_finite_pool_bwd.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.2.1 = (fun _ => 1#1)
    ∧ (Cert.Pre_finite_pool_bwd.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_pool_bwd [hPre_finite_pool_bwd : Cert.Pre_finite_pool_bwd.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_pool_bwd.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).1 = (fun _ => 1#1)
    ∧ (Cert.Pre_finite_pool_bwd.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.1 = (fun _ => 1#1)
    ∧ (Cert.Pre_finite_pool_bwd.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.2.1 = (fun _ => 1#1)
    ∧ (Cert.Pre_finite_pool_bwd.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.2.2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_pool [hPre_finite_pool : Cert.Pre_finite_pool.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_pool.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_pool [hPre_finite_pool : Cert.Pre_finite_pool.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_pool.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Kernel18Ideal_pre_finite_proj [hKernel18Ideal : Cert.Kernel18Ideal.Facts] [hPre_finite_proj : Cert.Pre_finite_proj.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_proj m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Reference18Ideal_pre_finite_proj [hReference18Ideal : Cert.Reference18Ideal.Facts] [hPre_finite_proj : Cert.Pre_finite_proj.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_proj m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite_dc [hKernel19Ideal : Cert.Kernel19Ideal.Facts] [hPre_finite_dc : Cert.Pre_finite_dc.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_dc m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite_dc [hReference19Ideal : Cert.Reference19Ideal.Facts] [hPre_finite_dc : Cert.Pre_finite_dc.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_dc m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Kernel23Ideal_pre_finite_pool_bwd [hKernel23Ideal : Cert.Kernel23Ideal.Facts] [hPre_finite_pool_bwd : Cert.Pre_finite_pool_bwd.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_pool_bwd m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Reference23Ideal_pre_finite_pool_bwd [hReference23Ideal : Cert.Reference23Ideal.Facts] [hPre_finite_pool_bwd : Cert.Pre_finite_pool_bwd.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_pool_bwd m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Kernel24Ideal_pre_finite_pool [hKernel24Ideal : Cert.Kernel24Ideal.Facts] [hPre_finite_pool : Cert.Pre_finite_pool.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_pool m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Reference24Ideal_pre_finite_pool [hReference24Ideal : Cert.Reference24Ideal.Facts] [hPre_finite_pool : Cert.Pre_finite_pool.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_pool m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v22)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v12)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v12) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v14)) (v1 : (c : Dev Cert.Kernel17Ideal.nD) → Buf (Elt Ideal) ((c.tc : Thread Cert.Kernel17Ideal.nD Cert.Kernel17Ideal.τ).loc Cert.Kernel17Ideal.main_v13_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v14) = v0 c
          ∧ r.2.mem ((c.tc : Thread Cert.Kernel17Ideal.nD Cert.Kernel17Ideal.τ).loc Cert.Kernel17Ideal.main_v13_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v31) = v0 c
          ∧ r.2.mem ((c.tc : Thread Cert.Reference17Ideal.nD Cert.Reference17Ideal.τ).loc Cert.Reference17Ideal.main_v33) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal_pre_finite_proj [hKernel18Ideal : Cert.Kernel18Ideal.Facts] [hReference18Ideal : Cert.Reference18Ideal.Facts] [hPre_finite_proj : Cert.Pre_finite_proj.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_proj m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal_pre_finite_dc [hKernel19Ideal : Cert.Kernel19Ideal.Facts] [hReference19Ideal : Cert.Reference19Ideal.Facts] [hPre_finite_dc : Cert.Pre_finite_dc.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_dc m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v82) = v0 c
          ∧ r.2.mem ((c.tc : Thread Cert.Reference19Ideal.nD Cert.Reference19Ideal.τ).loc Cert.Reference19Ideal.main_v76) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v32) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite_pool_bwd [hKernel23Ideal : Cert.Kernel23Ideal.Facts] [hReference23Ideal : Cert.Reference23Ideal.Facts] [hPre_finite_pool_bwd : Cert.Pre_finite_pool_bwd.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_pool_bwd m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v134) = v0 c
          ∧ r.2.mem ((c.tc : Thread Cert.Reference23Ideal.nD Cert.Reference23Ideal.τ).loc Cert.Reference23Ideal.main_v74) = v1 c
          ∧ r.2.mem ((c.tc : Thread Cert.Reference23Ideal.nD Cert.Reference23Ideal.τ).loc Cert.Reference23Ideal.main_v66) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal_pre_finite_pool [hKernel24Ideal : Cert.Kernel24Ideal.Facts] [hReference24Ideal : Cert.Reference24Ideal.Facts] [hPre_finite_pool : Cert.Pre_finite_pool.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_pool m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v60) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v48) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  IdealRules.named_const.Statement Cert.Kernel26Ideal.κ "adam_c1" .f32 0x3FC48605#32 ((8388608 / 5463681 : ℝ) : EReal)
  ∧ IdealRules.named_const.Statement Cert.Kernel26Ideal.κ "adam_c2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "adam_c1" .f32 0x3FC48605#32 ((8388608 / 5463681 : ℝ) : EReal)
  ∧ IdealRules.named_const.Statement Cert.Kernel27Ideal.κ "adam_c2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_proj : Cert.Pre_finite_proj.Facts) (hPre_finite_dc : Cert.Pre_finite_dc.Facts) (hPre_finite_pool_bwd : Cert.Pre_finite_pool_bwd.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_proj (hKernel18Ideal := hKernel18Ideal) (hPre_finite_proj := hPre_finite_proj)
    ∧ quiescent_Reference18Ideal (hReference18Ideal := hReference18Ideal)
    ∧ quiescent_Reference18Ideal_pre_finite_proj (hReference18Ideal := hReference18Ideal) (hPre_finite_proj := hPre_finite_proj)
    ∧ quiescent_Kernel19 (hKernel19 := hKernel19)
    ∧ quiescent_Kernel19Ideal (hKernel19Ideal := hKernel19Ideal)
    ∧ quiescent_Kernel19Ideal_pre_finite_dc (hKernel19Ideal := hKernel19Ideal) (hPre_finite_dc := hPre_finite_dc)
    ∧ quiescent_Reference19Ideal (hReference19Ideal := hReference19Ideal)
    ∧ quiescent_Reference19Ideal_pre_finite_dc (hReference19Ideal := hReference19Ideal) (hPre_finite_dc := hPre_finite_dc)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_pool_bwd (hKernel23Ideal := hKernel23Ideal) (hPre_finite_pool_bwd := hPre_finite_pool_bwd)
    ∧ quiescent_Reference23Ideal (hReference23Ideal := hReference23Ideal)
    ∧ quiescent_Reference23Ideal_pre_finite_pool_bwd (hReference23Ideal := hReference23Ideal) (hPre_finite_pool_bwd := hPre_finite_pool_bwd)
    ∧ quiescent_Kernel24 (hKernel24 := hKernel24)
    ∧ quiescent_Kernel24Ideal (hKernel24Ideal := hKernel24Ideal)
    ∧ quiescent_Kernel24Ideal_pre_finite_pool (hKernel24Ideal := hKernel24Ideal) (hPre_finite_pool := hPre_finite_pool)
    ∧ quiescent_Reference24Ideal (hReference24Ideal := hReference24Ideal)
    ∧ quiescent_Reference24Ideal_pre_finite_pool (hReference24Ideal := hReference24Ideal) (hPre_finite_pool := hPre_finite_pool)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_proj (hKernel18Ideal := hKernel18Ideal) (hReference18Ideal := hReference18Ideal) (hPre_finite_proj := hPre_finite_proj)
    ∧ preserves_Kernel19_Kernel19Ideal
    ∧ algebraic_Kernel19Ideal_Reference19Ideal_pre_finite_dc (hKernel19Ideal := hKernel19Ideal) (hReference19Ideal := hReference19Ideal) (hPre_finite_dc := hPre_finite_dc)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_pool_bwd (hKernel23Ideal := hKernel23Ideal) (hReference23Ideal := hReference23Ideal) (hPre_finite_pool_bwd := hPre_finite_pool_bwd)
    ∧ preserves_Kernel24_Kernel24Ideal
    ∧ algebraic_Kernel24Ideal_Reference24Ideal_pre_finite_pool (hKernel24Ideal := hKernel24Ideal) (hReference24Ideal := hReference24Ideal) (hPre_finite_pool := hPre_finite_pool)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2048x12288 : Shape := ⟨2, ![2048, 12288]⟩
abbrev S2048x768 : Shape := ⟨2, ![2048, 768]⟩
abbrev S2048x2304 : Shape := ⟨2, ![2048, 2304]⟩
abbrev S_ : Shape := ⟨0, ![]⟩

class Facts : Prop where
  slices_S2048x12288_S2048x2304_0_0 : S2048x12288.Slices ![0, 0] S2048x2304
  bcast_S_S2048x2304 : S_.BroadcastsInDim S2048x2304 (![] : Fin 0 → Fin S2048x2304.rank)
  bcast_S_S2048x768 : S_.BroadcastsInDim S2048x768 (![] : Fin 0 → Fin S2048x768.rank)

variable [Facts]

def fn {F : FTy → Type} [FloatOps F] (main_arg0 : FVec F S2048x12288 .f32) (main_arg1 : FVec F S2048x768 .f32) : IVec S2048x2304 1 × IVec S2048x768 1 :=
  let main_v0 : FVec F S2048x2304 .f32 := (extractStridedSlice S2048x2304 ![0, 0] · slices_S2048x12288_S2048x2304_0_0) main_arg0
  let main_v1 : FVec F S2048x2304 .f32 := Host.absf main_v0
  let main_cst : FVec F S_ .f32 := constant S_ .f32 0x7F800000#32
  let main_v2 : FVec F S2048x2304 .f32 := broadcastInDim S2048x2304 ![] bcast_S_S2048x2304 main_cst
  let main_v3 : IVec S2048x2304 1 := cmpf .olt main_v1 main_v2
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  (main_v3, main_v6)
-- ==== Pre_finite_dc.lean ====
abbrev S2048x12288 : Shape := ⟨2, ![2048, 12288]⟩
abbrev S4x2304 : Shape := ⟨2, ![4, 2304]⟩
abbrev S2048x2304 : Shape := ⟨2, ![2048, 2304]⟩
abbrev S_ : Shape := ⟨0, ![]⟩

class Facts : Prop where
  bcast_S_S2048x2304 : S_.BroadcastsInDim S2048x2304 (![] : Fin 0 → Fin S2048x2304.rank)

variable [Facts]

def fn {F : FTy → Type} [FloatOps F] (main_arg0 : FVec F S2048x12288 .f32) (main_arg1 : FVec F S4x2304 .f32) (main_arg2 : FVec F S2048x2304 .f32) (main_arg3 : FVec F S2048x12288 .f32) : IVec S2048x2304 1 :=
  let main_v0 : FVec F S2048x2304 .f32 := Host.absf main_arg2
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  main_v2
-- ==== Pre_finite_pool.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩

class Facts : Prop where
  slices_S2048x12288_S2048x512_0_4608 : S2048x12288.Slices ![0, 4608] S2048x512
  bcast_S_S2048x512 : S_.BroadcastsInDim S2048x512 (![] : Fin 0 → Fin S2048x512.rank)

variable [Facts]

def fn {F : FTy → Type} [FloatOps F] (main_arg0 : FVec F S2048x12288 .f32) (main_arg1 : FVec F S4x128x128 .f32) (main_arg2 : FVec F S1x512 .f32) : IVec S2048x512 1 :=
  let main_v0 : FVec F S2048x512 .f32 := (extractStridedSlice S2048x512 ![0, 4608] · slices_S2048x12288_S2048x512_0_4608) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  main_v3
-- ==== Pre_finite_pool_bwd.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩

class Facts : Prop where
  slices_S2048x12288_S2048x512_0_4608 : S2048x12288.Slices ![0, 4608] S2048x512
  bcast_S_S2048x512 : S_.BroadcastsInDim S2048x512 (![] : Fin 0 → Fin S2048x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S2048x12288 .f32) (main_arg1 : FVec F S4x128x128 .f32) (main_arg2 : FVec F S1x512 .f32) (main_arg3 : FVec F S2048x512 .f32) (main_arg4 : FVec F S2048x12288 .f32) : IVec S2048x512 1 × IVec S4x128x128 1 × IVec S1x512 1 × IVec S2048x512 1 :=
  let main_v0 : FVec F S2048x512 .f32 := (extractStridedSlice S2048x512 ![0, 4608] · slices_S2048x12288_S2048x512_0_4608) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_v7 : FVec F S1x512 .f32 := Host.absf main_arg2
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S2048x512 .f32 := Host.absf main_arg3
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  (main_v3, main_v6, main_v9, main_v12)
-- ==== Pre_finite_proj.lean ====
abbrev S2048x12288 : Shape := ⟨2, ![2048, 12288]⟩
abbrev S2048x2304 : Shape := ⟨2, ![2048, 2304]⟩
abbrev S_ : Shape := ⟨0, ![]⟩

class Facts : Prop where
  slices_S2048x12288_S2048x2304_0_0 : S2048x12288.Slices ![0, 0] S2048x2304
  bcast_S_S2048x2304 : S_.BroadcastsInDim S2048x2304 (![] : Fin 0 → Fin S2048x2304.rank)

variable [Facts]

def fn {F : FTy → Type} [FloatOps F] (main_arg0 : FVec F S2048x12288 .f32) : IVec S2048x2304 1 :=
  let main_v0 : FVec F S2048x2304 .f32 := (extractStridedSlice S2048x2304 ![0, 0] · slices_S2048x12288_S2048x2304_0_0) main_arg0
  let main_v1 : FVec F S2048x2304 .f32 := Host.absf main_v0
  let main_cst : FVec F S_ .f32 := constant S_ .f32 0x7F800000#32
  let main_v2 : FVec F S2048x2304 .f32 := broadcastInDim S2048x2304 ![] bcast_S_S2048x2304 main_cst
  let main_v3 : IVec S2048x2304 1 := cmpf .olt main_v1 main_v2
  main_v3
-- ==== Kernel.lean ====
abbrev S2048x12288 : Shape := ⟨2, ![2048, 12288]⟩
abbrev S2048x768 : Shape := ⟨2, ![2048, 768]⟩
abbrev S2048x1536 : Shape := ⟨2, ![2048, 1536]⟩
abbrev S128x384 : Shape := ⟨2, ![128, 384]⟩
abbrev S2048x384 : Shape := ⟨2, ![2048, 384]⟩
abbrev S3x4x128x512 : Shape := ⟨4, ![3, 4, 128, 512]⟩
abbrev S128x128 : Shape := ⟨2, ![128, 128]⟩
abbrev S128x1 : Shape := ⟨2, ![128, 1]⟩
abbrev S512x128 : Shape := ⟨2, ![512, 128]⟩
abbrev S128x512 : Shape := ⟨2, ![128, 512]⟩
abbrev S128 : Shape := ⟨1, ![128]⟩
abbrev S1x1x128x512 : Shape := ⟨4, ![1, 1, 128, 512]⟩

abbrev nBuf : Space → Nat
  | .hbm => 7
  | .vmem => 16
  | .smem => 0
  | _ => 0

abbrev bufTy : (tb : Table) → Fin (tcTables nBuf tb) → BufTy
  | .hbm, ⟨0, _⟩ => ⟨S2048x12288, .f32⟩
  | .hbm, ⟨1, _⟩ => ⟨S2048x768, .f32⟩
  | .hbm, ⟨2, _⟩ => ⟨S2048x1536, .f32⟩
  | .hbm, ⟨3, _⟩ => ⟨S2048x1536, .bf16⟩
  | .hbm, ⟨4, _⟩ => ⟨S2048x768, .bf16⟩
  | .hbm, ⟨5, _⟩ => ⟨S2048x768, .f32⟩
  | .hbm, ⟨6, _⟩ => ⟨S2048x768, .f32⟩
  | .local _ .vmem, ⟨0, _⟩ => ⟨S128x384, .f32⟩
  | .local _ .vmem, ⟨1, _⟩ => ⟨S128x384, .f32⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S128x384, .f32⟩
  | .local _ .vmem, ⟨7, _⟩ => ⟨S128x384, .f32⟩
  | .local _ .vmem, ⟨8, _⟩ => ⟨S128x384, .bf16⟩
  | .local _ .vmem, ⟨9, _⟩ => ⟨S128x384, .bf16⟩
  | .local _ .vmem, ⟨10, _⟩ => ⟨S2048x384, .f32⟩
  | .local _ .vmem, ⟨11, _⟩ => ⟨S2048x384, .f32⟩
  | .local _ .vmem, ⟨12, _⟩ => ⟨S2048x384, .f32⟩
  | .local _ .vmem, ⟨13, _⟩ => ⟨S2048x384, .f32⟩
  | .local _ .vmem, ⟨14, _⟩ => ⟨S3x4x128x512, .f32⟩
  | .local _ .vmem, ⟨15, _⟩ => ⟨S3x4x128x512, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_20 : BitVec 32 := 512#32
  let v50 : BitVec 32 := Scalar.muli v17 c512_i32_20
  v50
def k0_off1 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_20 : BitVec 32 := 512#32
  let v50 : BitVec 32 := Scalar.muli v17 c512_i32_20
  let v51 : BitVec 32 := v50
  let v55 : Index := Scalar.indexCast v51
  let c0_23 : Index := 0#32
  ![v55.toNat, 0]
def k0_off2 (i : grid0.Coords) : Fin 4 → Nat :=
  let c0_39 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v122 : Index := Scalar.indexCast v17
  let c0_40 : Index := 0#32
  let c0_41 : Index := 0#32
  ![0, v122.toNat, 0, 0]
def k0_off3 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_20 : BitVec 32 := 512#32
  let v50 : BitVec 32 := Scalar.muli v17 c512_i32_20
  let v51 : BitVec 32 := v50
  let v143 : Index := Scalar.indexCast v51
  let c128_50 : Index := 128#32
  ![v143.toNat, 128]
def k0_off4 (i : grid0.Coords) : Fin 4 → Nat :=
  let c1 : Index := 1#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v210 : Index := Scalar.indexCast v17
  let c0_66 : Index := 0#32
  let c0_67 : Index := 0#32
  ![1, v210.toNat, 0, 0]
def k0_off5 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_20 : BitVec 32 := 512#32
  let v50 : BitVec 32 := Scalar.muli v17 c512_i32_20
  let v51 : BitVec 32 := v50
  let v231 : Index := Scalar.indexCast v51
  let c256_76 : Index := 256#32
  ![v231.toNat, 256]
def k0_off6 (i : grid0.Coords) : Fin 4 → Nat :=
  let c2 : Index := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v298 : Index := Scalar.indexCast v17
  let c0_92 : Index := 0#32
  let c0_93 : Index := 0#32
  ![2, v298.toNat, 0, 0]
@[reducible] def k0_t1_loop (i : grid0.Coords) : Scf.Loop 32 :=
  let c0_i32_102 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_104 : BitVec 32 := 1#32
  ⟨c0_i32_102, v323, c1_i32_104⟩
def k0_mult2 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let c512_i32_193 : BitVec 32 := 512#32
  let v547 : BitVec 32 := Scalar.muli v546 c512_i32_193
  v547
def k0_off7 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let c512_i32_193 : BitVec 32 := 512#32
  let v547 : BitVec 32 := Scalar.muli v546 c512_i32_193
  let v548 : BitVec 32 := v547
  let v549 : Index := Scalar.indexCast v548
  let c0_194 : Index := 0#32
  ![v549.toNat, 0]
def k0_off8 (i : grid0.Coords) (k0_t1 : Fin (k0_t1_loop i).trips) : Fin 4 → Nat :=
  let c0_208 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let v607 : Index := Scalar.indexCast v546
  let c0_209 : Index := 0#32
  let c0_210 : Index := 0#32
  ![0, v607.toNat, 0, 0]
def k0_off9 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let c512_i32_193 : BitVec 32 := 512#32
  let v547 : BitVec 32 := Scalar.muli v546 c512_i32_193
  let v548 : BitVec 32 := v547
  let v628 : Index := Scalar.indexCast v548
  let c128_219 : Index := 128#32
  ![v628.toNat, 128]
def k0_off10 (i : grid0.Coords) (k0_t1 : Fin (k0_t1_loop i).trips) : Fin 4 → Nat :=
  let c1_233 : Index := 1#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let v686 : Index := Scalar.indexCast v546
  let c0_234 : Index := 0#32
  let c0_235 : Index := 0#32
  ![1, v686.toNat, 0, 0]
def k0_off11 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let c512_i32_193 : BitVec 32 := 512#32
  let v547 : BitVec 32 := Scalar.muli v546 c512_i32_193
  let v548 : BitVec 32 := v547
  let v707 : Index := Scalar.indexCast v548
  let c256_244 : Index := 256#32
  ![v707.toNat, 256]
def k0_off12 (i : grid0.Coords) (k0_t1 : Fin (k0_t1_loop i).trips) : Fin 4 → Nat :=
  let c2_258 : Index := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let c1_i32_104 : BitVec 32 := 1#32
  let arg11 : BitVec 32 := Scf.iv c0_i32_102 c1_i32_104 k0_t1
  let v546 : BitVec 32 := Scalar.subi v545 arg11
  let v765 : Index := Scalar.indexCast v546
  let c0_259 : Index := 0#32
  let c0_260 : Index := 0#32
  ![2, v765.toNat, 0, 0]
@[reducible] def k0_t2_loop (i : grid0.Coords) : Scf.Loop 32 :=
  let c0_i32_102 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let v320 : BitVec 32 := Scalar.addi c0_i32_102 v319
  let c1_i32_105 : BitVec 32 := 1#32
  ⟨v323, v320, c1_i32_105⟩
def k0_mult3 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let c512_i32_193 : BitVec 32 := 512#32
  let v547 : BitVec 32 := Scalar.muli v546 c512_i32_193
  v547
def k0_off13 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let c512_i32_193 : BitVec 32 := 512#32
  let v547 : BitVec 32 := Scalar.muli v546 c512_i32_193
  let v548 : BitVec 32 := v547
  let v549 : Index := Scalar.indexCast v548
  let c0_194 : Index := 0#32
  ![v549.toNat, 0]
def k0_off14 (i : grid0.Coords) (k0_t2 : Fin (k0_t2_loop i).trips) : Fin 4 → Nat :=
  let c0_208 : Index := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let v607 : Index := Scalar.indexCast v546
  let c0_209 : Index := 0#32
  let c0_210 : Index := 0#32
  ![0, v607.toNat, 0, 0]
def k0_off15 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let c512_i32_193 : BitVec 32 := 512#32
  let v547 : BitVec 32 := Scalar.muli v546 c512_i32_193
  let v548 : BitVec 32 := v547
  let v628 : Index := Scalar.indexCast v548
  let c128_219 : Index := 128#32
  ![v628.toNat, 128]
def k0_off16 (i : grid0.Coords) (k0_t2 : Fin (k0_t2_loop i).trips) : Fin 4 → Nat :=
  let c1_233 : Index := 1#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let v686 : Index := Scalar.indexCast v546
  let c0_234 : Index := 0#32
  let c0_235 : Index := 0#32
  ![1, v686.toNat, 0, 0]
def k0_off17 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let c512_i32_193 : BitVec 32 := 512#32
  let v547 : BitVec 32 := Scalar.muli v546 c512_i32_193
  let v548 : BitVec 32 := v547
  let v707 : Index := Scalar.indexCast v548
  let c256_244 : Index := 256#32
  ![v707.toNat, 256]
def k0_off18 (i : grid0.Coords) (k0_t2 : Fin (k0_t2_loop i).trips) : Fin 4 → Nat :=
  let c2_258 : Index := 2#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_192 : BitVec 32 := 1#32
  let v545 : BitVec 32 := Scalar.subi v17 c1_i32_192
  let c0_i32_102 : BitVec 32 := 0#32
  let v319 : BitVec 32 := Scalar.subi v17 c0_i32_102
  let c1_i32_103 : BitVec 32 := 1#32
  let v321 : BitVec 32 := Scalar.divsi v319 c1_i32_103
  let v322 : BitVec 32 := Scalar.muli v321 c1_i32_103
  let v323 : BitVec 32 := Scalar.addi c0_i32_102 v322
  let c1_i32_105 : BitVec 32 := 1#32
  let arg11 : BitVec 32 := Scf.iv v323 c1_i32_105 k0_t2
  let v546 : BitVec 32 := Scalar.subi v545 arg11
  let v765 : Index := Scalar.indexCast v546
  let c0_259 : Index := 0#32
  let c0_260 : Index := 0#32
  ![2, v765.toNat, 0, 0]
@[reducible] def k0_t3_loop (i : grid0.Coords) : Scf.Loop 32 :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_114 : BitVec 32 := 1#32
  ⟨c0_i32_112, v336, c1_i32_114⟩
def k0_mult4 (i : grid0.Coords) (k0_t3 : Fin (k0_t3_loop i).trips) : BitVec 32 :=
  let c0_i32_112 : BitVec 32 := 0#32
  let c1_i32_114 : BitVec 32 := 1#32
  let arg11 : BitVec 32 := Scf.iv c0_i32_112 c1_i32_114 k0_t3
  let c512_i32_192 : BitVec 32 := 512#32
  let v545 : BitVec 32 := Scalar.muli arg11 c512_i32_192
  v545
def k0_off19 (i : grid0.Coords) (k0_t3 : Fin (k0_t3_loop i).trips) : Fin 4 → Nat :=
  let c0_193 : Index := 0#32
  let c0_i32_112 : BitVec 32 := 0#32
  let c1_i32_114 : BitVec 32 := 1#32
  let arg11 : BitVec 32 := Scf.iv c0_i32_112 c1_i32_114 k0_t3
  let v547 : Index := Scalar.indexCast arg11
  let c0_194 : Index := 0#32
  let c0_195 : Index := 0#32
  ![0, v547.toNat, 0, 0]
def k0_off20 (i : grid0.Coords) (k0_t3 : Fin (k0_t3_loop i).trips) : Fin 2 → Nat :=
  let c0_i32_112 : BitVec 32 := 0#32
  let c1_i32_114 : BitVec 32 := 1#32
  let arg11 : BitVec 32 := Scf.iv c0_i32_112 c1_i32_114 k0_t3
  let c512_i32_192 : BitVec 32 := 512#32
  let v545 : BitVec 32 := Scalar.muli arg11 c512_i32_192
  let v546 : BitVec 32 := v545
  let v593 : Index := Scalar.indexCast v546
  let c0_208 : Index := 0#32
  ![v593.toNat, 0]
def k0_off21 (i : grid0.Coords) (k0_t3 : Fin (k0_t3_loop i).trips) : Fin 4 → Nat :=
  let c1_213 : Index := 1#32
  let c0_i32_112 : BitVec 32 := 0#32
  let c1_i32_114 : BitVec 32 := 1#32
  let arg11 : BitVec 32 := Scf.iv c0_i32_112 c1_i32_114 k0_t3
  let v605 : Index := Scalar.indexCast arg11
  let c0_214 : Index := 0#32
  let c0_215 : Index := 0#32
  ![1, v605.toNat, 0, 0]
def k0_off22 (i : grid0.Coords) (k0_t3 : Fin (k0_t3_loop i).trips) : Fin 2 → Nat :=
  let c0_i32_112 : BitVec 32 := 0#32
  let c1_i32_114 : BitVec 32 := 1#32
  let arg11 : BitVec 32 := Scf.iv c0_i32_112 c1_i32_114 k0_t3
  let c512_i32_192 : BitVec 32 := 512#32
  let v545 : BitVec 32 := Scalar.muli arg11 c512_i32_192
  let v546 : BitVec 32 := v545
  let v651 : Index := Scalar.indexCast v546
  let c128_228 : Index := 128#32
  ![v651.toNat, 128]
def k0_off23 (i : grid0.Coords) (k0_t3 : Fin (k0_t3_loop i).trips) : Fin 4 → Nat :=
  let c2_233 : Index := 2#32
  let c0_i32_112 : BitVec 32 := 0#32
  let c1_i32_114 : BitVec 32 := 1#32
  let arg11 : BitVec 32 := Scf.iv c0_i32_112 c1_i32_114 k0_t3
  let v663 : Index := Scalar.indexCast arg11
  let c0_234 : Index := 0#32
  let c0_235 : Index := 0#32
  ![2, v663.toNat, 0, 0]
def k0_off24 (i : grid0.Coords) (k0_t3 : Fin (k0_t3_loop i).trips) : Fin 2 → Nat :=
  let c0_i32_112 : BitVec 32 := 0#32
  let c1_i32_114 : BitVec 32 := 1#32
  let arg11 : BitVec 32 := Scf.iv c0_i32_112 c1_i32_114 k0_t3
  let c512_i32_192 : BitVec 32 := 512#32
  let v545 : BitVec 32 := Scalar.muli arg11 c512_i32_192
  let v546 : BitVec 32 := v545
  let v709 : Index := Scalar.indexCast v546
  let c256_248 : Index := 256#32
  ![v709.toNat, 256]
@[reducible] def k0_t4_loop (i : grid0.Coords) : Scf.Loop 32 :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let v333 : BitVec 32 := Scalar.addi c0_i32_112 v332
  let c1_i32_115 : BitVec 32 := 1#32
  ⟨v336, v333, c1_i32_115⟩
def k0_mult5 (i : grid0.Coords) (k0_t4 : Fin (k0_t4_loop i).trips) : BitVec 32 :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let c512_i32_192 : BitVec 32 := 512#32
  let v545 : BitVec 32 := Scalar.muli arg11 c512_i32_192
  v545
def k0_off25 (i : grid0.Coords) (k0_t4 : Fin (k0_t4_loop i).trips) : Fin 4 → Nat :=
  let c0_193 : Index := 0#32
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let v547 : Index := Scalar.indexCast arg11
  let c0_194 : Index := 0#32
  let c0_195 : Index := 0#32
  ![0, v547.toNat, 0, 0]
def k0_off26 (i : grid0.Coords) (k0_t4 : Fin (k0_t4_loop i).trips) : Fin 2 → Nat :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let c512_i32_192 : BitVec 32 := 512#32
  let v545 : BitVec 32 := Scalar.muli arg11 c512_i32_192
  let v546 : BitVec 32 := v545
  let v593 : Index := Scalar.indexCast v546
  let c0_208 : Index := 0#32
  ![v593.toNat, 0]
def k0_off27 (i : grid0.Coords) (k0_t4 : Fin (k0_t4_loop i).trips) : Fin 4 → Nat :=
  let c1_213 : Index := 1#32
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let v605 : Index := Scalar.indexCast arg11
  let c0_214 : Index := 0#32
  let c0_215 : Index := 0#32
  ![1, v605.toNat, 0, 0]
def k0_off28 (i : grid0.Coords) (k0_t4 : Fin (k0_t4_loop i).trips) : Fin 2 → Nat :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let c512_i32_192 : BitVec 32 := 512#32
  let v545 : BitVec 32 := Scalar.muli arg11 c512_i32_192
  let v546 : BitVec 32 := v545
  let v651 : Index := Scalar.indexCast v546
  let c128_228 : Index := 128#32
  ![v651.toNat, 128]
def k0_off29 (i : grid0.Coords) (k0_t4 : Fin (k0_t4_loop i).trips) : Fin 4 → Nat :=
  let c2_233 : Index := 2#32
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let v663 : Index := Scalar.indexCast arg11
  let c0_234 : Index := 0#32
  let c0_235 : Index := 0#32
  ![2, v663.toNat, 0, 0]
def k0_off30 (i : grid0.Coords) (k0_t4 : Fin (k0_t4_loop i).trips) : Fin 2 → Nat :=
  let c0_i32_112 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v332 : BitVec 32 := Scalar.subi v17 c0_i32_112
  let c1_i32_113 : BitVec 32 := 1#32
  let v334 : BitVec 32 := Scalar.divsi v332 c1_i32_113
  let v335 : BitVec 32 := Scalar.muli v334 c1_i32_113
  let v336 : BitVec 32 := Scalar.addi c0_i32_112 v335
  let c1_i32_115 : BitVec 32 := 1#32
  let arg11 : BitVec 32 := Scf.iv v336 c1_i32_115 k0_t4
  let c512_i32_192 : BitVec 32 := 512#32
  let v545 : BitVec 32 := Scalar.muli arg11 c512_i32_192
  let v546 : BitVec 32 := v545
  let v709 : Index := Scalar.indexCast v546
  let c256_248 : Index := 256#32
  ![v709.toNat, 256]
def k0_mult6 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_116 : BitVec 32 := 512#32
  let v339 : BitVec 32 := Scalar.muli v17 c512_i32_116
  v339
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x12288 : Shape := ⟨2, ![2048, 12288]⟩
abbrev S2048x768 : Shape := ⟨2, ![2048, 768]⟩
abbrev S2048x2304 : Shape := ⟨2, ![2048, 2304]⟩
abbrev S2048x6x128 : Shape := ⟨3, ![2048, 6, 128]⟩
abbrev S_ : Shape := ⟨0, ![]⟩
abbrev S6x2048x2048 : Shape := ⟨3, ![6, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S6x128x2048 : Shape := ⟨3, ![6, 128, 2048]⟩
abbrev S6x2048x128 : Shape := ⟨3, ![6, 2048, 128]⟩

abbrev nBuf : Space → Nat
  | .hbm => 180
  | .vmem => 0
  | .smem => 0
  | _ => 0

abbrev hbmTy0_0 (i : Nat) : BufTy := match i % 128 with
  | 0 => ⟨S2048x12288, .f32⟩
  | 1 => ⟨S2048x768, .f32⟩
  | 2 => ⟨S2048x2304, .f32⟩
  | 3 => ⟨S2048x768, .f32⟩
  | 4 => ⟨S2048x768, .f32⟩
  | 5 => ⟨S2048x768, .f32⟩
  | 6 => ⟨S2048x6x128, .f32⟩
  | 7 => ⟨S2048x6x128, .f32⟩
  | 8 => ⟨S2048x6x128, .f32⟩
  | 9 => ⟨S_, .f32⟩
  | 10 => ⟨S2048x6x128, .f32⟩
  | 11 => ⟨S2048x6x128, .f32⟩
  | 12 => ⟨S6x2048x2048, .f32⟩
  | 13 => ⟨S2048, .i32⟩
  | 14 => ⟨S1x2048, .i32⟩
  | 15 => ⟨S2048, .i32⟩
  | 16 => ⟨S2048x1, .i32⟩
  | 17 => ⟨S2048x2048, .i32⟩
  | 18 => ⟨S2048x2048, .i32⟩
  | 19 => ⟨S2048x2048, .i1⟩
  | 20 => ⟨S6x2048x2048, .f32⟩
  | 21 => ⟨S6x2048x2048, .f32⟩
  | 22 => ⟨S_, .f32⟩
  | 23 => ⟨S6x2048x2048, .f32⟩
  | 24 => ⟨S6x2048x2048, .f32⟩
  | 25 => ⟨S6x2048x2048, .f32⟩
  | 26 => ⟨S6x2048x2048, .f32⟩
  | 27 => ⟨S6x2048x2048, .i1⟩
  | 28 => ⟨S6x2048x2048, .f32⟩
  | 29 => ⟨S6x2048x2048, .f32⟩
  | 30 => ⟨S6x2048x2048, .f32⟩
  | 31 => ⟨S6x2048x2048, .f32⟩
  | 32 => ⟨S6x2048x2048, .f32⟩
  | 33 => ⟨S6x2048x2048, .f32⟩
  | 34 => ⟨S6x2048x2048, .f32⟩
  | 35 => ⟨S6x2048x2048, .f32⟩
  | 36 => ⟨S_, .f32⟩
  | 37 => ⟨S6x2048x2048, .f32⟩
  | 38 => ⟨S6x2048x2048, .i1⟩
  | 39 => ⟨S_, .f32⟩
  | 40 => ⟨S6x2048x2048, .f32⟩
  | 41 => ⟨S6x2048x2048, .f32⟩
  | 42 => ⟨S_, .f32⟩
  | 43 => ⟨S6x2048x2048, .f32⟩
  | 44 => ⟨S6x2048x2048, .i1⟩
  | 45 => ⟨S_, .f32⟩
  | 46 => ⟨S6x2048x2048, .f32⟩
  | 47 => ⟨S6x2048x2048, .f32⟩
  | 48 => ⟨S6x2048x2048, .f32⟩
  | 49 => ⟨S6x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S6x2048x2048, .f32⟩
  | 58 => ⟨S6x2048x2048, .i1⟩
  | 59 => ⟨S_, .f32⟩
  | 60 => ⟨S6x2048x2048, .f32⟩
  | 61 => ⟨S6x2048x2048, .f32⟩
  | 62 => ⟨S6x2048x2048, .f32⟩
  | 63 => ⟨S6x2048x2048, .f32⟩
  | 64 => ⟨S6x2048x2048, .f32⟩
  | 65 => ⟨S_, .f32⟩
  | 66 => ⟨S6x2048x2048, .f32⟩
  | 67 => ⟨S6x2048x2048, .f32⟩
  | 68 => ⟨S6x2048x2048, .f32⟩
  | 69 => ⟨S_, .f32⟩
  | 70 => ⟨S_, .f32⟩
  | 71 => ⟨S6x2048x2048, .i1⟩
  | 72 => ⟨S6x2048x2048, .f32⟩
  | 73 => ⟨S6x2048x2048, .f32⟩
  | 74 => ⟨S_, .f32⟩
  | 75 => ⟨S6x2048x2048, .f32⟩
  | 76 => ⟨S_, .f32⟩
  | 77 => ⟨S_, .f32⟩
  | 78 => ⟨S6x2048x2048, .f32⟩
  | 79 => ⟨S6x2048x2048, .f32⟩
  | 80 => ⟨S6x2048x2048, .f32⟩
  | 81 => ⟨S_, .f32⟩
  | 82 => ⟨S6x2048x2048, .f32⟩
  | 83 => ⟨S6x2048x2048, .f32⟩
  | 84 => ⟨S6x2048x2048, .f32⟩
  | 85 => ⟨S6x2048x2048, .f32⟩
  | 86 => ⟨S6x2048x2048, .i1⟩
  | 87 => ⟨S6x2048x2048, .f32⟩
  | 88 => ⟨S6x2048x2048, .f32⟩
  | 89 => ⟨S6x2048x2048, .f32⟩
  | 90 => ⟨S6x2048x2048, .f32⟩
  | 91 => ⟨S6x2048x2048, .f32⟩
  | 92 => ⟨S6x2048x2048, .f32⟩
  | 93 => ⟨S6x2048x2048, .f32⟩
  | 94 => ⟨S6x2048x2048, .f32⟩
  | 95 => ⟨S_, .f32⟩
  | 96 => ⟨S6x2048x2048, .f32⟩
  | 97 => ⟨S6x2048x2048, .i1⟩
  | 98 => ⟨S_, .f32⟩
  | 99 => ⟨S6x2048x2048, .f32⟩
  | 100 => ⟨S6x2048x2048, .f32⟩
  | 101 => ⟨S_, .f32⟩
  | 102 => ⟨S6x2048x2048, .f32⟩
  | 103 => ⟨S6x2048x2048, .i1⟩
  | 104 => ⟨S_, .f32⟩
  | 105 => ⟨S6x2048x2048, .f32⟩
  | 106 => ⟨S6x2048x2048, .f32⟩
  | 107 => ⟨S6x2048x2048, .f32⟩
  | 108 => ⟨S6x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S6x2048x2048, .f32⟩
  | 117 => ⟨S6x2048x2048, .i1⟩
  | 118 => ⟨S_, .f32⟩
  | 119 => ⟨S6x2048x2048, .f32⟩
  | 120 => ⟨S6x2048x2048, .f32⟩
  | 121 => ⟨S6x2048x2048, .f32⟩
  | 122 => ⟨S6x2048x2048, .f32⟩
  | 123 => ⟨S6x2048x2048, .f32⟩
  | 124 => ⟨S_, .f32⟩
  | 125 => ⟨S6x2048x2048, .f32⟩
  | 126 => ⟨S6x2048x2048, .f32⟩
  | 127 => ⟨S6x2048x2048, .f32⟩
  | _ => ⟨S2048x12288, .f32⟩

abbrev hbmTy0_1 (i : Nat) : BufTy := match i % 128 with
  | 0 => ⟨S6x2048x2048, .f32⟩
  | 1 => ⟨S6x2048x2048, .f32⟩
  | 2 => ⟨S_, .f32⟩
  | 3 => ⟨S_, .f32⟩
  | 4 => ⟨S6x2048x2048, .i1⟩
  | 5 => ⟨S6x2048x2048, .f32⟩
  | 6 => ⟨S6x2048x2048, .f32⟩
  | 7 => ⟨S_, .f32⟩
  | 8 => ⟨S6x2048x2048, .f32⟩
  | 9 => ⟨S6x128x2048, .f32⟩
  | 10 => ⟨S2048x6x128, .f32⟩
  | 11 => ⟨S2048x768, .f32⟩
  | 12 => ⟨S2048x6x128, .f32⟩
  | 13 => ⟨S6x128x2048, .f32⟩
  | 14 => ⟨S6x2048x2048, .f32⟩
  | 15 => ⟨S6x128x2048, .f32⟩
  | 16 => ⟨S2048x6x128, .f32⟩
  | 17 => ⟨S_, .f32⟩
  | 18 => ⟨S6x2048x2048, .f32⟩
  | 19 => ⟨S6x2048x2048, .f32⟩
  | 20 => ⟨S6x2048x2048, .f32⟩
  | 21 => ⟨S6x2048x2048, .f32⟩
  | 22 => ⟨S6x2048x2048, .f32⟩
  | 23 => ⟨S6x2048x2048, .f32⟩
  | 24 => ⟨S6x2048x2048, .f32⟩
  | 25 => ⟨S_, .f32⟩
  | 26 => ⟨S_, .f32⟩
  | 27 => ⟨S6x2048x2048, .f32⟩
  | 28 => ⟨S6x2048x2048, .f32⟩
  | 29 => ⟨S_, .f32⟩
  | 30 => ⟨S6x2048x2048, .f32⟩
  | 31 => ⟨S6x2048x2048, .f32⟩
  | 32 => ⟨S6x2048x2048, .f32⟩
  | 33 => ⟨S6x2048x2048, .f32⟩
  | 34 => ⟨S6x2048x2048, .f32⟩
  | 35 => ⟨S6x2048x2048, .f32⟩
  | 36 => ⟨S6x2048x2048, .f32⟩
  | 37 => ⟨S6x2048x128, .f32⟩
  | 38 => ⟨S2048x6x128, .f32⟩
  | 39 => ⟨S6x2048x128, .f32⟩
  | 40 => ⟨S2048x6x128, .f32⟩
  | 41 => ⟨S_, .f32⟩
  | 42 => ⟨S2048x6x128, .f32⟩
  | 43 => ⟨S2048x6x128, .f32⟩
  | 44 => ⟨S2048x768, .f32⟩
  | 45 => ⟨S2048x768, .f32⟩
  | 46 => ⟨S2048x768, .f32⟩
  | 47 => ⟨S2048x2304, .f32⟩
  | 48 => ⟨S2048x768, .f32⟩
  | 49 => ⟨S2048x768, .bf16⟩
  | 50 => ⟨S2048x768, .f32⟩
  | 51 => ⟨S2048x768, .f32⟩
  | _ => ⟨S2048x12288, .f32⟩

abbrev hbmTy (i : Nat) : BufTy := match i / 128 with
  | 0 => hbmTy0_0 i
  | 1 => hbmTy0_1 i
  | _ => ⟨S2048x12288, .f32⟩

abbrev bufTy : (tb : Table) → Fin (tcTables nBuf tb) → BufTy
  | .hbm, ⟨i, _⟩ => hbmTy i
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x2048 : Shape := ⟨3, ![1, 1024, 2048]⟩
abbrev S1x1024x1024 : Shape := ⟨3, ![1, 1024, 1024]⟩

abbrev nBuf : Space → Nat
  | .hbm => 15
  | .vmem => 28
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x2048, .bf16⟩
  | .hbm, ⟨5, _⟩ => ⟨S2048x4x2048, .f32⟩
  | .hbm, ⟨6, _⟩ => ⟨S4x2048x2048, .f32⟩
  | .hbm, ⟨7, _⟩ => ⟨S4x2048x2048, .bf16⟩
  | .hbm, ⟨8, _⟩ => ⟨S4x2048x2048, .f32⟩
  | .hbm, ⟨9, _⟩ => ⟨S4x2048x2048, .bf16⟩
  | .hbm, ⟨10, _⟩ => ⟨S2048x8192, .bf16⟩
  | .hbm, ⟨11, _⟩ => ⟨S2048x8192, .bf16⟩
  | .hbm, ⟨12, _⟩ => ⟨S2048x8192, .bf16⟩
  | .hbm, ⟨13, _⟩ => ⟨S8192x2048, .bf16⟩
  | .hbm, ⟨14, _⟩ => ⟨S4x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .f32⟩
  | .local _ .vmem, ⟨9, _⟩ => ⟨S1024x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .f32⟩
  | .local _ .vmem, ⟨19, _⟩ => ⟨S2048x1024, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1x1024x1024, .bf16⟩
  | .local _ .vmem, ⟨27, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S2048x4x2048 : Shape := ⟨3, ![2048, 4, 2048]⟩
abbrev S4x2048x2048 : Shape := ⟨3, ![4, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S2048x2048, .f32⟩
  | .hbm, ⟨15, _⟩ => ⟨S2048x8192, .f32⟩
  | .hbm, ⟨16, _⟩ => ⟨S8192x2048, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S8192x2048, .f32⟩
  | .hbm, ⟨25, _⟩ => ⟨S2048x8192, .f32⟩
  | .hbm, ⟨26, _⟩ => ⟨S2048x2048, .f32⟩
  | .hbm, ⟨27, _⟩ => ⟨S2048x4x2048, .f32⟩
  | .hbm, ⟨28, _⟩ => ⟨S4x2048x2048, .f32⟩
  | .hbm, ⟨29, _⟩ => ⟨S4x2048x2048, .bf16⟩
  | .hbm, ⟨30, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x2048x2048, .bf16⟩
  | .hbm, ⟨5, _⟩ => ⟨S2048x8192, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩
abbrev S2048x1024 : Shape := ⟨2, ![2048, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x512x2048, .f32⟩
  | .hbm, ⟨4, _⟩ => ⟨S4x512x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x1024, .f32⟩
  | .local _ .vmem, ⟨10, _⟩ => ⟨S1024x1024, .bf16⟩
  | .local _ .vmem, ⟨11, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x12044 : Shape := ⟨2, ![2048, 12044]⟩
abbrev S_ : Shape := ⟨0, ![]⟩
abbrev S2048x244 : Shape := ⟨2, ![2048, 244]⟩
abbrev S2048x4608 : Shape := ⟨2, ![2048, 4608]⟩
abbrev S2048x512 : Shape := ⟨2, ![2048, 512]⟩
abbrev S2048x780 : Shape := ⟨2, ![2048, 780]⟩
abbrev S2048x6144 : Shape := ⟨2, ![2048, 6144]⟩
abbrev S2048x12288 : Shape := ⟨2, ![2048, 12288]⟩
abbrev S2048x4x3011 : Shape := ⟨3, ![2048, 4, 3011]⟩
abbrev S4x2048x3011 : Shape := ⟨3, ![4, 2048, 3011]⟩
abbrev S1x2048x2499 : Shape := ⟨3, ![1, 2048, 2499]⟩
abbrev S2048x2499 : Shape := ⟨2, ![2048, 2499]⟩
abbrev S1x2048x2109 : Shape := ⟨3, ![1, 2048, 2109]⟩
abbrev S2048x2109 : Shape := ⟨2, ![2048, 2109]⟩
abbrev S1x2048x512 : Shape := ⟨3, ![1, 2048, 512]⟩
abbrev S1x2048x780 : Shape := ⟨3, ![1, 2048, 780]⟩
abbrev S1x2048x122 : Shape := ⟨3, ![1, 2048, 122]⟩
abbrev S2048x122 : Shape := ⟨2, ![2048, 122]⟩
abbrev S1x2048x3011 : Shape := ⟨3, ![1, 2048, 3011]⟩
abbrev S2048x3011 : Shape := ⟨2, ![2048, 3011]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 31
  | .vmem => 7
  | .smem => 0
  | _ => 0

abbrev bufTy : (tb : Table) → Fin (tcTables nBuf tb) → BufTy
  | .hbm, ⟨0, _⟩ => ⟨S2048x12044, .f32⟩
  | .hbm, ⟨1, _⟩ => ⟨S2048x12044, .f32⟩
  | .hbm, ⟨2, _⟩ => ⟨S_, .bf16⟩
  | .hbm, ⟨3, _⟩ => ⟨S2048x244, .bf16⟩
  | .hbm, ⟨4, _⟩ => ⟨S2048x12044, .bf16⟩
  | .hbm, ⟨5, _⟩ => ⟨S2048x4608, .bf16⟩
  | .hbm, ⟨6, _⟩ => ⟨S2048x512, .bf16⟩
  | .hbm, ⟨7, _⟩ => ⟨S2048x780, .bf16⟩
  | .hbm, ⟨8, _⟩ => ⟨S2048x6144, .bf16⟩
  | .hbm, ⟨9, _⟩ => ⟨S2048x12288, .bf16⟩
  | .hbm, ⟨10, _⟩ => ⟨S2048x4x3011, .f32⟩
  | .hbm, ⟨11, _⟩ => ⟨S4x2048x3011, .f32⟩
  | .hbm, ⟨12, _⟩ => ⟨S4x2048x3011, .bf16⟩
  | .hbm, ⟨13, _⟩ => ⟨S1x2048x2499, .bf16⟩
  | .hbm, ⟨14, _⟩ => ⟨S2048x2499, .bf16⟩
  | .hbm, ⟨15, _⟩ => ⟨S1x2048x2109, .bf16⟩
  | .hbm, ⟨16, _⟩ => ⟨S2048x2109, .bf16⟩
  | .hbm, ⟨17, _⟩ => ⟨S1x2048x512, .bf16⟩
  | .hbm, ⟨18, _⟩ => ⟨S2048x512, .bf16⟩
  | .hbm, ⟨19, _⟩ => ⟨S1x2048x780, .bf16⟩
  | .hbm, ⟨20, _⟩ => ⟨S2048x780, .bf16⟩
  | .hbm, ⟨21, _⟩ => ⟨S_, .bf16⟩
  | .hbm, ⟨22, _⟩ => ⟨S2048x244, .bf16⟩
  | .hbm, ⟨23, _⟩ => ⟨S1x2048x122, .bf16⟩
  | .hbm, ⟨24, _⟩ => ⟨S2048x122, .bf16⟩
  | .hbm, ⟨25, _⟩ => ⟨S1x2048x3011, .bf16⟩
  | .hbm, ⟨26, _⟩ => ⟨S2048x3011, .bf16⟩
  | .hbm, ⟨27, _⟩ => ⟨S1x2048x3011, .bf16⟩
  | .hbm, ⟨28, _⟩ => ⟨S2048x3011, .bf16⟩
  | .hbm, ⟨29, _⟩ => ⟨S2048x12288, .bf16⟩
  | .hbm, ⟨30, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12044, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x12044 : Shape := ⟨2, ![2048, 12044]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x12044, .f32⟩
  | .hbm, ⟨1, _⟩ => ⟨S2048x12044, .f32⟩
  | .hbm, ⟨2, _⟩ => ⟨S_, .f32⟩
  | .hbm, ⟨3, _⟩ => ⟨S2048x2048, .f32⟩
  | .hbm, ⟨4, _⟩ => ⟨S2048x12044, .f32⟩
  | .hbm, ⟨5, _⟩ => ⟨S2048x2048, .f32⟩
  | _, _ => ⟨S2048x12044, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x2048 : Shape := ⟨2, ![2048, 2048]⟩
abbrev S2048x12044 : Shape := ⟨2, ![2048, 12044]⟩
abbrev S_ : Shape := ⟨0, ![]⟩
abbrev S2048x244 : Shape := ⟨2, ![2048, 244]⟩
abbrev S2048x4608 : Shape := ⟨2, ![2048, 4608]⟩
abbrev S2048x512 : Shape := ⟨2, ![2048, 512]⟩
abbrev S2048x780 : Shape := ⟨2, ![2048, 780]⟩
abbrev S2048x6144 : Shape := ⟨2, ![2048, 6144]⟩
abbrev S2048x12288 : Shape := ⟨2, ![2048, 12288]⟩
abbrev S2048x1024 : Shape := ⟨2, ![2048, 1024]⟩
abbrev S1024x1024 : Shape := ⟨2, ![1024, 1024]⟩
abbrev S2048x2499 : Shape := ⟨2, ![2048, 2499]⟩
abbrev S2048x3011 : Shape := ⟨2, ![2048, 3011]⟩
abbrev S2048x2109 : Shape := ⟨2, ![2048, 2109]⟩
abbrev S2048x122 : Shape := ⟨2, ![2048, 122]⟩
abbrev S1x2048x3011 : Shape := ⟨3, ![1, 2048, 3011]⟩
abbrev S4x2048x3011 : Shape := ⟨3, ![4, 2048, 3011]⟩

abbrev nBuf : Space → Nat
  | .hbm => 26
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x12044, .f32⟩
  | .hbm, ⟨2, _⟩ => ⟨S2048x2048, .bf16⟩
  | .hbm, ⟨3, _⟩ => ⟨S_, .bf16⟩
  | .hbm, ⟨4, _⟩ => ⟨S2048x244, .bf16⟩
  | .hbm, ⟨5, _⟩ => ⟨S2048x12044, .bf16⟩
  | .hbm, ⟨6, _⟩ => ⟨S2048x4608, .bf16⟩
  | .hbm, ⟨7, _⟩ => ⟨S2048x512, .bf16⟩
  | .hbm, ⟨8, _⟩ => ⟨S2048x780, .bf16⟩
  | .hbm, ⟨9, _⟩ => ⟨S2048x6144, .bf16⟩
  | .hbm, ⟨10, _⟩ => ⟨S2048x12288, .bf16⟩
  | .hbm, ⟨11, _⟩ => ⟨S2048x12288, .bf16⟩
  | .hbm, ⟨12, _⟩ => ⟨S2048x512, .bf16⟩
  | .hbm, ⟨13, _⟩ => ⟨S2048x2499, .bf16⟩
  | .hbm, ⟨14, _⟩ => ⟨S2048x3011, .bf16⟩
  | .hbm, ⟨15, _⟩ => ⟨S2048x2109, .bf16⟩
  | .hbm, ⟨16, _⟩ => ⟨S2048x780, .bf16⟩
  | .hbm, ⟨17, _⟩ => ⟨S2048x122, .bf16⟩
  | .hbm, ⟨18, _⟩ => ⟨S2048x3011, .bf16⟩
  | .hbm, ⟨19, _⟩ => ⟨S2048x3011, .bf16⟩
  | .hbm, ⟨20, _⟩ => ⟨S2048x3011, .bf16⟩
  | .hbm, ⟨21, _⟩ => ⟨S1x2048x3011, .bf16⟩
  | .hbm, ⟨22, _⟩ => ⟨S1x2048x3011, .bf16⟩
  | .hbm, ⟨23, _⟩ => ⟨S1x2048x3011, .bf16⟩
  | .hbm, ⟨24, _⟩ => ⟨S1x2048x3011, .bf16⟩
  | .hbm, ⟨25, _⟩ => ⟨S4x2048x3011, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x12044 : Shape := ⟨2, ![2048, 12044]⟩
abbrev S_ : Shape := ⟨0, ![]⟩
abbrev S12044x2048 : Shape := ⟨2, ![12044, 2048]⟩
abbrev S2048x4x3011 : Shape := ⟨3, ![2048, 4, 3011]⟩
abbrev S4x2048x3011 : Shape := ⟨3, ![4, 2048, 3011]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x12044, .f32⟩
  | .hbm, ⟨2, _⟩ => ⟨S_, .f32⟩
  | .hbm, ⟨3, _⟩ => ⟨S2048x12044, .f32⟩
  | .hbm, ⟨4, _⟩ => ⟨S2048x12044, .f32⟩
  | .hbm, ⟨5, _⟩ => ⟨S12044x2048, .f32⟩
  | .hbm, ⟨6, _⟩ => ⟨S2048x12044, .f32⟩
  | .hbm, ⟨7, _⟩ => ⟨S2048x4x3011, .f32⟩
  | .hbm, ⟨8, _⟩ => ⟨S4x2048x3011, .f32⟩
  | .hbm, ⟨9, _⟩ => ⟨S4x2048x3011, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S2048x12044 : Shape := ⟨2, ![2048, 12044]⟩
abbrev S2048x4x3011 : Shape := ⟨3, ![2048, 4, 3011]⟩
abbrev S4x2048x3011 : Shape := ⟨3, ![4, 2048, 3011]⟩
abbrev S1x2048x2499 : Shape := ⟨3, ![1, 2048, 2499]⟩
abbrev S2048x2499 : Shape := ⟨2, ![2048, 2499]⟩
abbrev S1x2048x2109 : Shape := ⟨3, ![1, 2048, 2109]⟩
abbrev S2048x2109 : Shape := ⟨2, ![2048, 2109]⟩
abbrev S1x2048x512 : Shape := ⟨3, ![1, 2048, 512]⟩
abbrev S2048x512 : Shape := ⟨2, ![2048, 512]⟩
abbrev S1x2048x780 : Shape := ⟨3, ![1, 2048, 780]⟩
abbrev S2048x780 : Shape := ⟨2, ![2048, 780]⟩
abbrev S_ : Shape := ⟨0, ![]⟩
abbrev S2048x244 : Shape := ⟨2, ![2048, 244]⟩
abbrev S1x2048x122 : Shape := ⟨3, ![1, 2048, 122]⟩
abbrev S2048x122 : Shape := ⟨2, ![2048, 122]⟩
abbrev S1x2048x3011 : Shape := ⟨3, ![1, 2048, 3011]⟩
abbrev S2048x3011 : Shape := ⟨2, ![2048, 3011]⟩
abbrev S2048x12288 : Shape := ⟨2, ![2048, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x12044, .f32⟩
  | .hbm, ⟨2, _⟩ => ⟨S2048x2048, .bf16⟩
  | .hbm, ⟨3, _⟩ => ⟨S2048x4x3011, .f32⟩
  | .hbm, ⟨4, _⟩ => ⟨S4x2048x3011, .f32⟩
  | .hbm, ⟨5, _⟩ => ⟨S4x2048x3011, .bf16⟩
  | .hbm, ⟨6, _⟩ => ⟨S1x2048x2499, .bf16⟩
  | .hbm, ⟨7, _⟩ => ⟨S2048x2499, .bf16⟩
  | .hbm, ⟨8, _⟩ => ⟨S1x2048x2109, .bf16⟩
  | .hbm, ⟨9, _⟩ => ⟨S2048x2109, .bf16⟩
  | .hbm, ⟨10, _⟩ => ⟨S1x2048x512, .bf16⟩
  | .hbm, ⟨11, _⟩ => ⟨S2048x512, .bf16⟩
  | .hbm, ⟨12, _⟩ => ⟨S1x2048x780, .bf16⟩
  | .hbm, ⟨13, _⟩ => ⟨S2048x780, .bf16⟩
  | .hbm, ⟨14, _⟩ => ⟨S_, .bf16⟩
  | .hbm, ⟨15, _⟩ => ⟨S2048x244, .bf16⟩
  | .hbm, ⟨16, _⟩ => ⟨S1x2048x122, .bf16⟩
  | .hbm, ⟨17, _⟩ => ⟨S2048x122, .bf16⟩
  | .hbm, ⟨18, _⟩ => ⟨S1x2048x3011, .bf16⟩
  | .hbm, ⟨19, _⟩ => ⟨S2048x3011, .bf16⟩
  | .hbm, ⟨20, _⟩ => ⟨S1x2048x3011, .bf16⟩
  | .hbm, ⟨21, _⟩ => ⟨S2048x3011, .bf16⟩
  | .hbm, ⟨22, _⟩ => ⟨S2048x12288, .bf16⟩
  | .hbm, ⟨23, _⟩ => ⟨S2048x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x12044 : Shape := ⟨2, ![2048, 12044]⟩
abbrev S2048x512 : Shape := ⟨2, ![2048, 512]⟩
abbrev S2048x2304 : Shape := ⟨2, ![2048, 2304]⟩
abbrev S2048x780 : Shape := ⟨2, ![2048, 780]⟩
abbrev S2048x6144 : Shape := ⟨2, ![2048, 6144]⟩
abbrev S_ : Shape := ⟨0, ![]⟩
abbrev S2048x244 : Shape := ⟨2, ![2048, 244]⟩
abbrev S2048x12288 : Shape := ⟨2, ![2048, 12288]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x12044, .f32⟩
  | .hbm, ⟨2, _⟩ => ⟨S2048x12044, .f32⟩
  | .hbm, ⟨3, _⟩ => ⟨S2048x512, .f32⟩
  | .hbm, ⟨4, _⟩ => ⟨S2048x2304, .f32⟩
  | .hbm, ⟨5, _⟩ => ⟨S2048x2304, .f32⟩
  | .hbm, ⟨6, _⟩ => ⟨S2048x780, .f32⟩
  | .hbm, ⟨7, _⟩ => ⟨S2048x6144, .f32⟩
  | .hbm, ⟨8, _⟩ => ⟨S_, .f32⟩
  | .hbm, ⟨9, _⟩ => ⟨S2048x244, .f32⟩
  | .hbm, ⟨10, _⟩ => ⟨S2048x12288, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x8192 : Shape := ⟨2, ![2048, 8192]⟩
abbrev S8192x2048 : Shape := ⟨2, ![8192, 2048]⟩
abbrev S2048x2048 : Shape := ⟨2, ![2048, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S4x2048x2048, .f32⟩
  | .hbm, ⟨4, _⟩ => ⟨S4x2048x2048, .bf16⟩
  | .hbm, ⟨5, _⟩ => ⟨S2048x8192, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S2048x2048 : Shape := ⟨2, ![2048, 2048]⟩
abbrev S4x512x2048 : Shape := ⟨3, ![4, 512, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x512x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S512x2048 : Shape := ⟨2, ![512, 2048]⟩
abbrev S2048x6144 : Shape := ⟨2, ![2048, 6144]⟩
abbrev S512x4x512 : Shape := ⟨3, ![512, 4, 512]⟩
abbrev S4x512x512 : Shape := ⟨3, ![4, 512, 512]⟩
abbrev S2048x512 : Shape := ⟨2, ![2048, 512]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x6144, .f32⟩
  | .hbm, ⟨2, _⟩ => ⟨S2048x6144, .bf16⟩
  | .hbm, ⟨3, _⟩ => ⟨S512x4x512, .f32⟩
  | .hbm, ⟨4, _⟩ => ⟨S4x512x512, .f32⟩
  | .hbm, ⟨5, _⟩ => ⟨S4x512x512, .bf16⟩
  | .hbm, ⟨6, _⟩ => ⟨S2048x512, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S512x2048 : Shape := ⟨2, ![512, 2048]⟩
abbrev S2048x6144 : Shape := ⟨2, ![2048, 6144]⟩
abbrev S512x4x512 : Shape := ⟨3, ![512, 4, 512]⟩
abbrev S4x512x512 : Shape := ⟨3, ![4, 512, 512]⟩
abbrev S2048x512 : Shape := ⟨2, ![2048, 512]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x6144, .f32⟩
  | .hbm, ⟨2, _⟩ => ⟨S2048x6144, .bf16⟩
  | .hbm, ⟨3, _⟩ => ⟨S512x4x512, .f32⟩
  | .hbm, ⟨4, _⟩ => ⟨S4x512x512, .f32⟩
  | .hbm, ⟨5, _⟩ => ⟨S4x512x512, .bf16⟩
  | .hbm, ⟨6, _⟩ => ⟨S2048x512, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S512x2048 : Shape := ⟨2, ![512, 2048]⟩
abbrev S2048x6144 : Shape := ⟨2, ![2048, 6144]⟩
abbrev S_ : Shape := ⟨0, ![]⟩
abbrev S2048x512 : Shape := ⟨2, ![2048, 512]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x6144, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S768x2048 : Shape := ⟨2, ![768, 2048]⟩
abbrev S2048x6144 : Shape := ⟨2, ![2048, 6144]⟩
abbrev S768x4x512 : Shape := ⟨3, ![768, 4, 512]⟩
abbrev S4x768x512 : Shape := ⟨3, ![4, 768, 512]⟩
abbrev S2048x768 : Shape := ⟨2, ![2048, 768]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S2048x6144, .bf16⟩
  | .hbm, ⟨3, _⟩ => ⟨S768x4x512, .f32⟩
  | .hbm, ⟨4, _⟩ => ⟨S4x768x512, .f32⟩
  | .hbm, ⟨5, _⟩ => ⟨S4x768x512, .bf16⟩
  | .hbm, ⟨6, _⟩ => ⟨S2048x768, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S768x2048 : Shape := ⟨2, ![768, 2048]⟩
abbrev S2048x6144 : Shape := ⟨2, ![2048, 6144]⟩
abbrev S768x4x512 : Shape := ⟨3, ![768, 4, 512]⟩
abbrev S4x768x512 : Shape := ⟨3, ![4, 768, 512]⟩
abbrev S2048x768 : Shape := ⟨2, ![2048, 768]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S2048x6144, .bf16⟩
  | .hbm, ⟨3, _⟩ => ⟨S768x4x512, .f32⟩
  | .hbm, ⟨4, _⟩ => ⟨S4x768x512, .f32⟩
  | .hbm, ⟨5, _⟩ => ⟨S4x768x512, .bf16⟩
  | .hbm, ⟨6, _⟩ => ⟨S2048x768, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S768x2048 : Shape := ⟨2, ![768, 2048]⟩
abbrev S2048x6144 : Shape := ⟨2, ![2048, 6144]⟩
abbrev S_ : Shape := ⟨0, ![]⟩
abbrev S2048x768 : Shape := ⟨2, ![2048, 768]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S_, .f32⟩
  | .hbm, ⟨3, _⟩ => ⟨S2048x768, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x768, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S768x2048 : Shape := ⟨2, ![768, 2048]⟩
abbrev S2048x6144 : Shape := ⟨2, ![2048, 6144]⟩
abbrev S768x4x512 : Shape := ⟨3, ![768, 4, 512]⟩
abbrev S4x768x512 : Shape := ⟨3, ![4, 768, 512]⟩
abbrev S2048x768 : Shape := ⟨2, ![2048, 768]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S2048x6144, .bf16⟩
  | .hbm, ⟨3, _⟩ => ⟨S768x4x512, .f32⟩
  | .hbm, ⟨4, _⟩ => ⟨S4x768x512, .f32⟩
  | .hbm, ⟨5, _⟩ => ⟨S4x768x512, .bf16⟩
  | .hbm, ⟨6, _⟩ => ⟨S2048x768, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S768x2048 : Shape := ⟨2, ![768, 2048]⟩
abbrev S2048x6144 : Shape := ⟨2, ![2048, 6144]⟩
abbrev S768x4x512 : Shape := ⟨3, ![768, 4, 512]⟩
abbrev S4x768x512 : Shape := ⟨3, ![4, 768, 512]⟩
abbrev S2048x768 : Shape := ⟨2, ![2048, 768]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S2048x6144, .bf16⟩
  | .hbm, ⟨3, _⟩ => ⟨S768x4x512, .f32⟩
  | .hbm, ⟨4, _⟩ => ⟨S4x768x512, .f32⟩
  | .hbm, ⟨5, _⟩ => ⟨S4x768x512, .bf16⟩
  | .hbm, ⟨6, _⟩ => ⟨S2048x768, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S768x2048 : Shape := ⟨2, ![768, 2048]⟩
abbrev S2048x6144 : Shape := ⟨2, ![2048, 6144]⟩
abbrev S_ : Shape := ⟨0, ![]⟩
abbrev S2048x768 : Shape := ⟨2, ![2048, 768]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S2048x6144, .f32⟩
  | .hbm, ⟨2, _⟩ => ⟨S_, .f32⟩
  | .hbm, ⟨3, _⟩ => ⟨S2048x768, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x768, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x512 : Shape := ⟨2, ![2048, 512]⟩
abbrev S2048x6144 : Shape := ⟨2, ![2048, 6144]⟩
abbrev S4x512x512 : Shape := ⟨3, ![4, 512, 512]⟩
abbrev S2048x256 : Shape := ⟨2, ![2048, 256]⟩
abbrev S1x256x512 : Shape := ⟨3, ![1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x6144, .f32⟩
  | .hbm, ⟨2, _⟩ => ⟨S2048x512, .bf16⟩
  | .hbm, ⟨3, _⟩ => ⟨S2048x6144, .bf16⟩
  | .hbm, ⟨4, _⟩ => ⟨S4x512x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S2048x512 : Shape := ⟨2, ![2048, 512]⟩
abbrev S2048x6144 : Shape := ⟨2, ![2048, 6144]⟩
abbrev S4x512x512 : Shape := ⟨3, ![4, 512, 512]⟩
abbrev S2048x256 : Shape := ⟨2, ![2048, 256]⟩
abbrev S1x256x512 : Shape := ⟨3, ![1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x6144, .f32⟩
  | .hbm, ⟨2, _⟩ => ⟨S2048x512, .bf16⟩
  | .hbm, ⟨3, _⟩ => ⟨S2048x6144, .bf16⟩
  | .hbm, ⟨4, _⟩ => ⟨S4x512x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x512 : Shape := ⟨2, ![2048, 512]⟩
abbrev S2048x6144 : Shape := ⟨2, ![2048, 6144]⟩
abbrev S_ : Shape := ⟨0, ![]⟩
abbrev S512x2048 : Shape := ⟨2, ![512, 2048]⟩
abbrev S2048x2048 : Shape := ⟨2, ![2048, 2048]⟩
abbrev S512x4x512 : Shape := ⟨3, ![512, 4, 512]⟩
abbrev S4x512x512 : Shape := ⟨3, ![4, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x6144, .f32⟩
  | .hbm, ⟨2, _⟩ => ⟨S_, .f32⟩
  | .hbm, ⟨3, _⟩ => ⟨S512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S512x2048, .f32⟩
  | .hbm, ⟨10, _⟩ => ⟨S512x4x512, .f32⟩
  | .hbm, ⟨11, _⟩ => ⟨S4x512x512, .f32⟩
  | .hbm, ⟨12, _⟩ => ⟨S4x512x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S2048x768 : Shape := ⟨2, ![2048, 768]⟩
abbrev S2048x6144 : Shape := ⟨2, ![2048, 6144]⟩
abbrev S4x768x512 : Shape := ⟨3, ![4, 768, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S2048x768, .bf16⟩
  | .hbm, ⟨3, _⟩ => ⟨S2048x6144, .bf16⟩
  | .hbm, ⟨4, _⟩ => ⟨S4x768x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
  let c4_i32 : BitVec 32 := 4#32
  let v0 : BitVec 32 := Scalar.addi c4_i32 arg1
-- ==== Reference14Ideal.lean ====
abbrev S2048x768 : Shape := ⟨2, ![2048, 768]⟩
abbrev S2048x6144 : Shape := ⟨2, ![2048, 6144]⟩
abbrev S_ : Shape := ⟨0, ![]⟩
abbrev S768x2048 : Shape := ⟨2, ![768, 2048]⟩
abbrev S2048x2048 : Shape := ⟨2, ![2048, 2048]⟩
abbrev S768x4x512 : Shape := ⟨3, ![768, 4, 512]⟩
abbrev S4x768x512 : Shape := ⟨3, ![4, 768, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S_, .f32⟩
  | .hbm, ⟨3, _⟩ => ⟨S768x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x768, .f32⟩
  | .hbm, ⟨9, _⟩ => ⟨S768x2048, .f32⟩
  | .hbm, ⟨10, _⟩ => ⟨S768x4x512, .f32⟩
  | .hbm, ⟨11, _⟩ => ⟨S4x768x512, .f32⟩
  | .hbm, ⟨12, _⟩ => ⟨S4x768x512, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S2048x768 : Shape := ⟨2, ![2048, 768]⟩
abbrev S2048x6144 : Shape := ⟨2, ![2048, 6144]⟩
abbrev S4x768x512 : Shape := ⟨3, ![4, 768, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S2048x768, .bf16⟩
  | .hbm, ⟨3, _⟩ => ⟨S2048x6144, .bf16⟩
  | .hbm, ⟨4, _⟩ => ⟨S4x768x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x768 : Shape := ⟨2, ![2048, 768]⟩
abbrev S2048x6144 : Shape := ⟨2, ![2048, 6144]⟩
abbrev S_ : Shape := ⟨0, ![]⟩
abbrev S768x2048 : Shape := ⟨2, ![768, 2048]⟩
abbrev S2048x2048 : Shape := ⟨2, ![2048, 2048]⟩
abbrev S768x4x512 : Shape := ⟨3, ![768, 4, 512]⟩
abbrev S4x768x512 : Shape := ⟨3, ![4, 768, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S_, .f32⟩
  | .hbm, ⟨3, _⟩ => ⟨S768x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x768, .f32⟩
  | .hbm, ⟨9, _⟩ => ⟨S768x2048, .f32⟩
  | .hbm, ⟨10, _⟩ => ⟨S768x4x512, .f32⟩
  | .hbm, ⟨11, _⟩ => ⟨S4x768x512, .f32⟩
  | .hbm, ⟨12, _⟩ => ⟨S4x768x512, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S2048x512 : Shape := ⟨2, ![2048, 512]⟩
abbrev S2048x768 : Shape := ⟨2, ![2048, 768]⟩
abbrev S512x2048 : Shape := ⟨2, ![512, 2048]⟩
abbrev S768x2048 : Shape := ⟨2, ![768, 2048]⟩
abbrev S2048x12288 : Shape := ⟨2, ![2048, 12288]⟩
abbrev S512x4x512 : Shape := ⟨3, ![512, 4, 512]⟩
abbrev S4x512x512 : Shape := ⟨3, ![4, 512, 512]⟩
abbrev S768x4x512 : Shape := ⟨3, ![768, 4, 512]⟩
abbrev S4x768x512 : Shape := ⟨3, ![4, 768, 512]⟩
abbrev S2048x2048 : Shape := ⟨2, ![2048, 2048]⟩
abbrev S512x512 : Shape := ⟨2, ![512, 512]⟩
abbrev S512x768 : Shape := ⟨2, ![512, 768]⟩
abbrev S1x512x512 : Shape := ⟨3, ![1, 512, 512]⟩
abbrev S1x768x512 : Shape := ⟨3, ![1, 768, 512]⟩
abbrev S768x512 : Shape := ⟨2, ![768, 512]⟩

abbrev nBuf : Space → Nat
  | .hbm => 20
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S512x2048, .f32⟩
  | .hbm, ⟨4, _⟩ => ⟨S768x2048, .f32⟩
  | .hbm, ⟨5, _⟩ => ⟨S768x2048, .f32⟩
  | .hbm, ⟨6, _⟩ => ⟨S2048x12288, .f32⟩
  | .hbm, ⟨7, _⟩ => ⟨S2048x512, .bf16⟩
  | .hbm, ⟨8, _⟩ => ⟨S2048x768, .bf16⟩
  | .hbm, ⟨9, _⟩ => ⟨S2048x768, .bf16⟩
  | .hbm, ⟨10, _⟩ => ⟨S512x4x512, .f32⟩
  | .hbm, ⟨11, _⟩ => ⟨S4x512x512, .f32⟩
  | .hbm, ⟨12, _⟩ => ⟨S4x512x512, .bf16⟩
  | .hbm, ⟨13, _⟩ => ⟨S768x4x512, .f32⟩
  | .hbm, ⟨14, _⟩ => ⟨S4x768x512, .f32⟩
  | .hbm, ⟨15, _⟩ => ⟨S4x768x512, .bf16⟩
  | .hbm, ⟨16, _⟩ => ⟨S768x4x512, .f32⟩
  | .hbm, ⟨17, _⟩ => ⟨S4x768x512, .f32⟩
  | .hbm, ⟨18, _⟩ => ⟨S4x768x512, .bf16⟩
  | .hbm, ⟨19, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1x512x512, .bf16⟩
  | .local _ .vmem, ⟨7, _⟩ => ⟨S1x512x512, .bf16⟩
  | .local _ .vmem, ⟨8, _⟩ => ⟨S1x768x512, .bf16⟩
  | .local _ .vmem, ⟨9, _⟩ => ⟨S1x768x512, .bf16⟩
  | .local _ .vmem, ⟨10, _⟩ => ⟨S1x768x512, .bf16⟩
  | .local _ .vmem, ⟨11, _⟩ => ⟨S1x768x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference16Ideal.lean ====
abbrev S2048x512 : Shape := ⟨2, ![2048, 512]⟩
abbrev S2048x768 : Shape := ⟨2, ![2048, 768]⟩
abbrev S512x2048 : Shape := ⟨2, ![512, 2048]⟩
abbrev S768x2048 : Shape := ⟨2, ![768, 2048]⟩
abbrev S2048x12288 : Shape := ⟨2, ![2048, 12288]⟩
abbrev S2048x2048 : Shape := ⟨2, ![2048, 2048]⟩
abbrev S2048x6144 : Shape := ⟨2, ![2048, 6144]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S512x2048, .f32⟩
  | .hbm, ⟨4, _⟩ => ⟨S768x2048, .f32⟩
  | .hbm, ⟨5, _⟩ => ⟨S768x2048, .f32⟩
  | .hbm, ⟨6, _⟩ => ⟨S2048x12288, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x6144, .f32⟩
  | .hbm, ⟨11, _⟩ => ⟨S2048x6144, .f32⟩
  | .hbm, ⟨12, _⟩ => ⟨S2048x6144, .f32⟩
  | .hbm, ⟨13, _⟩ => ⟨S_, .f32⟩
  | .hbm, ⟨14, _⟩ => ⟨S2048x6144, .f32⟩
  | .hbm, ⟨15, _⟩ => ⟨S2048x6144, .f32⟩
  | .hbm, ⟨16, _⟩ => ⟨S_, .f32⟩
  | .hbm, ⟨17, _⟩ => ⟨S2048x6144, .f32⟩
  | .hbm, ⟨18, _⟩ => ⟨S2048x6144, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel17.lean ====
abbrev S2048x512 : Shape := ⟨2, ![2048, 512]⟩
abbrev S2048x768 : Shape := ⟨2, ![2048, 768]⟩
abbrev S512x2048 : Shape := ⟨2, ![512, 2048]⟩
abbrev S768x2048 : Shape := ⟨2, ![768, 2048]⟩
abbrev S2048x12288 : Shape := ⟨2, ![2048, 12288]⟩
abbrev S2048x2048 : Shape := ⟨2, ![2048, 2048]⟩
abbrev S512x4x512 : Shape := ⟨3, ![512, 4, 512]⟩
abbrev S4x512x512 : Shape := ⟨3, ![4, 512, 512]⟩
abbrev S768x4x512 : Shape := ⟨3, ![768, 4, 512]⟩
abbrev S4x768x512 : Shape := ⟨3, ![4, 768, 512]⟩
abbrev S2048x6144 : Shape := ⟨2, ![2048, 6144]⟩
abbrev S1024x512 : Shape := ⟨2, ![1024, 512]⟩
abbrev S1024x768 : Shape := ⟨2, ![1024, 768]⟩
abbrev S1x512x512 : Shape := ⟨3, ![1, 512, 512]⟩
abbrev S1x768x512 : Shape := ⟨3, ![1, 768, 512]⟩
abbrev S512x512 : Shape := ⟨2, ![512, 512]⟩
abbrev S768x512 : Shape := ⟨2, ![768, 512]⟩

abbrev nBuf : Space → Nat
  | .hbm => 24
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S512x2048, .f32⟩
  | .hbm, ⟨4, _⟩ => ⟨S768x2048, .f32⟩
  | .hbm, ⟨5, _⟩ => ⟨S768x2048, .f32⟩
  | .hbm, ⟨6, _⟩ => ⟨S2048x12288, .f32⟩
  | .hbm, ⟨7, _⟩ => ⟨S2048x2048, .f32⟩
  | .hbm, ⟨8, _⟩ => ⟨S2048x512, .bf16⟩
  | .hbm, ⟨9, _⟩ => ⟨S2048x768, .bf16⟩
  | .hbm, ⟨10, _⟩ => ⟨S2048x768, .bf16⟩
  | .hbm, ⟨11, _⟩ => ⟨S512x4x512, .f32⟩
  | .hbm, ⟨12, _⟩ => ⟨S4x512x512, .f32⟩
  | .hbm, ⟨13, _⟩ => ⟨S4x512x512, .bf16⟩
  | .hbm, ⟨14, _⟩ => ⟨S768x4x512, .f32⟩
  | .hbm, ⟨15, _⟩ => ⟨S4x768x512, .f32⟩
  | .hbm, ⟨16, _⟩ => ⟨S4x768x512, .bf16⟩
  | .hbm, ⟨17, _⟩ => ⟨S768x4x512, .f32⟩
  | .hbm, ⟨18, _⟩ => ⟨S4x768x512, .f32⟩
  | .hbm, ⟨19, _⟩ => ⟨S4x768x512, .bf16⟩
  | .hbm, ⟨20, _⟩ => ⟨S2048x2048, .bf16⟩
  | .hbm, ⟨21, _⟩ => ⟨S2048x12288, .bf16⟩
  | .hbm, ⟨22, _⟩ => ⟨S2048x6144, .bf16⟩
  | .hbm, ⟨23, _⟩ => ⟨S2048x6144, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1x512x512, .bf16⟩
  | .local _ .vmem, ⟨7, _⟩ => ⟨S1x512x512, .bf16⟩
  | .local _ .vmem, ⟨8, _⟩ => ⟨S1x768x512, .bf16⟩
  | .local _ .vmem, ⟨9, _⟩ => ⟨S1x768x512, .bf16⟩
  | .local _ .vmem, ⟨10, _⟩ => ⟨S1x768x512, .bf16⟩
  | .local _ .vmem, ⟨11, _⟩ => ⟨S1x768x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 1 := Scalar.cmpi .slt arg1 c0_i32_0
  let c0_i32_1 : BitVec 32 := 0#32
  let c3_i32 : BitVec 32 := 3#32
  let v2 : BitVec 32 := Scalar.select v1 c0_i32_1 c3_i32
  let v3 : BitVec 32 := Scalar.select v0 arg2 v2
  let c0_i32_2 : BitVec 32 := 0#32
  let c0_i32_3 : BitVec 32 := 0#32
  let c0_i32_4 : BitVec 32 := 0#32
  ![v3.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c1_i32_0 : BitVec 32 := 1#32
  let v1 : BitVec 1 := Scalar.cmpi .slt arg1 c1_i32_0
  let c0_i32 : BitVec 32 := 0#32
  let c3_i32 : BitVec 32 := 3#32
  let v2 : BitVec 32 := Scalar.select v1 c0_i32 c3_i32
  let v3 : BitVec 32 := Scalar.select v0 arg2 v2
  let c0_i32_1 : BitVec 32 := 0#32
  let c0_i32_2 : BitVec 32 := 0#32
  let c0_i32_3 : BitVec 32 := 0#32
  ![v3.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c2_i32_0 : BitVec 32 := 2#32
  let v1 : BitVec 1 := Scalar.cmpi .slt arg1 c2_i32_0
  let c0_i32 : BitVec 32 := 0#32
  let c3_i32 : BitVec 32 := 3#32
  let v2 : BitVec 32 := Scalar.select v1 c0_i32 c3_i32
  let v3 : BitVec 32 := Scalar.select v0 arg2 v2
  let c0_i32_1 : BitVec 32 := 0#32
  let c0_i32_2 : BitVec 32 := 0#32
  let c0_i32_3 : BitVec 32 := 0#32
  ![v3.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c12_i32 : BitVec 32 := 12#32
  let v1 : BitVec 32 := Scalar.addi c12_i32 v0
  let v2 : BitVec 32 := Scalar.addi v1 arg2
  let c0_i32 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c12_i32 : BitVec 32 := 12#32
  let v1 : BitVec 32 := Scalar.addi c12_i32 v0
  let v2 : BitVec 32 := Scalar.addi v1 arg2
  let c0_i32 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference17Ideal.lean ====
abbrev S2048x512 : Shape := ⟨2, ![2048, 512]⟩
abbrev S2048x768 : Shape := ⟨2, ![2048, 768]⟩
abbrev S512x2048 : Shape := ⟨2, ![512, 2048]⟩
abbrev S768x2048 : Shape := ⟨2, ![768, 2048]⟩
abbrev S2048x12288 : Shape := ⟨2, ![2048, 12288]⟩
abbrev S2048x2048 : Shape := ⟨2, ![2048, 2048]⟩
abbrev S2048x6144 : Shape := ⟨2, ![2048, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S512x2048, .f32⟩
  | .hbm, ⟨4, _⟩ => ⟨S768x2048, .f32⟩
  | .hbm, ⟨5, _⟩ => ⟨S768x2048, .f32⟩
  | .hbm, ⟨6, _⟩ => ⟨S2048x12288, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x6144, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S_, .f32⟩
  | .hbm, ⟨18, _⟩ => ⟨S2048x6144, .f32⟩
  | .hbm, ⟨19, _⟩ => ⟨S2048x6144, .f32⟩
  | .hbm, ⟨20, _⟩ => ⟨S_, .f32⟩
  | .hbm, ⟨21, _⟩ => ⟨S2048x6144, .f32⟩
  | .hbm, ⟨22, _⟩ => ⟨S2048x6144, .f32⟩
  | .hbm, ⟨23, _⟩ => ⟨S2048x6144, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x6144, .f32⟩
  | .hbm, ⟨41, _⟩ => ⟨S2048x6144, .f32⟩
  | .hbm, ⟨42, _⟩ => ⟨S2048x6144, .bf16⟩
  | .hbm, ⟨43, _⟩ => ⟨S2048x6144, .f32⟩
  | .hbm, ⟨44, _⟩ => ⟨S2048x6144, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel18.lean ====
abbrev S2048x12288 : Shape := ⟨2, ![2048, 12288]⟩
abbrev S2048x1536 : Shape := ⟨2, ![2048, 1536]⟩
abbrev S2048x768 : Shape := ⟨2, ![2048, 768]⟩
abbrev S128x384 : Shape := ⟨2, ![128, 384]⟩
abbrev S2048x384 : Shape := ⟨2, ![2048, 384]⟩
abbrev S128x128 : Shape := ⟨2, ![128, 128]⟩
abbrev S128x1 : Shape := ⟨2, ![128, 1]⟩
abbrev S512x128 : Shape := ⟨2, ![512, 128]⟩
abbrev S128x512 : Shape := ⟨2, ![128, 512]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S2048x12288, .f32⟩
  | .hbm, ⟨1, _⟩ => ⟨S2048x1536, .f32⟩
  | .hbm, ⟨2, _⟩ => ⟨S2048x1536, .bf16⟩
  | .hbm, ⟨3, _⟩ => ⟨S2048x768, .bf16⟩
  | .local _ .vmem, ⟨0, _⟩ => ⟨S128x384, .f32⟩
  | .local _ .vmem, ⟨1, _⟩ => ⟨S128x384, .f32⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S128x384, .bf16⟩
  | .local _ .vmem, ⟨7, _⟩ => ⟨S128x384, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_15 : BitVec 32 := 512#32
  let v41 : BitVec 32 := Scalar.muli v17 c512_i32_15
  v41
def k0_off1 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_15 : BitVec 32 := 512#32
  let v41 : BitVec 32 := Scalar.muli v17 c512_i32_15
  let v42 : BitVec 32 := v41
  let v46 : Index := Scalar.indexCast v42
  let c0_18 : Index := 0#32
  ![v46.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_15 : BitVec 32 := 512#32
  let v41 : BitVec 32 := Scalar.muli v17 c512_i32_15
  let v42 : BitVec 32 := v41
  let v119 : Index := Scalar.indexCast v42
  let c128_36 : Index := 128#32
  ![v119.toNat, 128]
def k0_off3 (i : grid0.Coords) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_15 : BitVec 32 := 512#32
  let v41 : BitVec 32 := Scalar.muli v17 c512_i32_15
  let v42 : BitVec 32 := v41
  let v192 : Index := Scalar.indexCast v42
  let c256_54 : Index := 256#32
  ![v192.toNat, 256]
@[reducible] def k0_t1_loop (i : grid0.Coords) : Scf.Loop 32 :=
  let c0_i32_72 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let c1_i32_74 : BitVec 32 := 1#32
  ⟨c0_i32_72, v269, c1_i32_74⟩
def k0_mult2 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let c1_i32_74 : BitVec 32 := 1#32
  let arg6 : BitVec 32 := Scf.iv c0_i32_72 c1_i32_74 k0_t1
  let v279 : BitVec 32 := Scalar.subi v278 arg6
  let c512_i32_83 : BitVec 32 := 512#32
  let v280 : BitVec 32 := Scalar.muli v279 c512_i32_83
  v280
def k0_off4 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let c1_i32_74 : BitVec 32 := 1#32
  let arg6 : BitVec 32 := Scf.iv c0_i32_72 c1_i32_74 k0_t1
  let v279 : BitVec 32 := Scalar.subi v278 arg6
  let c512_i32_83 : BitVec 32 := 512#32
  let v280 : BitVec 32 := Scalar.muli v279 c512_i32_83
  let v281 : BitVec 32 := v280
  let v282 : Index := Scalar.indexCast v281
  let c0_84 : Index := 0#32
  ![v282.toNat, 0]
def k0_off5 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let c1_i32_74 : BitVec 32 := 1#32
  let arg6 : BitVec 32 := Scf.iv c0_i32_72 c1_i32_74 k0_t1
  let v279 : BitVec 32 := Scalar.subi v278 arg6
  let c512_i32_83 : BitVec 32 := 512#32
  let v280 : BitVec 32 := Scalar.muli v279 c512_i32_83
  let v281 : BitVec 32 := v280
  let v346 : Index := Scalar.indexCast v281
  let c128_100 : Index := 128#32
  ![v346.toNat, 128]
def k0_off6 (i : grid0.Coords) (k0_t1 : Fin (k0_t1_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let c1_i32_74 : BitVec 32 := 1#32
  let arg6 : BitVec 32 := Scf.iv c0_i32_72 c1_i32_74 k0_t1
  let v279 : BitVec 32 := Scalar.subi v278 arg6
  let c512_i32_83 : BitVec 32 := 512#32
  let v280 : BitVec 32 := Scalar.muli v279 c512_i32_83
  let v281 : BitVec 32 := v280
  let v410 : Index := Scalar.indexCast v281
  let c256_116 : Index := 256#32
  ![v410.toNat, 256]
@[reducible] def k0_t2_loop (i : grid0.Coords) : Scf.Loop 32 :=
  let c0_i32_72 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let v266 : BitVec 32 := Scalar.addi c0_i32_72 v265
  let c1_i32_75 : BitVec 32 := 1#32
  ⟨v269, v266, c1_i32_75⟩
def k0_mult3 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let c1_i32_75 : BitVec 32 := 1#32
  let arg6 : BitVec 32 := Scf.iv v269 c1_i32_75 k0_t2
  let v279 : BitVec 32 := Scalar.subi v278 arg6
  let c512_i32_83 : BitVec 32 := 512#32
  let v280 : BitVec 32 := Scalar.muli v279 c512_i32_83
  v280
def k0_off7 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let c1_i32_75 : BitVec 32 := 1#32
  let arg6 : BitVec 32 := Scf.iv v269 c1_i32_75 k0_t2
  let v279 : BitVec 32 := Scalar.subi v278 arg6
  let c512_i32_83 : BitVec 32 := 512#32
  let v280 : BitVec 32 := Scalar.muli v279 c512_i32_83
  let v281 : BitVec 32 := v280
  let v282 : Index := Scalar.indexCast v281
  let c0_84 : Index := 0#32
  ![v282.toNat, 0]
def k0_off8 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let c1_i32_75 : BitVec 32 := 1#32
  let arg6 : BitVec 32 := Scf.iv v269 c1_i32_75 k0_t2
  let v279 : BitVec 32 := Scalar.subi v278 arg6
  let c512_i32_83 : BitVec 32 := 512#32
  let v280 : BitVec 32 := Scalar.muli v279 c512_i32_83
  let v281 : BitVec 32 := v280
  let v346 : Index := Scalar.indexCast v281
  let c128_100 : Index := 128#32
  ![v346.toNat, 128]
def k0_off9 (i : grid0.Coords) (k0_t2 : Fin (k0_t2_loop i).trips) : Fin 2 → Nat :=
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_82 : BitVec 32 := 1#32
  let v278 : BitVec 32 := Scalar.subi v17 c1_i32_82
  let c0_i32_72 : BitVec 32 := 0#32
  let v265 : BitVec 32 := Scalar.subi v17 c0_i32_72
  let c1_i32_73 : BitVec 32 := 1#32
  let v267 : BitVec 32 := Scalar.divsi v265 c1_i32_73
  let v268 : BitVec 32 := Scalar.muli v267 c1_i32_73
  let v269 : BitVec 32 := Scalar.addi c0_i32_72 v268
  let c1_i32_75 : BitVec 32 := 1#32
  let arg6 : BitVec 32 := Scf.iv v269 c1_i32_75 k0_t2
  let v279 : BitVec 32 := Scalar.subi v278 arg6
  let c512_i32_83 : BitVec 32 := 512#32
  let v280 : BitVec 32 := Scalar.muli v279 c512_i32_83
  let v281 : BitVec 32 := v280
  let v410 : Index := Scalar.indexCast v281
  let c256_116 : Index := 256#32
  ![v410.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S2048x12288 : Shape := ⟨2, ![2048, 12288]⟩
abbrev S2048x2304 : Shape := ⟨2, ![2048, 2304]⟩
abbrev S2048x768 : Shape := ⟨2, ![2048, 768]⟩
abbrev S2048x6x128 : Shape := ⟨3, ![2048, 6, 128]⟩
abbrev S_ : Shape := ⟨0, ![]⟩
abbrev S6x2048x2048 : Shape := ⟨3, ![6, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S6x128x2048 : Shape := ⟨3, ![6, 128, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S2048x2304, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x6x128, .f32⟩
  | .hbm, ⟨6, _⟩ => ⟨S2048x6x128, .f32⟩
  | .hbm, ⟨7, _⟩ => ⟨S2048x6x128, .f32⟩
  | .hbm, ⟨8, _⟩ => ⟨S_, .f32⟩
  | .hbm, ⟨9, _⟩ => ⟨S2048x6x128, .f32⟩
  | .hbm, ⟨10, _⟩ => ⟨S2048x6x128, .f32⟩
  | .hbm, ⟨11, _⟩ => ⟨S6x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S6x2048x2048, .f32⟩
  | .hbm, ⟨20, _⟩ => ⟨S6x2048x2048, .f32⟩
  | .hbm, ⟨21, _⟩ => ⟨S_, .f32⟩
  | .hbm, ⟨22, _⟩ => ⟨S6x2048x2048, .f32⟩
  | .hbm, ⟨23, _⟩ => ⟨S6x2048x2048, .f32⟩
  | .hbm, ⟨24, _⟩ => ⟨S6x2048x2048, .f32⟩
  | .hbm, ⟨25, _⟩ => ⟨S6x2048x2048, .f32⟩
  | .hbm, ⟨26, _⟩ => ⟨S6x2048x2048, .i1⟩
  | .hbm, ⟨27, _⟩ => ⟨S6x2048x2048, .f32⟩
  | .hbm, ⟨28, _⟩ => ⟨S6x2048x2048, .f32⟩
  | .hbm, ⟨29, _⟩ => ⟨S6x2048x2048, .f32⟩
  | .hbm, ⟨30, _⟩ => ⟨S6x2048x2048, .f32⟩
  | .hbm, ⟨31, _⟩ => ⟨S6x2048x2048, .f32⟩
  | .hbm, ⟨32, _⟩ => ⟨S6x2048x2048, .f32⟩
  | .hbm, ⟨33, _⟩ => ⟨S6x2048x2048, .f32⟩
  | .hbm, ⟨34, _⟩ => ⟨S6x2048x2048, .f32⟩
  | .hbm, ⟨35, _⟩ => ⟨S6x2048x2048, .f32⟩
  | .hbm, ⟨36, _⟩ => ⟨S_, .f32⟩
  | .hbm, ⟨37, _⟩ => ⟨S_, .f32⟩
  | .hbm, ⟨38, _⟩ => ⟨S6x2048x2048, .i1⟩
  | .hbm, ⟨39, _⟩ => ⟨S6x2048x2048, .f32⟩
  | .hbm, ⟨40, _⟩ => ⟨S6x2048x2048, .f32⟩
  | .hbm, ⟨41, _⟩ => ⟨S_, .f32⟩
  | .hbm, ⟨42, _⟩ => ⟨S_, .f32⟩
  | .hbm, ⟨43, _⟩ => ⟨S6x2048x2048, .f32⟩
  | .hbm, ⟨44, _⟩ => ⟨S6x2048x2048, .f32⟩
  | .hbm, ⟨45, _⟩ => ⟨S6x2048x2048, .f32⟩
  | .hbm, ⟨46, _⟩ => ⟨S_, .f32⟩
  | .hbm, ⟨47, _⟩ => ⟨S6x2048x2048, .f32⟩
  | .hbm, ⟨48, _⟩ => ⟨S6x2048x2048, .f32⟩
  | .hbm, ⟨49, _⟩ => ⟨S6x2048x2048, .f32⟩
  | .hbm, ⟨50, _⟩ => ⟨S6x2048x2048, .f32⟩
  | .hbm, ⟨51, _⟩ => ⟨S6x2048x2048, .i1⟩
  | .hbm, ⟨52, _⟩ => ⟨S6x2048x2048, .f32⟩
  | .hbm, ⟨53, _⟩ => ⟨S6x2048x2048, .f32⟩
  | .hbm, ⟨54, _⟩ => ⟨S6x2048x2048, .f32⟩
  | .hbm, ⟨55, _⟩ => ⟨S6x2048x2048, .f32⟩
  | .hbm, ⟨56, _⟩ => ⟨S6x2048x2048, .f32⟩
  | .hbm, ⟨57, _⟩ => ⟨S6x2048x2048, .f32⟩
  | .hbm, ⟨58, _⟩ => ⟨S6x2048x2048, .f32⟩
  | .hbm, ⟨59, _⟩ => ⟨S6x2048x2048, .f32⟩
  | .hbm, ⟨60, _⟩ => ⟨S6x2048x2048, .f32⟩
  | .hbm, ⟨61, _⟩ => ⟨S6x2048x2048, .f32⟩
  | .hbm, ⟨62, _⟩ => ⟨S6x2048x2048, .f32⟩
  | .hbm, ⟨63, _⟩ => ⟨S_, .f32⟩
  | .hbm, ⟨64, _⟩ => ⟨S_, .f32⟩
  | .hbm, ⟨65, _⟩ => ⟨S6x2048x2048, .i1⟩
  | .hbm, ⟨66, _⟩ => ⟨S6x2048x2048, .f32⟩
  | .hbm, ⟨67, _⟩ => ⟨S6x2048x2048, .f32⟩
  | .hbm, ⟨68, _⟩ => ⟨S6x128x2048, .f32⟩
  | .hbm, ⟨69, _⟩ => ⟨S2048x6x128, .f32⟩
  | .hbm, ⟨70, _⟩ => ⟨S2048x768, .f32⟩
  | .hbm, ⟨71, _⟩ => ⟨S2048x768, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel19.lean ====
abbrev S2048x12288 : Shape := ⟨2, ![2048, 12288]⟩
abbrev S4x2304 : Shape := ⟨2, ![4, 2304]⟩
abbrev S2048x2304 : Shape := ⟨2, ![2048, 2304]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S2048x12288, .f32⟩
  | .hbm, ⟨1, _⟩ => ⟨S4x2304, .f32⟩
  | .hbm, ⟨2, _⟩ => ⟨S2048x2304, .f32⟩
  | .hbm, ⟨3, _⟩ => ⟨S2048x12288, .f32⟩
  | .hbm, ⟨4, _⟩ => ⟨S2048x12288, .bf16⟩
  | .hbm, ⟨5, _⟩ => ⟨S2048x12288, .bf16⟩
  | .hbm, ⟨6, _⟩ => ⟨S4x2304, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S4x256, .f32⟩
  | .local _ .vmem, ⟨9, _⟩ => ⟨S4x256, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S2048x12288 : Shape := ⟨2, ![2048, 12288]⟩
abbrev S4x2304 : Shape := ⟨2, ![4, 2304]⟩
abbrev S2048x2304 : Shape := ⟨2, ![2048, 2304]⟩
abbrev S_ : Shape := ⟨0, ![]⟩
abbrev S3x2304 : Shape := ⟨2, ![3, 2304]⟩
abbrev S2051x2304 : Shape := ⟨2, ![2051, 2304]⟩
abbrev S1x2304 : Shape := ⟨2, ![1, 2304]⟩
abbrev S2304 : Shape := ⟨1, ![2304]⟩
abbrev S2048x7680 : Shape := ⟨2, ![2048, 7680]⟩

abbrev nBuf : Space → Nat
  | .hbm => 121
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4x2304, .f32⟩
  | .hbm, ⟨2, _⟩ => ⟨S2048x2304, .f32⟩
  | .hbm, ⟨3, _⟩ => ⟨S2048x12288, .f32⟩
  | .hbm, ⟨4, _⟩ => ⟨S2048x2304, .f32⟩
  | .hbm, ⟨5, _⟩ => ⟨S_, .f32⟩
  | .hbm, ⟨6, _⟩ => ⟨S3x2304, .f32⟩
  | .hbm, ⟨7, _⟩ => ⟨S2051x2304, .f32⟩
  | .hbm, ⟨8, _⟩ => ⟨S_, .f32⟩
  | .hbm, ⟨9, _⟩ => ⟨S3x2304, .f32⟩
  | .hbm, ⟨10, _⟩ => ⟨S1x2304, .f32⟩
  | .hbm, ⟨11, _⟩ => ⟨S2304, .f32⟩
  | .hbm, ⟨12, _⟩ => ⟨S2048x2304, .f32⟩
  | .hbm, ⟨13, _⟩ => ⟨S1x2304, .f32⟩
  | .hbm, ⟨14, _⟩ => ⟨S2048x2304, .f32⟩
  | .hbm, ⟨15, _⟩ => ⟨S2048x2304, .f32⟩
  | .hbm, ⟨16, _⟩ => ⟨S_, .f32⟩
  | .hbm, ⟨17, _⟩ => ⟨S2048x2304, .f32⟩
  | .hbm, ⟨18, _⟩ => ⟨S2048x2304, .f32⟩
  | .hbm, ⟨19, _⟩ => ⟨S1x2304, .f32⟩
  | .hbm, ⟨20, _⟩ => ⟨S2304, .f32⟩
  | .hbm, ⟨21, _⟩ => ⟨S2048x2304, .f32⟩
  | .hbm, ⟨22, _⟩ => ⟨S1x2304, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S1x2304, .f32⟩
  | .hbm, ⟨27, _⟩ => ⟨S2304, .f32⟩
  | .hbm, ⟨28, _⟩ => ⟨S2048x2304, .f32⟩
  | .hbm, ⟨29, _⟩ => ⟨S1x2304, .f32⟩
  | .hbm, ⟨30, _⟩ => ⟨S2048x2304, .f32⟩
  | .hbm, ⟨31, _⟩ => ⟨S2048x2304, .f32⟩
  | .hbm, ⟨32, _⟩ => ⟨S2048x2304, .f32⟩
  | .hbm, ⟨33, _⟩ => ⟨S1x2304, .f32⟩
  | .hbm, ⟨34, _⟩ => ⟨S2304, .f32⟩
  | .hbm, ⟨35, _⟩ => ⟨S2048x2304, .f32⟩
  | .hbm, ⟨36, _⟩ => ⟨S1x2304, .f32⟩
  | .hbm, ⟨37, _⟩ => ⟨S2048x2304, .f32⟩
  | .hbm, ⟨38, _⟩ => ⟨S2048x2304, .f32⟩
  | .hbm, ⟨39, _⟩ => ⟨S2048x2304, .f32⟩
  | .hbm, ⟨40, _⟩ => ⟨S2048x2304, .f32⟩
  | .hbm, ⟨41, _⟩ => ⟨S2048x2304, .f32⟩
  | .hbm, ⟨42, _⟩ => ⟨S_, .f32⟩
  | .hbm, ⟨43, _⟩ => ⟨S2048x2304, .f32⟩
  | .hbm, ⟨44, _⟩ => ⟨S2048x2304, .f32⟩
  | .hbm, ⟨45, _⟩ => ⟨S_, .f32⟩
  | .hbm, ⟨46, _⟩ => ⟨S2048x2304, .f32⟩
  | .hbm, ⟨47, _⟩ => ⟨S2048x2304, .f32⟩
  | .hbm, ⟨48, _⟩ => ⟨S_, .f32⟩
  | .hbm, ⟨49, _⟩ => ⟨S2048x2304, .f32⟩
  | .hbm, ⟨50, _⟩ => ⟨S2048x2304, .f32⟩
  | .hbm, ⟨51, _⟩ => ⟨S2048x2304, .f32⟩
  | .hbm, ⟨52, _⟩ => ⟨S2048x2304, .f32⟩
  | .hbm, ⟨53, _⟩ => ⟨S2048x2304, .f32⟩
  | .hbm, ⟨54, _⟩ => ⟨S2048x2304, .f32⟩
  | .hbm, ⟨55, _⟩ => ⟨S2048x2304, .f32⟩
  | .hbm, ⟨56, _⟩ => ⟨S2048x2304, .f32⟩
  | .hbm, ⟨57, _⟩ => ⟨S2048x2304, .f32⟩
  | .hbm, ⟨58, _⟩ => ⟨S2048x2304, .f32⟩
  | .hbm, ⟨59, _⟩ => ⟨S2048x2304, .f32⟩
  | .hbm, ⟨60, _⟩ => ⟨S_, .f32⟩
  | .hbm, ⟨61, _⟩ => ⟨S2304, .f32⟩
  | .hbm, ⟨62, _⟩ => ⟨S1x2304, .f32⟩
  | .hbm, ⟨63, _⟩ => ⟨S_, .f32⟩
  | .hbm, ⟨64, _⟩ => ⟨S2304, .f32⟩
  | .hbm, ⟨65, _⟩ => ⟨S_, .f32⟩
  | .hbm, ⟨66, _⟩ => ⟨S2051x2304, .f32⟩
  | .hbm, ⟨67, _⟩ => ⟨S1x2304, .f32⟩
  | .hbm, ⟨68, _⟩ => ⟨S_, .f32⟩
  | .hbm, ⟨69, _⟩ => ⟨S4x2304, .f32⟩
  | .hbm, ⟨70, _⟩ => ⟨S2048x2304, .f32⟩
  | .hbm, ⟨71, _⟩ => ⟨S2048x2304, .f32⟩
  | .hbm, ⟨72, _⟩ => ⟨S2048x2304, .f32⟩
  | .hbm, ⟨73, _⟩ => ⟨S_, .f32⟩
  | .hbm, ⟨74, _⟩ => ⟨S2304, .f32⟩
  | .hbm, ⟨75, _⟩ => ⟨S1x2304, .f32⟩
  | .hbm, ⟨76, _⟩ => ⟨S_, .f32⟩
  | .hbm, ⟨77, _⟩ => ⟨S2304, .f32⟩
  | .hbm, ⟨78, _⟩ => ⟨S_, .f32⟩
  | .hbm, ⟨79, _⟩ => ⟨S2051x2304, .f32⟩
  | .hbm, ⟨80, _⟩ => ⟨S2051x2304, .f32⟩
  | .hbm, ⟨81, _⟩ => ⟨S1x2304, .f32⟩
  | .hbm, ⟨82, _⟩ => ⟨S_, .f32⟩
  | .hbm, ⟨83, _⟩ => ⟨S4x2304, .f32⟩
  | .hbm, ⟨84, _⟩ => ⟨S4x2304, .f32⟩
  | .hbm, ⟨85, _⟩ => ⟨S2048x2304, .f32⟩
  | .hbm, ⟨86, _⟩ => ⟨S2048x2304, .f32⟩
  | .hbm, ⟨87, _⟩ => ⟨S2048x2304, .f32⟩
  | .hbm, ⟨88, _⟩ => ⟨S_, .f32⟩
  | .hbm, ⟨89, _⟩ => ⟨S2304, .f32⟩
  | .hbm, ⟨90, _⟩ => ⟨S1x2304, .f32⟩
  | .hbm, ⟨91, _⟩ => ⟨S_, .f32⟩
  | .hbm, ⟨92, _⟩ => ⟨S2304, .f32⟩
  | .hbm, ⟨93, _⟩ => ⟨S_, .f32⟩
  | .hbm, ⟨94, _⟩ => ⟨S2051x2304, .f32⟩
  | .hbm, ⟨95, _⟩ => ⟨S2051x2304, .f32⟩
  | .hbm, ⟨96, _⟩ => ⟨S1x2304, .f32⟩
  | .hbm, ⟨97, _⟩ => ⟨S_, .f32⟩
  | .hbm, ⟨98, _⟩ => ⟨S4x2304, .f32⟩
  | .hbm, ⟨99, _⟩ => ⟨S4x2304, .f32⟩
  | .hbm, ⟨100, _⟩ => ⟨S2048x2304, .f32⟩
  | .hbm, ⟨101, _⟩ => ⟨S2048x2304, .f32⟩
  | .hbm, ⟨102, _⟩ => ⟨S2048x2304, .f32⟩
  | .hbm, ⟨103, _⟩ => ⟨S_, .f32⟩
  | .hbm, ⟨104, _⟩ => ⟨S2304, .f32⟩
  | .hbm, ⟨105, _⟩ => ⟨S1x2304, .f32⟩
  | .hbm, ⟨106, _⟩ => ⟨S_, .f32⟩
  | .hbm, ⟨107, _⟩ => ⟨S2304, .f32⟩
  | .hbm, ⟨108, _⟩ => ⟨S_, .f32⟩
  | .hbm, ⟨109, _⟩ => ⟨S2051x2304, .f32⟩
  | .hbm, ⟨110, _⟩ => ⟨S2051x2304, .f32⟩
  | .hbm, ⟨111, _⟩ => ⟨S1x2304, .f32⟩
  | .hbm, ⟨112, _⟩ => ⟨S_, .f32⟩
  | .hbm, ⟨113, _⟩ => ⟨S4x2304, .f32⟩
  | .hbm, ⟨114, _⟩ => ⟨S4x2304, .f32⟩
  | .hbm, ⟨115, _⟩ => ⟨S3x2304, .f32⟩
  | .hbm, ⟨116, _⟩ => ⟨S2048x2304, .f32⟩
  | .hbm, ⟨117, _⟩ => ⟨S2048x2304, .f32⟩
  | .hbm, ⟨118, _⟩ => ⟨S2048x7680, .f32⟩
  | .hbm, ⟨119, _⟩ => ⟨S2048x12288, .f32⟩
  | .hbm, ⟨120, _⟩ => ⟨S2048x12288, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== Kernel20.lean ====
abbrev S2048x12288 : Shape := ⟨2, ![2048, 12288]⟩
abbrev S4x2304 : Shape := ⟨2, ![4, 2304]⟩
abbrev S2048x2304 : Shape := ⟨2, ![2048, 2304]⟩
abbrev S2048x256 : Shape := ⟨2, ![2048, 256]⟩
abbrev S4x256 : Shape := ⟨2, ![4, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x12288, .f32⟩
  | .hbm, ⟨1, _⟩ => ⟨S4x2304, .f32⟩
  | .hbm, ⟨2, _⟩ => ⟨S2048x2304, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x12288 : Shape := ⟨2, ![2048, 12288]⟩
abbrev S4x2304 : Shape := ⟨2, ![4, 2304]⟩
abbrev S2048x2304 : Shape := ⟨2, ![2048, 2304]⟩
abbrev S_ : Shape := ⟨0, ![]⟩
abbrev S3x2304 : Shape := ⟨2, ![3, 2304]⟩
abbrev S2051x2304 : Shape := ⟨2, ![2051, 2304]⟩
abbrev S1x2304 : Shape := ⟨2, ![1, 2304]⟩
abbrev S2304 : Shape := ⟨1, ![2304]⟩

abbrev nBuf : Space → Nat
  | .hbm => 45
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4x2304, .f32⟩
  | .hbm, ⟨2, _⟩ => ⟨S2048x2304, .f32⟩
  | .hbm, ⟨3, _⟩ => ⟨S_, .f32⟩
  | .hbm, ⟨4, _⟩ => ⟨S3x2304, .f32⟩
  | .hbm, ⟨5, _⟩ => ⟨S2051x2304, .f32⟩
  | .hbm, ⟨6, _⟩ => ⟨S1x2304, .f32⟩
  | .hbm, ⟨7, _⟩ => ⟨S2304, .f32⟩
  | .hbm, ⟨8, _⟩ => ⟨S2048x2304, .f32⟩
  | .hbm, ⟨9, _⟩ => ⟨S1x2304, .f32⟩
  | .hbm, ⟨10, _⟩ => ⟨S2048x2304, .f32⟩
  | .hbm, ⟨11, _⟩ => ⟨S2048x2304, .f32⟩
  | .hbm, ⟨12, _⟩ => ⟨S_, .f32⟩
  | .hbm, ⟨13, _⟩ => ⟨S2048x2304, .f32⟩
  | .hbm, ⟨14, _⟩ => ⟨S2048x2304, .f32⟩
  | .hbm, ⟨15, _⟩ => ⟨S1x2304, .f32⟩
  | .hbm, ⟨16, _⟩ => ⟨S2304, .f32⟩
  | .hbm, ⟨17, _⟩ => ⟨S2048x2304, .f32⟩
  | .hbm, ⟨18, _⟩ => ⟨S1x2304, .f32⟩
  | .hbm, ⟨19, _⟩ => ⟨S2048x2304, .f32⟩
  | .hbm, ⟨20, _⟩ => ⟨S2048x2304, .f32⟩
  | .hbm, ⟨21, _⟩ => ⟨S2048x2304, .f32⟩
  | .hbm, ⟨22, _⟩ => ⟨S1x2304, .f32⟩
  | .hbm, ⟨23, _⟩ => ⟨S2304, .f32⟩
  | .hbm, ⟨24, _⟩ => ⟨S2048x2304, .f32⟩
  | .hbm, ⟨25, _⟩ => ⟨S1x2304, .f32⟩
  | .hbm, ⟨26, _⟩ => ⟨S2048x2304, .f32⟩
  | .hbm, ⟨27, _⟩ => ⟨S2048x2304, .f32⟩
  | .hbm, ⟨28, _⟩ => ⟨S2048x2304, .f32⟩
  | .hbm, ⟨29, _⟩ => ⟨S1x2304, .f32⟩
  | .hbm, ⟨30, _⟩ => ⟨S2304, .f32⟩
  | .hbm, ⟨31, _⟩ => ⟨S2048x2304, .f32⟩
  | .hbm, ⟨32, _⟩ => ⟨S1x2304, .f32⟩
  | .hbm, ⟨33, _⟩ => ⟨S2048x2304, .f32⟩
  | .hbm, ⟨34, _⟩ => ⟨S2048x2304, .f32⟩
  | .hbm, ⟨35, _⟩ => ⟨S2048x2304, .f32⟩
  | .hbm, ⟨36, _⟩ => ⟨S2048x2304, .f32⟩
  | .hbm, ⟨37, _⟩ => ⟨S2048x2304, .f32⟩
  | .hbm, ⟨38, _⟩ => ⟨S_, .f32⟩
  | .hbm, ⟨39, _⟩ => ⟨S2048x2304, .f32⟩
  | .hbm, ⟨40, _⟩ => ⟨S2048x2304, .f32⟩
  | .hbm, ⟨41, _⟩ => ⟨S_, .f32⟩
  | .hbm, ⟨42, _⟩ => ⟨S2048x2304, .f32⟩
  | .hbm, ⟨43, _⟩ => ⟨S2048x2304, .f32⟩
  | .hbm, ⟨44, _⟩ => ⟨S2048x2304, .f32⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel21.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel22.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel23.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 7
  | .smem => 0
  | _ => 0

abbrev bufTy : (tb : Table) → Fin (tcTables nBuf tb) → BufTy
  | .hbm, ⟨0, _⟩ => ⟨S2048x12288, .f32⟩
  | .hbm, ⟨1, _⟩ => ⟨S4x128x128, .f32⟩
  | .hbm, ⟨2, _⟩ => ⟨S1x512, .f32⟩
  | .hbm, ⟨3, _⟩ => ⟨S2048x512, .f32⟩
  | .hbm, ⟨4, _⟩ => ⟨S2048x12288, .f32⟩
  | .hbm, ⟨5, _⟩ => ⟨S2048x12288, .bf16⟩
  | .hbm, ⟨6, _⟩ => ⟨S2048x12288, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S512 : Shape := ⟨1, ![512]⟩
abbrev S4x2048x128 : Shape := ⟨3, ![4, 2048, 128]⟩
abbrev S2048x4608 : Shape := ⟨2, ![2048, 4608]⟩
abbrev S2048x7168 : Shape := ⟨2, ![2048, 7168]⟩

abbrev nBuf : Space → Nat
  | .hbm => 170
  | .vmem => 0
  | .smem => 0
  | _ => 0

abbrev hbmTy0_0 (i : Nat) : BufTy := match i % 128 with
  | 0 => ⟨S2048x12288, .f32⟩
  | 1 => ⟨S4x128x128, .f32⟩
  | 2 => ⟨S1x512, .f32⟩
  | 3 => ⟨S2048x512, .f32⟩
  | 4 => ⟨S2048x12288, .f32⟩
  | 5 => ⟨S2048x512, .f32⟩
  | 6 => ⟨S_, .f32⟩
  | 7 => ⟨S_, .f32⟩
  | 8 => ⟨S2048x512, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x128, .f32⟩
  | 15 => ⟨S_, .f32⟩
  | 16 => ⟨S2x128, .f32⟩
  | 17 => ⟨S2046x128, .f32⟩
  | 18 => ⟨S2048x128, .f32⟩
  | 19 => ⟨S_, .f32⟩
  | 20 => ⟨S2x128, .f32⟩
  | 21 => ⟨S2048x128, .f32⟩
  | 22 => ⟨S_, .f32⟩
  | 23 => ⟨S2048x1, .f32⟩
  | 24 => ⟨S2048x1, .f32⟩
  | 25 => ⟨S2048x128, .f32⟩
  | 26 => ⟨S2048x128, .f32⟩
  | 27 => ⟨S2048x128, .f32⟩
  | 28 => ⟨S2048x128, .f32⟩
  | 29 => ⟨S2048x128, .f32⟩
  | 30 => ⟨S_, .f32⟩
  | 31 => ⟨S4x128, .f32⟩
  | 32 => ⟨S2044x128, .f32⟩
  | 33 => ⟨S2048x128, .f32⟩
  | 34 => ⟨S_, .f32⟩
  | 35 => ⟨S4x128, .f32⟩
  | 36 => ⟨S2048x128, .f32⟩
  | 37 => ⟨S_, .f32⟩
  | 38 => ⟨S2048x1, .f32⟩
  | 39 => ⟨S2048x1, .f32⟩
  | 40 => ⟨S2048x128, .f32⟩
  | 41 => ⟨S2048x128, .f32⟩
  | 42 => ⟨S2048x128, .f32⟩
  | 43 => ⟨S2048x128, .f32⟩
  | 44 => ⟨S2048x128, .f32⟩
  | 45 => ⟨S_, .f32⟩
  | 46 => ⟨S8x128, .f32⟩
  | 47 => ⟨S2040x128, .f32⟩
  | 48 => ⟨S2048x128, .f32⟩
  | 49 => ⟨S_, .f32⟩
  | 50 => ⟨S8x128, .f32⟩
  | 51 => ⟨S2048x128, .f32⟩
  | 52 => ⟨S_, .f32⟩
  | 53 => ⟨S2048x1, .f32⟩
  | 54 => ⟨S2048x1, .f32⟩
  | 55 => ⟨S2048x128, .f32⟩
  | 56 => ⟨S2048x128, .f32⟩
  | 57 => ⟨S2048x128, .f32⟩
  | 58 => ⟨S2048x128, .f32⟩
  | 59 => ⟨S2048x128, .f32⟩
  | 60 => ⟨S_, .f32⟩
  | 61 => ⟨S16x128, .f32⟩
  | 62 => ⟨S2032x128, .f32⟩
  | 63 => ⟨S2048x128, .f32⟩
  | 64 => ⟨S_, .f32⟩
  | 65 => ⟨S16x128, .f32⟩
  | 66 => ⟨S2048x128, .f32⟩
  | 67 => ⟨S_, .f32⟩
  | 68 => ⟨S2048x1, .f32⟩
  | 69 => ⟨S2048x1, .f32⟩
  | 70 => ⟨S2048x128, .f32⟩
  | 71 => ⟨S2048x128, .f32⟩
  | 72 => ⟨S2048x128, .f32⟩
  | 73 => ⟨S2048x128, .f32⟩
  | 74 => ⟨S2048x1x128, .f32⟩
  | 75 => ⟨S2048x1x128, .f32⟩
  | 76 => ⟨S2048x1x128, .f32⟩
  | 77 => ⟨S2048x1x128, .f32⟩
  | 78 => ⟨S2048x4x128, .f32⟩
  | 79 => ⟨S4x128x2048, .f32⟩
  | 80 => ⟨S2048x4x128, .f32⟩
  | 81 => ⟨S2048x512, .f32⟩
  | 82 => ⟨S2048x512, .f32⟩
  | 83 => ⟨S2048x512, .f32⟩
  | 84 => ⟨S2048x512, .f32⟩
  | 85 => ⟨S_, .f32⟩
  | 86 => ⟨S512, .f32⟩
  | 87 => ⟨S1x512, .f32⟩
  | 88 => ⟨S2048x512, .f32⟩
  | 89 => ⟨S2048x512, .f32⟩
  | 90 => ⟨S2048x4x128, .f32⟩
  | 91 => ⟨S4x128x2048, .f32⟩
  | 92 => ⟨S4x2048x128, .f32⟩
  | 93 => ⟨S2048x4x128, .f32⟩
  | 94 => ⟨S4x128x128, .f32⟩
  | 95 => ⟨S4x128x128, .f32⟩
  | 96 => ⟨S2048x1x128, .f32⟩
  | 97 => ⟨S2048x128, .f32⟩
  | 98 => ⟨S2048x1x128, .f32⟩
  | 99 => ⟨S2048x128, .f32⟩
  | 100 => ⟨S2048x1x128, .f32⟩
  | 101 => ⟨S2048x128, .f32⟩
  | 102 => ⟨S2048x1x128, .f32⟩
  | 103 => ⟨S2048x128, .f32⟩
  | 104 => ⟨S2048x128, .f32⟩
  | 105 => ⟨S_, .f32⟩
  | 106 => ⟨S2048x512, .f32⟩
  | 107 => ⟨S2048x128, .f32⟩
  | 108 => ⟨S2048x128, .f32⟩
  | 109 => ⟨S2048x128, .f32⟩
  | 110 => ⟨S16x128, .f32⟩
  | 111 => ⟨S2032x128, .f32⟩
  | 112 => ⟨S_, .f32⟩
  | 113 => ⟨S2048x128, .f32⟩
  | 114 => ⟨S2048x128, .f32⟩
  | 115 => ⟨S_, .f32⟩
  | 116 => ⟨S2048x512, .f32⟩
  | 117 => ⟨S2048x128, .f32⟩
  | 118 => ⟨S_, .f32⟩
  | 119 => ⟨S2048x512, .f32⟩
  | 120 => ⟨S2048x512, .f32⟩
  | 121 => ⟨S2048x128, .f32⟩
  | 122 => ⟨S2048x128, .f32⟩
  | 123 => ⟨S2048x128, .f32⟩
  | 124 => ⟨S8x128, .f32⟩
  | 125 => ⟨S2040x128, .f32⟩
  | 126 => ⟨S_, .f32⟩
  | 127 => ⟨S2048x128, .f32⟩
  | _ => ⟨S2048x12288, .f32⟩

abbrev hbmTy0_1 (i : Nat) : BufTy := match i % 128 with
  | 0 => ⟨S2048x128, .f32⟩
  | 1 => ⟨S_, .f32⟩
  | 2 => ⟨S2048x512, .f32⟩
  | 3 => ⟨S2048x512, .f32⟩
  | 4 => ⟨S2048x128, .f32⟩
  | 5 => ⟨S_, .f32⟩
  | 6 => ⟨S2048x512, .f32⟩
  | 7 => ⟨S2048x512, .f32⟩
  | 8 => ⟨S2048x128, .f32⟩
  | 9 => ⟨S2048x128, .f32⟩
  | 10 => ⟨S2048x128, .f32⟩
  | 11 => ⟨S4x128, .f32⟩
  | 12 => ⟨S2044x128, .f32⟩
  | 13 => ⟨S_, .f32⟩
  | 14 => ⟨S2048x128, .f32⟩
  | 15 => ⟨S2048x128, .f32⟩
  | 16 => ⟨S_, .f32⟩
  | 17 => ⟨S2048x512, .f32⟩
  | 18 => ⟨S2048x512, .f32⟩
  | 19 => ⟨S2048x128, .f32⟩
  | 20 => ⟨S_, .f32⟩
  | 21 => ⟨S2048x512, .f32⟩
  | 22 => ⟨S2048x512, .f32⟩
  | 23 => ⟨S2048x128, .f32⟩
  | 24 => ⟨S2048x128, .f32⟩
  | 25 => ⟨S2048x128, .f32⟩
  | 26 => ⟨S2x128, .f32⟩
  | 27 => ⟨S2046x128, .f32⟩
  | 28 => ⟨S_, .f32⟩
  | 29 => ⟨S2048x128, .f32⟩
  | 30 => ⟨S2048x128, .f32⟩
  | 31 => ⟨S_, .f32⟩
  | 32 => ⟨S2048x512, .f32⟩
  | 33 => ⟨S2048x512, .f32⟩
  | 34 => ⟨S_, .f32⟩
  | 35 => ⟨S_, .f32⟩
  | 36 => ⟨S2048x512, .f32⟩
  | 37 => ⟨S2048x512, .f32⟩
  | 38 => ⟨S2048x4608, .f32⟩
  | 39 => ⟨S2048x7168, .f32⟩
  | 40 => ⟨S2048x12288, .f32⟩
  | 41 => ⟨S2048x12288, .bf16⟩
  | _ => ⟨S2048x12288, .f32⟩

abbrev hbmTy (i : Nat) : BufTy := match i / 128 with
  | 0 => hbmTy0_0 i
  | 1 => hbmTy0_1 i
  | _ => ⟨S2048x12288, .f32⟩

abbrev bufTy : (tb : Table) → Fin (tcTables nBuf tb) → BufTy
  | .hbm, ⟨i, _⟩ => hbmTy i
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_14 : Ref sig .tc := ⟨.hbm, 112, rfl⟩
abbrev main_v90 : Ref sig .tc := ⟨.hbm, 113, rfl⟩
abbrev main_v91 : Ref sig .tc := ⟨.hbm, 114, rfl⟩
abbrev main_cst_15 : Ref sig .tc := ⟨.hbm, 115, rfl⟩
abbrev main_v92 : Ref sig .tc := ⟨.hbm, 116, rfl⟩
abbrev main_v93 : Ref sig .tc := ⟨.hbm, 117, rfl⟩
abbrev main_cst_16 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_17 : Ref sig .tc := ⟨.hbm, 126, rfl⟩
abbrev main_v101 : Ref sig .tc := ⟨.hbm, 127, rfl⟩
abbrev main_v102 : Ref sig .tc := ⟨.hbm, 128, rfl⟩
abbrev main_cst_18 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_19 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_cst_21 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_23 : Ref sig .tc := ⟨.hbm, 156, rfl⟩
abbrev main_v125 : Ref sig .tc := ⟨.hbm, 157, rfl⟩
abbrev main_v126 : Ref sig .tc := ⟨.hbm, 158, rfl⟩
abbrev main_cst_24 : Ref sig .tc := ⟨.hbm, 159, rfl⟩
abbrev main_v127 : Ref sig .tc := ⟨.hbm, 160, rfl⟩
abbrev main_v128 : Ref sig .tc := ⟨.hbm, 161, rfl⟩
abbrev main_call1_call0_cst : Ref sig .tc := ⟨.hbm, 162, rfl⟩
abbrev main_call1_call0_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩

abbrev nD : Nat := 1
abbrev τ : Topo := Topo.v7x

variable {F : FTy → Type} [FloatOps F]
-- ==== Kernel24.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x12288, .f32⟩
  | .hbm, ⟨1, _⟩ => ⟨S4x128x128, .f32⟩
  | .hbm, ⟨2, _⟩ => ⟨S1x512, .f32⟩
  | .hbm, ⟨3, _⟩ => ⟨S2048x512, .bf16⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference24Ideal.lean ====
abbrev S2048x12288 : Shape := ⟨2, ![2048, 12288]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4x128x128, .f32⟩
  | .hbm, ⟨2, _⟩ => ⟨S1x512, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S2048x512, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x128, .f32⟩
  | .hbm, ⟨13, _⟩ => ⟨S_, .f32⟩
  | .hbm, ⟨14, _⟩ => ⟨S2x128, .f32⟩
  | .hbm, ⟨15, _⟩ => ⟨S2046x128, .f32⟩
  | .hbm, ⟨16, _⟩ => ⟨S2048x128, .f32⟩
  | .hbm, ⟨17, _⟩ => ⟨S2048x128, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S4x128, .f32⟩
  | .hbm, ⟨28, _⟩ => ⟨S2044x128, .f32⟩
  | .hbm, ⟨29, _⟩ => ⟨S2048x128, .f32⟩
  | .hbm, ⟨30, _⟩ => ⟨S2048x128, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S_, .f32⟩
  | .hbm, ⟨40, _⟩ => ⟨S8x128, .f32⟩
  | .hbm, ⟨41, _⟩ => ⟨S2040x128, .f32⟩
  | .hbm, ⟨42, _⟩ => ⟨S2048x128, .f32⟩
  | .hbm, ⟨43, _⟩ => ⟨S2048x128, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S_, .f32⟩
  | .hbm, ⟨53, _⟩ => ⟨S16x128, .f32⟩
  | .hbm, ⟨54, _⟩ => ⟨S2032x128, .f32⟩
  | .hbm, ⟨55, _⟩ => ⟨S2048x128, .f32⟩
  | .hbm, ⟨56, _⟩ => ⟨S2048x128, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x128, .f32⟩
  | .hbm, ⟨61, _⟩ => ⟨S2048x128, .f32⟩
  | .hbm, ⟨62, _⟩ => ⟨S2048x128, .f32⟩
  | .hbm, ⟨63, _⟩ => ⟨S2048x128, .f32⟩
  | .hbm, ⟨64, _⟩ => ⟨S2048x1x128, .f32⟩
  | .hbm, ⟨65, _⟩ => ⟨S2048x1x128, .f32⟩
  | .hbm, ⟨66, _⟩ => ⟨S2048x1x128, .f32⟩
  | .hbm, ⟨67, _⟩ => ⟨S2048x1x128, .f32⟩
  | .hbm, ⟨68, _⟩ => ⟨S2048x4x128, .f32⟩
  | .hbm, ⟨69, _⟩ => ⟨S4x128x2048, .f32⟩
  | .hbm, ⟨70, _⟩ => ⟨S2048x4x128, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel25.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x1, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel26.lean ====
abbrev S1176x128 : Shape := ⟨2, ![1176, 128]⟩

abbrev nBuf : Space → Nat
  | .hbm => 7
  | .vmem => 7
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S1176x128, .f32⟩
  | .hbm, ⟨5, _⟩ => ⟨S1176x128, .f32⟩
  | .hbm, ⟨6, _⟩ => ⟨S1176x128, .f32⟩
  | .local _ .vmem, ⟨0, _⟩ => ⟨S1176x128, .f32⟩
  | .local _ .vmem, ⟨1, _⟩ => ⟨S1176x128, .f32⟩
  | .local _ .vmem, ⟨2, _⟩ => ⟨S1176x128, .f32⟩
  | .local _ .vmem, ⟨3, _⟩ => ⟨S1176x128, .f32⟩
  | .local _ .vmem, ⟨4, _⟩ => ⟨S1176x128, .f32⟩
  | .local _ .vmem, ⟨5, _⟩ => ⟨S1176x128, .f32⟩
  | .local _ .vmem, ⟨6, _⟩ => ⟨S1176x128, .f32⟩
  | _, _ => ⟨S1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference26Ideal.lean ====
abbrev S1176x128 : Shape := ⟨2, ![1176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S_, .f32⟩
  | .hbm, ⟨5, _⟩ => ⟨S1176x128, .f32⟩
  | .hbm, ⟨6, _⟩ => ⟨S1176x128, .f32⟩
  | .hbm, ⟨7, _⟩ => ⟨S_, .f32⟩
  | .hbm, ⟨8, _⟩ => ⟨S1176x128, .f32⟩
  | .hbm, ⟨9, _⟩ => ⟨S1176x128, .f32⟩
  | .hbm, ⟨10, _⟩ => ⟨S1176x128, .f32⟩
  | .hbm, ⟨11, _⟩ => ⟨S_, .f32⟩
  | .hbm, ⟨12, _⟩ => ⟨S1176x128, .f32⟩
  | .hbm, ⟨13, _⟩ => ⟨S1176x128, .f32⟩
  | .hbm, ⟨14, _⟩ => ⟨S1176x128, .f32⟩
  | .hbm, ⟨15, _⟩ => ⟨S_, .f32⟩
  | .hbm, ⟨16, _⟩ => ⟨S1176x128, .f32⟩
  | .hbm, ⟨17, _⟩ => ⟨S1176x128, .f32⟩
  | .hbm, ⟨18, _⟩ => ⟨S1176x128, .f32⟩
  | .hbm, ⟨19, _⟩ => ⟨S_, .f32⟩
  | .hbm, ⟨20, _⟩ => ⟨S1176x128, .f32⟩
  | .hbm, ⟨21, _⟩ => ⟨S1176x128, .f32⟩
  | .hbm, ⟨22, _⟩ => ⟨S_, .f32⟩
  | .hbm, ⟨23, _⟩ => ⟨S1176x128, .f32⟩
  | .hbm, ⟨24, _⟩ => ⟨S1176x128, .f32⟩
  | .hbm, ⟨25, _⟩ => ⟨S1176x128, .f32⟩
  | .hbm, ⟨26, _⟩ => ⟨S_, .f32⟩
  | .hbm, ⟨27, _⟩ => ⟨S1176x128, .f32⟩
  | .hbm, ⟨28, _⟩ => ⟨S1176x128, .f32⟩
  | .hbm, ⟨29, _⟩ => ⟨S1176x128, .f32⟩
  | .hbm, ⟨30, _⟩ => ⟨S_, .f32⟩
  | .hbm, ⟨31, _⟩ => ⟨S1176x128, .f32⟩
  | .hbm, ⟨32, _⟩ => ⟨S1176x128, .f32⟩
  | .hbm, ⟨33, _⟩ => ⟨S1176x128, .f32⟩
  | .hbm, ⟨34, _⟩ => ⟨S_, .f32⟩
  | .hbm, ⟨35, _⟩ => ⟨S1176x128, .f32⟩
  | .hbm, ⟨36, _⟩ => ⟨S1176x128, .f32⟩
  | _, _ => ⟨S1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x2048x2048 : Shape := ⟨3, ![2, 2048, 2048]⟩
abbrev S2x1024x2048 : Shape := ⟨3, ![2, 1024, 2048]⟩
abbrev S1x256x2048 : Shape := ⟨3, ![1, 256, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S2x1024x2048, .f32⟩
  | .hbm, ⟨2, _⟩ => ⟨S2x1024x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v20.toNat, v30.toNat, c0_i32_11.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel27Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference27Ideal.lean ====
abbrev S2x2048x2048 : Shape := ⟨3, ![2, 2048, 2048]⟩
abbrev S2x1024x2048 : Shape := ⟨3, ![2, 1024, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x1024x2048, .f32⟩
  | .hbm, ⟨2, _⟩ => ⟨S2x1024x2048, .f32⟩
  | .hbm, ⟨3, _⟩ => ⟨S2x2048x2048, .f32⟩
  | .hbm, ⟨4, _⟩ => ⟨S2x2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .hbm, ⟨8, _⟩ => ⟨S1x2048x2048, .f32⟩
  | .hbm, ⟨9, _⟩ => ⟨S2x2048x2048, .f32⟩
  | .hbm, ⟨10, _⟩ => ⟨S_, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S_, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S_, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S_, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S_, .f32⟩
  | .hbm, ⟨41, _⟩ => ⟨S2x2048x2048, .f32⟩
  | .hbm, ⟨42, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Offs.lean ====
/- The offsets of the rectangles the kernel's body reads and writes, in closed form. Query block `i 1` of 128 rows
   lies in the chunk `i 1 / 4` of 512 keys (the top chunk). The loop down goes through the chunks below it from
   the top, the loop up from the bottom. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Sb

open Cert.KernelIdeal Cert.KernelIdeal.Gen
open Idealize.ShloMosaic Idealize.ShloMosaic.TcCoe Idealize.ShloMosaic.Tactic

/-- The loop down goes once through each chunk below the top one. -/
theorem trips1 : ∀ i : grid0.Coords, (k0_t1_loop i).trips = (i 1).val / 4 := by decide +kernel
/-- The loop that would take what is left of the way down has no trip. -/
theorem trips2 : ∀ i : grid0.Coords, (k0_t2_loop i).trips = 0 := by decide +kernel
/-- The loop up goes once through each chunk below the top one. -/
theorem trips3 : ∀ i : grid0.Coords, (k0_t3_loop i).trips = (i 1).val / 4 := by decide +kernel
/-- The loop that would take what is left of the way up has no trip. -/
theorem trips4 : ∀ i : grid0.Coords, (k0_t4_loop i).trips = 0 := by decide +kernel

theorem off1_eq : ∀ i : grid0.Coords, k0_off1 i = ![(i 1).val / 4 * 512, 0] := by decide +kernel
instance (i : grid0.Coords) : ClosedOff (k0_off1 i) := ⟨_, off1_eq i⟩
theorem off2_eq : ∀ i : grid0.Coords, k0_off2 i = ![0, (i 1).val / 4, 0, 0] := by decide +kernel
instance (i : grid0.Coords) : ClosedOff (k0_off2 i) := ⟨_, off2_eq i⟩
theorem off3_eq : ∀ i : grid0.Coords, k0_off3 i = ![(i 1).val / 4 * 512, 128] := by decide +kernel
instance (i : grid0.Coords) : ClosedOff (k0_off3 i) := ⟨_, off3_eq i⟩
theorem off4_eq : ∀ i : grid0.Coords, k0_off4 i = ![1, (i 1).val / 4, 0, 0] := by decide +kernel
instance (i : grid0.Coords) : ClosedOff (k0_off4 i) := ⟨_, off4_eq i⟩
theorem off5_eq : ∀ i : grid0.Coords, k0_off5 i = ![(i 1).val / 4 * 512, 256] := by decide +kernel
instance (i : grid0.Coords) : ClosedOff (k0_off5 i) := ⟨_, off5_eq i⟩
theorem off6_eq : ∀ i : grid0.Coords, k0_off6 i = ![2, (i 1).val / 4, 0, 0] := by decide +kernel
instance (i : grid0.Coords) : ClosedOff (k0_off6 i) := ⟨_, off6_eq i⟩
theorem off7_eq : ∀ (i : grid0.Coords) (k : Fin (k0_t1_loop i).trips), k0_off7 i k = ![((i 1).val / 4 - 1 - k.val) * 512, 0] := by decide +kernel
instance (i : grid0.Coords) (k : Fin (k0_t1_loop i).trips) : ClosedOff (k0_off7 i k) := ⟨_, off7_eq i k⟩
theorem off8_eq : ∀ (i : grid0.Coords) (k : Fin (k0_t1_loop i).trips), k0_off8 i k = ![0, (i 1).val / 4 - 1 - k.val, 0, 0] := by decide +kernel
instance (i : grid0.Coords) (k : Fin (k0_t1_loop i).trips) : ClosedOff (k0_off8 i k) := ⟨_, off8_eq i k⟩
theorem off9_eq : ∀ (i : grid0.Coords) (k : Fin (k0_t1_loop i).trips), k0_off9 i k = ![((i 1).val / 4 - 1 - k.val) * 512, 128] := by decide +kernel
instance (i : grid0.Coords) (k : Fin (k0_t1_loop i).trips) : ClosedOff (k0_off9 i k) := ⟨_, off9_eq i k⟩
theorem off10_eq : ∀ (i : grid0.Coords) (k : Fin (k0_t1_loop i).trips), k0_off10 i k = ![1, (i 1).val / 4 - 1 - k.val, 0, 0] := by decide +kernel
instance (i : grid0.Coords) (k : Fin (k0_t1_loop i).trips) : ClosedOff (k0_off10 i k) := ⟨_, off10_eq i k⟩
theorem off11_eq : ∀ (i : grid0.Coords) (k : Fin (k0_t1_loop i).trips), k0_off11 i k = ![((i 1).val / 4 - 1 - k.val) * 512, 256] := by decide +kernel
instance (i : grid0.Coords) (k : Fin (k0_t1_loop i).trips) : ClosedOff (k0_off11 i k) := ⟨_, off11_eq i k⟩
theorem off12_eq : ∀ (i : grid0.Coords) (k : Fin (k0_t1_loop i).trips), k0_off12 i k = ![2, (i 1).val / 4 - 1 - k.val, 0, 0] := by decide +kernel
instance (i : grid0.Coords) (k : Fin (k0_t1_loop i).trips) : ClosedOff (k0_off12 i k) := ⟨_, off12_eq i k⟩
theorem off19_eq : ∀ (i : grid0.Coords) (k : Fin (k0_t3_loop i).trips), k0_off19 i k = ![0, k.val, 0, 0] := by decide +kernel
instance (i : grid0.Coords) (k : Fin (k0_t3_loop i).trips) : ClosedOff (k0_off19 i k) := ⟨_, off19_eq i k⟩
theorem off20_eq : ∀ (i : grid0.Coords) (k : Fin (k0_t3_loop i).trips), k0_off20 i k = ![k.val * 512, 0] := by decide +kernel
instance (i : grid0.Coords) (k : Fin (k0_t3_loop i).trips) : ClosedOff (k0_off20 i k) := ⟨_, off20_eq i k⟩
theorem off21_eq : ∀ (i : grid0.Coords) (k : Fin (k0_t3_loop i).trips), k0_off21 i k = ![1, k.val, 0, 0] := by decide +kernel
instance (i : grid0.Coords) (k : Fin (k0_t3_loop i).trips) : ClosedOff (k0_off21 i k) := ⟨_, off21_eq i k⟩
theorem off22_eq : ∀ (i : grid0.Coords) (k : Fin (k0_t3_loop i).trips), k0_off22 i k = ![k.val * 512, 128] := by decide +kernel
instance (i : grid0.Coords) (k : Fin (k0_t3_loop i).trips) : ClosedOff (k0_off22 i k) := ⟨_, off22_eq i k⟩
theorem off23_eq : ∀ (i : grid0.Coords) (k : Fin (k0_t3_loop i).trips), k0_off23 i k = ![2, k.val, 0, 0] := by decide +kernel
instance (i : grid0.Coords) (k : Fin (k0_t3_loop i).trips) : ClosedOff (k0_off23 i k) := ⟨_, off23_eq i k⟩
theorem off24_eq : ∀ (i : grid0.Coords) (k : Fin (k0_t3_loop i).trips), k0_off24 i k = ![k.val * 512, 256] := by decide +kernel
instance (i : grid0.Coords) (k : Fin (k0_t3_loop i).trips) : ClosedOff (k0_off24 i k) := ⟨_, off24_eq i k⟩

end Cert.Proof.Sb

end
-- ==== Proof.Chunk.lean ====
/- What one chunk of 512 keys computes for one block of 128 queries, as functions of the blocks: the way down (scores,
   weights, the products with the gradient of the output, the gradient of the values) and the way up (the gradient of
   the scores, of the keys and of the queries). The same functions serve every float instance. -/
module

public import proofs.«01_k».proof.Proof.Offs
public import Idealize.ShloMosaic.Lib.VecWindow

@[expose] public section

set_option maxRecDepth 16384

noncomputable section

namespace Cert.Proof.Sb

open Cert.KernelIdeal Cert.KernelIdeal.Gen
open Idealize.ShloMosaic Idealize.ShloMosaic.TcCoe Idealize.ShloMosaic.Tactic
open VecWindow

variable {F : FTy → Type} [FloatOps F]

/-- Zero everywhere. -/
abbrev zeros : FVec F S128x512 .f32 := broadcast S128x512 (Scalar.ofBits .f32 0x00000000#32)

/-- The scaled queries in half precision. -/
def scaleQ (x : Vec F S128x128 .f32) : FVec F S128x128 .bf16 :=
  truncf .bf16 (mulf x (broadcast S128x128 (Scalar.ofBits .f32 0x3DB504F3#32))) bitsLt_bf16_f32

/-- A block in half precision. -/
def half (x : Vec F S128x128 .f32) : FVec F S128x128 .bf16 := truncf .bf16 x bitsLt_bf16_f32

/-- The 0/1 matrix that sums over the keys after each key. -/
def laterM : FVec F S128x128 .f32 :=
  sitofp .f32 (extui 32 (cmpi .sgt (iota .tc S128x128 32 [0] iota_S128x128_d0_w32) (iota .tc S128x128 32 [1] iota_S128x128_d1_w32)) natLt_1_32)

/-- The 0/1 matrix that sums over the keys before each key. -/
def earlierM : FVec F S128x128 .f32 :=
  sitofp .f32 (extui 32 (cmpi .slt (iota .tc S128x128 32 [0] iota_S128x128_d0_w32) (iota .tc S128x128 32 [1] iota_S128x128_d1_w32)) natLt_1_32)

/-- The products of 128 rows with 512 rows. -/
def score (q : FVec F S128x128 .bf16) (k : Vec F S512x128 .bf16) : FVec F S128x512 .f32 :=
  matmul dot_S128x128_S512x128_S128x512_1_1_0_0_n_n none q (shapeCast S512x128 k shapeCasts_S512x128_S512x128) (constant S128x512 .f32 0x00000000#32)

/-- The logarithm of the sigmoid, as the kernel spells it. -/
def logSig (z : FVec F S128x512 .f32) : FVec F S128x512 .f32 :=
  let y : FVec F S128x512 .f32 := subf zeros z
  let d : FVec F S128x512 .f32 := subf y zeros
  subf zeros (select (cmpf .one d d) (addf y zeros) (addf (maximumf y zeros) (log1p (exp (subf zeros (absf d))))))

/-- `x` where the mask, if there is one, keeps it, and zero elsewhere. -/
def masked (m : Option (IVec S128x512 1)) (x : FVec F S128x512 .f32) : FVec F S128x512 .f32 :=
  match m with
  | none => x
  | some k => select k x zeros

/-- Keys before the query: column `c` of row `r` is kept when `c < r + lim`. -/
def keep (lim : BitVec 32) : IVec S128x512 1 :=
  cmpi .slt (iota .tc S128x512 32 [1] iota_S128x512_d1_w32) (addi (iota .tc S128x512 32 [0] iota_S128x512_d0_w32) (broadcast S128x512 lim))

abbrev slab0 (x : FVec F S128x512 .f32) : FVec F S128x128 .f32 := extractStridedSlice S128x128 ![0, 0] x slices_S128x512_o0_0_S128x128
abbrev slab1 (x : FVec F S128x512 .f32) : FVec F S128x128 .f32 := extractStridedSlice S128x128 ![0, 128] x slices_S128x512_o0_128_S128x128
abbrev slab2 (x : FVec F S128x512 .f32) : FVec F S128x128 .f32 := extractStridedSlice S128x128 ![0, 256] x slices_S128x512_o0_256_S128x128
abbrev slab3 (x : FVec F S128x512 .f32) : FVec F S128x128 .f32 := extractStridedSlice S128x128 ![0, 384] x slices_S128x512_o0_384_S128x128

/-- The sum of each row, as a column. -/
def rowSum (x : FVec F S128x128 .f32) : FVec F S128x1 .f32 :=
  shapeCast S128x1 (multiReduction .add [1] S128 x 0x00000000#32 reduces_S128x128_S128 (.inl rfl) rfl) shapeCasts_S128_S128x1

/-- The sums inside one slab by the 0/1 matrix `t`, over what was summed before. -/
def part (t x : FVec F S128x128 .f32) (r : FVec F S128x1 .f32) : FVec F S128x128 .f32 :=
  addf (matmul dot_S128x128_S128x128_S128x128_1_0_0_1_n_n (some .bf16x3) x t (constant S128x128 .f32 0x00000000#32))
    (broadcastTo S128x128 r broadcasts_S128x1_S128x128)

/-- Four slabs side by side. -/
def glue (a b c d : FVec F S128x128 .f32) : FVec F S128x512 .f32 :=
  concatenate S128x512 1 [⟨S128x128, a⟩, ⟨S128x128, b⟩, ⟨S128x128, c⟩, ⟨S128x128, d⟩] concatenates_S128x128_S128x128_S128x128_S128x128_S128x512_d1

/-- The sum over the later keys, given the sum `r` over the later chunks; `t` is the 0/1 matrix. -/
def laterSum (t : FVec F S128x128 .f32) (x : FVec F S128x512 .f32) (r : FVec F S128x1 .f32) : FVec F S128x512 .f32 :=
  glue (part t (slab0 x) (addf (addf (addf r (rowSum (slab3 x))) (rowSum (slab2 x))) (rowSum (slab1 x))))
    (part t (slab1 x) (addf (addf r (rowSum (slab3 x))) (rowSum (slab2 x))))
    (part t (slab2 x) (addf r (rowSum (slab3 x)))) (part t (slab3 x) r)

/-- The sum over this chunk and the later ones. -/
def runDown (x : FVec F S128x512 .f32) (r : FVec F S128x1 .f32) : FVec F S128x1 .f32 :=
  addf (addf (addf (addf r (rowSum (slab3 x))) (rowSum (slab2 x))) (rowSum (slab1 x))) (rowSum (slab0 x))

/-- The sum over the earlier keys, given the sum `r` over the earlier chunks; `t` is the 0/1 matrix. -/
def earlierSum (t : FVec F S128x128 .f32) (x : FVec F S128x512 .f32) (r : FVec F S128x1 .f32) : FVec F S128x512 .f32 :=
  glue (part t (slab0 x) r) (part t (slab1 x) (addf r (rowSum (slab0 x))))
    (part t (slab2 x) (addf (addf r (rowSum (slab0 x))) (rowSum (slab1 x))))
    (part t (slab3 x) (addf (addf (addf r (rowSum (slab0 x))) (rowSum (slab1 x))) (rowSum (slab2 x))))

/-- The sum over this chunk and the earlier ones. -/
def runUp (x : FVec F S128x512 .f32) (r : FVec F S128x1 .f32) : FVec F S128x1 .f32 :=
  addf (addf (addf (addf r (rowSum (slab0 x))) (rowSum (slab1 x))) (rowSum (slab2 x))) (rowSum (slab3 x))

/-- The logarithm of passing a key by, masked. -/
def logStay (m : Option (IVec S128x512 1)) (z : FVec F S128x512 .f32) : FVec F S128x512 .f32 := masked m (subf (logSig z) z)

/-- The weights of a chunk from its scores and the sum over the later chunks. -/
def weight (t : FVec F S128x128 .f32) (m : Option (IVec S128x512 1)) (z : FVec F S128x512 .f32) (r : FVec F S128x1 .f32) : FVec F S128x512 .f32 :=
  masked m (exp (addf (logSig z) (laterSum t (logStay m z) r)))

/-- The transposed product of 128 rows of 512 with 128 rows of 128, added to `old`. -/
def addT (old : Vec F S512x128 .f32) (a : FVec F S128x512 .bf16) (b : FVec F S128x128 .bf16) : FVec F S512x128 .f32 :=
  addf (shapeCast S512x128 old shapeCasts_S512x128_S512x128)
    (matmul dot_S128x512_S128x128_S512x128_0_0_1_1_n_n none a b (constant S512x128 .f32 0x00000000#32))

/-- A block of 512 columns in half precision. -/
def halfW (x : FVec F S128x512 .f32) : FVec F S128x512 .bf16 := truncf .bf16 x bitsLt_bf16_f32

/-- A block stored as one tile of a scratch array. -/
abbrev asTile (x : FVec F S128x512 .f32) : Vec F S1x1x128x512 .f32 := shapeCast S1x1x128x512 x shapeCasts_S128x512_S1x1x128x512
/-- A tile of a scratch array as a block. -/
abbrev ofTile (x : Vec F S1x1x128x512 .f32) : FVec F S128x512 .f32 := shapeCast S128x512 x shapeCasts_S1x1x128x512_S128x512

/-- The gradient of the scores of a chunk, from the scores, the products `e` and the sum of `e` over the earlier chunks. -/
def dScore (t : FVec F S128x128 .f32) (m : Option (IVec S128x512 1)) (z e : FVec F S128x512 .f32) (r : FVec F S128x1 .f32) : FVec F S128x512 .bf16 :=
  halfW (masked m (subf (mulf e (subf (broadcast S128x512 (Scalar.ofBits .f32 0x3F800000#32)) (logistic z))) (mulf (earlierSum t e r) (logistic z))))

/-- The gradient of the queries over one chunk, added to `dq`. -/
def addQ (dq : FVec F S128x128 .f32) (d : FVec F S128x512 .bf16) (k : Vec F S512x128 .bf16) : FVec F S128x128 .f32 :=
  addf dq (matmul dot_S128x512_S512x128_S128x128_1_0_0_1_n_n none d (shapeCast S512x128 k shapeCasts_S512x128_S512x128) (constant S128x128 .f32 0x00000000#32))

/-- The gradient of the scaled queries, scaled, in half precision. -/
def outQ (dq : FVec F S128x128 .f32) : FVec F S128x128 .bf16 :=
  truncf .bf16 (mulf dq (broadcast S128x128 (Scalar.ofBits .f32 0x3DB504F3#32))) bitsLt_bf16_f32

/-! ### Blocks of the arrays -/

/-- Chunk number `n`. -/
def chunk (n : ℕ) : Fin 4 := ⟨n % 4, Nat.mod_lt _ (by decide)⟩

theorem rows_inb (j : Fin 4) (h : Fin 3) (a : Fin S2048x384.rank) : (![j.val * 512, h.val * 128] : Fin 2 → ℕ) a + S512x128.size a ≤ S2048x384.size a := by
  revert j h a; decide +kernel
theorem tile_inb (h : Fin 3) (j : Fin 4) (a : Fin S3x4x128x512.rank) : (![h.val, j.val, 0, 0] : Fin 4 → ℕ) a + S1x1x128x512.size a ≤ S3x4x128x512.size a := by
  revert j h a; decide +kernel
theorem cols_inb (h : Fin 3) (a : Fin S128x384.rank) : (![0, h.val * 128] : Fin 2 → ℕ) a + S128x128.size a ≤ S128x384.size a := by
  revert h a; decide +kernel

/-- Chunk `j`, head `h` of an array of keys. -/
def rows {e : EltTy} (x : Vec F S2048x384 e) (j : Fin 4) (h : Fin 3) : Vec F S512x128 e :=
  window x ![j.val * 512, h.val * 128] S512x128.size (rows_inb j h)
/-- Head `h`, chunk `j` of a scratch array. -/
def tile {e : EltTy} (x : Vec F S3x4x128x512 e) (h : Fin 3) (j : Fin 4) : Vec F S1x1x128x512 e :=
  window x ![h.val, j.val, 0, 0] S1x1x128x512.size (tile_inb h j)
/-- Head `h` of a block of queries. -/
def cols {e : EltTy} (x : Vec F S128x384 e) (h : Fin 3) : Vec F S128x128 e :=
  window x ![0, h.val * 128] S128x128.size (cols_inb h)

/-- The three heads of chunk `j` replaced. -/
def putRows {e : EltTy} (x : Vec F S2048x384 e) (j : Fin 4) (w : Fin 3 → Vec F S512x128 e) : Vec F S2048x384 e :=
  put (put (put x ![j.val * 512, (0 : Fin 3).val * 128] S512x128.size (w 0)) ![j.val * 512, (1 : Fin 3).val * 128] S512x128.size (w 1))
    ![j.val * 512, (2 : Fin 3).val * 128] S512x128.size (w 2)
/-- Chunk `j` of the three heads of a scratch array replaced. -/
def putTiles {e : EltTy} (x : Vec F S3x4x128x512 e) (j : Fin 4) (w : Fin 3 → Vec F S1x1x128x512 e) : Vec F S3x4x128x512 e :=
  put (put (put x ![(0 : Fin 3).val, j.val, 0, 0] S1x1x128x512.size (w 0)) ![(1 : Fin 3).val, j.val, 0, 0] S1x1x128x512.size (w 1))
    ![(2 : Fin 3).val, j.val, 0, 0] S1x1x128x512.size (w 2)
/-- The three heads of a block of queries put together. -/
def putCols {e : EltTy} (x : Vec F S128x384 e) (w : Fin 3 → Vec F S128x128 e) : Vec F S128x384 e :=
  put (put (put x ![0, (0 : Fin 3).val * 128] S128x128.size (w 0)) ![0, (1 : Fin 3).val * 128] S128x128.size (w 1))
    ![0, (2 : Fin 3).val * 128] S128x128.size (w 2)

/-! ### The way down -/

/-- What the way down has computed: scores, products, the gradient of the values, the sums over the chunks done. -/
structure Down (F : FTy → Type) [FloatOps F] where
  Z : Vec F S3x4x128x512 .f32
  E : Vec F S3x4x128x512 .f32
  DV : Vec F S2048x384 .f32
  run : Fin 3 → FVec F S128x1 .f32

/-- One chunk on the way down. -/
def downStep (t : FVec F S128x128 .f32) (q d : Fin 3 → FVec F S128x128 .bf16) (K V : Vec F S2048x384 .bf16) (m : Option (IVec S128x512 1)) (j : Fin 4) (s : Down F) : Down F where
  Z := putTiles s.Z j fun h => asTile (score (q h) (rows K j h))
  E := putTiles s.E j fun h => asTile (mulf (weight t m (score (q h) (rows K j h)) (s.run h)) (score (d h) (rows V j h)))
  DV := putRows s.DV j fun h => addT (rows s.DV j h) (halfW (weight t m (score (q h) (rows K j h)) (s.run h))) (d h)
  run h := runDown (logStay m (score (q h) (rows K j h))) (s.run h)

/-- `k` chunks on the way down from below chunk `T`. -/
def downN (t : FVec F S128x128 .f32) (q d : Fin 3 → FVec F S128x128 .bf16) (K V : Vec F S2048x384 .bf16) (T : ℕ) (s : Down F) : ℕ → Down F
  | 0 => s
  | k + 1 => downStep t q d K V none (chunk (T - 1 - k)) (downN t q d K V T s k)

/-! ### The way up -/

/-- What the way up has computed: the gradient of the keys, of the queries, and the sums over the chunks done. -/
structure Up (F : FTy → Type) [FloatOps F] where
  DK : Vec F S2048x384 .f32
  dq : Fin 3 → FVec F S128x128 .f32
  run : Fin 3 → FVec F S128x1 .f32

/-- One chunk on the way up. -/
def upStep (t : FVec F S128x128 .f32) (q : Fin 3 → FVec F S128x128 .bf16) (K : Vec F S2048x384 .bf16) (Z E : Vec F S3x4x128x512 .f32) (m : Option (IVec S128x512 1)) (j : Fin 4) (s : Up F) : Up F where
  DK := putRows s.DK j fun h => addT (rows s.DK j h) (dScore t m (ofTile (tile Z h j)) (ofTile (tile E h j)) (s.run h)) (q h)
  dq h := addQ (s.dq h) (dScore t m (ofTile (tile Z h j)) (ofTile (tile E h j)) (s.run h)) (rows K j h)
  run h := runUp (ofTile (tile E h j)) (s.run h)

/-- `k` chunks on the way up. -/
def upN (t : FVec F S128x128 .f32) (q : Fin 3 → FVec F S128x128 .bf16) (K : Vec F S2048x384 .bf16) (Z E : Vec F S3x4x128x512 .f32) (s : Up F) : ℕ → Up F
  | 0 => s
  | k + 1 => upStep t q K Z E none (chunk k) (upN t q K Z E s k)

end Cert.Proof.Sb

end
-- ==== Proof.Trip1.lean ====
/- One trip of the loop down: what the scratch arrays, the gradient of the values and the running sums hold after it. -/
module

public import proofs.«01_k».proof.Proof.Chunk

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `m` of core `c` has the contents `f`. -/
abbrev held (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

theorem off7_chunk : ∀ (i : grid0.Coords) (k : Fin (k0_t1_loop i).trips), k0_off7 i k = ![(chunk ((i 1).val / 4 - 1 - k.val)).val * 512, (0 : Fin 3).val * 128] := by decide +kernel
theorem off9_chunk : ∀ (i : grid0.Coords) (k : Fin (k0_t1_loop i).trips), k0_off9 i k = ![(chunk ((i 1).val / 4 - 1 - k.val)).val * 512, (1 : Fin 3).val * 128] := by decide +kernel
theorem off11_chunk : ∀ (i : grid0.Coords) (k : Fin (k0_t1_loop i).trips), k0_off11 i k = ![(chunk ((i 1).val / 4 - 1 - k.val)).val * 512, (2 : Fin 3).val * 128] := by decide +kernel
theorem off8_chunk : ∀ (i : grid0.Coords) (k : Fin (k0_t1_loop i).trips), k0_off8 i k = ![(0 : Fin 3).val, (chunk ((i 1).val / 4 - 1 - k.val)).val, 0, 0] := by decide +kernel
theorem off10_chunk : ∀ (i : grid0.Coords) (k : Fin (k0_t1_loop i).trips), k0_off10 i k = ![(1 : Fin 3).val, (chunk ((i 1).val / 4 - 1 - k.val)).val, 0, 0] := by decide +kernel
theorem off12_chunk : ∀ (i : grid0.Coords) (k : Fin (k0_t1_loop i).trips), k0_off12 i k = ![(2 : Fin 3).val, (chunk ((i 1).val / 4 - 1 - k.val)).val, 0, 0] := by decide +kernel

/-- A load at a chunk's rectangle reads that chunk. -/
theorem rows_read {e : EltTy} (v : View sig .tc .vmem S2048x384 e) (f : v.ty.Contents (Elt F)) {off : Fin 2 → ℕ} (inb : ∀ a, off a + S512x128.size a ≤ S2048x384.size a)
    (j : Fin 4) (h : Fin 3) (ho : off = ![j.val * 512, h.val * 128]) :
    rows (v.read (Elt F) f) j h = v.readAt (Elt F) (Rect.unit (s := S2048x384) off S512x128.size inb).toLoadRect f :=
  (View.readAt_unit v f inb ho (rows_inb j h)).symm
/-- A load at a tile's rectangle reads that tile. -/
theorem tile_read {e : EltTy} (v : View sig .tc .vmem S3x4x128x512 e) (f : v.ty.Contents (Elt F)) {off : Fin 4 → ℕ} (inb : ∀ a, off a + S1x1x128x512.size a ≤ S3x4x128x512.size a)
    (h : Fin 3) (j : Fin 4) (ho : off = ![h.val, j.val, 0, 0]) :
    tile (v.read (Elt F) f) h j = v.readAt (Elt F) (Rect.unit (s := S3x4x128x512) off S1x1x128x512.size inb).toLoadRect f :=
  (View.readAt_unit v f inb ho (tile_inb h j)).symm
/-- Three stores at the heads of one chunk. -/
theorem putRows_read {e : EltTy} (v : View sig .tc .vmem S2048x384 e) (f : v.ty.Contents (Elt F)) {o0 o1 o2 : Fin 2 → ℕ} (i0 : ∀ a, o0 a + S512x128.size a ≤ S2048x384.size a)
    (i1 : ∀ a, o1 a + S512x128.size a ≤ S2048x384.size a) (i2 : ∀ a, o2 a + S512x128.size a ≤ S2048x384.size a) (j : Fin 4)
    (h0 : o0 = ![j.val * 512, (0 : Fin 3).val * 128]) (h1 : o1 = ![j.val * 512, (1 : Fin 3).val * 128]) (h2 : o2 = ![j.val * 512, (2 : Fin 3).val * 128])
    (w0 w1 w2 : Vec F S512x128 e) (w : Fin 3 → Vec F S512x128 e) (e0 : w0 = w 0) (e1 : w1 = w 1) (e2 : w2 = w 2) :
    v.read (Elt F) (v.writes (Elt F) f [⟨Rect.unit (s := S2048x384) o2 S512x128.size i2, w2⟩, ⟨Rect.unit (s := S2048x384) o1 S512x128.size i1, w1⟩, ⟨Rect.unit (s := S2048x384) o0 S512x128.size i0, w0⟩])
      = putRows (v.read (Elt F) f) j w := by
  rw [View.read_writes_cons_put v f i2 w2 _ h2, View.read_writes_cons_put v f i1 w1 _ h1, View.read_writes_cons_put v f i0 w0 _ h0, View.writes_nil, e0, e1, e2]
  rfl
/-- Three stores at the heads of one chunk of a scratch array. -/
theorem putTiles_read {e : EltTy} (v : View sig .tc .vmem S3x4x128x512 e) (f : v.ty.Contents (Elt F)) {o0 o1 o2 : Fin 4 → ℕ} (i0 : ∀ a, o0 a + S1x1x128x512.size a ≤ S3x4x128x512.size a)
    (i1 : ∀ a, o1 a + S1x1x128x512.size a ≤ S3x4x128x512.size a) (i2 : ∀ a, o2 a + S1x1x128x512.size a ≤ S3x4x128x512.size a) (j : Fin 4)
    (h0 : o0 = ![(0 : Fin 3).val, j.val, 0, 0]) (h1 : o1 = ![(1 : Fin 3).val, j.val, 0, 0]) (h2 : o2 = ![(2 : Fin 3).val, j.val, 0, 0])
    (w0 w1 w2 : Vec F S1x1x128x512 e) (w : Fin 3 → Vec F S1x1x128x512 e) (e0 : w0 = w 0) (e1 : w1 = w 1) (e2 : w2 = w 2) :
    v.read (Elt F) (v.writes (Elt F) f [⟨Rect.unit (s := S3x4x128x512) o2 S1x1x128x512.size i2, w2⟩, ⟨Rect.unit (s := S3x4x128x512) o1 S1x1x128x512.size i1, w1⟩, ⟨Rect.unit (s := S3x4x128x512) o0 S1x1x128x512.size i0, w0⟩])
      = putTiles (v.read (Elt F) f) j w := by
  rw [View.read_writes_cons_put v f i2 w2 _ h2, View.read_writes_cons_put v f i1 w1 _ h1, View.read_writes_cons_put v f i0 w0 _ h0, View.writes_nil, e0, e1, e2]
  rfl

/-- What the trip of chunk `j` leaves in the arrays and yields. -/
theorem trip1 (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .f32) (harg5 : arg5.IsWhole) (arg6 : Memref sig .tc .vmem S128x384 .bf16) (harg6 : arg6.IsWhole) (arg7 : Memref sig .tc .vmem S2048x384 .f32) (harg7 : arg7.IsWhole) (arg8 : Memref sig .tc .vmem S2048x384 .f32) (harg8 : arg8.IsWhole) (arg9 : Memref sig .tc .vmem S3x4x128x512 .f32) (harg9 : arg9.IsWhole) (arg10 : Memref sig .tc .vmem S3x4x128x512 .f32) (harg10 : arg10.IsWhole) (v17 : BitVec 32) (v24 v28 v32 v34 v36 v38 : FVec F S128x128 .bf16) (v43 v46 : FVec F S128x128 .f32) (v51 : BitVec 32) (v116 v204 v292 : FVec F S128x1 .f32) (v297 : FVec F S128x512 .f32) (v304 : FVec F S512x128 .bf16)
    (f3 : Buf (Elt F) (arg3.view.loc (c : Thread nD τ))) (f4 : Buf (Elt F) (arg4.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (k : Fin (k0_t1_loop i).trips) (r0 r1 r2 : FVec F S128x1 .f32) (s : Down F)
    (h9 : arg9.view.read (Elt F) f9 = s.Z) (h10 : arg10.view.read (Elt F) f10 = s.E) (h8 : arg8.view.read (Elt F) f8 = s.DV) (hr : s.run = ![r0, r1, r2]) :
    iprop(held c arg3 f3 ∗ held c arg4 f4 ∗ held c arg8 f8 ∗ held c arg9 f9 ∗ held c arg10 f10)
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 v17 v24 v28 v32 v34 v36 v38 v43 v46 v51 v116 v204 v292 v297 v304 k (r0, r1, r2))
        (fun acc => iprop(held c arg3 f3 ∗ held c arg4 f4
          ∗ ∃ g8 g9 g10, held c arg8 g8 ∗ held c arg9 g9 ∗ held c arg10 g10
            ∗ ⌜let s' := downStep v43 ![v24, v28, v32] ![v34, v36, v38] (arg3.view.read (Elt F) f3) (arg4.view.read (Elt F) f4) none (chunk ((i 1).val / 4 - 1 - k.val)) s
               arg9.view.read (Elt F) g9 = s'.Z ∧ arg10.view.read (Elt F) g10 = s'.E ∧ arg8.view.read (Elt F) g8 = s'.DV ∧ s'.run = ![acc.1, acc.2.1, acc.2.2]⌝)) := by
  iintro ⟨H3, H4, H8, H9, H10⟩
  sl_unfold [k0_t1_body]
  sl_exec
  sl_step
  iframe H3
  iframe H4
  iexists _, _, _
  iframe H8
  iframe H9
  iframe H10
  ipureintro
  obtain ⟨Z, E, DV, run⟩ := s
  dsimp only at h9 h10 h8 hr
  subst h9 h10 h8 hr
  dsimp only [downStep]
  refine ⟨putTiles_read _ _ _ _ _ _ (off8_chunk i k) (off10_chunk i k) (off12_chunk i k) _ _ _ _ ?_ ?_ ?_,
    putTiles_read _ _ _ _ _ _ (off8_chunk i k) (off10_chunk i k) (off12_chunk i k) _ _ _ _ ?_ ?_ ?_,
    putRows_read _ _ _ _ _ _ (off7_chunk i k) (off9_chunk i k) (off11_chunk i k) _ _ _ _ ?_ ?_ ?_, ?_⟩
  · rw [rows_read _ f3 (k0_off7_inb i k) _ 0 (off7_chunk i k)]; rfl
  · rw [rows_read _ f3 (k0_off9_inb i k) _ 1 (off9_chunk i k)]; rfl
  · rw [rows_read _ f3 (k0_off11_inb i k) _ 2 (off11_chunk i k)]; rfl
  · rw [rows_read _ f3 (k0_off7_inb i k) _ 0 (off7_chunk i k), rows_read _ f4 (k0_off7_inb i k) _ 0 (off7_chunk i k)]; rfl
  · rw [rows_read _ f3 (k0_off9_inb i k) _ 1 (off9_chunk i k), rows_read _ f4 (k0_off9_inb i k) _ 1 (off9_chunk i k)]; rfl
  · rw [rows_read _ f3 (k0_off11_inb i k) _ 2 (off11_chunk i k), rows_read _ f4 (k0_off11_inb i k) _ 2 (off11_chunk i k)]; rfl
  · rw [rows_read _ f3 (k0_off7_inb i k) _ 0 (off7_chunk i k), rows_read _ f8 (k0_off7_inb i k) _ 0 (off7_chunk i k)]; rfl
  · rw [rows_read _ f3 (k0_off9_inb i k) _ 1 (off9_chunk i k), rows_read _ f8 (k0_off9_inb i k) _ 1 (off9_chunk i k)]; rfl
  · rw [rows_read _ f3 (k0_off11_inb i k) _ 2 (off11_chunk i k), rows_read _ f8 (k0_off11_inb i k) _ 2 (off11_chunk i k)]; rfl
  · funext h
    match h with
    | 0 => rw [rows_read _ f3 (k0_off7_inb i k) _ 0 (off7_chunk i k)]; rfl
    | 1 => rw [rows_read _ f3 (k0_off9_inb i k) _ 1 (off9_chunk i k)]; rfl
    | 2 => rw [rows_read _ f3 (k0_off11_inb i k) _ 2 (off11_chunk i k)]; rfl

end Cert.Proof.Sb

end
-- ==== Proof.Trip3.lean ====
/- One trip of the loop up: what the gradient of the keys and of the queries and the running sums hold after it. -/
module

public import proofs.«01_k».proof.Proof.Trip1

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem off20_chunk : ∀ (i : grid0.Coords) (k : Fin (k0_t3_loop i).trips), k0_off20 i k = ![(chunk k.val).val * 512, (0 : Fin 3).val * 128] := by decide +kernel
theorem off22_chunk : ∀ (i : grid0.Coords) (k : Fin (k0_t3_loop i).trips), k0_off22 i k = ![(chunk k.val).val * 512, (1 : Fin 3).val * 128] := by decide +kernel
theorem off24_chunk : ∀ (i : grid0.Coords) (k : Fin (k0_t3_loop i).trips), k0_off24 i k = ![(chunk k.val).val * 512, (2 : Fin 3).val * 128] := by decide +kernel
theorem off19_chunk : ∀ (i : grid0.Coords) (k : Fin (k0_t3_loop i).trips), k0_off19 i k = ![(0 : Fin 3).val, (chunk k.val).val, 0, 0] := by decide +kernel
theorem off21_chunk : ∀ (i : grid0.Coords) (k : Fin (k0_t3_loop i).trips), k0_off21 i k = ![(1 : Fin 3).val, (chunk k.val).val, 0, 0] := by decide +kernel
theorem off23_chunk : ∀ (i : grid0.Coords) (k : Fin (k0_t3_loop i).trips), k0_off23 i k = ![(2 : Fin 3).val, (chunk k.val).val, 0, 0] := by decide +kernel

/-- What the trip of chunk `k` leaves in the gradient of the keys and yields. -/
theorem trip3 (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .f32) (harg5 : arg5.IsWhole) (arg6 : Memref sig .tc .vmem S128x384 .bf16) (harg6 : arg6.IsWhole) (arg7 : Memref sig .tc .vmem S2048x384 .f32) (harg7 : arg7.IsWhole) (arg8 : Memref sig .tc .vmem S2048x384 .f32) (harg8 : arg8.IsWhole) (arg9 : Memref sig .tc .vmem S3x4x128x512 .f32) (harg9 : arg9.IsWhole) (arg10 : Memref sig .tc .vmem S3x4x128x512 .f32) (harg10 : arg10.IsWhole) (v17 : BitVec 32) (v24 v28 v32 v34 v36 v38 : FVec F S128x128 .bf16) (v43 v46 : FVec F S128x128 .f32) (v51 : BitVec 32) (v116 v204 v292 : FVec F S128x1 .f32) (v297 : FVec F S128x512 .f32) (v304 : FVec F S512x128 .bf16)
    (f3 : Buf (Elt F) (arg3.view.loc (c : Thread nD τ))) (f7 : Buf (Elt F) (arg7.view.loc (c : Thread nD τ)))
    (f9 : Buf (Elt F) (arg9.view.loc (c : Thread nD τ))) (f10 : Buf (Elt F) (arg10.view.loc (c : Thread nD τ)))
    (k : Fin (k0_t3_loop i).trips) (d0 d1 d2 : FVec F S128x128 .f32) (r0 r1 r2 : FVec F S128x1 .f32) (s : Up F)
    (h7 : arg7.view.read (Elt F) f7 = s.DK) (hd : s.dq = ![d0, d1, d2]) (hr : s.run = ![r0, r1, r2]) :
    iprop(held c arg3 f3 ∗ held c arg9 f9 ∗ held c arg10 f10 ∗ held c arg7 f7)
      ⊢ wp frame (wpE (defs₀ (F := F)) Variants.none (c : Thread nD τ) none) Set.univ
        (k0_t3_body (F := F) i arg2 harg2 arg3 harg3 arg4 harg4 arg5 harg5 arg6 harg6 arg7 harg7 arg8 harg8 arg9 harg9 arg10 harg10 v17 v24 v28 v32 v34 v36 v38 v43 v46 v51 v116 v204 v292 v297 v304 k (d0, r0, d1, r1, d2, r2))
        (fun acc => iprop(held c arg3 f3 ∗ held c arg9 f9 ∗ held c arg10 f10
          ∗ ∃ g7, held c arg7 g7
            ∗ ⌜let s' := upStep v46 ![v24, v28, v32] (arg3.view.read (Elt F) f3) (arg9.view.read (Elt F) f9) (arg10.view.read (Elt F) f10) none (chunk k.val) s
               arg7.view.read (Elt F) g7 = s'.DK ∧ s'.dq = ![acc.1, acc.2.2.1, acc.2.2.2.2.1] ∧ s'.run = ![acc.2.1, acc.2.2.2.1, acc.2.2.2.2.2]⌝)) := by
  iintro ⟨H3, H9, H10, H7⟩
  sl_unfold [k0_t3_body]
  sl_exec
  sl_step
  iframe H3
  iframe H9
  iframe H10
  iexists _
  iframe H7
  ipureintro
  obtain ⟨DK, dq, run⟩ := s
  dsimp only at h7 hd hr
  subst h7 hd hr
  dsimp only [upStep]
  refine ⟨putRows_read _ _ _ _ _ _ (off20_chunk i k) (off22_chunk i k) (off24_chunk i k) _ _ _ _ ?_ ?_ ?_, ?_, ?_⟩
  · rw [rows_read _ f7 (k0_off20_inb i k) _ 0 (off20_chunk i k), tile_read _ f9 (k0_off19_inb i k) 0 _ (off19_chunk i k), tile_read _ f10 (k0_off19_inb i k) 0 _ (off19_chunk i k)]; rfl
  · rw [rows_read _ f7 (k0_off22_inb i k) _ 1 (off22_chunk i k), tile_read _ f9 (k0_off21_inb i k) 1 _ (off21_chunk i k), tile_read _ f10 (k0_off21_inb i k) 1 _ (off21_chunk i k)]; rfl
  · rw [rows_read _ f7 (k0_off24_inb i k) _ 2 (off24_chunk i k), tile_read _ f9 (k0_off23_inb i k) 2 _ (off23_chunk i k), tile_read _ f10 (k0_off23_inb i k) 2 _ (off23_chunk i k)]; rfl
  · funext h
    match h with
    | 0 => rw [rows_read _ f3 (k0_off20_inb i k) _ 0 (off20_chunk i k), tile_read _ f9 (k0_off19_inb i k) 0 _ (off19_chunk i k), tile_read _ f10 (k0_off19_inb i k) 0 _ (off19_chunk i k)]; rfl
    | 1 => rw [rows_read _ f3 (k0_off22_inb i k) _ 1 (off22_chunk i k), tile_read _ f9 (k0_off21_inb i k) 1 _ (off21_chunk i k), tile_read _ f10 (k0_off21_inb i k) 1 _ (off21_chunk i k)]; rfl
    | 2 => rw [rows_read _ f3 (k0_off24_inb i k) _ 2 (off24_chunk i k), tile_read _ f9 (k0_off23_inb i k) 2 _ (off23_chunk i k), tile_read _ f10 (k0_off23_inb i k) 2 _ (off23_chunk i k)]; rfl
  · funext h
    match h with
    | 0 => rw [tile_read _ f10 (k0_off19_inb i k) 0 _ (off19_chunk i k)]; rfl
    | 1 => rw [tile_read _ f10 (k0_off21_inb i k) 1 _ (off21_chunk i k)]; rfl
    | 2 => rw [tile_read _ f10 (k0_off23_inb i k) 2 _ (off23_chunk i k)]; rfl

end Cert.Proof.Sb

end
-- ==== Proof.Inv.lean ====
/- The invariants of the four loops of the kernel's body, by its trips. -/
module

public import proofs.«01_k».proof.Proof.Trip3

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section

variable (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .f32) (harg5 : arg5.IsWhole) (arg6 : Memref sig .tc .vmem S128x384 .bf16) (harg6 : arg6.IsWhole) (arg7 : Memref sig .tc .vmem S2048x384 .f32) (harg7 : arg7.IsWhole) (arg8 : Memref sig .tc .vmem S2048x384 .f32) (harg8 : arg8.IsWhole) (arg9 : Memref sig .tc .vmem S3x4x128x512 .f32) (harg9 : arg9.IsWhole) (arg10 : Memref sig .tc .vmem S3x4x128x512 .f32) (harg10 : arg10.IsWhole) (v17 : BitVec 32) (v24 v28 v32 v34 v36 v38 : FVec F S128x128 .bf16) (v43 v46 : FVec F S128x128 .f32) (v51 : BitVec 32) (v116 v204 v292 : FVec F S128x1 .f32) (v297 : FVec F S128x512 .f32) (v304 : FVec F S512x128 .bf16)

/-- What the way down holds after a state of it. -/
abbrev downAt (G3 : Buf (Elt F) (arg3.view.loc (c : Thread nD τ))) (G4 : Buf (Elt F) (arg4.view.loc (c : Thread nD τ))) (s : Down F) (acc : FVec F S128x1 .f32 × FVec F S128x1 .f32 × FVec F S128x1 .f32) : sProp 𝕄 :=
  iprop(held c arg3 G3 ∗ held c arg4 G4
    ∗ ∃ g8 g9 g10, held c arg8 g8 ∗ held c arg9 g9 ∗ held c arg10 g10
      ∗ ⌜arg9.view.read (Elt F) g9 = s.Z⌝ ∗ ⌜arg10.view.read (Elt F) g10 = s.E⌝ ∗ ⌜arg8.view.read (Elt F) g8 = s.DV⌝ ∗ ⌜s.run = ![acc.1, acc.2.1, acc.2.2]⌝)

set_option warn.classDefReducibility false in
/-- Before trip `k` of the loop down `k` chunks are done. -/
@[sl_loop] def loopInv1 (G3 : Buf (Elt F) (arg3.view.loc (c : Thread nD τ))) (G4 : Buf (Elt F) (arg4.view.loc (c : Thread nD τ))) (G8 : Buf (Elt F) (arg8.view.loc (c : Thread nD τ))) (G9 : Buf (Elt F) (arg9.view.loc (c : Thread nD τ))) (G10 : Buf (Elt F) (arg10.view.loc (c : Thread nD τ))) (r0 r1 r2 : FVec F S128x1 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 v17 v24 v28 v32 v34 v36 v38 v43 v46 v51 v116 v204 v292 v297 v304 (r0, r1, r2) where
  inv k acc := downAt c arg3 arg4 arg8 arg9 arg10 G3 G4
    (downN v43 ![v24, v28, v32] ![v34, v36, v38] (arg3.view.read (Elt F) G3) (arg4.view.read (Elt F) G4) ((i 1).val / 4)
      ⟨arg9.view.read (Elt F) G9, arg10.view.read (Elt F) G10, arg8.view.read (Elt F) G8, ![r0, r1, r2]⟩ k) acc
  step k acc := by
    obtain ⟨a0, a1, a2⟩ := acc
    iintro ⟨H3, H4, %g8, %g9, %g10, H8, H9, H10, %h9, %h10, %h8, %hr⟩
    iapply (wp_wand_r Idealize.ShloMosaic.frame (wpE (defs₀ (F := F)) Variants.none (c : Thread nD τ) none) Set.univ)
    isplitl [H3 H4 H8 H9 H10]
    · iapply (trip1 c i arg2 harg2 arg3 harg3 arg4 harg4 arg5 harg5 arg6 harg6 arg7 harg7 arg8 harg8 arg9 harg9 arg10 harg10 v17 v24 v28 v32 v34 v36 v38 v43 v46 v51 v116 v204 v292 v297 v304 G3 G4 g8 g9 g10 k a0 a1 a2 _ h9 h10 h8 hr)
      iframe H3
      iframe H4
      iframe H8
      iframe H9
      iframe H10
    · iintro %acc ⟨H3, H4, %g8', %g9', %g10', H8, H9, H10, %h'⟩
      obtain ⟨h9', h10', h8', hr'⟩ := h'
      iframe H3
      iframe H4
      iexists g8', g9', g10'
      iframe H8
      iframe H9
      iframe H10
      isplitr; · ipureintro; exact h9'
      isplitr; · ipureintro; exact h10'
      isplitr; · ipureintro; exact h8'
      ipureintro; exact hr'

set_option warn.classDefReducibility false in
/-- The loop that would take what is left of the way down has no trip. -/
@[sl_loop] def loopInv2 (v323 : BitVec 32) (x : FVec F S128x1 .f32 × FVec F S128x1 .f32 × FVec F S128x1 .f32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 v17 v24 v28 v32 v34 v36 v38 v43 v46 v51 v116 v204 v292 v297 v304 v323 x where
  inv _ acc := iprop(⌜acc = x⌝)
  step k _ := (Nat.not_lt_zero _ (Nat.lt_of_lt_of_eq k.isLt (trips2 i))).elim

/-- What the way up holds after a state of it. -/
abbrev upAt (G3 : Buf (Elt F) (arg3.view.loc (c : Thread nD τ))) (G9 : Buf (Elt F) (arg9.view.loc (c : Thread nD τ))) (G10 : Buf (Elt F) (arg10.view.loc (c : Thread nD τ))) (s : Up F)
    (acc : FVec F S128x128 .f32 × FVec F S128x1 .f32 × FVec F S128x128 .f32 × FVec F S128x1 .f32 × FVec F S128x128 .f32 × FVec F S128x1 .f32) : sProp 𝕄 :=
  iprop(held c arg3 G3 ∗ held c arg9 G9 ∗ held c arg10 G10
    ∗ ∃ g7, held c arg7 g7
      ∗ ⌜arg7.view.read (Elt F) g7 = s.DK⌝ ∗ ⌜s.dq = ![acc.1, acc.2.2.1, acc.2.2.2.2.1]⌝ ∗ ⌜s.run = ![acc.2.1, acc.2.2.2.1, acc.2.2.2.2.2]⌝)

set_option warn.classDefReducibility false in
/-- Before trip `k` of the loop up `k` chunks are done. -/
@[sl_loop] def loopInv3 (G3 : Buf (Elt F) (arg3.view.loc (c : Thread nD τ))) (G7 : Buf (Elt F) (arg7.view.loc (c : Thread nD τ))) (G9 : Buf (Elt F) (arg9.view.loc (c : Thread nD τ))) (G10 : Buf (Elt F) (arg10.view.loc (c : Thread nD τ))) (d0 d1 d2 : FVec F S128x128 .f32) (r0 r1 r2 : FVec F S128x1 .f32) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 v17 v24 v28 v32 v34 v36 v38 v43 v46 v51 v116 v204 v292 v297 v304 (d0, r0, d1, r1, d2, r2) where
  inv k acc := upAt c arg3 arg7 arg9 arg10 G3 G9 G10
    (upN v46 ![v24, v28, v32] (arg3.view.read (Elt F) G3) (arg9.view.read (Elt F) G9) (arg10.view.read (Elt F) G10)
      ⟨arg7.view.read (Elt F) G7, ![d0, d1, d2], ![r0, r1, r2]⟩ k) acc
  step k acc := by
    obtain ⟨e0, a0, e1, a1, e2, a2⟩ := acc
    iintro ⟨H3, H9, H10, %g7, H7, %h7, %hd, %hr⟩
    iapply (wp_wand_r Idealize.ShloMosaic.frame (wpE (defs₀ (F := F)) Variants.none (c : Thread nD τ) none) Set.univ)
    isplitl [H3 H9 H10 H7]
    · iapply (trip3 c i arg2 harg2 arg3 harg3 arg4 harg4 arg5 harg5 arg6 harg6 arg7 harg7 arg8 harg8 arg9 harg9 arg10 harg10 v17 v24 v28 v32 v34 v36 v38 v43 v46 v51 v116 v204 v292 v297 v304 G3 g7 G9 G10 k e0 e1 e2 a0 a1 a2 _ h7 hd hr)
      iframe H3
      iframe H9
      iframe H10
      iframe H7
    · iintro %acc ⟨H3, H9, H10, %g7', H7, %h'⟩
      obtain ⟨h7', hd', hr'⟩ := h'
      iframe H3
      iframe H9
      iframe H10
      iexists g7'
      iframe H7
      isplitr; · ipureintro; exact h7'
      isplitr; · ipureintro; exact hd'
      ipureintro; exact hr'

set_option warn.classDefReducibility false in
/-- The loop that would take what is left of the way up has no trip. -/
@[sl_loop] def loopInv4 (v336 : BitVec 32) (x : FVec F S128x128 .f32 × FVec F S128x1 .f32 × FVec F S128x128 .f32 × FVec F S128x1 .f32 × FVec F S128x128 .f32 × FVec F S128x1 .f32) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 v17 v24 v28 v32 v34 v36 v38 v43 v46 v51 v116 v204 v292 v297 v304 v336 x where
  inv _ acc := iprop(⌜acc = x⌝)
  step k _ := (Nat.not_lt_zero _ (Nat.lt_of_lt_of_eq k.isLt (trips4 i))).elim

end

end Cert.Proof.Sb

end
-- ==== Proof.Spec.lean ====
/- What the body computes at one point of the grid, chunk by chunk: the state of the way down and of the way up after
   all chunks, with no reference to what the scratch arrays held before. -/
module

public import proofs.«01_k».proof.Proof.Chunk
public import Idealize.ShloMosaic.Lib.Pointwise.Index
public import Idealize.ShloMosaic.Lib.Pipeline.Value

@[expose] public section

set_option maxRecDepth 16384

noncomputable section

namespace Cert.Proof.Sb

open Cert.KernelIdeal Cert.KernelIdeal.Gen
open Idealize.ShloMosaic Idealize.ShloMosaic.TcCoe Idealize.ShloMosaic.Tactic
open VecWindow

variable {F : FTy → Type} [FloatOps F]

/-! ### Blocks of an array with a chunk replaced -/

private theorem c01 : 0 * 128 + 128 ≤ 1 * 128 ∨ 1 * 128 + 128 ≤ 0 * 128 := by decide
private theorem c02 : 0 * 128 + 128 ≤ 2 * 128 ∨ 2 * 128 + 128 ≤ 0 * 128 := by decide
private theorem c12 : 1 * 128 + 128 ≤ 2 * 128 ∨ 2 * 128 + 128 ≤ 1 * 128 := by decide
private theorem t01 : 0 + 1 ≤ 1 ∨ 1 + 1 ≤ 0 := by decide
private theorem t02 : 0 + 1 ≤ 2 ∨ 2 + 1 ≤ 0 := by decide
private theorem t12 : 1 + 1 ≤ 2 ∨ 2 + 1 ≤ 1 := by decide

theorem rows_putRows {e : EltTy} (x : Vec F S2048x384 e) (j j' : Fin 4) (w : Fin 3 → Vec F S512x128 e) (h : Fin 3) :
    rows (putRows x j w) j' h = if j' = j then w h else rows x j' h := by
  unfold rows putRows
  by_cases hj : j' = j
  · subst hj
    rw [if_pos rfl]
    match h with
    | 0 =>
      rw [window_put_of_disjoint _ _ _ _ _ _ _ 1 c02, window_put_of_disjoint _ _ _ _ _ _ _ 1 c01]
      exact window_put_same _ _ _ _ _
    | 1 =>
      rw [window_put_of_disjoint _ _ _ _ _ _ _ 1 c12]
      exact window_put_same _ _ _ _ _
    | 2 => exact window_put_same _ _ _ _ _
  · rw [if_neg hj]
    have hv : j'.val ≠ j.val := fun h => hj (Fin.ext h)
    have hd : j'.val * 512 + 512 ≤ j.val * 512 ∨ j.val * 512 + 512 ≤ j'.val * 512 := by omega
    rw [window_put_of_disjoint _ _ _ _ _ _ _ 0 hd, window_put_of_disjoint _ _ _ _ _ _ _ 0 hd, window_put_of_disjoint _ _ _ _ _ _ _ 0 hd]

theorem tile_putTiles {e : EltTy} (x : Vec F S3x4x128x512 e) (j j' : Fin 4) (w : Fin 3 → Vec F S1x1x128x512 e) (h : Fin 3) :
    tile (putTiles x j w) h j' = if j' = j then w h else tile x h j' := by
  unfold tile putTiles
  by_cases hj : j' = j
  · subst hj
    rw [if_pos rfl]
    match h with
    | 0 =>
      rw [window_put_of_disjoint _ _ _ _ _ _ _ 0 t02, window_put_of_disjoint _ _ _ _ _ _ _ 0 t01]
      exact window_put_same _ _ _ _ _
    | 1 =>
      rw [window_put_of_disjoint _ _ _ _ _ _ _ 0 t12]
      exact window_put_same _ _ _ _ _
    | 2 => exact window_put_same _ _ _ _ _
  · rw [if_neg hj]
    have hv : j'.val ≠ j.val := fun h => hj (Fin.ext h)
    have hd : j'.val + 1 ≤ j.val ∨ j.val + 1 ≤ j'.val := by omega
    rw [window_put_of_disjoint _ _ _ _ _ _ _ 1 hd, window_put_of_disjoint _ _ _ _ _ _ _ 1 hd, window_put_of_disjoint _ _ _ _ _ _ _ 1 hd]

theorem cols_putCols {e : EltTy} (x : Vec F S128x384 e) (w : Fin 3 → Vec F S128x128 e) (h : Fin 3) : cols (putCols x w) h = w h := by
  unfold cols putCols
  match h with
  | 0 =>
    rw [window_put_of_disjoint _ _ _ _ _ _ _ 1 c02, window_put_of_disjoint _ _ _ _ _ _ _ 1 c01]
    exact window_put_same _ _ _ _ _
  | 1 =>
    rw [window_put_of_disjoint _ _ _ _ _ _ _ 1 c12]
    exact window_put_same _ _ _ _ _
  | 2 => exact window_put_same _ _ _ _ _

/-- The element of a chunk at row `r`, column `l`. -/
theorem rows_apply {e : EltTy} (x : Vec F S2048x384 e) (j : Fin 4) (h : Fin 3) (r : Fin 512) (l : Fin 128) :
    rows x j h (ix2 r l) = x (ix2 ⟨j.val * 512 + r.val, by have := j.isLt; have := r.isLt; omega⟩ ⟨h.val * 128 + l.val, by have := h.isLt; have := l.isLt; omega⟩) := by
  unfold rows window
  refine congrArg x (funext fun a => Fin.ext ?_)
  match a with
  | ⟨0, _⟩ => show j.val * 512 + 1 * r.val = _; rw [Nat.one_mul]; rfl
  | ⟨1, _⟩ => show h.val * 128 + 1 * l.val = _; rw [Nat.one_mul]; rfl

/-- The element of a head of a block of queries. -/
theorem cols_apply {e : EltTy} (x : Vec F S128x384 e) (h : Fin 3) (r : Fin 128) (l : Fin 128) :
    cols x h (ix2 r l) = x (ix2 r ⟨h.val * 128 + l.val, by have := h.isLt; have := l.isLt; omega⟩) := by
  unfold cols window
  refine congrArg x (funext fun a => Fin.ext ?_)
  match a with
  | ⟨0, _⟩ => show 0 + 1 * r.val = _; rw [Nat.one_mul, Nat.zero_add]; rfl
  | ⟨1, _⟩ => show h.val * 128 + 1 * l.val = _; rw [Nat.one_mul]; rfl

/-- The array of keys with the given blocks. -/
def ofRows {e : EltTy} (f : Fin 4 → Fin 3 → Vec F S512x128 e) : Vec F S2048x384 e := fun y =>
  f ⟨(y 0).val / 512, by have : (y 0).val < 2048 := (y 0).isLt; omega⟩ ⟨(y 1).val / 128, by have : (y 1).val < 384 := (y 1).isLt; omega⟩
    (ix2 ⟨(y 0).val % 512, Nat.mod_lt _ (by decide)⟩ ⟨(y 1).val % 128, Nat.mod_lt _ (by decide)⟩)
/-- The block of queries with the given heads. -/
def ofCols {e : EltTy} (f : Fin 3 → Vec F S128x128 e) : Vec F S128x384 e := fun y =>
  f ⟨(y 1).val / 128, by have : (y 1).val < 384 := (y 1).isLt; omega⟩ (ix2 ⟨(y 0).val, (y 0).isLt⟩ ⟨(y 1).val % 128, Nat.mod_lt _ (by decide)⟩)

/-- An array of keys is put together from its blocks. -/
theorem eq_ofRows {e : EltTy} (x : Vec F S2048x384 e) (f : Fin 4 → Fin 3 → Vec F S512x128 e) (hf : ∀ j h, rows x j h = f j h) : x = ofRows f := by
  funext y
  unfold ofRows
  rw [← hf, rows_apply]
  refine congrArg x (funext fun a => Fin.ext ?_)
  match a with
  | ⟨0, _⟩ => exact (Nat.div_add_mod' (y 0).val 512).symm
  | ⟨1, _⟩ => exact (Nat.div_add_mod' (y 1).val 128).symm
/-- A block of queries is put together from its heads. -/
theorem eq_ofCols {e : EltTy} (x : Vec F S128x384 e) (f : Fin 3 → Vec F S128x128 e) (hf : ∀ h, cols x h = f h) : x = ofCols f := by
  funext y
  unfold ofCols
  rw [← hf, cols_apply]
  refine congrArg x (funext fun a => Fin.ext ?_)
  match a with
  | ⟨0, _⟩ => rfl
  | ⟨1, _⟩ => exact (Nat.div_add_mod' (y 1).val 128).symm

theorem chunk_val (j : ℕ) (hj : j < 4) : (chunk j).val = j := Nat.mod_eq_of_lt hj
theorem chunk_inj (j j' : ℕ) (hj : j < 4) (hj' : j' < 4) : chunk j = chunk j' ↔ j = j' :=
  ⟨fun h => by have := congrArg Fin.val h; rwa [chunk_val j hj, chunk_val j' hj'] at this, fun h => by rw [h]⟩
theorem chunk_fin (j : Fin 4) : chunk j.val = j := Fin.ext (chunk_val _ j.isLt)

/-! ### Blocks after one chunk -/

theorem tile_downZ (t : FVec F S128x128 .f32) (q d : Fin 3 → FVec F S128x128 .bf16) (K V : Vec F S2048x384 .bf16) (m : Option (IVec S128x512 1)) (j j' : Fin 4) (s : Down F) (h : Fin 3) :
    tile (downStep t q d K V m j s).Z h j' = if j' = j then asTile (score (q h) (rows K j h)) else tile s.Z h j' := by dsimp only [downStep, upStep]; rw [tile_putTiles]
theorem tile_downE (t : FVec F S128x128 .f32) (q d : Fin 3 → FVec F S128x128 .bf16) (K V : Vec F S2048x384 .bf16) (m : Option (IVec S128x512 1)) (j j' : Fin 4) (s : Down F) (h : Fin 3) :
    tile (downStep t q d K V m j s).E h j'
      = if j' = j then asTile (mulf (weight t m (score (q h) (rows K j h)) (s.run h)) (score (d h) (rows V j h))) else tile s.E h j' := by dsimp only [downStep, upStep]; rw [tile_putTiles]
theorem rows_downV (t : FVec F S128x128 .f32) (q d : Fin 3 → FVec F S128x128 .bf16) (K V : Vec F S2048x384 .bf16) (m : Option (IVec S128x512 1)) (j j' : Fin 4) (s : Down F) (h : Fin 3) :
    rows (downStep t q d K V m j s).DV j' h
      = if j' = j then addT (rows s.DV j h) (halfW (weight t m (score (q h) (rows K j h)) (s.run h))) (d h) else rows s.DV j' h := by dsimp only [downStep, upStep]; rw [rows_putRows]
theorem rows_upK (t : FVec F S128x128 .f32) (q : Fin 3 → FVec F S128x128 .bf16) (K : Vec F S2048x384 .bf16) (Z E : Vec F S3x4x128x512 .f32) (m : Option (IVec S128x512 1)) (j j' : Fin 4) (s : Up F) (h : Fin 3) :
    rows (upStep t q K Z E m j s).DK j' h
      = if j' = j then addT (rows s.DK j h) (dScore t m (ofTile (tile Z h j)) (ofTile (tile E h j)) (s.run h)) (q h) else rows s.DK j' h := by dsimp only [downStep, upStep]; rw [rows_putRows]

/-! ### The state after all chunks -/

section

variable (q d : Fin 3 → FVec F S128x128 .bf16) (K V : Vec F S2048x384 .bf16) (m : IVec S128x512 1) (T : ℕ)

/-- Only the top chunk is masked. -/
def maskAt (j : ℕ) : Option (IVec S128x512 1) := if j = T then some m else none

/-- The scores of chunk `j`. -/
def zB (j : ℕ) (h : Fin 3) : FVec F S128x512 .f32 := score (q h) (rows K (chunk j) h)

/-- The sum of the logarithms over the top `n` chunks. -/
def runD : ℕ → Fin 3 → FVec F S128x1 .f32
  | 0, _ => broadcast S128x1 (Scalar.ofBits .f32 0x00000000#32)
  | n + 1, h => runDown (logStay (maskAt m T (T - n)) (zB q K (T - n) h)) (runD n h)

/-- The weights of chunk `j`. -/
def wB (j : ℕ) (h : Fin 3) : FVec F S128x512 .f32 := weight laterM (maskAt m T j) (zB q K j h) (runD q K m T (T - j) h)

/-- The weights of chunk `j` times the gradient of the weights. -/
def eB (j : ℕ) (h : Fin 3) : FVec F S128x512 .f32 := mulf (wB q K m T j h) (score (d h) (rows V (chunk j) h))

/-- The sum of the products over the bottom `n` chunks. -/
def runU : ℕ → Fin 3 → FVec F S128x1 .f32
  | 0, _ => broadcast S128x1 (Scalar.ofBits .f32 0x00000000#32)
  | n + 1, h => runUp (eB q d K V m T n h) (runU n h)

/-- The gradient of the scores of chunk `j`. -/
def dzB (j : ℕ) (h : Fin 3) : FVec F S128x512 .bf16 := dScore earlierM (maskAt m T j) (zB q K j h) (eB q d K V m T j h) (runU q d K V m T j h)

/-- The gradient of the scaled queries over the bottom `n` chunks. -/
def dqB : ℕ → Fin 3 → FVec F S128x128 .f32
  | 0, _ => broadcast S128x128 (Scalar.ofBits .f32 0x00000000#32)
  | n + 1, h => addQ (dqB n h) (dzB q d K V m T n h) (rows K (chunk n) h)

/-- The gradient of the values, over what it was. -/
def dvOut (DV : Vec F S2048x384 .f32) : Vec F S2048x384 .f32 :=
  ofRows fun j h => if j.val ≤ T then addT (rows DV j h) (halfW (wB q K m T j.val h)) (d h) else rows DV j h
/-- The gradient of the keys, over what it was. -/
def dkOut (DK : Vec F S2048x384 .f32) : Vec F S2048x384 .f32 :=
  ofRows fun j h => if j.val ≤ T then addT (rows DK j h) (dzB q d K V m T j.val h) (q h) else rows DK j h
/-- The gradient of the queries. -/
def dqOut : Vec F S128x384 .bf16 := ofCols fun h => outQ (dqB q d K V m T (T + 1) h)

variable (hT : T < 4)
include hT

/-- The state of the way down after the top chunk and `k` more. -/
theorem down_spec (s0 : Down F) (hr : s0.run = fun _ => broadcast S128x1 (Scalar.ofBits .f32 0x00000000#32)) :
    ∀ k, k ≤ T → let s := downN laterM q d K V T (downStep laterM q d K V (some m) (chunk T) s0) k
      (s.run = runD q K m T (k + 1))
      ∧ (∀ j, T - k ≤ j → j ≤ T → ∀ h, tile s.Z h (chunk j) = asTile (zB q K j h))
      ∧ (∀ j, T - k ≤ j → j ≤ T → ∀ h, tile s.E h (chunk j) = asTile (eB q d K V m T j h))
      ∧ (∀ j, j < 4 → ∀ h, rows s.DV (chunk j) h
          = if T - k ≤ j ∧ j ≤ T then addT (rows s0.DV (chunk j) h) (halfW (wB q K m T j h)) (d h) else rows s0.DV (chunk j) h) := by
  intro k
  induction k with
  | zero =>
    intro _ s
    have hs : s = downStep laterM q d K V (some m) (chunk T) s0 := rfl
    clear_value s
    subst hs
    have hm : maskAt m T T = some m := if_pos rfl
    have hw : ∀ h, weight laterM (some m) (score (q h) (rows K (chunk T) h)) (s0.run h) = wB q K m T T h := fun h => by
      unfold wB; rw [hm, Nat.sub_self, hr]; rfl
    refine ⟨?_, ?_, ?_, ?_⟩
    · funext h
      show runDown (logStay (some m) (score (q h) (rows K (chunk T) h))) (s0.run h) = runDown (logStay (maskAt m T (T - 0)) (zB q K (T - 0) h)) (runD q K m T 0 h)
      rw [Nat.sub_zero, hm, hr]; rfl
    · intro j h1 h2 h
      obtain rfl : j = T := by omega
      rw [tile_downZ, if_pos rfl]; rfl
    · intro j h1 h2 h
      obtain rfl : j = T := by omega
      rw [tile_downE, if_pos rfl, hw]; rfl
    · intro j hj h
      rw [rows_downV, Nat.sub_zero]
      by_cases e : j = T
      · subst e
        rw [if_pos rfl, if_pos ⟨le_refl _, le_refl _⟩, hw]
      · rw [if_neg (fun h => e ((chunk_inj j T hj hT).mp h)), if_neg (by omega)]
  | succ k ih =>
    intro hk s
    obtain ⟨ir, iZ, iE, iV⟩ := ih (by omega)
    have hm : maskAt m T (T - 1 - k) = none := if_neg (by omega)
    have hn : T - (k + 1) = T - 1 - k := by omega
    have hn' : T - (T - 1 - k) = k + 1 := by omega
    generalize hp : downN laterM q d K V T (downStep laterM q d K V (some m) (chunk T) s0) k = p at *
    have hs : s = downStep laterM q d K V none (chunk (T - 1 - k)) p := by rw [← hp]; rfl
    have hw : ∀ h, weight laterM none (score (q h) (rows K (chunk (T - 1 - k)) h)) (p.run h) = wB q K m T (T - 1 - k) h := fun h => by
      unfold wB; rw [hm, hn', ir]; rfl
    clear_value s
    subst hs
    refine ⟨?_, ?_, ?_, ?_⟩
    · funext h
      show runDown (logStay none (score (q h) (rows K (chunk (T - 1 - k)) h))) (p.run h) = runDown (logStay (maskAt m T (T - (k + 1))) (zB q K (T - (k + 1)) h)) (runD q K m T (k + 1) h)
      rw [hn, hm, ir]; rfl
    · intro j h1 h2 h
      rw [tile_downZ]
      by_cases e : j = T - 1 - k
      · subst e; exact if_pos rfl
      · rw [if_neg (fun h => e ((chunk_inj j _ (by omega) (by omega)).mp h))]
        exact iZ j (by omega) h2 h
    · intro j h1 h2 h
      rw [tile_downE]
      by_cases e : j = T - 1 - k
      · subst e
        rw [if_pos rfl, hw]; rfl
      · rw [if_neg (fun h => e ((chunk_inj j _ (by omega) (by omega)).mp h))]
        exact iE j (by omega) h2 h
    · intro j hj h
      rw [rows_downV]
      by_cases e : j = T - 1 - k
      · subst e
        rw [if_pos rfl, hw, if_pos (by omega), iV _ hj, if_neg (by omega)]
      · rw [if_neg (fun h => e ((chunk_inj j _ hj (by omega)).mp h)), iV j hj h]
        by_cases hc : T - k ≤ j ∧ j ≤ T
        · rw [if_pos hc, if_pos (by omega)]
        · rw [if_neg hc, if_neg (by omega)]

omit hT in
/-- A tile read back is the block stored. -/
theorem ofTile_asTile (x : FVec F S128x512 .f32) : ofTile (asTile x) = x := shapeCast_shapeCast _ _ _

/-- The state of the way up after `k` chunks below the top one. -/
theorem up_spec (Z E : Vec F S3x4x128x512 .f32) (u0 : Up F) (hr : u0.run = fun _ => broadcast S128x1 (Scalar.ofBits .f32 0x00000000#32))
    (hq : u0.dq = fun _ => broadcast S128x128 (Scalar.ofBits .f32 0x00000000#32))
    (hZ : ∀ j, j ≤ T → ∀ h, tile Z h (chunk j) = asTile (zB q K j h)) (hE : ∀ j, j ≤ T → ∀ h, tile E h (chunk j) = asTile (eB q d K V m T j h)) :
    ∀ k, k ≤ T → let s := upN earlierM q K Z E u0 k
      s.run = runU q d K V m T k ∧ s.dq = dqB q d K V m T k
      ∧ (∀ j, j < 4 → ∀ h, rows s.DK (chunk j) h
          = if j < k then addT (rows u0.DK (chunk j) h) (dzB q d K V m T j h) (q h) else rows u0.DK (chunk j) h) := by
  intro k
  induction k with
  | zero =>
    intro _ s
    refine ⟨hr.trans (funext fun _ => rfl), hq.trans (funext fun _ => rfl), fun j hj h => ?_⟩
    rw [if_neg (by omega)]; rfl
  | succ k ih =>
    intro hk s
    obtain ⟨ir, iq, iK⟩ := ih (by omega)
    have hm : maskAt m T k = none := if_neg (by omega)
    generalize hp : upN earlierM q K Z E u0 k = p at *
    have hs : s = upStep earlierM q K Z E none (chunk k) p := by rw [← hp]; rfl
    have hd : ∀ h, dScore earlierM none (ofTile (tile Z h (chunk k))) (ofTile (tile E h (chunk k))) (p.run h) = dzB q d K V m T k h := fun h => by
      unfold dzB; rw [hm, ir, hZ k (by omega), hE k (by omega), ofTile_asTile, ofTile_asTile]
    clear_value s
    subst hs
    refine ⟨?_, ?_, ?_⟩
    · funext h
      show runUp (ofTile (tile E h (chunk k))) (p.run h) = runUp (eB q d K V m T k h) (runU q d K V m T k h)
      rw [hE k (by omega), ofTile_asTile, ir]
    · funext h
      show addQ (p.dq h) (dScore earlierM none (ofTile (tile Z h (chunk k))) (ofTile (tile E h (chunk k))) (p.run h)) (rows K (chunk k) h) = addQ (dqB q d K V m T k h) (dzB q d K V m T k h) (rows K (chunk k) h)
      rw [hd, iq]
    · intro j hj h
      rw [rows_upK]
      by_cases e : j = k
      · subst e
        rw [if_pos rfl, hd, if_pos (by omega), iK _ hj, if_neg (by omega)]
      · rw [if_neg (fun h => e ((chunk_inj j _ hj (by omega)).mp h)), iK j hj h]
        by_cases hc : j < k
        · rw [if_pos hc, if_pos (by omega)]
        · rw [if_neg hc, if_neg (by omega)]

/-- All three outputs, from the states as the body goes through them. -/
theorem out_spec (s0 : Down F) (u0 : Up F) (hs : s0.run = fun _ => broadcast S128x1 (Scalar.ofBits .f32 0x00000000#32))
    (hr : u0.run = fun _ => broadcast S128x1 (Scalar.ofBits .f32 0x00000000#32)) (hq : u0.dq = fun _ => broadcast S128x128 (Scalar.ofBits .f32 0x00000000#32)) :
    let s := downN laterM q d K V T (downStep laterM q d K V (some m) (chunk T) s0) T
    let u := upStep earlierM q K s.Z s.E (some m) (chunk T) (upN earlierM q K s.Z s.E u0 T)
    s.DV = dvOut q d K m T s0.DV ∧ u.DK = dkOut q d K V m T u0.DK ∧ ∀ h, u.dq h = dqB q d K V m T (T + 1) h := by
  intro s u
  obtain ⟨-, sZ, sE, sV⟩ := down_spec q d K V m T hT s0 hs T (le_refl _)
  have hm : maskAt m T T = some m := if_pos rfl
  have sZ' : ∀ j, j ≤ T → ∀ h, tile s.Z h (chunk j) = asTile (zB q K j h) := fun j hj h => sZ j (by omega) hj h
  have sE' : ∀ j, j ≤ T → ∀ h, tile s.E h (chunk j) = asTile (eB q d K V m T j h) := fun j hj h => sE j (by omega) hj h
  obtain ⟨ir, iq, iK⟩ := up_spec q d K V m T hT s.Z s.E u0 hr hq sZ' sE' T (le_refl _)
  have hd : ∀ h, dScore earlierM (some m) (ofTile (tile s.Z h (chunk T))) (ofTile (tile s.E h (chunk T))) ((upN earlierM q K s.Z s.E u0 T).run h) = dzB q d K V m T T h := fun h => by
    unfold dzB; rw [hm, ir, sZ' T (le_refl _), sE' T (le_refl _), ofTile_asTile, ofTile_asTile]
  have sV' : ∀ j : Fin 4, ∀ h, rows s.DV j h = if T - T ≤ j.val ∧ j.val ≤ T then addT (rows s0.DV j h) (halfW (wB q K m T j.val h)) (d h) else rows s0.DV j h := fun j h => by
    have := sV j.val j.isLt h
    rw [chunk_fin] at this
    exact this
  have iK' : ∀ j : Fin 4, ∀ h, rows (upN earlierM q K s.Z s.E u0 T).DK j h = if j.val < T then addT (rows u0.DK j h) (dzB q d K V m T j.val h) (q h) else rows u0.DK j h := fun j h => by
    have := iK j.val j.isLt h
    rw [chunk_fin] at this
    exact this
  clear_value s
  have hu : u = upStep earlierM q K s.Z s.E (some m) (chunk T) (upN earlierM q K s.Z s.E u0 T) := rfl
  clear_value u
  subst hu
  refine ⟨?_, ?_, ?_⟩
  · refine eq_ofRows (F := F) _ _ fun j h => ?_
    rw [sV']
    by_cases hc : j.val ≤ T
    · rw [if_pos hc, if_pos (by omega)]
    · rw [if_neg hc, if_neg (by omega)]
  · refine eq_ofRows (F := F) _ _ fun j h => ?_
    rw [rows_upK]
    by_cases e : j = chunk T
    · subst e
      rw [if_pos rfl, chunk_val T hT, if_pos (le_refl _), hd, iK', chunk_val T hT, if_neg (by omega)]
    · have hne : j.val ≠ T := fun h' => e (by rw [← chunk_fin j, h'])
      rw [if_neg e, iK']
      by_cases hc : j.val < T
      · rw [if_pos hc, if_pos (by omega)]
      · rw [if_neg hc, if_neg (by omega)]
  · intro h
    show addQ ((upN earlierM q K s.Z s.E u0 T).dq h) (dScore earlierM (some m) (ofTile (tile s.Z h (chunk T))) (ofTile (tile s.E h (chunk T))) ((upN earlierM q K s.Z s.E u0 T).run h)) (rows K (chunk T) h)
      = addQ (dqB q d K V m T T h) (dzB q d K V m T T h) (rows K (chunk T) h)
    rw [hd, iq]

end

end Cert.Proof.Sb

end
-- ==== Proof.Body.lean ====
/- The kernel's body at one point of the grid: what it leaves in the three output blocks. -/
module

public import proofs.«01_k».proof.Proof.Inv
public import proofs.«01_k».proof.Proof.Spec

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem off1_chunk : ∀ i : grid0.Coords, k0_off1 i = ![(chunk ((i 1).val / 4)).val * 512, (0 : Fin 3).val * 128] := by decide +kernel
theorem off3_chunk : ∀ i : grid0.Coords, k0_off3 i = ![(chunk ((i 1).val / 4)).val * 512, (1 : Fin 3).val * 128] := by decide +kernel
theorem off5_chunk : ∀ i : grid0.Coords, k0_off5 i = ![(chunk ((i 1).val / 4)).val * 512, (2 : Fin 3).val * 128] := by decide +kernel
theorem off2_chunk : ∀ i : grid0.Coords, k0_off2 i = ![(0 : Fin 3).val, (chunk ((i 1).val / 4)).val, 0, 0] := by decide +kernel
theorem off4_chunk : ∀ i : grid0.Coords, k0_off4 i = ![(1 : Fin 3).val, (chunk ((i 1).val / 4)).val, 0, 0] := by decide +kernel
theorem off6_chunk : ∀ i : grid0.Coords, k0_off6 i = ![(2 : Fin 3).val, (chunk ((i 1).val / 4)).val, 0, 0] := by decide +kernel

/-- The words the body computes the top chunk by. -/
def topW (i : grid0.Coords) : BitVec 32 :=
  let v0 : BitVec 32 := Scalar.muli (BitVec.ofNat 32 (i 1).val) 128#32
  let v1 : BitVec 32 := Scalar.divsi v0 512#32
  Scalar.select
    (Scalar.andi
      (Scalar.cmpi .ne (Scalar.subi (Scalar.extui (Scalar.cmpi .sgt v0 0#32)) (Scalar.extui (Scalar.cmpi .slt v0 0#32)) : BitVec 32)
        (Scalar.subi (Scalar.extui (Scalar.cmpi .sgt 512#32 0#32)) (Scalar.extui (Scalar.cmpi .slt 512#32 0#32))))
      (Scalar.cmpi .ne (Scalar.remsi v0 512#32) 0#32))
    (Scalar.subi v1 1#32) v1
/-- How far the first query of the block lies into the top chunk. -/
def limW (i : grid0.Coords) : BitVec 32 := Scalar.subi (Scalar.muli (BitVec.ofNat 32 (i 1).val) 128#32) (Scalar.muli (topW i) 512#32)
theorem limW_eq : ∀ i : grid0.Coords, limW i = BitVec.ofNat 32 ((i 1).val % 4 * 128) := by decide +kernel
theorem first_iff : ∀ i : grid0.Coords, (Scalar.cmpi .ne (Scalar.extui (Scalar.cmpi .eq (BitVec.ofNat 32 (i 1).val) 0#32) : BitVec 32) 0#32 = 1#1) ↔ (i 1).val = 0 := by decide +kernel

/-- The scaled queries of the three heads. -/
def qOf (x : Vec F S128x384 .f32) (h : Fin 3) : FVec F S128x128 .bf16 := scaleQ (cols x h)
/-- The gradient of the output of the three heads. -/
def dOf (x : Vec F S128x384 .f32) (h : Fin 3) : FVec F S128x128 .bf16 := half (cols x h)
/-- At the first query block the gradients of keys and values start from zero. -/
def startOf (i : grid0.Coords) (x : Vec F S2048x384 .f32) : Vec F S2048x384 .f32 :=
  if (i 1).val = 0 then broadcast S2048x384 (Scalar.ofBits .f32 0x00000000#32) else x

/-- A load of a head's columns of a block. -/
theorem cols_read {e : EltTy} (v : View sig .tc .vmem S128x384 e) (f : v.ty.Contents (Elt F)) {off : Fin 2 → ℕ} (inb : ∀ a, off a + S128x128.size a ≤ S128x384.size a)
    (h : Fin 3) (ho : off = ![0, h.val * 128]) :
    cols (v.read (Elt F) f) h = v.readAt (Elt F) (Rect.unit (s := S128x384) off S128x128.size inb).toLoadRect f :=
  (View.readAt_unit v f inb ho (cols_inb h)).symm
/-- Three stores of the heads' columns of a block. -/
theorem putCols_read {e : EltTy} (v : View sig .tc .vmem S128x384 e) (f : v.ty.Contents (Elt F)) {o0 o1 o2 : Fin 2 → ℕ} (i0 : ∀ a, o0 a + S128x128.size a ≤ S128x384.size a)
    (i1 : ∀ a, o1 a + S128x128.size a ≤ S128x384.size a) (i2 : ∀ a, o2 a + S128x128.size a ≤ S128x384.size a)
    (h0 : o0 = ![0, (0 : Fin 3).val * 128]) (h1 : o1 = ![0, (1 : Fin 3).val * 128]) (h2 : o2 = ![0, (2 : Fin 3).val * 128])
    (w0 w1 w2 : Vec F S128x128 e) (w : Fin 3 → Vec F S128x128 e) (e0 : w0 = w 0) (e1 : w1 = w 1) (e2 : w2 = w 2) :
    v.read (Elt F) (v.writes (Elt F) f [⟨Rect.unit (s := S128x384) o2 S128x128.size i2, w2⟩, ⟨Rect.unit (s := S128x384) o1 S128x128.size i1, w1⟩, ⟨Rect.unit (s := S128x384) o0 S128x128.size i0, w0⟩])
      = putCols (v.read (Elt F) f) w := by
  rw [View.read_writes_cons_put v f i2 w2 _ h2, View.read_writes_cons_put v f i1 w1 _ h1, View.read_writes_cons_put v f i0 w0 _ h0, View.writes_nil, e0, e1, e2]
  rfl

theorem down_eq {t t' : FVec F S128x128 .f32} {q q' d d' : Fin 3 → FVec F S128x128 .bf16} {K V : Vec F S2048x384 .bf16} {T n n' : ℕ} {s s' : Down F}
    {z e : Vec F S3x4x128x512 .f32} {x : Vec F S2048x384 .f32}
    (hz : z = (downN t q d K V T s n).Z) (he : e = (downN t q d K V T s n).E) (hx : x = (downN t q d K V T s n).DV)
    (ht : t = t') (hq : q = q') (hd : d = d') (hn : n = n') (hs : s = s') :
    z = (downN t' q' d' K V T s' n').Z ∧ e = (downN t' q' d' K V T s' n').E ∧ x = (downN t' q' d' K V T s' n').DV := by
  subst ht hq hd hn hs; exact ⟨hz, he, hx⟩
theorem up_eq {t t' : FVec F S128x128 .f32} {q q' : Fin 3 → FVec F S128x128 .bf16} {K : Vec F S2048x384 .bf16} {Z Z' E E' : Vec F S3x4x128x512 .f32} {n n' : ℕ} {s s' : Up F}
    {x : Vec F S2048x384 .f32} {a b : Fin 3 → _}
    (hx : x = (upN t q K Z E s n).DK) (ha : (upN t q K Z E s n).dq = a) (hb : (upN t q K Z E s n).run = b)
    (ht : t = t') (hq : q = q') (hn : n = n') (hz : Z = Z') (he : E = E') (hs : s = s') :
    Up.mk x a b = upN t' q' K Z' E' s' n' := by
  subst ht hq hn hs hz he; subst hx ha hb; rfl
theorem down_mk {z e : Vec F S3x4x128x512 .f32} {x : Vec F S2048x384 .f32} {r : Fin 3 → _} {s : Down F} (hz : z = s.Z) (he : e = s.E) (hx : x = s.DV) (hr : r = s.run) :
    Down.mk z e x r = s := by subst hz he hx hr; rfl
theorem up_mk {x : Vec F S2048x384 .f32} {a b : Fin 3 → _} {s : Up F} (hx : x = s.DK) (ha : a = s.dq) (hb : b = s.run) : Up.mk x a b = s := by
  subst hx ha hb; rfl

/-- The body at one point, from any contents: the inputs stay, the outputs' blocks are the functions of them that `Spec` states. -/
theorem body_run (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .f32) (harg5 : arg5.IsWhole) (arg6 : Memref sig .tc .vmem S128x384 .bf16) (harg6 : arg6.IsWhole) (arg7 : Memref sig .tc .vmem S2048x384 .f32) (harg7 : arg7.IsWhole) (arg8 : Memref sig .tc .vmem S2048x384 .f32) (harg8 : arg8.IsWhole) (arg9 : Memref sig .tc .vmem S3x4x128x512 .f32) (harg9 : arg9.IsWhole) (arg10 : Memref sig .tc .vmem S3x4x128x512 .f32) (harg10 : arg10.IsWhole)
    (G2 : Buf (Elt F) (arg2.view.loc (c : Thread nD τ))) (G3 : Buf (Elt F) (arg3.view.loc (c : Thread nD τ))) (G4 : Buf (Elt F) (arg4.view.loc (c : Thread nD τ))) (G5 : Buf (Elt F) (arg5.view.loc (c : Thread nD τ))) (G6 : Buf (Elt F) (arg6.view.loc (c : Thread nD τ))) (G7 : Buf (Elt F) (arg7.view.loc (c : Thread nD τ))) (G8 : Buf (Elt F) (arg8.view.loc (c : Thread nD τ))) (G9 : Buf (Elt F) (arg9.view.loc (c : Thread nD τ))) (G10 : Buf (Elt F) (arg10.view.loc (c : Thread nD τ))) :
    iprop(held c arg2 G2 ∗ held c arg3 G3 ∗ held c arg4 G4 ∗ held c arg5 G5 ∗ held c arg6 G6 ∗ held c arg7 G7 ∗ held c arg8 G8 ∗ held c arg9 G9 ∗ held c arg10 G10)
      ⊢ wp frame (wpE (defs₀ (F := F)) Variants.none (c : Thread nD τ) none) Set.univ
        (cc0_sb_bwd_skel (F := F) i arg2 harg2 arg3 harg3 arg4 harg4 arg5 harg5 arg6 harg6 arg7 harg7 arg8 harg8 arg9 harg9 arg10 harg10)
        (fun _ => iprop(held c arg2 G2 ∗ held c arg3 G3 ∗ held c arg4 G4 ∗ held c arg5 G5
          ∗ ∃ g6 g7 g8 g9 g10, held c arg6 g6 ∗ held c arg7 g7 ∗ held c arg8 g8 ∗ held c arg9 g9 ∗ held c arg10 g10
            ∗ ⌜let q := qOf (arg2.view.read (Elt F) G2)
               let d := dOf (arg5.view.read (Elt F) G5)
               let K := arg3.view.read (Elt F) G3
               let V := arg4.view.read (Elt F) G4
               arg6.view.read (Elt F) g6 = dqOut q d K V (keep (limW i)) ((i 1).val / 4)
               ∧ arg7.view.read (Elt F) g7 = dkOut q d K V (keep (limW i)) ((i 1).val / 4) (startOf i (arg7.view.read (Elt F) G7))
               ∧ arg8.view.read (Elt F) g8 = dvOut q d K (keep (limW i)) ((i 1).val / 4) (startOf i (arg8.view.read (Elt F) G8))⌝)) := by
  iintro ⟨H2, H3, H4, H5, H6, H7, H8, H9, H10⟩
  unfold cc0_sb_bwd_skel
  sl_exec
  sl_step
  iframe H2
  iframe H3
  iframe H4
  iframe H5
  iexists _, _, _, _, _
  iframe H6
  iframe H7
  iframe H8
  iframe H9
  iframe H10
  ipureintro
  rename_i accD accU
  have hq : ![body_run.sl.r c arg2 G2, body_run.sl.r_1 c arg2 G2, body_run.sl.r_2 c arg2 G2] = qOf (arg2.view.read (Elt F) G2) := by
    funext h
    match h with
    | 0 => unfold qOf; rw [cols_read _ G2 (off := ![0, 0]) (by decide) 0 rfl]; rfl
    | 1 => unfold qOf; rw [cols_read _ G2 (off := ![0, 128]) (by decide) 1 rfl]; rfl
    | 2 => unfold qOf; rw [cols_read _ G2 (off := ![0, 256]) (by decide) 2 rfl]; rfl
  have hd : ![body_run.sl.r_3 c arg5 G5, body_run.sl.r_4 c arg5 G5, body_run.sl.r_5 c arg5 G5] = dOf (arg5.view.read (Elt F) G5) := by
    funext h
    match h with
    | 0 => unfold dOf; rw [cols_read _ G5 (off := ![0, 0]) (by decide) 0 rfl]; rfl
    | 1 => unfold dOf; rw [cols_read _ G5 (off := ![0, 128]) (by decide) 1 rfl]; rfl
    | 2 => unfold dOf; rw [cols_read _ G5 (off := ![0, 256]) (by decide) 2 rfl]; rfl
  have hv : ∀ (v : View sig .tc .vmem S2048x384 .f32) (G : v.ty.Contents (Elt F)) (w : Vec F S2048x384 .f32), w = broadcast S2048x384 (Scalar.ofBits .f32 0x00000000#32) →
      v.read (Elt F) (if hc : body_run.sl.v20 i = 1#1 then
                  v.writes (Elt F) G [⟨Rect.unit ![0, 0] S2048x384.size inb_S2048x384_S2048x384_0_0, w⟩] else G) = startOf i (v.read (Elt F) G) := by
    intro v G w hw
    unfold startOf
    by_cases h : body_run.sl.v20 i = 1#1
    · rw [dif_pos h, if_pos ((first_iff i).1 h), View.read_writes_full, hw]
    · rw [dif_neg h, if_neg fun h' => h ((first_iff i).2 h')]
  have D := down_eq hL5 hL6 hL7 (t' := laterM) rfl hq hd (trips1 i) (s' := downStep laterM (qOf (arg2.view.read (Elt F) G2)) (dOf (arg5.view.read (Elt F) G5)) (arg3.view.read (Elt F) G3) (arg4.view.read (Elt F) G4) (some (keep (limW i))) (chunk ((i 1).val / 4))
    ⟨arg9.view.read (Elt F) G9, arg10.view.read (Elt F) G10, startOf i (arg8.view.read (Elt F) G8), fun _ => broadcast S128x1 (Scalar.ofBits .f32 0x00000000#32)⟩) (by
      refine down_mk ?_ ?_ ?_ ?_ <;> dsimp only [downStep]
      · refine putTiles_read _ _ _ _ _ _ (off2_chunk i) (off4_chunk i) (off6_chunk i) _ _ _ _ ?_ ?_ ?_
        · rw [← hq, rows_read _ G3 (k0_off1_inb i) _ 0 (off1_chunk i)]; rfl
        · rw [← hq, rows_read _ G3 (k0_off3_inb i) _ 1 (off3_chunk i)]; rfl
        · rw [← hq, rows_read _ G3 (k0_off5_inb i) _ 2 (off5_chunk i)]; rfl
      · refine putTiles_read _ _ _ _ _ _ (off2_chunk i) (off4_chunk i) (off6_chunk i) _ _ _ _ ?_ ?_ ?_
        · rw [← hq, ← hd, rows_read _ G3 (k0_off1_inb i) _ 0 (off1_chunk i), rows_read _ G4 (k0_off1_inb i) _ 0 (off1_chunk i)]; rfl
        · rw [← hq, ← hd, rows_read _ G3 (k0_off3_inb i) _ 1 (off3_chunk i), rows_read _ G4 (k0_off3_inb i) _ 1 (off3_chunk i)]; rfl
        · rw [← hq, ← hd, rows_read _ G3 (k0_off5_inb i) _ 2 (off5_chunk i), rows_read _ G4 (k0_off5_inb i) _ 2 (off5_chunk i)]; rfl
      · refine (putRows_read _ _ _ _ _ _ (off1_chunk i) (off3_chunk i) (off5_chunk i) _ _ _ (fun h => addT (rows (startOf i (arg8.view.read (Elt F) G8)) (chunk ((i 1).val / 4)) h) (halfW (weight laterM (some (keep (limW i))) (score (qOf (arg2.view.read (Elt F) G2) h) (rows (arg3.view.read (Elt F) G3) (chunk ((i 1).val / 4)) h)) (broadcast S128x1 (Scalar.ofBits .f32 0x00000000#32)))) (dOf (arg5.view.read (Elt F) G5) h)) ?_ ?_ ?_).trans ?_
        · rw [← hq, ← hd, rows_read _ G3 (k0_off1_inb i) _ 0 (off1_chunk i), ← hv arg8.view G8 k0_pay173 rfl, rows_read arg8.view _ (k0_off1_inb i) _ 0 (off1_chunk i)]; rfl
        · rw [← hq, ← hd, rows_read _ G3 (k0_off3_inb i) _ 1 (off3_chunk i), ← hv arg8.view G8 k0_pay173 rfl, rows_read arg8.view _ (k0_off3_inb i) _ 1 (off3_chunk i)]; rfl
        · rw [← hq, ← hd, rows_read _ G3 (k0_off5_inb i) _ 2 (off5_chunk i), ← hv arg8.view G8 k0_pay173 rfl, rows_read arg8.view _ (k0_off5_inb i) _ 2 (off5_chunk i)]; rfl
        · rw [hv arg8.view G8 k0_pay173 rfl]
      · funext h
        match h with
        | 0 => rw [← hq, rows_read _ G3 (k0_off1_inb i) _ 0 (off1_chunk i)]; rfl
        | 1 => rw [← hq, rows_read _ G3 (k0_off3_inb i) _ 1 (off3_chunk i)]; rfl
        | 2 => rw [← hq, rows_read _ G3 (k0_off5_inb i) _ 2 (off5_chunk i)]; rfl)
  have U := up_eq hL14 hL15 hL16 (t' := earlierM) rfl hq (trips3 i) D.1 D.2.1 (s' := ⟨startOf i (arg7.view.read (Elt F) G7),
      fun _ => broadcast S128x128 (Scalar.ofBits .f32 0x00000000#32), fun _ => broadcast S128x1 (Scalar.ofBits .f32 0x00000000#32)⟩) (by
      refine up_mk (hv arg7.view G7 k0_pay172 rfl) ?_ ?_
      all_goals
        funext h
        match h with
        | 0 => rfl
        | 1 => rfl
        | 2 => rfl)
  have O := out_spec (qOf (arg2.view.read (Elt F) G2)) (dOf (arg5.view.read (Elt F) G5)) (arg3.view.read (Elt F) G3) (arg4.view.read (Elt F) G4) (keep (limW i)) ((i 1).val / 4)
    (by have := (i 1).isLt; change (i 1).val < 16 at this; omega)
    ⟨arg9.view.read (Elt F) G9, arg10.view.read (Elt F) G10, startOf i (arg8.view.read (Elt F) G8), fun _ => broadcast S128x1 (Scalar.ofBits .f32 0x00000000#32)⟩
    ⟨startOf i (arg7.view.read (Elt F) G7), fun _ => broadcast S128x128 (Scalar.ofBits .f32 0x00000000#32), fun _ => broadcast S128x1 (Scalar.ofBits .f32 0x00000000#32)⟩ rfl rfl rfl
  dsimp only at O
  rw [← U, ← D.1, ← D.2.1, ← D.2.2] at O
  refine ⟨?_, ?_, O.1⟩
  · refine (putCols_read _ _ _ _ _ rfl rfl rfl _ _ _ (fun h => outQ (dqB (qOf (arg2.view.read (Elt F) G2)) (dOf (arg5.view.read (Elt F) G5)) (arg3.view.read (Elt F) G3) (arg4.view.read (Elt F) G4) (keep (limW i)) ((i 1).val / 4) ((i 1).val / 4 + 1) h)) ?_ ?_ ?_).trans ?_
    · rw [← O.2.2 0]; dsimp only [upStep]; rw [rows_read arg3.view G3 (k0_off1_inb i) _ 0 (off1_chunk i), tile_read arg9.view g9L1 (k0_off2_inb i) 0 _ (off2_chunk i), tile_read arg10.view g10L2 (k0_off2_inb i) 0 _ (off2_chunk i)]; rfl
    · rw [← O.2.2 1]; dsimp only [upStep]; rw [rows_read arg3.view G3 (k0_off3_inb i) _ 1 (off3_chunk i), tile_read arg9.view g9L1 (k0_off4_inb i) 1 _ (off4_chunk i), tile_read arg10.view g10L2 (k0_off4_inb i) 1 _ (off4_chunk i)]; rfl
    · rw [← O.2.2 2]; dsimp only [upStep]; rw [rows_read arg3.view G3 (k0_off5_inb i) _ 2 (off5_chunk i), tile_read arg9.view g9L1 (k0_off6_inb i) 2 _ (off6_chunk i), tile_read arg10.view g10L2 (k0_off6_inb i) 2 _ (off6_chunk i)]; rfl
    · exact eq_ofCols _ _ (cols_putCols _ _)
  · refine Eq.trans ?_ O.2.1
    dsimp only [upStep]
    refine putRows_read _ _ _ _ _ _ (off1_chunk i) (off3_chunk i) (off5_chunk i) _ _ _ _ ?_ ?_ ?_
    · rw [← hq, rows_read arg7.view g7L3 (k0_off1_inb i) _ 0 (off1_chunk i), tile_read arg9.view g9L1 (k0_off2_inb i) 0 _ (off2_chunk i), tile_read arg10.view g10L2 (k0_off2_inb i) 0 _ (off2_chunk i)]; rfl
    · rw [← hq, rows_read arg7.view g7L3 (k0_off3_inb i) _ 1 (off3_chunk i), tile_read arg9.view g9L1 (k0_off4_inb i) 1 _ (off4_chunk i), tile_read arg10.view g10L2 (k0_off4_inb i) 1 _ (off4_chunk i)]; rfl
    · rw [← hq, rows_read arg7.view g7L3 (k0_off5_inb i) _ 2 (off5_chunk i), tile_read arg9.view g9L1 (k0_off6_inb i) 2 _ (off6_chunk i), tile_read arg10.view g10L2 (k0_off6_inb i) 2 _ (off6_chunk i)]; rfl

end Cert.Proof.Sb

end
-- ==== Proof.Run.lean ====
/- The run of the kernel's call: what every staging buffer holds at every point of the grid, and the launch. -/
module

public import proofs.«01_k».proof.Proof.Body
public import Idealize.ShloMosaic.Lib.Claim

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

/-- The number of the chunk that holds the queries of the point's block. -/
abbrev top (i : grid0.Coords) : ℕ := (i 1).val / 4

/-- The point's block of the queries' gradient. -/
def outDq (i : grid0.Coords) (q : Vec F S128x384 .f32) (K V : Vec F S2048x384 .bf16) (d : Vec F S128x384 .f32) : Vec F S128x384 .bf16 :=
  dqOut (qOf q) (dOf d) K V (keep (limW i)) (top i)
/-- The keys' gradient after the point, from the one before it. -/
def outDk (i : grid0.Coords) (q : Vec F S128x384 .f32) (K V : Vec F S2048x384 .bf16) (d : Vec F S128x384 .f32) (x : Vec F S2048x384 .f32) : Vec F S2048x384 .f32 :=
  dkOut (qOf q) (dOf d) K V (keep (limW i)) (top i) (startOf i x)
/-- The values' gradient after the point, from the one before it. -/
def outDv (i : grid0.Coords) (q : Vec F S128x384 .f32) (K : Vec F S2048x384 .bf16) (d : Vec F S128x384 .f32) (x : Vec F S2048x384 .f32) : Vec F S2048x384 .f32 :=
  dvOut (qOf q) (dOf d) K (keep (limW i)) (top i) (startOf i x)

/-- The body at one point: from the inputs' blocks and whatever the outputs and the scratch arrays hold. -/
theorem sound_kernel (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .f32) (harg5 : arg5.IsWhole) (arg6 : Memref sig .tc .vmem S128x384 .bf16) (harg6 : arg6.IsWhole) (arg7 : Memref sig .tc .vmem S2048x384 .f32) (harg7 : arg7.IsWhole) (arg8 : Memref sig .tc .vmem S2048x384 .f32) (harg8 : arg8.IsWhole) (arg9 : Memref sig .tc .vmem S3x4x128x512 .f32) (harg9 : arg9.IsWhole) (arg10 : Memref sig .tc .vmem S3x4x128x512 .f32) (harg10 : arg10.IsWhole)
    (x2 : Vec F S128x384 .f32) (x3 x4 : Vec F S2048x384 .bf16) (x5 : Vec F S128x384 .f32) (x7 x8 : Vec F S2048x384 .f32) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare x7 ∗ owns (c : Thread nD τ) arg8 fullShare x8
        ∗ (∃ f, held c arg9 f) ∗ (∃ f, held c arg10 f))
      ⊢ wp frame (wpE (defs₀ (F := F)) Variants.none (c : Thread nD τ) none) Set.univ
        (cc0_sb_bwd (F := F) i arg2 harg2 arg3 harg3 arg4 harg4 arg5 harg5 arg6 harg6 arg7 harg7 arg8 harg8 arg9 harg9 arg10 harg10)
        (fun _ => iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (outDq i x2 x3 x4 x5) ∗ owns (c : Thread nD τ) arg7 fullShare (outDk i x2 x3 x4 x5 x7) ∗ owns (c : Thread nD τ) arg8 fullShare (outDv i x2 x3 x5 x8)
        ∗ (∃ f, held c arg9 f) ∗ (∃ f, held c arg10 f))) := by
  rw [cc0_sb_bwd_eq_skeleton]
  unfold owns
  iintro ⟨⟨%f2, %h2, H2⟩, ⟨%f3, %h3, H3⟩, ⟨%f4, %h4, H4⟩, ⟨%f5, %h5, H5⟩, ⟨%d6, %f6, -, H6⟩, ⟨%f7, %h7, H7⟩, ⟨%f8, %h8, H8⟩, ⟨%f9, H9⟩, ⟨%f10, H10⟩⟩
  subst h2 h3 h4 h5 h7 h8
  ihave Hw := (body_run c i arg2 harg2 arg3 harg3 arg4 harg4 arg5 harg5 arg6 harg6 arg7 harg7 arg8 harg8 arg9 harg9 arg10 harg10 (G2 := f2) (G3 := f3) (G4 := f4) (G5 := f5) (G6 := f6) (G7 := f7) (G8 := f8) (G9 := f9) (G10 := f10)) $$ [H2 H3 H4 H5 H6 H7 H8 H9 H10]
  · iframe
  iapply wp_wand $$ Hw
  iintro %_ ⟨H2, H3, H4, H5, %g6, %g7, %g8, %g9, %g10, H6, H7, H8, H9, H10, %hg⟩
  obtain ⟨e6, e7, e8⟩ := hg
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists g6; isplitr; · ipureintro; exact e6
    iexact H6
  isplitl [H7]
  · iexists g7; isplitr; · ipureintro; exact e7
    iexact H7
  isplitl [H8]
  · iexists g8; isplitr; · ipureintro; exact e8
    iexact H8
  isplitl [H9]
  · iexists g9; iexact H9
  iexists g10; iexact H10

/-! ## What the buffers hold, point by point -/

variable (m : (ℓ : Loc nD τ sig) → Buf (Elt F) ℓ) (ρ : Dev nD → PrngReg)

/-- The queries' block at a point. -/
abbrev qAt (c : Dev nD) (t : Fin cfg0.N) : Vec F S128x384 .f32 := iblk m c 0 t
/-- The keys at a point. -/
abbrev kAt (c : Dev nD) (t : Fin cfg0.N) : Vec F S2048x384 .bf16 := iblk m c 1 t
/-- The values at a point. -/
abbrev vAt (c : Dev nD) (t : Fin cfg0.N) : Vec F S2048x384 .bf16 := iblk m c 2 t
/-- The gradient of the output at a point. -/
abbrev dAt (c : Dev nD) (t : Fin cfg0.N) : Vec F S128x384 .f32 := iblk m c 3 t

/-- The keys' gradient after point `n`. -/
def dkAt (c : Dev nD) : (n : ℕ) → n < cfg0.N → Vec F S2048x384 .f32
  | 0, h => outDk (grid0.coords ⟨0, h⟩) (qAt m c ⟨0, h⟩) (kAt m c ⟨0, h⟩) (vAt m c ⟨0, h⟩) (dAt m c ⟨0, h⟩) (broadcast S2048x384 (Scalar.ofBits .f32 0x00000000#32))
  | n + 1, h => outDk (grid0.coords ⟨n + 1, h⟩) (qAt m c ⟨n + 1, h⟩) (kAt m c ⟨n + 1, h⟩) (vAt m c ⟨n + 1, h⟩) (dAt m c ⟨n + 1, h⟩) (dkAt c n (Nat.lt_of_succ_lt h))
/-- The values' gradient after point `n`. -/
def dvAt (c : Dev nD) : (n : ℕ) → n < cfg0.N → Vec F S2048x384 .f32
  | 0, h => outDv (grid0.coords ⟨0, h⟩) (qAt m c ⟨0, h⟩) (kAt m c ⟨0, h⟩) (dAt m c ⟨0, h⟩) (broadcast S2048x384 (Scalar.ofBits .f32 0x00000000#32))
  | n + 1, h => outDv (grid0.coords ⟨n + 1, h⟩) (qAt m c ⟨n + 1, h⟩) (kAt m c ⟨n + 1, h⟩) (dAt m c ⟨n + 1, h⟩) (dvAt c n (Nat.lt_of_succ_lt h))

/-- The proof data of the pipeline: the arrays as the call finds them, and what the body leaves in every window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outDq (grid0.coords t) (qAt m c t) (kAt m c t) (vAt m c t) (dAt m c t)
    | ⟨5, _⟩ => dkAt m c t.val t.isLt
    | ⟨6, _⟩ => dvAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outDq (grid0.coords t) (qAt m c t) (kAt m c t) (vAt m c t) (dAt m c t) := by dsimp only [dats]
theorem after0_5 (c : Dev nD) (t : Fin cfg0.N) : (dats m 0 c).after 5 t = dkAt m c t.val t.isLt := by dsimp only [dats]
theorem after0_6 (c : Dev nD) (t : Fin cfg0.N) : (dats m 0 c).after 6 t = dvAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem coords_one : ∀ t : Fin grid0.N, (grid0.coords t 1).val = t.val % 16 := by decide +kernel
theorem coords_zero : ∀ t : Fin grid0.N, (grid0.coords t 0).val = t.val / 16 := by decide +kernel

theorem startOf_first {t : Fin cfg0.N} (h : t.val % 16 = 0) (x y : Vec F S2048x384 .f32) : startOf (grid0.coords t) x = startOf (grid0.coords t) y := by
  unfold startOf
  rw [if_pos ((coords_one t).trans h), if_pos ((coords_one t).trans h)]

/-- The keys' gradient after a point is one step from what the body finds. -/
theorem dk_step (c : Dev nD) (t : Fin cfg0.N) (d) :
    outDk (grid0.coords t) (qAt m c t) (kAt m c t) (vAt m c t) (dAt m c t) ((dats m 0 c).before 5 t d) = dkAt m c t.val t.isLt := by
  obtain ⟨n, hn⟩ := t
  cases n with
  | zero => unfold outDk dkAt outDk; rw [startOf_first (t := ⟨0, hn⟩) rfl]
  | succ n =>
    rw [dkAt]
    unfold outDk
    by_cases h : (n + 1) % 16 = 0
    · rw [startOf_first (t := ⟨n + 1, hn⟩) h]
    · rw [(dats m 0 c).before_out_kept 5 rfl ⟨n + 1, hn⟩ (Nat.succ_ne_zero n) (by
        refine Bool.eq_false_iff.2 fun hf => ?_
        have := (flush0_5 _).1 hf
        dsimp only at this; omega) (fun _ => rfl) (fun _ _ => rfl) d, after0_5]
      rfl
/-- The values' gradient after a point is one step from what the body finds. -/
theorem dv_step (c : Dev nD) (t : Fin cfg0.N) (d) :
    outDv (grid0.coords t) (qAt m c t) (kAt m c t) (dAt m c t) ((dats m 0 c).before 6 t d) = dvAt m c t.val t.isLt := by
  obtain ⟨n, hn⟩ := t
  cases n with
  | zero => unfold outDv dvAt outDv; rw [startOf_first (t := ⟨0, hn⟩) rfl]
  | succ n =>
    rw [dvAt]
    unfold outDv
    by_cases h : (n + 1) % 16 = 0
    · rw [startOf_first (t := ⟨n + 1, hn⟩) h]
    · rw [(dats m 0 c).before_out_kept 6 rfl ⟨n + 1, hn⟩ (Nat.succ_ne_zero n) (by
        refine Bool.eq_false_iff.2 fun hf => ?_
        have := (flush0_6 _).1 hf
        dsimp only at this; omega) (fun _ => rfl) (fun _ _ => rfl) d, after0_6]
      rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem held_whole (c : Dev nD) (b : Ref sig .tc) (f : Buf (Elt F) ((c : Thread nD τ).loc b)) :
    ((c : Thread nD τ).loc b ↦{fullShare} f : sProp 𝕄) = held c (Memref.whole b) f := by
  exact congrArg (fun S => (((c : Thread nD τ).loc b) ↦[S]{fullShare} f : sProp 𝕄)) (View.set_whole b).symm

/-- The body at any point takes the buffers from what it finds to what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  unfold Pipeline.ΦA
  rw [scopedRest0_eq]
  iintro ⟨⟨⟨⟨%g9, H9⟩, %g10, H10⟩, Hr⟩, Ho, ⟨%d0, H0⟩, ⟨%d1, H1⟩, ⟨%d2, H2⟩, ⟨%d3, H3⟩, ⟨%d4, H4⟩, ⟨%d5, H5⟩, ⟨%d6, H6⟩⟩
  rw [← dk_step m c t d5, ← dv_step m c t d6]
  ihave Hw := (sound_kernel c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _)
    (iblk m c 0 t) (iblk m c 1 t) (iblk m c 2 t) (iblk m c 3 t) ((dats m 0 c).before 5 t d5) ((dats m 0 c).before 6 t d6)) $$ [H0 H1 H2 H3 H4 H5 H6 H9 H10]
  · isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H9]; · iexists g9; rw [← held_whole]; iexact H9
    iexists g10; rw [← held_whole]; iexact H10
  iapply wp_wand $$ Hw
  iintro %_ ⟨H0, H1, H2, H3, H4, H5, H6, ⟨%g9', H9⟩, ⟨%g10', H10⟩⟩
  isplitl [H9 H10 Hr]
  · isplitl [H9 H10]
    · isplitl [H9]; · iexists g9'; rw [held_whole]; iexact H9
      iexists g10'; rw [held_whole]; iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Sb

end
-- ==== Proof.Real.lean ====
/- Operations on extended reals that are real: each is the operation on the reals. -/
module

public import Idealize.ShloMosaic.Lib.Pointwise
public import Idealize.ShloMosaic.Lib.IdealHost

@[expose] public section

noncomputable section

namespace Cert.Proof.Sb

open Idealize.ShloMosaic

/-- The logarithm of `1 + eˣ`. -/
def softplus (x : ℝ) : ℝ := max x 0 + Real.log (1 + Real.exp (-|x|))
/-- The logarithm of the sigmoid. -/
def logSigR (x : ℝ) : ℝ := -softplus (-x)
/-- The sigmoid. -/
def sigR (x : ℝ) : ℝ := 1 / (1 + Real.exp (-x))

theorem coe_max' (a b : ℝ) : max (a : EReal) (b : EReal) = ((max a b : ℝ) : EReal) := (EReal.coe_strictMono.monotone.map_max).symm
theorem coe_abs' (a : ℝ) : max (a : EReal) (-(a : EReal)) = ((|a| : ℝ) : EReal) := by
  rw [← EReal.coe_neg, coe_max']; rfl
theorem coe_exp' (a : ℝ) : Ideal.exp (a : EReal) = ((Real.exp a : ℝ) : EReal) := rfl
theorem coe_log1p' (a : ℝ) (h : 0 ≤ a) : Ideal.log1p (a : EReal) = ((Real.log (1 + a) : ℝ) : EReal) := by
  unfold Ideal.log1p
  rw [← EReal.coe_one, ← EReal.coe_add]
  show (if 1 + a ≤ 0 then ⊥ else ((Real.log (1 + a) : ℝ) : EReal)) = _
  rw [if_neg (by linarith)]
theorem coe_sum' {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]
theorem coe_logistic' (a : ℝ) : Ideal.logistic (a : EReal) = ((sigR a : ℝ) : EReal) := by
  unfold Ideal.logistic sigR Ideal.div
  rw [← EReal.coe_neg, coe_exp', ← EReal.coe_one, ← EReal.coe_add, if_neg (by
    rw [← EReal.coe_zero]; intro h
    have := EReal.coe_eq_coe_iff.1 h
    have := Real.exp_pos (-a); linarith), one_div, EReal.coe_inv, EReal.coe_one, one_mul]

/-- The logarithm of the sigmoid less the argument is the logarithm of the sigmoid of the argument's negative. -/
theorem logSigR_sub (x : ℝ) : logSigR x - x = -softplus x := by
  unfold logSigR softplus
  rw [abs_neg]
  rcases le_total x 0 with h | h
  · rw [max_eq_left (by linarith : (0 : ℝ) ≤ -x), max_eq_right h]; ring
  · rw [max_eq_right (by linarith : -x ≤ (0 : ℝ)), max_eq_left h]; ring

theorem one_add_exp_abs (x : ℝ) : 0 < 1 + Real.exp (-|x|) := by have := Real.exp_pos (-|x|); linarith

/-- The derivative of `softplus`. -/
theorem exp_sub_softplus (x : ℝ) : Real.exp (x - softplus x) = sigR x := by
  unfold softplus sigR
  rcases le_total x 0 with h | h
  · rw [max_eq_right h, abs_of_nonpos h, neg_neg, zero_add, Real.exp_sub, Real.exp_log (by have := Real.exp_pos x; linarith), Real.exp_neg]
    have := Real.exp_pos x
    field_simp
    ring
  · rw [max_eq_left h, abs_of_nonneg h, show x - (x + Real.log (1 + Real.exp (-x))) = -Real.log (1 + Real.exp (-x)) by ring, Real.exp_neg,
      Real.exp_log (by have := Real.exp_pos (-x); linarith), one_div]
theorem sigR_neg (x : ℝ) : sigR (-x) = 1 - sigR x := by
  unfold sigR
  rw [neg_neg, Real.exp_neg]
  have := Real.exp_pos x
  field_simp
  ring

/-- The word `w`'s value is real. -/
theorem ofBits_scale : ∃ s : ℝ, Ideal.ofBits .f32 0x3DB504F3#32 = (s : EReal) := by
  unfold Ideal.ofBits Ideal.ieee
  dsimp only
  rw [if_neg (by decide), if_neg (by decide)]
  exact ⟨_, rfl⟩

end Cert.Proof.Sb

end
-- ==== Proof.Lanes.lean ====
/- The operations of one chunk on blocks whose elements are real: each block is given by a function of the row and of the
   column, and each operation by the function of its result. -/
module

public import proofs.«01_k».proof.Proof.Spec
public import proofs.«01_k».proof.Proof.Real
public import Idealize.ShloMosaic.Lib.WordCmp

@[expose] public section

set_option maxRecDepth 16384

noncomputable section

namespace Cert.Proof.Sb

open Cert.KernelIdeal Cert.KernelIdeal.Gen
open Idealize.ShloMosaic Idealize.ShloMosaic.Tactic Idealize.ShloMosaic.WordCmp

/-- The block's elements are the reals that `f` gives. -/
def Is {n k : ℕ} {φ : FTy} (x : FVec Ideal ⟨2, ![n, k]⟩ φ) (f : ℕ → ℕ → ℝ) : Prop :=
  ∀ (r : Fin n) (l : Fin k), x (ix2 r l) = ((f r.val l.val : ℝ) : EReal)

theorem Is.congr {n k : ℕ} {φ : FTy} {x : FVec Ideal ⟨2, ![n, k]⟩ φ} {f g : ℕ → ℕ → ℝ} (h : Is x f) (e : ∀ r l, r < n → l < k → f r l = g r l) : Is x g :=
  fun r l => by rw [h r l, e _ _ r.isLt l.isLt]

theorem sum_fin_coe {K : ℕ} (f : ℕ → ℝ) : (∑ k : Fin K, ((f k.val : ℝ) : EReal)) = ((∑ k ∈ Finset.range K, f k : ℝ) : EReal) := by
  rw [coe_sum', Finset.sum_range]

theorem is_zero {n k : ℕ} {φ : FTy} {x : FVec Ideal ⟨2, ![n, k]⟩ φ} (h : ∀ i, x i = 0) : Is x (fun _ _ => 0) := fun _ _ => by rw [h]; exact EReal.coe_zero.symm

theorem is_score {q : FVec Ideal S128x128 .bf16} {k : Vec Ideal S512x128 .bf16} {f g : ℕ → ℕ → ℝ} (hq : Is q f) (hk : Is (φ := .bf16) k g) :
    Is (score q k) (fun r l => ∑ d ∈ Finset.range 128, f r d * g l d) := fun r l => by
  pointwise [score]
  simp only [hq _ _, hk _ _, ← EReal.coe_mul]
  rw [sum_fin_coe (fun d => f r.val d * g l.val d)]

theorem is_logSig {z : FVec Ideal S128x512 .f32} {f : ℕ → ℕ → ℝ} (hz : Is z f) : Is (logSig z) (fun r l => logSigR (f r l)) := fun r l => by
  pointwise [logSig]
  rw [hz r l, if_neg (fun h => h rfl), Ideal.absf_def, ← EReal.coe_zero, ← EReal.coe_sub, coe_abs', ← EReal.coe_sub, coe_exp', coe_log1p' _ (Real.exp_pos _).le, coe_max',
    ← EReal.coe_add, ← EReal.coe_sub]
  unfold logSigR softplus
  simp only [zero_sub]

theorem is_slab0 {x : FVec Ideal S128x512 .f32} {f : ℕ → ℕ → ℝ} (h : Is x f) : Is (slab0 x) (fun r l => f r l) := fun r l => by
  pointwise [slab0]
  exact h _ _
theorem is_slab1 {x : FVec Ideal S128x512 .f32} {f : ℕ → ℕ → ℝ} (h : Is x f) : Is (slab1 x) (fun r l => f r (128 + l)) := fun r l => by
  pointwise [slab1]
  exact h _ _
theorem is_slab2 {x : FVec Ideal S128x512 .f32} {f : ℕ → ℕ → ℝ} (h : Is x f) : Is (slab2 x) (fun r l => f r (256 + l)) := fun r l => by
  pointwise [slab2]
  exact h _ _
theorem is_slab3 {x : FVec Ideal S128x512 .f32} {f : ℕ → ℕ → ℝ} (h : Is x f) : Is (slab3 x) (fun r l => f r (384 + l)) := fun r l => by
  pointwise [slab3]
  exact h _ _

theorem is_rowSum {x : FVec Ideal S128x128 .f32} {f : ℕ → ℕ → ℝ} (h : Is x f) : Is (rowSum x) (fun r _ => ∑ l ∈ Finset.range 128, f r l) := fun r l => by
  pointwise [rowSum]
  simp only [h _ _]
  exact sum_fin_coe (fun l => f r.val l)

theorem flag_val (p : Prop) [Decidable p] : FloatOps.sitofp (F := Ideal) FTy.f32 (BitVec.setWidth 32 (BitVec.ofBool (decide p))) = (((if p then 1 else 0 : ℝ) : ℝ) : EReal) := by
  by_cases h : p
  · rw [if_pos h, decide_eq_true h]
    show (((BitVec.setWidth 32 (BitVec.ofBool true)).toInt : ℝ) : EReal) = _
    have : (BitVec.setWidth 32 (BitVec.ofBool true)).toInt = 1 := by decide
    rw [this]; norm_num
  · rw [if_neg h, decide_eq_false h]
    show (((BitVec.setWidth 32 (BitVec.ofBool false)).toInt : ℝ) : EReal) = _
    have : (BitVec.setWidth 32 (BitVec.ofBool false)).toInt = 0 := by decide
    rw [this]; norm_num

theorem is_laterM : Is (laterM (F := Ideal)) (fun k l => if l < k then 1 else 0) := fun r l => by
  pointwise [laterM]
  rw [← flag_val]
  have hr := r.isLt
  have hl := l.isLt
  rw [cmpi_sgt_ofNat (by norm_num; omega) (by norm_num; omega)]
theorem is_earlierM : Is (earlierM (F := Ideal)) (fun k l => if k < l then 1 else 0) := fun r l => by
  pointwise [earlierM]
  rw [← flag_val]
  have hr := r.isLt
  have hl := l.isLt
  rw [cmpi_slt_ofNat (by norm_num; omega) (by norm_num; omega)]

theorem is_part {t x : FVec Ideal S128x128 .f32} {ρ : FVec Ideal S128x1 .f32} {f g p : ℕ → ℕ → ℝ} (ht : Is t g) (hx : Is x f) (hr : Is ρ p) :
    Is (part t x ρ) (fun r l => (∑ k ∈ Finset.range 128, f r k * g k l) + p r 0) := fun r l => by
  pointwise [part]
  simp only [ht _ _, hx _ _, hr _ _, ← EReal.coe_mul]
  rw [sum_fin_coe (fun k => f r.val k * g k l.val), ← EReal.coe_add]
  rfl
theorem is_add {n k : ℕ} {x y : FVec Ideal ⟨2, ![n, k]⟩ .f32} {f g : ℕ → ℕ → ℝ} (hx : Is x f) (hy : Is y g) : Is (addf x y) (fun r l => f r l + g r l) := fun r l => by
  pointwise
  rw [hx r l, hy r l, EReal.coe_add]
theorem is_sub {n k : ℕ} {x y : FVec Ideal ⟨2, ![n, k]⟩ .f32} {f g : ℕ → ℕ → ℝ} (hx : Is x f) (hy : Is y g) : Is (subf x y) (fun r l => f r l - g r l) := fun r l => by
  pointwise
  rw [hx r l, hy r l, EReal.coe_sub]
theorem is_mul {n k : ℕ} {x y : FVec Ideal ⟨2, ![n, k]⟩ .f32} {f g : ℕ → ℕ → ℝ} (hx : Is x f) (hy : Is y g) : Is (mulf x y) (fun r l => f r l * g r l) := fun r l => by
  pointwise
  rw [hx r l, hy r l, EReal.coe_mul]
theorem is_exp {n k : ℕ} {x : FVec Ideal ⟨2, ![n, k]⟩ .f32} {f : ℕ → ℕ → ℝ} (hx : Is x f) : Is (exp x) (fun r l => Real.exp (f r l)) := fun r l => by
  pointwise
  rw [hx r l, coe_exp']
theorem is_logistic {n k : ℕ} {x : FVec Ideal ⟨2, ![n, k]⟩ .f32} {f : ℕ → ℕ → ℝ} (hx : Is x f) : Is (logistic x) (fun r l => sigR (f r l)) := fun r l => by
  pointwise
  rw [hx r l, coe_logistic']
theorem is_half {x : FVec Ideal S128x512 .f32} {f : ℕ → ℕ → ℝ} (hx : Is x f) : Is (halfW x) f := hx

theorem is_glue {a b c d : FVec Ideal S128x128 .f32} {f : ℕ → ℕ → ℝ} (ha : Is a (fun r l => f r l)) (hb : Is b (fun r l => f r (128 + l)))
    (hc : Is c (fun r l => f r (256 + l))) (hd : Is d (fun r l => f r (384 + l))) : Is (glue a b c d) f := fun r l => by
  pointwise [glue]
  have hl := l.isLt
  split
  · exact ha _ _
  split
  · rw [hb]; exact congrArg (fun k => ((f r.val k : ℝ) : EReal)) (show 128 + (l.val - 128) = l.val by omega)
  split
  · rw [hc]; exact congrArg (fun k => ((f r.val k : ℝ) : EReal)) (show 256 + (l.val - 128 - 128) = l.val by omega)
  · rw [hd]; exact congrArg (fun k => ((f r.val k : ℝ) : EReal)) (show 384 + (l.val - 128 - 128 - 128) = l.val by omega)
theorem is_addT {old : Vec Ideal S512x128 .f32} {a : FVec Ideal S128x512 .bf16} {b : FVec Ideal S128x128 .bf16} {o f g : ℕ → ℕ → ℝ} (ho : Is (φ := .f32) old o) (ha : Is a f) (hb : Is b g) :
    Is (addT old a b) (fun r l => o r l + ∑ k ∈ Finset.range 128, f k r * g k l) := fun r l => by
  pointwise [addT]
  simp only [ha _ _, hb _ _, ← EReal.coe_mul]
  rw [ho r l, sum_fin_coe (fun k => f k r.val * g k l.val), ← EReal.coe_add]
theorem is_addQ {dq : FVec Ideal S128x128 .f32} {d : FVec Ideal S128x512 .bf16} {k : Vec Ideal S512x128 .bf16} {o f g : ℕ → ℕ → ℝ} (ho : Is dq o) (hd : Is d f) (hk : Is (φ := .bf16) k g) :
    Is (addQ dq d k) (fun r l => o r l + ∑ s ∈ Finset.range 512, f r s * g s l) := fun r l => by
  pointwise [addQ]
  simp only [hd _ _, hk _ _, ← EReal.coe_mul]
  rw [ho r l, sum_fin_coe (fun s => f r.val s * g s l.val), ← EReal.coe_add]
theorem is_outQ {s : ℝ} (hs : Ideal.ofBits .f32 0x3DB504F3#32 = (s : EReal)) {dq : FVec Ideal S128x128 .f32} {f : ℕ → ℕ → ℝ} (h : Is dq f) : Is (outQ dq) (fun r l => f r l * s) := fun r l => by
  pointwise [outQ]
  rw [hs, h r l, ← EReal.coe_mul]

/-- A mask keeps a block's elements where `p` holds. -/
def Keeps (m : Option (IVec S128x512 1)) (p : ℕ → ℕ → Prop) : Prop :=
  match m with
  | none => ∀ r l, r < 128 → l < 512 → p r l
  | some k => ∀ (r : Fin 128) (l : Fin 512), k (ix2 r l) = 1#1 ↔ p r.val l.val

theorem is_masked {m : Option (IVec S128x512 1)} {p : ℕ → ℕ → Prop} [∀ r l, Decidable (p r l)] (hm : Keeps m p) {x : FVec Ideal S128x512 .f32} {f : ℕ → ℕ → ℝ} (hx : Is x f) :
    Is (masked m x) (fun r l => if p r l then f r l else 0) := fun r l => by
  show masked m x (ix2 r l) = ((if p r.val l.val then f r.val l.val else 0 : ℝ) : EReal)
  match m with
  | none => rw [if_pos (hm _ _ r.isLt l.isLt)]; exact hx r l
  | some k =>
    pointwise [masked]
    by_cases h : p r.val l.val
    · rw [(hm r l).2 h, if_pos h, hx r l]; rfl
    · unfold Scalar.select
      rw [if_neg (fun hk : k (ix2 r l) = 1 => h ((hm r l).1 hk)), if_neg h, EReal.coe_zero]

/-! ### Sums over the later and over the earlier keys -/

theorem sum_later (f : ℕ → ℝ) (l : ℕ) (hl : l < 128) : (∑ k ∈ Finset.range 128, f k * (if l < k then 1 else 0)) = ∑ k ∈ Finset.Ico (l + 1) 128, f k := by
  simp only [mul_ite, mul_one, mul_zero]
  rw [← Finset.sum_filter]
  refine Finset.sum_congr ?_ fun _ _ => rfl
  ext k
  simp only [Finset.mem_filter, Finset.mem_range, Finset.mem_Ico]
  omega
theorem sum_earlier (f : ℕ → ℝ) (l : ℕ) (hl : l < 128) : (∑ k ∈ Finset.range 128, f k * (if k < l then 1 else 0)) = ∑ k ∈ Finset.range l, f k := by
  simp only [mul_ite, mul_one, mul_zero]
  rw [← Finset.sum_filter]
  refine Finset.sum_congr ?_ fun _ _ => rfl
  ext k
  simp only [Finset.mem_filter, Finset.mem_range]
  omega

theorem sum_shift (f : ℕ → ℝ) (o a b : ℕ) : (∑ k ∈ Finset.Ico a b, f (o + k)) = ∑ k ∈ Finset.Ico (o + a) (o + b), f k := by
  rw [Finset.sum_Ico_add, Nat.add_comm a, Nat.add_comm b]
theorem sum_shift0 (f : ℕ → ℝ) (o b : ℕ) : (∑ k ∈ Finset.range b, f (o + k)) = ∑ k ∈ Finset.Ico o (o + b), f k := by
  rw [Finset.range_eq_Ico, sum_shift, Nat.add_zero]

theorem is_laterSum {x : FVec Ideal S128x512 .f32} {ρ : FVec Ideal S128x1 .f32} {f p : ℕ → ℕ → ℝ} (hx : Is x f) (hr : Is ρ p) :
    Is (laterSum laterM x ρ) (fun r l => p r 0 + ∑ k ∈ Finset.Ico (l + 1) 512, f r k) := by
  unfold laterSum
  have h3 := is_rowSum (is_slab3 hx)
  have h2 := is_rowSum (is_slab2 hx)
  have h1 := is_rowSum (is_slab1 hx)
  refine is_glue ?_ ?_ ?_ ?_
  · refine (is_part is_laterM (is_slab0 hx) (is_add (is_add (is_add hr h3) h2) h1)).congr fun r l _ hl => ?_
    rw [sum_later _ l hl, sum_shift0 (f r), sum_shift0 (f r), sum_shift0 (f r), ← Finset.sum_Ico_consecutive (f r) (show l + 1 ≤ 128 by omega) (show 128 ≤ 512 by decide),
      ← Finset.sum_Ico_consecutive (f r) (show 128 ≤ 256 by decide) (show 256 ≤ 512 by decide), ← Finset.sum_Ico_consecutive (f r) (show 256 ≤ 384 by decide) (show 384 ≤ 512 by decide)]
    ring
  · refine (is_part is_laterM (is_slab1 hx) (is_add (is_add hr h3) h2)).congr fun r l _ hl => ?_
    rw [show 128 + l + 1 = 128 + (l + 1) from rfl, sum_later (fun k => f r (128 + k)) l hl, sum_shift (f r), sum_shift0 (f r), sum_shift0 (f r), ← Finset.sum_Ico_consecutive (f r) (show 128 + (l + 1) ≤ 256 by omega) (show 256 ≤ 512 by decide),
      ← Finset.sum_Ico_consecutive (f r) (show 256 ≤ 384 by decide) (show 384 ≤ 512 by decide)]
    ring
  · refine (is_part is_laterM (is_slab2 hx) (is_add hr h3)).congr fun r l _ hl => ?_
    rw [show 256 + l + 1 = 256 + (l + 1) from rfl, sum_later (fun k => f r (256 + k)) l hl, sum_shift (f r), sum_shift0 (f r), ← Finset.sum_Ico_consecutive (f r) (show 256 + (l + 1) ≤ 384 by omega) (show 384 ≤ 512 by decide)]
    ring
  · refine (is_part is_laterM (is_slab3 hx) hr).congr fun r l _ hl => ?_
    rw [show 384 + l + 1 = 384 + (l + 1) from rfl, sum_later (fun k => f r (384 + k)) l hl, sum_shift (f r)]
    ring

theorem sum_four (f : ℕ → ℝ) : (∑ k ∈ Finset.range 512, f k)
    = (∑ k ∈ Finset.range 128, f k) + (∑ k ∈ Finset.Ico 128 256, f k) + (∑ k ∈ Finset.Ico 256 384, f k) + ∑ k ∈ Finset.Ico 384 512, f k := by
  rw [Finset.range_eq_Ico, Finset.range_eq_Ico, Finset.sum_Ico_consecutive f (show 0 ≤ 128 by decide) (show 128 ≤ 256 by decide),
    Finset.sum_Ico_consecutive f (show 0 ≤ 256 by decide) (show 256 ≤ 384 by decide), Finset.sum_Ico_consecutive f (show 0 ≤ 384 by decide) (show 384 ≤ 512 by decide)]

theorem is_runDown {x : FVec Ideal S128x512 .f32} {ρ : FVec Ideal S128x1 .f32} {f p : ℕ → ℕ → ℝ} (hx : Is x f) (hr : Is ρ p) :
    Is (runDown x ρ) (fun r _ => p r 0 + ∑ k ∈ Finset.range 512, f r k) := by
  unfold runDown
  refine (is_add (is_add (is_add (is_add hr (is_rowSum (is_slab3 hx))) (is_rowSum (is_slab2 hx))) (is_rowSum (is_slab1 hx))) (is_rowSum (is_slab0 hx))).congr fun r l _ hl => ?_
  obtain rfl : l = 0 := by omega
  rw [sum_shift0 (f r), sum_shift0 (f r), sum_shift0 (f r), sum_four]
  ring
theorem is_runUp {x : FVec Ideal S128x512 .f32} {ρ : FVec Ideal S128x1 .f32} {f p : ℕ → ℕ → ℝ} (hx : Is x f) (hr : Is ρ p) :
    Is (runUp x ρ) (fun r _ => p r 0 + ∑ k ∈ Finset.range 512, f r k) := by
  unfold runUp
  refine (is_add (is_add (is_add (is_add hr (is_rowSum (is_slab0 hx))) (is_rowSum (is_slab1 hx))) (is_rowSum (is_slab2 hx))) (is_rowSum (is_slab3 hx))).congr fun r l _ hl => ?_
  obtain rfl : l = 0 := by omega
  rw [sum_shift0 (f r), sum_shift0 (f r), sum_shift0 (f r), sum_four]
  ring

theorem is_earlierSum {x : FVec Ideal S128x512 .f32} {ρ : FVec Ideal S128x1 .f32} {f p : ℕ → ℕ → ℝ} (hx : Is x f) (hr : Is ρ p) :
    Is (earlierSum earlierM x ρ) (fun r l => p r 0 + ∑ k ∈ Finset.range l, f r k) := by
  unfold earlierSum
  have h0 := is_rowSum (is_slab0 hx)
  have h2 := is_rowSum (is_slab2 hx)
  have h1 := is_rowSum (is_slab1 hx)
  refine is_glue ?_ ?_ ?_ ?_
  · refine (is_part is_earlierM (is_slab0 hx) hr).congr fun r l _ hl => ?_
    rw [sum_earlier _ l hl]
    ring
  · refine (is_part is_earlierM (is_slab1 hx) (is_add hr h0)).congr fun r l _ hl => ?_
    rw [sum_earlier (fun k => f r (128 + k)) l hl, sum_shift0 (f r), Finset.range_eq_Ico, Finset.range_eq_Ico,
      ← Finset.sum_Ico_consecutive (f r) (show 0 ≤ 128 by decide) (show 128 ≤ 128 + l by omega)]
    ring
  · refine (is_part is_earlierM (is_slab2 hx) (is_add (is_add hr h0) h1)).congr fun r l _ hl => ?_
    rw [sum_earlier (fun k => f r (256 + k)) l hl, sum_shift0 (f r), sum_shift0 (f r), Finset.range_eq_Ico, Finset.range_eq_Ico,
      ← Finset.sum_Ico_consecutive (f r) (show 0 ≤ 256 by decide) (show 256 ≤ 256 + l by omega), ← Finset.sum_Ico_consecutive (f r) (show 0 ≤ 128 by decide) (show 128 ≤ 256 by decide)]
    ring
  · refine (is_part is_earlierM (is_slab3 hx) (is_add (is_add (is_add hr h0) h1) h2)).congr fun r l _ hl => ?_
    rw [sum_earlier (fun k => f r (384 + k)) l hl, sum_shift0 (f r), sum_shift0 (f r), sum_shift0 (f r), Finset.range_eq_Ico, Finset.range_eq_Ico,
      ← Finset.sum_Ico_consecutive (f r) (show 0 ≤ 384 by decide) (show 384 ≤ 384 + l by omega), ← Finset.sum_Ico_consecutive (f r) (show 0 ≤ 256 by decide) (show 256 ≤ 384 by decide),
      ← Finset.sum_Ico_consecutive (f r) (show 0 ≤ 128 by decide) (show 128 ≤ 256 by decide)]
    ring

end Cert.Proof.Sb

end
-- ==== Proof.Block.lean ====
/- What the body computes at one point of the grid, over the reals: the weights, the gradient of the scores and the three
   gradients of a block of 128 queries, as plain sums over the keys. -/
module

public import proofs.«01_k».proof.Proof.Lanes

@[expose] public section

set_option maxRecDepth 16384

noncomputable section

namespace Cert.Proof.Sb

open Cert.KernelIdeal Cert.KernelIdeal.Gen
open Idealize.ShloMosaic Idealize.ShloMosaic.Tactic

/-! ### The gradients of one head over the reals -/

section Reals

variable (Q G K V : ℕ → ℕ → ℝ)

/-- The score of query `t` and key `s`. -/
def scoreR (t s : ℕ) : ℝ := ∑ d ∈ Finset.range 128, Q t d * K s d
/-- The logarithm of passing key `s` by, zero from the query on. -/
def stayR (t s : ℕ) : ℝ := if s < t then -softplus (scoreR Q K t s) else 0
/-- The weight of key `s` for query `t`. -/
def weightR (t s : ℕ) : ℝ := if s < t then Real.exp (logSigR (scoreR Q K t s) + ∑ k ∈ Finset.Ico (s + 1) 2048, stayR Q K t k) else 0
/-- The weight times its gradient. -/
def prodR (t s : ℕ) : ℝ := weightR Q K t s * ∑ d ∈ Finset.range 128, G t d * V s d
/-- The gradient of the score. -/
def dScoreR (t s : ℕ) : ℝ :=
  if s < t then prodR Q G K V t s * (1 - sigR (scoreR Q K t s)) - (∑ k ∈ Finset.range s, prodR Q G K V t k) * sigR (scoreR Q K t s) else 0

theorem stayR_zero {t s : ℕ} (h : t ≤ s) : stayR Q K t s = 0 := if_neg (by omega)
theorem weightR_zero {t s : ℕ} (h : t ≤ s) : weightR Q K t s = 0 := if_neg (by omega)
theorem dScoreR_zero {t s : ℕ} (h : t ≤ s) : dScoreR Q G K V t s = 0 := if_neg (by omega)

theorem sum_Ico_cut (f : ℕ → ℝ) {a b c : ℕ} (hab : a ≤ b) (hbc : b ≤ c) (hf : ∀ k, b ≤ k → f k = 0) : ∑ k ∈ Finset.Ico a c, f k = ∑ k ∈ Finset.Ico a b, f k := by
  rw [← Finset.sum_Ico_consecutive f hab hbc, Finset.sum_eq_zero (s := Finset.Ico b c) (fun k hk => hf k (Finset.mem_Ico.1 hk).1), add_zero]

end Reals

/-! ### One point of the grid -/

section Point

variable (Q G Kr Vr : Fin 3 → ℕ → ℕ → ℝ) (i : ℕ)
  (q d : Fin 3 → FVec Ideal S128x128 .bf16) (K V : Vec Ideal S2048x384 .bf16) (m : IVec S128x512 1)
  (hi : i < 16) (hq : ∀ h, Is (q h) (fun r l => Q h (128 * i + r) l)) (hd : ∀ h, Is (d h) (fun r l => G h (128 * i + r) l))
  (hK : ∀ (j : ℕ) h, j < 4 → Is (φ := .bf16) (rows K (chunk j) h) (fun s l => Kr h (512 * j + s) l))
  (hV : ∀ (j : ℕ) h, j < 4 → Is (φ := .bf16) (rows V (chunk j) h) (fun s l => Vr h (512 * j + s) l))
  (hm : ∀ (r : Fin 128) (l : Fin 512), m (ix2 r l) = 1#1 ↔ l.val < r.val + i % 4 * 128)

include hi hm in
theorem keeps_mask (j : ℕ) (hj : j ≤ i / 4) : Keeps (maskAt m (i / 4) j) (fun r l => 512 * j + l < 128 * i + r) := by
  unfold maskAt
  by_cases h : j = i / 4
  · rw [if_pos h]
    intro r l
    rw [hm r l]
    omega
  · rw [if_neg h]
    intro r l hr hl
    omega

include hi hq hK in
theorem is_zB (j : ℕ) (hj : j ≤ i / 4) (h : Fin 3) : Is (zB q K j h) (fun r l => scoreR (Q h) (Kr h) (128 * i + r) (512 * j + l)) := by
  unfold zB
  exact is_score (hq h) (hK j h (by omega))

include hi hq hK hm in
theorem is_stay (j : ℕ) (hj : j ≤ i / 4) (h : Fin 3) : Is (logStay (maskAt m (i / 4) j) (zB q K j h)) (fun r l => stayR (Q h) (Kr h) (128 * i + r) (512 * j + l)) := by
  unfold logStay
  have hz := is_zB Q Kr i q K hi hq hK j hj h
  refine (is_masked (keeps_mask i m hi hm j hj) (is_sub (is_logSig hz) hz)).congr fun r l _ _ => ?_
  rw [logSigR_sub]
  unfold stayR
  exact if_congr Iff.rfl rfl rfl

include hi hq hK hm in
theorem is_runD (n : ℕ) (hn : n ≤ i / 4 + 1) (h : Fin 3) :
    Is (runD q K m (i / 4) n h) (fun r _ => ∑ s ∈ Finset.Ico (512 * (i / 4 + 1 - n)) (512 * (i / 4 + 1)), stayR (Q h) (Kr h) (128 * i + r) s) := by
  induction n with
  | zero =>
    rw [runD]
    refine (is_zero (fun x => Ideal.ofBits_zero_f32)).congr fun r l _ _ => ?_
    rw [Nat.sub_zero, Finset.Ico_self, Finset.sum_empty]
  | succ n ih =>
    rw [runD]
    refine (is_runDown (is_stay Q Kr i q K m hi hq hK hm (i / 4 - n) (by omega) h) (ih (by omega))).congr fun r l _ _ => ?_
    rw [sum_shift0 (stayR (Q h) (Kr h) (128 * i + r)), show 512 * (i / 4 - n) + 512 = 512 * (i / 4 + 1 - n) by omega, show 512 * (i / 4 - n) = 512 * (i / 4 + 1 - (n + 1)) by omega, add_comm,
      Finset.sum_Ico_consecutive _ (by omega) (by omega)]

include hi hq hK hm in
theorem is_wB (j : ℕ) (hj : j ≤ i / 4) (h : Fin 3) : Is (wB q K m (i / 4) j h) (fun r l => weightR (Q h) (Kr h) (128 * i + r) (512 * j + l)) := by
  unfold wB weight
  have hz := is_zB Q Kr i q K hi hq hK j hj h
  refine (is_masked (keeps_mask i m hi hm j hj) (is_exp (is_add (is_logSig hz) (is_laterSum (is_stay Q Kr i q K m hi hq hK hm j hj h)
    (is_runD Q Kr i q K m hi hq hK hm (i / 4 - j) (by omega) h))))).congr fun r l hr hl => ?_
  unfold weightR
  refine if_congr Iff.rfl ?_ rfl
  rw [sum_shift (stayR (Q h) (Kr h) (128 * i + r)), show 512 * (i / 4 + 1 - (i / 4 - j)) = 512 * j + 512 by omega, add_comm (Finset.sum _ _) (Finset.sum _ _),
    Finset.sum_Ico_consecutive _ (by omega) (by omega), ← Nat.add_assoc,
    sum_Ico_cut (a := 512 * j + l + 1) (b := 512 * (i / 4 + 1)) (c := 2048) _ (by omega) (by omega) (fun k hk => stayR_zero _ _ (by omega))]

include hi hq hd hK hV hm in
theorem is_eB (j : ℕ) (hj : j ≤ i / 4) (h : Fin 3) : Is (eB q d K V m (i / 4) j h) (fun r l => prodR (Q h) (G h) (Kr h) (Vr h) (128 * i + r) (512 * j + l)) := by
  unfold eB
  exact is_mul (is_wB Q Kr i q K m hi hq hK hm j hj h) (is_score (hd h) (hV j h (by omega)))

include hi hq hd hK hV hm in
theorem is_runU (n : ℕ) (hn : n ≤ i / 4 + 1) (h : Fin 3) :
    Is (runU q d K V m (i / 4) n h) (fun r _ => ∑ s ∈ Finset.range (512 * n), prodR (Q h) (G h) (Kr h) (Vr h) (128 * i + r) s) := by
  induction n with
  | zero =>
    rw [runU]
    refine (is_zero (fun x => Ideal.ofBits_zero_f32)).congr fun r l _ _ => ?_
    rw [Nat.mul_zero, Finset.range_zero, Finset.sum_empty]
  | succ n ih =>
    rw [runU]
    refine (is_runUp (is_eB Q G Kr Vr i q d K V m hi hq hd hK hV hm n (by omega) h) (ih (by omega))).congr fun r l _ _ => ?_
    rw [sum_shift0 (prodR (Q h) (G h) (Kr h) (Vr h) (128 * i + r)), Nat.mul_succ, Finset.range_eq_Ico, Finset.range_eq_Ico, Finset.sum_Ico_consecutive _ (by omega) (by omega)]

include hi hq hd hK hV hm in
theorem is_dzB (j : ℕ) (hj : j ≤ i / 4) (h : Fin 3) : Is (dzB q d K V m (i / 4) j h) (fun r l => dScoreR (Q h) (G h) (Kr h) (Vr h) (128 * i + r) (512 * j + l)) := by
  unfold dzB dScore
  have hz := is_zB Q Kr i q K hi hq hK j hj h
  have he := is_eB Q G Kr Vr i q d K V m hi hq hd hK hV hm j hj h
  have h1 : Is (broadcast S128x512 (Scalar.ofBits (F := Ideal) .f32 0x3F800000#32)) (fun _ _ => 1) := fun r l => by
    show Ideal.ofBits .f32 0x3F800000#32 = _
    rw [Ideal.ofBits_one_f32]; rfl
  refine is_half ((is_masked (keeps_mask i m hi hm j hj) (is_sub (is_mul he (is_sub h1 (is_logistic hz)))
    (is_mul (is_earlierSum he (is_runU Q G Kr Vr i q d K V m hi hq hd hK hV hm j (by omega) h)) (is_logistic hz)))).congr fun r l hr hl => ?_)
  unfold dScoreR
  refine if_congr Iff.rfl ?_ rfl
  rw [sum_shift0 (prodR (Q h) (G h) (Kr h) (Vr h) (128 * i + r)), Finset.range_eq_Ico, Finset.range_eq_Ico, Finset.sum_Ico_consecutive _ (by omega) (by omega)]

include hi hq hd hK hV hm in
theorem is_dqB (n : ℕ) (hn : n ≤ i / 4 + 1) (h : Fin 3) :
    Is (dqB q d K V m (i / 4) n h) (fun r l => ∑ s ∈ Finset.range (512 * n), dScoreR (Q h) (G h) (Kr h) (Vr h) (128 * i + r) s * Kr h s l) := by
  induction n with
  | zero =>
    rw [dqB]
    refine (is_zero (fun x => Ideal.ofBits_zero_f32)).congr fun r l _ _ => ?_
    rw [Nat.mul_zero, Finset.range_zero, Finset.sum_empty]
  | succ n ih =>
    rw [dqB]
    refine (is_addQ (ih (by omega)) (is_dzB Q G Kr Vr i q d K V m hi hq hd hK hV hm n (by omega) h) (hK n h (by omega))).congr fun r l _ _ => ?_
    rw [sum_shift0 (fun s => dScoreR (Q h) (G h) (Kr h) (Vr h) (128 * i + r) s * Kr h s l), Nat.mul_succ, Finset.range_eq_Ico, Finset.range_eq_Ico, Finset.sum_Ico_consecutive _ (by omega) (by omega)]

include hi hq hd hK hV hm in
/-- The gradient of a block of queries. -/
theorem is_dqOut {s : ℝ} (hs : Ideal.ofBits .f32 0x3DB504F3#32 = (s : EReal)) (h : Fin 3) :
    Is (outQ (dqB q d K V m (i / 4) (i / 4 + 1) h)) (fun r l => (∑ k ∈ Finset.range 2048, dScoreR (Q h) (G h) (Kr h) (Vr h) (128 * i + r) k * Kr h k l) * s) := by
  refine (is_outQ hs (is_dqB Q G Kr Vr i q d K V m hi hq hd hK hV hm (i / 4 + 1) (le_refl _) h)).congr fun r l hr _ => ?_
  rw [Finset.range_eq_Ico, Finset.range_eq_Ico,
    sum_Ico_cut (a := 0) (b := 512 * (i / 4 + 1)) (c := 2048) (fun k => dScoreR (Q h) (G h) (Kr h) (Vr h) (128 * i + r) k * Kr h k l) (by omega) (by omega)
      (fun k hk => by rw [dScoreR_zero _ _ _ _ (by omega), zero_mul])]

include hi hq hd hK hm in
/-- What a block of queries adds to the gradient of the values. -/
theorem is_dvRows (DV : Vec Ideal S2048x384 .f32) (o : ℕ → ℕ → ℝ) (j : Fin 4) (h : Fin 3) (ho : Is (φ := .f32) (rows DV j h) (fun s l => o (512 * j.val + s) l)) :
    Is (φ := .f32) (if j.val ≤ i / 4 then addT (rows DV j h) (halfW (wB q K m (i / 4) j.val h)) (d h) else rows DV j h)
      (fun s l => o (512 * j.val + s) l + ∑ r ∈ Finset.range 128, weightR (Q h) (Kr h) (128 * i + r) (512 * j.val + s) * G h (128 * i + r) l) := by
  by_cases hj : j.val ≤ i / 4
  · rw [if_pos hj]
    exact is_addT ho (is_half (is_wB Q Kr i q K m hi hq hK hm j.val hj h)) (hd h)
  · rw [if_neg hj]
    refine ho.congr fun s l _ _ => ?_
    rw [Finset.sum_eq_zero (fun r hr => by rw [weightR_zero _ _ (by have := Finset.mem_range.1 hr; omega), zero_mul]), add_zero]

include hi hq hd hK hV hm in
/-- What a block of queries adds to the gradient of the keys. -/
theorem is_dkRows (DK : Vec Ideal S2048x384 .f32) (o : ℕ → ℕ → ℝ) (j : Fin 4) (h : Fin 3) (ho : Is (φ := .f32) (rows DK j h) (fun s l => o (512 * j.val + s) l)) :
    Is (φ := .f32) (if j.val ≤ i / 4 then addT (rows DK j h) (dzB q d K V m (i / 4) j.val h) (q h) else rows DK j h)
      (fun s l => o (512 * j.val + s) l + ∑ r ∈ Finset.range 128, dScoreR (Q h) (G h) (Kr h) (Vr h) (128 * i + r) (512 * j.val + s) * Q h (128 * i + r) l) := by
  by_cases hj : j.val ≤ i / 4
  · rw [if_pos hj]
    exact is_addT ho (is_dzB Q G Kr Vr i q d K V m hi hq hd hK hV hm j.val hj h) (hq h)
  · rw [if_neg hj]
    refine ho.congr fun s l _ _ => ?_
    rw [Finset.sum_eq_zero (fun r hr => by rw [dScoreR_zero _ _ _ _ (by have := Finset.mem_range.1 hr; omega), zero_mul]), add_zero]

end Point

end Cert.Proof.Sb

end
-- ==== Proof.Input.lean ====
/- What the two programs are given, as real numbers, and the real-valued answers. -/
module

public import proofs.«01_k».proof.Proof.Block
public import proofs.«01_k».proof.Pre_finite
public import Idealize.ShloMosaic.Lib.Pointwise

@[expose] public section

set_option maxRecDepth 16384

noncomputable section

namespace Cert.Proof.Sb

open Idealize.ShloMosaic

abbrev Proj : Type := Vec Ideal ⟨2, ![2048, 12288]⟩ .f32
abbrev Grad : Type := Vec Ideal ⟨2, ![2048, 768]⟩ .f32

/-- The factor of the scores. -/
def scale : ℝ := Classical.choose ofBits_scale
theorem scale_eq : Ideal.ofBits .f32 0x3DB504F3#32 = ((scale : ℝ) : EReal) := Classical.choose_spec ofBits_scale

/-- An element of the projections. -/
def projR (x : Proj) (t k : ℕ) : ℝ := if h : t < 2048 ∧ k < 12288 then EReal.toReal (x (ix2 ⟨t, h.1⟩ ⟨k, h.2⟩)) else 0
/-- An element of the gradient of the output. -/
def gradR (y : Grad) (t k : ℕ) : ℝ := if h : t < 2048 ∧ k < 768 then EReal.toReal (y (ix2 ⟨t, h.1⟩ ⟨k, h.2⟩)) else 0

/-- All that the step reads is finite. -/
structure AllFinite (x : Proj) (y : Grad) : Prop where
  proj : ∀ (t : Fin 2048) (k : Fin 12288), k.val < 2304 → x (ix2 t k) = ((projR x t.val k.val : ℝ) : EReal)
  grad : ∀ (t : Fin 2048) (k : Fin 768), y (ix2 t k) = ((gradR y t.val k.val : ℝ) : EReal)

theorem ofBits_top : Ideal.ofBits .f32 0x7F800000#32 = ⊤ := by
  unfold Ideal.ofBits Ideal.ieee
  dsimp only
  rw [if_pos (by decide), if_pos (by decide), if_neg (by decide)]

theorem real_of_abs {e : EReal} (h : BitVec.ofBool (decide (max e (-e) < ⊤)) = 1#1) : e = ((EReal.toReal e : ℝ) : EReal) := by
  have h' : max e (-e) < ⊤ := by
    by_contra hc
    rw [decide_eq_false hc] at h
    exact absurd h (by decide)
  refine (EReal.coe_toReal (ne_of_lt (lt_of_le_of_lt (le_max_left _ _) h')) fun hb => ?_).symm
  rw [hb] at h'
  exact absurd h' (by simp)

theorem real_of_finite [Cert.Pre_finite.Facts] (x : Proj) (y : Grad) (h0 : (Cert.Pre_finite.fn (F := Ideal) x y).1 = fun _ => 1#1) (h1 : (Cert.Pre_finite.fn (F := Ideal) x y).2 = fun _ => 1#1) : AllFinite x y := by
  constructor
  · intro t k hk
    rw [projR, dif_pos ⟨t.isLt, k.isLt⟩]
    refine real_of_abs (Eq.trans ?_ (congrFun h0 (ix2 t ⟨k.val, hk⟩)))
    rw [← ofBits_top]
    pointwise [Cert.Pre_finite.fn]
    rfl
  · intro t k
    rw [gradR, dif_pos ⟨t.isLt, k.isLt⟩]
    refine real_of_abs (Eq.trans ?_ (congrFun h1 (ix2 t k)))
    rw [← ofBits_top]
    pointwise [Cert.Pre_finite.fn]
    rfl

end Cert.Proof.Sb

end
-- ==== Proof.Answer.lean ====
/- The three gradients as real numbers. -/
module

public import proofs.«01_k».proof.Proof.Input

@[expose] public section

noncomputable section

namespace Cert.Proof.Sb

open Idealize.ShloMosaic

variable (x : Proj) (y : Grad)

/-- The scaled queries of a head. -/
def headQ (H t d : ℕ) : ℝ := projR x t (128 * H + d) * scale
/-- The keys of a head. -/
def headK (H t d : ℕ) : ℝ := projR x t (768 + (128 * H + d))
/-- The values of a head. -/
def headV (H t d : ℕ) : ℝ := projR x t (1536 + (128 * H + d))
/-- The gradient of a head's output. -/
def headG (H t d : ℕ) : ℝ := gradR y t (128 * H + d)

/-- The gradient of the scores of a head. -/
abbrev headDScore (H t s : ℕ) : ℝ := dScoreR (headQ x H) (headG y H) (headK x H) (headV x H) t s
/-- The weights of a head. -/
abbrev headWeight (H t s : ℕ) : ℝ := weightR (headQ x H) (headK x H) t s

/-- The gradient of the queries. -/
def dqR (t k : ℕ) : ℝ := (∑ s ∈ Finset.range 2048, headDScore x y (k / 128) t s * headK x (k / 128) s (k % 128)) * scale
/-- The gradient of the keys. -/
def dkR (s k : ℕ) : ℝ := ∑ t ∈ Finset.range 2048, headDScore x y (k / 128) t s * headQ x (k / 128) t (k % 128)
/-- The gradient of the values. -/
def dvR (s k : ℕ) : ℝ := ∑ t ∈ Finset.range 2048, headWeight x (k / 128) t s * headG y (k / 128) t (k % 128)

def dqA : Vec Ideal ⟨2, ![2048, 768]⟩ .bf16 := fun i => ((dqR x y (i 0).val (i 1).val : ℝ) : EReal)
def dkA : Vec Ideal ⟨2, ![2048, 768]⟩ .f32 := fun i => ((dkR x y (i 0).val (i 1).val : ℝ) : EReal)
def dvA : Vec Ideal ⟨2, ![2048, 768]⟩ .f32 := fun i => ((dvR x y (i 0).val (i 1).val : ℝ) : EReal)

end Cert.Proof.Sb

end
-- ==== Proof.Grid.lean ====
/- The kernel's three arrays after its run, in closed form. -/
module

public import proofs.«01_k».proof.Proof.Run
public import proofs.«01_k».proof.Proof.Answer
public import Idealize.ShloMosaic.Lib.Pipeline.ValueKit
public import Idealize.ShloMosaic.Lib.StableHlo.ReadAt
public import Idealize.ShloMosaic.Lib.Pointwise
public import Idealize.ShloMosaic.Lib.WordCmp

@[expose] public section

set_option maxRecDepth 16384

noncomputable section

namespace Cert.Proof.Sb

open Cert.KernelIdeal Cert.KernelIdeal.Gen
open Idealize.ShloMosaic Idealize.ShloMosaic.TcCoe Idealize.ShloMosaic.Tactic

variable (m : (ℓ : Loc nD τ sig) → Buf (Elt Ideal) ℓ)

/-- Where every window's block lies at a point. -/
theorem places : ∀ t : Fin cfg0.N, win0_0.index t = ![t.val % 16, t.val / 16] ∧ win0_1.index t = ![0, t.val / 16] ∧ win0_2.index t = ![0, 2 + t.val / 16] ∧ win0_3.index t = ![t.val % 16, t.val / 16]
    ∧ win0_4.index t = ![t.val % 16, t.val / 16] ∧ win0_5.index t = ![0, t.val / 16] ∧ win0_6.index t = ![0, t.val / 16] :=
  (by decide +kernel : ∀ t : Fin grid0.N, _)

theorem point_lt (t : Fin cfg0.N) : t.val < 32 := t.isLt

/-- The projections a device holds. -/
abbrev projOf (c : Dev nD) : Proj := m ((c : Thread nD τ).loc main_arg0)
/-- The gradient of the output a device holds. -/
abbrev gradOf (c : Dev nD) : Grad := m ((c : Thread nD τ).loc main_arg1)

theorem q_read (c : Dev nD) (t : Fin cfg0.N) (r : Fin 128) (l : Fin 384) :
    qAt m c t (ix2 r l) = projOf m c (ix2 ⟨128 * (t.val % 16) + r.val, by omega⟩ ⟨384 * (t.val / 16) + l.val, by have := point_lt t; omega⟩) := by
  unfold qAt
  blk_ext [iblk, V_main_arg0, (places t).1]
theorem d_read (c : Dev nD) (t : Fin cfg0.N) (r : Fin 128) (l : Fin 384) :
    dAt m c t (ix2 r l) = gradOf m c (ix2 ⟨128 * (t.val % 16) + r.val, by omega⟩ ⟨384 * (t.val / 16) + l.val, by have := point_lt t; omega⟩) := by
  unfold dAt
  blk_ext [iblk, V_main_arg1, (places t).2.2.2.1]
theorem keys_read (c : Dev nD) (r : Fin 2048) (l : Fin 1536) : V m c main_v1 (ix2 r l) = projOf m c (ix2 r ⟨768 + l.val, by omega⟩) := by
  unfold V
  after_reads_at
theorem k_read (c : Dev nD) (t : Fin cfg0.N) (r : Fin 2048) (l : Fin 384) :
    kAt m c t (ix2 r l) = projOf m c (ix2 r ⟨768 + (384 * (t.val / 16) + l.val), by have := point_lt t; omega⟩) := by
  refine Eq.trans ?_ (keys_read m c r ⟨384 * (t.val / 16) + l.val, by have := point_lt t; omega⟩)
  unfold kAt
  blk_ext [iblk, (places t).2.1]
theorem v_read (c : Dev nD) (t : Fin cfg0.N) (r : Fin 2048) (l : Fin 384) :
    vAt m c t (ix2 r l) = projOf m c (ix2 r ⟨1536 + (384 * (t.val / 16) + l.val), by have := point_lt t; omega⟩) := by
  refine Eq.trans ?_ ((keys_read m c r ⟨768 + (384 * (t.val / 16) + l.val), by have := point_lt t; omega⟩).trans ?_)
  · unfold vAt
    blk_ext [iblk, (places t).2.2.1]
  · refine congrArg _ (congrArg₂ ix2 rfl (Fin.ext ?_)); dsimp only; omega

/-- The mask of the chunk that holds the point's queries. -/
theorem keep_iff (i : grid0.Coords) (r : Fin 128) (l : Fin 512) : keep (limW i) (ix2 r l) = 1#1 ↔ l.val < r.val + (i 1).val % 4 * 128 := by
  rw [limW_eq]
  have he : (i 1).val % 4 < 4 := Nat.mod_lt _ (by decide)
  generalize (i 1).val % 4 = e at he
  pointwise [keep]
  have hr := r.isLt
  have hl := l.isLt
  rw [show IntOp.addi (BitVec.ofNat 32 r.val) (BitVec.ofNat 32 (e * 128)) = BitVec.ofNat 32 (r.val + e * 128) from (BitVec.ofNat_add ..).symm,
    WordCmp.cmpi_slt_ofNat_eq_one_iff (by norm_num; omega) (by norm_num; omega)]

theorem rows_ofRows (f : Fin 4 → Fin 3 → Vec Ideal S512x128 .f32) (j : Fin 4) (h : Fin 3) : rows (ofRows f) j h = f j h := by
  funext y
  idx_vars y
  have hj := j.isLt
  have hr := y0.isLt
  have hl := y1.isLt
  rw [rows_apply]
  unfold ofRows
  exact congr (congr (congrArg f (Fin.ext (show (j.val * 512 + y0.val) / 512 = j.val by omega))) (Fin.ext (show (h.val * 128 + y1.val) / 128 = h.val by omega)))
    (congrArg₂ ix2 (Fin.ext (show (j.val * 512 + y0.val) % 512 = y0.val by omega)) (Fin.ext (show (h.val * 128 + y1.val) % 128 = y1.val by omega)))

/-! ## One point, in real numbers -/

section Step

variable (c : Dev nD) (hx : AllFinite (projOf m c) (gradOf m c)) (t : Fin cfg0.N)
include hx

/-- The number of the point's query block. -/
abbrev blockOf (t : Fin cfg0.N) : ℕ := (grid0.coords t 1).val
/-- A head of the point. -/
abbrev headOf (t : Fin cfg0.N) (h : Fin 3) : ℕ := 3 * (t.val / 16) + h.val

omit hx in
theorem blockOf_lt : blockOf t < 16 := (grid0.coords t 1).isLt
omit hx in
theorem blockOf_eq : blockOf t = t.val % 16 := coords_one t

theorem is_q (h : Fin 3) : Is (qOf (qAt m c t) h) (fun r l => headQ (projOf m c) (headOf t h) (128 * blockOf t + r) l) := fun r l => by
  have hh := h.isLt
  have hl := l.isLt
  have ht := point_lt t
  pointwise [qOf, scaleQ]
  rw [cols_apply, q_read, hx.proj _ _ (by dsimp only; omega), scale_eq, ← EReal.coe_mul, blockOf_eq]
  unfold headQ
  refine congrArg _ (congrArg (· * scale) (congrArg₂ (projR (projOf m c)) rfl ?_))
  dsimp only [headOf]; omega
theorem is_d (h : Fin 3) : Is (dOf (dAt m c t) h) (fun r l => headG (gradOf m c) (headOf t h) (128 * blockOf t + r) l) := fun r l => by
  have hh := h.isLt
  have hl := l.isLt
  have ht := point_lt t
  pointwise [dOf, half]
  rw [cols_apply, d_read, hx.grad, blockOf_eq]
  unfold headG
  refine congrArg _ (congrArg₂ (gradR (gradOf m c)) rfl ?_)
  dsimp only [headOf]; omega
theorem is_k (j : ℕ) (h : Fin 3) (hj : j < 4) : Is (φ := .bf16) (rows (kAt m c t) (chunk j) h) (fun s l => headK (projOf m c) (headOf t h) (512 * j + s) l) := fun r l => by
  have hh := h.isLt
  have hl := l.isLt
  have ht := point_lt t
  rw [rows_apply, k_read, hx.proj _ _ (by dsimp only; omega)]
  unfold headK
  refine congrArg _ (congrArg₂ (projR (projOf m c)) ?_ ?_)
  · dsimp only [chunk]; omega
  · dsimp only [headOf]; omega
theorem is_v (j : ℕ) (h : Fin 3) (hj : j < 4) : Is (φ := .bf16) (rows (vAt m c t) (chunk j) h) (fun s l => headV (projOf m c) (headOf t h) (512 * j + s) l) := fun r l => by
  have hh := h.isLt
  have hl := l.isLt
  have ht := point_lt t
  rw [rows_apply, v_read, hx.proj _ _ (by dsimp only; omega)]
  unfold headV
  refine congrArg _ (congrArg₂ (projR (projOf m c)) ?_ ?_)
  · dsimp only [chunk]; omega
  · dsimp only [headOf]; omega

/-- A block of the queries' gradient. -/
theorem is_dq (r : Fin 128) (l : Fin 384) : outDq (grid0.coords t) (qAt m c t) (kAt m c t) (vAt m c t) (dAt m c t) (ix2 r l)
    = ((dqR (projOf m c) (gradOf m c) (128 * (t.val % 16) + r.val) (384 * (t.val / 16) + l.val) : ℝ) : EReal) := by
  have hl := l.isLt
  unfold outDq dqOut ofCols
  refine (is_dqOut (fun h => headQ (projOf m c) (headOf t h)) (fun h => headG (gradOf m c) (headOf t h)) (fun h => headK (projOf m c) (headOf t h)) (fun h => headV (projOf m c) (headOf t h))
    (blockOf t) _ _ _ _ _ (blockOf_lt t) (is_q m c hx t) (is_d m c hx t) (is_k m c hx t) (is_v m c hx t) (keep_iff _) scale_eq ⟨l.val / 128, by omega⟩ r ⟨l.val % 128, Nat.mod_lt _ (by decide)⟩).trans ?_
  rw [blockOf_eq]
  unfold dqR
  rw [show (384 * (t.val / 16) + l.val) / 128 = headOf t ⟨l.val / 128, by omega⟩ from by dsimp only [headOf]; omega, show (384 * (t.val / 16) + l.val) % 128 = l.val % 128 from by omega]

/-- The values' gradient after a point is the one before and the point's own sum. -/
theorem dv_rows (X : Vec Ideal S2048x384 .f32) (o : Fin 3 → ℕ → ℕ → ℝ) (hX : ∀ j h, Is (φ := .f32) (rows (startOf (grid0.coords t) X) j h) (fun s l => o h (512 * j.val + s) l)) (j : Fin 4) (h : Fin 3) :
    Is (φ := .f32) (rows (outDv (grid0.coords t) (qAt m c t) (kAt m c t) (dAt m c t) X) j h)
      (fun s l => o h (512 * j.val + s) l + ∑ r ∈ Finset.range 128, headWeight (projOf m c) (headOf t h) (128 * blockOf t + r) (512 * j.val + s) * headG (gradOf m c) (headOf t h) (128 * blockOf t + r) l) := by
  unfold outDv dvOut
  rw [rows_ofRows]
  exact is_dvRows (fun h => headQ (projOf m c) (headOf t h)) (fun h => headG (gradOf m c) (headOf t h)) (fun h => headK (projOf m c) (headOf t h))
    (blockOf t) _ _ _ _ (blockOf_lt t) (is_q m c hx t) (is_d m c hx t) (is_k m c hx t) (keep_iff _) _ (o h) j h (hX j h)
/-- The keys' gradient after a point is the one before and the point's own sum. -/
theorem dk_rows (X : Vec Ideal S2048x384 .f32) (o : Fin 3 → ℕ → ℕ → ℝ) (hX : ∀ j h, Is (φ := .f32) (rows (startOf (grid0.coords t) X) j h) (fun s l => o h (512 * j.val + s) l)) (j : Fin 4) (h : Fin 3) :
    Is (φ := .f32) (rows (outDk (grid0.coords t) (qAt m c t) (kAt m c t) (vAt m c t) (dAt m c t) X) j h)
      (fun s l => o h (512 * j.val + s) l + ∑ r ∈ Finset.range 128, headDScore (projOf m c) (gradOf m c) (headOf t h) (128 * blockOf t + r) (512 * j.val + s) * headQ (projOf m c) (headOf t h) (128 * blockOf t + r) l) := by
  unfold outDk dkOut
  rw [rows_ofRows]
  exact is_dkRows (fun h => headQ (projOf m c) (headOf t h)) (fun h => headG (gradOf m c) (headOf t h)) (fun h => headK (projOf m c) (headOf t h)) (fun h => headV (projOf m c) (headOf t h))
    (blockOf t) _ _ _ _ _ (blockOf_lt t) (is_q m c hx t) (is_d m c hx t) (is_k m c hx t) (is_v m c hx t) (keep_iff _) _ (o h) j h (hX j h)

omit hx in
/-- The sums a point starts from: none at a head group's first block of queries, the point's before it elsewhere. -/
theorem is_start (X : Vec Ideal S2048x384 .f32) (T : ℕ → ℕ → ℕ → ℕ → ℝ)
    (hX : t.val % 16 ≠ 0 → ∀ j h, Is (φ := .f32) (rows X j h) (fun s l => ∑ r ∈ Finset.range (128 * (t.val % 16)), T (headOf t h) r (512 * j.val + s) l)) (j : Fin 4) (h : Fin 3) :
    Is (φ := .f32) (rows (startOf (grid0.coords t) X) j h) (fun s l => ∑ r ∈ Finset.range (128 * blockOf t), T (headOf t h) r (512 * j.val + s) l) := by
  rw [blockOf_eq]
  by_cases h0 : t.val % 16 = 0
  · intro r l
    unfold startOf
    rw [if_pos ((coords_one t).trans h0), rows_apply, h0]
    exact Ideal.ofBits_zero_f32
  · unfold startOf
    rw [if_neg (fun e => h0 ((coords_one t).symm.trans e))]
    exact hX h0 j h

end Step

section All

variable (c : Dev nD) (hx : AllFinite (projOf m c) (gradOf m c))
include hx

/-- A term of the values' gradient. -/
abbrev dvT (H r s l : ℕ) : ℝ := headWeight (projOf m c) H r s * headG (gradOf m c) H r l
/-- A term of the keys' gradient. -/
abbrev dkT (H r s l : ℕ) : ℝ := headDScore (projOf m c) (gradOf m c) H r s * headQ (projOf m c) H r l

/-- The values' gradient after a point. -/
theorem dv_sum (n : ℕ) (hn : n < cfg0.N) (j : Fin 4) (h : Fin 3) :
    Is (φ := .f32) (rows (dvAt m c n hn) j h) (fun s l => ∑ r ∈ Finset.range (128 * (n % 16 + 1)), dvT m c (3 * (n / 16) + h.val) r (512 * j.val + s) l) := by
  have step (t : Fin cfg0.N) (X : Vec Ideal S2048x384 .f32)
      (hX : t.val % 16 ≠ 0 → ∀ j h, Is (φ := .f32) (rows X j h) (fun s l => ∑ r ∈ Finset.range (128 * (t.val % 16)), dvT m c (headOf t h) r (512 * j.val + s) l)) (j : Fin 4) (h : Fin 3) :
      Is (φ := .f32) (rows (outDv (grid0.coords t) (qAt m c t) (kAt m c t) (dAt m c t) X) j h) (fun s l => ∑ r ∈ Finset.range (128 * (t.val % 16 + 1)), dvT m c (headOf t h) r (512 * j.val + s) l) := by
    refine (dv_rows m c hx t X (fun h s l => ∑ r ∈ Finset.range (128 * blockOf t), dvT m c (headOf t h) r s l) (is_start t X (dvT m c) hX) j h).congr fun s l _ _ => ?_
    rw [blockOf_eq, Nat.mul_succ, Finset.sum_range_add]
  induction n generalizing j h with
  | zero => exact step ⟨0, hn⟩ _ (fun e => absurd rfl e) j h
  | succ n ih =>
    refine step ⟨n + 1, hn⟩ _ (fun e j h => ?_) j h
    dsimp only at e
    have e1 : (n + 1) % 16 = n % 16 + 1 := by omega
    have e2 : (n + 1) / 16 = n / 16 := by omega
    dsimp only [headOf]
    rw [e1, e2]
    exact ih (Nat.lt_of_succ_lt hn) j h
/-- The keys' gradient after a point. -/
theorem dk_sum (n : ℕ) (hn : n < cfg0.N) (j : Fin 4) (h : Fin 3) :
    Is (φ := .f32) (rows (dkAt m c n hn) j h) (fun s l => ∑ r ∈ Finset.range (128 * (n % 16 + 1)), dkT m c (3 * (n / 16) + h.val) r (512 * j.val + s) l) := by
  have step (t : Fin cfg0.N) (X : Vec Ideal S2048x384 .f32)
      (hX : t.val % 16 ≠ 0 → ∀ j h, Is (φ := .f32) (rows X j h) (fun s l => ∑ r ∈ Finset.range (128 * (t.val % 16)), dkT m c (headOf t h) r (512 * j.val + s) l)) (j : Fin 4) (h : Fin 3) :
      Is (φ := .f32) (rows (outDk (grid0.coords t) (qAt m c t) (kAt m c t) (vAt m c t) (dAt m c t) X) j h) (fun s l => ∑ r ∈ Finset.range (128 * (t.val % 16 + 1)), dkT m c (headOf t h) r (512 * j.val + s) l) := by
    refine (dk_rows m c hx t X (fun h s l => ∑ r ∈ Finset.range (128 * blockOf t), dkT m c (headOf t h) r s l) (is_start t X (dkT m c) hX) j h).congr fun s l _ _ => ?_
    rw [blockOf_eq, Nat.mul_succ, Finset.sum_range_add]
  induction n generalizing j h with
  | zero => exact step ⟨0, hn⟩ _ (fun e => absurd rfl e) j h
  | succ n ih =>
    refine step ⟨n + 1, hn⟩ _ (fun e j h => ?_) j h
    dsimp only at e
    have e1 : (n + 1) % 16 = n % 16 + 1 := by omega
    have e2 : (n + 1) / 16 = n / 16 := by omega
    dsimp only [headOf]
    rw [e1, e2]
    exact ih (Nat.lt_of_succ_lt hn) j h

omit hx in
/-- A block of keys at an element, by its chunk and head. -/
theorem elem_rows (X : Vec Ideal S2048x384 .f32) (f : Fin 3 → ℕ → ℕ → ℝ) (hX : ∀ j h, Is (φ := .f32) (rows X j h) (fun s l => f h (512 * j.val + s) l)) (s : Fin 2048) (l : Fin 384) :
    X (ix2 s l) = ((f ⟨l.val / 128, by omega⟩ s.val (l.val % 128) : ℝ) : EReal) := by
  have e := hX ⟨s.val / 512, by omega⟩ ⟨l.val / 128, by omega⟩ ⟨s.val % 512, by omega⟩ ⟨l.val % 128, by omega⟩
  rw [rows_apply] at e
  dsimp only at e
  have e1 : s.val / 512 * 512 + s.val % 512 = s.val := by omega
  have e2 : l.val / 128 * 128 + l.val % 128 = l.val := by omega
  have e3 : 512 * (s.val / 512) + s.val % 512 = s.val := by omega
  rw [e3] at e
  refine Eq.trans (congrArg X (congrArg₂ ix2 (Fin.ext ?_) (Fin.ext ?_))) e
  · exact e1.symm
  · exact e2.symm

/-- The queries' gradient after the run. -/
theorem arr_dq : (dats m 0 c).arrAt 4 cfg0.N = dqA (projOf m c) (gradOf m c) := by
  refine (dats m 0 c).arrAt_eq_of_covers 4 _ (by decide +kernel) fun t hf y => ?_
  blk_simp
  rw [after0_4]
  idx_vars y
  refine (is_dq m c hx t y0 y1).trans ?_
  unfold dqA
  refine congrArg _ (congrArg₂ (dqR _ _) ?_ ?_)
  · blk_simp [(places t).2.2.2.2.1]; omega
  · blk_simp [(places t).2.2.2.2.1]; omega
/-- The keys' gradient after the run. -/
theorem arr_dk : (dats m 0 c).arrAt 5 cfg0.N = dkA (projOf m c) (gradOf m c) := by
  refine (dats m 0 c).arrAt_eq_of_covers 5 _ (by decide +kernel) fun t hf y => ?_
  have h15 := (flush0_5 t).1 hf
  have ht := point_lt t
  blk_simp
  rw [after0_5]
  idx_vars y
  refine (elem_rows (dkAt m c t.val t.isLt) (fun h s l => ∑ r ∈ Finset.range (128 * (t.val % 16 + 1)), dkT m c (3 * (t.val / 16) + h.val) r s l) (fun j h => dk_sum m c hx t.val t.isLt j h) y0 y1).trans ?_
  unfold dkA dkR
  rw [h15]
  refine congrArg _ (Finset.sum_congr rfl fun r _ => ?_)
  have e0 : (((win0_5.blk t).view.emb (ix2 y0 y1)) 0 : ℕ) = y0.val := by blk_simp [(places t).2.2.2.2.2.1]
  have e1 : (((win0_5.blk t).view.emb (ix2 y0 y1)) 1 : ℕ) = 384 * (t.val / 16) + y1.val := by blk_simp [(places t).2.2.2.2.2.1]; omega
  rw [e0, e1, show (384 * (t.val / 16) + y1.val) / 128 = 3 * (t.val / 16) + y1.val / 128 from by omega, show (384 * (t.val / 16) + y1.val) % 128 = y1.val % 128 from by omega]
/-- The values' gradient after the run. -/
theorem arr_dv : (dats m 0 c).arrAt 6 cfg0.N = dvA (projOf m c) (gradOf m c) := by
  refine (dats m 0 c).arrAt_eq_of_covers 6 _ (by decide +kernel) fun t hf y => ?_
  have h15 := (flush0_6 t).1 hf
  have ht := point_lt t
  blk_simp
  rw [after0_6]
  idx_vars y
  refine (elem_rows (dvAt m c t.val t.isLt) (fun h s l => ∑ r ∈ Finset.range (128 * (t.val % 16 + 1)), dvT m c (3 * (t.val / 16) + h.val) r s l) (fun j h => dv_sum m c hx t.val t.isLt j h) y0 y1).trans ?_
  unfold dvA dvR
  rw [h15]
  refine congrArg _ (Finset.sum_congr rfl fun r _ => ?_)
  have e0 : (((win0_6.blk t).view.emb (ix2 y0 y1)) 0 : ℕ) = y0.val := by blk_simp [(places t).2.2.2.2.2.2]
  have e1 : (((win0_6.blk t).view.emb (ix2 y0 y1)) 1 : ℕ) = 384 * (t.val / 16) + y1.val := by blk_simp [(places t).2.2.2.2.2.2]; omega
  rw [e0, e1, show (384 * (t.val / 16) + y1.val) / 128 = 3 * (t.val / 16) + y1.val / 128 from by omega, show (384 * (t.val / 16) + y1.val) % 128 = y1.val % 128 from by omega]

end All

end Cert.Proof.Sb

end
-- ==== Proof.Windows.lean ====
/- The host's running sums along the last axis, as sums of reals. -/
module

public import proofs.«01_k».proof.Proof.Lanes
public import Idealize.ShloMosaic.Lib.Pointwise
public import Idealize.ShloMosaic.Lib.StableHlo

@[expose] public section

noncomputable section

namespace Cert.Proof.Sb

open Idealize.ShloMosaic

/-- An array of rank three holds reals. -/
def Is3 {n k l : ℕ} {φ : FTy} (x : FVec Ideal ⟨3, ![n, k, l]⟩ φ) (f : ℕ → ℕ → ℕ → ℝ) : Prop := ∀ a b c, x (ix3 a b c) = ((f a.val b.val c.val : ℝ) : EReal)

theorem foldl_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

abbrev S3 : Shape := ⟨3, ![6, 2048, 2048]⟩

/-- The positions of a window along the last axis. -/
def alongLast : Fin 2048 ≃ (⟨3, ![1, 1, 2048]⟩ : Shape).Idx where
  toFun k := ix3 0 0 k
  invFun y := y 2
  left_inv k := rfl
  right_inv y := by
    funext a
    match a with
    | ⟨0, _⟩ => exact Subsingleton.elim (α := Fin 1) _ _
    | ⟨1, _⟩ => exact Subsingleton.elim (α := Fin 1) _ _
    | ⟨2, _⟩ => rfl

/-- A window sum along the last axis, at an element. -/
theorem window_apply (lo hi : ℕ) (x : FVec Ideal S3 .f32) (h : S3.ReduceWindows ![1, 1, 2048] ![1, 1, 1] ![0, 0, lo] ![0, 0, hi] S3)
    (a : Fin 6) (b c : Fin 2048) :
    Ideal.hostReduceWindowAdd (s := S3) ![1, 1, 2048] ![1, 1, 1] ![0, 0, lo] ![0, 0, hi] h x 0 (ix3 a b c)
      = ∑ k : Fin 2048, if hk : lo ≤ c.val + k.val ∧ c.val + k.val - lo < 2048 then x (ix3 a b ⟨c.val + k.val - lo, hk.2⟩) else 0 := by
  unfold Ideal.hostReduceWindowAdd Host.reduceWindow
  dsimp only
  rw [foldl_sum, zero_add, ← Equiv.sum_comp (alongLast.trans (Shape.rowMajor ⟨3, ![1, 1, 2048]⟩))]
  refine Finset.sum_congr rfl fun k _ => ?_
  have hw : (Shape.rowMajor ⟨3, ![1, 1, 2048]⟩).symm ((alongLast.trans (Shape.rowMajor ⟨3, ![1, 1, 2048]⟩)) k) = ix3 0 0 k := by
    rw [Equiv.trans_apply, Equiv.symm_apply_apply]; rfl
  have hb := b.isLt
  have ha := a.isLt
  by_cases hk : lo ≤ c.val + k.val ∧ c.val + k.val - lo < 2048
  · rw [dif_pos hk, dif_pos (fun i => by
      rw [hw]
      match i with
      | ⟨0, _⟩ => exact ⟨Nat.zero_le _, (show a.val * 1 + 0 - 0 < 6 by omega)⟩
      | ⟨1, _⟩ => exact ⟨Nat.zero_le _, (show b.val * 1 + 0 - 0 < 2048 by omega)⟩
      | ⟨2, _⟩ => exact (show lo ≤ c.val * 1 + k.val ∧ c.val * 1 + k.val - lo < 2048 by omega))]
    refine congrArg x (funext fun i => Fin.ext ?_)
    dsimp only
    rw [hw]
    match i with
    | ⟨0, _⟩ => show a.val * 1 + 0 - 0 = a.val; omega
    | ⟨1, _⟩ => show b.val * 1 + 0 - 0 = b.val; omega
    | ⟨2, _⟩ => show c.val * 1 + k.val - lo = c.val + k.val - lo; omega
  · rw [dif_neg hk, dif_neg (fun hin => hk (by
      have h2 := hin 2
      rw [hw] at h2
      have h3 : lo ≤ c.val * 1 + k.val ∧ c.val * 1 + k.val - lo < 2048 := h2
      omega))]

theorem host_window (lo hi : ℕ) (x : FVec Ideal S3 .f32) (init : (⟨0, ![]⟩ : Shape).Idx → Ideal .f32) (h0 : ∀ i, init i = 0)
    (h : S3.ReduceWindows ![1, 1, 2048] ![1, 1, 1] ![0, 0, lo] ![0, 0, hi] S3) (hu : 0 < (⟨0, ![]⟩ : Shape).numel) :
    Host.reduceWindowAdd (s := S3) ![1, 1, 2048] ![1, 1, 1] ![0, 0, lo] ![0, 0, hi] x init h hu = Ideal.hostReduceWindowAdd (s := S3) ![1, 1, 2048] ![1, 1, 1] ![0, 0, lo] ![0, 0, hi] h x 0 := by
  unfold Host.reduceWindowAdd
  rw [h0]
  rfl

theorem cut_suffix (f : ℕ → ℝ) (c : ℕ) (hc : c ≤ 2048) : (∑ k ∈ Finset.range 2048, if c + k < 2048 then f (c + k) else 0) = ∑ k ∈ Finset.Ico c 2048, f k := by
  have e : 2048 = 2048 - c + c := by omega
  rw [show Finset.range 2048 = Finset.range (2048 - c + c) from congrArg _ e, Finset.sum_range_add,
    Finset.sum_eq_zero (s := Finset.range c) fun k hk => if_neg (by omega), add_zero, Finset.sum_Ico_eq_sum_range]
  exact Finset.sum_congr rfl fun k hk => if_pos (by have := Finset.mem_range.1 hk; omega)
theorem cut_prefix (f : ℕ → ℝ) (c : ℕ) (hc : c < 2048) : (∑ k ∈ Finset.range 2048, if 2047 ≤ c + k then f (c + k - 2047) else 0) = ∑ k ∈ Finset.range (c + 1), f k := by
  have e : 2048 = 2047 - c + (c + 1) := by omega
  rw [show Finset.range 2048 = Finset.range (2047 - c + (c + 1)) from congrArg _ e, Finset.sum_range_add,
    Finset.sum_eq_zero (s := Finset.range (2047 - c)) fun k hk => if_neg (by have := Finset.mem_range.1 hk; omega), zero_add]
  refine Finset.sum_congr rfl fun k hk => ?_
  rw [if_pos (by omega)]
  exact congrArg _ (by omega)

/-- The sum over the positions from an element on. -/
theorem is_suffix {x : FVec Ideal S3 .f32} {f : ℕ → ℕ → ℕ → ℝ} (hx : Is3 x f) (init : (⟨0, ![]⟩ : Shape).Idx → Ideal .f32) (h0 : ∀ i, init i = 0) (h : S3.ReduceWindows ![1, 1, 2048] ![1, 1, 1] ![0, 0, 0] ![0, 0, 2047] S3) (hu : 0 < (⟨0, ![]⟩ : Shape).numel) :
    Is3 (φ := .f32) (Host.reduceWindowAdd (s := S3) ![1, 1, 2048] ![1, 1, 1] ![0, 0, 0] ![0, 0, 2047] x init h hu) (fun a b c => ∑ k ∈ Finset.Ico c 2048, f a b k) := fun a b c => by
  have hc := c.isLt
  rw [host_window 0 2047 x init h0 h hu, window_apply 0 2047 x h]
  refine (Finset.sum_congr rfl fun k _ => (?_ : _ = (((if c.val + k.val < 2048 then f a.val b.val (c.val + k.val) else 0 : ℝ) : ℝ) : EReal))).trans
    ((sum_fin_coe (fun k => if c.val + k < 2048 then f a.val b.val (c.val + k) else 0)).trans (congrArg _ ?_))
  · by_cases hk : c.val + k.val < 2048
    · rw [dif_pos ⟨Nat.zero_le _, hk⟩, if_pos hk]; exact hx a b ⟨_, hk⟩
    · rw [dif_neg (fun e => hk e.2), if_neg hk]; rfl
  · exact cut_suffix (f a.val b.val) c.val hc.le

/-- The sum over the positions up to an element. -/
theorem is_prefix {x : FVec Ideal S3 .f32} {f : ℕ → ℕ → ℕ → ℝ} (hx : Is3 x f) (init : (⟨0, ![]⟩ : Shape).Idx → Ideal .f32) (h0 : ∀ i, init i = 0) (h : S3.ReduceWindows ![1, 1, 2048] ![1, 1, 1] ![0, 0, 2047] ![0, 0, 0] S3) (hu : 0 < (⟨0, ![]⟩ : Shape).numel) :
    Is3 (φ := .f32) (Host.reduceWindowAdd (s := S3) ![1, 1, 2048] ![1, 1, 1] ![0, 0, 2047] ![0, 0, 0] x init h hu) (fun a b c => ∑ k ∈ Finset.range (c + 1), f a b k) := fun a b c => by
  have hc := c.isLt
  rw [host_window 2047 0 x init h0 h hu, window_apply 2047 0 x h]
  refine (Finset.sum_congr rfl fun k _ => (?_ : _ = (((if 2047 ≤ c.val + k.val then f a.val b.val (c.val + k.val - 2047) else 0 : ℝ) : ℝ) : EReal))).trans
    ((sum_fin_coe (fun k => if 2047 ≤ c.val + k then f a.val b.val (c.val + k - 2047) else 0)).trans (congrArg _ ?_))
  · have hk' := k.isLt
    by_cases hk : 2047 ≤ c.val + k.val
    · rw [dif_pos ⟨hk, by omega⟩, if_pos hk]; exact hx a b ⟨_, by omega⟩
    · rw [dif_neg (fun e => hk e.1), if_neg hk]; rfl
  · exact cut_prefix (f a.val b.val) c.val hc

end Cert.Proof.Sb

end
-- ==== Proof.Ref.lean ====
/- The reference's three results, in closed form. -/
module

public import proofs.«01_k».proof.Proof.Gen.ReferenceIdeal.Run
public import proofs.«01_k».proof.Proof.Answer
public import proofs.«01_k».proof.Proof.Windows
public import Idealize.ShloMosaic.Lib.WordCmp

@[expose] public section

set_option maxRecDepth 16384

noncomputable section

namespace Cert.Proof.Sb

open Cert.ReferenceIdeal Cert.ReferenceIdeal.Gen Cert.ReferenceIdeal.Value
open Idealize.ShloMosaic Idealize.ShloMosaic.TcCoe Idealize.ShloMosaic.StableHlo

variable (V0 : Valuation τ sig (Elt Ideal))

abbrev x0 : Proj := V0 (Proc.devRef .tc main_arg0)
abbrev y0 : Grad := V0 (Proc.devRef .tc main_arg1)

variable (hx : AllFinite (x0 V0) (y0 V0))
include hx

theorem is_v5 : Is3 (φ := .f32) (n := 2048) (k := 6) (l := 128) (res_main_v5 V0) (fun s H d => headK (x0 V0) H s d) := fun s H d => by
  have hH := H.isLt
  have hd := d.isLt
  pointwise [res_main_v5, res_main_v0]
  refine (hx.proj s _ (by dsimp only; omega)).trans ?_
  unfold headK
  exact congrArg _ (congrArg₂ (projR _) rfl (by dsimp only; omega))
theorem is_v8 : Is3 (φ := .f32) (n := 2048) (k := 6) (l := 128) (res_main_v8 V0) (fun s H d => headQ (x0 V0) H s d) := fun s H d => by
  have hH := H.isLt
  have hd := d.isLt
  pointwise [res_main_v8, res_main_v0]
  rw [show V0 (Proc.tc.devRef main_arg0) (ix2 s ⟨H.val * 128 + d.val, by omega⟩) = _ from hx.proj s _ (by dsimp only; omega), scale_eq, ← EReal.coe_mul]
  unfold headQ
  exact congrArg _ (congrArg (· * scale) (congrArg₂ (projR _) rfl (by dsimp only; omega)))
theorem is_v30 : Is3 (φ := .f32) (n := 6) (k := 128) (l := 2048) (res_main_v30 V0) (fun H d t => headG (y0 V0) H t d) := fun H d t => by
  have hH := H.isLt
  have hd := d.isLt
  pointwise [res_main_v30]
  refine (hx.grad t _).trans ?_
  unfold headG
  exact congrArg _ (congrArg₂ (gradR _) rfl (by dsimp only; omega))
theorem is_v9 : Is3 (φ := .f32) (n := 6) (k := 2048) (l := 2048) (res_main_v9 V0) (fun H t s => scoreR (headQ (x0 V0) H) (headK (x0 V0) H) t s) := fun H t s => by
  pointwise [res_main_v9]
  refine Eq.trans ?_ (sum_fin_coe (fun d => headQ (x0 V0) H t d * headK (x0 V0) H s d))
  refine Finset.sum_congr rfl fun d _ => ?_
  rw [is_v8 V0 hx, is_v5 V0 hx, ← EReal.coe_mul]
omit hx in
theorem v16_iff (t s : Fin 2048) : res_main_v16 V0 (ix2 t s) = 1#1 ↔ s.val < t.val := by
  pointwise [res_main_v16]
  exact WordCmp.cmpi_slt_ofNat_eq_one_iff (by norm_num; omega) (by norm_num; omega)
theorem is_v6 : Is3 (φ := .f32) (n := 2048) (k := 6) (l := 128) (res_main_v6 V0) (fun s H d => headV (x0 V0) H s d) := fun s H d => by
  have hH := H.isLt
  have hd := d.isLt
  pointwise [res_main_v6, res_main_v0]
  refine (hx.proj s _ (by dsimp only; omega)).trans ?_
  unfold headV
  exact congrArg _ (congrArg₂ (projR _) rfl (by dsimp only; omega))

/-- The scores of a head. -/
abbrev headZ (H t s : ℕ) : ℝ := scoreR (headQ (x0 V0) H) (headK (x0 V0) H) t s

omit hx in
/-- The host's `log(1 + eˣ)` of a real. -/
theorem host_softplus (z : ℝ) : (if (z : EReal) ≠ (z : EReal) then (z : EReal) else max (z : EReal) 0 + Ideal.log1p (Ideal.exp (-FloatOps.absf (F := Ideal) (φ := .f32) (z : EReal)))) = ((softplus z : ℝ) : EReal) := by
  rw [if_neg (fun h => h rfl), show FloatOps.absf (F := Ideal) (φ := .f32) (z : EReal) = ((|z| : ℝ) : EReal) from coe_abs' z, ← EReal.coe_neg, coe_exp', coe_log1p' _ (Real.exp_pos _).le,
    ← EReal.coe_zero, coe_max', ← EReal.coe_add]
  rfl

theorem is_call0_v0 : Is3 (φ := .f32) (n := 6) (k := 2048) (l := 2048) (res_main_call0_v0 V0) (fun H t s => headZ V0 H t s) := fun H t s => by
  pointwise [res_main_call0_v0]
  rw [is_v9 V0 hx, neg_neg]
theorem is_call3_v0 : Is3 (φ := .f32) (n := 6) (k := 2048) (l := 2048) (res_main_call3_v0 V0) (fun H t s => -headZ V0 H t s) := fun H t s => by
  pointwise [res_main_call3_v0]
  rw [is_v9 V0 hx, EReal.coe_neg]
theorem is_call0_v1 : Is3 (φ := .f32) (n := 6) (k := 2048) (l := 2048) (res_main_call0_v1_0 V0) (fun H t s => softplus (headZ V0 H t s)) := fun H t s => by
  refine Eq.trans ?_ (host_softplus _)
  rw [← is_call0_v0 V0 hx H t s]
  pointwise [res_main_call0_v1_0, res_main_call0_call0_v3, res_main_call0_call0_cst]
theorem is_call3_v1 : Is3 (φ := .f32) (n := 6) (k := 2048) (l := 2048) (res_main_call3_v1_0 V0) (fun H t s => softplus (-headZ V0 H t s)) := fun H t s => by
  refine Eq.trans ?_ (host_softplus _)
  rw [← is_call3_v0 V0 hx H t s]
  pointwise [res_main_call3_v1_0, res_main_call3_call0_v3, res_main_call3_call0_cst]

omit hx in
/-- A choice by the mask. -/
theorem by_mask (t s : Fin 2048) {a b : EReal} {p q : ℝ} (ha : a = ((p : ℝ) : EReal)) (hb : b = ((q : ℝ) : EReal)) :
    Scalar.select (res_main_v16 V0 (ix2 t s)) a b = (((if s.val < t.val then p else q : ℝ) : ℝ) : EReal) := by
  unfold Scalar.select
  by_cases h : s.val < t.val
  · exact (if_pos (show res_main_v16 V0 (ix2 t s) = (1 : BitVec 1) from (v16_iff V0 t s).2 h)).trans (by rw [if_pos h, ha])
  · exact (if_neg fun e => h ((v16_iff V0 t s).1 e)).trans (by rw [if_neg h, hb])

omit hx in
theorem const_zero : constant (F := Ideal) S_ FTy.f32 0#32 ix0 = ((0 : ℝ) : EReal) := Ideal.ofBits_zero_f32

theorem is_v19_0 : Is3 (φ := .f32) (n := 6) (k := 2048) (l := 2048) (res_main_v19_0 V0) (fun H t s => stayR (headQ (x0 V0) H) (headK (x0 V0) H) t s) := fun H t s => by
  pointwise [res_main_v19_0, res_main_v19_1]
  rw [is_call0_v1 V0 hx, ← EReal.coe_neg]
  exact by_mask V0 t s rfl const_zero

/-- The weight of a key, whether the mask keeps it or not. -/
abbrev anyWeight (H t s : ℕ) : ℝ := Real.exp (logSigR (headZ V0 H t s) + ((∑ k ∈ Finset.Ico s 2048, stayR (headQ (x0 V0) H) (headK (x0 V0) H) t k) - stayR (headQ (x0 V0) H) (headK (x0 V0) H) t s))

theorem is_v24 : Is3 (φ := .f32) (n := 6) (k := 2048) (l := 2048) (res_main_v24 V0) (fun H t s => anyWeight V0 H t s) := fun H t s => by
  pointwise [res_main_v24]
  rw [is_call3_v1 V0 hx, ← EReal.coe_neg, is_v19_0 V0 hx]
  have e := is_suffix (is_v19_0 V0 hx) (broadcastInDim S_ ![] bcast_S_S_ (constant S_ FTy.f32 0#32)) (fun _ => Ideal.ofBits_zero_f32) reduceWindows_S6x2048x2048_S6x2048x2048_w1s1p0_0_w1s1p0_0_w2048s1p0_2047 h_S_ H t s
  rw [e,
    ← EReal.coe_sub, ← EReal.coe_add, coe_exp']
  rfl

omit hx in
theorem anyWeight_eq (H t s : ℕ) (h : s < t) (hs : s < 2048) : anyWeight V0 H t s = headWeight (x0 V0) H t s := by
  unfold anyWeight headWeight weightR
  rw [if_pos h, Finset.sum_eq_sum_Ico_succ_bot hs, add_sub_cancel_left]

theorem is_v25_0 : Is3 (φ := .f32) (n := 6) (k := 2048) (l := 2048) (res_main_v25_0 V0) (fun H t s => headWeight (x0 V0) H t s) := fun H t s => by
  pointwise [res_main_v25_0, res_main_v25_1]
  refine (by_mask V0 t s (is_v24 V0 hx H t s) const_zero).trans (congrArg _ ?_)
  dsimp only
  by_cases h : s.val < t.val
  · rw [if_pos h, anyWeight_eq V0 _ _ _ h s.isLt]
  · rw [if_neg h, headWeight, weightR, if_neg h]

/-- The weight times its gradient. -/
abbrev headProd (H t s : ℕ) : ℝ := prodR (headQ (x0 V0) H) (headG (y0 V0) H) (headK (x0 V0) H) (headV (x0 V0) H) t s

theorem is_v35 : Is3 (φ := .f32) (n := 6) (k := 2048) (l := 2048) (res_main_v35 V0) (fun H t s => headProd V0 H t s) := fun H t s => by
  pointwise [res_main_v35, res_main_v25_1]
  refine (by_mask V0 t s (p := (∑ d ∈ Finset.range 128, headG (y0 V0) H t d * headV (x0 V0) H s d) * anyWeight V0 H t s) ?_ EReal.coe_zero.symm).trans (congrArg _ ?_)
  · rw [EReal.coe_mul, is_v24 V0 hx]
    refine congrArg (· * _) (Eq.trans (Finset.sum_congr rfl fun d _ => ?_) (sum_fin_coe (fun d => headG (y0 V0) H t d * headV (x0 V0) H s d)))
    rw [is_v30 V0 hx, is_v6 V0 hx, ← EReal.coe_mul]
  unfold headProd prodR
  by_cases h : s.val < t.val
  · rw [if_pos h, anyWeight_eq V0 _ _ _ h s.isLt, mul_comm]
  · rw [if_neg h, weightR, if_neg h, zero_mul]

theorem is_v43 : Is3 (φ := .f32) (n := 6) (k := 2048) (l := 2048) (res_main_v43 V0) (fun H t s => headDScore (x0 V0) (y0 V0) H t s) := fun H t s => by
  pointwise [res_main_v43, res_main_v19_1]
  have e := is_prefix (is_v35 V0 hx) (broadcastInDim S_ ![] bcast_S_S_ (constant S_ FTy.f32 0#32)) (fun _ => Ideal.ofBits_zero_f32) reduceWindows_S6x2048x2048_S6x2048x2048_w1s1p0_0_w1s1p0_0_w2048s1p2047_0 h_S_ H t s
  rw [e,
    is_v35 V0 hx, is_call3_v0 V0 hx, is_call3_v1 V0 hx, is_call0_v0 V0 hx, is_call0_v1 V0 hx, ofBits_top,
    if_neg (EReal.coe_ne_top _), if_neg (EReal.coe_ne_top _), if_neg (EReal.coe_ne_top _), if_neg (EReal.coe_ne_top _),
    ← EReal.coe_sub, ← EReal.coe_sub, coe_exp', coe_exp', ← EReal.coe_neg, ← EReal.coe_add, by_mask V0 t s rfl EReal.coe_zero.symm,
    ← EReal.coe_neg, ← EReal.coe_mul, ← EReal.coe_mul, ← EReal.coe_neg, ← EReal.coe_neg, ← EReal.coe_neg, ← EReal.coe_add, exp_sub_softplus, exp_sub_softplus, sigR_neg]
  refine congrArg _ ?_
  dsimp only
  unfold headDScore dScoreR
  rw [Finset.sum_range_succ]
  by_cases h : s.val < t.val
  · rw [if_pos h, if_pos h]; ring
  · rw [if_neg h, if_neg h, headProd, prodR, weightR, if_neg h]; ring

/-- The queries' gradient, in the reference. -/
theorem ref_dq (t : Fin 2048) (k : Fin 2304) (j : ℕ) (hj : k.val = j) (h : j < 768) : (res_main_v53 V0 (ix2 t k) : EReal) = ((dqR (x0 V0) (y0 V0) t.val j : ℝ) : EReal) := by
  subst hj
  pointwise [res_main_v53]
  rw [dif_pos h]
  unfold dqR
  rw [EReal.coe_mul, ← sum_fin_coe, scale_eq]
  refine congrArg (· * _) (Finset.sum_congr rfl fun x _ => ?_)
  rw [is_v43 V0 hx, is_v5 V0 hx, ← EReal.coe_mul]
/-- The keys' gradient, in the reference. -/
theorem ref_dk (t : Fin 2048) (k : Fin 2304) (j : ℕ) (hj : k.val = 768 + j) (h : j < 768) : (res_main_v53 V0 (ix2 t k) : EReal) = ((dkR (x0 V0) (y0 V0) t.val j : ℝ) : EReal) := by
  obtain rfl : j = k.val - 768 := by omega
  pointwise [res_main_v53]
  rw [dif_neg (by omega), dif_pos h]
  refine Eq.trans ?_ (sum_fin_coe (fun r => headDScore (x0 V0) (y0 V0) ((k.val - 768) / 128) r t * headQ (x0 V0) ((k.val - 768) / 128) r ((k.val - 768) % 128)))
  refine Finset.sum_congr (M := EReal) rfl fun x _ => ?_
  rw [is_v43 V0 hx, is_v8 V0 hx, ← EReal.coe_mul]
/-- The values' gradient, in the reference. -/
theorem ref_dv (t : Fin 2048) (k : Fin 2304) (j : ℕ) (hj : k.val = 1536 + j) (h : j < 768) : (res_main_v53 V0 (ix2 t k) : EReal) = ((dvR (x0 V0) (y0 V0) t.val j : ℝ) : EReal) := by
  obtain rfl : j = k.val - 768 - 768 := by omega
  pointwise [res_main_v53]
  rw [dif_neg (by omega), dif_neg (by omega)]
  refine Eq.trans ?_ (sum_fin_coe (fun r => headWeight (x0 V0) ((k.val - 768 - 768) / 128) r t * headG (y0 V0) ((k.val - 768 - 768) / 128) r ((k.val - 768 - 768) % 128)))
  refine Finset.sum_congr (M := EReal) rfl fun x _ => ?_
  rw [is_v30 V0 hx, is_v25_0 V0 hx, ← EReal.coe_mul, mul_comm]

/-- The reference's arrays in closed form. -/
theorem ref_arr_dq : truncf (F := Ideal) (φ := .f32) .bf16 (extractStridedSlice S2048x768 ![0, 0] (res_main_v53 V0) slices_S2048x2304_S2048x768_0_0) bitsLt_bf16_f32 = dqA (x0 V0) (y0 V0) := by
  funext j
  idx_vars j
  pointwise
  exact ref_dq V0 hx j0 ⟨_, _⟩ j1.val (by dsimp only) j1.isLt
theorem ref_arr_dk : extractStridedSlice S2048x768 ![0, 768] (res_main_v53 V0) slices_S2048x2304_S2048x768_0_768 = dkA (x0 V0) (y0 V0) := by
  funext j
  idx_vars j
  pointwise
  exact ref_dk V0 hx j0 ⟨_, _⟩ j1.val (by dsimp only) j1.isLt
theorem ref_arr_dv : extractStridedSlice S2048x768 ![0, 1536] (res_main_v53 V0) slices_S2048x2304_S2048x768_0_1536 = dvA (x0 V0) (y0 V0) := by
  funext j
  idx_vars j
  pointwise
  exact ref_dv V0 hx j0 ⟨_, _⟩ j1.val (by dsimp only) j1.isLt

end Cert.Proof.Sb

end
-- ==== Proof.Value.lean ====
/- The kernel and the reference end with the same three gradients. -/
module

public import proofs.«01_k».proof.Proof.Grid
public import proofs.«01_k».proof.Proof.Ref
public import proofs.«01_k».proof.Proof.Gen.KernelIdeal
public import proofs.«01_k».proof.Defs

@[expose] public section

noncomputable section

namespace Cert.Proof.Sb

open Idealize.ShloMosaic Idealize.ShloMosaic.TcCoe Idealize.SL.Sem

/-- The side conditions of the precondition. -/
theorem finite_facts : Cert.Pre_finite.Facts := ⟨by decide, by decide, by decide⟩

theorem algebraic : Cert.algebraic_KernelIdeal_ReferenceIdeal_pre_finite (hKernelIdeal := Cert.KernelIdeal.Gen.facts) (hReferenceIdeal := Cert.ReferenceIdeal.Gen.facts) (hPre_finite := finite_facts) := by
  intro m g m' g' hpre hag
  have hx (c : Dev Cert.KernelIdeal.nD) : AllFinite (projOf m c) (gradOf m c) :=
    @real_of_finite finite_facts _ _ (hpre c).1 (hpre c).2
  refine ⟨fun c => dqA (projOf m c) (gradOf m c), fun c => dkA (projOf m c) (gradOf m c), fun c => dvA (projOf m c) (gradOf m c), ?_, ?_⟩
  · refine (θ_run Cert.KernelIdeal.defs _ _).mono (fun r h c => ⟨?_, ?_, ?_, ?_, ?_⟩) (run_main (F := Ideal) m g)
    · exact ((h c).1 4).trans (arr_dq m c (hx c))
    · exact ((h c).1 5).trans (arr_dk m c (hx c))
    · exact ((h c).1 6).trans (arr_dv m c (hx c))
    · exact ((h c).1 0).trans (((dats m 0 c).arrAt_in 0 rfl _).trans (Cert.KernelIdeal.Gen.V_main_arg0 m c))
    · exact ((h c).1 3).trans (((dats m 0 c).arrAt_in 3 rfl _).trans (Cert.KernelIdeal.Gen.V_main_arg1 m c))
  · refine (θ_run Cert.ReferenceIdeal.defs _ _).mono (fun r h c => ?_) (Cert.ReferenceIdeal.Value.run (F := Ideal) m' g')
    have ex : x0 (StableHlo.launchContents m' c) = projOf m c := (hag c).1
    have ey : y0 (StableHlo.launchContents m' c) = gradOf m c := (hag c).2
    have hx' : AllFinite (x0 (StableHlo.launchContents m' c)) (y0 (StableHlo.launchContents m' c)) := by rw [ex, ey]; exact hx c
    have h0 := ref_arr_dq _ hx'
    have h1 := ref_arr_dk _ hx'
    have h2 := ref_arr_dv _ hx'
    rw [ex, ey] at h0 h1 h2
    exact ⟨(h c).1.trans h0, (h c).2.1.trans h1, (h c).2.2.1.trans h2, (h c).2.2.2.1, (h c).2.2.2.2⟩

end Cert.Proof.Sb

end
-- ==== Proof.Tools.lean ====
/- What the modules on the calls' values read. -/
module

public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Pointwise
-- ==== Proof.Dx.lean ====
/- The first matrix's input gradient, a product summed over four stretches: what the call leaves, and the reference. -/
module

public import proofs.«01_k».proof.Proof.Gen.Kernel3Ideal.Value
public import proofs.«01_k».proof.Proof.Gen.Reference3Ideal.Run
public import proofs.«01_k».proof.Proof.Gen.Kernel3Ideal
public import proofs.«01_k».proof.Proof.Tools

@[expose] public section

set_option maxRecDepth 16384

noncomputable section

namespace Cert.Proof.Dx

open Idealize.ShloMosaic Idealize.ShloMosaic.TcCoe Idealize.ShloMosaic.StableHlo Idealize.SL.Sem Idealize.ShloMosaic.Tactic

/-- A sum over `a * b` numbers, stretch by stretch. -/
theorem sum_stretches {a b n : ℕ} (hn : n = a * b) (f : Fin n → EReal) :
    ∑ k : Fin n, f k = ∑ p : Fin a, ∑ q : Fin b, f ⟨b * p.val + q.val, by
      subst hn; have := p.isLt; have := q.isLt; have : b * (p.val + 1) ≤ b * a := Nat.mul_le_mul_left b (by omega); rw [Nat.mul_comm a b]; rw [Nat.mul_add] at this; omega⟩ := by
  subst hn
  rw [← Fintype.sum_prod_type' (f := fun p q => f _)]
  refine (Fintype.sum_equiv finProdFinEquiv _ _ fun x => ?_).symm
  exact congrArg f (Fin.ext (Nat.add_comm _ _))

abbrev Wide : Type := Vec Ideal ⟨2, ![2048, 8192]⟩ .f32
abbrev Sq : Type := Vec Ideal ⟨2, ![2048, 2048]⟩ .f32

/-- The gradient of the input: row `i` of the output's gradient with row `j` of the matrix. -/
def back (w g : Wide) (i j : Fin 2048) : EReal := ∑ k : Fin 8192, (g (ix2 i k) : EReal) * (w (ix2 j k) : EReal)
def backA (w g : Wide) : Sq := fun i => back w g (i 0) (i 1)

section Kernel

open Cert.Kernel3Ideal Cert.Kernel3Ideal.Gen

variable (m : (ℓ : Loc nD τ sig) → Buf (Elt Ideal) ℓ) (c : Dev nD)

abbrev wK : Wide := m ((c.tc : Thread nD τ).loc main_arg0)
abbrev gK : Wide := m ((c.tc : Thread nD τ).loc main_arg1)

/-- What the call finds: the output's gradient and the matrix cut by columns. -/
abbrev grad : Vec Ideal S2048x8192 .bf16 := V m c main_v3
abbrev cut : Vec Ideal S4x2048x2048 .bf16 := V m c main_v2

theorem grad_eq (i : Fin 2048) (k : Fin 8192) : grad m c (ix2 i k) = gK m c (ix2 i k) := by
  unfold grad
  after_reads_at
theorem cut_eq (a : Fin 4) (j k : Fin 2048) : cut m c (ix3 a j k) = wK m c (ix2 j ⟨a.val * 2048 + k.val, by omega⟩) := by
  unfold cut
  after_reads_at

/-- Where the blocks lie. -/
theorem places : ∀ t : Fin cfg0.N, win0_0.index t = ![t.val / 8, t.val % 4] ∧ win0_1.index t = ![t.val % 4, t.val % 8 / 4, 0]
    ∧ win0_2.index t = ![t.val / 8, t.val % 8 / 4] :=
  (by decide +kernel : ∀ t : Fin grid0.N, _)

theorem lt (t : Fin cfg0.N) : t.val < 16 := t.isLt

theorem read_0 (t : Fin cfg0.N) (r : Fin 1024) (k : Fin 2048) :
    (iblk m c 0 t : Vec Ideal S1024x2048 .bf16) (ix2 r k) = grad m c (ix2 ⟨1024 * (t.val / 8) + r.val, by have := lt t; omega⟩ ⟨2048 * (t.val % 4) + k.val, by omega⟩) := by
  blk_ext [iblk, (places t).1]
theorem read_1 (t : Fin cfg0.N) (l : Fin 1024) (k : Fin 2048) :
    (iblk m c 1 t : Vec Ideal S1x1024x2048 .bf16) (ix3 0 l k) = cut m c (ix3 ⟨t.val % 4, by omega⟩ ⟨1024 * (t.val % 8 / 4) + l.val, by omega⟩ k) := by
  blk_ext [iblk, (places t).2.1]

/-- One stretch's share. -/
def share (w g : Wide) (i j : Fin 2048) (a : Fin 4) : EReal :=
  ∑ k : Fin 2048, (g (ix2 i ⟨2048 * a.val + k.val, by omega⟩) : EReal) * (w (ix2 j ⟨2048 * a.val + k.val, by omega⟩) : EReal)

theorem back_eq (w g : Wide) (i j : Fin 2048) : back w g i j = ∑ a : Fin 4, share w g i j a := sum_stretches (by decide) _

theorem pay1 (x0 : Vec Ideal S1024x2048 .bf16) (x1 : Vec Ideal S1x1024x2048 .bf16) (r l : Fin 1024) :
    (k0_pay1 x0 x1 (ix2 r l) : EReal) = ∑ k : Fin 2048, (x0 (ix2 r k) : EReal) * (x1 (ix3 0 l k) : EReal) := by
  pointwise [k0_pay1]
theorem pay2 (x0 : Vec Ideal S1024x2048 .bf16) (x1 : Vec Ideal S1x1024x2048 .bf16) (r l : Fin 1024) :
    (k0_pay2 x0 x1 (ix2 r l) : EReal) = (k0_pay1 x0 x1 (ix2 r l) : EReal) := by
  pointwise [k0_pay2]
theorem pay3 (x0 : Vec Ideal S1024x2048 .bf16) (x1 : Vec Ideal S1x1024x2048 .bf16) (x2 : Vec Ideal S1024x1024 .f32) (r l : Fin 1024) :
    (k0_pay3 x0 x1 x2 (ix2 r l) : EReal) = (x2 (ix2 r l) : EReal) + (k0_pay1 x0 x1 (ix2 r l) : EReal) := by
  pointwise [k0_pay3]
theorem pay4 (x0 : Vec Ideal S1024x2048 .bf16) (x1 : Vec Ideal S1x1024x2048 .bf16) (x2 : Vec Ideal S1024x1024 .f32) (r l : Fin 1024) :
    (k0_pay4 x0 x1 x2 (ix2 r l) : EReal) = (x2 (ix2 r l) : EReal) + (k0_pay1 x0 x1 (ix2 r l) : EReal) := by
  pointwise [k0_pay4]

/-- The row and the column a place of a point's block stands for. -/
abbrev row (t : ℕ) (r : Fin 1024) (h : t < 16) : Fin 2048 := ⟨1024 * (t / 8) + r.val, by omega⟩
abbrev col (t : ℕ) (l : Fin 1024) : Fin 2048 := ⟨1024 * (t % 8 / 4) + l.val, by omega⟩

theorem part (t : Fin cfg0.N) (r l : Fin 1024) :
    (k0_pay1 (iblk m c 0 t) (iblk m c 1 t) (ix2 r l) : EReal)
      = share (wK m c) (gK m c) (row t.val r (lt t)) (col t.val l) ⟨t.val % 4, by omega⟩ := by
  refine (pay1 _ _ r l).trans ?_
  unfold share
  refine Finset.sum_congr rfl fun k _ => congrArg₂ (· * ·) ((read_0 m c t r k).trans (grad_eq m c _ _)) ((read_1 m c t l k).trans ((cut_eq m c _ _ k).trans ?_))
  refine congrArg _ (congrArg (ix2 _) (Fin.ext ?_)); dsimp only; omega

/-- The running sum after a point, but for the last of each four. -/
theorem running (s : ℕ) : ∀ (q : ℕ) (hq : 4 * q + s < cfg0.N) (hs : s < 3) (r l : Fin 1024),
    ((outsAt0 m c (4 * q + s) hq).2 (ix2 r l) : EReal)
      = ∑ a : Fin (s + 1), share (wK m c) (gK m c) (row (4 * q) r (by have : 4 * q + s < 16 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have h16 : 4 * q + (s + 1) < 16 := lt ⟨_, hq⟩
    refine congr (congr (congrArg (share _ _) (Fin.ext ?_)) (Fin.ext ?_)) (Fin.ext ?_) <;> dsimp only [Fin.val_last] <;> omega

/-- The input's gradient after the call. -/
theorem arr : (dats m 0 c).arrAt 2 cfg0.N = backA (wK m c) (gK m c) := by
  refine (dats m 0 c).arrAt_eq_of_covers 2 _ (by decide +kernel) fun t hf y => ?_
  have hm : t.val % 4 = 3 := (flush0_2 t).mp hf
  have h16 := lt t
  blk_simp
  rw [after0_2, outsAt0_C m c t (by omega) (by omega) hm]
  idx_vars y
  unfold out0_C_2
  frame_out
  simp only [read_unread_whole]
  refine (pay4 _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine Eq.trans ?_ ((back_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2]; dsimp only; omega
    · blk_simp [(places t).2.2]; dsimp only; omega
  · refine congr (congr (congrArg (share _ _) (Fin.ext ?_)) (Fin.ext ?_)) (Fin.ext ?_)
    · blk_simp [(places t).2.2]; dsimp only; omega
    · blk_simp [(places t).2.2]; dsimp only; omega
    · dsimp only [Fin.val_last]; omega

end Kernel

section Reference

open Cert.Reference3Ideal Cert.Reference3Ideal.Gen

theorem ref (w g : Wide) : (Host.dotGeneral (F := Ideal) (φ₁ := .f32) (φ₂ := .f32) dot_S2048x8192_S2048x8192_S2048x2048_1_1_0_0_n_n none g w : Sq) = backA w g := by
  funext i
  idx_vars i
  unfold backA back
  pointwise []

end Reference

theorem algebraic : Cert.algebraic_Kernel3Ideal_Reference3Ideal (hKernel3Ideal := Cert.Kernel3Ideal.Gen.facts) (hReference3Ideal := Cert.Reference3Ideal.Gen.facts) := by
  intro m ρ m' ρ' _ hag
  refine ⟨fun c => backA (wK m c) (gK m c), (θ_run Cert.Kernel3Ideal.defs _ _).mono (fun r h c => ⟨(h c).1.trans (arr m c), (h c).2⟩) (Cert.Kernel3Ideal.Value.run_blocks (F := Ideal) m ρ),
    (θ_run Cert.Reference3Ideal.defs _ _).mono (fun r h c => ?_) (Cert.Reference3Ideal.Value.run (F := Ideal) m' ρ')⟩
  obtain ⟨h0, h1⟩ := hag c
  refine ⟨((h c).1.trans (ref _ _)).trans ?_, (h c).2⟩
  rw [h0, h1]

end Cert.Proof.Dx

end
-- ==== Proof.OutProj.lean ====
/- The output projection's backward pass: what each of the two calls leaves in its arrays, and the reference. -/
module

public import proofs.«01_k».proof.Proof.Gen.Kernel4Ideal.Frame
public import proofs.«01_k».proof.Proof.Gen.Reference4Ideal.Run
public import proofs.«01_k».proof.Proof.Tools

@[expose] public section

set_option maxRecDepth 16384

noncomputable section

namespace Cert.Proof.OutProj

open Idealize.ShloMosaic Idealize.ShloMosaic.TcCoe Idealize.ShloMosaic.StableHlo Idealize.SL.Sem Idealize.ShloMosaic.Tactic

abbrev Sq : Type := Vec Ideal ⟨2, ![2048, 2048]⟩ .f32
abbrev Sqh : Type := Vec Ideal ⟨2, ![2048, 2048]⟩ .bf16

/-- The gradient of the projection's input, -/
def dIn (w g : Sq) : Sqh := fun i => (∑ k : Fin 2048, (g (ix2 (i 0) k) : EReal) * (w (ix2 (i 1) k) : EReal) : EReal)
/-- and of its matrix. -/
def dMat (x g : Sq) : Sqh := fun i => (∑ k : Fin 2048, (x (ix2 k (i 0)) : EReal) * (g (ix2 k (i 1)) : EReal) : EReal)

section Kernel

open Cert.Kernel4Ideal Cert.Kernel4Ideal.Gen

section Calls

variable (V : (c : Dev nD) → (b : Ref sig .tc) → Buf (Elt Ideal) ((c : Thread nD τ).loc b)) (c : Dev nD)

/-- What the calls find: the matrix cut by rows, the input, the output's gradient. -/
abbrev cut : Vec Ideal S4x512x2048 .bf16 := V c main_v1
abbrev input : Vec Ideal S2048x2048 .bf16 := V c main_v3
abbrev grad : Vec Ideal S2048x2048 .f32 := V c main_arg2

/-- Where the blocks of the first call lie. -/
theorem places0 : ∀ t : Fin cfg0.N, win0_0.index t = ![t.val / 4, 0] ∧ win0_1.index t = ![t.val % 4, 0, 0] ∧ win0_2.index t = ![t.val / 4, t.val % 4] :=
  (by decide +kernel : ∀ t : Fin grid0.N, _)

theorem lt0 (t : Fin cfg0.N) : t.val < 8 := t.isLt

theorem read0_0 (t : Fin cfg0.N) (r : Fin 1024) (k : Fin 2048) :
    (iblk0 V c 0 t : Vec Ideal S1024x2048 .f32) (ix2 r k) = grad V c (ix2 ⟨1024 * (t.val / 4) + r.val, by have := lt0 t; omega⟩ k) := by
  blk_ext [iblk0, (places0 t).1]
theorem read0_1 (t : Fin cfg0.N) (l : Fin 512) (k : Fin 2048) :
    (iblk0 V c 1 t : Vec Ideal S1x512x2048 .bf16) (ix3 0 l k) = cut V c (ix3 ⟨t.val % 4, by omega⟩ l k) := by
  blk_ext [iblk0, (places0 t).2.1]

/-- The input's gradient, from the output's gradient and the cut matrix. -/
def inOf (w : Vec Ideal S4x512x2048 .bf16) (g : Vec Ideal S2048x2048 .f32) (i j : Fin 2048) : EReal :=
  ∑ k : Fin 2048, (g (ix2 i k) : EReal) * (w (ix3 ⟨j.val / 512, by omega⟩ ⟨j.val % 512, by omega⟩ k) : EReal)

theorem pay0 (x0 : Vec Ideal S1024x2048 .f32) (x1 : Vec Ideal S1x512x2048 .bf16) (r : Fin 1024) (l : Fin 512) :
    (k0_pay1 x0 x1 (ix2 r l) : EReal) = ∑ k : Fin 2048, (x0 (ix2 r k) : EReal) * (x1 (ix3 0 l k) : EReal) := by
  pointwise [k0_pay1]

theorem out0 (t : Fin cfg0.N) (r : Fin 1024) (l : Fin 512) :
    (k0_pay1 (iblk0 V c 0 t) (iblk0 V c 1 t) (ix2 r l) : EReal)
      = inOf (cut V c) (grad V c) ⟨1024 * (t.val / 4) + r.val, by have := lt0 t; omega⟩ ⟨512 * (t.val % 4) + l.val, by omega⟩ := by
  refine (pay0 _ _ r l).trans ?_
  unfold inOf
  refine Finset.sum_congr rfl fun k _ => congrArg₂ (· * ·) (read0_0 V c t r k) ((read0_1 V c t l k).trans ?_)
  refine congrArg _ (congrArg₂ (fun a b => ix3 a b k) (Fin.ext ?_) (Fin.ext ?_)) <;> dsimp only <;> omega

theorem arr0 : (dat0 V c).arrAt 2 cfg0.N = (fun i => inOf (cut V c) (grad V c) (i 0) (i 1) : Vec Ideal S2048x2048 .bf16) := by
  refine (dat0 V c).arrAt_eq_of_covers 2 _ (by decide +kernel) fun t hf y => ?_
  blk_simp
  rw [after0_2]
  idx_vars y
  unfold out0_2
  frame_out
  refine (out0 V c t y0 y1).trans (congrArg₂ (inOf _ _) (Fin.ext ?_) (Fin.ext ?_))
  · blk_simp [(places0 t).2.2]; dsimp only; omega
  · blk_simp [(places0 t).2.2]; dsimp only; omega

/-- Where the blocks of the second call lie. -/
theorem places1 : ∀ t : Fin cfg1.N, win1_0.index t = ![0, t.val / 2] ∧ win1_1.index t = ![0, t.val % 2] ∧ win1_2.index t = ![t.val / 2, t.val % 2] :=
  (by decide +kernel : ∀ t : Fin grid1.N, _)

theorem lt1 (t : Fin cfg1.N) : t.val < 4 := t.isLt

theorem read1_0 (t : Fin cfg1.N) (k : Fin 2048) (r : Fin 1024) :
    (iblk1 V c 0 t : Vec Ideal S2048x1024 .bf16) (ix2 k r) = input V c (ix2 k ⟨1024 * (t.val / 2) + r.val, by have := lt1 t; omega⟩) := by
  blk_ext [iblk1, (places1 t).1]
theorem read1_1 (t : Fin cfg1.N) (k : Fin 2048) (l : Fin 1024) :
    (iblk1 V c 1 t : Vec Ideal S2048x1024 .f32) (ix2 k l) = grad V c (ix2 k ⟨1024 * (t.val % 2) + l.val, by omega⟩) := by
  blk_ext [iblk1, (places1 t).2.1]

/-- The matrix's gradient, from the input and the output's gradient. -/
def matOf (x : Vec Ideal S2048x2048 .bf16) (g : Vec Ideal S2048x2048 .f32) (i j : Fin 2048) : EReal :=
  ∑ k : Fin 2048, (x (ix2 k i) : EReal) * (g (ix2 k j) : EReal)

theorem pay1 (x0 : Vec Ideal S2048x1024 .bf16) (x1 : Vec Ideal S2048x1024 .f32) (r l : Fin 1024) :
    (k1_pay1 x0 x1 (ix2 r l) : EReal) = ∑ k : Fin 2048, (x0 (ix2 k r) : EReal) * (x1 (ix2 k l) : EReal) := by
  pointwise [k1_pay1]

theorem out1 (t : Fin cfg1.N) (r l : Fin 1024) :
    (k1_pay1 (iblk1 V c 0 t) (iblk1 V c 1 t) (ix2 r l) : EReal)
      = matOf (input V c) (grad V c) ⟨1024 * (t.val / 2) + r.val, by have := lt1 t; omega⟩ ⟨1024 * (t.val % 2) + l.val, by omega⟩ := by
  refine (pay1 _ _ r l).trans ?_
  unfold matOf
  exact Finset.sum_congr rfl fun k _ => congrArg₂ (· * ·) (read1_0 V c t k r) (read1_1 V c t k l)

theorem arr1 : (dat1 V c).arrAt 2 cfg1.N = (fun i => matOf (input V c) (grad V c) (i 0) (i 1) : Vec Ideal S2048x2048 .bf16) := by
  refine (dat1 V c).arrAt_eq_of_covers 2 _ (by decide +kernel) fun t hf y => ?_
  blk_simp
  rw [after1_2]
  idx_vars y
  unfold out1_2
  frame_out
  refine (out1 V c t y0 y1).trans (congrArg₂ (matOf _ _) (Fin.ext ?_) (Fin.ext ?_))
  · blk_simp [(places1 t).2.2]; dsimp only; omega
  · blk_simp [(places1 t).2.2]; dsimp only; omega

end Calls

variable (m : (ℓ : Loc nD τ sig) → Buf (Elt Ideal) ℓ) (ρ : Dev nD → PrngReg) (c : Dev nD)

abbrev xK : Sq := m ((c.tc : Thread nD τ).loc main_arg0)
abbrev wK : Sq := m ((c.tc : Thread nD τ).loc main_arg1)
abbrev gK : Sq := m ((c.tc : Thread nD τ).loc main_arg2)

theorem cut_eq (a : Fin 4) (j : Fin 512) (k : Fin 2048) : cut (V1 m ρ) c (ix3 a j k) = wK m c (ix2 ⟨a.val * 512 + j.val, by omega⟩ k) := by
  unfold cut
  after_reads_at
theorem grad1 : grad (V1 m ρ) c = gK m c := W1_of m ρ c main_arg2 (by decide)
theorem in2 : W2 m ρ c (Proc.devRef .tc main_v2) = dIn (wK m c) (gK m c) := by
  refine ((W2_arr m ρ c 2).trans (arr0 (V1 m ρ) c)).trans (funext fun i => ?_)
  rw [grad1]
  unfold inOf dIn
  refine Finset.sum_congr rfl fun k _ => congrArg₂ (· * ·) rfl ((cut_eq m ρ c _ _ k).trans ?_)
  refine congrArg _ (congrArg (ix2 · k) (Fin.ext ?_)); dsimp only; omega
theorem out_in : W4 m ρ c (Proc.devRef .tc main_v2) = dIn (wK m c) (gK m c) :=
  ((W4_of m ρ c main_v2 (by decide)).trans (W3_of m ρ c main_v2 (by decide))).trans (in2 m ρ c)
theorem grad3 : grad (V3 m ρ) c = gK m c :=
  ((W3_of m ρ c main_arg2 (by decide)).trans (W2_of m ρ c main_arg2 (by decide))).trans (grad1 m ρ c)
theorem arg2 : W2 m ρ c (Proc.devRef .tc main_arg0) = xK m c :=
  (W2_of m ρ c main_arg0 (by decide)).trans (W1_of m ρ c main_arg0 (by decide))
theorem input_eq (k i : Fin 2048) : (input (V3 m ρ) c (ix2 k i) : EReal) = (xK m c (ix2 k i) : EReal) := by
  rw [← arg2 m ρ c]
  unfold input
  after_reads_at
theorem out_mat : W4 m ρ c (Proc.devRef .tc main_v4) = dMat (xK m c) (gK m c) := by
  refine ((W4_arr m ρ c 2).trans (arr1 (V3 m ρ) c)).trans (funext fun i => ?_)
  rw [grad3]
  unfold matOf dMat
  exact Finset.sum_congr rfl fun k _ => congrArg₂ (· * ·) (input_eq m ρ c k _) rfl

end Kernel

section Run

open Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- A run of the kernel ends with the two gradients, the arguments as they were. -/
theorem run_kernel : θ_run defs (onTc (τ := τ) (main (F := Ideal))) ⟨m, fun _ => 0, ρ⟩ (fun r => ∀ c : Dev nD,
      r.2.mem ((c.tc : Thread nD τ).loc main_v2) = dIn (wK m c) (gK m c)
      ∧ r.2.mem ((c.tc : Thread nD τ).loc main_v4) = dMat (xK m c) (gK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v2 (by decide))).trans (out_in m ρ c),
       (h c _ (mem_uc main_v4 (by decide))).trans (out_mat m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Run

section Reference

open Cert.Reference4Ideal Cert.Reference4Ideal.Gen

theorem in_ref (w g : Sq) : (truncf (F := Ideal) .bf16 (Host.dotGeneral (F := Ideal) (φ₁ := .f32) (φ₂ := .f32) dot_S2048x2048_S2048x2048_S2048x2048_1_1_0_0_n_n none g w) bitsLt_bf16_f32 : Sqh) = dIn w g := by
  funext i
  idx_vars i
  unfold dIn
  pointwise []
theorem mat_ref (x g : Sq) : (truncf (F := Ideal) .bf16 (transpose S2048x2048 [1, 0] (Host.dotGeneral (F := Ideal) (φ₁ := .f32) (φ₂ := .f32) dot_S2048x2048_S2048x2048_S2048x2048_0_0_1_1_n_n none g x) transposes_S2048x2048_S2048x2048_1_0) bitsLt_bf16_f32 : Sqh) = dMat x g := by
  funext i
  idx_vars i
  unfold dMat
  pointwise []
  exact Finset.sum_congr rfl fun k _ => mul_comm (G := EReal) _ _

end Reference

theorem algebraic : Cert.algebraic_Kernel4Ideal_Reference4Ideal (hKernel4Ideal := Cert.Kernel4Ideal.Gen.facts) (hReference4Ideal := Cert.Reference4Ideal.Gen.facts) := by
  intro m ρ m' ρ' _ hag
  refine ⟨fun c => dIn (wK m c) (gK m c), fun c => dMat (xK m c) (gK m c), run_kernel m ρ,
    (θ_run Cert.Reference4Ideal.defs _ _).mono (fun r h c => ?_) (Cert.Reference4Ideal.Value.run (F := Ideal) m' ρ')⟩
  obtain ⟨h0, h1, h2⟩ := hag c
  refine ⟨((h c).1.trans (in_ref _ _)).trans ?_, ((h c).2.1.trans (mat_ref _ _)).trans ?_, (h c).2.2⟩
  · rw [h1, h2]
  · rw [h0, h2]

end Cert.Proof.OutProj

end
-- ==== Proof.Align.lean ====
/- The layout of the input projection's columns on the device: the attention and the recurrence first, the pooled columns
   behind them, the small ones, a gap of zeros, and the gates. -/
module

public import Idealize.ShloMosaic.Lib.Pointwise

@[expose] public section

noncomputable section

namespace Cert.Proof.Align

/-- A row of columns in the device's layout. -/
def aligned (f : Fin 12044 → EReal) (j : Fin 12288) : EReal :=
  if _h1 : j.val < 4608 then f ⟨j.val + 512, by omega⟩
  else if _h2 : j.val < 5120 then f ⟨j.val - 4608, by omega⟩
  else if _h3 : j.val < 5900 then f ⟨j.val, by omega⟩
  else if _h4 : j.val < 6144 then 0
  else f ⟨j.val - 244, by omega⟩

/-- Where a column lies in the layout. -/
def place (k : Fin 12044) : Fin 12288 :=
  if _h1 : k.val < 512 then ⟨k.val + 4608, by omega⟩
  else if _h2 : k.val < 5120 then ⟨k.val - 512, by omega⟩
  else if _h3 : k.val < 5900 then ⟨k.val, by omega⟩
  else ⟨k.val + 244, by omega⟩

theorem place_val (k : Fin 12044) : (place k).val = if k.val < 512 then k.val + 4608 else if k.val < 5120 then k.val - 512 else if k.val < 5900 then k.val else k.val + 244 := by
  unfold place
  split_ifs <;> rfl

theorem aligned_place (f : Fin 12044 → EReal) (k : Fin 12044) : aligned f (place k) = f k := by
  unfold aligned
  have e := place_val k
  split_ifs at e ⊢ <;> first | omega | exact congrArg f (Fin.ext (by dsimp only; omega))

theorem place_injective : Function.Injective place := fun a b h => by
  have e := congrArg Fin.val h
  rw [place_val, place_val] at e
  refine Fin.ext ?_
  split_ifs at e <;> omega

/-- Outside the columns' places the layout holds zero. -/
theorem aligned_gap (f : Fin 12044 → EReal) (j : Fin 12288) (hj : j ∉ Set.range place) : aligned f j = 0 := by
  unfold aligned
  split_ifs with h1 h2 h3 h4
  · exact absurd ⟨⟨j.val + 512, by omega⟩, Fin.ext (by rw [place_val]; dsimp only; split_ifs <;> omega)⟩ hj
  · exact absurd ⟨⟨j.val - 4608, by omega⟩, Fin.ext (by rw [place_val]; dsimp only; split_ifs <;> omega)⟩ hj
  · exact absurd ⟨⟨j.val, by omega⟩, Fin.ext (by rw [place_val]; dsimp only; split_ifs <;> omega)⟩ hj
  · rfl
  · exact absurd ⟨⟨j.val - 244, by omega⟩, Fin.ext (by rw [place_val]; dsimp only; split_ifs <;> omega)⟩ hj

/-- A product summed over the layout is the product summed over the columns. -/
theorem sum_aligned (f g : Fin 12044 → EReal) : ∑ j : Fin 12288, aligned f j * aligned g j = ∑ k : Fin 12044, f k * g k := by
  refine (Fintype.sum_of_injective place place_injective _ _ (fun j hj => ?_) fun k => ?_).symm
  · rw [aligned_gap f j hj, zero_mul]
  · rw [aligned_place, aligned_place]

/-- A product with every column of a row in the layout is the row of products. -/
theorem sum_row (a : Fin 2048 → EReal) (f : Fin 2048 → Fin 12044 → EReal) (j : Fin 12288) :
    ∑ k : Fin 2048, a k * aligned (f k) j = aligned (fun i => ∑ k : Fin 2048, a k * f k i) j := by
  unfold aligned
  split_ifs
  · rfl
  · rfl
  · rfl
  · simp only [mul_zero, Finset.sum_const_zero]
  · rfl

/-- The layout as the matrix's pieces lie in it, cut by the devices that hold them. -/
theorem aligned_shards (f : Fin 12044 → EReal) (j : Fin 12288) :
    (if h : j.val < 2499 then f ⟨512 + j.val, by omega⟩
      else if h : j.val - 2499 < 2109 then f ⟨3011 + (j.val - 2499), by omega⟩
      else if h : j.val - 2499 - 2109 < 512 then f ⟨j.val - 2499 - 2109, by omega⟩
      else if h : j.val - 2499 - 2109 - 512 < 780 then f ⟨3011 + (2109 + (j.val - 2499 - 2109 - 512)), by omega⟩
      else if h : j.val - 2499 - 2109 - 512 - 780 < 244 then 0
      else if h : j.val - 2499 - 2109 - 512 - 780 - 244 < 122 then f ⟨3011 + (2889 + (j.val - 2499 - 2109 - 512 - 780 - 244)), by omega⟩
      else if h : j.val - 2499 - 2109 - 512 - 780 - 244 - 122 < 3011 then f ⟨6022 + (j.val - 2499 - 2109 - 512 - 780 - 244 - 122), by omega⟩
      else f ⟨9033 + (j.val - 2499 - 2109 - 512 - 780 - 244 - 122 - 3011), by omega⟩) = aligned f j := by
  unfold aligned
  split_ifs
  all_goals first | (exfalso; omega) | exact congrArg f (Fin.ext (by dsimp only; omega)) | rfl

/-- The layout as a row's groups of columns lie in it. -/
theorem aligned_groups (f : Fin 12044 → EReal) (j : Fin 12288) :
    (if h : j.val < 2304 then f ⟨512 + j.val, by omega⟩
      else if h : j.val - 2304 < 2304 then f ⟨2816 + (j.val - 2304), by omega⟩
      else if h : j.val - 2304 - 2304 < 512 then f ⟨j.val - 2304 - 2304, by omega⟩
      else if h : j.val - 2304 - 2304 - 512 < 780 then f ⟨5120 + (j.val - 2304 - 2304 - 512), by omega⟩
      else if h : j.val - 2304 - 2304 - 512 - 780 < 244 then 0
      else f ⟨5900 + (j.val - 2304 - 2304 - 512 - 780 - 244), by omega⟩) = aligned f j := by
  unfold aligned
  split_ifs
  all_goals first | (exfalso; omega) | exact congrArg f (Fin.ext (by dsimp only; omega)) | rfl

/-- The layout as the runs of a row's columns lie in it. -/
theorem aligned_runs (f : Fin 12044 → EReal) (j : Fin 12288) :
    (if h : j.val < 4608 then f ⟨512 + j.val, by omega⟩
      else if h : j.val - 4608 < 512 then f ⟨j.val - 4608, by omega⟩
      else if h : j.val - 4608 - 512 < 780 then f ⟨5120 + (j.val - 4608 - 512), by omega⟩
      else if h : j.val - 4608 - 512 - 780 < 244 then 0
      else f ⟨5900 + (j.val - 4608 - 512 - 780 - 244), by omega⟩) = aligned f j := by
  unfold aligned
  split_ifs
  all_goals first | (exfalso; omega) | exact congrArg f (Fin.ext (by dsimp only; omega)) | rfl

end Cert.Proof.Align

end
-- ==== Proof.ProjDx.lean ====
/- The input projection's input gradient, a product over the device's layout summed over six stretches: what the call leaves,
   and the reference. -/
module

public import proofs.«01_k».proof.Proof.Dx
public import proofs.«01_k».proof.Proof.Align
public import proofs.«01_k».proof.Proof.Gen.Kernel5Ideal.Value
public import proofs.«01_k».proof.Proof.Gen.Reference5Ideal.Run
public import proofs.«01_k».proof.Proof.Gen.Kernel5Ideal
public import proofs.«01_k».proof.Proof.Tools

@[expose] public section

set_option maxRecDepth 16384

noncomputable section

namespace Cert.Proof.ProjDx

open Idealize.ShloMosaic Idealize.ShloMosaic.TcCoe Idealize.ShloMosaic.StableHlo Idealize.SL.Sem Idealize.ShloMosaic.Tactic
open Cert.Proof.Align

abbrev Wide : Type := Vec Ideal ⟨2, ![2048, 12044]⟩ .f32
abbrev Sq : Type := Vec Ideal ⟨2, ![2048, 2048]⟩ .f32

/-- The gradient of the input: row `i` of the output's gradient with row `j` of the matrix. -/
def back (w g : Wide) (i j : Fin 2048) : EReal := ∑ k : Fin 12044, (g (ix2 i k) : EReal) * (w (ix2 j k) : EReal)
def backA (w g : Wide) : Sq := fun i => back w g (i 0) (i 1)

section Kernel

open Cert.Kernel5Ideal Cert.Kernel5Ideal.Gen

variable (m : (ℓ : Loc nD τ sig) → Buf (Elt Ideal) ℓ) (c : Dev nD)

abbrev wK : Wide := m ((c.tc : Thread nD τ).loc main_arg0)
abbrev gK : Wide := m ((c.tc : Thread nD τ).loc main_arg1)

/-- What the call finds: the output's gradient and the matrix, both in the device's layout. -/
abbrev grad : Vec Ideal S2048x12288 .bf16 := V m c main_v6
abbrev mat : Vec Ideal S2048x12288 .bf16 := V m c main_v25

theorem grad_eq (i : Fin 2048) (k : Fin 12288) : (grad m c (ix2 i k) : EReal) = aligned (fun a => (gK m c (ix2 i a) : EReal)) k := by
  unfold grad
  after_reads_at
  after_reads_simp
  clean_types
  pointwise []
  exact aligned_runs (fun a => (gK m c (ix2 i a) : EReal)) k
theorem mat_eq (i : Fin 2048) (k : Fin 12288) : (mat m c (ix2 i k) : EReal) = aligned (fun a => (wK m c (ix2 i a) : EReal)) k := by
  unfold mat
  after_reads_at
  after_reads_simp
  clean_types
  pointwise []
  exact aligned_shards (fun a => (wK m c (ix2 i a) : EReal)) k

/-- Where the blocks lie. -/
theorem places : ∀ t : Fin cfg0.N, win0_0.index t = ![t.val / 12, t.val % 6] ∧ win0_1.index t = ![t.val % 12 / 6, t.val % 6]
    ∧ win0_2.index t = ![t.val / 12, t.val % 12 / 6] :=
  (by decide +kernel : ∀ t : Fin grid0.N, _)

theorem lt (t : Fin cfg0.N) : t.val < 24 := t.isLt

theorem read_0 (t : Fin cfg0.N) (r : Fin 1024) (k : Fin 2048) :
    (iblk m c 0 t : Vec Ideal S1024x2048 .bf16) (ix2 r k) = grad m c (ix2 ⟨1024 * (t.val / 12) + r.val, by have := lt t; omega⟩ ⟨2048 * (t.val % 6) + k.val, by omega⟩) := by
  blk_ext [iblk, (places t).1]
theorem read_1 (t : Fin cfg0.N) (l : Fin 1024) (k : Fin 2048) :
    (iblk m c 1 t : Vec Ideal S1024x2048 .bf16) (ix2 l k) = mat m c (ix2 ⟨1024 * (t.val % 12 / 6) + l.val, by omega⟩ ⟨2048 * (t.val % 6) + k.val, by omega⟩) := by
  blk_ext [iblk, (places t).2.1]

/-- One stretch's share. -/
def share (w g : Wide) (i j : Fin 2048) (a : Fin 6) : EReal :=
  ∑ k : Fin 2048, aligned (fun b => (g (ix2 i b) : EReal)) ⟨2048 * a.val + k.val, by omega⟩ * aligned (fun b => (w (ix2 j b) : EReal)) ⟨2048 * a.val + k.val, by omega⟩

theorem back_eq (w g : Wide) (i j : Fin 2048) : back w g i j = ∑ a : Fin 6, share w g i j a :=
  (sum_aligned _ _).symm.trans (Dx.sum_stretches (a := 6) (b := 2048) (by decide) _)

theorem pay1 (x0 : Vec Ideal S1024x2048 .bf16) (x1 : Vec Ideal S1024x2048 .bf16) (r l : Fin 1024) :
    (k0_pay1 x0 x1 (ix2 r l) : EReal) = ∑ k : Fin 2048, (x0 (ix2 r k) : EReal) * (x1 (ix2 l k) : EReal) := by
  pointwise [k0_pay1]
theorem pay2 (x0 : Vec Ideal S1024x2048 .bf16) (x1 : Vec Ideal S1024x2048 .bf16) (r l : Fin 1024) :
    (k0_pay2 x0 x1 (ix2 r l) : EReal) = (k0_pay1 x0 x1 (ix2 r l) : EReal) := by
  pointwise [k0_pay2]
theorem pay3 (x0 : Vec Ideal S1024x2048 .bf16) (x1 : Vec Ideal S1024x2048 .bf16) (x2 : Vec Ideal S1024x1024 .f32) (r l : Fin 1024) :
    (k0_pay3 x0 x1 x2 (ix2 r l) : EReal) = (x2 (ix2 r l) : EReal) + (k0_pay1 x0 x1 (ix2 r l) : EReal) := by
  pointwise [k0_pay3]
theorem pay4 (x0 : Vec Ideal S1024x2048 .bf16) (x1 : Vec Ideal S1024x2048 .bf16) (x2 : Vec Ideal S1024x1024 .f32) (r l : Fin 1024) :
    (k0_pay4 x0 x1 x2 (ix2 r l) : EReal) = (x2 (ix2 r l) : EReal) + (k0_pay1 x0 x1 (ix2 r l) : EReal) := by
  pointwise [k0_pay4]

/-- The row and the column a place of a point's block stands for. -/
abbrev row (t : ℕ) (r : Fin 1024) (h : t < 24) : Fin 2048 := ⟨1024 * (t / 12) + r.val, by omega⟩
abbrev col (t : ℕ) (l : Fin 1024) : Fin 2048 := ⟨1024 * (t % 12 / 6) + l.val, by omega⟩

theorem part (t : Fin cfg0.N) (r l : Fin 1024) :
    (k0_pay1 (iblk m c 0 t) (iblk m c 1 t) (ix2 r l) : EReal)
      = share (wK m c) (gK m c) (row t.val r (lt t)) (col t.val l) ⟨t.val % 6, by omega⟩ := by
  refine (pay1 _ _ r l).trans ?_
  unfold share
  exact Finset.sum_congr rfl fun k _ => congrArg₂ (fun a b : EReal => a * b) ((read_0 m c t r k).trans (grad_eq m c _ _)) ((read_1 m c t l k).trans (mat_eq m c _ _))

/-- The running sum after a point, but for the last of each four. -/
theorem running (s : ℕ) : ∀ (q : ℕ) (hq : 6 * q + s < cfg0.N) (hs : s < 5) (r l : Fin 1024),
    ((outsAt0 m c (6 * q + s) hq).2 (ix2 r l) : EReal)
      = ∑ a : Fin (s + 1), share (wK m c) (gK m c) (row (6 * q) r (by have : 6 * q + s < 24 := hq; omega)) (col (6 * q) l) ⟨a.val, by omega⟩ := by
  induction s with
  | zero =>
    intro q hq hs r l
    rw [outsAt0_A m c ⟨6 * q + 0, hq⟩ (by dsimp only; omega) (by dsimp only; omega) (by dsimp only; omega)]
    unfold sout0_A_0
    frame_out
    rw [Fin.sum_univ_one]
    refine (pay2 _ _ r l).trans ((part m c ⟨6 * q + 0, hq⟩ r l).trans ?_)
    exact congrArg (share _ _ _ _) (Fin.ext (by dsimp only; omega))
  | succ s ih =>
    intro q hq hs r l
    rw [outsAt0_B m c ⟨6 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨6 * q + (s + 1), hq⟩ r l).trans ?_)
    have h24 : 6 * q + (s + 1) < 24 := lt ⟨_, hq⟩
    refine congr (congr (congrArg (share _ _) (Fin.ext ?_)) (Fin.ext ?_)) (Fin.ext ?_) <;> dsimp only [Fin.val_last] <;> omega

/-- The input's gradient after the call. -/
theorem arr : (dats m 0 c).arrAt 2 cfg0.N = backA (wK m c) (gK m c) := by
  refine (dats m 0 c).arrAt_eq_of_covers 2 _ (by decide +kernel) fun t hf y => ?_
  have hm : t.val % 6 = 5 := (flush0_2 t).mp hf
  have h24 := lt t
  blk_simp
  rw [after0_2, outsAt0_C m c t (by omega) (by omega) hm]
  idx_vars y
  unfold out0_C_2
  frame_out
  simp only [read_unread_whole]
  refine (pay4 _ _ _ y0 y1).trans ?_
  have e : t.val - 1 = 6 * (t.val / 6) + 4 := by omega
  have hp : ∀ (n : ℕ) (hn : n < cfg0.N) (h : 6 * (t.val / 6) + 4 < cfg0.N), n = 6 * (t.val / 6) + 4 → (outsAt0 m c n hn).2 = (outsAt0 m c (6 * (t.val / 6) + 4) h).2 := by
    intro n hn h e; subst e; rfl
  rw [hp _ _ (e ▸ Nat.lt_of_le_of_lt (Nat.sub_le _ _) t.isLt) e]
  refine Eq.trans ?_ ((back_eq _ _ _ _).trans (Fin.sum_univ_castSucc _)).symm
  refine congrArg₂ (fun a b : EReal => a + b) ((running m c 4 (t.val / 6) _ (by omega) y0 y1).trans (Finset.sum_congr rfl fun a _ => ?_)) ((part m c t y0 y1).trans ?_)
  · refine congrArg₂ (fun i j => share _ _ i j _) (Fin.ext ?_) (Fin.ext ?_)
    · blk_simp [(places t).2.2]; dsimp only; omega
    · blk_simp [(places t).2.2]; dsimp only; omega
  · refine congr (congr (congrArg (share _ _) (Fin.ext ?_)) (Fin.ext ?_)) (Fin.ext ?_)
    · blk_simp [(places t).2.2]; dsimp only; omega
    · blk_simp [(places t).2.2]; dsimp only; omega
    · dsimp only [Fin.val_last]; omega

end Kernel

section Reference

open Cert.Reference5Ideal Cert.Reference5Ideal.Gen

theorem ref (w g : Wide) : (Host.dotGeneral (F := Ideal) (φ₁ := .f32) (φ₂ := .f32) dot_S2048x12044_S2048x12044_S2048x2048_1_1_0_0_n_n none g w : Sq) = backA w g := by
  funext i
  idx_vars i
  unfold backA back
  pointwise []

end Reference

theorem algebraic : Cert.algebraic_Kernel5Ideal_Reference5Ideal (hKernel5Ideal := Cert.Kernel5Ideal.Gen.facts) (hReference5Ideal := Cert.Reference5Ideal.Gen.facts) := by
  intro m ρ m' ρ' _ hag
  refine ⟨fun c => backA (wK m c) (gK m c), (θ_run Cert.Kernel5Ideal.defs _ _).mono (fun r h c => ⟨(h c).1.trans (arr m c), (h c).2⟩) (Cert.Kernel5Ideal.Value.run_blocks (F := Ideal) m ρ),
    (θ_run Cert.Reference5Ideal.defs _ _).mono (fun r h c => ?_) (Cert.Reference5Ideal.Value.run (F := Ideal) m' ρ')⟩
  obtain ⟨h0, h1⟩ := hag c
  refine ⟨((h c).1.trans (ref _ _)).trans ?_, (h c).2⟩
  rw [h0, h1]

end Cert.Proof.ProjDx

end
-- ==== Proof.ProjDw.lean ====
/- The input projection's matrix gradient: what the call leaves, how it is cut for the devices, and the reference. -/
module

public import proofs.«01_k».proof.Proof.Align
public import proofs.«01_k».proof.Proof.Gen.Kernel6Ideal.Frame
public import proofs.«01_k».proof.Proof.Gen.Reference6Ideal.Run
public import proofs.«01_k».proof.Proof.Tools

@[expose] public section

set_option maxRecDepth 16384

noncomputable section

namespace Cert.Proof.ProjDw

open Idealize.ShloMosaic Idealize.ShloMosaic.TcCoe Idealize.ShloMosaic.StableHlo Idealize.SL.Sem Idealize.ShloMosaic.Tactic
open Cert.Proof.Align

abbrev Sq : Type := Vec Ideal ⟨2, ![2048, 2048]⟩ .f32
abbrev Wide : Type := Vec Ideal ⟨2, ![2048, 12044]⟩ .f32
abbrev Out : Type := Vec Ideal ⟨3, ![4, 2048, 3011]⟩ .bf16

/-- The matrix's gradient: column `i` of the input with column `j` of the output's gradient. -/
def outer (u : Sq) (g : Wide) (i : Fin 2048) (j : Fin 12044) : EReal := ∑ k : Fin 2048, (u (ix2 k i) : EReal) * (g (ix2 k j) : EReal)
/-- The column of the matrix that lies at `q` with device `a`. -/
abbrev column (a : Fin 4) (q : Fin 3011) : Fin 12044 := ⟨3011 * a.val + q.val, by omega⟩
def outerA (u : Sq) (g : Wide) : Out := fun i => outer u g (i 1) (column (i 0) (i 2))

section Kernel

open Cert.Kernel6Ideal Cert.Kernel6Ideal.Gen

variable (m : (ℓ : Loc nD τ sig) → Buf (Elt Ideal) ℓ) (ρ : Dev nD → PrngReg) (c : Dev nD)

abbrev uK : Sq := m ((c.tc : Thread nD τ).loc main_arg0)
abbrev gK : Wide := m ((c.tc : Thread nD τ).loc main_arg1)

/-- What the call finds: the input, and the output's gradient in the device's layout. -/
abbrev inp : Vec Ideal S2048x2048 .bf16 := V m c main_v0
abbrev grad : Vec Ideal S2048x12288 .bf16 := V m c main_v7

theorem inp_eq (i k : Fin 2048) : inp m c (ix2 i k) = uK m c (ix2 i k) := by
  unfold inp
  after_reads_at
theorem grad_eq (i : Fin 2048) (k : Fin 12288) : (grad m c (ix2 i k) : EReal) = aligned (fun a => (gK m c (ix2 i a) : EReal)) k := by
  unfold grad
  after_reads_at
  after_reads_simp
  clean_types
  pointwise []
  exact aligned_runs (fun a => (gK m c (ix2 i a) : EReal)) k

/-- Where the blocks lie. -/
theorem places : ∀ t : Fin cfg0.N, win0_0.index t = ![0, t.val / 12] ∧ win0_1.index t = ![0, t.val % 12]
    ∧ win0_2.index t = ![t.val / 12, t.val % 12] :=
  (by decide +kernel : ∀ t : Fin grid0.N, _)

theorem lt (t : Fin cfg0.N) : t.val < 24 := t.isLt

theorem read_0 (t : Fin cfg0.N) (k : Fin 2048) (r : Fin 1024) :
    (iblk m c 0 t : Vec Ideal S2048x1024 .bf16) (ix2 k r) = inp m c (ix2 k ⟨1024 * (t.val / 12) + r.val, by have := lt t; omega⟩) := by
  blk_ext [iblk, (places t).1]
theorem read_1 (t : Fin cfg0.N) (k : Fin 2048) (l : Fin 1024) :
    (iblk m c 1 t : Vec Ideal S2048x1024 .bf16) (ix2 k l) = grad m c (ix2 k ⟨1024 * (t.val % 12) + l.val, by omega⟩) := by
  blk_ext [iblk, (places t).2.1]

theorem pay1 (x0 : Vec Ideal S2048x1024 .bf16) (x1 : Vec Ideal S2048x1024 .bf16) (r l : Fin 1024) :
    (k0_pay1 x0 x1 (ix2 r l) : EReal) = ∑ k : Fin 2048, (x0 (ix2 k r) : EReal) * (x1 (ix2 k l) : EReal) := by
  pointwise [k0_pay1]

theorem part (t : Fin cfg0.N) (r l : Fin 1024) :
    (k0_pay1 (iblk m c 0 t) (iblk m c 1 t) (ix2 r l) : EReal)
      = aligned (outer (uK m c) (gK m c) ⟨1024 * (t.val / 12) + r.val, by have := lt t; omega⟩) ⟨1024 * (t.val % 12) + l.val, by omega⟩ := by
  refine (pay1 _ _ r l).trans (Eq.trans ?_ (sum_row (fun k => (uK m c (ix2 k _) : EReal)) (fun k i => (gK m c (ix2 k i) : EReal)) _))
  exact Finset.sum_congr rfl fun k _ => congrArg₂ (fun a b : EReal => a * b) ((read_0 m c t k r).trans (inp_eq m c _ _)) ((read_1 m c t k l).trans (grad_eq m c k _))

/-- The gradient in the device's layout, after the call. -/
def laid (u : Sq) (g : Wide) : Vec Ideal S2048x12288 .bf16 := fun i => aligned (outer u g (i 0)) (i 1)

theorem arr : (dats m 0 c).arrAt 2 cfg0.N = laid (uK m c) (gK m c) := by
  refine (dats m 0 c).arrAt_eq_of_covers 2 _ (by decide +kernel) fun t _ y => ?_
  have h24 := lt t
  blk_simp
  rw [after0_2]
  idx_vars y
  unfold out0_2
  frame_out
  refine (part m c t y0 y1).trans ?_
  refine congrArg₂ (fun i j => aligned (outer _ _ i) j) (Fin.ext ?_) (Fin.ext ?_)
  · blk_simp [(places t).2.2]; dsimp only; omega
  · blk_simp [(places t).2.2]; dsimp only; omega

/-- The devices' pieces, read off the layout. -/
theorem pieces (X : Valuation τ sig (Elt Ideal)) (a : Fin 4) (i : Fin 2048) (q : Fin 3011) :
    (StableHlo.after (List.flatten [hostOps1]) X (Proc.devRef .tc main_v22) : Vec Ideal S4x2048x3011 .bf16) (ix3 a i q)
      = (X (Proc.devRef .tc main_v8) : Vec Ideal S2048x12288 .bf16) (ix2 i (place (column a q))) := by
  after_reads_at
  after_reads_simp
  clean_types
  pointwise []
  after_reads_simp
  clean_types
  pointwise []
  have hp := place_val (column a q)
  have hc : (column a q).val = 3011 * a.val + q.val := rfl
  rw [hc] at hp
  generalize X (Proc.devRef .tc main_v8) = x
  have key : ∀ (n : ℕ) (hn : n < 12288), n = (place (column a q)).val → x (ix2 i ⟨n, hn⟩) = x (ix2 i (place (column a q))) := by
    intro n hn e
    exact congrArg (fun j => x (ix2 i j)) (Fin.ext e)
  split_ifs
  all_goals refine key _ _ (Eq.trans ?_ hp.symm)
  all_goals split_ifs
  all_goals omega

/-- What the call leaves at an index of its result. -/
theorem tail : (Pipeline.afterTail₀ cfgs (dats m) 0 (V0 m) [hostOps1] c main_v22 : Vec Ideal S4x2048x3011 .bf16) = outerA (uK m c) (gK m c) := by
  funext i
  idx_vars i
  refine (pieces _ i0 i1 i2).trans ?_
  refine (congrFun (Pipeline.withArrays_arr spec0 (by decide) c (V0 m c) (fun w => (dats m 0 c).arrAt w cfg0.N) 2) _).trans ?_
  refine (congrFun (arr m c) _).trans ?_
  exact aligned_place _ _

theorem run : θ_run defs (onTc (τ := τ) (main (F := Ideal))) ⟨m, fun _ => 0, ρ⟩ (fun r => ∀ c : Dev nD,
    r.2.mem ((c.tc : Thread nD τ).loc main_v22) = outerA (uK m c) (gK m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v22 (Pipeline.mem_restRefs_of main_v22 (by decide) (by decide))).trans (tail m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Kernel

section Reference

open Cert.Reference6Ideal Cert.Reference6Ideal.Gen

theorem ref (u : Sq) (g : Wide) :
    (truncf .bf16 (transpose S4x2048x3011 [1, 0, 2] (shapeCast S2048x4x3011 (transpose S2048x12044 [1, 0] (Host.dotGeneral (F := Ideal) (φ₁ := .f32) (φ₂ := .f32) dot_S2048x12044_S2048x2048_S12044x2048_0_0_1_1_n_n none g u) transposes_S12044x2048_S2048x12044_1_0) shapeCasts_S2048x12044_S2048x4x3011) transposes_S2048x4x3011_S4x2048x3011_1_0_2) bitsLt_bf16_f32 : Out) = outerA u g := by
  funext i
  idx_vars i
  unfold outerA outer column
  pointwise []
  exact Finset.sum_congr rfl fun k _ => (mul_comm (G := EReal) _ _).trans (congrArg (fun j => ((u (ix2 k i1) : EReal) * (g (ix2 k j) : EReal) : EReal)) (Fin.ext (by dsimp only; omega)))

end Reference

theorem algebraic : Cert.algebraic_Kernel6Ideal_Reference6Ideal (hKernel6Ideal := Cert.Kernel6Ideal.Gen.facts) (hReference6Ideal := Cert.Reference6Ideal.Gen.facts) := by
  intro m ρ m' ρ' _ hag
  refine ⟨fun c => outerA (uK m c) (gK m c), run m ρ,
    (θ_run Cert.Reference6Ideal.defs _ _).mono (fun r h c => ?_) (Cert.Reference6Ideal.Value.run (F := Ideal) m' ρ')⟩
  obtain ⟨h0, h1⟩ := hag c
  refine ⟨((h c).1.trans (ref _ _)).trans ?_, (h c).2⟩
  rw [h0, h1]

end Cert.Proof.ProjDw

end
-- ==== Proof.ProjFwd.lean ====
/- The input projection: what the call leaves, and the reference. -/
module

public import proofs.«01_k».proof.Proof.Align
public import proofs.«01_k».proof.Proof.Gen.Kernel7Ideal.Value
public import proofs.«01_k».proof.Proof.Gen.Reference7Ideal.Run
public import proofs.«01_k».proof.Proof.Gen.Kernel7Ideal
public import proofs.«01_k».proof.Proof.Tools

@[expose] public section

set_option maxRecDepth 16384

noncomputable section

namespace Cert.Proof.ProjFwd

open Idealize.ShloMosaic Idealize.ShloMosaic.TcCoe Idealize.ShloMosaic.StableHlo Idealize.SL.Sem Idealize.ShloMosaic.Tactic
open Cert.Proof.Align

abbrev Sq : Type := Vec Ideal ⟨2, ![2048, 2048]⟩ .f32
abbrev Wide : Type := Vec Ideal ⟨2, ![2048, 12044]⟩ .f32
abbrev Out : Type := Vec Ideal ⟨2, ![2048, 12288]⟩ .f32

/-- The projection of row `i`, column by column. -/
def proj (u : Sq) (w : Wide) (i : Fin 2048) (j : Fin 12044) : EReal := ∑ k : Fin 2048, (u (ix2 i k) : EReal) * (w (ix2 k j) : EReal)
def projA (u : Sq) (w : Wide) : Out := fun i => aligned (proj u w (i 0)) (i 1)

section Kernel

open Cert.Kernel7Ideal Cert.Kernel7Ideal.Gen

variable (m : (ℓ : Loc nD τ sig) → Buf (Elt Ideal) ℓ) (c : Dev nD)

abbrev uK : Sq := m ((c.tc : Thread nD τ).loc main_arg0)
abbrev wK : Wide := m ((c.tc : Thread nD τ).loc main_arg1)

abbrev inp : Vec Ideal S2048x2048 .bf16 := V m c main_v0
abbrev mat : Vec Ideal S2048x12288 .bf16 := V m c main_v19

theorem inp_eq (i k : Fin 2048) : inp m c (ix2 i k) = uK m c (ix2 i k) := by
  unfold inp
  after_reads_at
theorem mat_eq (k : Fin 2048) (j : Fin 12288) : (mat m c (ix2 k j) : EReal) = aligned (fun i => (wK m c (ix2 k i) : EReal)) j := by
  unfold mat
  after_reads_at
  after_reads_simp
  clean_types
  pointwise []
  exact aligned_shards (fun i => (wK m c (ix2 k i) : EReal)) j

/-- Where the blocks lie. -/
theorem places : ∀ t : Fin cfg0.N, win0_0.index t = ![t.val / 12, 0] ∧ win0_1.index t = ![0, t.val % 12]
    ∧ win0_2.index t = ![t.val / 12, t.val % 12] :=
  (by decide +kernel : ∀ t : Fin grid0.N, _)

theorem lt (t : Fin cfg0.N) : t.val < 24 := t.isLt

theorem read_0 (t : Fin cfg0.N) (r : Fin 1024) (k : Fin 2048) :
    (iblk m c 0 t : Vec Ideal S1024x2048 .bf16) (ix2 r k) = inp m c (ix2 ⟨1024 * (t.val / 12) + r.val, by have := lt t; omega⟩ k) := by
  blk_ext [iblk, (places t).1]
theorem read_1 (t : Fin cfg0.N) (k : Fin 2048) (l : Fin 1024) :
    (iblk m c 1 t : Vec Ideal S2048x1024 .bf16) (ix2 k l) = mat m c (ix2 k ⟨1024 * (t.val % 12) + l.val, by omega⟩) := by
  blk_ext [iblk, (places t).2.1]

theorem pay1 (x0 : Vec Ideal S1024x2048 .bf16) (x1 : Vec Ideal S2048x1024 .bf16) (r l : Fin 1024) :
    (k0_pay1 x0 x1 (ix2 r l) : EReal) = ∑ k : Fin 2048, (x0 (ix2 r k) : EReal) * (x1 (ix2 k l) : EReal) := by
  pointwise [k0_pay1]

theorem part (t : Fin cfg0.N) (r l : Fin 1024) :
    (k0_pay1 (iblk m c 0 t) (iblk m c 1 t) (ix2 r l) : EReal)
      = aligned (proj (uK m c) (wK m c) ⟨1024 * (t.val / 12) + r.val, by have := lt t; omega⟩) ⟨1024 * (t.val % 12) + l.val, by omega⟩ := by
  refine (pay1 _ _ r l).trans (Eq.trans ?_ (sum_row (fun k => (uK m c (ix2 _ k) : EReal)) (fun k i => (wK m c (ix2 k i) : EReal)) _))
  exact Finset.sum_congr rfl fun k _ => congrArg₂ (fun a b : EReal => a * b) ((read_0 m c t r k).trans (inp_eq m c _ _)) ((read_1 m c t k l).trans (mat_eq m c k _))

/-- The projection after the call. -/
theorem arr : (dats m 0 c).arrAt 2 cfg0.N = projA (uK m c) (wK m c) := by
  refine (dats m 0 c).arrAt_eq_of_covers 2 _ (by decide +kernel) fun t _ y => ?_
  have h24 := lt t
  blk_simp
  rw [after0_2]
  idx_vars y
  unfold out0_2
  frame_out
  refine (part m c t y0 y1).trans ?_
  refine congrArg₂ (fun i j => aligned (proj _ _ i) j) (Fin.ext ?_) (Fin.ext ?_)
  · blk_simp [(places t).2.2]; dsimp only; omega
  · blk_simp [(places t).2.2]; dsimp only; omega

end Kernel

section Reference

open Cert.Reference7Ideal Cert.Reference7Ideal.Gen

theorem product (u : Sq) (w : Wide) (i : Fin 2048) (j : Fin 12044) :
    ((Host.dotGeneral (F := Ideal) (φ₁ := .f32) (φ₂ := .f32) dot_S2048x2048_S2048x12044_S2048x12044_1_0_0_1_n_n none u w : Wide) (ix2 i j) : EReal) = proj u w i j := by
  unfold proj
  pointwise []

theorem ref (v : Wide) (i : Fin 2048) (j : Fin 12288) :
    ((concatenate S2048x12288 1 [⟨S2048x2304, (extractStridedSlice S2048x2304 ![0, 512] v slices_S2048x12044_S2048x2304_0_512 : Vec Ideal S2048x2304 .f32)⟩,
      ⟨S2048x2304, (extractStridedSlice S2048x2304 ![0, 2816] v slices_S2048x12044_S2048x2304_0_2816 : Vec Ideal S2048x2304 .f32)⟩,
      ⟨S2048x512, (extractStridedSlice S2048x512 ![0, 0] v slices_S2048x12044_S2048x512_0_0 : Vec Ideal S2048x512 .f32)⟩,
      ⟨S2048x780, (extractStridedSlice S2048x780 ![0, 5120] v slices_S2048x12044_S2048x780_0_5120 : Vec Ideal S2048x780 .f32)⟩,
      ⟨S2048x244, (broadcastInDim S2048x244 ![] bcast_S_S2048x244 (constant (F := Ideal) S_ .f32 0x00000000#32) : Vec Ideal S2048x244 .f32)⟩,
      ⟨S2048x6144, (extractStridedSlice S2048x6144 ![0, 5900] v slices_S2048x12044_S2048x6144_0_5900 : Vec Ideal S2048x6144 .f32)⟩]
      concatenates_S2048x2304_S2048x2304_S2048x512_S2048x780_S2048x244_S2048x6144_S2048x12288_d1 : Out) (ix2 i j) : EReal) = aligned (fun k => (v (ix2 i k) : EReal)) j := by
  pointwise []
  exact aligned_groups (fun k => (v (ix2 i k) : EReal)) j

end Reference

theorem algebraic : Cert.algebraic_Kernel7Ideal_Reference7Ideal (hKernel7Ideal := Cert.Kernel7Ideal.Gen.facts) (hReference7Ideal := Cert.Reference7Ideal.Gen.facts) := by
  intro m ρ m' ρ' _ hag
  refine ⟨fun c => projA (uK m c) (wK m c), (θ_run Cert.Kernel7Ideal.defs _ _).mono (fun r h c => ⟨(h c).1.trans (arr m c), (h c).2⟩) (Cert.Kernel7Ideal.Value.run_blocks (F := Ideal) m ρ),
    (θ_run Cert.Reference7Ideal.defs _ _).mono (fun r h c => ?_) (Cert.Reference7Ideal.Value.run (F := Ideal) m' ρ')⟩
  obtain ⟨h0, h1⟩ := hag c
  refine ⟨(h c).1.trans ?_, (h c).2⟩
  rw [h0, h1]
  funext i
  idx_vars i
  refine (ref _ _ _).trans ?_
  exact congrArg (fun f => aligned f _) (funext fun k => product _ _ _ k)

end Cert.Proof.ProjFwd

end
-- ==== Proof.Ff2.lean ====
/- The network's second product with the residual, a product summed over four stretches: what the call leaves, and the reference. -/
module

public import proofs.«01_k».proof.Proof.Dx
public import proofs.«01_k».proof.Proof.Gen.Kernel8Ideal.Value
public import proofs.«01_k».proof.Proof.Gen.Reference8Ideal.Run
public import proofs.«01_k».proof.Proof.Gen.Kernel8Ideal
public import proofs.«01_k».proof.Proof.Tools

@[expose] public section

set_option maxRecDepth 16384

noncomputable section

namespace Cert.Proof.Ff2

open Idealize.ShloMosaic Idealize.ShloMosaic.TcCoe Idealize.ShloMosaic.StableHlo Idealize.SL.Sem Idealize.ShloMosaic.Tactic

abbrev Left : Type := Vec Ideal ⟨2, ![2048, 8192]⟩ .f32
abbrev Right : Type := Vec Ideal ⟨2, ![8192, 2048]⟩ .f32
abbrev Sq : Type := Vec Ideal ⟨2, ![2048, 2048]⟩ .f32

/-- The product: row `i` of the left factor with column `j` of the matrix. -/
def prod (h : Left) (w : Right) (i j : Fin 2048) : EReal := ∑ k : Fin 8192, (h (ix2 i k) : EReal) * (w (ix2 k j) : EReal)
/-- The residual and the product. -/
def total (h : Left) (w : Right) (x : Sq) : Sq := fun i => ((x (ix2 (i 0) (i 1)) : EReal) + prod h w (i 0) (i 1) : EReal)

section Kernel

open Cert.Kernel8Ideal Cert.Kernel8Ideal.Gen

variable (m : (ℓ : Loc nD τ sig) → Buf (Elt Ideal) ℓ) (c : Dev nD)

abbrev hK : Left := m ((c.tc : Thread nD τ).loc main_arg0)
abbrev wK : Right := m ((c.tc : Thread nD τ).loc main_arg1)
abbrev xK : Sq := m ((c.tc : Thread nD τ).loc main_arg2)

/-- What the call finds: the left factor, the matrix cut by rows and the residual. -/
abbrev left : Vec Ideal S2048x8192 .bf16 := V m c main_v2
abbrev cut : Vec Ideal S4x2048x2048 .bf16 := V m c main_v1
abbrev resid : Vec Ideal S2048x2048 .f32 := V m c main_arg2

theorem left_eq (i : Fin 2048) (k : Fin 8192) : left m c (ix2 i k) = hK m c (ix2 i k) := by
  unfold left
  after_reads_at
theorem cut_eq (a : Fin 4) (k : Fin 2048) (j : Fin 2048) : cut m c (ix3 a k j) = wK m c (ix2 ⟨a.val * 2048 + k.val, by omega⟩ j) := by
  unfold cut
  after_reads_at
theorem resid_eq (i j : Fin 2048) : resid m c (ix2 i j) = xK m c (ix2 i j) := by
  unfold resid
  after_reads_at

/-- Where the blocks lie. -/
theorem places : ∀ t : Fin cfg0.N, win0_0.index t = ![t.val / 8, t.val % 4] ∧ win0_1.index t = ![t.val % 4, 0, t.val % 8 / 4]
    ∧ win0_2.index t = ![t.val / 8, t.val % 8 / 4] ∧ win0_3.index t = ![t.val / 8, t.val % 8 / 4] :=
  (by decide +kernel : ∀ t : Fin grid0.N, _)

theorem lt (t : Fin cfg0.N) : t.val < 16 := t.isLt

theorem read_0 (t : Fin cfg0.N) (r : Fin 1024) (k : Fin 2048) :
    (iblk m c 0 t : Vec Ideal S1024x2048 .bf16) (ix2 r k) = left m c (ix2 ⟨1024 * (t.val / 8) + r.val, by have := lt t; omega⟩ ⟨2048 * (t.val % 4) + k.val, by omega⟩) := by
  blk_ext [iblk, (places t).1]
theorem read_1 (t : Fin cfg0.N) (k : Fin 2048) (l : Fin 1024) :
    (iblk m c 1 t : Vec Ideal S1x2048x1024 .bf16) (ix3 0 k l) = cut m c (ix3 ⟨t.val % 4, by omega⟩ k ⟨1024 * (t.val % 8 / 4) + l.val, by omega⟩) := by
  blk_ext [iblk, (places t).2.1]
theorem read_2 (t : Fin cfg0.N) (r l : Fin 1024) :
    (iblk m c 2 t : Vec Ideal S1024x1024 .f32) (ix2 r l) = resid m c (ix2 ⟨1024 * (t.val / 8) + r.val, by have := lt t; omega⟩ ⟨1024 * (t.val % 8 / 4) + l.val, by omega⟩) := by
  blk_ext [iblk, (places t).2.2.1]

/-- One stretch's share. -/
def share (h : Left) (w : Right) (i j : Fin 2048) (a : Fin 4) : EReal :=
  ∑ k : Fin 2048, (h (ix2 i ⟨2048 * a.val + k.val, by omega⟩) : EReal) * (w (ix2 ⟨2048 * a.val + k.val, by omega⟩ j) : EReal)

theorem prod_eq (h : Left) (w : Right) (i j : Fin 2048) : prod h w i j = ∑ a : Fin 4, share h w i j a := Dx.sum_stretches (by decide) _

theorem pay1 (x0 : Vec Ideal S1024x2048 .bf16) (x1 : Vec Ideal S1x2048x1024 .bf16) (r l : Fin 1024) :
    (k0_pay1 x0 x1 (ix2 r l) : EReal) = ∑ k : Fin 2048, (x0 (ix2 r k) : EReal) * (x1 (ix3 0 k l) : EReal) := by
  pointwise [k0_pay1]
theorem pay2 (x0 : Vec Ideal S1024x2048 .bf16) (x1 : Vec Ideal S1x2048x1024 .bf16) (r l : Fin 1024) :
    (k0_pay2 x0 x1 (ix2 r l) : EReal) = (k0_pay1 x0 x1 (ix2 r l) : EReal) := by
  pointwise [k0_pay2]
theorem pay3 (x0 : Vec Ideal S1024x2048 .bf16) (x1 : Vec Ideal S1x2048x1024 .bf16) (x2 : Vec Ideal S1024x1024 .f32) (r l : Fin 1024) :
    (k0_pay3 x0 x1 x2 (ix2 r l) : EReal) = (x2 (ix2 r l) : EReal) + (k0_pay1 x0 x1 (ix2 r l) : EReal) := by
  pointwise [k0_pay3]
theorem pay4 (x0 : Vec Ideal S1024x2048 .bf16) (x1 : Vec Ideal S1x2048x1024 .bf16) (x2 x3 : Vec Ideal S1024x1024 .f32) (r l : Fin 1024) :
    (k0_pay4 x0 x1 x2 x3 (ix2 r l) : EReal) = ((x2 (ix2 r l) : EReal) + (k0_pay1 x0 x1 (ix2 r l) : EReal)) + (x3 (ix2 r l) : EReal) := by
  pointwise [k0_pay4]

/-- The row and the column a place of a point's block stands for. -/
abbrev row (t : ℕ) (r : Fin 1024) (h : t < 16) : Fin 2048 := ⟨1024 * (t / 8) + r.val, by omega⟩
abbrev col (t : ℕ) (l : Fin 1024) : Fin 2048 := ⟨1024 * (t % 8 / 4) + l.val, by omega⟩

theorem part (t : Fin cfg0.N) (r l : Fin 1024) :
    (k0_pay1 (iblk m c 0 t) (iblk m c 1 t) (ix2 r l) : EReal)
      = share (hK m c) (wK m c) (row t.val r (lt t)) (col t.val l) ⟨t.val % 4, by omega⟩ := by
  refine (pay1 _ _ r l).trans ?_
  unfold share
  refine Finset.sum_congr rfl fun k _ => congrArg₂ (· * ·) ((read_0 m c t r k).trans (left_eq m c _ _)) ((read_1 m c t k l).trans ((cut_eq m c _ k _).trans ?_))
  refine congrArg _ (congrArg (fun a => ix2 a _) (Fin.ext ?_)); dsimp only; omega

/-- The running sum after a point, but for the last of each four. -/
theorem running (s : ℕ) : ∀ (q : ℕ) (hq : 4 * q + s < cfg0.N) (hs : s < 3) (r l : Fin 1024),
    ((outsAt0 m c (4 * q + s) hq).2 (ix2 r l) : EReal)
      = ∑ a : Fin (s + 1), share (hK m c) (wK m c) (row (4 * q) r (by have : 4 * q + s < 16 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have h16 : 4 * q + (s + 1) < 16 := lt ⟨_, hq⟩
    refine congr (congr (congrArg (share _ _) (Fin.ext ?_)) (Fin.ext ?_)) (Fin.ext ?_) <;> dsimp only [Fin.val_last] <;> omega

/-- The sum after the call. -/
theorem arr : (dats m 0 c).arrAt 3 cfg0.N = total (hK m c) (wK m c) (xK m c) := by
  refine (dats m 0 c).arrAt_eq_of_covers 3 _ (by decide +kernel) fun t hf y => ?_
  have hm : t.val % 4 = 3 := (flush0_3 t).mp hf
  have h16 := lt t
  blk_simp
  rw [after0_3, outsAt0_C m c t (by omega) (by omega) hm]
  idx_vars y
  unfold out0_C_3
  frame_out
  simp only [read_unread_whole]
  refine (pay4 _ _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine (add_comm (G := EReal) _ _).trans (congrArg₂ (fun a b : EReal => a + b) ((read_2 m c t y0 y1).trans ((resid_eq m c _ _).trans ?_)) ?_)
  · refine congrArg _ (congrArg₂ ix2 (Fin.ext ?_) (Fin.ext ?_))
    · blk_simp [(places t).2.2.2]; dsimp only; omega
    · blk_simp [(places t).2.2.2]; dsimp only; omega
  refine Eq.trans ?_ ((prod_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2.2]; dsimp only; omega
    · blk_simp [(places t).2.2.2]; dsimp only; omega
  · refine congr (congr (congrArg (share _ _) (Fin.ext ?_)) (Fin.ext ?_)) (Fin.ext ?_)
    · blk_simp [(places t).2.2.2]; dsimp only; omega
    · blk_simp [(places t).2.2.2]; dsimp only; omega
    · dsimp only [Fin.val_last]; omega

end Kernel

section Reference

open Cert.Reference8Ideal Cert.Reference8Ideal.Gen

theorem ref (h : Left) (w : Right) (x : Sq) :
    (addf (F := Ideal) (φ := .f32) x (Host.dotGeneral (F := Ideal) (φ₁ := .f32) (φ₂ := .f32) dot_S2048x8192_S8192x2048_S2048x2048_1_0_0_1_n_n none h w) : Sq) = total h w x := by
  funext i
  idx_vars i
  unfold total prod
  pointwise []

end Reference

theorem algebraic : Cert.algebraic_Kernel8Ideal_Reference8Ideal (hKernel8Ideal := Cert.Kernel8Ideal.Gen.facts) (hReference8Ideal := Cert.Reference8Ideal.Gen.facts) := by
  intro m ρ m' ρ' _ hag
  refine ⟨fun c => total (hK m c) (wK m c) (xK m c), (θ_run Cert.Kernel8Ideal.defs _ _).mono (fun r h c => ⟨(h c).1.trans (arr m c), (h c).2⟩) (Cert.Kernel8Ideal.Value.run_blocks (F := Ideal) m ρ),
    (θ_run Cert.Reference8Ideal.defs _ _).mono (fun r h c => ?_) (Cert.Reference8Ideal.Value.run (F := Ideal) m' ρ')⟩
  obtain ⟨h0, h1, h2⟩ := hag c
  refine ⟨((h c).1.trans (ref _ _ _)).trans ?_, (h c).2⟩
  rw [h0, h1, h2]

end Cert.Proof.Ff2

end
-- ==== Proof.OutFwd.lean ====
/- The output projection with the residual, a product summed over four stretches: what the call leaves, and the reference. -/
module

public import proofs.«01_k».proof.Proof.Dx
public import proofs.«01_k».proof.Proof.Gen.Kernel9Ideal.Value
public import proofs.«01_k».proof.Proof.Gen.Reference9Ideal.Run
public import proofs.«01_k».proof.Proof.Gen.Kernel9Ideal
public import proofs.«01_k».proof.Proof.Tools

@[expose] public section

set_option maxRecDepth 16384

noncomputable section

namespace Cert.Proof.OutFwd

open Idealize.ShloMosaic Idealize.ShloMosaic.TcCoe Idealize.ShloMosaic.StableHlo Idealize.SL.Sem Idealize.ShloMosaic.Tactic

abbrev Left : Type := Vec Ideal ⟨2, ![2048, 2048]⟩ .f32
abbrev Right : Type := Vec Ideal ⟨2, ![2048, 2048]⟩ .f32
abbrev Sq : Type := Vec Ideal ⟨2, ![2048, 2048]⟩ .f32

/-- The product: row `i` of the left factor with column `j` of the matrix. -/
def prod (h : Left) (w : Right) (i j : Fin 2048) : EReal := ∑ k : Fin 2048, (h (ix2 i k) : EReal) * (w (ix2 k j) : EReal)
/-- The residual and the product. -/
def total (h : Left) (w : Right) (x : Sq) : Sq := fun i => ((x (ix2 (i 0) (i 1)) : EReal) + prod h w (i 0) (i 1) : EReal)

section Kernel

open Cert.Kernel9Ideal Cert.Kernel9Ideal.Gen

variable (m : (ℓ : Loc nD τ sig) → Buf (Elt Ideal) ℓ) (c : Dev nD)

abbrev hK : Left := m ((c.tc : Thread nD τ).loc main_arg0)
abbrev wK : Right := m ((c.tc : Thread nD τ).loc main_arg1)
abbrev xK : Sq := m ((c.tc : Thread nD τ).loc main_arg2)

/-- What the call finds: the left factor, the matrix cut by rows and the residual. -/
abbrev left : Vec Ideal S2048x2048 .bf16 := V m c main_v2
abbrev cut : Vec Ideal S4x512x2048 .bf16 := V m c main_v1
abbrev resid : Vec Ideal S2048x2048 .f32 := V m c main_arg2

theorem left_eq (i : Fin 2048) (k : Fin 2048) : left m c (ix2 i k) = hK m c (ix2 i k) := by
  unfold left
  after_reads_at
theorem cut_eq (a : Fin 4) (k : Fin 512) (j : Fin 2048) : cut m c (ix3 a k j) = wK m c (ix2 ⟨a.val * 512 + k.val, by omega⟩ j) := by
  unfold cut
  after_reads_at
theorem resid_eq (i j : Fin 2048) : resid m c (ix2 i j) = xK m c (ix2 i j) := by
  unfold resid
  after_reads_at

/-- Where the blocks lie. -/
theorem places : ∀ t : Fin cfg0.N, win0_0.index t = ![t.val / 8, t.val % 4] ∧ win0_1.index t = ![t.val % 4, 0, t.val % 8 / 4]
    ∧ win0_2.index t = ![t.val / 8, t.val % 8 / 4] ∧ win0_3.index t = ![t.val / 8, t.val % 8 / 4] :=
  (by decide +kernel : ∀ t : Fin grid0.N, _)

theorem lt (t : Fin cfg0.N) : t.val < 16 := t.isLt

theorem read_0 (t : Fin cfg0.N) (r : Fin 1024) (k : Fin 512) :
    (iblk m c 0 t : Vec Ideal S1024x512 .bf16) (ix2 r k) = left m c (ix2 ⟨1024 * (t.val / 8) + r.val, by have := lt t; omega⟩ ⟨512 * (t.val % 4) + k.val, by omega⟩) := by
  blk_ext [iblk, (places t).1]
theorem read_1 (t : Fin cfg0.N) (k : Fin 512) (l : Fin 1024) :
    (iblk m c 1 t : Vec Ideal S1x512x1024 .bf16) (ix3 0 k l) = cut m c (ix3 ⟨t.val % 4, by omega⟩ k ⟨1024 * (t.val % 8 / 4) + l.val, by omega⟩) := by
  blk_ext [iblk, (places t).2.1]
theorem read_2 (t : Fin cfg0.N) (r l : Fin 1024) :
    (iblk m c 2 t : Vec Ideal S1024x1024 .f32) (ix2 r l) = resid m c (ix2 ⟨1024 * (t.val / 8) + r.val, by have := lt t; omega⟩ ⟨1024 * (t.val % 8 / 4) + l.val, by omega⟩) := by
  blk_ext [iblk, (places t).2.2.1]

/-- One stretch's share. -/
def share (h : Left) (w : Right) (i j : Fin 2048) (a : Fin 4) : EReal :=
  ∑ k : Fin 512, (h (ix2 i ⟨512 * a.val + k.val, by omega⟩) : EReal) * (w (ix2 ⟨512 * a.val + k.val, by omega⟩ j) : EReal)

theorem prod_eq (h : Left) (w : Right) (i j : Fin 2048) : prod h w i j = ∑ a : Fin 4, share h w i j a := Dx.sum_stretches (by decide) _

theorem pay1 (x0 : Vec Ideal S1024x512 .bf16) (x1 : Vec Ideal S1x512x1024 .bf16) (r l : Fin 1024) :
    (k0_pay1 x0 x1 (ix2 r l) : EReal) = ∑ k : Fin 512, (x0 (ix2 r k) : EReal) * (x1 (ix3 0 k l) : EReal) := by
  pointwise [k0_pay1]
theorem pay2 (x0 : Vec Ideal S1024x512 .bf16) (x1 : Vec Ideal S1x512x1024 .bf16) (r l : Fin 1024) :
    (k0_pay2 x0 x1 (ix2 r l) : EReal) = (k0_pay1 x0 x1 (ix2 r l) : EReal) := by
  pointwise [k0_pay2]
theorem pay3 (x0 : Vec Ideal S1024x512 .bf16) (x1 : Vec Ideal S1x512x1024 .bf16) (x2 : Vec Ideal S1024x1024 .f32) (r l : Fin 1024) :
    (k0_pay3 x0 x1 x2 (ix2 r l) : EReal) = (x2 (ix2 r l) : EReal) + (k0_pay1 x0 x1 (ix2 r l) : EReal) := by
  pointwise [k0_pay3]
theorem pay4 (x0 : Vec Ideal S1024x512 .bf16) (x1 : Vec Ideal S1x512x1024 .bf16) (x2 x3 : Vec Ideal S1024x1024 .f32) (r l : Fin 1024) :
    (k0_pay4 x0 x1 x2 x3 (ix2 r l) : EReal) = ((x2 (ix2 r l) : EReal) + (k0_pay1 x0 x1 (ix2 r l) : EReal)) + (x3 (ix2 r l) : EReal) := by
  pointwise [k0_pay4]

/-- The row and the column a place of a point's block stands for. -/
abbrev row (t : ℕ) (r : Fin 1024) (h : t < 16) : Fin 2048 := ⟨1024 * (t / 8) + r.val, by omega⟩
abbrev col (t : ℕ) (l : Fin 1024) : Fin 2048 := ⟨1024 * (t % 8 / 4) + l.val, by omega⟩

theorem part (t : Fin cfg0.N) (r l : Fin 1024) :
    (k0_pay1 (iblk m c 0 t) (iblk m c 1 t) (ix2 r l) : EReal)
      = share (hK m c) (wK m c) (row t.val r (lt t)) (col t.val l) ⟨t.val % 4, by omega⟩ := by
  refine (pay1 _ _ r l).trans ?_
  unfold share
  refine Finset.sum_congr rfl fun k _ => congrArg₂ (· * ·) ((read_0 m c t r k).trans (left_eq m c _ _)) ((read_1 m c t k l).trans ((cut_eq m c _ k _).trans ?_))
  refine congrArg _ (congrArg (fun a => ix2 a _) (Fin.ext ?_)); dsimp only; omega

/-- The running sum after a point, but for the last of each four. -/
theorem running (s : ℕ) : ∀ (q : ℕ) (hq : 4 * q + s < cfg0.N) (hs : s < 3) (r l : Fin 1024),
    ((outsAt0 m c (4 * q + s) hq).2 (ix2 r l) : EReal)
      = ∑ a : Fin (s + 1), share (hK m c) (wK m c) (row (4 * q) r (by have : 4 * q + s < 16 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have h16 : 4 * q + (s + 1) < 16 := lt ⟨_, hq⟩
    refine congr (congr (congrArg (share _ _) (Fin.ext ?_)) (Fin.ext ?_)) (Fin.ext ?_) <;> dsimp only [Fin.val_last] <;> omega

/-- The sum after the call. -/
theorem arr : (dats m 0 c).arrAt 3 cfg0.N = total (hK m c) (wK m c) (xK m c) := by
  refine (dats m 0 c).arrAt_eq_of_covers 3 _ (by decide +kernel) fun t hf y => ?_
  have hm : t.val % 4 = 3 := (flush0_3 t).mp hf
  have h16 := lt t
  blk_simp
  rw [after0_3, outsAt0_C m c t (by omega) (by omega) hm]
  idx_vars y
  unfold out0_C_3
  frame_out
  simp only [read_unread_whole]
  refine (pay4 _ _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine (add_comm (G := EReal) _ _).trans (congrArg₂ (fun a b : EReal => a + b) ((read_2 m c t y0 y1).trans ((resid_eq m c _ _).trans ?_)) ?_)
  · refine congrArg _ (congrArg₂ ix2 (Fin.ext ?_) (Fin.ext ?_))
    · blk_simp [(places t).2.2.2]; dsimp only; omega
    · blk_simp [(places t).2.2.2]; dsimp only; omega
  refine Eq.trans ?_ ((prod_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2.2]; dsimp only; omega
    · blk_simp [(places t).2.2.2]; dsimp only; omega
  · refine congr (congr (congrArg (share _ _) (Fin.ext ?_)) (Fin.ext ?_)) (Fin.ext ?_)
    · blk_simp [(places t).2.2.2]; dsimp only; omega
    · blk_simp [(places t).2.2.2]; dsimp only; omega
    · dsimp only [Fin.val_last]; omega

end Kernel

section Reference

open Cert.Reference9Ideal Cert.Reference9Ideal.Gen

theorem ref (h : Left) (w : Right) (x : Sq) :
    (addf (F := Ideal) (φ := .f32) x (Host.dotGeneral (F := Ideal) (φ₁ := .f32) (φ₂ := .f32) dot_S2048x2048_S2048x2048_S2048x2048_1_0_0_1_n_n none h w) : Sq) = total h w x := by
  funext i
  idx_vars i
  unfold total prod
  pointwise []

end Reference

theorem algebraic : Cert.algebraic_Kernel9Ideal_Reference9Ideal (hKernel9Ideal := Cert.Kernel9Ideal.Gen.facts) (hReference9Ideal := Cert.Reference9Ideal.Gen.facts) := by
  intro m ρ m' ρ' _ hag
  refine ⟨fun c => total (hK m c) (wK m c) (xK m c), (θ_run Cert.Kernel9Ideal.defs _ _).mono (fun r h c => ⟨(h c).1.trans (arr m c), (h c).2⟩) (Cert.Kernel9Ideal.Value.run_blocks (F := Ideal) m ρ),
    (θ_run Cert.Reference9Ideal.defs _ _).mono (fun r h c => ?_) (Cert.Reference9Ideal.Value.run (F := Ideal) m' ρ')⟩
  obtain ⟨h0, h1, h2⟩ := hag c
  refine ⟨((h c).1.trans (ref _ _ _)).trans ?_, (h c).2⟩
  rw [h0, h1, h2]

end Cert.Proof.OutFwd

end
-- ==== Proof.PoolDx.lean ====
/- The input gradient of the pool branch's projection, a product summed over four stretches: what the call leaves, and the reference. -/
module

public import proofs.«01_k».proof.Proof.Dx
public import proofs.«01_k».proof.Proof.Gen.Kernel10Ideal.Value
public import proofs.«01_k».proof.Proof.Gen.Reference10Ideal.Run
public import proofs.«01_k».proof.Proof.Gen.Kernel10Ideal
public import proofs.«01_k».proof.Proof.Tools

@[expose] public section

set_option maxRecDepth 16384

noncomputable section

namespace Cert.Proof.PoolDx

open Idealize.ShloMosaic Idealize.ShloMosaic.TcCoe Idealize.ShloMosaic.StableHlo Idealize.SL.Sem Idealize.ShloMosaic.Tactic

abbrev Mat : Type := Vec Ideal ⟨2, ![512, 2048]⟩ .f32
abbrev Grad : Type := Vec Ideal ⟨2, ![2048, 6144]⟩ .f32
abbrev Out : Type := Vec Ideal ⟨2, ![2048, 512]⟩ .f32

/-- The gradient of the branch: row `i` of its third of the gradients with row `j` of the matrix. -/
def back (w : Mat) (g : Grad) (i : Fin 2048) (j : Fin 512) : EReal := ∑ k : Fin 2048, (g (ix2 i ⟨k.val, by omega⟩) : EReal) * (w (ix2 j k) : EReal)
def backA (w : Mat) (g : Grad) : Out := fun i => back w g (i 0) (i 1)

section Kernel

open Cert.Kernel10Ideal Cert.Kernel10Ideal.Gen

variable (m : (ℓ : Loc nD τ sig) → Buf (Elt Ideal) ℓ) (c : Dev nD)

abbrev wK : Mat := m ((c.tc : Thread nD τ).loc main_arg0)
abbrev gK : Grad := m ((c.tc : Thread nD τ).loc main_arg1)

/-- What the call finds: the gradients and the matrix cut by columns. -/
abbrev grad : Vec Ideal S2048x6144 .bf16 := V m c main_v0
abbrev cut : Vec Ideal S4x512x512 .bf16 := V m c main_v3

theorem grad_eq (i : Fin 2048) (k : Fin 6144) : grad m c (ix2 i k) = gK m c (ix2 i k) := by
  unfold grad
  after_reads_at
theorem cut_eq (a : Fin 4) (j : Fin 512) (k : Fin 512) : cut m c (ix3 a j k) = wK m c (ix2 j ⟨a.val * 512 + k.val, by omega⟩) := by
  unfold cut
  after_reads_at

/-- Where the blocks lie. -/
theorem places : ∀ t : Fin cfg0.N, win0_0.index t = ![t.val / 8, t.val % 4] ∧ win0_1.index t = ![t.val % 4, t.val % 8 / 4, 0]
    ∧ win0_2.index t = ![t.val / 8, t.val % 8 / 4] :=
  (by decide +kernel : ∀ t : Fin grid0.N, _)

theorem lt (t : Fin cfg0.N) : t.val < 16 := t.isLt

theorem read_0 (t : Fin cfg0.N) (r : Fin 1024) (k : Fin 512) :
    (iblk m c 0 t : Vec Ideal S1024x512 .bf16) (ix2 r k) = grad m c (ix2 ⟨1024 * (t.val / 8) + r.val, by have := lt t; omega⟩ ⟨(512 * (t.val % 4) + k.val), by omega⟩) := by
  have hp := (places t).1
  blk_ext [iblk, hp]
theorem read_1 (t : Fin cfg0.N) (l : Fin 256) (k : Fin 512) :
    (iblk m c 1 t : Vec Ideal S1x256x512 .bf16) (ix3 0 l k) = cut m c (ix3 ⟨t.val % 4, by omega⟩ ⟨256 * (t.val % 8 / 4) + l.val, by omega⟩ k) := by
  blk_ext [iblk, (places t).2.1]

/-- One stretch's share. -/
def share (w : Mat) (g : Grad) (i : Fin 2048) (j : Fin 512) (a : Fin 4) : EReal :=
  ∑ k : Fin 512, (g (ix2 i ⟨(512 * a.val + k.val), by omega⟩) : EReal) * (w (ix2 j ⟨512 * a.val + k.val, by omega⟩) : EReal)

theorem back_eq (w : Mat) (g : Grad) (i : Fin 2048) (j : Fin 512) : back w g i j = ∑ a : Fin 4, share w g i j a := Dx.sum_stretches (by decide) _

theorem pay1 (x0 : Vec Ideal S1024x512 .bf16) (x1 : Vec Ideal S1x256x512 .bf16) (r : Fin 1024) (l : Fin 256) :
    (k0_pay1 x0 x1 (ix2 r l) : EReal) = ∑ k : Fin 512, (x0 (ix2 r k) : EReal) * (x1 (ix3 0 l k) : EReal) := by
  pointwise [k0_pay1]
theorem pay2 (x0 : Vec Ideal S1024x512 .bf16) (x1 : Vec Ideal S1x256x512 .bf16) (r : Fin 1024) (l : Fin 256) :
    (k0_pay2 x0 x1 (ix2 r l) : EReal) = (k0_pay1 x0 x1 (ix2 r l) : EReal) := by
  pointwise [k0_pay2]
theorem pay3 (x0 : Vec Ideal S1024x512 .bf16) (x1 : Vec Ideal S1x256x512 .bf16) (x2 : Vec Ideal S1024x256 .f32) (r : Fin 1024) (l : Fin 256) :
    (k0_pay3 x0 x1 x2 (ix2 r l) : EReal) = (x2 (ix2 r l) : EReal) + (k0_pay1 x0 x1 (ix2 r l) : EReal) := by
  pointwise [k0_pay3]
theorem pay4 (x0 : Vec Ideal S1024x512 .bf16) (x1 : Vec Ideal S1x256x512 .bf16) (x2 : Vec Ideal S1024x256 .f32) (r : Fin 1024) (l : Fin 256) :
    (k0_pay4 x0 x1 x2 (ix2 r l) : EReal) = (x2 (ix2 r l) : EReal) + (k0_pay1 x0 x1 (ix2 r l) : EReal) := by
  pointwise [k0_pay4]

/-- The row and the column a place of a point's block stands for. -/
abbrev row (t : ℕ) (r : Fin 1024) (h : t < 16) : Fin 2048 := ⟨1024 * (t / 8) + r.val, by omega⟩
abbrev col (t : ℕ) (l : Fin 256) : Fin 512 := ⟨256 * (t % 8 / 4) + l.val, by omega⟩

theorem part (t : Fin cfg0.N) (r : Fin 1024) (l : Fin 256) :
    (k0_pay1 (iblk m c 0 t) (iblk m c 1 t) (ix2 r l) : EReal)
      = share (wK m c) (gK m c) (row t.val r (lt t)) (col t.val l) ⟨t.val % 4, by omega⟩ := by
  refine (pay1 _ _ r l).trans ?_
  unfold share
  refine Finset.sum_congr rfl fun k _ => congrArg₂ (· * ·) ((read_0 m c t r k).trans (grad_eq m c _ _)) ((read_1 m c t l k).trans ((cut_eq m c _ _ k).trans ?_))
  refine congrArg _ (congrArg (ix2 _) (Fin.ext ?_)); dsimp only; omega

/-- The running sum after a point, but for the last of each four. -/
theorem running (s : ℕ) : ∀ (q : ℕ) (hq : 4 * q + s < cfg0.N) (hs : s < 3) (r : Fin 1024) (l : Fin 256),
    ((outsAt0 m c (4 * q + s) hq).2 (ix2 r l) : EReal)
      = ∑ a : Fin (s + 1), share (wK m c) (gK m c) (row (4 * q) r (by have : 4 * q + s < 16 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have hN : 4 * q + (s + 1) < 16 := lt ⟨_, hq⟩
    refine congr (congr (congrArg (share _ _) (Fin.ext ?_)) (Fin.ext ?_)) (Fin.ext ?_) <;> dsimp only [Fin.val_last] <;> omega

/-- The branch's gradient after the call. -/
theorem arr : (dats m 0 c).arrAt 2 cfg0.N = backA (wK m c) (gK m c) := by
  refine (dats m 0 c).arrAt_eq_of_covers 2 _ (by decide +kernel) fun t hf y => ?_
  have hm : t.val % 4 = 3 := (flush0_2 t).mp hf
  have hN := lt t
  blk_simp
  rw [after0_2, outsAt0_C m c t (by omega) (by omega) hm]
  idx_vars y
  unfold out0_C_2
  frame_out
  simp only [read_unread_whole]
  refine (pay4 _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine Eq.trans ?_ ((back_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2]; dsimp only; omega
    · blk_simp [(places t).2.2]; dsimp only; omega
  · refine congr (congr (congrArg (share _ _) (Fin.ext ?_)) (Fin.ext ?_)) (Fin.ext ?_)
    · blk_simp [(places t).2.2]; dsimp only; omega
    · blk_simp [(places t).2.2]; dsimp only; omega
    · dsimp only [Fin.val_last]; omega

end Kernel

section Reference

open Cert.Reference10Ideal Cert.Reference10Ideal.Gen

theorem ref (w : Mat) (g : Grad) : (Host.dotGeneral (F := Ideal) (φ₁ := .f32) (φ₂ := .f32) dot_S2048x2048_S512x2048_S2048x512_1_1_0_0_n_n none (extractStridedSlice S2048x2048 ![0, 0] g slices_S2048x6144_S2048x2048_0_0 : Vec Ideal S2048x2048 .f32) w : Out) = backA w g := by
  funext i
  idx_vars i
  unfold backA back
  pointwise []

end Reference

theorem algebraic : Cert.algebraic_Kernel10Ideal_Reference10Ideal (hKernel10Ideal := Cert.Kernel10Ideal.Gen.facts) (hReference10Ideal := Cert.Reference10Ideal.Gen.facts) := by
  intro m ρ m' ρ' _ hag
  refine ⟨fun c => backA (wK m c) (gK m c), (θ_run Cert.Kernel10Ideal.defs _ _).mono (fun r h c => ⟨(h c).1.trans (arr m c), (h c).2⟩) (Cert.Kernel10Ideal.Value.run_blocks (F := Ideal) m ρ),
    (θ_run Cert.Reference10Ideal.defs _ _).mono (fun r h c => ?_) (Cert.Reference10Ideal.Value.run (F := Ideal) m' ρ')⟩
  obtain ⟨h0, h1⟩ := hag c
  refine ⟨((h c).1.trans (ref _ _)).trans ?_, (h c).2⟩
  rw [h0, h1]

end Cert.Proof.PoolDx

end
-- ==== Proof.SbDx.lean ====
/- The input gradient of the attention branch's projection, a product summed over four stretches: what the call leaves, and the reference. -/
module

public import proofs.«01_k».proof.Proof.Dx
public import proofs.«01_k».proof.Proof.Gen.Kernel11Ideal.Value
public import proofs.«01_k».proof.Proof.Gen.Reference11Ideal.Run
public import proofs.«01_k».proof.Proof.Gen.Kernel11Ideal
public import proofs.«01_k».proof.Proof.Tools

@[expose] public section

set_option maxRecDepth 16384

noncomputable section

namespace Cert.Proof.SbDx

open Idealize.ShloMosaic Idealize.ShloMosaic.TcCoe Idealize.ShloMosaic.StableHlo Idealize.SL.Sem Idealize.ShloMosaic.Tactic

abbrev Mat : Type := Vec Ideal ⟨2, ![768, 2048]⟩ .f32
abbrev Grad : Type := Vec Ideal ⟨2, ![2048, 6144]⟩ .f32
abbrev Out : Type := Vec Ideal ⟨2, ![2048, 768]⟩ .f32

/-- The gradient of the branch: row `i` of its third of the gradients with row `j` of the matrix. -/
def back (w : Mat) (g : Grad) (i : Fin 2048) (j : Fin 768) : EReal := ∑ k : Fin 2048, (g (ix2 i ⟨2048 + k.val, by omega⟩) : EReal) * (w (ix2 j k) : EReal)
def backA (w : Mat) (g : Grad) : Out := fun i => back w g (i 0) (i 1)

section Kernel

open Cert.Kernel11Ideal Cert.Kernel11Ideal.Gen

variable (m : (ℓ : Loc nD τ sig) → Buf (Elt Ideal) ℓ) (c : Dev nD)

abbrev wK : Mat := m ((c.tc : Thread nD τ).loc main_arg0)
abbrev gK : Grad := m ((c.tc : Thread nD τ).loc main_arg1)

/-- What the call finds: the gradients and the matrix cut by columns. -/
abbrev grad : Vec Ideal S2048x6144 .bf16 := V m c main_v0
abbrev cut : Vec Ideal S4x768x512 .bf16 := V m c main_v3

theorem grad_eq (i : Fin 2048) (k : Fin 6144) : grad m c (ix2 i k) = gK m c (ix2 i k) := by
  unfold grad
  after_reads_at
theorem cut_eq (a : Fin 4) (j : Fin 768) (k : Fin 512) : cut m c (ix3 a j k) = wK m c (ix2 j ⟨a.val * 512 + k.val, by omega⟩) := by
  unfold cut
  after_reads_at

/-- Where the blocks lie. -/
theorem places : ∀ t : Fin cfg0.N, win0_0.index t = ![t.val / 12, 4 + t.val % 4] ∧ win0_1.index t = ![t.val % 4, t.val % 12 / 4, 0]
    ∧ win0_2.index t = ![t.val / 12, t.val % 12 / 4] :=
  (by decide +kernel : ∀ t : Fin grid0.N, _)

theorem lt (t : Fin cfg0.N) : t.val < 24 := t.isLt

theorem read_0 (t : Fin cfg0.N) (r : Fin 1024) (k : Fin 512) :
    (iblk m c 0 t : Vec Ideal S1024x512 .bf16) (ix2 r k) = grad m c (ix2 ⟨1024 * (t.val / 12) + r.val, by have := lt t; omega⟩ ⟨2048 + (512 * (t.val % 4) + k.val), by omega⟩) := by
  have hp := (places t).1
  blk_ext [iblk, hp]
theorem read_1 (t : Fin cfg0.N) (l : Fin 256) (k : Fin 512) :
    (iblk m c 1 t : Vec Ideal S1x256x512 .bf16) (ix3 0 l k) = cut m c (ix3 ⟨t.val % 4, by omega⟩ ⟨256 * (t.val % 12 / 4) + l.val, by omega⟩ k) := by
  blk_ext [iblk, (places t).2.1]

/-- One stretch's share. -/
def share (w : Mat) (g : Grad) (i : Fin 2048) (j : Fin 768) (a : Fin 4) : EReal :=
  ∑ k : Fin 512, (g (ix2 i ⟨2048 + (512 * a.val + k.val), by omega⟩) : EReal) * (w (ix2 j ⟨512 * a.val + k.val, by omega⟩) : EReal)

theorem back_eq (w : Mat) (g : Grad) (i : Fin 2048) (j : Fin 768) : back w g i j = ∑ a : Fin 4, share w g i j a := Dx.sum_stretches (by decide) _

theorem pay1 (x0 : Vec Ideal S1024x512 .bf16) (x1 : Vec Ideal S1x256x512 .bf16) (r : Fin 1024) (l : Fin 256) :
    (k0_pay1 x0 x1 (ix2 r l) : EReal) = ∑ k : Fin 512, (x0 (ix2 r k) : EReal) * (x1 (ix3 0 l k) : EReal) := by
  pointwise [k0_pay1]
theorem pay2 (x0 : Vec Ideal S1024x512 .bf16) (x1 : Vec Ideal S1x256x512 .bf16) (r : Fin 1024) (l : Fin 256) :
    (k0_pay2 x0 x1 (ix2 r l) : EReal) = (k0_pay1 x0 x1 (ix2 r l) : EReal) := by
  pointwise [k0_pay2]
theorem pay3 (x0 : Vec Ideal S1024x512 .bf16) (x1 : Vec Ideal S1x256x512 .bf16) (x2 : Vec Ideal S1024x256 .f32) (r : Fin 1024) (l : Fin 256) :
    (k0_pay3 x0 x1 x2 (ix2 r l) : EReal) = (x2 (ix2 r l) : EReal) + (k0_pay1 x0 x1 (ix2 r l) : EReal) := by
  pointwise [k0_pay3]
theorem pay4 (x0 : Vec Ideal S1024x512 .bf16) (x1 : Vec Ideal S1x256x512 .bf16) (x2 : Vec Ideal S1024x256 .f32) (r : Fin 1024) (l : Fin 256) :
    (k0_pay4 x0 x1 x2 (ix2 r l) : EReal) = (x2 (ix2 r l) : EReal) + (k0_pay1 x0 x1 (ix2 r l) : EReal) := by
  pointwise [k0_pay4]

/-- The row and the column a place of a point's block stands for. -/
abbrev row (t : ℕ) (r : Fin 1024) (h : t < 24) : Fin 2048 := ⟨1024 * (t / 12) + r.val, by omega⟩
abbrev col (t : ℕ) (l : Fin 256) : Fin 768 := ⟨256 * (t % 12 / 4) + l.val, by omega⟩

theorem part (t : Fin cfg0.N) (r : Fin 1024) (l : Fin 256) :
    (k0_pay1 (iblk m c 0 t) (iblk m c 1 t) (ix2 r l) : EReal)
      = share (wK m c) (gK m c) (row t.val r (lt t)) (col t.val l) ⟨t.val % 4, by omega⟩ := by
  refine (pay1 _ _ r l).trans ?_
  unfold share
  refine Finset.sum_congr rfl fun k _ => congrArg₂ (· * ·) ((read_0 m c t r k).trans (grad_eq m c _ _)) ((read_1 m c t l k).trans ((cut_eq m c _ _ k).trans ?_))
  refine congrArg _ (congrArg (ix2 _) (Fin.ext ?_)); dsimp only; omega

/-- The running sum after a point, but for the last of each four. -/
theorem running (s : ℕ) : ∀ (q : ℕ) (hq : 4 * q + s < cfg0.N) (hs : s < 3) (r : Fin 1024) (l : Fin 256),
    ((outsAt0 m c (4 * q + s) hq).2 (ix2 r l) : EReal)
      = ∑ a : Fin (s + 1), share (wK m c) (gK m c) (row (4 * q) r (by have : 4 * q + s < 24 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have hN : 4 * q + (s + 1) < 24 := lt ⟨_, hq⟩
    refine congr (congr (congrArg (share _ _) (Fin.ext ?_)) (Fin.ext ?_)) (Fin.ext ?_) <;> dsimp only [Fin.val_last] <;> omega

/-- The branch's gradient after the call. -/
theorem arr : (dats m 0 c).arrAt 2 cfg0.N = backA (wK m c) (gK m c) := by
  refine (dats m 0 c).arrAt_eq_of_covers 2 _ (by decide +kernel) fun t hf y => ?_
  have hm : t.val % 4 = 3 := (flush0_2 t).mp hf
  have hN := lt t
  blk_simp
  rw [after0_2, outsAt0_C m c t (by omega) (by omega) hm]
  idx_vars y
  unfold out0_C_2
  frame_out
  simp only [read_unread_whole]
  refine (pay4 _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine Eq.trans ?_ ((back_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2]; dsimp only; omega
    · blk_simp [(places t).2.2]; dsimp only; omega
  · refine congr (congr (congrArg (share _ _) (Fin.ext ?_)) (Fin.ext ?_)) (Fin.ext ?_)
    · blk_simp [(places t).2.2]; dsimp only; omega
    · blk_simp [(places t).2.2]; dsimp only; omega
    · dsimp only [Fin.val_last]; omega

end Kernel

section Reference

open Cert.Reference11Ideal Cert.Reference11Ideal.Gen

theorem ref (w : Mat) (g : Grad) : (Host.dotGeneral (F := Ideal) (φ₁ := .f32) (φ₂ := .f32) dot_S2048x2048_S768x2048_S2048x768_1_1_0_0_n_n none (extractStridedSlice S2048x2048 ![0, 2048] g slices_S2048x6144_S2048x2048_0_2048 : Vec Ideal S2048x2048 .f32) w : Out) = backA w g := by
  funext i
  idx_vars i
  unfold backA back
  pointwise []

end Reference

theorem algebraic : Cert.algebraic_Kernel11Ideal_Reference11Ideal (hKernel11Ideal := Cert.Kernel11Ideal.Gen.facts) (hReference11Ideal := Cert.Reference11Ideal.Gen.facts) := by
  intro m ρ m' ρ' _ hag
  refine ⟨fun c => backA (wK m c) (gK m c), (θ_run Cert.Kernel11Ideal.defs _ _).mono (fun r h c => ⟨(h c).1.trans (arr m c), (h c).2⟩) (Cert.Kernel11Ideal.Value.run_blocks (F := Ideal) m ρ),
    (θ_run Cert.Reference11Ideal.defs _ _).mono (fun r h c => ?_) (Cert.Reference11Ideal.Value.run (F := Ideal) m' ρ')⟩
  obtain ⟨h0, h1⟩ := hag c
  refine ⟨((h c).1.trans (ref _ _)).trans ?_, (h c).2⟩
  rw [h0, h1]

end Cert.Proof.SbDx

end
-- ==== Proof.GdnDx.lean ====
/- The input gradient of the delta-rule branch's projection, a product summed over four stretches: what the call leaves, and the reference. -/
module

public import proofs.«01_k».proof.Proof.Dx
public import proofs.«01_k».proof.Proof.Gen.Kernel12Ideal.Value
public import proofs.«01_k».proof.Proof.Gen.Reference12Ideal.Run
public import proofs.«01_k».proof.Proof.Gen.Kernel12Ideal
public import proofs.«01_k».proof.Proof.Tools

@[expose] public section

set_option maxRecDepth 16384

noncomputable section

namespace Cert.Proof.GdnDx

open Idealize.ShloMosaic Idealize.ShloMosaic.TcCoe Idealize.ShloMosaic.StableHlo Idealize.SL.Sem Idealize.ShloMosaic.Tactic

abbrev Mat : Type := Vec Ideal ⟨2, ![768, 2048]⟩ .f32
abbrev Grad : Type := Vec Ideal ⟨2, ![2048, 6144]⟩ .f32
abbrev Out : Type := Vec Ideal ⟨2, ![2048, 768]⟩ .f32

/-- The gradient of the branch: row `i` of its third of the gradients with row `j` of the matrix. -/
def back (w : Mat) (g : Grad) (i : Fin 2048) (j : Fin 768) : EReal := ∑ k : Fin 2048, (g (ix2 i ⟨4096 + k.val, by omega⟩) : EReal) * (w (ix2 j k) : EReal)
def backA (w : Mat) (g : Grad) : Out := fun i => back w g (i 0) (i 1)

section Kernel

open Cert.Kernel12Ideal Cert.Kernel12Ideal.Gen

variable (m : (ℓ : Loc nD τ sig) → Buf (Elt Ideal) ℓ) (c : Dev nD)

abbrev wK : Mat := m ((c.tc : Thread nD τ).loc main_arg0)
abbrev gK : Grad := m ((c.tc : Thread nD τ).loc main_arg1)

/-- What the call finds: the gradients and the matrix cut by columns. -/
abbrev grad : Vec Ideal S2048x6144 .bf16 := V m c main_v0
abbrev cut : Vec Ideal S4x768x512 .bf16 := V m c main_v3

theorem grad_eq (i : Fin 2048) (k : Fin 6144) : grad m c (ix2 i k) = gK m c (ix2 i k) := by
  unfold grad
  after_reads_at
theorem cut_eq (a : Fin 4) (j : Fin 768) (k : Fin 512) : cut m c (ix3 a j k) = wK m c (ix2 j ⟨a.val * 512 + k.val, by omega⟩) := by
  unfold cut
  after_reads_at

/-- Where the blocks lie. -/
theorem places : ∀ t : Fin cfg0.N, win0_0.index t = ![t.val / 12, 8 + t.val % 4] ∧ win0_1.index t = ![t.val % 4, t.val % 12 / 4, 0]
    ∧ win0_2.index t = ![t.val / 12, t.val % 12 / 4] :=
  (by decide +kernel : ∀ t : Fin grid0.N, _)

theorem lt (t : Fin cfg0.N) : t.val < 24 := t.isLt

theorem read_0 (t : Fin cfg0.N) (r : Fin 1024) (k : Fin 512) :
    (iblk m c 0 t : Vec Ideal S1024x512 .bf16) (ix2 r k) = grad m c (ix2 ⟨1024 * (t.val / 12) + r.val, by have := lt t; omega⟩ ⟨4096 + (512 * (t.val % 4) + k.val), by omega⟩) := by
  have hp := (places t).1
  blk_ext [iblk, hp]
theorem read_1 (t : Fin cfg0.N) (l : Fin 256) (k : Fin 512) :
    (iblk m c 1 t : Vec Ideal S1x256x512 .bf16) (ix3 0 l k) = cut m c (ix3 ⟨t.val % 4, by omega⟩ ⟨256 * (t.val % 12 / 4) + l.val, by omega⟩ k) := by
  blk_ext [iblk, (places t).2.1]

/-- One stretch's share. -/
def share (w : Mat) (g : Grad) (i : Fin 2048) (j : Fin 768) (a : Fin 4) : EReal :=
  ∑ k : Fin 512, (g (ix2 i ⟨4096 + (512 * a.val + k.val), by omega⟩) : EReal) * (w (ix2 j ⟨512 * a.val + k.val, by omega⟩) : EReal)

theorem back_eq (w : Mat) (g : Grad) (i : Fin 2048) (j : Fin 768) : back w g i j = ∑ a : Fin 4, share w g i j a := Dx.sum_stretches (by decide) _

theorem pay1 (x0 : Vec Ideal S1024x512 .bf16) (x1 : Vec Ideal S1x256x512 .bf16) (r : Fin 1024) (l : Fin 256) :
    (k0_pay1 x0 x1 (ix2 r l) : EReal) = ∑ k : Fin 512, (x0 (ix2 r k) : EReal) * (x1 (ix3 0 l k) : EReal) := by
  pointwise [k0_pay1]
theorem pay2 (x0 : Vec Ideal S1024x512 .bf16) (x1 : Vec Ideal S1x256x512 .bf16) (r : Fin 1024) (l : Fin 256) :
    (k0_pay2 x0 x1 (ix2 r l) : EReal) = (k0_pay1 x0 x1 (ix2 r l) : EReal) := by
  pointwise [k0_pay2]
theorem pay3 (x0 : Vec Ideal S1024x512 .bf16) (x1 : Vec Ideal S1x256x512 .bf16) (x2 : Vec Ideal S1024x256 .f32) (r : Fin 1024) (l : Fin 256) :
    (k0_pay3 x0 x1 x2 (ix2 r l) : EReal) = (x2 (ix2 r l) : EReal) + (k0_pay1 x0 x1 (ix2 r l) : EReal) := by
  pointwise [k0_pay3]
theorem pay4 (x0 : Vec Ideal S1024x512 .bf16) (x1 : Vec Ideal S1x256x512 .bf16) (x2 : Vec Ideal S1024x256 .f32) (r : Fin 1024) (l : Fin 256) :
    (k0_pay4 x0 x1 x2 (ix2 r l) : EReal) = (x2 (ix2 r l) : EReal) + (k0_pay1 x0 x1 (ix2 r l) : EReal) := by
  pointwise [k0_pay4]

/-- The row and the column a place of a point's block stands for. -/
abbrev row (t : ℕ) (r : Fin 1024) (h : t < 24) : Fin 2048 := ⟨1024 * (t / 12) + r.val, by omega⟩
abbrev col (t : ℕ) (l : Fin 256) : Fin 768 := ⟨256 * (t % 12 / 4) + l.val, by omega⟩

theorem part (t : Fin cfg0.N) (r : Fin 1024) (l : Fin 256) :
    (k0_pay1 (iblk m c 0 t) (iblk m c 1 t) (ix2 r l) : EReal)
      = share (wK m c) (gK m c) (row t.val r (lt t)) (col t.val l) ⟨t.val % 4, by omega⟩ := by
  refine (pay1 _ _ r l).trans ?_
  unfold share
  refine Finset.sum_congr rfl fun k _ => congrArg₂ (· * ·) ((read_0 m c t r k).trans (grad_eq m c _ _)) ((read_1 m c t l k).trans ((cut_eq m c _ _ k).trans ?_))
  refine congrArg _ (congrArg (ix2 _) (Fin.ext ?_)); dsimp only; omega

/-- The running sum after a point, but for the last of each four. -/
theorem running (s : ℕ) : ∀ (q : ℕ) (hq : 4 * q + s < cfg0.N) (hs : s < 3) (r : Fin 1024) (l : Fin 256),
    ((outsAt0 m c (4 * q + s) hq).2 (ix2 r l) : EReal)
      = ∑ a : Fin (s + 1), share (wK m c) (gK m c) (row (4 * q) r (by have : 4 * q + s < 24 := hq; omega)) (col (4 * q) l) ⟨a.val, by omega⟩ := by
  induction s with
  | zero =>
    intro q hq hs r l
    rw [outsAt0_A m c ⟨4 * q + 0, hq⟩ (by dsimp only; omega) (by dsimp only; omega) (by dsimp only; omega)]
    unfold sout0_A_0
    frame_out
    rw [Fin.sum_univ_one]
    refine (pay2 _ _ r l).trans ((part m c ⟨4 * q + 0, hq⟩ r l).trans ?_)
    exact congrArg (share _ _ _ _) (Fin.ext (by dsimp only; omega))
  | succ s ih =>
    intro q hq hs r l
    rw [outsAt0_B m c ⟨4 * q + (s + 1), hq⟩ (by dsimp only; omega) (by dsimp only; omega) (by dsimp only; omega)]
    unfold sout0_B_0
    frame_out
    simp only [read_unread_whole]
    rw [Fin.sum_univ_castSucc]
    refine (pay3 _ _ _ r l).trans ?_
    refine congrArg₂ (fun a b : EReal => a + b) (ih q (by omega) (by omega) r l) ((part m c ⟨4 * q + (s + 1), hq⟩ r l).trans ?_)
    have hN : 4 * q + (s + 1) < 24 := lt ⟨_, hq⟩
    refine congr (congr (congrArg (share _ _) (Fin.ext ?_)) (Fin.ext ?_)) (Fin.ext ?_) <;> dsimp only [Fin.val_last] <;> omega

/-- The branch's gradient after the call. -/
theorem arr : (dats m 0 c).arrAt 2 cfg0.N = backA (wK m c) (gK m c) := by
  refine (dats m 0 c).arrAt_eq_of_covers 2 _ (by decide +kernel) fun t hf y => ?_
  have hm : t.val % 4 = 3 := (flush0_2 t).mp hf
  have hN := lt t
  blk_simp
  rw [after0_2, outsAt0_C m c t (by omega) (by omega) hm]
  idx_vars y
  unfold out0_C_2
  frame_out
  simp only [read_unread_whole]
  refine (pay4 _ _ _ y0 y1).trans ?_
  have e : t.val - 1 = 4 * (t.val / 4) + 2 := by omega
  have hp : ∀ (n : ℕ) (hn : n < cfg0.N) (h : 4 * (t.val / 4) + 2 < cfg0.N), n = 4 * (t.val / 4) + 2 → (outsAt0 m c n hn).2 = (outsAt0 m c (4 * (t.val / 4) + 2) h).2 := by
    intro n hn h e; subst e; rfl
  rw [hp _ _ (e ▸ Nat.lt_of_le_of_lt (Nat.sub_le _ _) t.isLt) e]
  refine Eq.trans ?_ ((back_eq _ _ _ _).trans (Fin.sum_univ_castSucc _)).symm
  refine congrArg₂ (fun a b : EReal => a + b) ((running m c 2 (t.val / 4) _ (by omega) y0 y1).trans (Finset.sum_congr rfl fun a _ => ?_)) ((part m c t y0 y1).trans ?_)
  · refine congrArg₂ (fun i j => share _ _ i j _) (Fin.ext ?_) (Fin.ext ?_)
    · blk_simp [(places t).2.2]; dsimp only; omega
    · blk_simp [(places t).2.2]; dsimp only; omega
  · refine congr (congr (congrArg (share _ _) (Fin.ext ?_)) (Fin.ext ?_)) (Fin.ext ?_)
    · blk_simp [(places t).2.2]; dsimp only; omega
    · blk_simp [(places t).2.2]; dsimp only; omega
    · dsimp only [Fin.val_last]; omega

end Kernel

section Reference

open Cert.Reference12Ideal Cert.Reference12Ideal.Gen

theorem ref (w : Mat) (g : Grad) : (Host.dotGeneral (F := Ideal) (φ₁ := .f32) (φ₂ := .f32) dot_S2048x2048_S768x2048_S2048x768_1_1_0_0_n_n none (extractStridedSlice S2048x2048 ![0, 4096] g slices_S2048x6144_S2048x2048_0_4096 : Vec Ideal S2048x2048 .f32) w : Out) = backA w g := by
  funext i
  idx_vars i
  unfold backA back
  pointwise []

end Reference

theorem algebraic : Cert.algebraic_Kernel12Ideal_Reference12Ideal (hKernel12Ideal := Cert.Kernel12Ideal.Gen.facts) (hReference12Ideal := Cert.Reference12Ideal.Gen.facts) := by
  intro m ρ m' ρ' _ hag
  refine ⟨fun c => backA (wK m c) (gK m c), (θ_run Cert.Kernel12Ideal.defs _ _).mono (fun r h c => ⟨(h c).1.trans (arr m c), (h c).2⟩) (Cert.Kernel12Ideal.Value.run_blocks (F := Ideal) m ρ),
    (θ_run Cert.Reference12Ideal.defs _ _).mono (fun r h c => ?_) (Cert.Reference12Ideal.Value.run (F := Ideal) m' ρ')⟩
  obtain ⟨h0, h1⟩ := hag c
  refine ⟨((h c).1.trans (ref _ _)).trans ?_, (h c).2⟩
  rw [h0, h1]

end Cert.Proof.GdnDx

end
-- ==== Proof.PoolDw.lean ====
/- The gradient of the pool branch's matrix: what the call leaves, and the reference. -/
module

public import proofs.«01_k».proof.Proof.Gen.Kernel13Ideal.Value
public import proofs.«01_k».proof.Proof.Gen.Reference13Ideal.Run
public import proofs.«01_k».proof.Proof.Gen.Kernel13Ideal
public import proofs.«01_k».proof.Proof.Tools

@[expose] public section

set_option maxRecDepth 16384

noncomputable section

namespace Cert.Proof.PoolDw

open Idealize.ShloMosaic Idealize.ShloMosaic.TcCoe Idealize.ShloMosaic.StableHlo Idealize.SL.Sem Idealize.ShloMosaic.Tactic

abbrev Branch : Type := Vec Ideal ⟨2, ![2048, 512]⟩ .f32
abbrev Grad : Type := Vec Ideal ⟨2, ![2048, 6144]⟩ .f32
abbrev Out : Type := Vec Ideal ⟨3, ![4, 512, 512]⟩ .bf16

/-- The gradient of the matrix at row `i` and column `j`: column `i` of the branch with column `j` of its third of the gradients. -/
def outer (y : Branch) (g : Grad) (i : Fin 512) (j : Fin 2048) : EReal := ∑ k : Fin 2048, (y (ix2 k i) : EReal) * (g (ix2 k ⟨j.val, by omega⟩) : EReal)
/-- The same, cut into four by columns. -/
def outerA (y : Branch) (g : Grad) : Out := fun i => outer y g (i 1) ⟨(i 0).val * 512 + (i 2).val, by have h0 : (i 0).val < 4 := (i 0).isLt; have h2 : (i 2).val < 512 := (i 2).isLt; omega⟩

section Kernel

open Cert.Kernel13Ideal Cert.Kernel13Ideal.Gen

variable (m : (ℓ : Loc nD τ sig) → Buf (Elt Ideal) ℓ) (c : Dev nD)

abbrev yK : Branch := m ((c.tc : Thread nD τ).loc main_arg0)
abbrev gK : Grad := m ((c.tc : Thread nD τ).loc main_arg1)

abbrev left : Vec Ideal S2048x512 .bf16 := V m c main_v0
abbrev grad : Vec Ideal S2048x6144 .bf16 := V m c main_v1

theorem left_eq (k : Fin 2048) (i : Fin 512) : left m c (ix2 k i) = yK m c (ix2 k i) := by
  unfold left
  after_reads_at
theorem grad_eq (i : Fin 2048) (k : Fin 6144) : grad m c (ix2 i k) = gK m c (ix2 i k) := by
  unfold grad
  after_reads_at

/-- Where the blocks lie. -/
theorem places : ∀ t : Fin cfg0.N, win0_0.index t = ![0, t.val / 4] ∧ win0_1.index t = ![0, t.val % 4]
    ∧ win0_2.index t = ![t.val % 4, t.val / 4, 0] :=
  (by decide +kernel : ∀ t : Fin grid0.N, _)

theorem lt (t : Fin cfg0.N) : t.val < 8 := t.isLt

theorem read_0 (t : Fin cfg0.N) (k : Fin 2048) (r : Fin 256) :
    (iblk m c 0 t : Vec Ideal S2048x256 .bf16) (ix2 k r) = left m c (ix2 k ⟨256 * (t.val / 4) + r.val, by have := lt t; omega⟩) := by
  blk_ext [iblk, (places t).1]
theorem read_1 (t : Fin cfg0.N) (k : Fin 2048) (l : Fin 512) :
    (iblk m c 1 t : Vec Ideal S2048x512 .bf16) (ix2 k l) = grad m c (ix2 k ⟨(512 * (t.val % 4) + l.val), by omega⟩) := by
  have hp := (places t).2.1
  blk_ext [iblk, hp]

theorem pay1 (x0 : Vec Ideal S2048x256 .bf16) (x1 : Vec Ideal S2048x512 .bf16) (r : Fin 256) (l : Fin 512) :
    (k0_pay1 x0 x1 (ix3 0 r l) : EReal) = ∑ k : Fin 2048, (x0 (ix2 k r) : EReal) * (x1 (ix2 k l) : EReal) := by
  pointwise [k0_pay1]

theorem part (t : Fin cfg0.N) (r : Fin 256) (l : Fin 512) :
    (k0_pay1 (iblk m c 0 t) (iblk m c 1 t) (ix3 0 r l) : EReal)
      = outer (yK m c) (gK m c) ⟨256 * (t.val / 4) + r.val, by have := lt t; omega⟩ ⟨512 * (t.val % 4) + l.val, by omega⟩ := by
  refine (pay1 _ _ r l).trans ?_
  exact Finset.sum_congr rfl fun k _ => congrArg₂ (fun a b : EReal => a * b) ((read_0 m c t k r).trans (left_eq m c _ _)) ((read_1 m c t k l).trans (grad_eq m c _ _))

/-- The matrix's gradient after the call. -/
theorem arr : (dats m 0 c).arrAt 2 cfg0.N = outerA (yK m c) (gK m c) := by
  refine (dats m 0 c).arrAt_eq_of_covers 2 _ (by decide +kernel) fun t _ y => ?_
  have hN := lt t
  blk_simp
  rw [after0_2]
  idx_vars y
  obtain rfl : y0 = 0 := Subsingleton.elim _ _
  unfold out0_2
  frame_out
  refine (part m c t y1 y2).trans ?_
  refine congrArg₂ (outer _ _) (Fin.ext ?_) (Fin.ext ?_)
  · blk_simp [(places t).2.2]; dsimp only; omega
  · blk_simp [(places t).2.2]; dsimp only; omega

end Kernel

section Reference

open Cert.Reference13Ideal Cert.Reference13Ideal.Gen

theorem product (y : Branch) (g : Grad) (i : Fin 512) (j : Fin 2048) :
    ((Host.dotGeneral (F := Ideal) (φ₁ := .f32) (φ₂ := .f32) dot_S2048x2048_S2048x512_S2048x512_0_0_1_1_n_n none (extractStridedSlice S2048x2048 ![0, 0] g slices_S2048x6144_S2048x2048_0_0 : Vec Ideal S2048x2048 .f32) y : Vec Ideal S2048x512 .f32) (ix2 j i) : EReal)
      = outer y g i j := by
  unfold outer
  pointwise []
  exact Finset.sum_congr rfl fun k _ => mul_comm (G := EReal) _ _

theorem ref (v : Vec Ideal S2048x512 .f32) (a : Fin 4) (i : Fin 512) (l : Fin 512) :
    ((truncf (F := Ideal) (φ := .f32) .bf16 (transpose S4x512x512 [1, 0, 2] (shapeCast S512x4x512 (transpose S512x2048 [1, 0] v transposes_S2048x512_S512x2048_1_0 : Vec Ideal S512x2048 .f32) shapeCasts_S512x2048_S512x4x512 : Vec Ideal S512x4x512 .f32) transposes_S512x4x512_S4x512x512_1_0_2 : Vec Ideal S4x512x512 .f32) bitsLt_bf16_f32 : Out) (ix3 a i l) : EReal)
      = (v (ix2 ⟨a.val * 512 + l.val, by omega⟩ i) : EReal) := by
  pointwise []

end Reference

theorem algebraic : Cert.algebraic_Kernel13Ideal_Reference13Ideal (hKernel13Ideal := Cert.Kernel13Ideal.Gen.facts) (hReference13Ideal := Cert.Reference13Ideal.Gen.facts) := by
  intro m ρ m' ρ' _ hag
  refine ⟨fun c => outerA (yK m c) (gK m c), (θ_run Cert.Kernel13Ideal.defs _ _).mono (fun r h c => ⟨(h c).1.trans (arr m c), (h c).2⟩) (Cert.Kernel13Ideal.Value.run_blocks (F := Ideal) m ρ),
    (θ_run Cert.Reference13Ideal.defs _ _).mono (fun r h c => ?_) (Cert.Reference13Ideal.Value.run (F := Ideal) m' ρ')⟩
  obtain ⟨h0, h1⟩ := hag c
  refine ⟨(h c).1.trans ?_, (h c).2⟩
  rw [h0, h1]
  funext i
  idx_vars i
  exact (ref _ _ _ _).trans (product _ _ _ _)

end Cert.Proof.PoolDw

end
-- ==== Proof.SbDw.lean ====
/- The gradient of the attention branch's matrix: what the call leaves, and the reference. -/
module

public import proofs.«01_k».proof.Proof.Gen.Kernel14Ideal.Value
public import proofs.«01_k».proof.Proof.Gen.Reference14Ideal.Run
public import proofs.«01_k».proof.Proof.Gen.Kernel14Ideal
public import proofs.«01_k».proof.Proof.Tools

@[expose] public section

set_option maxRecDepth 16384

noncomputable section

namespace Cert.Proof.SbDw

open Idealize.ShloMosaic Idealize.ShloMosaic.TcCoe Idealize.ShloMosaic.StableHlo Idealize.SL.Sem Idealize.ShloMosaic.Tactic

abbrev Branch : Type := Vec Ideal ⟨2, ![2048, 768]⟩ .f32
abbrev Grad : Type := Vec Ideal ⟨2, ![2048, 6144]⟩ .f32
abbrev Out : Type := Vec Ideal ⟨3, ![4, 768, 512]⟩ .bf16

/-- The gradient of the matrix at row `i` and column `j`: column `i` of the branch with column `j` of its third of the gradients. -/
def outer (y : Branch) (g : Grad) (i : Fin 768) (j : Fin 2048) : EReal := ∑ k : Fin 2048, (y (ix2 k i) : EReal) * (g (ix2 k ⟨2048 + j.val, by omega⟩) : EReal)
/-- The same, cut into four by columns. -/
def outerA (y : Branch) (g : Grad) : Out := fun i => outer y g (i 1) ⟨(i 0).val * 512 + (i 2).val, by have h0 : (i 0).val < 4 := (i 0).isLt; have h2 : (i 2).val < 512 := (i 2).isLt; omega⟩

section Kernel

open Cert.Kernel14Ideal Cert.Kernel14Ideal.Gen

variable (m : (ℓ : Loc nD τ sig) → Buf (Elt Ideal) ℓ) (c : Dev nD)

abbrev yK : Branch := m ((c.tc : Thread nD τ).loc main_arg0)
abbrev gK : Grad := m ((c.tc : Thread nD τ).loc main_arg1)

abbrev left : Vec Ideal S2048x768 .bf16 := V m c main_v0
abbrev grad : Vec Ideal S2048x6144 .bf16 := V m c main_v1

theorem left_eq (k : Fin 2048) (i : Fin 768) : left m c (ix2 k i) = yK m c (ix2 k i) := by
  unfold left
  after_reads_at
theorem grad_eq (i : Fin 2048) (k : Fin 6144) : grad m c (ix2 i k) = gK m c (ix2 i k) := by
  unfold grad
  after_reads_at

/-- Where the blocks lie. -/
theorem places : ∀ t : Fin cfg0.N, win0_0.index t = ![0, t.val / 4] ∧ win0_1.index t = ![0, 4 + t.val % 4]
    ∧ win0_2.index t = ![t.val % 4, t.val / 4, 0] :=
  (by decide +kernel : ∀ t : Fin grid0.N, _)

theorem lt (t : Fin cfg0.N) : t.val < 12 := t.isLt

theorem read_0 (t : Fin cfg0.N) (k : Fin 2048) (r : Fin 256) :
    (iblk m c 0 t : Vec Ideal S2048x256 .bf16) (ix2 k r) = left m c (ix2 k ⟨256 * (t.val / 4) + r.val, by have := lt t; omega⟩) := by
  blk_ext [iblk, (places t).1]
theorem read_1 (t : Fin cfg0.N) (k : Fin 2048) (l : Fin 512) :
    (iblk m c 1 t : Vec Ideal S2048x512 .bf16) (ix2 k l) = grad m c (ix2 k ⟨2048 + (512 * (t.val % 4) + l.val), by omega⟩) := by
  have hp := (places t).2.1
  blk_ext [iblk, hp]

theorem pay1 (x0 : Vec Ideal S2048x256 .bf16) (x1 : Vec Ideal S2048x512 .bf16) (r : Fin 256) (l : Fin 512) :
    (k0_pay1 x0 x1 (ix3 0 r l) : EReal) = ∑ k : Fin 2048, (x0 (ix2 k r) : EReal) * (x1 (ix2 k l) : EReal) := by
  pointwise [k0_pay1]

theorem part (t : Fin cfg0.N) (r : Fin 256) (l : Fin 512) :
    (k0_pay1 (iblk m c 0 t) (iblk m c 1 t) (ix3 0 r l) : EReal)
      = outer (yK m c) (gK m c) ⟨256 * (t.val / 4) + r.val, by have := lt t; omega⟩ ⟨512 * (t.val % 4) + l.val, by omega⟩ := by
  refine (pay1 _ _ r l).trans ?_
  exact Finset.sum_congr rfl fun k _ => congrArg₂ (fun a b : EReal => a * b) ((read_0 m c t k r).trans (left_eq m c _ _)) ((read_1 m c t k l).trans (grad_eq m c _ _))

/-- The matrix's gradient after the call. -/
theorem arr : (dats m 0 c).arrAt 2 cfg0.N = outerA (yK m c) (gK m c) := by
  refine (dats m 0 c).arrAt_eq_of_covers 2 _ (by decide +kernel) fun t _ y => ?_
  have hN := lt t
  blk_simp
  rw [after0_2]
  idx_vars y
  obtain rfl : y0 = 0 := Subsingleton.elim _ _
  unfold out0_2
  frame_out
  refine (part m c t y1 y2).trans ?_
  refine congrArg₂ (outer _ _) (Fin.ext ?_) (Fin.ext ?_)
  · blk_simp [(places t).2.2]; dsimp only; omega
  · blk_simp [(places t).2.2]; dsimp only; omega

end Kernel

section Reference

open Cert.Reference14Ideal Cert.Reference14Ideal.Gen

theorem product (y : Branch) (g : Grad) (i : Fin 768) (j : Fin 2048) :
    ((Host.dotGeneral (F := Ideal) (φ₁ := .f32) (φ₂ := .f32) dot_S2048x2048_S2048x768_S2048x768_0_0_1_1_n_n none (extractStridedSlice S2048x2048 ![0, 2048] g slices_S2048x6144_S2048x2048_0_2048 : Vec Ideal S2048x2048 .f32) y : Vec Ideal S2048x768 .f32) (ix2 j i) : EReal)
      = outer y g i j := by
  unfold outer
  pointwise []
  exact Finset.sum_congr rfl fun k _ => mul_comm (G := EReal) _ _

theorem ref (v : Vec Ideal S2048x768 .f32) (a : Fin 4) (i : Fin 768) (l : Fin 512) :
    ((truncf (F := Ideal) (φ := .f32) .bf16 (transpose S4x768x512 [1, 0, 2] (shapeCast S768x4x512 (transpose S768x2048 [1, 0] v transposes_S2048x768_S768x2048_1_0 : Vec Ideal S768x2048 .f32) shapeCasts_S768x2048_S768x4x512 : Vec Ideal S768x4x512 .f32) transposes_S768x4x512_S4x768x512_1_0_2 : Vec Ideal S4x768x512 .f32) bitsLt_bf16_f32 : Out) (ix3 a i l) : EReal)
      = (v (ix2 ⟨a.val * 512 + l.val, by omega⟩ i) : EReal) := by
  pointwise []

end Reference

theorem algebraic : Cert.algebraic_Kernel14Ideal_Reference14Ideal (hKernel14Ideal := Cert.Kernel14Ideal.Gen.facts) (hReference14Ideal := Cert.Reference14Ideal.Gen.facts) := by
  intro m ρ m' ρ' _ hag
  refine ⟨fun c => outerA (yK m c) (gK m c), (θ_run Cert.Kernel14Ideal.defs _ _).mono (fun r h c => ⟨(h c).1.trans (arr m c), (h c).2⟩) (Cert.Kernel14Ideal.Value.run_blocks (F := Ideal) m ρ),
    (θ_run Cert.Reference14Ideal.defs _ _).mono (fun r h c => ?_) (Cert.Reference14Ideal.Value.run (F := Ideal) m' ρ')⟩
  obtain ⟨h0, h1⟩ := hag c
  refine ⟨(h c).1.trans ?_, (h c).2⟩
  rw [h0, h1]
  funext i
  idx_vars i
  exact (ref _ _ _ _).trans (product _ _ _ _)

end Cert.Proof.SbDw

end
-- ==== Proof.GdnDw.lean ====
/- The gradient of the delta-rule branch's matrix: what the call leaves, and the reference. -/
module

public import proofs.«01_k».proof.Proof.Gen.Kernel15Ideal.Value
public import proofs.«01_k».proof.Proof.Gen.Reference15Ideal.Run
public import proofs.«01_k».proof.Proof.Gen.Kernel15Ideal
public import proofs.«01_k».proof.Proof.Tools

@[expose] public section

set_option maxRecDepth 16384

noncomputable section

namespace Cert.Proof.GdnDw

open Idealize.ShloMosaic Idealize.ShloMosaic.TcCoe Idealize.ShloMosaic.StableHlo Idealize.SL.Sem Idealize.ShloMosaic.Tactic

abbrev Branch : Type := Vec Ideal ⟨2, ![2048, 768]⟩ .f32
abbrev Grad : Type := Vec Ideal ⟨2, ![2048, 6144]⟩ .f32
abbrev Out : Type := Vec Ideal ⟨3, ![4, 768, 512]⟩ .bf16

/-- The gradient of the matrix at row `i` and column `j`: column `i` of the branch with column `j` of its third of the gradients. -/
def outer (y : Branch) (g : Grad) (i : Fin 768) (j : Fin 2048) : EReal := ∑ k : Fin 2048, (y (ix2 k i) : EReal) * (g (ix2 k ⟨4096 + j.val, by omega⟩) : EReal)
/-- The same, cut into four by columns. -/
def outerA (y : Branch) (g : Grad) : Out := fun i => outer y g (i 1) ⟨(i 0).val * 512 + (i 2).val, by have h0 : (i 0).val < 4 := (i 0).isLt; have h2 : (i 2).val < 512 := (i 2).isLt; omega⟩

section Kernel

open Cert.Kernel15Ideal Cert.Kernel15Ideal.Gen

variable (m : (ℓ : Loc nD τ sig) → Buf (Elt Ideal) ℓ) (c : Dev nD)

abbrev yK : Branch := m ((c.tc : Thread nD τ).loc main_arg0)
abbrev gK : Grad := m ((c.tc : Thread nD τ).loc main_arg1)

abbrev left : Vec Ideal S2048x768 .bf16 := V m c main_v0
abbrev grad : Vec Ideal S2048x6144 .bf16 := V m c main_v1

theorem left_eq (k : Fin 2048) (i : Fin 768) : left m c (ix2 k i) = yK m c (ix2 k i) := by
  unfold left
  after_reads_at
theorem grad_eq (i : Fin 2048) (k : Fin 6144) : grad m c (ix2 i k) = gK m c (ix2 i k) := by
  unfold grad
  after_reads_at

/-- Where the blocks lie. -/
theorem places : ∀ t : Fin cfg0.N, win0_0.index t = ![0, t.val / 4] ∧ win0_1.index t = ![0, 8 + t.val % 4]
    ∧ win0_2.index t = ![t.val % 4, t.val / 4, 0] :=
  (by decide +kernel : ∀ t : Fin grid0.N, _)

theorem lt (t : Fin cfg0.N) : t.val < 12 := t.isLt

theorem read_0 (t : Fin cfg0.N) (k : Fin 2048) (r : Fin 256) :
    (iblk m c 0 t : Vec Ideal S2048x256 .bf16) (ix2 k r) = left m c (ix2 k ⟨256 * (t.val / 4) + r.val, by have := lt t; omega⟩) := by
  blk_ext [iblk, (places t).1]
theorem read_1 (t : Fin cfg0.N) (k : Fin 2048) (l : Fin 512) :
    (iblk m c 1 t : Vec Ideal S2048x512 .bf16) (ix2 k l) = grad m c (ix2 k ⟨4096 + (512 * (t.val % 4) + l.val), by omega⟩) := by
  have hp := (places t).2.1
  blk_ext [iblk, hp]

theorem pay1 (x0 : Vec Ideal S2048x256 .bf16) (x1 : Vec Ideal S2048x512 .bf16) (r : Fin 256) (l : Fin 512) :
    (k0_pay1 x0 x1 (ix3 0 r l) : EReal) = ∑ k : Fin 2048, (x0 (ix2 k r) : EReal) * (x1 (ix2 k l) : EReal) := by
  pointwise [k0_pay1]

theorem part (t : Fin cfg0.N) (r : Fin 256) (l : Fin 512) :
    (k0_pay1 (iblk m c 0 t) (iblk m c 1 t) (ix3 0 r l) : EReal)
      = outer (yK m c) (gK m c) ⟨256 * (t.val / 4) + r.val, by have := lt t; omega⟩ ⟨512 * (t.val % 4) + l.val, by omega⟩ := by
  refine (pay1 _ _ r l).trans ?_
  exact Finset.sum_congr rfl fun k _ => congrArg₂ (fun a b : EReal => a * b) ((read_0 m c t k r).trans (left_eq m c _ _)) ((read_1 m c t k l).trans (grad_eq m c _ _))

/-- The matrix's gradient after the call. -/
theorem arr : (dats m 0 c).arrAt 2 cfg0.N = outerA (yK m c) (gK m c) := by
  refine (dats m 0 c).arrAt_eq_of_covers 2 _ (by decide +kernel) fun t _ y => ?_
  have hN := lt t
  blk_simp
  rw [after0_2]
  idx_vars y
  obtain rfl : y0 = 0 := Subsingleton.elim _ _
  unfold out0_2
  frame_out
  refine (part m c t y1 y2).trans ?_
  refine congrArg₂ (outer _ _) (Fin.ext ?_) (Fin.ext ?_)
  · blk_simp [(places t).2.2]; dsimp only; omega
  · blk_simp [(places t).2.2]; dsimp only; omega

end Kernel

section Reference

open Cert.Reference15Ideal Cert.Reference15Ideal.Gen

theorem product (y : Branch) (g : Grad) (i : Fin 768) (j : Fin 2048) :
    ((Host.dotGeneral (F := Ideal) (φ₁ := .f32) (φ₂ := .f32) dot_S2048x2048_S2048x768_S2048x768_0_0_1_1_n_n none (extractStridedSlice S2048x2048 ![0, 4096] g slices_S2048x6144_S2048x2048_0_4096 : Vec Ideal S2048x2048 .f32) y : Vec Ideal S2048x768 .f32) (ix2 j i) : EReal)
      = outer y g i j := by
  unfold outer
  pointwise []
  exact Finset.sum_congr rfl fun k _ => mul_comm (G := EReal) _ _

theorem ref (v : Vec Ideal S2048x768 .f32) (a : Fin 4) (i : Fin 768) (l : Fin 512) :
    ((truncf (F := Ideal) (φ := .f32) .bf16 (transpose S4x768x512 [1, 0, 2] (shapeCast S768x4x512 (transpose S768x2048 [1, 0] v transposes_S2048x768_S768x2048_1_0 : Vec Ideal S768x2048 .f32) shapeCasts_S768x2048_S768x4x512 : Vec Ideal S768x4x512 .f32) transposes_S768x4x512_S4x768x512_1_0_2 : Vec Ideal S4x768x512 .f32) bitsLt_bf16_f32 : Out) (ix3 a i l) : EReal)
      = (v (ix2 ⟨a.val * 512 + l.val, by omega⟩ i) : EReal) := by
  pointwise []

end Reference

theorem algebraic : Cert.algebraic_Kernel15Ideal_Reference15Ideal (hKernel15Ideal := Cert.Kernel15Ideal.Gen.facts) (hReference15Ideal := Cert.Reference15Ideal.Gen.facts) := by
  intro m ρ m' ρ' _ hag
  refine ⟨fun c => outerA (yK m c) (gK m c), (θ_run Cert.Kernel15Ideal.defs _ _).mono (fun r h c => ⟨(h c).1.trans (arr m c), (h c).2⟩) (Cert.Kernel15Ideal.Value.run_blocks (F := Ideal) m ρ),
    (θ_run Cert.Reference15Ideal.defs _ _).mono (fun r h c => ?_) (Cert.Reference15Ideal.Value.run (F := Ideal) m' ρ')⟩
  obtain ⟨h0, h1⟩ := hag c
  refine ⟨(h c).1.trans ?_, (h c).2⟩
  rw [h0, h1]
  funext i
  idx_vars i
  exact (ref _ _ _ _).trans (product _ _ _ _)

end Cert.Proof.GdnDw

end
-- ==== Proof.MergeFwd.lean ====
/- The gated merge of the three branches: what the call leaves, and the reference. -/
module

public import proofs.«01_k».proof.Proof.Gen.Kernel16Ideal.Value
public import proofs.«01_k».proof.Proof.Gen.Reference16Ideal.Run
public import proofs.«01_k».proof.Proof.Gen.Kernel16Ideal
public import proofs.«01_k».proof.Proof.Tools

@[expose] public section

set_option maxRecDepth 16384

noncomputable section

namespace Cert.Proof.MergeFwd

open Idealize.ShloMosaic Idealize.ShloMosaic.TcCoe Idealize.ShloMosaic.StableHlo Idealize.SL.Sem Idealize.ShloMosaic.Tactic

abbrev Branch (n : ℕ) : Type := Vec Ideal ⟨2, ![2048, n]⟩ .f32
abbrev Mat (n : ℕ) : Type := Vec Ideal ⟨2, ![n, 2048]⟩ .f32
abbrev Proj : Type := Vec Ideal ⟨2, ![2048, 12288]⟩ .f32
abbrev Out : Type := Vec Ideal ⟨2, ![2048, 2048]⟩ .bf16

/-- A branch's projection at row `i` and column `j`. -/
def up {n : ℕ} (y : Branch n) (w : Mat n) (i j : Fin 2048) : EReal := ∑ k : Fin n, (y (ix2 i k) : EReal) * (w (ix2 k j) : EReal)
/-- A gate: the logistic function of one of the last columns. -/
def gate (p : Proj) (i : Fin 2048) (j : Fin 6144) : EReal := Ideal.logistic (p (ix2 i ⟨6144 + j.val, by omega⟩))
/-- The merge of the three gated projections. -/
def merged (y0 : Branch 512) (y1 y2 : Branch 768) (w0 : Mat 512) (w1 w2 : Mat 768) (p : Proj) (i j : Fin 2048) : EReal :=
  gate p i ⟨j.val, by omega⟩ * up y0 w0 i j + gate p i ⟨2048 + j.val, by omega⟩ * up y1 w1 i j + gate p i ⟨4096 + j.val, by omega⟩ * up y2 w2 i j
def mergedA (y0 : Branch 512) (y1 y2 : Branch 768) (w0 : Mat 512) (w1 w2 : Mat 768) (p : Proj) : Out := fun i => merged y0 y1 y2 w0 w1 w2 p (i 0) (i 1)

section Kernel

open Cert.Kernel16Ideal Cert.Kernel16Ideal.Gen

variable (m : (ℓ : Loc nD τ sig) → Buf (Elt Ideal) ℓ) (c : Dev nD)

abbrev y0K : Branch 512 := m ((c.tc : Thread nD τ).loc main_arg0)
abbrev y1K : Branch 768 := m ((c.tc : Thread nD τ).loc main_arg1)
abbrev y2K : Branch 768 := m ((c.tc : Thread nD τ).loc main_arg2)
abbrev w0K : Mat 512 := m ((c.tc : Thread nD τ).loc main_arg3)
abbrev w1K : Mat 768 := m ((c.tc : Thread nD τ).loc main_arg4)
abbrev w2K : Mat 768 := m ((c.tc : Thread nD τ).loc main_arg5)
abbrev pK : Proj := m ((c.tc : Thread nD τ).loc main_arg6)

/-- What the call finds. -/
abbrev left0 : Vec Ideal S2048x512 .bf16 := V m c main_v0
abbrev left1 : Vec Ideal S2048x768 .bf16 := V m c main_v1
abbrev left2 : Vec Ideal S2048x768 .bf16 := V m c main_v2
abbrev cut0 : Vec Ideal S4x512x512 .bf16 := V m c main_v5
abbrev cut1 : Vec Ideal S4x768x512 .bf16 := V m c main_v8
abbrev cut2 : Vec Ideal S4x768x512 .bf16 := V m c main_v11
abbrev proj : Vec Ideal S2048x12288 .f32 := V m c main_arg6

theorem left0_eq (i : Fin 2048) (k : Fin 512) : left0 m c (ix2 i k) = y0K m c (ix2 i k) := by
  unfold left0
  after_reads_at
theorem left1_eq (i : Fin 2048) (k : Fin 768) : left1 m c (ix2 i k) = y1K m c (ix2 i k) := by
  unfold left1
  after_reads_at
theorem left2_eq (i : Fin 2048) (k : Fin 768) : left2 m c (ix2 i k) = y2K m c (ix2 i k) := by
  unfold left2
  after_reads_at
theorem cut0_eq (a : Fin 4) (k : Fin 512) (j : Fin 512) : cut0 m c (ix3 a k j) = w0K m c (ix2 k ⟨a.val * 512 + j.val, by omega⟩) := by
  unfold cut0
  after_reads_at
theorem cut1_eq (a : Fin 4) (k : Fin 768) (j : Fin 512) : cut1 m c (ix3 a k j) = w1K m c (ix2 k ⟨a.val * 512 + j.val, by omega⟩) := by
  unfold cut1
  after_reads_at
theorem cut2_eq (a : Fin 4) (k : Fin 768) (j : Fin 512) : cut2 m c (ix3 a k j) = w2K m c (ix2 k ⟨a.val * 512 + j.val, by omega⟩) := by
  unfold cut2
  after_reads_at
theorem proj_eq (i : Fin 2048) (j : Fin 12288) : proj m c (ix2 i j) = pK m c (ix2 i j) := by
  unfold proj
  after_reads_at

/-- Where the blocks lie. -/
theorem places : ∀ t : Fin cfg0.N, win0_0.index t = ![t.val / 4, 0] ∧ win0_1.index t = ![t.val / 4, 0] ∧ win0_2.index t = ![t.val / 4, 0]
    ∧ win0_3.index t = ![t.val % 4, 0, 0] ∧ win0_4.index t = ![t.val % 4, 0, 0] ∧ win0_5.index t = ![t.val % 4, 0, 0] :=
  (by decide +kernel : ∀ t : Fin grid0.N, _)
theorem gates_places : ∀ t : Fin cfg0.N, win0_6.index t = ![t.val / 4, 12 + t.val % 4] ∧ win0_7.index t = ![t.val / 4, 16 + t.val % 4]
    ∧ win0_8.index t = ![t.val / 4, 20 + t.val % 4] ∧ win0_9.index t = ![t.val / 4, t.val % 4] :=
  (by decide +kernel : ∀ t : Fin grid0.N, _)

theorem lt (t : Fin cfg0.N) : t.val < 16 := t.isLt

/-- The row and the column a place of a point's block stands for. -/
abbrev row (t : ℕ) (r : Fin 512) (h : t < 16) : Fin 2048 := ⟨512 * (t / 4) + r.val, by omega⟩
abbrev col (t : ℕ) (l : Fin 512) : Fin 2048 := ⟨512 * (t % 4) + l.val, by omega⟩

theorem read_0 (t : Fin cfg0.N) (r k : Fin 512) :
    (iblk m c 0 t : Vec Ideal S512x512 .bf16) (ix2 r k) = left0 m c (ix2 (row t.val r (lt t)) k) := by
  blk_ext [iblk, (places t).1]
theorem read_1 (t : Fin cfg0.N) (r : Fin 512) (k : Fin 768) :
    (iblk m c 1 t : Vec Ideal S512x768 .bf16) (ix2 r k) = left1 m c (ix2 (row t.val r (lt t)) k) := by
  blk_ext [iblk, (places t).2.1]
theorem read_2 (t : Fin cfg0.N) (r : Fin 512) (k : Fin 768) :
    (iblk m c 2 t : Vec Ideal S512x768 .bf16) (ix2 r k) = left2 m c (ix2 (row t.val r (lt t)) k) := by
  blk_ext [iblk, (places t).2.2.1]
theorem read_3 (t : Fin cfg0.N) (k l : Fin 512) :
    (iblk m c 3 t : Vec Ideal S1x512x512 .bf16) (ix3 0 k l) = cut0 m c (ix3 ⟨t.val % 4, by omega⟩ k l) := by
  blk_ext [iblk, (places t).2.2.2.1]
theorem read_4 (t : Fin cfg0.N) (k : Fin 768) (l : Fin 512) :
    (iblk m c 4 t : Vec Ideal S1x768x512 .bf16) (ix3 0 k l) = cut1 m c (ix3 ⟨t.val % 4, by omega⟩ k l) := by
  blk_ext [iblk, (places t).2.2.2.2.1]
theorem read_5 (t : Fin cfg0.N) (k : Fin 768) (l : Fin 512) :
    (iblk m c 5 t : Vec Ideal S1x768x512 .bf16) (ix3 0 k l) = cut2 m c (ix3 ⟨t.val % 4, by omega⟩ k l) := by
  blk_ext [iblk, (places t).2.2.2.2.2]
theorem read_6 (t : Fin cfg0.N) (r l : Fin 512) :
    (iblk m c 6 t : Vec Ideal S512x512 .f32) (ix2 r l) = proj m c (ix2 (row t.val r (lt t)) ⟨6144 + (512 * (t.val % 4) + l.val), by omega⟩) := by
  have hp := (gates_places t).1
  blk_ext [iblk, hp]
theorem read_7 (t : Fin cfg0.N) (r l : Fin 512) :
    (iblk m c 7 t : Vec Ideal S512x512 .f32) (ix2 r l) = proj m c (ix2 (row t.val r (lt t)) ⟨6144 + (2048 + (512 * (t.val % 4) + l.val)), by omega⟩) := by
  have hp := (gates_places t).2.1
  blk_ext [iblk, hp]
theorem read_8 (t : Fin cfg0.N) (r l : Fin 512) :
    (iblk m c 8 t : Vec Ideal S512x512 .f32) (ix2 r l) = proj m c (ix2 (row t.val r (lt t)) ⟨6144 + (4096 + (512 * (t.val % 4) + l.val)), by omega⟩) := by
  have hp := (gates_places t).2.2.1
  blk_ext [iblk, hp]

theorem pay1 (g0 : Vec Ideal S512x512 .f32) (y0 : Vec Ideal S512x512 .bf16) (w0 : Vec Ideal S1x512x512 .bf16) (g1 : Vec Ideal S512x512 .f32) (y1 : Vec Ideal S512x768 .bf16) (w1 : Vec Ideal S1x768x512 .bf16)
    (g2 : Vec Ideal S512x512 .f32) (y2 : Vec Ideal S512x768 .bf16) (w2 : Vec Ideal S1x768x512 .bf16) (r l : Fin 512) :
    (k0_pay1 g0 y0 w0 g1 y1 w1 g2 y2 w2 (ix2 r l) : EReal)
      = Ideal.logistic (g0 (ix2 r l)) * (∑ k : Fin 512, (y0 (ix2 r k) : EReal) * (w0 (ix3 0 k l) : EReal))
        + Ideal.logistic (g1 (ix2 r l)) * (∑ k : Fin 768, (y1 (ix2 r k) : EReal) * (w1 (ix3 0 k l) : EReal))
        + Ideal.logistic (g2 (ix2 r l)) * (∑ k : Fin 768, (y2 (ix2 r k) : EReal) * (w2 (ix3 0 k l) : EReal)) := by
  pointwise [k0_pay1]

/-- The blocks a point multiplies. -/
abbrev b0 (t : Fin cfg0.N) : Vec Ideal S512x512 .bf16 := iblk m c 0 t
abbrev b1 (t : Fin cfg0.N) : Vec Ideal S512x768 .bf16 := iblk m c 1 t
abbrev b2 (t : Fin cfg0.N) : Vec Ideal S512x768 .bf16 := iblk m c 2 t
abbrev b3 (t : Fin cfg0.N) : Vec Ideal S1x512x512 .bf16 := iblk m c 3 t
abbrev b4 (t : Fin cfg0.N) : Vec Ideal S1x768x512 .bf16 := iblk m c 4 t
abbrev b5 (t : Fin cfg0.N) : Vec Ideal S1x768x512 .bf16 := iblk m c 5 t

/-- The block's products are the branches' projections. -/
theorem up0 (t : Fin cfg0.N) (r l : Fin 512) :
    (∑ k : Fin 512, (b0 m c t (ix2 r k) : EReal) * (b3 m c t (ix3 0 k l) : EReal)) = up (y0K m c) (w0K m c) (row t.val r (lt t)) (col t.val l) := by
  refine Finset.sum_congr rfl fun k _ => congrArg₂ (fun a b : EReal => a * b) ((read_0 m c t r k).trans (left0_eq m c _ _)) ((read_3 m c t k l).trans ((cut0_eq m c _ k l).trans ?_))
  exact congrArg (fun n : Fin 2048 => w0K m c (ix2 k n)) (Fin.ext (by dsimp only; omega))
theorem up1 (t : Fin cfg0.N) (r l : Fin 512) :
    (∑ k : Fin 768, (b1 m c t (ix2 r k) : EReal) * (b4 m c t (ix3 0 k l) : EReal)) = up (y1K m c) (w1K m c) (row t.val r (lt t)) (col t.val l) := by
  refine Finset.sum_congr rfl fun k _ => congrArg₂ (fun a b : EReal => a * b) ((read_1 m c t r k).trans (left1_eq m c _ _)) ((read_4 m c t k l).trans ((cut1_eq m c _ k l).trans ?_))
  exact congrArg (fun n : Fin 2048 => w1K m c (ix2 k n)) (Fin.ext (by dsimp only; omega))
theorem up2 (t : Fin cfg0.N) (r l : Fin 512) :
    (∑ k : Fin 768, (b2 m c t (ix2 r k) : EReal) * (b5 m c t (ix3 0 k l) : EReal)) = up (y2K m c) (w2K m c) (row t.val r (lt t)) (col t.val l) := by
  refine Finset.sum_congr rfl fun k _ => congrArg₂ (fun a b : EReal => a * b) ((read_2 m c t r k).trans (left2_eq m c _ _)) ((read_5 m c t k l).trans ((cut2_eq m c _ k l).trans ?_))
  exact congrArg (fun n : Fin 2048 => w2K m c (ix2 k n)) (Fin.ext (by dsimp only; omega))

/-- What a point computes. -/
theorem part (t : Fin cfg0.N) (r l : Fin 512) :
    (k0_pay1 (iblk m c 6 t) (iblk m c 0 t) (iblk m c 3 t) (iblk m c 7 t) (iblk m c 1 t) (iblk m c 4 t) (iblk m c 8 t) (iblk m c 2 t) (iblk m c 5 t) (ix2 r l) : EReal)
      = merged (y0K m c) (y1K m c) (y2K m c) (w0K m c) (w1K m c) (w2K m c) (pK m c) (row t.val r (lt t)) (col t.val l) := by
  refine (pay1 _ _ _ _ _ _ _ _ _ r l).trans ?_
  unfold merged gate
  exact congrArg₂ (fun a b : EReal => a + b) (congrArg₂ (fun a b : EReal => a + b)
    (congrArg₂ (fun a b : EReal => a * b) (congrArg Ideal.logistic ((read_6 m c t r l).trans (proj_eq m c _ _))) (up0 m c t r l))
    (congrArg₂ (fun a b : EReal => a * b) (congrArg Ideal.logistic ((read_7 m c t r l).trans (proj_eq m c _ _))) (up1 m c t r l)))
    (congrArg₂ (fun a b : EReal => a * b) (congrArg Ideal.logistic ((read_8 m c t r l).trans (proj_eq m c _ _))) (up2 m c t r l))

/-- The merge after the call. -/
theorem arr : (dats m 0 c).arrAt 9 cfg0.N = mergedA (y0K m c) (y1K m c) (y2K m c) (w0K m c) (w1K m c) (w2K m c) (pK m c) := by
  refine (dats m 0 c).arrAt_eq_of_covers 9 _ (by decide +kernel) fun t _ y => ?_
  have hN := lt t
  blk_simp
  rw [after0_9]
  idx_vars y
  unfold out0_9
  frame_out
  refine (part m c t y0 y1).trans ?_
  refine congrArg₂ (merged _ _ _ _ _ _ _) (Fin.ext ?_) (Fin.ext ?_)
  · blk_simp [(gates_places t).2.2.2]; dsimp only; omega
  · blk_simp [(gates_places t).2.2.2]; dsimp only; omega

end Kernel

section Reference

open Cert.Reference16Ideal Cert.Reference16Ideal.Gen

abbrev Gates : Type := Vec Ideal ⟨2, ![2048, 6144]⟩ .f32

theorem gates (p : Proj) (i : Fin 2048) (j : Fin 6144) :
    ((Host.divf (F := Ideal) (φ := .f32) (broadcastInDim S2048x6144 ![] bcast_S_S2048x6144 (constant (F := Ideal) S_ .f32 0x3F800000#32) : Gates)
      (addf (F := Ideal) (φ := .f32) (broadcastInDim S2048x6144 ![] bcast_S_S2048x6144 (constant (F := Ideal) S_ .f32 0x3F800000#32) : Gates)
        (Host.exp (F := Ideal) (φ := .f32) (Host.negf (F := Ideal) (φ := .f32) (extractStridedSlice S2048x6144 ![0, 6144] p slices_S2048x12288_S2048x6144_0_6144 : Gates)))) : Gates) (ix2 i j) : EReal) = gate p i j := by
  unfold gate Ideal.logistic
  pointwise []

theorem product0 (y : Branch 512) (w : Mat 512) (i j : Fin 2048) :
    ((Host.dotGeneral (F := Ideal) (φ₁ := .f32) (φ₂ := .f32) dot_S2048x512_S512x2048_S2048x2048_1_0_0_1_n_n none y w : Vec Ideal S2048x2048 .f32) (ix2 i j) : EReal) = up y w i j := by
  unfold up
  pointwise []
theorem product1 (y : Branch 768) (w : Mat 768) (i j : Fin 2048) :
    ((Host.dotGeneral (F := Ideal) (φ₁ := .f32) (φ₂ := .f32) dot_S2048x768_S768x2048_S2048x2048_1_0_0_1_n_n none y w : Vec Ideal S2048x2048 .f32) (ix2 i j) : EReal) = up y w i j := by
  unfold up
  pointwise []

theorem sum (g : Gates) (u0 u1 u2 : Vec Ideal S2048x2048 .f32) (i j : Fin 2048) :
    ((truncf (F := Ideal) (φ := .f32) .bf16 (addf (F := Ideal) (φ := .f32) (addf (F := Ideal) (φ := .f32) (mulf (F := Ideal) (φ := .f32) (extractStridedSlice S2048x2048 ![0, 0] g slices_S2048x6144_S2048x2048_0_0 : Vec Ideal S2048x2048 .f32) u0)
        (mulf (F := Ideal) (φ := .f32) (extractStridedSlice S2048x2048 ![0, 2048] g slices_S2048x6144_S2048x2048_0_2048 : Vec Ideal S2048x2048 .f32) u1))
        (mulf (F := Ideal) (φ := .f32) (extractStridedSlice S2048x2048 ![0, 4096] g slices_S2048x6144_S2048x2048_0_4096 : Vec Ideal S2048x2048 .f32) u2)) bitsLt_bf16_f32 : Out) (ix2 i j) : EReal)
      = (g (ix2 i ⟨j.val, by omega⟩) : EReal) * (u0 (ix2 i j) : EReal) + (g (ix2 i ⟨2048 + j.val, by omega⟩) : EReal) * (u1 (ix2 i j) : EReal) + (g (ix2 i ⟨4096 + j.val, by omega⟩) : EReal) * (u2 (ix2 i j) : EReal) := by
  pointwise []

end Reference

theorem algebraic : Cert.algebraic_Kernel16Ideal_Reference16Ideal (hKernel16Ideal := Cert.Kernel16Ideal.Gen.facts) (hReference16Ideal := Cert.Reference16Ideal.Gen.facts) := by
  intro m ρ m' ρ' _ hag
  refine ⟨fun c => mergedA (y0K m c) (y1K m c) (y2K m c) (w0K m c) (w1K m c) (w2K m c) (pK m c), (θ_run Cert.Kernel16Ideal.defs _ _).mono (fun r h c => ⟨(h c).1.trans (arr m c), (h c).2⟩) (Cert.Kernel16Ideal.Value.run_blocks (F := Ideal) m ρ),
    (θ_run Cert.Reference16Ideal.defs _ _).mono (fun r h c => ?_) (Cert.Reference16Ideal.Value.run (F := Ideal) m' ρ')⟩
  obtain ⟨h0, h1, h2, h3, h4, h5, h6⟩ := hag c
  refine ⟨(h c).1.trans ?_, (h c).2⟩
  rw [h0, h1, h2, h3, h4, h5, h6]
  funext i
  idx_vars i
  refine (sum _ _ _ _ _ _).trans ?_
  exact congrArg₂ (fun a b : EReal => a + b) (congrArg₂ (fun a b : EReal => a + b)
    (congrArg₂ (fun a b : EReal => a * b) (gates _ _ _) (product0 _ _ _ _))
    (congrArg₂ (fun a b : EReal => a * b) (gates _ _ _) (product1 _ _ _ _)))
    (congrArg₂ (fun a b : EReal => a * b) (gates _ _ _) (product1 _ _ _ _))

end Cert.Proof.MergeFwd

end
-- ==== Proof.MergeBwd.lean ====
/- The gated merge's gradients: what the call leaves, and the reference. -/
module

public import proofs.«01_k».proof.Proof.MergeFwd
public import proofs.«01_k».proof.Proof.Gen.Kernel17Ideal.Frame
public import proofs.«01_k».proof.Proof.Gen.Reference17Ideal.Run
public import proofs.«01_k».proof.Proof.Tools

@[expose] public section

set_option maxRecDepth 16384

noncomputable section

namespace Cert.Proof.MergeBwd

open Idealize.ShloMosaic Idealize.ShloMosaic.TcCoe Idealize.ShloMosaic.StableHlo Idealize.SL.Sem Idealize.ShloMosaic.Tactic
open Cert.Proof.MergeFwd (Branch Mat Proj Gates up gate)

abbrev Grad : Type := Vec Ideal ⟨2, ![2048, 2048]⟩ .f32
abbrev Out : Type := Vec Ideal ⟨2, ![2048, 6144]⟩ .bf16

/-- The column of its branch that one of the gates' columns stands for. -/
abbrev inner (j : Fin 6144) : Fin 2048 := ⟨j.val % 2048, by omega⟩
/-- The projection of the branch a column of the gates belongs to. -/
def ups (y0 : Branch 512) (y1 y2 : Branch 768) (w0 : Mat 512) (w1 w2 : Mat 768) (i : Fin 2048) (j : Fin 6144) : EReal :=
  if j.val < 2048 then up y0 w0 i (inner j) else if j.val < 4096 then up y1 w1 i (inner j) else up y2 w2 i (inner j)
/-- The gradient of a gate before its logistic function. -/
def gateGrad (y0 : Branch 512) (y1 y2 : Branch 768) (w0 : Mat 512) (w1 w2 : Mat 768) (p : Proj) (d : Grad) (i : Fin 2048) (j : Fin 6144) : EReal :=
  (d (ix2 i (inner j)) : EReal) * ups y0 y1 y2 w0 w1 w2 i j * (gate p i j * (1 - gate p i j))
def gateGradA (y0 : Branch 512) (y1 y2 : Branch 768) (w0 : Mat 512) (w1 w2 : Mat 768) (p : Proj) (d : Grad) : Out := fun i => gateGrad y0 y1 y2 w0 w1 w2 p d (i 0) (i 1)
/-- The gradient of a branch's projection. -/
def upGrad (p : Proj) (d : Grad) (i : Fin 2048) (j : Fin 6144) : EReal := gate p i j * (d (ix2 i (inner j)) : EReal)
def upGradA (p : Proj) (d : Grad) : Out := fun i => upGrad p d (i 0) (i 1)

section Kernel

open Cert.Kernel17Ideal Cert.Kernel17Ideal.Gen

variable (m : (ℓ : Loc nD τ sig) → Buf (Elt Ideal) ℓ) (ρ : Dev nD → PrngReg) (c : Dev nD)

abbrev y0K : Branch 512 := m ((c.tc : Thread nD τ).loc main_arg0)
abbrev y1K : Branch 768 := m ((c.tc : Thread nD τ).loc main_arg1)
abbrev y2K : Branch 768 := m ((c.tc : Thread nD τ).loc main_arg2)
abbrev w0K : Mat 512 := m ((c.tc : Thread nD τ).loc main_arg3)
abbrev w1K : Mat 768 := m ((c.tc : Thread nD τ).loc main_arg4)
abbrev w2K : Mat 768 := m ((c.tc : Thread nD τ).loc main_arg5)
abbrev pK : Proj := m ((c.tc : Thread nD τ).loc main_arg6)
abbrev dK : Grad := m ((c.tc : Thread nD τ).loc main_arg7)

/-- What the call finds. -/
abbrev left0 : Vec Ideal S2048x512 .bf16 := V m c main_v0
abbrev left1 : Vec Ideal S2048x768 .bf16 := V m c main_v1
abbrev left2 : Vec Ideal S2048x768 .bf16 := V m c main_v2
abbrev cut0 : Vec Ideal S4x512x512 .bf16 := V m c main_v5
abbrev cut1 : Vec Ideal S4x768x512 .bf16 := V m c main_v8
abbrev cut2 : Vec Ideal S4x768x512 .bf16 := V m c main_v11
abbrev proj : Vec Ideal S2048x12288 .f32 := V m c main_arg6
abbrev grad : Vec Ideal S2048x2048 .bf16 := V m c main_v12

theorem left0_eq (i : Fin 2048) (k : Fin 512) : left0 m c (ix2 i k) = y0K m c (ix2 i k) := by
  unfold left0
  after_reads_at
theorem left1_eq (i : Fin 2048) (k : Fin 768) : left1 m c (ix2 i k) = y1K m c (ix2 i k) := by
  unfold left1
  after_reads_at
theorem left2_eq (i : Fin 2048) (k : Fin 768) : left2 m c (ix2 i k) = y2K m c (ix2 i k) := by
  unfold left2
  after_reads_at
theorem cut0_eq (a : Fin 4) (k : Fin 512) (j : Fin 512) : cut0 m c (ix3 a k j) = w0K m c (ix2 k ⟨a.val * 512 + j.val, by omega⟩) := by
  unfold cut0
  after_reads_at
theorem cut1_eq (a : Fin 4) (k : Fin 768) (j : Fin 512) : cut1 m c (ix3 a k j) = w1K m c (ix2 k ⟨a.val * 512 + j.val, by omega⟩) := by
  unfold cut1
  after_reads_at
theorem cut2_eq (a : Fin 4) (k : Fin 768) (j : Fin 512) : cut2 m c (ix3 a k j) = w2K m c (ix2 k ⟨a.val * 512 + j.val, by omega⟩) := by
  unfold cut2
  after_reads_at
theorem proj_eq (i : Fin 2048) (j : Fin 12288) : proj m c (ix2 i j) = pK m c (ix2 i j) := by
  unfold proj
  after_reads_at
theorem grad_eq (i : Fin 2048) (j : Fin 2048) : grad m c (ix2 i j) = dK m c (ix2 i j) := by
  unfold grad
  after_reads_at

/-- Where the blocks lie. -/
theorem places : ∀ t : Fin cfg0.N, win0_0.index t = ![t.val / 12, 0] ∧ win0_1.index t = ![t.val / 12, 0] ∧ win0_2.index t = ![t.val / 12, 0] :=
  (by decide +kernel : ∀ t : Fin grid0.N, _)
theorem cuts_places : ∀ t : Fin cfg0.N, (t.val / 4 % 3 = 0 → win0_3.index t = ![t.val % 4, 0, 0]) ∧ (t.val / 4 % 3 = 1 → win0_4.index t = ![t.val % 4, 0, 0])
    ∧ (t.val / 4 % 3 = 2 → win0_5.index t = ![t.val % 4, 0, 0]) :=
  (by decide +kernel : ∀ t : Fin grid0.N, _)
theorem gates_places : ∀ t : Fin cfg0.N, win0_6.index t = ![t.val / 12, 12 + t.val % 12] ∧ win0_7.index t = ![t.val / 12, t.val % 4]
    ∧ win0_8.index t = ![t.val / 12, 12 + t.val % 12] ∧ win0_9.index t = ![t.val / 12, t.val % 12] :=
  (by decide +kernel : ∀ t : Fin grid0.N, _)

theorem lt (t : Fin cfg0.N) : t.val < 24 := t.isLt

/-- The row and the column a place of a point's block stands for. -/
abbrev row (t : ℕ) (r : Fin 1024) (h : t < 24) : Fin 2048 := ⟨1024 * (t / 12) + r.val, by omega⟩
abbrev col (t : ℕ) (l : Fin 512) : Fin 6144 := ⟨512 * (t % 12) + l.val, by omega⟩

/-- The blocks a point reads. -/
abbrev b0 (t : Fin cfg0.N) : Vec Ideal S1024x512 .bf16 := iblk m c 0 t
abbrev b1 (t : Fin cfg0.N) : Vec Ideal S1024x768 .bf16 := iblk m c 1 t
abbrev b2 (t : Fin cfg0.N) : Vec Ideal S1024x768 .bf16 := iblk m c 2 t
abbrev b3 (t : Fin cfg0.N) : Vec Ideal S1x512x512 .bf16 := iblk m c 3 t
abbrev b4 (t : Fin cfg0.N) : Vec Ideal S1x768x512 .bf16 := iblk m c 4 t
abbrev b5 (t : Fin cfg0.N) : Vec Ideal S1x768x512 .bf16 := iblk m c 5 t
abbrev b6 (t : Fin cfg0.N) : Vec Ideal S1024x512 .f32 := iblk m c 6 t
abbrev b7 (t : Fin cfg0.N) : Vec Ideal S1024x512 .bf16 := iblk m c 7 t

theorem read_0 (t : Fin cfg0.N) (r : Fin 1024) (k : Fin 512) : b0 m c t (ix2 r k) = left0 m c (ix2 (row t.val r (lt t)) k) := by
  blk_ext [b0, iblk, (places t).1]
theorem read_1 (t : Fin cfg0.N) (r : Fin 1024) (k : Fin 768) : b1 m c t (ix2 r k) = left1 m c (ix2 (row t.val r (lt t)) k) := by
  blk_ext [b1, iblk, (places t).2.1]
theorem read_2 (t : Fin cfg0.N) (r : Fin 1024) (k : Fin 768) : b2 m c t (ix2 r k) = left2 m c (ix2 (row t.val r (lt t)) k) := by
  blk_ext [b2, iblk, (places t).2.2]
theorem read_3 (t : Fin cfg0.N) (h : t.val / 4 % 3 = 0) (k l : Fin 512) : b3 m c t (ix3 0 k l) = cut0 m c (ix3 ⟨t.val % 4, by omega⟩ k l) := by
  have hp := (cuts_places t).1 h
  blk_ext [b3, iblk, hp]
theorem read_4 (t : Fin cfg0.N) (h : t.val / 4 % 3 = 1) (k : Fin 768) (l : Fin 512) : b4 m c t (ix3 0 k l) = cut1 m c (ix3 ⟨t.val % 4, by omega⟩ k l) := by
  have hp := (cuts_places t).2.1 h
  blk_ext [b4, iblk, hp]
theorem read_5 (t : Fin cfg0.N) (h : t.val / 4 % 3 = 2) (k : Fin 768) (l : Fin 512) : b5 m c t (ix3 0 k l) = cut2 m c (ix3 ⟨t.val % 4, by omega⟩ k l) := by
  have hp := (cuts_places t).2.2 h
  blk_ext [b5, iblk, hp]
theorem read_6 (t : Fin cfg0.N) (r : Fin 1024) (l : Fin 512) : b6 m c t (ix2 r l) = proj m c (ix2 (row t.val r (lt t)) ⟨6144 + (512 * (t.val % 12) + l.val), by omega⟩) := by
  have hp := (gates_places t).1
  blk_ext [b6, iblk, hp]
theorem read_7 (t : Fin cfg0.N) (r : Fin 1024) (l : Fin 512) : b7 m c t (ix2 r l) = grad m c (ix2 (row t.val r (lt t)) ⟨512 * (t.val % 4) + l.val, by omega⟩) := by
  have hp := (gates_places t).2.1
  blk_ext [b7, iblk, hp]

theorem gate_at (t : Fin cfg0.N) (r : Fin 1024) (l : Fin 512) : Ideal.logistic (b6 m c t (ix2 r l)) = gate (pK m c) (row t.val r (lt t)) (col t.val l) :=
  congrArg Ideal.logistic ((read_6 m c t r l).trans (proj_eq m c _ _))
theorem grad_at (t : Fin cfg0.N) (r : Fin 1024) (l : Fin 512) : (b7 m c t (ix2 r l) : EReal) = dK m c (ix2 (row t.val r (lt t)) (inner (col t.val l))) := by
  refine (read_7 m c t r l).trans ((grad_eq m c _ _).trans ?_)
  exact congrArg (fun n : Fin 2048 => dK m c (ix2 (row t.val r (lt t)) n)) (Fin.ext (by dsimp only; omega))

/-- The block's product is the branch's projection. -/
theorem up0 (t : Fin cfg0.N) (h : t.val / 4 % 3 = 0) (r : Fin 1024) (l : Fin 512) :
    (∑ k : Fin 512, (b0 m c t (ix2 r k) : EReal) * (b3 m c t (ix3 0 k l) : EReal)) = ups (y0K m c) (y1K m c) (y2K m c) (w0K m c) (w1K m c) (w2K m c) (row t.val r (lt t)) (col t.val l) := by
  refine Eq.trans ?_ (if_pos (by dsimp only; omega)).symm
  refine Finset.sum_congr rfl fun k _ => congrArg₂ (fun a b : EReal => a * b) ((read_0 m c t r k).trans (left0_eq m c _ _)) ((read_3 m c t h k l).trans ((cut0_eq m c _ k l).trans ?_))
  exact congrArg (fun n : Fin 2048 => w0K m c (ix2 k n)) (Fin.ext (by dsimp only; omega))
theorem up1 (t : Fin cfg0.N) (h : t.val / 4 % 3 = 1) (r : Fin 1024) (l : Fin 512) :
    (∑ k : Fin 768, (b1 m c t (ix2 r k) : EReal) * (b4 m c t (ix3 0 k l) : EReal)) = ups (y0K m c) (y1K m c) (y2K m c) (w0K m c) (w1K m c) (w2K m c) (row t.val r (lt t)) (col t.val l) := by
  refine Eq.trans ?_ ((if_neg (by dsimp only; omega)).trans (if_pos (by dsimp only; omega))).symm
  refine Finset.sum_congr rfl fun k _ => congrArg₂ (fun a b : EReal => a * b) ((read_1 m c t r k).trans (left1_eq m c _ _)) ((read_4 m c t h k l).trans ((cut1_eq m c _ k l).trans ?_))
  exact congrArg (fun n : Fin 2048 => w1K m c (ix2 k n)) (Fin.ext (by dsimp only; omega))
theorem up2 (t : Fin cfg0.N) (h : t.val / 4 % 3 = 2) (r : Fin 1024) (l : Fin 512) :
    (∑ k : Fin 768, (b2 m c t (ix2 r k) : EReal) * (b5 m c t (ix3 0 k l) : EReal)) = ups (y0K m c) (y1K m c) (y2K m c) (w0K m c) (w1K m c) (w2K m c) (row t.val r (lt t)) (col t.val l) := by
  refine Eq.trans ?_ ((if_neg (by dsimp only; omega)).trans (if_neg (by dsimp only; omega))).symm
  refine Finset.sum_congr rfl fun k _ => congrArg₂ (fun a b : EReal => a * b) ((read_2 m c t r k).trans (left2_eq m c _ _)) ((read_5 m c t h k l).trans ((cut2_eq m c _ k l).trans ?_))
  exact congrArg (fun n : Fin 2048 => w2K m c (ix2 k n)) (Fin.ext (by dsimp only; omega))

theorem pay3 (d : Vec Ideal S1024x512 .bf16) (g : Vec Ideal S1024x512 .f32) (r : Fin 1024) (l : Fin 512) :
    (k0_pay3 d g (ix2 r l) : EReal) = (d (ix2 r l) : EReal) * Ideal.logistic (g (ix2 r l)) := by
  pointwise [k0_pay3, k0_pay1, k0_pay2]
theorem pay4 (d : Vec Ideal S1024x512 .bf16) (g : Vec Ideal S1024x512 .f32) (y : Vec Ideal S1024x512 .bf16) (w : Vec Ideal S1x512x512 .bf16) (r : Fin 1024) (l : Fin 512) :
    (k0_pay4 d g y w (ix2 r l) : EReal) = (d (ix2 r l) : EReal) * (∑ k : Fin 512, (y (ix2 r k) : EReal) * (w (ix3 0 k l) : EReal)) * Ideal.logistic (g (ix2 r l)) * (1 - Ideal.logistic (g (ix2 r l))) := by
  pointwise [k0_pay4, k0_pay1, k0_pay2]
theorem pay5 (d : Vec Ideal S1024x512 .bf16) (g : Vec Ideal S1024x512 .f32) (y : Vec Ideal S1024x768 .bf16) (w : Vec Ideal S1x768x512 .bf16) (r : Fin 1024) (l : Fin 512) :
    (k0_pay5 d g y w (ix2 r l) : EReal) = (d (ix2 r l) : EReal) * (∑ k : Fin 768, (y (ix2 r k) : EReal) * (w (ix3 0 k l) : EReal)) * Ideal.logistic (g (ix2 r l)) * (1 - Ideal.logistic (g (ix2 r l))) := by
  pointwise [k0_pay5, k0_pay1, k0_pay2]
theorem pay6 (d : Vec Ideal S1024x512 .bf16) (g : Vec Ideal S1024x512 .f32) (y : Vec Ideal S1024x768 .bf16) (w : Vec Ideal S1x768x512 .bf16) (r : Fin 1024) (l : Fin 512) :
    (k0_pay6 d g y w (ix2 r l) : EReal) = (d (ix2 r l) : EReal) * (∑ k : Fin 768, (y (ix2 r k) : EReal) * (w (ix3 0 k l) : EReal)) * Ideal.logistic (g (ix2 r l)) * (1 - Ideal.logistic (g (ix2 r l))) := by
  pointwise [k0_pay6, k0_pay1, k0_pay2]

/-- What a point leaves for its branch's projection. -/
theorem up_part (t : Fin cfg0.N) (r : Fin 1024) (l : Fin 512) :
    (k0_pay3 (b7 m c t) (b6 m c t) (ix2 r l) : EReal) = upGrad (pK m c) (dK m c) (row t.val r (lt t)) (col t.val l) :=
  (pay3 _ _ r l).trans ((mul_comm (G := EReal) _ _).trans (congrArg₂ (fun a b : EReal => a * b) (gate_at m c t r l) (grad_at m c t r l)))

/-- The four factors of a gate's gradient, as the call and as the reference multiply them. -/
theorem factors (t : Fin cfg0.N) (r : Fin 1024) (l : Fin 512) (u : EReal) (hu : u = ups (y0K m c) (y1K m c) (y2K m c) (w0K m c) (w1K m c) (w2K m c) (row t.val r (lt t)) (col t.val l)) :
    (b7 m c t (ix2 r l) : EReal) * u * Ideal.logistic (b6 m c t (ix2 r l)) * (1 - Ideal.logistic (b6 m c t (ix2 r l)))
      = gateGrad (y0K m c) (y1K m c) (y2K m c) (w0K m c) (w1K m c) (w2K m c) (pK m c) (dK m c) (row t.val r (lt t)) (col t.val l) := by
  unfold gateGrad
  rw [hu, gate_at m c t r l, grad_at m c t r l]
  exact mul_assoc (G := EReal) _ _ _

/-- What a point leaves in the two arrays. -/
theorem left_at (t : Fin cfg0.N) (r : Fin 1024) (l : Fin 512) :
    ((outsAt0 m c t.val t.isLt).1 (ix2 r l) : EReal) = gateGrad (y0K m c) (y1K m c) (y2K m c) (w0K m c) (w1K m c) (w2K m c) (pK m c) (dK m c) (row t.val r (lt t)) (col t.val l)
    ∧ ((outsAt0 m c t.val t.isLt).2 (ix2 r l) : EReal) = upGrad (pK m c) (dK m c) (row t.val r (lt t)) (col t.val l) := by
  have hb : t.val / 4 % 3 = 0 ∨ t.val / 4 % 3 = 1 ∨ t.val / 4 % 3 = 2 := by omega
  rcases hb with h | h | h
  · rw [outsAt0_A m c t h (by omega) (by omega)]
    unfold out0_A_8 out0_A_9
    constructor
    · frame_out
      exact (pay4 _ _ _ _ r l).trans (factors m c t r l _ (up0 m c t h r l))
    · frame_out
      exact up_part m c t r l
  · rw [outsAt0_B m c t (by omega) h (by omega)]
    unfold out0_B_8 out0_B_9
    constructor
    · frame_out
      exact (pay5 _ _ _ _ r l).trans (factors m c t r l _ (up1 m c t h r l))
    · frame_out
      exact up_part m c t r l
  · rw [outsAt0_C m c t (by omega) (by omega) h]
    unfold out0_C_8 out0_C_9
    constructor
    · frame_out
      exact (pay6 _ _ _ _ r l).trans (factors m c t r l _ (up2 m c t h r l))
    · frame_out
      exact up_part m c t r l

/-- The projections' gradients after the call. -/
theorem arr_up : (dats m 0 c).arrAt 9 cfg0.N = upGradA (pK m c) (dK m c) := by
  refine (dats m 0 c).arrAt_eq_of_covers 9 _ (by decide +kernel) fun t _ y => ?_
  have hN := lt t
  blk_simp
  rw [after0_9]
  idx_vars y
  refine (left_at m c t y0 y1).2.trans ?_
  refine congrArg₂ (upGrad _ _) (Fin.ext ?_) (Fin.ext ?_)
  · blk_simp [(gates_places t).2.2.2]; dsimp only; omega
  · blk_simp [(gates_places t).2.2.2]; dsimp only; omega

/-- The gates' gradients where the call writes them: from the middle column on. -/
def wideGrad (y0 : Branch 512) (y1 y2 : Branch 768) (w0 : Mat 512) (w1 w2 : Mat 768) (p : Proj) (d : Grad) : Vec Ideal S2048x12288 .bf16 :=
  fun i => gateGrad y0 y1 y2 w0 w1 w2 p d (i 0) ⟨(i 1).val - 6144, by have : (i 1).val < 12288 := (i 1).isLt; omega⟩

theorem arr_gate (i : Fin 2048) (j : Fin 6144) : ((dats m 0 c).arrAt 8 cfg0.N : Vec Ideal S2048x12288 .bf16) (ix2 i ⟨6144 + j.val, by omega⟩)
    = gateGrad (y0K m c) (y1K m c) (y2K m c) (w0K m c) (w1K m c) (w2K m c) (pK m c) (dK m c) i j := by
  refine ((dats m 0 c).arrAt_apply_of_coversWhere 8 (wideGrad (y0K m c) (y1K m c) (y2K m c) (w0K m c) (w1K m c) (w2K m c) (pK m c) (dK m c))
    (P := fun i => 12 ≤ (i 1 : ℕ) / 512) (fun β => 12 ≤ β (1 : Fin _)) (by decide +kernel) (fun t _ y => ?_) (fun j => Iff.rfl) (ix2 i ⟨6144 + j.val, by omega⟩)).trans ?_
  · have hN := lt t
    blk_simp
    rw [after0_8]
    idx_vars y
    refine (left_at m c t y0 y1).1.trans ?_
    refine congrArg₂ (gateGrad _ _ _ _ _ _ _ _) (Fin.ext ?_) (Fin.ext ?_)
    · blk_simp [(gates_places t).2.2.1]; dsimp only; omega
    · blk_simp [(gates_places t).2.2.1]; dsimp only; omega
  · refine (if_pos (by show 12 ≤ (6144 + j.val) / 512; omega)).trans ?_
    exact congrArg (gateGrad _ _ _ _ _ _ _ _ i) (Fin.ext (by show 6144 + j.val - 6144 = j.val; omega))

/-- The columns kept of the wide array. -/
theorem kept (X : Valuation τ sig (Elt Ideal)) (i : Fin 2048) (j : Fin 6144) :
    (StableHlo.after (List.flatten [hostOps1]) X (Proc.devRef .tc main_v14) : Vec Ideal S2048x6144 .bf16) (ix2 i j)
      = (X (Proc.devRef .tc main_v13_0) : Vec Ideal S2048x12288 .bf16) (ix2 i ⟨6144 + j.val, by omega⟩) := by
  after_reads_at

theorem tail : (Pipeline.afterTail₀ cfgs (dats m) 0 (V0 m) [hostOps1] c main_v14 : Vec Ideal S2048x6144 .bf16) = gateGradA (y0K m c) (y1K m c) (y2K m c) (w0K m c) (w1K m c) (w2K m c) (pK m c) (dK m c) := by
  funext i
  idx_vars i
  refine (kept _ i0 i1).trans ?_
  refine (congrFun (Pipeline.withArrays_arr spec0 (by decide) c (V0 m c) (fun w => (dats m 0 c).arrAt w cfg0.N) 8) _).trans ?_
  exact arr_gate m c i0 i1

/-- The call's two results, and its arguments as they were. -/
theorem run : θ_run defs (onTc (τ := τ) (main (F := Ideal))) ⟨m, fun _ => 0, ρ⟩ (fun r => ∀ c : Dev nD,
    r.2.mem ((c.tc : Thread nD τ).loc main_v14) = gateGradA (y0K m c) (y1K m c) (y2K m c) (w0K m c) (w1K m c) (w2K m c) (pK m c) (dK m c)
    ∧ r.2.mem ((c.tc : Thread nD τ).loc main_v13_1) = upGradA (pK m c) (dK m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨((h c).2 main_v14 (Pipeline.mem_restRefs_of main_v14 (by decide) (by decide))).trans (tail m c), ((h c).1 9).trans (arr_up m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c))),
    ((h c).2 main_arg7 (Pipeline.mem_restRefs_of main_arg7 (by decide) (by decide))).trans (W_main_arg7 m (dats m) c)⟩) (run_main m ρ)

end Kernel

section Reference

open Cert.Reference17Ideal Cert.Reference17Ideal.Gen

theorem gates (p : Proj) (i : Fin 2048) (j : Fin 6144) :
    ((Host.divf (F := Ideal) (φ := .f32) (broadcastInDim S2048x6144 ![] bcast_S_S2048x6144 (constant (F := Ideal) S_ .f32 0x3F800000#32) : Gates)
      (addf (F := Ideal) (φ := .f32) (broadcastInDim S2048x6144 ![] bcast_S_S2048x6144 (constant (F := Ideal) S_ .f32 0x3F800000#32) : Gates)
        (Host.exp (F := Ideal) (φ := .f32) (Host.negf (F := Ideal) (φ := .f32) (extractStridedSlice S2048x6144 ![0, 6144] p slices_S2048x12288_S2048x6144_0_6144 : Gates)))) : Gates) (ix2 i j) : EReal) = gate p i j := by
  unfold gate Ideal.logistic
  pointwise []

/-- Three arrays side by side. -/
theorem beside (u0 u1 u2 : Grad) (i : Fin 2048) (j : Fin 6144) :
    ((concatenate S2048x6144 1 [⟨S2048x2048, (u0 : (⟨S2048x2048, .f32⟩ : BufTy).Contents (Elt Ideal))⟩, ⟨S2048x2048, (u1 : (⟨S2048x2048, .f32⟩ : BufTy).Contents (Elt Ideal))⟩, ⟨S2048x2048, (u2 : (⟨S2048x2048, .f32⟩ : BufTy).Contents (Elt Ideal))⟩]
      concatenates_S2048x2048_S2048x2048_S2048x2048_S2048x6144_d1 : Gates) (ix2 i j) : EReal)
      = if j.val < 2048 then (u0 (ix2 i (inner j)) : EReal) else if j.val < 4096 then (u1 (ix2 i (inner j)) : EReal) else (u2 (ix2 i (inner j)) : EReal) := by
  pointwise []
  have key : ∀ (u : Grad) (n : ℕ) (hn : n < 2048), n = j.val % 2048 → u (ix2 i ⟨n, hn⟩) = u (ix2 i (inner j)) := by
    intro u n hn e; subst e; rfl
  by_cases ha : j.val < 2048
  · rw [dif_pos ha, if_pos ha]
    exact key _ _ _ (by omega)
  · rw [dif_neg ha, if_neg ha]
    by_cases hb : j.val < 4096
    · rw [dif_pos (by omega), if_pos hb]
      exact key _ _ _ (by omega)
    · rw [dif_neg (by omega), if_neg hb]
      exact key _ _ _ (by omega)

theorem product0 (y : Branch 512) (w : Mat 512) (i j : Fin 2048) :
    ((Host.dotGeneral (F := Ideal) (φ₁ := .f32) (φ₂ := .f32) dot_S2048x512_S512x2048_S2048x2048_1_0_0_1_n_n none y w : Grad) (ix2 i j) : EReal) = up y w i j := by
  unfold up
  pointwise []
theorem product1 (y : Branch 768) (w : Mat 768) (i j : Fin 2048) :
    ((Host.dotGeneral (F := Ideal) (φ₁ := .f32) (φ₂ := .f32) dot_S2048x768_S768x2048_S2048x2048_1_0_0_1_n_n none y w : Grad) (ix2 i j) : EReal) = up y w i j := by
  unfold up
  pointwise []

theorem times (d u : Grad) (i j : Fin 2048) :
    ((mulf (F := Ideal) (φ := .f32) (shapeCast _ d shapeCasts_S2048x2048_S2048x2048 : Grad) u : Grad) (ix2 i j) : EReal) = (d (ix2 i j) : EReal) * (u (ix2 i j) : EReal) := by
  pointwise []

/-- A product with the slope of a gate. -/
theorem slope (u g : Gates) (i : Fin 2048) (j : Fin 6144) :
    ((truncf (F := Ideal) (φ := .f32) .bf16 (mulf (F := Ideal) (φ := .f32) u (mulf (F := Ideal) (φ := .f32) g
      (subf (F := Ideal) (φ := .f32) (broadcastInDim S2048x6144 ![] bcast_S_S2048x6144 (constant (F := Ideal) S_ .f32 0x3F800000#32) : Gates) g))) bitsLt_bf16_f32 : Out) (ix2 i j) : EReal)
      = (u (ix2 i j) : EReal) * ((g (ix2 i j) : EReal) * (1 - (g (ix2 i j) : EReal))) := by
  pointwise []

theorem times0 (g : Gates) (d : Grad) (i j : Fin 2048) :
    ((mulf (F := Ideal) (φ := .f32) (extractStridedSlice S2048x2048 ![0, 0] g slices_S2048x6144_S2048x2048_0_0 : Grad) (shapeCast _ d shapeCasts_S2048x2048_S2048x2048 : Grad) : Grad) (ix2 i j) : EReal)
      = (g (ix2 i ⟨j.val, by omega⟩) : EReal) * (d (ix2 i j) : EReal) := by
  pointwise []
theorem times1 (g : Gates) (d : Grad) (i j : Fin 2048) :
    ((mulf (F := Ideal) (φ := .f32) (extractStridedSlice S2048x2048 ![0, 2048] g slices_S2048x6144_S2048x2048_0_2048 : Grad) (shapeCast _ d shapeCasts_S2048x2048_S2048x2048 : Grad) : Grad) (ix2 i j) : EReal)
      = (g (ix2 i ⟨2048 + j.val, by omega⟩) : EReal) * (d (ix2 i j) : EReal) := by
  pointwise []
theorem times2 (g : Gates) (d : Grad) (i j : Fin 2048) :
    ((mulf (F := Ideal) (φ := .f32) (extractStridedSlice S2048x2048 ![0, 4096] g slices_S2048x6144_S2048x2048_0_4096 : Grad) (shapeCast _ d shapeCasts_S2048x2048_S2048x2048 : Grad) : Grad) (ix2 i j) : EReal)
      = (g (ix2 i ⟨4096 + j.val, by omega⟩) : EReal) * (d (ix2 i j) : EReal) := by
  pointwise []

/-- Shortening the type changes nothing. -/
theorem short (u : Gates) (i : Fin 2048) (j : Fin 6144) : ((truncf (F := Ideal) (φ := .f32) .bf16 u bitsLt_bf16_f32 : Out) (ix2 i j) : EReal) = (u (ix2 i j) : EReal) := by
  pointwise []

/-- The gates' gradients, of any arrays that hold the gates and the projections. -/
theorem gate_ref (y0 : Branch 512) (y1 y2 : Branch 768) (w0 : Mat 512) (w1 w2 : Mat 768) (p : Proj) (d u0 u1 u2 : Grad) (g : Gates) (hg : ∀ i j, (g (ix2 i j) : EReal) = gate p i j)
    (h0 : ∀ i j, (u0 (ix2 i j) : EReal) = up y0 w0 i j) (h1 : ∀ i j, (u1 (ix2 i j) : EReal) = up y1 w1 i j) (h2 : ∀ i j, (u2 (ix2 i j) : EReal) = up y2 w2 i j) :
    (truncf (F := Ideal) (φ := .f32) .bf16 (mulf (F := Ideal) (φ := .f32) (concatenate S2048x6144 1 [⟨S2048x2048, ((mulf (F := Ideal) (φ := .f32) (shapeCast _ d shapeCasts_S2048x2048_S2048x2048 : Grad) u0) : (⟨S2048x2048, .f32⟩ : BufTy).Contents (Elt Ideal))⟩, ⟨S2048x2048, ((mulf (F := Ideal) (φ := .f32) (shapeCast _ d shapeCasts_S2048x2048_S2048x2048 : Grad) u1) : (⟨S2048x2048, .f32⟩ : BufTy).Contents (Elt Ideal))⟩, ⟨S2048x2048, ((mulf (F := Ideal) (φ := .f32) (shapeCast _ d shapeCasts_S2048x2048_S2048x2048 : Grad) u2) : (⟨S2048x2048, .f32⟩ : BufTy).Contents (Elt Ideal))⟩] concatenates_S2048x2048_S2048x2048_S2048x2048_S2048x6144_d1 : Gates)
      (mulf (F := Ideal) (φ := .f32) g (subf (F := Ideal) (φ := .f32) (broadcastInDim S2048x6144 ![] bcast_S_S2048x6144 (constant (F := Ideal) S_ .f32 0x3F800000#32) : Gates) g))) bitsLt_bf16_f32 : Out)
      = gateGradA y0 y1 y2 w0 w1 w2 p d := by
  funext i
  idx_vars i
  refine (slope _ _ _ _).trans ?_
  refine congrArg₂ (fun a b : EReal => a * (b * (1 - b))) ((beside _ _ _ _ _).trans ?_) (hg _ _)
  rw [times, times, times, h0, h1, h2]
  show _ = (d (ix2 i0 (inner i1)) : EReal) * ups y0 y1 y2 w0 w1 w2 i0 i1
  unfold ups
  split_ifs <;> rfl

/-- The projections' gradients, of any array that holds the gates. -/
theorem up_ref (p : Proj) (d : Grad) (g : Gates) (hg : ∀ i j, (g (ix2 i j) : EReal) = gate p i j) :
    (truncf (F := Ideal) (φ := .f32) .bf16 (concatenate S2048x6144 1 [⟨S2048x2048, ((mulf (F := Ideal) (φ := .f32) (extractStridedSlice S2048x2048 ![0, 0] g slices_S2048x6144_S2048x2048_0_0 : Grad) (shapeCast _ d shapeCasts_S2048x2048_S2048x2048 : Grad)) : (⟨S2048x2048, .f32⟩ : BufTy).Contents (Elt Ideal))⟩, ⟨S2048x2048, ((mulf (F := Ideal) (φ := .f32) (extractStridedSlice S2048x2048 ![0, 2048] g slices_S2048x6144_S2048x2048_0_2048 : Grad) (shapeCast _ d shapeCasts_S2048x2048_S2048x2048 : Grad)) : (⟨S2048x2048, .f32⟩ : BufTy).Contents (Elt Ideal))⟩, ⟨S2048x2048, ((mulf (F := Ideal) (φ := .f32) (extractStridedSlice S2048x2048 ![0, 4096] g slices_S2048x6144_S2048x2048_0_4096 : Grad) (shapeCast _ d shapeCasts_S2048x2048_S2048x2048 : Grad)) : (⟨S2048x2048, .f32⟩ : BufTy).Contents (Elt Ideal))⟩] concatenates_S2048x2048_S2048x2048_S2048x2048_S2048x6144_d1 : Gates) bitsLt_bf16_f32 : Out)
      = upGradA p d := by
  funext i
  idx_vars i
  refine (short _ _ _).trans ((beside _ _ _ _ _).trans ?_)
  rw [times0, times1, times2, hg, hg, hg]
  have key : ∀ (n : ℕ) (hn : n < 6144), n = i1.val → gate p i0 ⟨n, hn⟩ * (d (ix2 i0 (inner i1)) : EReal) = upGrad p d i0 i1 := by
    intro n hn e; subst e; rfl
  have hi := i1.isLt
  split_ifs
  · exact key _ _ (by dsimp only; omega)
  · exact key _ _ (by dsimp only; omega)
  · exact key _ _ (by dsimp only; omega)

end Reference

theorem algebraic : Cert.algebraic_Kernel17Ideal_Reference17Ideal (hKernel17Ideal := Cert.Kernel17Ideal.Gen.facts) (hReference17Ideal := Cert.Reference17Ideal.Gen.facts) := by
  intro m ρ m' ρ' _ hag
  refine ⟨fun c => gateGradA (y0K m c) (y1K m c) (y2K m c) (w0K m c) (w1K m c) (w2K m c) (pK m c) (dK m c), fun c => upGradA (pK m c) (dK m c), run m ρ,
    (θ_run Cert.Reference17Ideal.defs _ _).mono (fun r h c => ?_) (Cert.Reference17Ideal.Value.run (F := Ideal) m' ρ')⟩
  obtain ⟨h0, h1, h2, h3, h4, h5, h6, h7⟩ := hag c
  refine ⟨(h c).1.trans ?_, (h c).2.1.trans ?_, (h c).2.2⟩
  · rw [h0, h1, h2, h3, h4, h5, h6, h7]
    exact gate_ref _ _ _ _ _ _ _ _ _ _ _ _ (gates _) (product0 _ _) (product1 _ _) (product1 _ _)
  · rw [h6, h7]
    exact up_ref _ _ _ (gates _)

end Cert.Proof.MergeBwd

end
-- ==== Proof.SbFwdBlock.lean ====
/- The stick-breaking attention: what its call leaves in one block of 128 queries, as a function of the blocks it reads.
   The chunk of 512 keys that holds the queries is taken first, then the chunks below it from the top. -/
module

public import proofs.«01_k».proof.Proof.Block
public import proofs.«01_k».proof.Proof.Run
public import proofs.«01_k».proof.Proof.Gen.Kernel18Ideal.Frame

@[expose] public section

set_option maxRecDepth 16384

noncomputable section

namespace Cert.Proof.SbFwd

open Cert.Kernel18Ideal Cert.Kernel18Ideal.Gen
open Cert.Proof.Sb (chunk rows cols putCols rows_inb cols_inb score logSig masked keep runDown logStay weight halfW addQ laterM scaleQ qOf zB runD wB maskAt ofCols)
open Idealize.ShloMosaic Idealize.ShloMosaic.TcCoe Idealize.ShloMosaic.Tactic

variable {F : FTy → Type} [FloatOps F]

theorem trips1 : ∀ i : grid0.Coords, (k0_t1_loop i).trips = (i 1).val / 4 := by decide +kernel
theorem trips2 : ∀ i : grid0.Coords, (k0_t2_loop i).trips = 0 := by decide +kernel
theorem off1_chunk : ∀ i : grid0.Coords, k0_off1 i = ![(chunk ((i 1).val / 4)).val * 512, (0 : Fin 3).val * 128] := by decide +kernel
theorem off2_chunk : ∀ i : grid0.Coords, k0_off2 i = ![(chunk ((i 1).val / 4)).val * 512, (1 : Fin 3).val * 128] := by decide +kernel
theorem off3_chunk : ∀ i : grid0.Coords, k0_off3 i = ![(chunk ((i 1).val / 4)).val * 512, (2 : Fin 3).val * 128] := by decide +kernel
theorem off4_chunk : ∀ (i : grid0.Coords) (k : Fin (k0_t1_loop i).trips), k0_off4 i k = ![(chunk ((i 1).val / 4 - (k.val + 1))).val * 512, (0 : Fin 3).val * 128] := by decide +kernel
theorem off5_chunk : ∀ (i : grid0.Coords) (k : Fin (k0_t1_loop i).trips), k0_off5 i k = ![(chunk ((i 1).val / 4 - (k.val + 1))).val * 512, (1 : Fin 3).val * 128] := by decide +kernel
theorem off6_chunk : ∀ (i : grid0.Coords) (k : Fin (k0_t1_loop i).trips), k0_off6 i k = ![(chunk ((i 1).val / 4 - (k.val + 1))).val * 512, (2 : Fin 3).val * 128] := by decide +kernel

/-- A load at a chunk's rectangle reads that chunk. -/
theorem rows_read {e : EltTy} (v : View sig .tc .vmem S2048x384 e) (f : v.ty.Contents (Elt F)) {off : Fin 2 → ℕ} (inb : ∀ a, off a + S512x128.size a ≤ S2048x384.size a)
    (j : Fin 4) (h : Fin 3) (ho : off = ![j.val * 512, h.val * 128]) :
    v.readAt (Elt F) (Rect.unit (s := S2048x384) off S512x128.size inb).toLoadRect f = rows (v.read (Elt F) f) j h :=
  View.readAt_unit v f inb ho (rows_inb j h)
/-- A load of a head's columns of a block. -/
theorem cols_read {e : EltTy} (v : View sig .tc .vmem S128x384 e) (f : v.ty.Contents (Elt F)) {off : Fin 2 → ℕ} (inb : ∀ a, off a + S128x128.size a ≤ S128x384.size a)
    (h : Fin 3) (ho : off = ![0, h.val * 128]) :
    v.readAt (Elt F) (Rect.unit (s := S128x384) off S128x128.size inb).toLoadRect f = cols (v.read (Elt F) f) h :=
  View.readAt_unit v f inb ho (cols_inb h)

/-- One chunk more for one head: the output and the sum of the logarithms. -/
def accStep (a : FVec F S128x128 .f32) (r : FVec F S128x1 .f32) (q : FVec F S128x128 .bf16) (k v : Vec F S512x128 .bf16) (m : Option (IVec S128x512 1)) : FVec F S128x128 .f32 :=
  addQ a (halfW (weight laterM m (score q k) r)) v
/-- The sum of the logarithms after one chunk more. -/
def runStep (r : FVec F S128x1 .f32) (q : FVec F S128x128 .bf16) (k : Vec F S512x128 .bf16) (m : Option (IVec S128x512 1)) : FVec F S128x1 .f32 :=
  runDown (logStay m (score q k)) r

/-- The state of the three heads. -/
abbrev St (F : FTy → Type) : Type := FVec F S128x128 .f32 × FVec F S128x1 .f32 × FVec F S128x128 .f32 × FVec F S128x1 .f32 × FVec F S128x128 .f32 × FVec F S128x1 .f32

/-- One chunk more for the three heads. -/
def step (q : Fin 3 → FVec F S128x128 .bf16) (K V : Vec F S2048x384 .bf16) (m : Option (IVec S128x512 1)) (j : Fin 4) (s : St F) : St F :=
  (accStep s.1 s.2.1 (q 0) (rows K j 0) (rows V j 0) m, runStep s.2.1 (q 0) (rows K j 0) m,
   accStep s.2.2.1 s.2.2.2.1 (q 1) (rows K j 1) (rows V j 1) m, runStep s.2.2.2.1 (q 1) (rows K j 1) m,
   accStep s.2.2.2.2.1 s.2.2.2.2.2 (q 2) (rows K j 2) (rows V j 2) m, runStep s.2.2.2.2.2 (q 2) (rows K j 2) m)

/-- One trip of the loop is one chunk more. -/
theorem trip_eq (𝒱 : Variants) (c : Dev nD) (bd : Option 𝒱.V) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .bf16) (harg5 : arg5.IsWhole) (v17 : BitVec 32) (v21 : FVec F S128x128 .bf16) (v25 : FVec F S128x128 .bf16) (v29 : FVec F S128x128 .bf16) (v34 : FVec F S128x128 .f32) (v39 : FVec F S128x128 .f32) (v40 : FVec F S128x1 .f32) (v42 : BitVec 32) (v107 : FVec F S128x1 .f32) (v118 : FVec F S128x128 .f32) (v180 : FVec F S128x1 .f32) (v191 : FVec F S128x128 .f32) (v213 : FVec F S128x512 .f32) (v219 : IVec S128x512 1) (v221 : FVec F S128x512 .f32) (v225 : FVec F S128x128 .f32) (v226 : FVec F S128x128 .f32) (X_arg3 : BufTy.Contents (Elt F) arg3.view.ty) (X_arg4 : BufTy.Contents (Elt F) arg4.view.ty) (k : Fin (k0_t1_loop i).trips)
    (acc : St F) (ht : v34 = laterM) :
    tripR_k0_t1 (F := F) 𝒱 c bd i arg2 harg2 arg3 harg3 arg4 harg4 arg5 harg5 v17 v21 v25 v29 v34 v39 v40 v42 v107 v118 v180 v191 v213 v219 v221 v225 v226 X_arg3 X_arg4 k acc
      = step ![v21, v25, v29] (arg3.view.read (Elt F) X_arg3) (arg4.view.read (Elt F) X_arg4) none (chunk ((i 1).val / 4 - (k.val + 1))) acc := by
  subst ht
  unfold tripR_k0_t1 trip_k0_t1
  dsimp only
  sl_unfold_run_names
  rw [rows_read _ X_arg3 (k0_off4_inb i k) _ 0 (off4_chunk i k), rows_read _ X_arg4 (k0_off4_inb i k) _ 0 (off4_chunk i k),
    rows_read _ X_arg3 (k0_off5_inb i k) _ 1 (off5_chunk i k), rows_read _ X_arg4 (k0_off5_inb i k) _ 1 (off5_chunk i k),
    rows_read _ X_arg3 (k0_off6_inb i k) _ 2 (off6_chunk i k), rows_read _ X_arg4 (k0_off6_inb i k) _ 2 (off6_chunk i k)]
  rfl

/-- The state after the top chunk and `n` chunks below it. -/
def stepN (q : Fin 3 → FVec F S128x128 .bf16) (K V : Vec F S2048x384 .bf16) (T : ℕ) (s : St F) : ℕ → St F
  | 0 => s
  | n + 1 => step q K V none (chunk (T - (n + 1))) (stepN q K V T s n)

/-- The state the loop carries. -/
theorem loop_eq (𝒱 : Variants) (c : Dev nD) (bd : Option 𝒱.V) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .bf16) (harg5 : arg5.IsWhole) (v17 : BitVec 32) (v21 : FVec F S128x128 .bf16) (v25 : FVec F S128x128 .bf16) (v29 : FVec F S128x128 .bf16) (v34 : FVec F S128x128 .f32) (v39 : FVec F S128x128 .f32) (v40 : FVec F S128x1 .f32) (v42 : BitVec 32) (v107 : FVec F S128x1 .f32) (v118 : FVec F S128x128 .f32) (v180 : FVec F S128x1 .f32) (v191 : FVec F S128x128 .f32) (v213 : FVec F S128x512 .f32) (v219 : IVec S128x512 1) (v221 : FVec F S128x512 .f32) (v225 : FVec F S128x128 .f32) (v226 : FVec F S128x128 .f32) (X_arg3 : BufTy.Contents (Elt F) arg3.view.ty) (X_arg4 : BufTy.Contents (Elt F) arg4.view.ty)
    (init : St F) (ht : v34 = laterM) (n : ℕ) (hn : n ≤ (k0_t1_loop i).trips) :
    st_k0_t1 (F := F) 𝒱 c bd i arg2 harg2 arg3 harg3 arg4 harg4 arg5 harg5 v17 v21 v25 v29 v34 v39 v40 v42 v107 v118 v180 v191 v213 v219 v221 v225 v226 X_arg3 X_arg4 init n = stepN ![v21, v25, v29] (arg3.view.read (Elt F) X_arg3) (arg4.view.read (Elt F) X_arg4) ((i 1).val / 4) init n := by
  induction n with
  | zero => rfl
  | succ n ih =>
    rw [st_k0_t1_succ (F := F) 𝒱 c bd i arg2 harg2 arg3 harg3 arg4 harg4 arg5 harg5 v17 v21 v25 v29 v34 v39 v40 v42 v107 v118 v180 v191 v213 v219 v221 v225 v226 X_arg3 X_arg4 init ⟨n, hn⟩, ih (by omega), trip_eq 𝒱 c bd i arg2 harg2 arg3 harg3 arg4 harg4 arg5 harg5 v17 v21 v25 v29 v34 v39 v40 v42 v107 v118 v180 v191 v213 v219 v221 v225 v226 X_arg3 X_arg4 _ _ ht]
    rfl

/-- The state after the loop. -/
theorem top_eq (𝒱 : Variants) (c : Dev nD) (bd : Option 𝒱.V) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .bf16) (harg5 : arg5.IsWhole) (v17 : BitVec 32) (v21 : FVec F S128x128 .bf16) (v25 : FVec F S128x128 .bf16) (v29 : FVec F S128x128 .bf16) (v34 : FVec F S128x128 .f32) (v39 : FVec F S128x128 .f32) (v40 : FVec F S128x1 .f32) (v42 : BitVec 32) (v107 : FVec F S128x1 .f32) (v118 : FVec F S128x128 .f32) (v180 : FVec F S128x1 .f32) (v191 : FVec F S128x128 .f32) (v213 : FVec F S128x512 .f32) (v219 : IVec S128x512 1) (v221 : FVec F S128x512 .f32) (v225 : FVec F S128x128 .f32) (v226 : FVec F S128x128 .f32) (X_arg3 : BufTy.Contents (Elt F) arg3.view.ty) (X_arg4 : BufTy.Contents (Elt F) arg4.view.ty) (init : St F) (ht : v34 = laterM) :
    st_k0_t1 (F := F) 𝒱 c bd i arg2 harg2 arg3 harg3 arg4 harg4 arg5 harg5 v17 v21 v25 v29 v34 v39 v40 v42 v107 v118 v180 v191 v213 v219 v221 v225 v226 X_arg3 X_arg4 init (Scf.trips (k0_t1_loop i).lb (k0_t1_loop i).ub (k0_t1_loop i).st)
      = stepN ![v21, v25, v29] (arg3.view.read (Elt F) X_arg3) (arg4.view.read (Elt F) X_arg4) ((i 1).val / 4) init ((i 1).val / 4) := by
  rw [show Scf.trips (k0_t1_loop i).lb (k0_t1_loop i).ub (k0_t1_loop i).st = (i 1).val / 4 from trips1 i]
  exact loop_eq 𝒱 c bd i arg2 harg2 arg3 harg3 arg4 harg4 arg5 harg5 v17 v21 v25 v29 v34 v39 v40 v42 v107 v118 v180 v191 v213 v219 v221 v225 v226 X_arg3 X_arg4 init ht _ (le_of_eq (trips1 i).symm)
/-- The second loop has no trip. -/
theorem loop2_eq (𝒱 : Variants) (c : Dev nD) (bd : Option 𝒱.V) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .bf16) (harg5 : arg5.IsWhole) (v17 : BitVec 32) (v21 : FVec F S128x128 .bf16) (v25 : FVec F S128x128 .bf16) (v29 : FVec F S128x128 .bf16) (v34 : FVec F S128x128 .f32) (v39 : FVec F S128x128 .f32) (v40 : FVec F S128x1 .f32) (v42 : BitVec 32) (v107 : FVec F S128x1 .f32) (v118 : FVec F S128x128 .f32) (v180 : FVec F S128x1 .f32) (v191 : FVec F S128x128 .f32) (v213 : FVec F S128x512 .f32) (v219 : IVec S128x512 1) (v221 : FVec F S128x512 .f32) (v225 : FVec F S128x128 .f32) (v226 : FVec F S128x128 .f32) (v269 : BitVec 32) (X_arg3 : BufTy.Contents (Elt F) arg3.view.ty) (X_arg4 : BufTy.Contents (Elt F) arg4.view.ty) (init : St F) :
    st_k0_t2 (F := F) 𝒱 c bd i arg2 harg2 arg3 harg3 arg4 harg4 arg5 harg5 v17 v21 v25 v29 v34 v39 v40 v42 v107 v118 v180 v191 v213 v219 v221 v225 v226 v269 X_arg3 X_arg4 init (Scf.trips (k0_t2_loop i).lb (k0_t2_loop i).ub (k0_t2_loop i).st) = init := by
  rw [show Scf.trips (k0_t2_loop i).lb (k0_t2_loop i).ub (k0_t2_loop i).st = 0 from trips2 i]
  rfl

/-- The state before the first chunk. -/
def start : St F :=
  (broadcast S128x128 (Scalar.ofBits .f32 0x00000000#32), broadcast S128x1 (Scalar.ofBits .f32 0x00000000#32),
   broadcast S128x128 (Scalar.ofBits .f32 0x00000000#32), broadcast S128x1 (Scalar.ofBits .f32 0x00000000#32),
   broadcast S128x128 (Scalar.ofBits .f32 0x00000000#32), broadcast S128x1 (Scalar.ofBits .f32 0x00000000#32))

/-- The three heads' outputs of a state, in half precision. -/
def outOf (s : St F) : Fin 3 → Vec F S128x128 .bf16 :=
  ![truncf .bf16 s.1 bitsLt_bf16_f32, truncf .bf16 s.2.2.1 bitsLt_bf16_f32, truncf .bf16 s.2.2.2.2.1 bitsLt_bf16_f32]

/-- The block of one point of the grid. -/
def outB (i : grid0.Coords) (x : Vec F S128x384 .f32) (K V : Vec F S2048x384 .bf16) : Vec F S128x384 .bf16 :=
  ofCols (outOf (stepN (qOf x) K V ((i 1).val / 4) (step (qOf x) K V (some (keep (Cert.Proof.Sb.limW i))) (chunk ((i 1).val / 4)) start) ((i 1).val / 4)))

/-- Three stores of the heads' columns of a block. -/
theorem stores_read (v : View sig .tc .vmem S128x384 .bf16) (f : v.ty.Contents (Elt F)) {o0 o1 o2 : Fin 2 → ℕ} (i0 : ∀ a, o0 a + S128x128.size a ≤ S128x384.size a)
    (i1 : ∀ a, o1 a + S128x128.size a ≤ S128x384.size a) (i2 : ∀ a, o2 a + S128x128.size a ≤ S128x384.size a)
    (h0 : o0 = ![0, (0 : Fin 3).val * 128]) (h1 : o1 = ![0, (1 : Fin 3).val * 128]) (h2 : o2 = ![0, (2 : Fin 3).val * 128])
    (w0 w1 w2 : Vec F S128x128 .bf16) (w : Fin 3 → Vec F S128x128 .bf16) (e0 : w0 = w 0) (e1 : w1 = w 1) (e2 : w2 = w 2) :
    v.read (Elt F) (v.writes (Elt F) f [⟨Rect.unit (s := S128x384) o2 S128x128.size i2, w2⟩, ⟨Rect.unit (s := S128x384) o1 S128x128.size i1, w1⟩, ⟨Rect.unit (s := S128x384) o0 S128x128.size i0, w0⟩])
      = ofCols w := by
  rw [View.read_writes_cons_put v f i2 w2 _ h2, View.read_writes_cons_put v f i1 w1 _ h1, View.read_writes_cons_put v f i0 w0 _ h0, View.writes_nil, e0, e1, e2]
  exact Cert.Proof.Sb.eq_ofCols _ _ (Cert.Proof.Sb.cols_putCols _ _)

/-- What the call leaves at one point of the grid. -/
theorem out_eq (c : Dev nD) (i : grid0.Coords) (arg2 : Memref sig .tc .vmem S128x384 .f32) (harg2 : arg2.IsWhole) (arg3 : Memref sig .tc .vmem S2048x384 .bf16) (harg3 : arg3.IsWhole) (arg4 : Memref sig .tc .vmem S2048x384 .bf16) (harg4 : arg4.IsWhole) (arg5 : Memref sig .tc .vmem S128x384 .bf16) (harg5 : arg5.IsWhole)
    (x0 : Vec F S128x384 .f32) (x1 : Vec F S2048x384 .bf16) (x2 : Vec F S2048x384 .bf16) :
    out0_A_3 c i arg2 harg2 arg3 harg3 arg4 harg4 arg5 harg5 x0 x1 x2 = outB i x0 x1 x2 := by
  unfold out0_A_3 kernelRun0_A
  dsimp only
  have hq : ![kernelRun0_A.sl.r c arg2 harg2 x0, kernelRun0_A.sl.r_1 c arg2 harg2 x0, kernelRun0_A.sl.r_2 c arg2 harg2 x0] = qOf x0 := by
    funext h
    match h with
    | 0 => show kernelRun0_A.sl.r c arg2 harg2 x0 = _; sl_unfold_run_names; rw [cols_read _ _ (off := ![0, 0]) _ 0 rfl, harg2.read_unread]; rfl
    | 1 => show kernelRun0_A.sl.r_1 c arg2 harg2 x0 = _; sl_unfold_run_names; rw [cols_read _ _ (off := ![0, 128]) _ 1 rfl, harg2.read_unread]; rfl
    | 2 => show kernelRun0_A.sl.r_2 c arg2 harg2 x0 = _; sl_unfold_run_names; rw [cols_read _ _ (off := ![0, 256]) _ 2 rfl, harg2.read_unread]; rfl
  have hs : (kernelRun0_A.sl.r_9 c i arg2 harg2 arg3 harg3 arg4 harg4 x0 x1 x2, kernelRun0_A.sl.r_8 c i arg2 harg2 arg3 harg3 x0 x1,
      kernelRun0_A.sl.r_24 c i arg2 harg2 arg3 harg3 arg4 harg4 x0 x1 x2, kernelRun0_A.sl.r_23 c i arg2 harg2 arg3 harg3 x0 x1,
      k0_pay118 k0_pay72 k0_pay77 k0_pay78 (kernelRun0_A.sl.r_25 c i arg2 harg2 arg3 harg3 x0 x1) (kernelRun0_A.sl.r_26 i)
        (kernelRun0_A.sl.r_27 c i arg2 harg2 arg3 harg3 x0 x1) (kernelRun0_A.sl.r_28 c i arg2 harg2 arg3 harg3 x0 x1)
        (kernelRun0_A.sl.r_29 c i arg2 harg2 arg3 harg3 x0 x1)
        (View.readAt (Elt F) arg4.view (Rect.unit (s := S2048x384) (k0_off3 i) S512x128.size (k0_off3_inb i)).toLoadRect (harg4.unread x2)),
      k0_pay117 k0_pay78 (kernelRun0_A.sl.r_27 c i arg2 harg2 arg3 harg3 x0 x1) (kernelRun0_A.sl.r_29 c i arg2 harg2 arg3 harg3 x0 x1))
      = step (qOf x0) x1 x2 (some (keep (Cert.Proof.Sb.limW i))) (chunk ((i 1).val / 4)) start := by
    rw [← hq]
    sl_unfold_run_names
    rw [rows_read _ _ (k0_off1_inb i) _ 0 (off1_chunk i), rows_read _ _ (k0_off1_inb i) _ 0 (off1_chunk i),
      rows_read _ _ (k0_off2_inb i) _ 1 (off2_chunk i), rows_read _ _ (k0_off2_inb i) _ 1 (off2_chunk i),
      rows_read _ _ (k0_off3_inb i) _ 2 (off3_chunk i), rows_read _ _ (k0_off3_inb i) _ 2 (off3_chunk i), harg3.read_unread, harg4.read_unread]
    rfl
  refine stores_read _ _ _ _ _ rfl rfl rfl _ _ _ _ ?_ ?_ ?_
  · unfold kernelRun0_A.sl.r_32
    rw [loop2_eq]
    dsimp only
    rw [top_eq, hq, harg3.read_unread, harg4.read_unread, hs]
    · rfl
    · rfl
  · unfold kernelRun0_A.sl.r_30
    rw [loop2_eq]
    dsimp only
    rw [top_eq, hq, harg3.read_unread, harg4.read_unread, hs]
    · rfl
    · rfl
  · unfold kernelRun0_A.sl.r_31
    rw [loop2_eq]
    dsimp only
    rw [top_eq, hq, harg3.read_unread, harg4.read_unread, hs]
    · rfl
    · rfl

/-! ### The state after all chunks -/

section

variable (q : Fin 3 → FVec F S128x128 .bf16) (K V : Vec F S2048x384 .bf16) (m : IVec S128x512 1) (T : ℕ)

/-- The output of a head over the top `n` chunks. -/
def accB : ℕ → Fin 3 → FVec F S128x128 .f32
  | 0, _ => broadcast S128x128 (Scalar.ofBits .f32 0x00000000#32)
  | n + 1, h => addQ (accB n h) (halfW (wB q K m T (T - n) h)) (rows V (chunk (T - n)) h)

/-- The state over the top `n` chunks. -/
def stateB (n : ℕ) : St F := (accB q K V m T n 0, runD q K m T n 0, accB q K V m T n 1, runD q K m T n 1, accB q K V m T n 2, runD q K m T n 2)

theorem step_state (n : ℕ) (hn : n ≤ T) : step q K V (maskAt m T (T - n)) (chunk (T - n)) (stateB q K V m T n) = stateB q K V m T (n + 1) := by
  have e (h : Fin 3) : wB q K m T (T - n) h = weight laterM (maskAt m T (T - n)) (zB q K (T - n) h) (runD q K m T n h) := by
    unfold wB
    rw [show T - (T - n) = n by omega]
  unfold stateB step accStep runStep
  rw [accB, accB, accB, e, e, e]
  rfl

theorem state_eq (n : ℕ) (hn : n ≤ T) : stepN q K V T (step q K V (some m) (chunk T) start) n = stateB q K V m T (n + 1) := by
  induction n with
  | zero =>
    rw [← step_state q K V m T 0 hn]
    unfold maskAt
    rw [if_pos (Nat.sub_zero T)]
    rfl
  | succ n ih =>
    rw [← step_state q K V m T (n + 1) hn, stepN, ih (by omega)]
    unfold maskAt
    rw [if_neg (by omega)]

end

/-- The block of one point, head by head. -/
theorem outB_eq (i : grid0.Coords) (x : Vec F S128x384 .f32) (K V : Vec F S2048x384 .bf16) :
    outB i x K V = ofCols fun h => Cert.Proof.Sb.half (accB (qOf x) K V (keep (Cert.Proof.Sb.limW i)) ((i 1).val / 4) ((i 1).val / 4 + 1) h) := by
  unfold outB
  rw [state_eq _ _ _ _ _ _ (le_refl _)]
  refine congrArg ofCols (funext fun h => ?_)
  match h with
  | 0 => rfl
  | 1 => rfl
  | 2 => rfl

/-! ### The block in real numbers -/

section Reals

open Cert.Proof.Sb (Is weightR weightR_zero is_wB is_addQ is_zero is_half sum_shift0 sum_Ico_cut)

variable (Q Kr Vr : Fin 3 → ℕ → ℕ → ℝ) (i : ℕ)
  (q : Fin 3 → FVec Ideal S128x128 .bf16) (K V : Vec Ideal S2048x384 .bf16) (m : IVec S128x512 1)
  (hi : i < 16) (hq : ∀ h, Is (q h) (fun r l => Q h (128 * i + r) l))
  (hK : ∀ (j : ℕ) h, j < 4 → Is (φ := .bf16) (rows K (chunk j) h) (fun s l => Kr h (512 * j + s) l))
  (hV : ∀ (j : ℕ) h, j < 4 → Is (φ := .bf16) (rows V (chunk j) h) (fun s l => Vr h (512 * j + s) l))
  (hm : ∀ (r : Fin 128) (l : Fin 512), m (ix2 r l) = 1#1 ↔ l.val < r.val + i % 4 * 128)

include hi hq hK hV hm in
theorem is_accB (n : ℕ) (hn : n ≤ i / 4 + 1) (h : Fin 3) :
    Is (accB q K V m (i / 4) n h) (fun r l => ∑ s ∈ Finset.Ico (512 * (i / 4 + 1 - n)) (512 * (i / 4 + 1)), weightR (Q h) (Kr h) (128 * i + r) s * Vr h s l) := by
  induction n with
  | zero =>
    rw [accB]
    refine (is_zero (fun x => Ideal.ofBits_zero_f32)).congr fun r l _ _ => ?_
    rw [Nat.sub_zero, Finset.Ico_self, Finset.sum_empty]
  | succ n ih =>
    rw [accB]
    refine (is_addQ (ih (by omega)) (is_half (is_wB Q Kr i q K m hi hq hK hm (i / 4 - n) (by omega) h)) (hV (i / 4 - n) h (by omega))).congr fun r l _ _ => ?_
    rw [sum_shift0 (fun s => weightR (Q h) (Kr h) (128 * i + r) s * Vr h s l), show 512 * (i / 4 - n) + 512 = 512 * (i / 4 + 1 - n) by omega,
      show 512 * (i / 4 - n) = 512 * (i / 4 + 1 - (n + 1)) by omega, add_comm, Finset.sum_Ico_consecutive _ (by omega) (by omega)]

include hi hq hK hV hm in
/-- The output of a block of queries: every key weighted. -/
theorem is_out (h : Fin 3) :
    Is (Cert.Proof.Sb.half (accB q K V m (i / 4) (i / 4 + 1) h)) (fun r l => ∑ s ∈ Finset.range 2048, weightR (Q h) (Kr h) (128 * i + r) s * Vr h s l) := by
  intro r l
  pointwise [Cert.Proof.Sb.half]
  refine (is_accB Q Kr Vr i q K V m hi hq hK hV hm (i / 4 + 1) (le_refl _) h r l).trans (congrArg _ ?_)
  rw [Nat.sub_self, Nat.mul_zero, Finset.range_eq_Ico,
    sum_Ico_cut (a := 0) (b := 512 * (i / 4 + 1)) (c := 2048) (fun s => weightR (Q h) (Kr h) (128 * i + r.val) s * Vr h s l.val) (by omega) (by omega)
      (fun s hs => by rw [weightR_zero _ _ (by omega), zero_mul])]

end Reals

end Cert.Proof.SbFwd

end
-- ==== Proof.SbFwdRef.lean ====
/- The stick-breaking attention: the reference's result in real numbers. -/
module

public import proofs.«01_k».proof.Proof.Gen.Reference18Ideal.Run
public import proofs.«01_k».proof.Proof.Ref

@[expose] public section

set_option maxRecDepth 16384

noncomputable section

namespace Cert.Proof.SbFwd

open Cert.Reference18Ideal Cert.Reference18Ideal.Gen Cert.Reference18Ideal.Value
open Cert.Proof.Sb (Proj Is3 AllFinite headQ headK headV headWeight scoreR stayR weightR logSigR softplus scale scale_eq projR sum_fin_coe is_suffix)
open Idealize.ShloMosaic Idealize.ShloMosaic.TcCoe Idealize.ShloMosaic.StableHlo

variable (x : Proj)

/-- The projections to queries, keys and values. -/
def first : FVec Ideal S2048x2304 .f32 := extractStridedSlice S2048x2304 ![0, 0] x slices_S2048x12288_S2048x2304_0_0
/-- The scaled queries. -/
def qS : FVec Ideal S2048x6x128 .f32 :=
  mulf (shapeCast S2048x6x128 (extractStridedSlice S2048x768 ![0, 0] (first x) slices_S2048x2304_S2048x768_0_0) shapeCasts_S2048x768_S2048x6x128)
    (broadcastInDim S2048x6x128 ![] bcast_S_S2048x6x128 (constant S_ .f32 0x3DB504F3#32))
/-- The keys. -/
def kS : FVec Ideal S2048x6x128 .f32 := shapeCast S2048x6x128 (extractStridedSlice S2048x768 ![0, 768] (first x) slices_S2048x2304_S2048x768_0_768) shapeCasts_S2048x768_S2048x6x128
/-- The values. -/
def vS : FVec Ideal S2048x6x128 .f32 := shapeCast S2048x6x128 (extractStridedSlice S2048x768 ![0, 1536] (first x) slices_S2048x2304_S2048x768_0_1536) shapeCasts_S2048x768_S2048x6x128
/-- The scores. -/
def zS : FVec Ideal S6x2048x2048 .f32 := Host.dotGeneral dot_S2048x6x128_S2048x6x128_S6x2048x2048_2_2_0_0_1_1 none (qS x) (kS x)
/-- Keys before the query. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
/-- `x` for keys before the query, zero elsewhere. -/
def kept (z : FVec Ideal S6x2048x2048 .f32) : FVec Ideal S6x2048x2048 .f32 :=
  select (broadcastInDim S6x2048x2048 ![1, 2] bcast_S2048x2048_S6x2048x2048_1_2 before) z (broadcastInDim S6x2048x2048 ![] bcast_S_S6x2048x2048 (id (constant S_ .f32 0x00000000#32)))
/-- `log(1 + eᶻ)` as the host spells it. -/
def softp (z : FVec Ideal S6x2048x2048 .f32) : FVec Ideal S6x2048x2048 .f32 :=
  select (cmpf .une (subf z (broadcastInDim S6x2048x2048 ![] bcast_S_S6x2048x2048 (constant S_ .f32 0x00000000#32))) (subf z (broadcastInDim S6x2048x2048 ![] bcast_S_S6x2048x2048 (constant S_ .f32 0x00000000#32))))
    (addf z (broadcastInDim S6x2048x2048 ![] bcast_S_S6x2048x2048 (constant S_ .f32 0x00000000#32)))
    (addf (maximumf z (broadcastInDim S6x2048x2048 ![] bcast_S_S6x2048x2048 (constant S_ .f32 0x00000000#32)))
      (Host.log1p (Host.exp (Host.negf (Host.absf (subf z (broadcastInDim S6x2048x2048 ![] bcast_S_S6x2048x2048 (constant S_ .f32 0x00000000#32))))))))
/-- The logarithm of passing a key by. -/
def stayS : FVec Ideal S6x2048x2048 .f32 := kept (Host.negf (softp (Host.negf (Host.negf (zS x)))))
/-- Its sum over the later keys. -/
def laterS : FVec Ideal S6x2048x2048 .f32 :=
  subf (Host.reduceWindowAdd ![1, 1, 2048] ![1, 1, 1] ![0, 0, 0] ![0, 0, 2047] (stayS x) (broadcastInDim S_ ![] bcast_S_S_ (constant S_ .f32 0x00000000#32)) reduceWindows_S6x2048x2048_S6x2048x2048_w1s1p0_0_w1s1p0_0_w2048s1p0_2047 h_S_) (stayS x)
/-- The weights. -/
def wS : FVec Ideal S6x2048x2048 .f32 := kept (Host.exp (addf (Host.negf (softp (Host.negf (zS x)))) (laterS x)))
/-- The output. -/
def outS : FVec Ideal S2048x768 .bf16 :=
  truncf .bf16 (shapeCast S2048x768 (transpose S2048x6x128 [2, 0, 1] (Host.dotGeneral dot_S2048x6x128_S6x2048x2048_S6x128x2048_0_2_2_1_1_0 none (vS x) (wS x)) transposes_S6x128x2048_S2048x6x128_2_0_1) shapeCasts_S2048x6x128_S2048x768) bitsLt_bf16_f32

/-- The reference's result is the output. -/
theorem res_eq (m : (ℓ : Loc nD τ sig) → Buf (Elt Ideal) ℓ) (c : Dev nD) : res_main_v29 m c = outS (m ((c.tc : Thread nD τ).loc main_arg0)) := rfl

/-! ### In real numbers -/

/-- An output of the attention. -/
def outR (t k : ℕ) : ℝ := ∑ s ∈ Finset.range 2048, headWeight x (k / 128) t s * headV x (k / 128) s (k % 128)
def outA : Vec Ideal ⟨2, ![2048, 768]⟩ .bf16 := fun i => ((outR x (i 0).val (i 1).val : ℝ) : EReal)

theorem before_iff (t s : Fin 2048) : before (ix2 t s) = 1#1 ↔ s.val < t.val := by
  pointwise [before]
  exact WordCmp.cmpi_slt_ofNat_eq_one_iff (by norm_num; omega) (by norm_num; omega)

theorem is_kept {z : FVec Ideal S6x2048x2048 .f32} {f : ℕ → ℕ → ℕ → ℝ} (hz : Is3 (n := 6) (k := 2048) (l := 2048) z f) : Is3 (φ := .f32) (n := 6) (k := 2048) (l := 2048) (kept z) (fun H t s => if s < t then f H t s else 0) := fun H t s => by
  pointwise [kept]
  rw [hz H t s]
  unfold Scalar.select
  by_cases h : s.val < t.val
  · exact (if_pos (show before (ix2 t s) = (1 : BitVec 1) from (before_iff t s).2 h)).trans (by rw [if_pos h])
  · exact (if_neg fun e => h ((before_iff t s).1 e)).trans (by rw [if_neg h]; exact Ideal.ofBits_zero_f32)
theorem is_softp {z : FVec Ideal S6x2048x2048 .f32} {f : ℕ → ℕ → ℕ → ℝ} (hz : Is3 (n := 6) (k := 2048) (l := 2048) z f) : Is3 (φ := .f32) (n := 6) (k := 2048) (l := 2048) (softp z) (fun H t s => softplus (f H t s)) := fun H t s => by
  refine Eq.trans ?_ (Cert.Proof.Sb.host_softplus _)
  rw [← hz H t s]
  pointwise [softp]
theorem is_neg {z : FVec Ideal S6x2048x2048 .f32} {f : ℕ → ℕ → ℕ → ℝ} (hz : Is3 (n := 6) (k := 2048) (l := 2048) z f) : Is3 (φ := .f32) (n := 6) (k := 2048) (l := 2048) (Host.negf z) (fun H t s => -f H t s) := fun H t s => by
  pointwise
  rw [hz H t s, EReal.coe_neg]

variable (hx : AllFinite x fun _ => 0)
include hx

theorem is_k : Is3 (φ := .f32) (n := 2048) (k := 6) (l := 128) (kS x) (fun s H d => headK x H s d) := fun s H d => by
  have hH := H.isLt
  have hd := d.isLt
  pointwise [kS, first]
  refine (hx.proj s _ (by dsimp only; omega)).trans ?_
  unfold headK
  exact congrArg _ (congrArg₂ (projR _) rfl (by dsimp only; omega))
theorem is_v : Is3 (φ := .f32) (n := 2048) (k := 6) (l := 128) (vS x) (fun s H d => headV x H s d) := fun s H d => by
  have hH := H.isLt
  have hd := d.isLt
  pointwise [vS, first]
  refine (hx.proj s _ (by dsimp only; omega)).trans ?_
  unfold headV
  exact congrArg _ (congrArg₂ (projR _) rfl (by dsimp only; omega))
theorem is_q : Is3 (φ := .f32) (n := 2048) (k := 6) (l := 128) (qS x) (fun s H d => headQ x H s d) := fun s H d => by
  have hH := H.isLt
  have hd := d.isLt
  pointwise [qS, first]
  rw [show x (ix2 s ⟨H.val * 128 + d.val, by omega⟩) = _ from hx.proj s _ (by dsimp only; omega), scale_eq, ← EReal.coe_mul]
  unfold headQ
  exact congrArg _ (congrArg (· * scale) (congrArg₂ (projR _) rfl (by dsimp only; omega)))
theorem is_z : Is3 (φ := .f32) (n := 6) (k := 2048) (l := 2048) (zS x) (fun H t s => scoreR (headQ x H) (headK x H) t s) := fun H t s => by
  pointwise [zS]
  refine Eq.trans ?_ (sum_fin_coe (fun d => headQ x H t d * headK x H s d))
  refine Finset.sum_congr rfl fun d _ => ?_
  rw [is_q x hx, is_k x hx, ← EReal.coe_mul]
theorem is_stay : Is3 (φ := .f32) (n := 6) (k := 2048) (l := 2048) (stayS x) (fun H t s => stayR (headQ x H) (headK x H) t s) := fun H t s => by
  refine (is_kept (is_neg (is_softp (is_neg (is_neg (is_z x hx))))) H t s).trans ?_
  dsimp only
  unfold stayR
  rw [neg_neg]
theorem is_later : Is3 (φ := .f32) (n := 6) (k := 2048) (l := 2048) (laterS x)
    (fun H t s => (∑ k ∈ Finset.Ico s 2048, stayR (headQ x H) (headK x H) t k) - stayR (headQ x H) (headK x H) t s) := fun H t s => by
  have e := is_suffix (is_stay x hx) (broadcastInDim S_ ![] bcast_S_S_ (constant S_ FTy.f32 0#32)) (fun _ => Ideal.ofBits_zero_f32) reduceWindows_S6x2048x2048_S6x2048x2048_w1s1p0_0_w1s1p0_0_w2048s1p0_2047 h_S_ H t s
  pointwise [laterS]
  rw [e, is_stay x hx, ← EReal.coe_sub]
theorem is_w : Is3 (φ := .f32) (n := 6) (k := 2048) (l := 2048) (wS x) (fun H t s => headWeight x H t s) := fun H t s => by
  have hs := s.isLt
  have e : Is3 (φ := .f32) (n := 6) (k := 2048) (l := 2048) (Host.exp (addf (Host.negf (softp (Host.negf (zS x)))) (laterS x)))
      (fun H t s => Real.exp (logSigR (scoreR (headQ x H) (headK x H) t s) + ((∑ k ∈ Finset.Ico s 2048, stayR (headQ x H) (headK x H) t k) - stayR (headQ x H) (headK x H) t s))) := fun H t s => by
    pointwise
    rw [is_softp (is_neg (is_z x hx)) H t s, is_later x hx, ← EReal.coe_neg, ← EReal.coe_add, Cert.Proof.Sb.coe_exp']
    rfl
  refine (is_kept e H t s).trans (congrArg _ ?_)
  dsimp only
  unfold headWeight weightR
  by_cases h : s.val < t.val
  · rw [if_pos h, if_pos h, Finset.sum_eq_sum_Ico_succ_bot hs, add_sub_cancel_left]
  · rw [if_neg h, if_neg h]

/-- The reference's array in closed form. -/
theorem ref_out : outS x = outA x := by
  funext j
  idx_vars j
  pointwise [outS]
  show _ = ((outR x j0.val j1.val : ℝ) : EReal)
  unfold outR
  refine Eq.trans ?_ (sum_fin_coe (fun s => headWeight x (j1.val / 128) j0.val s * headV x (j1.val / 128) s (j1.val % 128)))
  refine Finset.sum_congr (M := EReal) rfl fun s _ => ?_
  rw [is_w x hx, is_v x hx, ← EReal.coe_mul, mul_comm]

end Cert.Proof.SbFwd

end
-- ==== Proof.SbFwd.lean ====
/- The stick-breaking attention: the call's array after its run, and the two programs' agreement. -/
module

public import proofs.«01_k».proof.Proof.SbFwdBlock
public import proofs.«01_k».proof.Proof.SbFwdRef
public import proofs.«01_k».proof.Proof.Grid
public import proofs.«01_k».proof.Proof.Gen.Kernel18Ideal
public import proofs.«01_k».proof.Pre_finite_proj
public import proofs.«01_k».proof.Defs

@[expose] public section

set_option maxRecDepth 16384

noncomputable section

namespace Cert.Proof.SbFwd

open Cert.Kernel18Ideal Cert.Kernel18Ideal.Gen
open Cert.Proof.Sb (Proj Is AllFinite headQ headK headV headWeight weightR scale scale_eq projR chunk rows cols qOf rows_apply cols_apply ofCols)
open Idealize.ShloMosaic Idealize.ShloMosaic.TcCoe Idealize.ShloMosaic.Tactic Idealize.SL.Sem

variable (m : (ℓ : Loc nD τ sig) → Buf (Elt Ideal) ℓ)

/-- Where every window's block lies at a point. -/
theorem places : ∀ t : Fin cfg0.N, win0_0.index t = ![t.val % 16, t.val / 16] ∧ win0_1.index t = ![0, t.val / 16] ∧ win0_2.index t = ![0, 2 + t.val / 16] ∧ win0_3.index t = ![t.val % 16, t.val / 16] :=
  (by decide +kernel : ∀ t : Fin grid0.N, _)
theorem point_lt (t : Fin cfg0.N) : t.val < 32 := t.isLt
theorem coords_one : ∀ t : Fin grid0.N, (grid0.coords t 1).val = t.val % 16 := by decide +kernel

/-- The projections a device holds. -/
abbrev projOf (c : Dev nD) : Proj := m ((c : Thread nD τ).loc main_arg0)
/-- A point's block of queries. -/
abbrev qAt (c : Dev nD) (t : Fin cfg0.N) : Vec Ideal S128x384 .f32 := iblk m c 0 t
/-- A point's keys. -/
abbrev kAt (c : Dev nD) (t : Fin cfg0.N) : Vec Ideal S2048x384 .bf16 := iblk m c 1 t
/-- A point's values. -/
abbrev vAt (c : Dev nD) (t : Fin cfg0.N) : Vec Ideal S2048x384 .bf16 := iblk m c 2 t
/-- The keys and values the host prepares. -/
abbrev kvOf (c : Dev nD) : Vec Ideal S2048x1536 .bf16 := V m c main_v1

theorem q_read (c : Dev nD) (t : Fin cfg0.N) (r : Fin 128) (l : Fin 384) :
    qAt m c t (ix2 r l) = projOf m c (ix2 ⟨128 * (t.val % 16) + r.val, by omega⟩ ⟨384 * (t.val / 16) + l.val, by have := point_lt t; omega⟩) := by
  unfold qAt
  blk_ext [iblk, V_main_arg0, (places t).1]
theorem keys_read (c : Dev nD) (r : Fin 2048) (l : Fin 1536) : kvOf m c (ix2 r l) = projOf m c (ix2 r ⟨768 + l.val, by omega⟩) := by
  unfold kvOf V
  after_reads_at
theorem k_read (c : Dev nD) (t : Fin cfg0.N) (r : Fin 2048) (l : Fin 384) :
    kAt m c t (ix2 r l) = projOf m c (ix2 r ⟨768 + (384 * (t.val / 16) + l.val), by have := point_lt t; omega⟩) := by
  refine Eq.trans ?_ (keys_read m c r ⟨384 * (t.val / 16) + l.val, by have := point_lt t; omega⟩)
  unfold kAt
  blk_ext [iblk, (places t).2.1]
theorem v_read (c : Dev nD) (t : Fin cfg0.N) (r : Fin 2048) (l : Fin 384) :
    vAt m c t (ix2 r l) = projOf m c (ix2 r ⟨1536 + (384 * (t.val / 16) + l.val), by have := point_lt t; omega⟩) := by
  refine Eq.trans ?_ ((keys_read m c r ⟨768 + (384 * (t.val / 16) + l.val), by have := point_lt t; omega⟩).trans ?_)
  · unfold vAt
    blk_ext [iblk, (places t).2.2.1]
  · refine congrArg _ (congrArg₂ ix2 rfl (Fin.ext ?_)); dsimp only; omega

section Step

variable (c : Dev nD) (hx : AllFinite (projOf m c) fun _ => 0) (t : Fin cfg0.N)
include hx

/-- The number of the point's query block. -/
abbrev blockOf (t : Fin cfg0.N) : ℕ := (grid0.coords t 1).val
/-- A head of the point. -/
abbrev headOf (t : Fin cfg0.N) (h : Fin 3) : ℕ := 3 * (t.val / 16) + h.val

omit hx in
theorem blockOf_eq : blockOf t = t.val % 16 := coords_one t

theorem blk_q (h : Fin 3) : Is (qOf (qAt m c t) h) (fun r l => headQ (projOf m c) (headOf t h) (128 * blockOf t + r) l) := fun r l => by
  have hh := h.isLt
  have hl := l.isLt
  have ht := point_lt t
  pointwise [qOf, Cert.Proof.Sb.scaleQ]
  rw [cols_apply, q_read, hx.proj _ _ (by dsimp only; omega), scale_eq, ← EReal.coe_mul, blockOf_eq]
  unfold headQ
  refine congrArg _ (congrArg (· * scale) (congrArg₂ (projR (projOf m c)) rfl ?_))
  dsimp only [headOf]; omega
theorem blk_k (j : ℕ) (h : Fin 3) (hj : j < 4) : Is (φ := .bf16) (rows (kAt m c t) (chunk j) h) (fun s l => headK (projOf m c) (headOf t h) (512 * j + s) l) := fun r l => by
  have hh := h.isLt
  have hl := l.isLt
  have ht := point_lt t
  rw [rows_apply, k_read, hx.proj _ _ (by dsimp only; omega)]
  unfold headK
  refine congrArg _ (congrArg₂ (projR (projOf m c)) ?_ ?_)
  · dsimp only [chunk]; omega
  · dsimp only [headOf]; omega
theorem blk_v (j : ℕ) (h : Fin 3) (hj : j < 4) : Is (φ := .bf16) (rows (vAt m c t) (chunk j) h) (fun s l => headV (projOf m c) (headOf t h) (512 * j + s) l) := fun r l => by
  have hh := h.isLt
  have hl := l.isLt
  have ht := point_lt t
  rw [rows_apply, v_read, hx.proj _ _ (by dsimp only; omega)]
  unfold headV
  refine congrArg _ (congrArg₂ (projR (projOf m c)) ?_ ?_)
  · dsimp only [chunk]; omega
  · dsimp only [headOf]; omega

/-- A block of the output. -/
theorem blk_out (r : Fin 128) (l : Fin 384) : outB (grid0.coords t) (qAt m c t) (kAt m c t) (vAt m c t) (ix2 r l)
    = ((outR (projOf m c) (128 * (t.val % 16) + r.val) (384 * (t.val / 16) + l.val) : ℝ) : EReal) := by
  have hl := l.isLt
  rw [outB_eq]
  unfold ofCols
  refine (is_out (fun h => headQ (projOf m c) (headOf t h)) (fun h => headK (projOf m c) (headOf t h)) (fun h => headV (projOf m c) (headOf t h))
    (blockOf t) _ _ _ _ (grid0.coords t 1).isLt (blk_q m c hx t) (blk_k m c hx t) (blk_v m c hx t) (Cert.Proof.Sb.keep_iff _) ⟨l.val / 128, by omega⟩ r ⟨l.val % 128, Nat.mod_lt _ (by decide)⟩).trans ?_
  rw [blockOf_eq]
  unfold outR
  rw [show (384 * (t.val / 16) + l.val) / 128 = headOf t ⟨l.val / 128, by omega⟩ from by dsimp only [headOf]; omega, show (384 * (t.val / 16) + l.val) % 128 = l.val % 128 from by omega]

end Step

/-- The output after the run. -/
theorem arr_out (c : Dev nD) (hx : AllFinite (projOf m c) fun _ => 0) : (dats m 0 c).arrAt 3 cfg0.N = outA (projOf m c) := by
  refine (dats m 0 c).arrAt_eq_of_covers 3 _ (by decide +kernel) fun t hf y => ?_
  blk_simp
  rw [after0_3]
  unfold outsAt0
  rw [out_eq]
  idx_vars y
  refine (blk_out m c hx t y0 y1).trans ?_
  unfold outA
  refine congrArg _ (congrArg₂ (outR _) ?_ ?_)
  · blk_simp [(places t).2.2.2]; omega
  · blk_simp [(places t).2.2.2]; omega

/-- The side conditions of the precondition. -/
theorem finite_facts : Cert.Pre_finite_proj.Facts := ⟨by decide, by decide⟩

theorem real_of_finite [Cert.Pre_finite_proj.Facts] (x : Proj) (h0 : Cert.Pre_finite_proj.fn (F := Ideal) x = fun _ => 1#1) : AllFinite x fun _ => 0 := by
  constructor
  · intro t k hk
    rw [projR, dif_pos ⟨t.isLt, k.isLt⟩]
    refine Cert.Proof.Sb.real_of_abs (Eq.trans ?_ (congrFun h0 (ix2 t ⟨k.val, hk⟩)))
    rw [← Cert.Proof.Sb.ofBits_top]
    pointwise [Cert.Pre_finite_proj.fn]
    rfl
  · intro t k
    rw [Cert.Proof.Sb.gradR, dif_pos ⟨t.isLt, k.isLt⟩]
    exact (congrArg (fun a : ℝ => (a : EReal)) EReal.toReal_zero).symm

theorem algebraic : Cert.algebraic_Kernel18Ideal_Reference18Ideal_pre_finite_proj (hKernel18Ideal := Cert.Kernel18Ideal.Gen.facts) (hReference18Ideal := Cert.Reference18Ideal.Gen.facts)
    (hPre_finite_proj := finite_facts) := by
  intro m g m' g' hpre hag
  have hx (c : Dev nD) : AllFinite (projOf m c) fun _ => 0 := @real_of_finite finite_facts _ (hpre c)
  refine ⟨fun c => outA (projOf m c), ?_, ?_⟩
  · refine (θ_run Cert.Kernel18Ideal.defs _ _).mono (fun r h c => ⟨?_, ?_⟩) (run_main (F := Ideal) m g)
    · exact ((h c).1 3).trans (arr_out m c (hx c))
    · exact ((h c).1 0).trans (((dats m 0 c).arrAt_in 0 rfl _).trans (V_main_arg0 m c))
  · refine (θ_run Cert.Reference18Ideal.defs _ _).mono (fun r h c => ⟨?_, (h c).2⟩) (Cert.Reference18Ideal.Value.run (F := Ideal) m' g')
    refine (h c).1.trans ((res_eq m' c).trans ?_)
    rw [hag c]
    exact ref_out _ (hx c)

end Cert.Proof.SbFwd

end
-- ==== Proof.ConvFwd.lean ====
/- The short convolution: what the call leaves, and the reference. -/
module

public import proofs.«01_k».proof.Proof.Gen.Kernel20Ideal.Frame
public import proofs.«01_k».proof.Proof.Gen.Reference20Ideal.Run
public import proofs.«01_k».proof.Proof.Tools
public import Idealize.ShloMosaic.Lib.WordCmp

@[expose] public section

set_option maxRecDepth 16384

noncomputable section

namespace Cert.Proof.ConvFwd

open Idealize.ShloMosaic Idealize.ShloMosaic.TcCoe Idealize.ShloMosaic.StableHlo Idealize.SL.Sem Idealize.ShloMosaic.Tactic

abbrev Proj : Type := Vec Ideal ⟨2, ![2048, 12288]⟩ .f32
abbrev Wgt : Type := Vec Ideal ⟨2, ![4, 2304]⟩ .f32
abbrev Out : Type := Vec Ideal ⟨2, ![2048, 2304]⟩ .f32

/-- The projections' columns the convolution takes, `n` rows earlier, and zero before the first row. -/
def earlier (n : ℕ) (p : Proj) (i : Fin 2048) (j : Fin 2304) : EReal := if n ≤ i.val then p (ix2 ⟨i.val - n, by omega⟩ ⟨2304 + j.val, by omega⟩) else 0
/-- The convolution before its activation. -/
def pre (p : Proj) (w : Wgt) (i : Fin 2048) (j : Fin 2304) : EReal :=
  w (ix2 3 j) * earlier 0 p i j + w (ix2 2 j) * earlier 1 p i j + w (ix2 1 j) * earlier 2 p i j + w (ix2 0 j) * earlier 3 p i j
def conv (p : Proj) (w : Wgt) (i : Fin 2048) (j : Fin 2304) : EReal := pre p w i j * Ideal.logistic (pre p w i j)
def convA (p : Proj) (w : Wgt) : Out := fun i => conv p w (i 0) (i 1)

/-- A choice by a comparison of two numbers. -/
theorem select_sge (a b : ℕ) (ha : a < 4096) (hb : b < 4096) (x y : EReal) :
    Scalar.select (IntOp.cmpi .sge (BitVec.ofNat 32 a) (BitVec.ofNat 32 b)) x y = if b ≤ a then x else y := by
  rw [WordCmp.cmpi_sge_ofNat (by norm_num; omega) (by norm_num; omega)]
  by_cases h : b ≤ a
  · rw [if_pos h, decide_eq_true h]; rfl
  · rw [if_neg h, decide_eq_false h]; rfl

section Kernel

open Cert.Kernel20Ideal Cert.Kernel20Ideal.Gen

abbrev Block : Type := Vec Ideal ⟨2, ![2048, 256]⟩ .f32

/-- A block's rows moved down, with zeros above. -/
def down (n : ℕ) (x : Block) (r : Fin 2048) (l : Fin 256) : EReal := if n ≤ r.val then x (ix2 ⟨r.val - n, by omega⟩ l) else 0

theorem down1 (x : Block) (r : Fin 2048) (l : Fin 256) :
    (select (cmpi .sge (iota .tc S2048x256 32 [0] iota_S2048x256_d0_w32) (broadcast S2048x256 1#32)) (dynamicRotate 0 1#32 none x rotates_S2048x256_d0 : Block) (broadcast S2048x256 (Scalar.ofBits (F := Ideal) .f32 0x00000000#32)) (ix2 r l) : EReal)
      = down 1 x r l := by
  refine Eq.trans (b := Scalar.select (IntOp.cmpi .sge (BitVec.ofNat 32 r.val) (BitVec.ofNat 32 1)) (x (ix2 ⟨(r.val + 2048 - 1) % 2048, Nat.mod_lt _ (by norm_num)⟩ l) : EReal) 0) (by pointwise []) ?_
  have hr := r.isLt
  rw [select_sge _ _ (by omega) (by norm_num)]
  unfold down
  by_cases h : 1 ≤ r.val
  · rw [if_pos h, if_pos h]
    exact congrArg (fun n : Fin 2048 => (x (ix2 n l) : EReal)) (Fin.ext (by dsimp only; omega))
  · rw [if_neg h, if_neg h]
theorem down2 (x : Block) (r : Fin 2048) (l : Fin 256) :
    (select (cmpi .sge (iota .tc S2048x256 32 [0] iota_S2048x256_d0_w32) (broadcast S2048x256 2#32)) (dynamicRotate 0 2#32 none x rotates_S2048x256_d0 : Block) (broadcast S2048x256 (Scalar.ofBits (F := Ideal) .f32 0x00000000#32)) (ix2 r l) : EReal)
      = down 2 x r l := by
  refine Eq.trans (b := Scalar.select (IntOp.cmpi .sge (BitVec.ofNat 32 r.val) (BitVec.ofNat 32 2)) (x (ix2 ⟨(r.val + 2048 - 2) % 2048, Nat.mod_lt _ (by norm_num)⟩ l) : EReal) 0) (by pointwise []) ?_
  have hr := r.isLt
  rw [select_sge _ _ (by omega) (by norm_num)]
  unfold down
  by_cases h : 2 ≤ r.val
  · rw [if_pos h, if_pos h]
    exact congrArg (fun n : Fin 2048 => (x (ix2 n l) : EReal)) (Fin.ext (by dsimp only; omega))
  · rw [if_neg h, if_neg h]
theorem down3 (x : Block) (r : Fin 2048) (l : Fin 256) :
    (select (cmpi .sge (iota .tc S2048x256 32 [0] iota_S2048x256_d0_w32) (broadcast S2048x256 3#32)) (dynamicRotate 0 3#32 none x rotates_S2048x256_d0 : Block) (broadcast S2048x256 (Scalar.ofBits (F := Ideal) .f32 0x00000000#32)) (ix2 r l) : EReal)
      = down 3 x r l := by
  refine Eq.trans (b := Scalar.select (IntOp.cmpi .sge (BitVec.ofNat 32 r.val) (BitVec.ofNat 32 3)) (x (ix2 ⟨(r.val + 2048 - 3) % 2048, Nat.mod_lt _ (by norm_num)⟩ l) : EReal) 0) (by pointwise []) ?_
  have hr := r.isLt
  rw [select_sge _ _ (by omega) (by norm_num)]
  unfold down
  by_cases h : 3 ≤ r.val
  · rw [if_pos h, if_pos h]
    exact congrArg (fun n : Fin 2048 => (x (ix2 n l) : EReal)) (Fin.ext (by dsimp only; omega))
  · rw [if_neg h, if_neg h]

theorem pay1 (x : Block) (w3 w2 w1 w0 : Vec Ideal S1x256 .f32) (r : Fin 2048) (l : Fin 256) (q : EReal)
    (hq : q = w3 (ix2 0 l) * x (ix2 r l) + w2 (ix2 0 l) * down 1 x r l + w1 (ix2 0 l) * down 2 x r l + w0 (ix2 0 l) * down 3 x r l) :
    (k0_pay1 x w3 w2 w1 w0 (ix2 r l) : EReal) = q * Ideal.logistic q := by
  subst hq
  rw [← down1 x r l, ← down2 x r l, ← down3 x r l]
  pointwise [k0_pay1]

variable (m : (ℓ : Loc nD τ sig) → Buf (Elt Ideal) ℓ) (c : Dev nD)

abbrev pK : Proj := m ((c.tc : Thread nD τ).loc main_arg0)
abbrev wK : Wgt := m ((c.tc : Thread nD τ).loc main_arg1)

/-- Where the blocks lie. -/
theorem places : ∀ t : Fin cfg0.N, win0_0.index t = ![0, 9 + t.val] ∧ win0_1.index t = ![0, t.val] ∧ win0_2.index t = ![0, t.val] :=
  (by decide +kernel : ∀ t : Fin grid0.N, _)

theorem lt (t : Fin cfg0.N) : t.val < 9 := t.isLt

/-- The column a place of a point's block stands for. -/
abbrev col (t : ℕ) (l : Fin 256) (h : t < 9) : Fin 2304 := ⟨256 * t + l.val, by omega⟩

abbrev xB (t : Fin cfg0.N) : Block := iblk m c 0 t
abbrev wB (t : Fin cfg0.N) : Vec Ideal S4x256 .f32 := iblk m c 1 t

theorem read_0 (t : Fin cfg0.N) (r : Fin 2048) (l : Fin 256) : (xB m c t (ix2 r l) : EReal) = pK m c (ix2 r ⟨2304 + (col t.val l (lt t)).val, by have := lt t; dsimp only; omega⟩) := by
  refine Eq.trans (b := ((V m c main_arg0 : Proj) (ix2 r ⟨2304 + (col t.val l (lt t)).val, by have := lt t; dsimp only; omega⟩) : EReal)) ?_ (congrFun (V_main_arg0 m c) _)
  blk_ext [xB, iblk, (places t).1]
theorem read_1 (t : Fin cfg0.N) (a : Fin 4) (l : Fin 256) : (wB m c t (ix2 a l) : EReal) = wK m c (ix2 a (col t.val l (lt t))) := by
  refine Eq.trans (b := ((V m c main_arg1 : Wgt) (ix2 a (col t.val l (lt t))) : EReal)) ?_ (congrFun (V_main_arg1 m c) _)
  blk_ext [wB, iblk, (places t).2.1]

theorem down_at (n : ℕ) (t : Fin cfg0.N) (r : Fin 2048) (l : Fin 256) : down n (xB m c t) r l = earlier n (pK m c) r (col t.val l (lt t)) := by
  unfold down earlier
  split_ifs
  · exact read_0 m c t _ l
  · rfl

/-- What a point computes. -/
theorem part (t : Fin cfg0.N) (r : Fin 2048) (l : Fin 256) (w3 w2 w1 w0 : Vec Ideal S1x256 .f32)
    (h3 : (w3 (ix2 0 l) : EReal) = wB m c t (ix2 3 l)) (h2 : (w2 (ix2 0 l) : EReal) = wB m c t (ix2 2 l))
    (h1 : (w1 (ix2 0 l) : EReal) = wB m c t (ix2 1 l)) (h0 : (w0 (ix2 0 l) : EReal) = wB m c t (ix2 0 l)) :
    (k0_pay1 (xB m c t) w3 w2 w1 w0 (ix2 r l) : EReal) = conv (pK m c) (wK m c) r (col t.val l (lt t)) := by
  refine pay1 _ _ _ _ _ r l (pre (pK m c) (wK m c) r (col t.val l (lt t))) ?_
  rw [h3, h2, h1, h0, read_1, read_1, read_1, read_1, down_at, down_at, down_at, read_0]
  rfl

/-- The convolution after the call. -/
theorem arr : (dats m 0 c).arrAt 2 cfg0.N = convA (pK m c) (wK m c) := by
  refine (dats m 0 c).arrAt_eq_of_covers 2 _ (by decide +kernel) fun t _ y => ?_
  have hN := lt t
  blk_simp
  rw [after0_2]
  idx_vars y
  unfold out0_2
  frame_out
  refine (part m c t y0 y1 _ _ _ _ (by pointwise []) (by pointwise []) (by pointwise []) (by pointwise [])).trans ?_
  refine congrArg₂ (conv _ _) (Fin.ext ?_) (Fin.ext ?_)
  · blk_simp [(places t).2.2]
  · blk_simp [(places t).2.2]; dsimp only; omega

end Kernel

section Reference

open Cert.Reference20Ideal Cert.Reference20Ideal.Gen

/-- The columns under three rows of zeros. -/
abbrev under (p : Proj) : Vec Ideal ⟨2, ![2051, 2304]⟩ .f32 :=
  concatenate S2051x2304 0 [⟨S3x2304, (broadcastInDim S3x2304 ![] bcast_S_S3x2304 (constant (F := Ideal) S_ .f32 0x00000000#32) : (⟨S3x2304, .f32⟩ : BufTy).Contents (Elt Ideal))⟩,
    ⟨S2048x2304, (extractStridedSlice S2048x2304 ![0, 2304] p slices_S2048x12288_S2048x2304_0_2304 : (⟨S2048x2304, .f32⟩ : BufTy).Contents (Elt Ideal))⟩] concatenates_S3x2304_S2048x2304_S2051x2304_d0

theorem ref0 (p : Proj) (i : Fin 2048) (j : Fin 2304) : (extractStridedSlice S2048x2304 ![0, 0] (under p) slices_S2051x2304_S2048x2304_0_0 (ix2 i j) : EReal) = earlier 3 p i j := by
  refine Eq.trans (b := if h : i.val < 3 then 0 else (p (ix2 ⟨i.val - 3, by omega⟩ ⟨2304 + j.val, by omega⟩) : EReal)) (by pointwise []) ?_
  unfold earlier
  by_cases h : 3 ≤ i.val
  · rw [dif_neg (by omega), if_pos h]
  · rw [dif_pos (by omega), if_neg h]
theorem ref1 (p : Proj) (i : Fin 2048) (j : Fin 2304) : (extractStridedSlice S2048x2304 ![1, 0] (under p) slices_S2051x2304_S2048x2304_1_0 (ix2 i j) : EReal) = earlier 2 p i j := by
  refine Eq.trans (b := if h : 1 + i.val < 3 then 0 else (p (ix2 ⟨1 + i.val - 3, by omega⟩ ⟨2304 + j.val, by omega⟩) : EReal)) (by pointwise []) ?_
  unfold earlier
  by_cases h : 2 ≤ i.val
  · rw [dif_neg (by omega), if_pos h]
    exact congrArg (fun n : Fin 2048 => (p (ix2 n ⟨2304 + j.val, by omega⟩) : EReal)) (Fin.ext (by dsimp only; omega))
  · rw [dif_pos (by omega), if_neg h]
theorem ref2 (p : Proj) (i : Fin 2048) (j : Fin 2304) : (extractStridedSlice S2048x2304 ![2, 0] (under p) slices_S2051x2304_S2048x2304_2_0 (ix2 i j) : EReal) = earlier 1 p i j := by
  refine Eq.trans (b := if h : 2 + i.val < 3 then 0 else (p (ix2 ⟨2 + i.val - 3, by omega⟩ ⟨2304 + j.val, by omega⟩) : EReal)) (by pointwise []) ?_
  unfold earlier
  by_cases h : 1 ≤ i.val
  · rw [dif_neg (by omega), if_pos h]
    exact congrArg (fun n : Fin 2048 => (p (ix2 n ⟨2304 + j.val, by omega⟩) : EReal)) (Fin.ext (by dsimp only; omega))
  · rw [dif_pos (by omega), if_neg h]
theorem ref3 (p : Proj) (i : Fin 2048) (j : Fin 2304) : (extractStridedSlice S2048x2304 ![3, 0] (under p) slices_S2051x2304_S2048x2304_3_0 (ix2 i j) : EReal) = earlier 0 p i j := by
  unfold earlier
  pointwise []

/-- One of the four rows of weights, beside every row of the columns. -/
abbrev row0 (w : Wgt) : Out := broadcastInDim S2048x2304 ![0, 1] bcast_S1x2304_S2048x2304_0_1 (broadcastInDim S1x2304 ![1] bcast_S2304_S1x2304_1 (shapeCast _ (extractStridedSlice S1x2304 ![0, 0] w slices_S4x2304_S1x2304_0_0) shapeCasts_S1x2304_S2304))
abbrev row1 (w : Wgt) : Out := broadcastInDim S2048x2304 ![0, 1] bcast_S1x2304_S2048x2304_0_1 (broadcastInDim S1x2304 ![1] bcast_S2304_S1x2304_1 (shapeCast _ (extractStridedSlice S1x2304 ![1, 0] w slices_S4x2304_S1x2304_1_0) shapeCasts_S1x2304_S2304))
abbrev row2 (w : Wgt) : Out := broadcastInDim S2048x2304 ![0, 1] bcast_S1x2304_S2048x2304_0_1 (broadcastInDim S1x2304 ![1] bcast_S2304_S1x2304_1 (shapeCast _ (extractStridedSlice S1x2304 ![2, 0] w slices_S4x2304_S1x2304_2_0) shapeCasts_S1x2304_S2304))
abbrev row3 (w : Wgt) : Out := broadcastInDim S2048x2304 ![0, 1] bcast_S1x2304_S2048x2304_0_1 (broadcastInDim S1x2304 ![1] bcast_S2304_S1x2304_1 (shapeCast _ (extractStridedSlice S1x2304 ![3, 0] w slices_S4x2304_S1x2304_3_0) shapeCasts_S1x2304_S2304))
/-- The convolution before its activation, as the reference adds it. -/
def preR (p : Proj) (w : Wgt) : Out :=
  addf (F := Ideal) (φ := .f32) (addf (F := Ideal) (φ := .f32) (addf (F := Ideal) (φ := .f32) (addf (F := Ideal) (φ := .f32) (broadcastInDim S2048x2304 ![] bcast_S_S2048x2304 (constant (F := Ideal) S_ .f32 0x00000000#32) : Out)
    (mulf (F := Ideal) (φ := .f32) (row0 w) (extractStridedSlice S2048x2304 ![0, 0] (under p) slices_S2051x2304_S2048x2304_0_0 : Out)))
    (mulf (F := Ideal) (φ := .f32) (row1 w) (extractStridedSlice S2048x2304 ![1, 0] (under p) slices_S2051x2304_S2048x2304_1_0 : Out)))
    (mulf (F := Ideal) (φ := .f32) (row2 w) (extractStridedSlice S2048x2304 ![2, 0] (under p) slices_S2051x2304_S2048x2304_2_0 : Out)))
    (mulf (F := Ideal) (φ := .f32) (row3 w) (extractStridedSlice S2048x2304 ![3, 0] (under p) slices_S2051x2304_S2048x2304_3_0 : Out))

theorem terms (w : Wgt) (s0 s1 s2 s3 : Out) (i : Fin 2048) (j : Fin 2304) :
    ((addf (F := Ideal) (φ := .f32) (addf (F := Ideal) (φ := .f32) (addf (F := Ideal) (φ := .f32) (addf (F := Ideal) (φ := .f32) (broadcastInDim S2048x2304 ![] bcast_S_S2048x2304 (constant (F := Ideal) S_ .f32 0x00000000#32) : Out)
      (mulf (F := Ideal) (φ := .f32) (row0 w) s0)) (mulf (F := Ideal) (φ := .f32) (row1 w) s1)) (mulf (F := Ideal) (φ := .f32) (row2 w) s2)) (mulf (F := Ideal) (φ := .f32) (row3 w) s3) : Out) (ix2 i j) : EReal)
      = w (ix2 0 j) * s0 (ix2 i j) + w (ix2 1 j) * s1 (ix2 i j) + w (ix2 2 j) * s2 (ix2 i j) + w (ix2 3 j) * s3 (ix2 i j) := by
  pointwise []

theorem preR_eq (p : Proj) (w : Wgt) (i : Fin 2048) (j : Fin 2304) : (preR p w (ix2 i j) : EReal) = pre p w i j := by
  refine (terms w _ _ _ _ i j).trans ?_
  rw [ref0, ref1, ref2, ref3]
  unfold pre
  generalize (w (ix2 0 j) : EReal) * earlier 3 p i j = a
  generalize (w (ix2 1 j) : EReal) * earlier 2 p i j = b
  generalize (w (ix2 2 j) : EReal) * earlier 1 p i j = d
  generalize (w (ix2 3 j) : EReal) * earlier 0 p i j = e
  ac_rfl

theorem act (u : Out) (i : Fin 2048) (j : Fin 2304) :
    ((mulf (F := Ideal) (φ := .f32) u (Host.divf (F := Ideal) (φ := .f32) (broadcastInDim S2048x2304 ![] bcast_S_S2048x2304 (constant (F := Ideal) S_ .f32 0x3F800000#32) : Out)
      (addf (F := Ideal) (φ := .f32) (broadcastInDim S2048x2304 ![] bcast_S_S2048x2304 (constant (F := Ideal) S_ .f32 0x3F800000#32) : Out) (Host.exp (F := Ideal) (φ := .f32) (Host.negf (F := Ideal) (φ := .f32) u)))) : Out) (ix2 i j) : EReal)
      = u (ix2 i j) * Ideal.logistic (u (ix2 i j)) := by
  unfold Ideal.logistic
  pointwise []

theorem ref (m : (ℓ : Loc nD τ sig) → Buf (Elt Ideal) ℓ) (c : Dev nD) :
    Cert.Reference20Ideal.Value.res_main_v32 (F := Ideal) m c = convA (m ((c.tc : Thread nD τ).loc main_arg0)) (m ((c.tc : Thread nD τ).loc main_arg1)) := by
  funext i
  idx_vars i
  refine (act (preR _ _) i0 i1).trans ?_
  rw [preR_eq]
  rfl

end Reference

open Cert.Kernel20Ideal.Gen in
theorem algebraic : Cert.algebraic_Kernel20Ideal_Reference20Ideal (hKernel20Ideal := Cert.Kernel20Ideal.Gen.facts) (hReference20Ideal := Cert.Reference20Ideal.Gen.facts) := by
  intro m ρ m' ρ' _ hag
  refine ⟨fun c => convA (pK m c) (wK m c), (θ_run Cert.Kernel20Ideal.defs _ _).mono (fun r h c => ⟨((h c).1 2).trans (arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (Cert.Kernel20Ideal.Gen.run_main (F := Ideal) m ρ),
    (θ_run Cert.Reference20Ideal.defs _ _).mono (fun r h c => ?_) (Cert.Reference20Ideal.Value.run (F := Ideal) m' ρ')⟩
  obtain ⟨h0, h1⟩ := hag c
  refine ⟨(h c).1.trans ((ref m' c).trans ?_), (h c).2⟩
  rw [h0, h1]

end Cert.Proof.ConvFwd

end
-- ==== Proof.ConvBwd.lean ====
/- The short convolution's gradients: what the call leaves, and the reference. -/
module

public import proofs.«01_k».proof.Proof.Gen.Kernel19Ideal.Frame
public import proofs.«01_k».proof.Proof.Gen.Reference19Ideal.Run
public import proofs.«01_k».proof.Pre_finite_dc
public import proofs.«01_k».proof.Proof.ConvFwd
public import proofs.«01_k».proof.Proof.Input
public import proofs.«01_k».proof.Proof.Tools
public import Idealize.ShloMosaic.Lib.WordCmp

@[expose] public section

set_option maxRecDepth 16384

noncomputable section

namespace Cert.Proof.ConvBwd

open Idealize.ShloMosaic Idealize.ShloMosaic.TcCoe Idealize.ShloMosaic.StableHlo Idealize.SL.Sem Idealize.ShloMosaic.Tactic
open Cert.Proof.ConvFwd (Proj Wgt Out Block earlier pre down select_sge preR preR_eq)

abbrev Wide : Type := Vec Ideal ⟨2, ![2048, 12288]⟩ .bf16

/-- The gradient at a place before the activation. -/
def turn (q d : EReal) : EReal := d * (Ideal.logistic q * (1 + q * (1 - Ideal.logistic q)))
def grad (p : Proj) (w : Wgt) (d : Out) (i : Fin 2048) (j : Fin 2304) : EReal := turn (pre p w i j) (d (ix2 i j))
/-- An array of numbers `n` rows later, and zero after the last row. -/
def later {J : Type} (n : ℕ) (g : Fin 2048 → J → EReal) (i : Fin 2048) (j : J) : EReal := if h : i.val + n < 2048 then g ⟨i.val + n, h⟩ j else 0
/-- The gradient of the columns the convolution takes. -/
def dx (p : Proj) (w : Wgt) (d : Out) (i : Fin 2048) (j : Fin 2304) : EReal :=
  w (ix2 3 j) * grad p w d i j + w (ix2 2 j) * later 1 (grad p w d) i j + w (ix2 1 j) * later 2 (grad p w d) i j + w (ix2 0 j) * later 3 (grad p w d) i j
/-- The gradient of the weights. -/
def dw (p : Proj) (w : Wgt) (d : Out) (a : Fin 4) (j : Fin 2304) : EReal := ∑ i : Fin 2048, grad p w d i j * earlier (3 - a.val) p i j
def dxA (p : Proj) (w : Wgt) (d : Out) (e : Proj) : Wide :=
  fun i => if h : 2304 ≤ (i 1).val ∧ (i 1).val < 4608 then dx p w d (i 0) ⟨(i 1).val - 2304, by omega⟩ else e i
theorem dxA_at (p : Proj) (w : Wgt) (d : Out) (e : Proj) (i : Fin 2048) (j : Fin 12288) :
    (dxA p w d e (ix2 i j) : EReal) = if h : 2304 ≤ j.val ∧ j.val < 4608 then dx p w d i ⟨j.val - 2304, by omega⟩ else (e (ix2 i j) : EReal) := rfl
def dwA (p : Proj) (w : Wgt) (d : Out) : Wgt := fun i => dw p w d (i 0) (i 1)

/-- The reference's form of the gradient before the activation, where the incoming gradient is finite. -/
theorem turn_eq (q d : EReal) (hd : d = ((d.toReal : ℝ) : EReal)) :
    d * Ideal.logistic q + q * d * (Ideal.logistic q * (1 - Ideal.logistic q)) = turn q d := by
  unfold turn
  induction q with
  | bot => simp
  | top =>
    rw [Ideal.logistic_top, show (1 : EReal) - 1 = 0 from by rw [← EReal.coe_one, ← EReal.coe_sub, sub_self, EReal.coe_zero]]
    simp
  | coe q =>
    rw [hd, Ideal.logistic_coe]
    generalize (1 + Real.exp (-q))⁻¹ = s
    generalize d.toReal = e
    norm_cast
    ring_nf

/-- A choice by a comparison of two numbers. -/
theorem select_slt (a b : ℕ) (ha : a < 4096) (hb : b < 4096) (x y : EReal) :
    Scalar.select (IntOp.cmpi .slt (BitVec.ofNat 32 a) (BitVec.ofNat 32 b)) x y = if a < b then x else y := by
  rw [WordCmp.cmpi_slt_ofNat (by norm_num; omega) (by norm_num; omega)]
  by_cases h : a < b
  · rw [if_pos h, decide_eq_true h]; rfl
  · rw [if_neg h, decide_eq_false h]; rfl

section Kernel

open Cert.Kernel19Ideal Cert.Kernel19Ideal.Gen

abbrev Lane : Type := Vec Ideal ⟨2, ![1, 256]⟩ .f32
abbrev rows : IVec S2048x256 32 := iota .tc S2048x256 32 [0] iota_S2048x256_d0_w32
/-- A block's entries by row and column. -/
abbrev ent (x : Block) (r : Fin 2048) (l : Fin 256) : EReal := x (ix2 r l)

theorem up1 (x : Block) (r : Fin 2048) (l : Fin 256) :
    (select (cmpi .slt rows (broadcast S2048x256 2047#32)) (dynamicRotate 0 2047#32 none x rotates_S2048x256_d0 : Block) (broadcast S2048x256 (Scalar.ofBits (F := Ideal) .f32 0x00000000#32)) (ix2 r l) : EReal)
      = later 1 (ent x) r l := by
  refine Eq.trans (b := Scalar.select (IntOp.cmpi .slt (BitVec.ofNat 32 r.val) (BitVec.ofNat 32 2047)) (x (ix2 ⟨(r.val + 2048 - 2047) % 2048, Nat.mod_lt _ (by norm_num)⟩ l) : EReal) 0) (by pointwise []) ?_
  have hr := r.isLt
  rw [select_slt _ _ (by omega) (by norm_num)]
  unfold later
  by_cases h : r.val < 2047
  · rw [if_pos h, dif_pos (by omega)]
    exact congrArg (fun n : Fin 2048 => (x (ix2 n l) : EReal)) (Fin.ext (by dsimp only; omega))
  · rw [if_neg h, dif_neg (by omega)]
theorem up2 (x : Block) (r : Fin 2048) (l : Fin 256) :
    (select (cmpi .slt rows (broadcast S2048x256 2046#32)) (dynamicRotate 0 2046#32 none x rotates_S2048x256_d0 : Block) (broadcast S2048x256 (Scalar.ofBits (F := Ideal) .f32 0x00000000#32)) (ix2 r l) : EReal)
      = later 2 (ent x) r l := by
  refine Eq.trans (b := Scalar.select (IntOp.cmpi .slt (BitVec.ofNat 32 r.val) (BitVec.ofNat 32 2046)) (x (ix2 ⟨(r.val + 2048 - 2046) % 2048, Nat.mod_lt _ (by norm_num)⟩ l) : EReal) 0) (by pointwise []) ?_
  have hr := r.isLt
  rw [select_slt _ _ (by omega) (by norm_num)]
  unfold later
  by_cases h : r.val < 2046
  · rw [if_pos h, dif_pos (by omega)]
    exact congrArg (fun n : Fin 2048 => (x (ix2 n l) : EReal)) (Fin.ext (by dsimp only; omega))
  · rw [if_neg h, dif_neg (by omega)]
theorem up3 (x : Block) (r : Fin 2048) (l : Fin 256) :
    (select (cmpi .slt rows (broadcast S2048x256 2045#32)) (dynamicRotate 0 2045#32 none x rotates_S2048x256_d0 : Block) (broadcast S2048x256 (Scalar.ofBits (F := Ideal) .f32 0x00000000#32)) (ix2 r l) : EReal)
      = later 3 (ent x) r l := by
  refine Eq.trans (b := Scalar.select (IntOp.cmpi .slt (BitVec.ofNat 32 r.val) (BitVec.ofNat 32 2045)) (x (ix2 ⟨(r.val + 2048 - 2045) % 2048, Nat.mod_lt _ (by norm_num)⟩ l) : EReal) 0) (by pointwise []) ?_
  have hr := r.isLt
  rw [select_slt _ _ (by omega) (by norm_num)]
  unfold later
  by_cases h : r.val < 2045
  · rw [if_pos h, dif_pos (by omega)]
    exact congrArg (fun n : Fin 2048 => (x (ix2 n l) : EReal)) (Fin.ext (by dsimp only; omega))
  · rw [if_neg h, dif_neg (by omega)]

theorem pay4 (x : Block) (w3 w2 w1 w0 : Lane) (r : Fin 2048) (l : Fin 256) :
    (k0_pay4 x w3 w2 w1 w0 (ix2 r l) : EReal) = w3 (ix2 0 l) * x (ix2 r l) + w2 (ix2 0 l) * down 1 x r l + w1 (ix2 0 l) * down 2 x r l + w0 (ix2 0 l) * down 3 x r l := by
  rw [← ConvFwd.down1 x r l, ← ConvFwd.down2 x r l, ← ConvFwd.down3 x r l]
  pointwise [k0_pay4]
/-- The gradient of a block before the activation. -/
abbrev gradB (x d : Block) (w3 w2 w1 w0 : Lane) : Block := k0_pay7 (k0_pay5 x w3 w2 w1 w0) d (k0_pay6 x w3 w2 w1 w0)
theorem pay7 (x d : Block) (w3 w2 w1 w0 : Lane) (r : Fin 2048) (l : Fin 256) :
    (gradB x d w3 w2 w1 w0 (ix2 r l) : EReal) = turn (k0_pay4 x w3 w2 w1 w0 (ix2 r l)) (d (ix2 r l)) := by
  unfold turn
  pointwise [k0_pay7, k0_pay6, k0_pay5]

theorem pay9 (s d q : Block) (w3 w2 : Lane) (r : Fin 2048) (l : Fin 256) :
    (k0_pay9 rows s d q w3 w2 (ix2 r l) : EReal) = w3 (ix2 0 l) * k0_pay7 s d q (ix2 r l) + w2 (ix2 0 l) * later 1 (ent (k0_pay7 s d q)) r l := by
  rw [← up1]
  pointwise [k0_pay9]
theorem pay11 (s d q : Block) (r : Fin 2048) (l : Fin 256) :
    (k0_pay11 rows s d q (ix2 r l) : EReal) = later 2 (ent (k0_pay7 s d q)) r l := by
  rw [← up2]
  pointwise [k0_pay11]
theorem pay3 (g a b u : Block) (w0 : Lane) (r : Fin 2048) (l : Fin 256) :
    (k0_pay3 rows g a b u w0 (ix2 r l) : EReal) = a (ix2 r l) + u (ix2 r l) * b (ix2 r l) + w0 (ix2 0 l) * later 3 (ent g) r l := by
  rw [← up3]
  pointwise [k0_pay3]
theorem pay12 (w : Lane) (r : Fin 2048) (l : Fin 256) : (k0_pay12 w (ix2 r l) : EReal) = w (ix2 0 l) := by
  pointwise [k0_pay12]
theorem pay8 (x s d q : Block) (l : Fin 256) : (k0_pay8 x s d q (ix2 0 l) : EReal) = ∑ r : Fin 2048, ent (k0_pay7 s d q) r l * x (ix2 r l) := by
  pointwise [k0_pay8]
theorem pay10 (x s d q : Block) (l : Fin 256) : (k0_pay10 rows x s d q (ix2 0 l) : EReal) = ∑ r : Fin 2048, ent (k0_pay7 s d q) r l * down 1 x r l := by
  simp only [← ConvFwd.down1]
  pointwise [k0_pay10]
theorem pay1 (x g : Block) (l : Fin 256) : (k0_pay1 rows x g (ix2 0 l) : EReal) = ∑ r : Fin 2048, ent g r l * down 2 x r l := by
  simp only [← ConvFwd.down2]
  pointwise [k0_pay1]
theorem pay2 (x g : Block) (l : Fin 256) : (k0_pay2 rows x g (ix2 0 l) : EReal) = ∑ r : Fin 2048, ent g r l * down 3 x r l := by
  simp only [← ConvFwd.down3]
  pointwise [k0_pay2]

variable (m : (ℓ : Loc nD τ sig) → Buf (Elt Ideal) ℓ) (c : Dev nD)

abbrev pK : Proj := m ((c.tc : Thread nD τ).loc main_arg0)
abbrev wK : Wgt := m ((c.tc : Thread nD τ).loc main_arg1)
abbrev dK : Out := m ((c.tc : Thread nD τ).loc main_arg2)
abbrev eK : Proj := m ((c.tc : Thread nD τ).loc main_arg3)

/-- Where the blocks lie. -/
theorem places : ∀ t : Fin cfg0.N, win0_0.index t = ![0, 9 + t.val] ∧ win0_1.index t = ![0, t.val] ∧ win0_2.index t = ![0, t.val] ∧ win0_3.index t = ![0, 9 + t.val] ∧ win0_4.index t = ![0, t.val] :=
  (by decide +kernel : ∀ t : Fin grid0.N, _)

theorem lt (t : Fin cfg0.N) : t.val < 9 := t.isLt

/-- The column a place of a point's block stands for. -/
abbrev col (t : ℕ) (l : Fin 256) (h : t < 9) : Fin 2304 := ⟨256 * t + l.val, by omega⟩

abbrev xB (t : Fin cfg0.N) : Block := iblk m c 0 t
abbrev wB (t : Fin cfg0.N) : Vec Ideal S4x256 .f32 := iblk m c 1 t
abbrev dB (t : Fin cfg0.N) : Block := iblk m c 2 t

theorem read_0 (t : Fin cfg0.N) (r : Fin 2048) (l : Fin 256) : (xB m c t (ix2 r l) : EReal) = pK m c (ix2 r ⟨2304 + (col t.val l (lt t)).val, by have := lt t; dsimp only; omega⟩) := by
  refine Eq.trans (b := ((V m c main_arg0 : Proj) (ix2 r ⟨2304 + (col t.val l (lt t)).val, by have := lt t; dsimp only; omega⟩) : EReal)) ?_ (congrFun (V_main_arg0 m c) _)
  blk_ext [xB, iblk, (places t).1]
theorem read_1 (t : Fin cfg0.N) (a : Fin 4) (l : Fin 256) : (wB m c t (ix2 a l) : EReal) = wK m c (ix2 a (col t.val l (lt t))) := by
  refine Eq.trans (b := ((V m c main_arg1 : Wgt) (ix2 a (col t.val l (lt t))) : EReal)) ?_ (congrFun (V_main_arg1 m c) _)
  blk_ext [wB, iblk, (places t).2.1]
theorem read_2 (t : Fin cfg0.N) (r : Fin 2048) (l : Fin 256) : (dB m c t (ix2 r l) : EReal) = dK m c (ix2 r (col t.val l (lt t))) := by
  refine Eq.trans (b := ((V m c main_arg2 : Out) (ix2 r (col t.val l (lt t))) : EReal)) ?_ (congrFun (V_main_arg2 m c) _)
  blk_ext [dB, iblk, (places t).2.2.1]

theorem down_at (n : ℕ) (t : Fin cfg0.N) (r : Fin 2048) (l : Fin 256) : down n (xB m c t) r l = earlier n (pK m c) r (col t.val l (lt t)) := by
  unfold down earlier
  split_ifs
  · exact read_0 m c t _ l
  · rfl

section Part

variable (t : Fin cfg0.N) (w3 w2 w1 w0 : Lane) (h3 : ∀ l, (w3 (ix2 0 l) : EReal) = wB m c t (ix2 3 l)) (h2 : ∀ l, (w2 (ix2 0 l) : EReal) = wB m c t (ix2 2 l))
  (h1 : ∀ l, (w1 (ix2 0 l) : EReal) = wB m c t (ix2 1 l)) (h0 : ∀ l, (w0 (ix2 0 l) : EReal) = wB m c t (ix2 0 l))

include h3 h2 h1 h0

theorem part_grad (r : Fin 2048) (l : Fin 256) : (gradB (xB m c t) (dB m c t) w3 w2 w1 w0 (ix2 r l) : EReal) = grad (pK m c) (wK m c) (dK m c) r (col t.val l (lt t)) := by
  refine (pay7 _ _ _ _ _ _ r l).trans ?_
  unfold grad
  refine congrArg₂ turn ((pay4 _ _ _ _ _ r l).trans ?_) (read_2 m c t r l)
  rw [h3, h2, h1, h0, read_1, read_1, read_1, read_1, down_at, down_at, down_at, read_0]
  rfl
theorem part_later (n : ℕ) (r : Fin 2048) (l : Fin 256) : later n (ent (gradB (xB m c t) (dB m c t) w3 w2 w1 w0)) r l = later n (grad (pK m c) (wK m c) (dK m c)) r (col t.val l (lt t)) := by
  unfold later
  split_ifs
  · exact part_grad m c t w3 w2 w1 w0 h3 h2 h1 h0 _ l
  · rfl
/-- What a point computes of the columns' gradient. -/
theorem part_dx (r : Fin 2048) (l : Fin 256) (u3 u2 u1 u0 : Lane) (k3 : ∀ l, (u3 (ix2 0 l) : EReal) = wB m c t (ix2 3 l)) (k2 : ∀ l, (u2 (ix2 0 l) : EReal) = wB m c t (ix2 2 l))
    (k1 : ∀ l, (u1 (ix2 0 l) : EReal) = wB m c t (ix2 1 l)) (k0 : ∀ l, (u0 (ix2 0 l) : EReal) = wB m c t (ix2 0 l)) :
    (k0_pay3 rows (gradB (xB m c t) (dB m c t) w3 w2 w1 w0) (k0_pay9 rows (k0_pay5 (xB m c t) w3 w2 w1 w0) (dB m c t) (k0_pay6 (xB m c t) w3 w2 w1 w0) u3 u2)
      (k0_pay11 rows (k0_pay5 (xB m c t) w3 w2 w1 w0) (dB m c t) (k0_pay6 (xB m c t) w3 w2 w1 w0)) (k0_pay12 u1) u0 (ix2 r l) : EReal)
      = dx (pK m c) (wK m c) (dK m c) r (col t.val l (lt t)) := by
  refine (pay3 _ _ _ _ _ r l).trans ?_
  rw [pay9, pay11, pay12, part_later m c t w3 w2 w1 w0 h3 h2 h1 h0, part_later m c t w3 w2 w1 w0 h3 h2 h1 h0, part_later m c t w3 w2 w1 w0 h3 h2 h1 h0, k3, k2, k1, k0, read_1, read_1, read_1, read_1]
  rw [show (k0_pay7 (k0_pay5 (xB m c t) w3 w2 w1 w0) (dB m c t) (k0_pay6 (xB m c t) w3 w2 w1 w0) (ix2 r l) : EReal) = _ from part_grad m c t w3 w2 w1 w0 h3 h2 h1 h0 r l]
  rfl

end Part

/-- The array the call writes into, as it finds it. -/
theorem start (i : Fin 2048) (j : Fin 12288) : ((V m c main_v1_0 : Wide) (ix2 i j) : EReal) = eK m c (ix2 i j) := by
  after_reads_at
  rfl

/-- The columns' gradient after the call, the other columns as they were. -/
theorem arr_dx : (dats m 0 c).arrAt 3 cfg0.N = dxA (pK m c) (wK m c) (dK m c) (eK m c) := by
  refine (dats m 0 c).arrAt_eq_of_coversWhere_of_agree 3 _ (fun β => 9 ≤ β (1 : Fin _) ∧ β (1 : Fin _) < 18) (by decide +kernel) (fun t _ y => ?_) (fun j hj => ?_)
  · have hN := lt t
    blk_simp
    rw [after0_3]
    idx_vars y
    unfold outsAt0
    frame_out
    refine (part_dx m c t _ _ _ _ (fun l => by pointwise []) (fun l => by pointwise []) (fun l => by pointwise []) (fun l => by pointwise []) y0 y1 _ _ _ _
      (fun l => by pointwise []) (fun l => by pointwise []) (fun l => by pointwise []) (fun l => by pointwise [])).trans ?_
    unfold dxA
    refine Eq.trans ?_ (dif_pos (by blk_simp [(places t).2.2.2.1]; omega)).symm
    refine congrArg₂ (dx _ _ _) (Fin.ext ?_) (Fin.ext ?_)
    · blk_simp [(places t).2.2.2.1]
    · blk_simp [(places t).2.2.2.1]; dsimp only; omega
  · blk_simp [Pipeline.Window.cell_apply] at hj
    idx_vars j
    refine (start m c j0 j1).trans ?_
    refine Eq.trans ?_ (dxA_at (pK m c) (wK m c) (dK m c) (eK m c) j0 j1).symm
    rw [dif_neg (show ¬ (2304 ≤ j1.val ∧ j1.val < 4608) by omega)]

/-- Four rows stored one after another. -/
theorem tiles (P0 P1 P2 P3 : Lane) (v : Fin 4 → Fin 256 → EReal) (q0 : ∀ l, (P0 (ix2 0 l) : EReal) = v 0 l) (q1 : ∀ l, (P1 (ix2 0 l) : EReal) = v 1 l)
    (q2 : ∀ l, (P2 (ix2 0 l) : EReal) = v 2 l) (q3 : ∀ l, (P3 (ix2 0 l) : EReal) = v 3 l) (a : Fin 4) (l : Fin 256) :
    (View.canon [(⟨Rect.unit ![0, 0] ![1, 256] inb_S4x256_S1x256_0_0, P0⟩ : View.Piece (Elt Ideal) S4x256 .f32), ⟨Rect.unit ![1, 0] ![1, 256] inb_S4x256_S1x256_1_0, P1⟩,
      ⟨Rect.unit ![2, 0] ![1, 256] inb_S4x256_S1x256_2_0, P2⟩, ⟨Rect.unit ![3, 0] ![1, 256] inb_S4x256_S1x256_3_0, P3⟩] (ix2 a l) : EReal) = v a l := by
  canon_tiles x h
  all_goals
    idx_vars x
    obtain rfl : x0 = 0 := Subsingleton.elim _ _
  · exact (q0 _).trans (congrArg₂ v (Fin.ext h0.symm) (Fin.ext h1.symm))
  · exact (q1 _).trans (congrArg₂ v (Fin.ext h0.symm) (Fin.ext h1.symm))
  · exact (q2 _).trans (congrArg₂ v (Fin.ext h0.symm) (Fin.ext h1.symm))
  · exact (q3 _).trans (congrArg₂ v (Fin.ext h0.symm) (Fin.ext h1.symm))

theorem arr_dw : (dats m 0 c).arrAt 4 cfg0.N = dwA (pK m c) (wK m c) (dK m c) := by
  refine (dats m 0 c).arrAt_eq_of_covers 4 _ (by decide +kernel) fun t _ y => ?_
  have hN := lt t
  blk_simp
  rw [after0_4]
  idx_vars y
  unfold outsAt0
  frame_out
  refine (tiles _ _ _ _ (fun a l => dw (pK m c) (wK m c) (dK m c) a (col t.val l (lt t))) (fun l => (pay2 _ _ l).trans ?_) (fun l => (pay1 _ _ l).trans ?_)
    (fun l => (pay10 _ _ _ _ l).trans ?_) (fun l => (pay8 _ _ _ _ l).trans ?_) y0 y1).trans ?_
  · exact Finset.sum_congr rfl fun r _ => congrArg₂ (fun a b : EReal => a * b) (part_grad m c t _ _ _ _ (fun l => by pointwise []) (fun l => by pointwise []) (fun l => by pointwise []) (fun l => by pointwise []) r l) (down_at m c 3 t r l)
  · exact Finset.sum_congr rfl fun r _ => congrArg₂ (fun a b : EReal => a * b) (part_grad m c t _ _ _ _ (fun l => by pointwise []) (fun l => by pointwise []) (fun l => by pointwise []) (fun l => by pointwise []) r l) (down_at m c 2 t r l)
  · exact Finset.sum_congr rfl fun r _ => congrArg₂ (fun a b : EReal => a * b) (part_grad m c t _ _ _ _ (fun l => by pointwise []) (fun l => by pointwise []) (fun l => by pointwise []) (fun l => by pointwise []) r l) (down_at m c 1 t r l)
  · exact Finset.sum_congr rfl fun r _ => congrArg₂ (fun a b : EReal => a * b) (part_grad m c t _ _ _ _ (fun l => by pointwise []) (fun l => by pointwise []) (fun l => by pointwise []) (fun l => by pointwise []) r l)
      ((read_0 m c t r l).trans (if_pos (Nat.zero_le _)).symm)
  · refine congrArg₂ (dw _ _ _) (Fin.ext ?_) (Fin.ext ?_)
    · blk_simp [(places t).2.2.2.2]
    · blk_simp [(places t).2.2.2.2]; dsimp only; omega

end Kernel

section Reference

open Cert.Reference19Ideal Cert.Reference19Ideal.Gen
open Cert.Proof.ConvFwd (under row0 row1 row2 row3 ref0 ref1 ref2 ref3)

abbrev onesR : Out := broadcastInDim S2048x2304 ![] bcast_S_S2048x2304 (constant (F := Ideal) S_ .f32 0x3F800000#32)
/-- The activation's factor, as the reference works it out. -/
abbrev sgR (u : Out) : Out := Host.divf (F := Ideal) (φ := .f32) onesR (addf (F := Ideal) (φ := .f32) onesR (Host.exp (F := Ideal) (φ := .f32) (Host.negf (F := Ideal) (φ := .f32) u)))
/-- The gradient before the activation, as the reference works it out. -/
abbrev turnR (u d : Out) : Out :=
  addf (F := Ideal) (φ := .f32) (mulf (F := Ideal) (φ := .f32) d (sgR u)) (mulf (F := Ideal) (φ := .f32) (mulf (F := Ideal) (φ := .f32) u d) (mulf (F := Ideal) (φ := .f32) (sgR u) (subf (F := Ideal) (φ := .f32) onesR (sgR u))))
def gradR (p : Proj) (w : Wgt) (d : Out) : Out := turnR (preR p w) d

theorem turnR_at (u d : Out) (i : Fin 2048) (j : Fin 2304) :
    (turnR u d (ix2 i j) : EReal) = d (ix2 i j) * Ideal.logistic (u (ix2 i j)) + u (ix2 i j) * d (ix2 i j) * (Ideal.logistic (u (ix2 i j)) * (1 - Ideal.logistic (u (ix2 i j)))) := by
  unfold Ideal.logistic
  pointwise []

theorem gradR_eq (p : Proj) (w : Wgt) (d : Out) (i : Fin 2048) (j : Fin 2304) (hd : (d (ix2 i j) : EReal) = (((d (ix2 i j) : EReal).toReal : ℝ) : EReal)) :
    (gradR p w d (ix2 i j) : EReal) = grad p w d i j := by
  unfold gradR grad
  rw [turnR_at, preR_eq]
  exact turn_eq _ _ hd

/-- A sum over the rows, kept as one row of four, the others zero. -/
abbrev lineR (x : Out) : Vec Ideal ⟨2, ![1, 2304]⟩ .f32 :=
  broadcastInDim S1x2304 ![1] bcast_S2304_S1x2304_1 (Host.reduceAdd (F := Ideal) (φ := .f32) (shapeCast _ (Host.reduceAdd (F := Ideal) (φ := .f32) x (constant (F := Ideal) S_ .f32 0x00000000#32) reducesTo_S2048x2304_S2304_d0 h_S_) shapeCasts_S2304_S1x2304) (constant (F := Ideal) S_ .f32 0x00000000#32) reducesTo_S1x2304_S2304_d0 h_S_)

theorem lineR_at (x : Out) (j : Fin 2304) : (lineR x (ix2 0 j) : EReal) = ∑ i : Fin 2048, x (ix2 i j) := by
  pointwise []
  exact Fin.sum_univ_one _

abbrev padsW (l3 l2 l1 l0 : Vec Ideal ⟨2, ![1, 2304]⟩ .f32) : Wgt :=
  addf (F := Ideal) (φ := .f32) (addf (F := Ideal) (φ := .f32) (addf (F := Ideal) (φ := .f32)
    (pad S4x2304 ![3, 0] ![0, 0] ![0, 0] l3 (constant (F := Ideal) S_ .f32 0x00000000#32) pads_S1x2304_S4x2304_300_000 h_S_)
    (pad S4x2304 ![2, 0] ![1, 0] ![0, 0] l2 (constant (F := Ideal) S_ .f32 0x00000000#32) pads_S1x2304_S4x2304_210_000 h_S_))
    (pad S4x2304 ![1, 0] ![2, 0] ![0, 0] l1 (constant (F := Ideal) S_ .f32 0x00000000#32) pads_S1x2304_S4x2304_120_000 h_S_))
    (pad S4x2304 ![0, 0] ![3, 0] ![0, 0] l0 (constant (F := Ideal) S_ .f32 0x00000000#32) pads_S1x2304_S4x2304_030_000 h_S_)

theorem padsW_at (l3 l2 l1 l0 : Vec Ideal ⟨2, ![1, 2304]⟩ .f32) (f : Fin 4 → EReal) (a : Fin 4) (j : Fin 2304)
    (h3 : (l3 (ix2 0 j) : EReal) = f 3) (h2 : (l2 (ix2 0 j) : EReal) = f 2) (h1 : (l1 (ix2 0 j) : EReal) = f 1) (h0 : (l0 (ix2 0 j) : EReal) = f 0) :
    (padsW l3 l2 l1 l0 (ix2 a j) : EReal) = f a := by
  refine Eq.trans (b := ((if h : 3 ≤ a.val ∧ a.val - 3 < 1 then (l3 (ix2 ⟨a.val - 3, h.2⟩ j) : EReal) else 0) + (if h : 2 ≤ a.val ∧ a.val - 2 < 1 then (l2 (ix2 ⟨a.val - 2, h.2⟩ j) : EReal) else 0)
    + (if h : 1 ≤ a.val ∧ a.val - 1 < 1 then (l1 (ix2 ⟨a.val - 1, h.2⟩ j) : EReal) else 0)) + (if h : a.val < 1 then (l0 (ix2 ⟨a.val, h⟩ j) : EReal) else 0)) (by pointwise []) ?_
  match a with
  | 0 => simpa using h0
  | 1 => simpa using h1
  | 2 => simpa using h2
  | 3 => simpa using h3

abbrev padsX (g3 g2 g1 g0 : Out) : Out :=
  extractStridedSlice S2048x2304 ![3, 0] (addf (F := Ideal) (φ := .f32) (addf (F := Ideal) (φ := .f32) (addf (F := Ideal) (φ := .f32)
    (pad S2051x2304 ![3, 0] ![0, 0] ![0, 0] g3 (constant (F := Ideal) S_ .f32 0x00000000#32) pads_S2048x2304_S2051x2304_300_000 h_S_)
    (pad S2051x2304 ![2, 0] ![1, 0] ![0, 0] g2 (constant (F := Ideal) S_ .f32 0x00000000#32) pads_S2048x2304_S2051x2304_210_000 h_S_))
    (pad S2051x2304 ![1, 0] ![2, 0] ![0, 0] g1 (constant (F := Ideal) S_ .f32 0x00000000#32) pads_S2048x2304_S2051x2304_120_000 h_S_))
    (pad S2051x2304 ![0, 0] ![3, 0] ![0, 0] g0 (constant (F := Ideal) S_ .f32 0x00000000#32) pads_S2048x2304_S2051x2304_030_000 h_S_)) slices_S2051x2304_S2048x2304_3_0

theorem padsX_at (g3 g2 g1 g0 : Out) (i : Fin 2048) (j : Fin 2304) :
    (padsX g3 g2 g1 g0 (ix2 i j) : EReal) = g3 (ix2 i j) + later 1 (fun i j => (g2 (ix2 i j) : EReal)) i j + later 2 (fun i j => (g1 (ix2 i j) : EReal)) i j + later 3 (fun i j => (g0 (ix2 i j) : EReal)) i j := by
  refine Eq.trans (b := (((g3 (ix2 i j) : EReal) + (if h : 2 ≤ 3 + i.val ∧ 3 + i.val - 2 < 2048 then (g2 (ix2 ⟨3 + i.val - 2, h.2⟩ j) : EReal) else 0))
    + (if h : 1 ≤ 3 + i.val ∧ 3 + i.val - 1 < 2048 then (g1 (ix2 ⟨3 + i.val - 1, h.2⟩ j) : EReal) else 0)) + (if h : 3 + i.val < 2048 then (g0 (ix2 ⟨3 + i.val, h⟩ j) : EReal) else 0)) (by pointwise []) ?_
  unfold later
  refine congrArg₂ _ (congrArg₂ _ (congrArg₂ _ rfl ?_) ?_) ?_
  · by_cases h : i.val + 1 < 2048
    · rw [dif_pos h, dif_pos (by omega)]
      exact congrArg (fun n : Fin 2048 => (g2 (ix2 n j) : EReal)) (Fin.ext (by dsimp only; omega))
    · rw [dif_neg h, dif_neg (by omega)]
  · by_cases h : i.val + 2 < 2048
    · rw [dif_pos h, dif_pos (by omega)]
      exact congrArg (fun n : Fin 2048 => (g1 (ix2 n j) : EReal)) (Fin.ext (by dsimp only; omega))
    · rw [dif_neg h, dif_neg (by omega)]
  · by_cases h : i.val + 3 < 2048
    · rw [dif_pos h, dif_pos (by omega)]
      exact congrArg (fun n : Fin 2048 => (g0 (ix2 n j) : EReal)) (Fin.ext (by dsimp only; omega))
    · rw [dif_neg h, dif_neg (by omega)]

def wideR (p : Proj) (w : Wgt) (d : Out) (e : Proj) : Wide :=
  truncf (F := Ideal) .bf16 (concatenate S2048x12288 1 [⟨S2048x2304, (extractStridedSlice S2048x2304 ![0, 0] e slices_S2048x12288_S2048x2304_0_0 : (⟨S2048x2304, .f32⟩ : BufTy).Contents (Elt Ideal))⟩,
    ⟨S2048x2304, (padsX (mulf (F := Ideal) (φ := .f32) (row3 w) (gradR p w d)) (mulf (F := Ideal) (φ := .f32) (row2 w) (gradR p w d)) (mulf (F := Ideal) (φ := .f32) (row1 w) (gradR p w d)) (mulf (F := Ideal) (φ := .f32) (row0 w) (gradR p w d)) : (⟨S2048x2304, .f32⟩ : BufTy).Contents (Elt Ideal))⟩,
    ⟨S2048x7680, (extractStridedSlice S2048x7680 ![0, 4608] e slices_S2048x12288_S2048x7680_0_4608 : (⟨S2048x7680, .f32⟩ : BufTy).Contents (Elt Ideal))⟩] concatenates_S2048x2304_S2048x2304_S2048x7680_S2048x12288_d1 : (⟨S2048x12288, .f32⟩ : BufTy).Contents (Elt Ideal)) bitsLt_bf16_f32

def wgtR (p : Proj) (w : Wgt) (d : Out) : Wgt :=
  padsW (lineR (mulf (F := Ideal) (φ := .f32) (gradR p w d) (extractStridedSlice S2048x2304 ![3, 0] (under p) slices_S2051x2304_S2048x2304_3_0 : Out)))
    (lineR (mulf (F := Ideal) (φ := .f32) (gradR p w d) (extractStridedSlice S2048x2304 ![2, 0] (under p) slices_S2051x2304_S2048x2304_2_0 : Out)))
    (lineR (mulf (F := Ideal) (φ := .f32) (gradR p w d) (extractStridedSlice S2048x2304 ![1, 0] (under p) slices_S2051x2304_S2048x2304_1_0 : Out)))
    (lineR (mulf (F := Ideal) (φ := .f32) (gradR p w d) (extractStridedSlice S2048x2304 ![0, 0] (under p) slices_S2051x2304_S2048x2304_0_0 : Out)))

/-- A row of weights times an array of numbers some rows later. -/
theorem later_mul (n : ℕ) (x : EReal) (f g : Fin 2048 → Fin 2304 → EReal) (i : Fin 2048) (j : Fin 2304) (h : ∀ i, f i j = x * g i j) : later n f i j = x * later n g i j := by
  unfold later
  split
  · exact h _
  · exact (mul_zero x).symm

theorem rows_at (w : Wgt) (g : Out) (i : Fin 2048) (j : Fin 2304) :
    ((mulf (F := Ideal) (φ := .f32) (row3 w) g (ix2 i j) : EReal) = w (ix2 3 j) * g (ix2 i j)) ∧ ((mulf (F := Ideal) (φ := .f32) (row2 w) g (ix2 i j) : EReal) = w (ix2 2 j) * g (ix2 i j))
      ∧ ((mulf (F := Ideal) (φ := .f32) (row1 w) g (ix2 i j) : EReal) = w (ix2 1 j) * g (ix2 i j)) ∧ ((mulf (F := Ideal) (φ := .f32) (row0 w) g (ix2 i j) : EReal) = w (ix2 0 j) * g (ix2 i j)) := by
  refine ⟨?_, ?_, ?_, ?_⟩ <;> pointwise []

theorem inner_at (p : Proj) (w : Wgt) (d : Out) (hd : ∀ i j, (d (ix2 i j) : EReal) = (((d (ix2 i j) : EReal).toReal : ℝ) : EReal)) (i : Fin 2048) (j : Fin 2304) :
    (padsX (mulf (F := Ideal) (φ := .f32) (row3 w) (gradR p w d)) (mulf (F := Ideal) (φ := .f32) (row2 w) (gradR p w d)) (mulf (F := Ideal) (φ := .f32) (row1 w) (gradR p w d)) (mulf (F := Ideal) (φ := .f32) (row0 w) (gradR p w d)) (ix2 i j) : EReal)
      = dx p w d i j := by
  refine (padsX_at _ _ _ _ i j).trans ?_
  have hg (i : Fin 2048) := gradR_eq p w d i j (hd i j)
  unfold dx
  rw [(rows_at w (gradR p w d) i j).1, hg, later_mul 1 (w (ix2 2 j)) _ (grad p w d) i j (fun i => by rw [(rows_at w (gradR p w d) i j).2.1, hg]),
    later_mul 2 (w (ix2 1 j)) _ (grad p w d) i j (fun i => by rw [(rows_at w (gradR p w d) i j).2.2.1, hg]), later_mul 3 (w (ix2 0 j)) _ (grad p w d) i j (fun i => by rw [(rows_at w (gradR p w d) i j).2.2.2, hg])]

theorem parts_at (g : Out) (e : Proj) (i : Fin 2048) (j : Fin 12288) :
    (truncf (F := Ideal) .bf16 (concatenate S2048x12288 1 [⟨S2048x2304, (extractStridedSlice S2048x2304 ![0, 0] e slices_S2048x12288_S2048x2304_0_0 : (⟨S2048x2304, .f32⟩ : BufTy).Contents (Elt Ideal))⟩,
      ⟨S2048x2304, (g : (⟨S2048x2304, .f32⟩ : BufTy).Contents (Elt Ideal))⟩,
      ⟨S2048x7680, (extractStridedSlice S2048x7680 ![0, 4608] e slices_S2048x12288_S2048x7680_0_4608 : (⟨S2048x7680, .f32⟩ : BufTy).Contents (Elt Ideal))⟩] concatenates_S2048x2304_S2048x2304_S2048x7680_S2048x12288_d1 : (⟨S2048x12288, .f32⟩ : BufTy).Contents (Elt Ideal)) bitsLt_bf16_f32 (ix2 i j) : EReal)
      = if h : 2304 ≤ j.val ∧ j.val < 4608 then (g (ix2 i ⟨j.val - 2304, by omega⟩) : EReal) else e (ix2 i j) := by
  refine Eq.trans (b := if h : j.val < 2304 then (e (ix2 i j) : EReal) else if h' : j.val - 2304 < 2304 then (g (ix2 i ⟨j.val - 2304, h'⟩) : EReal) else (e (ix2 i ⟨4608 + (j.val - 2304 - 2304), by omega⟩) : EReal)) (by pointwise []) ?_
  by_cases h : j.val < 2304
  · rw [dif_pos h, dif_neg (by omega)]
  · rw [dif_neg h]
    by_cases h' : j.val - 2304 < 2304
    · rw [dif_pos h', dif_pos (by omega)]
    · rw [dif_neg h', dif_neg (by omega)]
      exact congrArg (fun n : Fin 12288 => (e (ix2 i n) : EReal)) (Fin.ext (by dsimp only; omega))

theorem wideR_eq (p : Proj) (w : Wgt) (d : Out) (e : Proj) (hd : ∀ i j, (d (ix2 i j) : EReal) = (((d (ix2 i j) : EReal).toReal : ℝ) : EReal)) : wideR p w d e = dxA p w d e := by
  funext i
  idx_vars i
  refine (parts_at _ e i0 i1).trans (Eq.trans ?_ (dxA_at p w d e i0 i1).symm)
  by_cases h : 2304 ≤ i1.val ∧ i1.val < 4608
  · rw [dif_pos h, dif_pos h]
    exact inner_at p w d hd i0 _
  · rw [dif_neg h, dif_neg h]

theorem line_eq (p : Proj) (w : Wgt) (d : Out) (hd : ∀ i j, (d (ix2 i j) : EReal) = (((d (ix2 i j) : EReal).toReal : ℝ) : EReal)) (s : Out) (n : ℕ) (j : Fin 2304) (hs : ∀ i, (s (ix2 i j) : EReal) = earlier n p i j) :
    (lineR (mulf (F := Ideal) (φ := .f32) (gradR p w d) s) (ix2 0 j) : EReal) = ∑ i : Fin 2048, grad p w d i j * earlier n p i j := by
  refine (lineR_at _ j).trans (Finset.sum_congr rfl fun i _ => ?_)
  refine Eq.trans (b := (gradR p w d (ix2 i j) : EReal) * s (ix2 i j)) (by pointwise []) ?_
  rw [gradR_eq p w d i j (hd i j), hs]

theorem wgtR_eq (p : Proj) (w : Wgt) (d : Out) (hd : ∀ i j, (d (ix2 i j) : EReal) = (((d (ix2 i j) : EReal).toReal : ℝ) : EReal)) : wgtR p w d = dwA p w d := by
  funext i
  idx_vars i
  exact padsW_at _ _ _ _ (fun a => dw p w d a i1) i0 i1 (line_eq p w d hd _ 0 i1 fun i => ref3 p i i1) (line_eq p w d hd _ 1 i1 fun i => ref2 p i i1)
    (line_eq p w d hd _ 2 i1 fun i => ref1 p i i1) (line_eq p w d hd _ 3 i1 fun i => ref0 p i i1)

theorem run_wide (m : (ℓ : Loc nD τ sig) → Buf (Elt Ideal) ℓ) (c : Dev nD) :
    Cert.Reference19Ideal.Value.res_main_v82 (F := Ideal) m c = wideR (m ((c.tc : Thread nD τ).loc main_arg0)) (m ((c.tc : Thread nD τ).loc main_arg1)) (m ((c.tc : Thread nD τ).loc main_arg2)) (m ((c.tc : Thread nD τ).loc main_arg3)) := rfl
theorem run_wgt (m : (ℓ : Loc nD τ sig) → Buf (Elt Ideal) ℓ) (c : Dev nD) :
    Cert.Reference19Ideal.Value.res_main_v76 (F := Ideal) m c = wgtR (m ((c.tc : Thread nD τ).loc main_arg0)) (m ((c.tc : Thread nD τ).loc main_arg1)) (m ((c.tc : Thread nD τ).loc main_arg2)) := rfl

end Reference

theorem finite_facts : Cert.Pre_finite_dc.Facts := ⟨by decide⟩

/-- The incoming gradient's entries are real numbers. -/
theorem real_of_finite [Cert.Pre_finite_dc.Facts] (x0 : Proj) (x1 : Wgt) (x2 : Out) (x3 : Proj) (h0 : Cert.Pre_finite_dc.fn (F := Ideal) x0 x1 x2 x3 = fun _ => 1#1) (i : Fin 2048) (j : Fin 2304) :
    (x2 (ix2 i j) : EReal) = (((x2 (ix2 i j) : EReal).toReal : ℝ) : EReal) := by
  refine Cert.Proof.Sb.real_of_abs (Eq.trans ?_ (congrFun h0 (ix2 i j)))
  rw [← Cert.Proof.Sb.ofBits_top]
  pointwise [Cert.Pre_finite_dc.fn]
  rfl

open Cert.Kernel19Ideal.Gen in
theorem algebraic : Cert.algebraic_Kernel19Ideal_Reference19Ideal_pre_finite_dc (hKernel19Ideal := Cert.Kernel19Ideal.Gen.facts) (hReference19Ideal := Cert.Reference19Ideal.Gen.facts) (hPre_finite_dc := finite_facts) := by
  intro m ρ m' ρ' hpre hag
  have hd (c) := @real_of_finite finite_facts _ _ _ _ (hpre c)
  refine ⟨fun c => dxA (pK m c) (wK m c) (dK m c) (eK m c), fun c => dwA (pK m c) (wK m c) (dK m c),
    (θ_run Cert.Kernel19Ideal.defs _ _).mono (fun r h c => ⟨((h c).1 3).trans (arr_dx m c), ((h c).1 4).trans (arr_dw m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 Cert.Kernel19Ideal.main_arg3 (Pipeline.mem_restRefs_of Cert.Kernel19Ideal.main_arg3 (by decide) (by decide))).trans (V_main_arg3 m c)⟩) (Cert.Kernel19Ideal.Gen.run_main (F := Ideal) m ρ),
    (θ_run Cert.Reference19Ideal.defs _ _).mono (fun r h c => ?_) (Cert.Reference19Ideal.Value.run (F := Ideal) m' ρ')⟩
  obtain ⟨h0, h1, h2, h3⟩ := hag c
  refine ⟨(h c).1.trans ((run_wide m' c).trans ?_), (h c).2.1.trans ((run_wgt m' c).trans ?_), (h c).2.2⟩
  · rw [h0, h1, h2, h3]
    exact wideR_eq _ _ _ _ (hd c)
  · rw [h0, h1, h2]
    exact wgtR_eq _ _ _ (hd c)

end Cert.Proof.ConvBwd

end
-- ==== Proof.RmsReal.lean ====
/- The slope of the norm: the two ways of writing it agree. -/
module

public import Idealize.ShloMosaic.Lib.Pointwise

@[expose] public section

set_option maxRecDepth 16384

noncomputable section

namespace Cert.Proof.RmsReal

open Idealize.ShloMosaic

theorem width : Ideal.ofBits .f32 0x45000000#32 = ((2048 : ℝ) : EReal) := by
  simp [Ideal.ofBits, Ideal.ieee]
  rw [← EReal.coe_mul]
  norm_num
theorem minusHalf : Ideal.ofBits .f32 0xBF000000#32 = ((-(1 / 2) : ℝ) : EReal) := by
  simp [Ideal.ofBits, Ideal.ieee]
  rw [← EReal.coe_mul]
  norm_num
theorem small : ∃ e : ℝ, 0 < e ∧ Ideal.ofBits .f32 0x358637BD#32 = ((e : ℝ) : EReal) := by
  refine ⟨_, ?_, by simp [Ideal.ofBits, Ideal.ieee]; rfl⟩
  norm_num

/-- A factor that is no infinity and not negative comes out of a sum. -/
theorem sum_mul_real {n : ℕ} (f : Fin n → EReal) (r : ℝ) (hr : 0 ≤ r) : ∑ k, f k * (r : EReal) = (∑ k, f k) * (r : EReal) := by
  let φ : EReal →+ EReal := { toFun := fun x => x * (r : EReal), map_zero' := zero_mul _, map_add' := fun x y => EReal.right_distrib_of_nonneg_of_ne_top (by exact_mod_cast hr) (EReal.coe_ne_top r) x y }
  exact (map_sum φ f Finset.univ).symm

/-- A sum of squares is not negative. -/
theorem sum_sq_nonneg {n : ℕ} (f : Fin n → EReal) : 0 ≤ ∑ k, f k * f k :=
  Finset.sum_nonneg fun k _ => by
    rcases le_total 0 (f k) with h | h
    · exact mul_nonneg h h
    · rw [← neg_mul_neg]
      have h' : 0 ≤ -f k := by rw [EReal.le_neg, neg_zero]; exact h
      exact mul_nonneg h' h'

theorem twice (Z : EReal) (d : ℝ) (hd : 0 ≤ d) : Z * ((-d : ℝ) : EReal) + Z * ((-d : ℝ) : EReal) = Z * ((-(d + d) : ℝ) : EReal) := by
  have h : 0 ≤ (d : EReal) := by exact_mod_cast hd
  have e : ∀ a : ℝ, Z * ((-a : ℝ) : EReal) = (-Z) * (a : EReal) := fun a => by rw [EReal.coe_neg, mul_neg, neg_mul]
  rw [e, e, EReal.coe_add, EReal.left_distrib_of_nonneg h h]

/-- The slope where the row's factor is a positive number. -/
theorem slope_real (r q : ℝ) (hr : 0 < r) (hq : 0 < q) (hrq : r * r * q = 1) (X D A : EReal) :
    (r : EReal) * (D - X * (r : EReal) * Ideal.div (A * (r : EReal)) ((2048 : ℝ) : EReal))
      = D * (r : EReal) + X * Ideal.div (A * (((-(1 / 2) : ℝ) : EReal) * Ideal.div (r : EReal) (q : EReal))) ((2048 : ℝ) : EReal)
        + Ideal.div (A * (((-(1 / 2) : ℝ) : EReal) * Ideal.div (r : EReal) (q : EReal))) ((2048 : ℝ) : EReal) * X := by
  have hr' : (0 : EReal) ≤ (r : EReal) := by exact_mod_cast hr.le
  have h2 : (2048 : ℝ) ≠ 0 := by norm_num
  simp only [Ideal.div_coe h2, Ideal.div_coe hq.ne']
  have e1 : X * (r : EReal) * (A * (r : EReal) * ((1 / 2048 : ℝ) : EReal)) = X * A * ((r * r * (1 / 2048) : ℝ) : EReal) := by
    rw [EReal.coe_mul, EReal.coe_mul]; ac_rfl
  have e2 : X * (A * (((-(1 / 2) : ℝ) : EReal) * ((r : EReal) * ((1 / q : ℝ) : EReal))) * ((1 / 2048 : ℝ) : EReal)) = X * A * ((-(1 / 2 * r * (1 / q) * (1 / 2048)) : ℝ) : EReal) := by
    rw [show (-(1 / 2 * r * (1 / q) * (1 / 2048)) : ℝ) = -(1 / 2) * (r * (1 / q)) * (1 / 2048) by ring, EReal.coe_mul, EReal.coe_mul, EReal.coe_mul]; ac_rfl
  rw [e1, mul_comm (A * _ * _) X, e2, add_assoc, twice _ _ (by positivity), sub_eq_add_neg, EReal.left_distrib_of_nonneg_of_ne_top hr' (EReal.coe_ne_top r), mul_comm (r : EReal) D]
  refine congrArg (fun a => D * (r : EReal) + a) ?_
  rw [← mul_neg, ← EReal.coe_neg, mul_comm (r : EReal), mul_assoc, ← EReal.coe_mul]
  refine congrArg (fun a : ℝ => X * A * (a : EReal)) ?_
  have : 1 / q = r * r := by field_simp; linarith
  rw [this]; ring

/-- The slope of a row, as the call and as the reference write it. -/
theorem slope {n : ℕ} (x d : Fin n → EReal) (X D : EReal) (q r : EReal)
    (hq : q = Ideal.div (∑ k, x k * x k) (Ideal.ofBits .f32 0x45000000#32) + Ideal.ofBits .f32 0x358637BD#32) (hr : r = Ideal.rsqrt q) :
    r * (D - X * r * Ideal.div (∑ k, d k * (x k * r)) (Ideal.ofBits .f32 0x45000000#32))
      = D * r + X * Ideal.div ((∑ k, x k * d k) * (Ideal.ofBits .f32 0xBF000000#32 * Ideal.div r q)) (Ideal.ofBits .f32 0x45000000#32)
        + Ideal.div ((∑ k, x k * d k) * (Ideal.ofBits .f32 0xBF000000#32 * Ideal.div r q)) (Ideal.ofBits .f32 0x45000000#32) * X := by
  obtain ⟨e, he, hes⟩ := small
  rw [width, minusHalf]
  rw [width, hes] at hq
  have h2 : (2048 : ℝ) ≠ 0 := by norm_num
  have hs := sum_sq_nonneg x
  generalize (∑ k, x k * x k) = s at hq hs
  induction s using EReal.rec with
  | bot => exact absurd hs (by simp)
  | top =>
    have hq' : q = ⊤ := by
      rw [hq, Ideal.div_coe h2, EReal.top_mul_coe_of_pos (by norm_num), EReal.top_add_coe]
    have hr' : r = 0 := by rw [hr, hq', Ideal.rsqrt_top]
    have h0 : Ideal.div 0 q = 0 := by rw [hq']; unfold Ideal.div; rw [if_neg (by simp)]; simp
    rw [hr', h0]
    simp [Ideal.div_coe h2]
  | coe s =>
    have hs' : 0 ≤ s := by exact_mod_cast hs
    have hq' : q = ((s * (1 / 2048) + e : ℝ) : EReal) := by
      rw [hq, Ideal.div_coe h2, ← EReal.coe_mul, ← EReal.coe_add]
    have hqp : 0 < s * (1 / 2048) + e := by positivity
    generalize s * (1 / 2048) + e = t at hq' hqp
    have hsq := Real.sqrt_pos.mpr hqp
    have hr' : r = (((Real.sqrt t)⁻¹ : ℝ) : EReal) := by
      rw [hr, hq', Ideal.rsqrt_coe, if_neg (by linarith), if_neg (by linarith)]
    rw [hr', hq']
    have hA : ∑ k, d k * (x k * (((Real.sqrt t)⁻¹ : ℝ) : EReal)) = (∑ k, x k * d k) * (((Real.sqrt t)⁻¹ : ℝ) : EReal) := by
      rw [← sum_mul_real _ _ (by positivity)]
      exact Finset.sum_congr rfl fun k _ => by ac_rfl
    rw [hA]
    refine slope_real _ t (by positivity) hqp ?_ X D _
    have : Real.sqrt t * Real.sqrt t = t := Real.mul_self_sqrt hqp.le
    field_simp
    nlinarith [this]

end Cert.Proof.RmsReal

end
-- ==== Proof.RmsBwd.lean ====
/- The norm's gradients: what the call leaves, and the reference. -/
module

public import proofs.«01_k».proof.Proof.Gen.Kernel21Ideal.Frame
public import proofs.«01_k».proof.Proof.Gen.Reference21Ideal.Run
public import proofs.«01_k».proof.Proof.Dx
public import proofs.«01_k».proof.Proof.RmsReal
public import proofs.«01_k».proof.Proof.Tools

@[expose] public section

set_option maxRecDepth 16384

noncomputable section

namespace Cert.Proof.RmsBwd

open Idealize.ShloMosaic Idealize.ShloMosaic.TcCoe Idealize.ShloMosaic.StableHlo Idealize.SL.Sem Idealize.ShloMosaic.Tactic

abbrev Act : Type := Vec Ideal ⟨2, ![2048, 2048]⟩ .f32
abbrev Gain : Type := Vec Ideal ⟨2, ![1, 2048]⟩ .f32

/-- A row's mean square with the small constant, and the row's factor. -/
def meanSq (x : Act) (i : Fin 2048) : EReal := Ideal.div (∑ k : Fin 2048, (x (ix2 i k) : EReal) * (x (ix2 i k) : EReal)) (Ideal.ofBits .f32 0x45000000#32) + Ideal.ofBits .f32 0x358637BD#32
def factor (x : Act) (i : Fin 2048) : EReal := Ideal.rsqrt (meanSq x i)
/-- The gradient of the scaled row, before the scaling. -/
def inner (d : Act) (g : Gain) (i k : Fin 2048) : EReal := d (ix2 i k) * g (ix2 0 k)
/-- The gradient of the input, that on top of the other branch's, and the gradient of the gain. -/
def slope (d x : Act) (g : Gain) (i j : Fin 2048) : EReal :=
  factor x i * (inner d g i j - x (ix2 i j) * factor x i * Ideal.div (∑ k : Fin 2048, inner d g i k * (x (ix2 i k) * factor x i)) (Ideal.ofBits .f32 0x45000000#32))
def dx (d x : Act) (g : Gain) (e : Act) (i j : Fin 2048) : EReal := e (ix2 i j) + slope d x g i j
def share (d x : Act) (j i : Fin 2048) : EReal := d (ix2 i j) * (x (ix2 i j) * factor x i)
def dg (d x : Act) (j : Fin 2048) : EReal := ∑ i : Fin 2048, share d x j i
def slopeA (d x : Act) (g : Gain) : Act := fun i => slope d x g (i 0) (i 1)
def dxA (d x : Act) (g : Gain) (e : Act) : Act := fun i => dx d x g e (i 0) (i 1)
def dgA (d x : Act) : Gain := fun i => dg d x (i 1)

section Kernel

open Cert.Kernel21Ideal Cert.Kernel21Ideal.Gen

abbrev Block : Type := Vec Ideal ⟨2, ![256, 2048]⟩ .f32

/-- A block's row's factor. -/
def factorB (x : Block) (r : Fin 256) : EReal := Ideal.rsqrt (Ideal.div (∑ k : Fin 2048, (x (ix2 r k) : EReal) * (x (ix2 r k) : EReal)) (Ideal.ofBits .f32 0x45000000#32) + Ideal.ofBits .f32 0x358637BD#32)

theorem pay2 (x : Block) (r : Fin 256) : (k0_pay2 x (ix2 r 0) : EReal) = factorB x r := by
  unfold factorB
  pointwise [k0_pay2]
theorem pay3 (x : Block) (r : Fin 256) (l : Fin 2048) : (k0_pay3 x (ix2 r l) : EReal) = x (ix2 r l) * factorB x r := by
  rw [← pay2]
  pointwise [k0_pay3]
theorem pay4 (x d : Block) (a : Gain) (l : Fin 2048) : (k0_pay4 x d a (ix2 0 l) : EReal) = a (ix2 0 l) + ∑ r : Fin 256, d (ix2 r l) * (x (ix2 r l) * factorB x r) := by
  refine Eq.trans (b := (a (ix2 0 l) : EReal) + ∑ r : Fin 256, (d (ix2 r l) : EReal) * (k0_pay3 x (ix2 r l) : EReal)) (by pointwise [k0_pay4]) ?_
  simp only [pay3]
theorem pay5 (x d : Block) (g : Gain) (e : Block) (r : Fin 256) (l : Fin 2048) : (k0_pay5 x d g e (ix2 r l) : EReal)
    = e (ix2 r l) + factorB x r * (d (ix2 r l) * g (ix2 0 l) - x (ix2 r l) * factorB x r * Ideal.div (∑ k : Fin 2048, d (ix2 r k) * g (ix2 0 k) * (x (ix2 r k) * factorB x r)) (Ideal.ofBits .f32 0x45000000#32)) := by
  refine Eq.trans (b := (e (ix2 r l) : EReal) + k0_pay2 x (ix2 r 0) * ((d (ix2 r l) : EReal) * g (ix2 0 l) - (k0_pay3 x (ix2 r l) : EReal) * Ideal.div (∑ k : Fin 2048, (d (ix2 r k) : EReal) * g (ix2 0 k) * (k0_pay3 x (ix2 r k) : EReal)) (Ideal.ofBits .f32 0x45000000#32))) (by pointwise [k0_pay5]) ?_
  simp only [pay3, pay2]

variable (m : (ℓ : Loc nD τ sig) → Buf (Elt Ideal) ℓ) (c : Dev nD)

abbrev dK : Act := m ((c.tc : Thread nD τ).loc main_arg0)
abbrev xK : Act := m ((c.tc : Thread nD τ).loc main_arg1)
abbrev gK : Gain := m ((c.tc : Thread nD τ).loc main_arg2)
abbrev eK : Act := m ((c.tc : Thread nD τ).loc main_arg3)

/-- Where the blocks lie. -/
theorem places : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, _)

theorem lt (t : Fin cfg0.N) : t.val < 8 := t.isLt

/-- The row a place of a point's block stands for. -/
abbrev row (t : ℕ) (r : Fin 256) (h : t < 8) : Fin 2048 := ⟨256 * t + r.val, by omega⟩

abbrev dB (t : Fin cfg0.N) : Block := iblk m c 0 t
abbrev xB (t : Fin cfg0.N) : Block := iblk m c 1 t
abbrev gB (t : Fin cfg0.N) : Gain := iblk m c 2 t
abbrev eB (t : Fin cfg0.N) : Block := iblk m c 3 t

theorem read_0 (t : Fin cfg0.N) (r : Fin 256) (l : Fin 2048) : (dB m c t (ix2 r l) : EReal) = dK m c (ix2 (row t.val r (lt t)) l) := by
  refine Eq.trans (b := ((V m c main_arg0 : Act) (ix2 (row t.val r (lt t)) l) : EReal)) ?_ (congrFun (V_main_arg0 m c) _)
  blk_ext [dB, iblk, (places t).1]
theorem read_1 (t : Fin cfg0.N) (r : Fin 256) (l : Fin 2048) : (xB m c t (ix2 r l) : EReal) = xK m c (ix2 (row t.val r (lt t)) l) := by
  refine Eq.trans (b := ((V m c main_arg1 : Act) (ix2 (row t.val r (lt t)) l) : EReal)) ?_ (congrFun (V_main_arg1 m c) _)
  blk_ext [xB, iblk, (places t).2.1]
theorem read_2 (t : Fin cfg0.N) (l : Fin 2048) : (gB m c t (ix2 0 l) : EReal) = gK m c (ix2 0 l) := by
  refine Eq.trans (b := ((V m c main_arg2 : Gain) (ix2 0 l) : EReal)) ?_ (congrFun (V_main_arg2 m c) _)
  blk_ext [gB, iblk, (places t).2.2.1]
theorem read_3 (t : Fin cfg0.N) (r : Fin 256) (l : Fin 2048) : (eB m c t (ix2 r l) : EReal) = eK m c (ix2 (row t.val r (lt t)) l) := by
  refine Eq.trans (b := ((V m c main_arg3 : Act) (ix2 (row t.val r (lt t)) l) : EReal)) ?_ (congrFun (V_main_arg3 m c) _)
  blk_ext [eB, iblk, (places t).2.2.2.1]

theorem factor_at (t : Fin cfg0.N) (r : Fin 256) : factorB (xB m c t) r = factor (xK m c) (row t.val r (lt t)) := by
  unfold factorB factor meanSq
  refine congrArg (fun a : EReal => Ideal.rsqrt (Ideal.div a _ + _)) (Finset.sum_congr rfl fun k _ => ?_)
  rw [read_1 m c t r k]

/-- What a point leaves of the input's gradient. -/
theorem part_dx (t : Fin cfg0.N) (r : Fin 256) (l : Fin 2048) :
    (k0_pay5 (xB m c t) (dB m c t) (gB m c t) (eB m c t) (ix2 r l) : EReal) = dx (dK m c) (xK m c) (gK m c) (eK m c) (row t.val r (lt t)) l := by
  refine (pay5 _ _ _ _ r l).trans ?_
  unfold dx slope inner
  rw [factor_at]
  simp only [read_0, read_1, read_2, read_3]

/-- What a point adds to the gain's gradient. -/
theorem part_dg (t : Fin cfg0.N) (a : Gain) (l : Fin 2048) :
    (k0_pay4 (xB m c t) (dB m c t) a (ix2 0 l) : EReal) = a (ix2 0 l) + ∑ r : Fin 256, share (dK m c) (xK m c) l (row t.val r (lt t)) := by
  refine (pay4 _ _ _ l).trans ?_
  refine congrArg (fun b : EReal => a (ix2 0 l) + b) (Finset.sum_congr rfl fun r _ => ?_)
  unfold share
  rw [read_0, read_1, factor_at]

theorem pay1 (l : Fin 2048) : ((k0_pay1 (F := Ideal)) (ix2 0 l) : EReal) = 0 := by
  pointwise [k0_pay1]

/-- The input's gradient at each point. -/
theorem out_dx (t : Fin cfg0.N) (r : Fin 256) (l : Fin 2048) :
    ((outsAt0 m c t.val t.isLt).1 (ix2 r l) : EReal) = dx (dK m c) (xK m c) (gK m c) (eK m c) (row t.val r (lt t)) l := by
  by_cases h : t.val % 8 = 0
  · rw [outsAt0_A m c t h]
    unfold out0_A_4
    frame_out
    exact part_dx m c t r l
  · rw [outsAt0_B m c t h]
    unfold out0_B_4
    frame_out
    exact part_dx m c t r l

/-- The running sum of the gain's gradient. -/
theorem out_dg (n : ℕ) : ∀ (hn : n < cfg0.N) (l : Fin 2048),
    ((outsAt0 m c n hn).2 (ix2 0 l) : EReal) = ∑ p : Fin (n + 1), ∑ r : Fin 256, share (dK m c) (xK m c) l (row p.val r (by have : n < 8 := hn; omega)) := by
  induction n with
  | zero =>
    intro hn l
    rw [outsAt0_A m c ⟨0, hn⟩ (by dsimp only)]
    unfold out0_A_5
    frame_out
    refine (part_dg m c ⟨0, hn⟩ _ l).trans ?_
    rw [Fin.sum_univ_one]
    refine (congrArg (fun b : EReal => b + _) (pay1 l)).trans (zero_add _)
  | succ n ih =>
    intro hn l
    have h8 : n + 1 < 8 := hn
    rw [outsAt0_B m c ⟨n + 1, hn⟩ (by dsimp only; omega)]
    unfold out0_B_5
    frame_out
    refine (part_dg m c ⟨n + 1, hn⟩ _ l).trans ?_
    refine Eq.trans ?_ (Fin.sum_univ_castSucc _).symm
    exact congrArg (fun b : EReal => b + _) (ih _ l)

theorem arr_dx : (dats m 0 c).arrAt 4 cfg0.N = dxA (dK m c) (xK m c) (gK m c) (eK m c) := by
  refine (dats m 0 c).arrAt_eq_of_covers 4 _ (by decide +kernel) fun t _ y => ?_
  have hN := lt t
  blk_simp
  rw [after0_4]
  idx_vars y
  refine (out_dx m c t y0 y1).trans ?_
  refine congrArg₂ (dx _ _ _ _) (Fin.ext ?_) (Fin.ext ?_)
  · blk_simp [(places t).2.2.2.2.1]; dsimp only; omega
  · blk_simp [(places t).2.2.2.2.1]

theorem arr_dg : (dats m 0 c).arrAt 5 cfg0.N = dgA (dK m c) (xK m c) := by
  refine (dats m 0 c).arrAt_eq_of_covers 5 _ (by decide +kernel) fun t hf y => ?_
  have hN := lt t
  have h7 : t.val % 8 = 7 := (flush0_5 t).mp hf
  blk_simp
  rw [after0_5]
  idx_vars y
  obtain rfl : y0 = 0 := Subsingleton.elim _ _
  refine (out_dg m c t.val t.isLt y1).trans ?_
  have key : ∀ (n : ℕ) (hn : n < 8), n = 7 → ∑ p : Fin (n + 1), ∑ r : Fin 256, share (dK m c) (xK m c) y1 (row p.val r (by omega)) = dg (dK m c) (xK m c) y1 := by
    intro n hn e
    subst e
    exact (Dx.sum_stretches (a := 8) (b := 256) (by decide) (fun i => share (dK m c) (xK m c) y1 i)).symm
  refine (key t.val hN (by omega)).trans ?_
  refine congrArg (dg _ _) (Fin.ext ?_)
  blk_simp [(places t).2.2.2.2.2]

end Kernel

section Reference

open Cert.Reference21Ideal Cert.Reference21Ideal.Gen

abbrev Col : Type := Vec Ideal ⟨2, ![2048, 1]⟩ .f32
abbrev Row : Type := Vec Ideal ⟨1, ![2048]⟩ .f32

/-- The mean squares, the factors, and the two arrays the input's gradient is added of. -/
def spreadR (x : Act) : Col := addf (F := Ideal) (φ := .f32) (Host.divf (F := Ideal) (φ := .f32) (broadcastInDim S2048x1 ![0] bcast_S2048_S2048x1_0 (Host.reduceAdd (F := Ideal) (φ := .f32) (mulf (F := Ideal) (φ := .f32) x x) (constant (F := Ideal) S_ .f32 0x00000000#32) reducesTo_S2048x2048_S2048_d1 h_S_)) (broadcastInDim S2048x1 ![] bcast_S_S2048x1 (constant (F := Ideal) S_ .f32 0x45000000#32))) (broadcastInDim S2048x1 ![] bcast_S_S2048x1 (constant (F := Ideal) S_ .f32 0x358637BD#32))
def innerR (d : Act) (g : Gain) : Act := mulf (F := Ideal) (φ := .f32) d (broadcastInDim S2048x2048 ![0, 1] bcast_S1x2048_S2048x2048_0_1 g)
def alongR (x n : Act) : Row := Host.reduceAdd (F := Ideal) (φ := .f32) (mulf (F := Ideal) (φ := .f32) x n) (constant (F := Ideal) S_ .f32 0x00000000#32) reducesTo_S2048x2048_S2048_d1 h_S_
def backR (a : Row) (q : Col) : Row := Host.reduceAdd (F := Ideal) (φ := .f32) (Host.divf (F := Ideal) (φ := .f32) (mulf (F := Ideal) (φ := .f32) (shapeCast _ a shapeCasts_S2048_S2048x1 : Col) (mulf (F := Ideal) (φ := .f32) (broadcastInDim S2048x1 ![] bcast_S_S2048x1 (constant (F := Ideal) S_ .f32 0xBF000000#32)) (Host.divf (F := Ideal) (φ := .f32) (Host.rsqrt (F := Ideal) (φ := .f32) q) q))) (broadcastInDim S2048x1 ![] bcast_S_S2048x1 (constant (F := Ideal) S_ .f32 0x45000000#32))) (constant (F := Ideal) S_ .f32 0x00000000#32) reducesTo_S2048x1_S2048_d1 h_S_
def slopeR (d x : Act) (g : Gain) : Act :=
  addf (F := Ideal) (φ := .f32) (addf (F := Ideal) (φ := .f32) (mulf (F := Ideal) (φ := .f32) (innerR d g) (broadcastInDim S2048x2048 ![0, 1] bcast_S2048x1_S2048x2048_0_1 (Host.rsqrt (F := Ideal) (φ := .f32) (spreadR x))))
    (mulf (F := Ideal) (φ := .f32) x (broadcastInDim S2048x2048 ![0] bcast_S2048_S2048x2048_0 (backR (alongR x (innerR d g)) (spreadR x)))))
    (mulf (F := Ideal) (φ := .f32) (broadcastInDim S2048x2048 ![0] bcast_S2048_S2048x2048_0 (backR (alongR x (innerR d g)) (spreadR x))) x)
def dxR (d x : Act) (g : Gain) (e : Act) : Act := addf (F := Ideal) (φ := .f32) e (slopeR d x g)
def dgR (d x : Act) : Gain :=
  shapeCast _ (Host.reduceAdd (F := Ideal) (φ := .f32) (mulf (F := Ideal) (φ := .f32) (mulf (F := Ideal) (φ := .f32) x (broadcastInDim S2048x2048 ![0, 1] bcast_S2048x1_S2048x2048_0_1 (Host.rsqrt (F := Ideal) (φ := .f32) (spreadR x)))) d) (constant (F := Ideal) S_ .f32 0x00000000#32) reducesTo_S2048x2048_S2048_d0 h_S_) shapeCasts_S2048_S1x2048

theorem spread_at (x : Act) (i : Fin 2048) : (spreadR x (ix2 i 0) : EReal) = meanSq x i := by
  unfold meanSq
  pointwise [spreadR]
theorem inner_at (d : Act) (g : Gain) (i k : Fin 2048) : (innerR d g (ix2 i k) : EReal) = inner d g i k := by
  unfold inner
  pointwise [innerR]
theorem along_at (x n : Act) (i : Fin 2048) : (alongR x n (ix1 i) : EReal) = ∑ k : Fin 2048, x (ix2 i k) * n (ix2 i k) := by
  pointwise [alongR]
theorem back_at (a : Row) (q : Col) (i : Fin 2048) : (backR a q (ix1 i) : EReal)
    = Ideal.div (a (ix1 i) * (Ideal.ofBits .f32 0xBF000000#32 * Ideal.div (Ideal.rsqrt (q (ix2 i 0))) (q (ix2 i 0)))) (Ideal.ofBits .f32 0x45000000#32) := by
  pointwise [backR]
  exact Fin.sum_univ_one _
theorem slope_at (d x : Act) (g : Gain) (i j : Fin 2048) : (slopeR d x g (ix2 i j) : EReal)
    = innerR d g (ix2 i j) * Ideal.rsqrt (spreadR x (ix2 i 0)) + x (ix2 i j) * backR (alongR x (innerR d g)) (spreadR x) (ix1 i) + backR (alongR x (innerR d g)) (spreadR x) (ix1 i) * x (ix2 i j) := by
  pointwise [slopeR]
theorem dx_at (d x : Act) (g : Gain) (e : Act) (i j : Fin 2048) : (dxR d x g e (ix2 i j) : EReal) = e (ix2 i j) + slopeR d x g (ix2 i j) := by
  pointwise [dxR]
theorem dg_at (d x : Act) (j : Fin 2048) : (dgR d x (ix2 0 j) : EReal) = ∑ i : Fin 2048, x (ix2 i j) * Ideal.rsqrt (spreadR x (ix2 i 0)) * d (ix2 i j) := by
  pointwise [dgR]

theorem ref_slope (d x : Act) (g : Gain) : slopeR d x g = slopeA d x g := by
  funext i
  idx_vars i
  refine (slope_at d x g i0 i1).trans ?_
  rw [back_at, along_at, spread_at]
  simp only [inner_at]
  exact (RmsReal.slope (fun k => (x (ix2 i0 k) : EReal)) (inner d g i0) (x (ix2 i0 i1)) (inner d g i0 i1) (meanSq x i0) (factor x i0) rfl rfl).symm

theorem ref_dx (d x : Act) (g : Gain) (e : Act) : dxR d x g e = dxA d x g e := by
  funext i
  idx_vars i
  refine (dx_at d x g e i0 i1).trans ?_
  rw [ref_slope]
  rfl

theorem ref_dg (d x : Act) : dgR d x = dgA d x := by
  funext i
  idx_vars i
  obtain rfl : i0 = 0 := Subsingleton.elim _ _
  refine (dg_at d x i1).trans ?_
  simp only [spread_at]
  exact Finset.sum_congr rfl fun k _ => mul_comm (G := EReal) _ _

end Reference

open Cert.Kernel21Ideal.Gen in
theorem algebraic : Cert.algebraic_Kernel21Ideal_Reference21Ideal (hKernel21Ideal := Cert.Kernel21Ideal.Gen.facts) (hReference21Ideal := Cert.Reference21Ideal.Gen.facts) := by
  intro m ρ m' ρ' _ hag
  refine ⟨fun c => dxA (dK m c) (xK m c) (gK m c) (eK m c), fun c => dgA (dK m c) (xK m c), (θ_run Cert.Kernel21Ideal.defs _ _).mono (fun r h c => ⟨((h c).1 4).trans (arr_dx m c), ((h c).1 5).trans (arr_dg m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (Cert.Kernel21Ideal.Gen.run_main (F := Ideal) m ρ),
    (θ_run Cert.Reference21Ideal.defs _ _).mono (fun r h c => ?_) (Cert.Reference21Ideal.Value.run (F := Ideal) m' ρ')⟩
  obtain ⟨h0, h1, h2, h3⟩ := hag c
  refine ⟨(h c).1.trans ((ref_dx _ _ _ _).trans ?_), (h c).2.1.trans ((ref_dg _ _).trans ?_), (h c).2.2⟩
  · rw [h0, h1, h2, h3]
  · rw [h0, h1]

end Cert.Proof.RmsBwd

end
-- ==== Proof.RmsFwd.lean ====
/- The norm over the features: what the call leaves, and the reference. -/
module

public import proofs.«01_k».proof.Proof.Gen.Kernel22Ideal.Frame
public import proofs.«01_k».proof.Proof.Gen.Reference22Ideal.Run
public import proofs.«01_k».proof.Proof.Tools

@[expose] public section

set_option maxRecDepth 16384

noncomputable section

namespace Cert.Proof.RmsFwd

open Idealize.ShloMosaic Idealize.ShloMosaic.TcCoe Idealize.ShloMosaic.StableHlo Idealize.SL.Sem Idealize.ShloMosaic.Tactic

abbrev Act : Type := Vec Ideal ⟨2, ![2048, 2048]⟩ .f32
abbrev Gain : Type := Vec Ideal ⟨2, ![1, 2048]⟩ .f32
abbrev Out : Type := Vec Ideal ⟨2, ![2048, 2048]⟩ .bf16

/-- A row's mean square with the small constant, the row's factor, and the scaled row. -/
def meanSq (x : Act) (i : Fin 2048) : EReal := Ideal.div (∑ k : Fin 2048, (x (ix2 i k) : EReal) * (x (ix2 i k) : EReal)) (Ideal.ofBits FTy.f32 0x45000000#32) + Ideal.ofBits FTy.f32 0x358637BD#32
def factor (x : Act) (i : Fin 2048) : EReal := Ideal.rsqrt (meanSq x i)
def normed (x : Act) (g : Gain) (i j : Fin 2048) : EReal := x (ix2 i j) * factor x i * g (ix2 0 j)
def normedA (x : Act) (g : Gain) : Out := fun i => normed x g (i 0) (i 1)

section Kernel

open Cert.Kernel22Ideal Cert.Kernel22Ideal.Gen

abbrev Block : Type := Vec Ideal ⟨2, ![256, 2048]⟩ .f32

theorem pay1 (x : Block) (g : Gain) (r : Fin 256) (l : Fin 2048) :
    (k0_pay1 x g (ix2 r l) : EReal) = x (ix2 r l) * Ideal.rsqrt (Ideal.div (∑ k : Fin 2048, (x (ix2 r k) : EReal) * (x (ix2 r k) : EReal)) (Ideal.ofBits FTy.f32 0x45000000#32) + Ideal.ofBits FTy.f32 0x358637BD#32) * g (ix2 0 l) := by
  pointwise [k0_pay1]

variable (m : (ℓ : Loc nD τ sig) → Buf (Elt Ideal) ℓ) (c : Dev nD)

abbrev xK : Act := m ((c.tc : Thread nD τ).loc main_arg0)
abbrev gK : Gain := m ((c.tc : Thread nD τ).loc main_arg1)

/-- Where the blocks lie. -/
theorem places : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 8 := t.isLt

/-- The row a place of a point's block stands for. -/
abbrev row (t : ℕ) (r : Fin 256) (h : t < 8) : Fin 2048 := ⟨256 * t + r.val, by omega⟩

abbrev xB (t : Fin cfg0.N) : Block := iblk m c 0 t
abbrev gB (t : Fin cfg0.N) : Gain := iblk m c 1 t

theorem read_0 (t : Fin cfg0.N) (r : Fin 256) (l : Fin 2048) : (xB m c t (ix2 r l) : EReal) = xK m c (ix2 (row t.val r (lt t)) l) := by
  refine Eq.trans (b := ((V m c main_arg0 : Act) (ix2 (row t.val r (lt t)) l) : EReal)) ?_ (congrFun (V_main_arg0 m c) _)
  blk_ext [xB, iblk, (places t).1]
theorem read_1 (t : Fin cfg0.N) (l : Fin 2048) : (gB m c t (ix2 0 l) : EReal) = gK m c (ix2 0 l) := by
  refine Eq.trans (b := ((V m c main_arg1 : Gain) (ix2 0 l) : EReal)) ?_ (congrFun (V_main_arg1 m c) _)
  blk_ext [gB, iblk, (places t).2.1]

/-- What a point computes. -/
theorem part (t : Fin cfg0.N) (r : Fin 256) (l : Fin 2048) : (k0_pay1 (xB m c t) (gB m c t) (ix2 r l) : EReal) = normed (xK m c) (gK m c) (row t.val r (lt t)) l := by
  refine (pay1 _ _ r l).trans ?_
  unfold normed factor meanSq
  refine congrArg₂ (fun a b : EReal => a * b) (congrArg₂ (fun a b : EReal => a * b) (read_0 m c t r l) ?_) (read_1 m c t l)
  refine congrArg (fun a : EReal => Ideal.rsqrt (Ideal.div a _ + _)) (Finset.sum_congr rfl fun k _ => ?_)
  rw [read_0 m c t r k]

/-- The scaled rows after the call. -/
theorem arr : (dats m 0 c).arrAt 2 cfg0.N = normedA (xK m c) (gK m c) := by
  refine (dats m 0 c).arrAt_eq_of_covers 2 _ (by decide +kernel) fun t _ y => ?_
  have hN := lt t
  blk_simp
  rw [after0_2]
  idx_vars y
  unfold out0_2
  frame_out
  refine (part m c t y0 y1).trans ?_
  refine congrArg₂ (normed _ _) (Fin.ext ?_) (Fin.ext ?_)
  · blk_simp [(places t).2.2]; dsimp only; omega
  · blk_simp [(places t).2.2]

end Kernel

section Reference

open Cert.Reference22Ideal Cert.Reference22Ideal.Gen

theorem ref (x : Act) (g : Gain) (i j : Fin 2048) :
    ((truncf (F := Ideal) (φ := .f32) .bf16 (mulf (F := Ideal) (φ := .f32) (mulf (F := Ideal) (φ := .f32) x (broadcastInDim S2048x2048 ![0, 1] bcast_S2048x1_S2048x2048_0_1 (Host.rsqrt (F := Ideal) (φ := .f32) (addf (F := Ideal) (φ := .f32)
      (Host.divf (F := Ideal) (φ := .f32) (broadcastInDim S2048x1 ![0] bcast_S2048_S2048x1_0 (Host.reduceAdd (F := Ideal) (φ := .f32) (mulf (F := Ideal) (φ := .f32) x x) (constant (F := Ideal) S_ .f32 0x00000000#32) reducesTo_S2048x2048_S2048_d1 h_S_)) (broadcastInDim S2048x1 ![] bcast_S_S2048x1 (constant (F := Ideal) S_ .f32 0x45000000#32)))
      (broadcastInDim S2048x1 ![] bcast_S_S2048x1 (constant (F := Ideal) S_ .f32 0x358637BD#32)))) : Act)) (broadcastInDim S2048x2048 ![0, 1] bcast_S1x2048_S2048x2048_0_1 g : Act)) bitsLt_bf16_f32 : Out) (ix2 i j) : EReal) = normed x g i j := by
  unfold normed factor meanSq
  pointwise []

end Reference

open Cert.Kernel22Ideal.Gen in
theorem algebraic : Cert.algebraic_Kernel22Ideal_Reference22Ideal (hKernel22Ideal := Cert.Kernel22Ideal.Gen.facts) (hReference22Ideal := Cert.Reference22Ideal.Gen.facts) := by
  intro m ρ m' ρ' _ hag
  refine ⟨fun c => normedA (xK m c) (gK m c), (θ_run Cert.Kernel22Ideal.defs _ _).mono (fun r h c => ⟨((h c).1 2).trans (arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (Cert.Kernel22Ideal.Gen.run_main (F := Ideal) m ρ),
    (θ_run Cert.Reference22Ideal.defs _ _).mono (fun r h c => ?_) (Cert.Reference22Ideal.Value.run (F := Ideal) m' ρ')⟩
  obtain ⟨h0, h1⟩ := hag c
  refine ⟨(h c).1.trans ?_, (h c).2⟩
  rw [h0, h1]
  funext i
  idx_vars i
  exact ref _ _ i0 i1

end Cert.Proof.RmsFwd

end
-- ==== Proof.Pool.lean ====
/- Sums over windows of rows, by doubling and by differences of running sums. -/
module

public import proofs.«01_k».proof.Proof.ConvFwd
public import proofs.«01_k».proof.Proof.Windows
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.WordCmp

@[expose] public section

set_option maxRecDepth 16384

noncomputable section

namespace Cert.Proof.Pool

open Idealize.ShloMosaic Idealize.ShloMosaic.TcCoe Idealize.ShloMosaic.StableHlo Idealize.SL.Sem Idealize.ShloMosaic.Tactic
open Cert.Proof.ConvFwd (select_sge)

/-- The sum of the last `n` numbers up to place `i`. -/
def box (n : ℕ) (x : ℕ → EReal) (i : ℕ) : EReal := ∑ k ∈ Finset.range n, if k ≤ i then x (i - k) else 0

theorem box_one (x : ℕ → EReal) (i : ℕ) : box 1 x i = x i := by
  unfold box
  rw [Finset.sum_range_one, if_pos (Nat.zero_le _), Nat.sub_zero]

theorem box_double (n : ℕ) (x : ℕ → EReal) (i : ℕ) : box n x i + (if n ≤ i then box n x (i - n) else 0) = box (n + n) x i := by
  unfold box
  rw [Finset.sum_range_add]
  refine congrArg _ ?_
  by_cases h : n ≤ i
  · rw [if_pos h]
    refine Finset.sum_congr rfl fun k _ => ?_
    by_cases h' : n + k ≤ i
    · rw [if_pos h', if_pos (by omega), Nat.sub_sub]
    · rw [if_neg h', if_neg (by omega)]
  · rw [if_neg h]
    exact (Finset.sum_eq_zero fun k _ => if_neg (by omega)).symm

theorem turned (x : ℕ → EReal) (i : ℕ) : ∑ k ∈ Finset.range (i + 1), x k = ∑ k ∈ Finset.range (i + 1), x (i - k) := by
  rw [← Finset.sum_range_reflect]
  exact Finset.sum_congr rfl fun k _ => congrArg x (by omega)

/-- A running sum is the window's sum and the running sum before the window. -/
theorem running (n : ℕ) (x : ℕ → EReal) (i : ℕ) : ∑ k ∈ Finset.range (i + 1), x k = box n x i + if n ≤ i then ∑ k ∈ Finset.range (i - n + 1), x k else 0 := by
  unfold box
  by_cases h : n ≤ i
  · rw [if_pos h, turned x i, turned x (i - n), show Finset.range (i + 1) = Finset.range (n + (i - n + 1)) from congrArg _ (by omega), Finset.sum_range_add]
    refine congrArg₂ _ (Finset.sum_congr rfl fun k hk => (if_pos ?_).symm) (Finset.sum_congr rfl fun k _ => congrArg x (by omega))
    have := Finset.mem_range.1 hk
    omega
  · rw [if_neg h, add_zero, turned x i, show Finset.range n = Finset.range (i + 1 + (n - (i + 1))) from congrArg _ (by omega), Finset.sum_range_add _ (i + 1),
      Finset.sum_eq_zero (s := Finset.range (n - (i + 1))) fun k _ => if_neg (by omega), add_zero]
    refine Finset.sum_congr rfl fun k hk => (if_pos ?_).symm
    have := Finset.mem_range.1 hk
    omega

theorem sum_real (x : ℕ → EReal) (hx : ∀ k, x k = (((x k).toReal : ℝ) : EReal)) (n : ℕ) : ∃ r : ℝ, ∑ k ∈ Finset.range n, x k = (r : EReal) := by
  induction n with
  | zero => exact ⟨0, by rw [Finset.sum_range_zero]; rfl⟩
  | succ n ih =>
    obtain ⟨r, hr⟩ := ih
    refine ⟨r + (x n).toReal, ?_⟩
    rw [Finset.sum_range_succ, hr, EReal.coe_add, ← hx n]

/-- The window's sum from the running sums, where the numbers are finite. -/
theorem difference (n : ℕ) (x : ℕ → EReal) (hx : ∀ k, x k = (((x k).toReal : ℝ) : EReal)) (i : ℕ) :
    ∑ k ∈ Finset.range (i + 1), x k - (if n ≤ i then ∑ k ∈ Finset.range (i - n + 1), x k else 0) = box n x i := by
  rw [running n x i]
  by_cases h : n ≤ i
  · rw [if_pos h]
    obtain ⟨r, hr⟩ := sum_real x hx (i - n + 1)
    rw [hr]
    exact EReal.add_sub_cancel_right
  · rw [if_neg h, add_zero, sub_zero]

/-- How many rows a window holds. -/
def count (n i : ℕ) : EReal := (((min (i + 1) n : ℕ) : ℝ) : EReal)

/-- The mean of the last rows, less the row itself. -/
def mean (n : ℕ) (x : ℕ → EReal) (i : ℕ) : EReal := Ideal.div (box n x i) (count n i) - x i

abbrev Block : Type := Vec Ideal ⟨2, ![2048, 128]⟩ .f32
abbrev Group : Type := Vec Ideal ⟨3, ![1, 128, 128]⟩ .f32
abbrev Gain : Type := Vec Ideal ⟨2, ![1, 128]⟩ .f32
/-- A block's column, zero past its rows. -/
def column (x : Block) (c : Fin 128) (k : ℕ) : EReal := if h : k < 2048 then x (ix2 ⟨k, h⟩ c) else 0
theorem column_one (x : Block) (c : Fin 128) (r : Fin 2048) : box 1 (column x c) r.val = x (ix2 r c) := by
  rw [box_one]
  unfold column
  rw [dif_pos r.isLt]

abbrev Proj : Type := Vec Ideal ⟨2, ![2048, 12288]⟩ .f32
abbrev Wgt : Type := Vec Ideal ⟨3, ![4, 128, 128]⟩ .f32
abbrev Scl : Type := Vec Ideal ⟨2, ![1, 512]⟩ .f32

/-- A column of the pooling's part of the projection, zero past its end. -/
def line (p : Proj) (j k : ℕ) : EReal := if h : k < 2048 ∧ j < 512 then p (ix2 ⟨k, h.1⟩ ⟨4608 + j, by omega⟩) else 0
/-- The number of rows a group's mean is over. -/
def wide (a : ℕ) : ℕ := 2 ^ (a + 1)
/-- The pooling: of each group of 128 columns the means of the last rows, less the rows, times the group's matrix and each column's gain. -/
def pooled (p : Proj) (w : Wgt) (s : Scl) (i : Fin 2048) (j : Fin 512) : EReal :=
  (∑ k : Fin 128, mean (wide (j.val / 128)) (line p (128 * (j.val / 128) + k.val)) i.val * w (ix3 ⟨j.val / 128, by omega⟩ k ⟨j.val % 128, by omega⟩)) * s (ix2 0 j)
def pooledA (p : Proj) (w : Wgt) (s : Scl) : Vec Ideal ⟨2, ![2048, 512]⟩ .bf16 := fun i => pooled p w s (i 0) (i 1)
abbrev Cols : Type := Vec Ideal ⟨2, ![2048, 512]⟩ .f32
/-- A column of a group of the pooling's columns. -/
theorem column_line (p : Proj) (x : Block) (a : Fin 4) (hx : ∀ r (k : Fin 128), (x (ix2 r k) : EReal) = p (ix2 r ⟨4608 + (128 * a.val + k.val), by omega⟩)) (k : Fin 128) : column x k = line p (128 * a.val + k.val) := by
  funext m
  unfold column line
  by_cases h : m < 2048
  · rw [dif_pos h, dif_pos ⟨h, by omega⟩]; exact hx _ _
  · rw [dif_neg h, dif_neg (fun e => h e.1)]
/-- A group of the pooling, by its number. -/
theorem pooled_at (p : Proj) (w : Wgt) (s : Scl) (x : Block) (g : Group) (l : Gain) (a : Fin 4) (n : ℕ) (hn : n = wide a.val) (i : Fin 2048) (c : Fin 128)
    (hx : ∀ r k, (x (ix2 r k) : EReal) = p (ix2 r ⟨4608 + (128 * a.val + k.val), by omega⟩)) (hg : ∀ k, (g (ix3 0 k c) : EReal) = w (ix3 a k c)) (hl : (l (ix2 0 c) : EReal) = s (ix2 0 ⟨128 * a.val + c.val, by omega⟩)) (j : Fin 512) (hj : j.val = 128 * a.val + c.val) :
    (∑ k : Fin 128, mean n (column x k) i.val * g (ix3 0 k c)) * l (ix2 0 c) = pooled p w s i j := by
  have hc := c.isLt
  have ha : j.val / 128 = a.val := by omega
  unfold pooled
  refine congrArg₂ (fun a b : EReal => a * b) (Finset.sum_congr rfl fun k _ => congrArg₂ (fun a b : EReal => a * b) ?_ ((hg k).trans ?_)) (hl.trans (congrArg (fun c : Fin 512 => (s (ix2 0 c) : EReal)) (Fin.ext hj.symm)))
  · rw [hn, ha]
    exact congrArg (fun f => mean (wide a.val) f i.val) (column_line p x a hx k)
  · exact congrArg₂ (fun (a : Fin 4) (c : Fin 128) => (w (ix3 a k c) : EReal)) (Fin.ext ha.symm) (Fin.ext (by dsimp only; omega))

/-- The positions of a window along the rows. -/
def alongRows : Fin 2048 ≃ (⟨2, ![2048, 1]⟩ : Shape).Idx where
  toFun k := ix2 k 0
  invFun y := y 0
  left_inv k := rfl
  right_inv y := by
    funext a
    match a with
    | ⟨0, _⟩ => rfl
    | ⟨1, _⟩ => exact Subsingleton.elim (α := Fin 1) _ _

/-- A window sum along the rows, at an element. -/
theorem window_apply (lo hi : ℕ) (x : FVec Ideal ⟨2, ![2048, 512]⟩ .f32) (h : (⟨2, ![2048, 512]⟩ : Shape).ReduceWindows ![2048, 1] ![1, 1] ![lo, 0] ![hi, 0] ⟨2, ![2048, 512]⟩)
    (b : Fin 2048) (c : Fin 512) :
    Ideal.hostReduceWindowAdd (s := ⟨2, ![2048, 512]⟩) ![2048, 1] ![1, 1] ![lo, 0] ![hi, 0] h x 0 (ix2 b c)
      = ∑ k : Fin 2048, if hk : lo ≤ b.val + k.val ∧ b.val + k.val - lo < 2048 then x (ix2 ⟨b.val + k.val - lo, hk.2⟩ c) else 0 := by
  unfold Ideal.hostReduceWindowAdd Host.reduceWindow
  dsimp only
  rw [Cert.Proof.Sb.foldl_sum, zero_add, ← Equiv.sum_comp (alongRows.trans (Shape.rowMajor ⟨2, ![2048, 1]⟩))]
  refine Finset.sum_congr rfl fun k _ => ?_
  have hw : (Shape.rowMajor ⟨2, ![2048, 1]⟩).symm ((alongRows.trans (Shape.rowMajor ⟨2, ![2048, 1]⟩)) k) = ix2 k 0 := by
    rw [Equiv.trans_apply, Equiv.symm_apply_apply]; rfl
  have hb := b.isLt
  have hc := c.isLt
  by_cases hk : lo ≤ b.val + k.val ∧ b.val + k.val - lo < 2048
  · rw [dif_pos hk, dif_pos (fun i => by
      rw [hw]
      match i with
      | ⟨0, _⟩ => exact (show lo ≤ b.val * 1 + k.val ∧ b.val * 1 + k.val - lo < 2048 by omega)
      | ⟨1, _⟩ => exact ⟨Nat.zero_le _, (show c.val * 1 + 0 - 0 < 512 by omega)⟩)]
    refine congrArg x (funext fun i => Fin.ext ?_)
    dsimp only
    rw [hw]
    match i with
    | ⟨0, _⟩ => show b.val * 1 + k.val - lo = b.val + k.val - lo; omega
    | ⟨1, _⟩ => show c.val * 1 + 0 - 0 = c.val; omega
  · rw [dif_neg hk, dif_neg (fun hin => hk (by
      have h2 := hin 0
      rw [hw] at h2
      have h3 : lo ≤ b.val * 1 + k.val ∧ b.val * 1 + k.val - lo < 2048 := h2
      omega))]

theorem host_window (lo hi : ℕ) (x : FVec Ideal ⟨2, ![2048, 512]⟩ .f32) (init : (⟨0, ![]⟩ : Shape).Idx → Ideal .f32) (h0 : ∀ i, init i = 0)
    (h : (⟨2, ![2048, 512]⟩ : Shape).ReduceWindows ![2048, 1] ![1, 1] ![lo, 0] ![hi, 0] ⟨2, ![2048, 512]⟩) (hu : 0 < (⟨0, ![]⟩ : Shape).numel) :
    Host.reduceWindowAdd (s := ⟨2, ![2048, 512]⟩) ![2048, 1] ![1, 1] ![lo, 0] ![hi, 0] x init h hu = Ideal.hostReduceWindowAdd (s := ⟨2, ![2048, 512]⟩) ![2048, 1] ![1, 1] ![lo, 0] ![hi, 0] h x 0 := by
  unfold Host.reduceWindowAdd
  rw [h0]
  rfl

theorem cut_prefix (f : ℕ → EReal) (c : ℕ) (hc : c < 2048) : (∑ k ∈ Finset.range 2048, if 2047 ≤ c + k then f (c + k - 2047) else 0) = ∑ k ∈ Finset.range (c + 1), f k := by
  have e : 2048 = 2047 - c + (c + 1) := by omega
  rw [show Finset.range 2048 = Finset.range (2047 - c + (c + 1)) from congrArg _ e, Finset.sum_range_add,
    Finset.sum_eq_zero (s := Finset.range (2047 - c)) fun k hk => if_neg (by have := Finset.mem_range.1 hk; omega), zero_add]
  refine Finset.sum_congr rfl fun k hk => ?_
  rw [if_pos (by omega)]
  exact congrArg _ (by omega)
theorem cut_suffix (f : ℕ → EReal) (c : ℕ) (hc : c ≤ 2048) : (∑ k ∈ Finset.range 2048, if c + k < 2048 then f (c + k) else 0) = ∑ k ∈ Finset.range (2048 - c), f (c + k) := by
  have e : 2048 = 2048 - c + c := by omega
  rw [show Finset.range 2048 = Finset.range (2048 - c + c) from congrArg _ e, Finset.sum_range_add,
    Finset.sum_eq_zero (s := Finset.range c) fun k hk => if_neg (by omega), add_zero]
  refine Finset.sum_congr ?_ fun k hk => if_pos (by have := Finset.mem_range.1 hk; omega)
  exact congrArg _ (by omega)

/-- The sum over the rows up to an element. -/
theorem prefix_sum (hi : ℕ) (x : FVec Ideal ⟨2, ![2048, 512]⟩ .f32) (init : (⟨0, ![]⟩ : Shape).Idx → Ideal .f32) (h0 : ∀ i, init i = 0)
    (h : (⟨2, ![2048, 512]⟩ : Shape).ReduceWindows ![2048, 1] ![1, 1] ![2047, 0] ![hi, 0] ⟨2, ![2048, 512]⟩) (hu : 0 < (⟨0, ![]⟩ : Shape).numel)
    (f : ℕ → ℕ → EReal) (hf : ∀ i (j : Fin 512), (x (ix2 i j) : EReal) = f j.val i.val) (i : Fin 2048) (j : Fin 512) :
    (Host.reduceWindowAdd (s := ⟨2, ![2048, 512]⟩) ![2048, 1] ![1, 1] ![2047, 0] ![hi, 0] x init h hu (ix2 i j) : EReal) = ∑ k ∈ Finset.range (i.val + 1), f j.val k := by
  have hi' := i.isLt
  rw [host_window 2047 hi x init h0 h hu, window_apply 2047 hi x h, ← cut_prefix (f j.val) i.val i.isLt, ← Fin.sum_univ_eq_sum_range (fun k => if 2047 ≤ i.val + k then f j.val (i.val + k - 2047) else 0)]
  refine Finset.sum_congr rfl fun k _ => ?_
  have hk' := k.isLt
  by_cases hk : 2047 ≤ i.val + k.val
  · rw [dif_pos ⟨hk, by omega⟩, if_pos hk]; exact hf _ j
  · rw [dif_neg (fun e => hk e.1), if_neg hk]

/-- The sum over the rows from an element on. -/
theorem suffix_sum (hi : ℕ) (x : FVec Ideal ⟨2, ![2048, 512]⟩ .f32) (init : (⟨0, ![]⟩ : Shape).Idx → Ideal .f32) (h0 : ∀ i, init i = 0)
    (h : (⟨2, ![2048, 512]⟩ : Shape).ReduceWindows ![2048, 1] ![1, 1] ![0, 0] ![hi, 0] ⟨2, ![2048, 512]⟩) (hu : 0 < (⟨0, ![]⟩ : Shape).numel)
    (f : ℕ → ℕ → EReal) (hf : ∀ i (j : Fin 512), (x (ix2 i j) : EReal) = f j.val i.val) (i : Fin 2048) (j : Fin 512) :
    (Host.reduceWindowAdd (s := ⟨2, ![2048, 512]⟩) ![2048, 1] ![1, 1] ![0, 0] ![hi, 0] x init h hu (ix2 i j) : EReal) = ∑ k ∈ Finset.range (2048 - i.val), f j.val (i.val + k) := by
  rw [host_window 0 hi x init h0 h hu, window_apply 0 hi x h, ← cut_suffix (f j.val) i.val i.isLt.le, ← Fin.sum_univ_eq_sum_range (fun k => if i.val + k < 2048 then f j.val (i.val + k) else 0)]
  refine Finset.sum_congr rfl fun k _ => ?_
  by_cases hk : i.val + k.val < 2048
  · rw [dif_pos ⟨Nat.zero_le _, hk⟩, if_pos hk]; exact hf _ j
  · rw [dif_neg (fun e => hk e.2), if_neg hk]

/-- The sum of the next rows, the row itself among them. -/
def ahead (n : ℕ) (x : ℕ → EReal) (i : ℕ) : EReal := ∑ k ∈ Finset.range n, x (i + k)

theorem ahead_one (x : ℕ → EReal) (i : ℕ) : ahead 1 x i = x i := by
  unfold ahead
  rw [Finset.sum_range_one, add_zero]
theorem ahead_double (n : ℕ) (x : ℕ → EReal) (i : ℕ) : ahead n x i + ahead n x (i + n) = ahead (n + n) x i := by
  unfold ahead
  rw [Finset.sum_range_add]
  exact congrArg _ (Finset.sum_congr rfl fun k _ => by rw [add_assoc])
theorem ahead_past (n : ℕ) (x : ℕ → EReal) (hx : ∀ k, 2048 ≤ k → x k = 0) (i : ℕ) (hi : 2048 ≤ i) : ahead n x i = 0 :=
  Finset.sum_eq_zero fun k _ => hx _ (by omega)

/-- From an array that ends, the sum from a row on of the entries less those some rows later. -/
theorem telescope (n : ℕ) (f : ℕ → ℝ) (M : ℕ) (hf : ∀ k, M ≤ k → f k = 0) : ∑ k ∈ Finset.range M, (f k + -f (k + n)) = ∑ k ∈ Finset.range n, f k := by
  have h1 := Finset.sum_range_add f n M
  have h2 := Finset.sum_range_add f M n
  rw [Finset.sum_eq_zero (s := Finset.range n) (f := fun k => f (M + k)) fun k _ => hf _ (by omega), add_comm M n] at h2
  rw [Finset.sum_add_distrib, Finset.sum_neg_distrib]
  have h3 : ∑ k ∈ Finset.range M, f (k + n) = ∑ k ∈ Finset.range M, f (n + k) := Finset.sum_congr rfl fun k _ => by rw [add_comm]
  linarith

theorem ahead_eq (n : ℕ) (x : ℕ → EReal) (hx : ∀ k, x k = (((x k).toReal : ℝ) : EReal)) (he : ∀ k, 2048 ≤ k → x k = 0) (i : ℕ) :
    ∑ k ∈ Finset.range (2048 - i), (x (i + k) + -x (i + k + n)) = ahead n x i := by
  unfold ahead
  have h := telescope n (fun k => (x (i + k)).toReal) (2048 - i) (fun k hk => by rw [he _ (by omega)]; rfl)
  have c (s : Finset ℕ) (f : ℕ → ℝ) : ∑ k ∈ s, ((f k : ℝ) : EReal) = ((∑ k ∈ s, f k : ℝ) : EReal) := by
    induction s using Finset.induction_on with
    | empty => simp
    | insert a s ha ih => rw [Finset.sum_insert ha, Finset.sum_insert ha, ih, EReal.coe_add]
  refine ((Finset.sum_congr rfl fun k _ => ?_).trans ((c _ _).trans (congrArg _ h))).trans ((c _ _).symm.trans (Finset.sum_congr rfl fun k _ => (hx _).symm))
  rw [hx (i + k), hx (i + k + n), ← EReal.coe_neg, ← EReal.coe_add]
  simp only [EReal.toReal_coe, add_assoc]

abbrev Wide : Type := Vec Ideal ⟨2, ![2048, 12288]⟩ .bf16

/-- The gradient of a group's means less rows, from the gradient of its output. -/
def back (w : Wgt) (s : Scl) (d : Cols) (a : Fin 4) (i : Fin 2048) (k : Fin 128) : EReal :=
  ∑ c : Fin 128, d (ix2 i ⟨128 * a.val + c.val, by omega⟩) * s (ix2 0 ⟨128 * a.val + c.val, by omega⟩) * w (ix3 a k c)
/-- That gradient by the number of rows of each mean, zero past its end. -/
def spread (w : Wgt) (s : Scl) (d : Cols) (a : Fin 4) (k : Fin 128) (i : ℕ) : EReal := if h : i < 2048 then Ideal.div (back w s d a ⟨i, h⟩ k) (count (wide a.val) i) else 0
/-- The gradient of the pooling's columns: each row's part in the means of the next rows, less its own. -/
def dcols (w : Wgt) (s : Scl) (d : Cols) (i : Fin 2048) (a : Fin 4) (k : Fin 128) : EReal := ahead (wide a.val) (spread w s d a k) i.val - back w s d a i k
/-- The gradient of the groups' matrices. -/
def dmats (p : Proj) (s : Scl) (d : Cols) (a : Fin 4) (k c : Fin 128) : EReal :=
  ∑ i : Fin 2048, mean (wide a.val) (line p (128 * a.val + k.val)) i.val * (d (ix2 i ⟨128 * a.val + c.val, by omega⟩) * s (ix2 0 ⟨128 * a.val + c.val, by omega⟩))
/-- The gradient of the gains. -/
def dgain (p : Proj) (w : Wgt) (d : Cols) (a : Fin 4) (c : Fin 128) : EReal :=
  ∑ i : Fin 2048, d (ix2 i ⟨128 * a.val + c.val, by omega⟩) * ∑ k : Fin 128, mean (wide a.val) (line p (128 * a.val + k.val)) i.val * w (ix3 a k c)

theorem spread_past (w : Wgt) (s : Scl) (d : Cols) (a : Fin 4) (k : Fin 128) (i : ℕ) (hi : 2048 ≤ i) : spread w s d a k i = 0 := by
  unfold spread
  rw [dif_neg (by omega)]
theorem spread_at (w : Wgt) (s : Scl) (d : Cols) (a : Fin 4) (k : Fin 128) (i : Fin 2048) : spread w s d a k i.val = Ideal.div (back w s d a i k) (count (wide a.val) i.val) := by
  unfold spread
  rw [dif_pos i.isLt]

def dcolsL (w : Wgt) (s : Scl) (d : Cols) (i : Fin 2048) (j : Fin 512) : EReal := dcols w s d i ⟨j.val / 128, by omega⟩ ⟨j.val % 128, by omega⟩
theorem dcolsL_at (w : Wgt) (s : Scl) (d : Cols) (i : Fin 2048) (a : Fin 4) (c : Fin 128) (j : Fin 512) (hj : j.val = 128 * a.val + c.val) : dcols w s d i a c = dcolsL w s d i j :=
  congrArg₂ (dcols w s d i) (Fin.ext (by dsimp only; omega)) (Fin.ext (by dsimp only; omega))
def dcolsA (w : Wgt) (s : Scl) (d : Cols) (e : Proj) : Wide :=
  fun i => if h : 4608 ≤ (i 1).val ∧ (i 1).val < 5120 then dcolsL w s d (i 0) ⟨(i 1).val - 4608, by omega⟩ else e i
theorem dcolsA_at (w : Wgt) (s : Scl) (d : Cols) (e : Proj) (i : Fin 2048) (j : Fin 12288) :
    (dcolsA w s d e (ix2 i j) : EReal) = if h : 4608 ≤ j.val ∧ j.val < 5120 then dcolsL w s d i ⟨j.val - 4608, by omega⟩ else (e (ix2 i j) : EReal) := rfl
def dmatsA (p : Proj) (s : Scl) (d : Cols) : Wgt := fun i => dmats p s d (i 0) (i 1) (i 2)
def dgainL (p : Proj) (w : Wgt) (d : Cols) (j : Fin 512) : EReal := dgain p w d ⟨j.val / 128, by omega⟩ ⟨j.val % 128, by omega⟩
def dgainA (p : Proj) (w : Wgt) (d : Cols) : Scl := fun i => dgainL p w d (i 1)
/-- A place's group and its place in the group. -/
theorem dgainL_at (p : Proj) (w : Wgt) (d : Cols) (a : Fin 4) (c : Fin 128) (j : Fin 512) (hj : j.val = 128 * a.val + c.val) : dgain p w d a c = dgainL p w d j :=
  congrArg₂ (dgain p w d) (Fin.ext (by dsimp only; omega)) (Fin.ext (by dsimp only; omega))

end Cert.Proof.Pool

end
-- ==== Proof.PoolFwd.lean ====
/- The pooling of the last rows: what the call leaves, and the reference. -/
module

public import proofs.«01_k».proof.Proof.Gen.Kernel24Ideal.Frame
public import proofs.«01_k».proof.Proof.Gen.Reference24Ideal.Run
public import proofs.«01_k».proof.Pre_finite_pool
public import proofs.«01_k».proof.Proof.Pool
public import proofs.«01_k».proof.Proof.Input
public import proofs.«01_k».proof.Proof.Tools
public import Idealize.ShloMosaic.Lib.WordCmp
public import Idealize.ShloMosaic.Lib.PlanTiles.Rows

@[expose] public section

set_option maxRecDepth 16384

noncomputable section

namespace Cert.Proof.PoolFwd

open Idealize.ShloMosaic Idealize.ShloMosaic.TcCoe Idealize.ShloMosaic.StableHlo Idealize.SL.Sem Idealize.ShloMosaic.Tactic
open Cert.Proof.Pool
open Cert.Proof.ConvFwd (select_sge)
section Kernel

open Cert.Kernel24Ideal Cert.Kernel24Ideal.Gen

abbrev rows : IVec S2048x128 32 := iota .tc S2048x128 32 [0] iota_S2048x128_d0_w32
theorem moved1 (s : Block) (r : Fin 2048) (c : Fin 128) :
    (select (cmpi .sge rows (broadcast S2048x128 1#32)) (dynamicRotate 0 1#32 none s rotates_S2048x128_d0 : Block) (broadcast S2048x128 (Scalar.ofBits (F := Ideal) .f32 0x00000000#32)) (ix2 r c) : EReal)
      = if h : 1 ≤ r.val then (s (ix2 ⟨r.val - 1, by omega⟩ c) : EReal) else 0 := by
  refine Eq.trans (b := Scalar.select (IntOp.cmpi .sge (BitVec.ofNat 32 r.val) (BitVec.ofNat 32 1)) (s (ix2 ⟨(r.val + 2048 - 1) % 2048, Nat.mod_lt _ (by norm_num)⟩ c) : EReal) 0) (by pointwise []) ?_
  have hr := r.isLt
  rw [select_sge _ _ (by omega) (by norm_num)]
  by_cases h : 1 ≤ r.val
  · rw [if_pos h, dif_pos h]
    exact congrArg (fun n : Fin 2048 => (s (ix2 n c) : EReal)) (Fin.ext (by dsimp only; omega))
  · rw [if_neg h, dif_neg h]
abbrev twice1 (s : Block) : Block := addf (F := Ideal) (φ := .f32) s (select (cmpi .sge rows (broadcast S2048x128 1#32)) (dynamicRotate 0 1#32 none s rotates_S2048x128_d0 : Block) (broadcast S2048x128 (Scalar.ofBits (F := Ideal) .f32 0x00000000#32)))
theorem box1 (s x : Block) (c : Fin 128) (h : ∀ r : Fin 2048, (s (ix2 r c) : EReal) = box 1 (column x c) r.val) (r : Fin 2048) : (twice1 s (ix2 r c) : EReal) = box 2 (column x c) r.val := by
  refine Eq.trans ?_ (box_double 1 (column x c) r.val)
  refine congrArg₂ (fun a b : EReal => a + b) (h r) ((moved1 s r c).trans ?_)
  by_cases hr : 1 ≤ r.val
  · rw [dif_pos hr, if_pos hr]; exact h _
  · rw [dif_neg hr, if_neg hr]
theorem moved2 (s : Block) (r : Fin 2048) (c : Fin 128) :
    (select (cmpi .sge rows (broadcast S2048x128 2#32)) (dynamicRotate 0 2#32 none s rotates_S2048x128_d0 : Block) (broadcast S2048x128 (Scalar.ofBits (F := Ideal) .f32 0x00000000#32)) (ix2 r c) : EReal)
      = if h : 2 ≤ r.val then (s (ix2 ⟨r.val - 2, by omega⟩ c) : EReal) else 0 := by
  refine Eq.trans (b := Scalar.select (IntOp.cmpi .sge (BitVec.ofNat 32 r.val) (BitVec.ofNat 32 2)) (s (ix2 ⟨(r.val + 2048 - 2) % 2048, Nat.mod_lt _ (by norm_num)⟩ c) : EReal) 0) (by pointwise []) ?_
  have hr := r.isLt
  rw [select_sge _ _ (by omega) (by norm_num)]
  by_cases h : 2 ≤ r.val
  · rw [if_pos h, dif_pos h]
    exact congrArg (fun n : Fin 2048 => (s (ix2 n c) : EReal)) (Fin.ext (by dsimp only; omega))
  · rw [if_neg h, dif_neg h]
abbrev twice2 (s : Block) : Block := addf (F := Ideal) (φ := .f32) s (select (cmpi .sge rows (broadcast S2048x128 2#32)) (dynamicRotate 0 2#32 none s rotates_S2048x128_d0 : Block) (broadcast S2048x128 (Scalar.ofBits (F := Ideal) .f32 0x00000000#32)))
theorem box2 (s x : Block) (c : Fin 128) (h : ∀ r : Fin 2048, (s (ix2 r c) : EReal) = box 2 (column x c) r.val) (r : Fin 2048) : (twice2 s (ix2 r c) : EReal) = box 4 (column x c) r.val := by
  refine Eq.trans ?_ (box_double 2 (column x c) r.val)
  refine congrArg₂ (fun a b : EReal => a + b) (h r) ((moved2 s r c).trans ?_)
  by_cases hr : 2 ≤ r.val
  · rw [dif_pos hr, if_pos hr]; exact h _
  · rw [dif_neg hr, if_neg hr]
theorem moved4 (s : Block) (r : Fin 2048) (c : Fin 128) :
    (select (cmpi .sge rows (broadcast S2048x128 4#32)) (dynamicRotate 0 4#32 none s rotates_S2048x128_d0 : Block) (broadcast S2048x128 (Scalar.ofBits (F := Ideal) .f32 0x00000000#32)) (ix2 r c) : EReal)
      = if h : 4 ≤ r.val then (s (ix2 ⟨r.val - 4, by omega⟩ c) : EReal) else 0 := by
  refine Eq.trans (b := Scalar.select (IntOp.cmpi .sge (BitVec.ofNat 32 r.val) (BitVec.ofNat 32 4)) (s (ix2 ⟨(r.val + 2048 - 4) % 2048, Nat.mod_lt _ (by norm_num)⟩ c) : EReal) 0) (by pointwise []) ?_
  have hr := r.isLt
  rw [select_sge _ _ (by omega) (by norm_num)]
  by_cases h : 4 ≤ r.val
  · rw [if_pos h, dif_pos h]
    exact congrArg (fun n : Fin 2048 => (s (ix2 n c) : EReal)) (Fin.ext (by dsimp only; omega))
  · rw [if_neg h, dif_neg h]
abbrev twice4 (s : Block) : Block := addf (F := Ideal) (φ := .f32) s (select (cmpi .sge rows (broadcast S2048x128 4#32)) (dynamicRotate 0 4#32 none s rotates_S2048x128_d0 : Block) (broadcast S2048x128 (Scalar.ofBits (F := Ideal) .f32 0x00000000#32)))
theorem box4 (s x : Block) (c : Fin 128) (h : ∀ r : Fin 2048, (s (ix2 r c) : EReal) = box 4 (column x c) r.val) (r : Fin 2048) : (twice4 s (ix2 r c) : EReal) = box 8 (column x c) r.val := by
  refine Eq.trans ?_ (box_double 4 (column x c) r.val)
  refine congrArg₂ (fun a b : EReal => a + b) (h r) ((moved4 s r c).trans ?_)
  by_cases hr : 4 ≤ r.val
  · rw [dif_pos hr, if_pos hr]; exact h _
  · rw [dif_neg hr, if_neg hr]
theorem moved8 (s : Block) (r : Fin 2048) (c : Fin 128) :
    (select (cmpi .sge rows (broadcast S2048x128 8#32)) (dynamicRotate 0 8#32 none s rotates_S2048x128_d0 : Block) (broadcast S2048x128 (Scalar.ofBits (F := Ideal) .f32 0x00000000#32)) (ix2 r c) : EReal)
      = if h : 8 ≤ r.val then (s (ix2 ⟨r.val - 8, by omega⟩ c) : EReal) else 0 := by
  refine Eq.trans (b := Scalar.select (IntOp.cmpi .sge (BitVec.ofNat 32 r.val) (BitVec.ofNat 32 8)) (s (ix2 ⟨(r.val + 2048 - 8) % 2048, Nat.mod_lt _ (by norm_num)⟩ c) : EReal) 0) (by pointwise []) ?_
  have hr := r.isLt
  rw [select_sge _ _ (by omega) (by norm_num)]
  by_cases h : 8 ≤ r.val
  · rw [if_pos h, dif_pos h]
    exact congrArg (fun n : Fin 2048 => (s (ix2 n c) : EReal)) (Fin.ext (by dsimp only; omega))
  · rw [if_neg h, dif_neg h]
abbrev twice8 (s : Block) : Block := addf (F := Ideal) (φ := .f32) s (select (cmpi .sge rows (broadcast S2048x128 8#32)) (dynamicRotate 0 8#32 none s rotates_S2048x128_d0 : Block) (broadcast S2048x128 (Scalar.ofBits (F := Ideal) .f32 0x00000000#32)))
theorem box8 (s x : Block) (c : Fin 128) (h : ∀ r : Fin 2048, (s (ix2 r c) : EReal) = box 8 (column x c) r.val) (r : Fin 2048) : (twice8 s (ix2 r c) : EReal) = box 16 (column x c) r.val := by
  refine Eq.trans ?_ (box_double 8 (column x c) r.val)
  refine congrArg₂ (fun a b : EReal => a + b) (h r) ((moved8 s r c).trans ?_)
  by_cases hr : 8 ≤ r.val
  · rw [dif_pos hr, if_pos hr]; exact h _
  · rw [dif_neg hr, if_neg hr]

abbrev sizes (n : BitVec 32) : Block := sitofp (F := Ideal) .f32 (minsi (addi rows (broadcast S2048x128 1#32)) (broadcast S2048x128 n))
abbrev meanOf (s x : Block) (n : BitVec 32) : Block := subf (F := Ideal) (φ := .f32) (divf (F := Ideal) (φ := .f32) s (sizes n)) x
abbrev outOf (d : Block) (w : Group) (g : Gain) : Vec Ideal ⟨2, ![2048, 128]⟩ .bf16 :=
  truncf (F := Ideal) .bf16 (mulf (F := Ideal) (φ := .f32) (matmul (F := Ideal) dot_S2048x128_S128x128_S2048x128_1_0_0_1_n_n none (truncf (F := Ideal) .bf16 d bitsLt_bf16_f32) (truncf (F := Ideal) .bf16 (shapeCast S128x128 w shapeCasts_S1x128x128_S128x128) bitsLt_bf16_f32) (constant (F := Ideal) S2048x128 .f32 0x00000000#32) : Block)
    (broadcastTo S2048x128 g broadcasts_S1x128_S2048x128 : Block)) bitsLt_bf16_f32
theorem out_at (d : Block) (w : Group) (g : Gain) (r : Fin 2048) (c : Fin 128) : (outOf d w g (ix2 r c) : EReal) = (∑ k : Fin 128, d (ix2 r k) * w (ix3 0 k c)) * g (ix2 0 c) := by
  pointwise []
theorem sizes_at (n : ℕ) (hn : n ≤ 16) (r : Fin 2048) (c : Fin 128) : (sizes (BitVec.ofNat 32 n) (ix2 r c) : EReal) = count n r.val := by
  have hr := r.isLt
  refine Eq.trans (b := (((IntOp.minsi (IntOp.addi (BitVec.ofNat 32 r.val) (BitVec.ofNat 32 1)) (BitVec.ofNat 32 n)).toInt : ℝ) : EReal)) (by pointwise []; rfl) ?_
  rw [WordCmp.addi_ofNat, PlanTiles.minsi_word (by omega) (by omega), WordCmp.toInt_ofNat_of_lt (by omega), min_comm]
  rfl
theorem mean_at (s x : Block) (n : ℕ) (hn : n ≤ 16) (c : Fin 128) (h : ∀ r : Fin 2048, (s (ix2 r c) : EReal) = box n (column x c) r.val) (r : Fin 2048) :
    (meanOf s x (BitVec.ofNat 32 n) (ix2 r c) : EReal) = mean n (column x c) r.val := by
  refine Eq.trans (b := Ideal.div (s (ix2 r c) : EReal) (sizes (BitVec.ofNat 32 n) (ix2 r c)) - x (ix2 r c)) (by pointwise []) ?_
  rw [sizes_at n hn, h]
  unfold mean column
  rw [dif_pos r.isLt]
theorem pay2 (x : Block) (w : Group) (g : Gain) : k0_pay2 (F := Ideal) x w g = outOf (meanOf (twice1 x) x 2#32) w g := rfl
theorem pay6 (x : Block) (w : Group) (g : Gain) : k0_pay6 (F := Ideal) rows x (k0_pay3 x) k0_pay4 (k0_pay5 x) (Scalar.ofBits .f32 0x00000000#32) w g = outOf (meanOf (twice2 (twice1 x)) x 4#32) w g := rfl
theorem pay9 (x : Block) (w : Group) (g : Gain) : k0_pay9 (F := Ideal) rows x (k0_pay7 rows x) (k0_pay8 rows x) w g = outOf (meanOf (twice4 (twice2 (twice1 x))) x 8#32) w g := rfl
theorem pay1 (x : Block) (w : Group) (g : Gain) : k0_pay1 (F := Ideal) rows x (k0_pay10 rows x) 8#32 w g = outOf (meanOf (twice8 (twice4 (twice2 (twice1 x)))) x 16#32) w g := rfl

theorem group2 (x : Block) (w : Group) (g : Gain) (r : Fin 2048) (c : Fin 128) :
    (k0_pay2 (F := Ideal) x w g (ix2 r c) : EReal) = (∑ k : Fin 128, mean 2 (column x k) r.val * w (ix3 0 k c)) * g (ix2 0 c) := by
  rw [pay2]
  refine (out_at _ w g r c).trans ?_
  refine congrArg (fun a : EReal => a * g (ix2 0 c)) (Finset.sum_congr rfl fun k _ => congrArg (fun a : EReal => a * w (ix3 0 k c)) ?_)
  exact mean_at _ x 2 (by norm_num) k (box1 x x k fun r => (column_one x k r).symm) r
theorem group4 (x : Block) (w : Group) (g : Gain) (r : Fin 2048) (c : Fin 128) :
    (k0_pay6 (F := Ideal) rows x (k0_pay3 x) k0_pay4 (k0_pay5 x) (Scalar.ofBits .f32 0x00000000#32) w g (ix2 r c) : EReal) = (∑ k : Fin 128, mean 4 (column x k) r.val * w (ix3 0 k c)) * g (ix2 0 c) := by
  rw [pay6]
  refine (out_at _ w g r c).trans ?_
  refine congrArg (fun a : EReal => a * g (ix2 0 c)) (Finset.sum_congr rfl fun k _ => congrArg (fun a : EReal => a * w (ix3 0 k c)) ?_)
  exact mean_at _ x 4 (by norm_num) k (box2 _ x k (box1 x x k fun r => (column_one x k r).symm)) r
theorem group8 (x : Block) (w : Group) (g : Gain) (r : Fin 2048) (c : Fin 128) :
    (k0_pay9 (F := Ideal) rows x (k0_pay7 rows x) (k0_pay8 rows x) w g (ix2 r c) : EReal) = (∑ k : Fin 128, mean 8 (column x k) r.val * w (ix3 0 k c)) * g (ix2 0 c) := by
  rw [pay9]
  refine (out_at _ w g r c).trans ?_
  refine congrArg (fun a : EReal => a * g (ix2 0 c)) (Finset.sum_congr rfl fun k _ => congrArg (fun a : EReal => a * w (ix3 0 k c)) ?_)
  exact mean_at _ x 8 (by norm_num) k (box4 _ x k (box2 _ x k (box1 x x k fun r => (column_one x k r).symm))) r
theorem group16 (x : Block) (w : Group) (g : Gain) (r : Fin 2048) (c : Fin 128) :
    (k0_pay1 (F := Ideal) rows x (k0_pay10 rows x) 8#32 w g (ix2 r c) : EReal) = (∑ k : Fin 128, mean 16 (column x k) r.val * w (ix3 0 k c)) * g (ix2 0 c) := by
  rw [pay1]
  refine (out_at _ w g r c).trans ?_
  refine congrArg (fun a : EReal => a * g (ix2 0 c)) (Finset.sum_congr rfl fun k _ => congrArg (fun a : EReal => a * w (ix3 0 k c)) ?_)
  exact mean_at _ x 16 (by norm_num) k (box8 _ x k (box4 _ x k (box2 _ x k (box1 x x k fun r => (column_one x k r).symm)))) r

/-- Four groups of columns stored one after another. -/
theorem tiles (P0 P1 P2 P3 : Vec Ideal ⟨2, ![2048, 128]⟩ .bf16) (v : Fin 2048 → Fin 512 → EReal) (q0 : ∀ r (c : Fin 128), (P0 (ix2 r c) : EReal) = v r ⟨c.val, by omega⟩)
    (q1 : ∀ r (c : Fin 128), (P1 (ix2 r c) : EReal) = v r ⟨128 + c.val, by omega⟩) (q2 : ∀ r (c : Fin 128), (P2 (ix2 r c) : EReal) = v r ⟨256 + c.val, by omega⟩)
    (q3 : ∀ r (c : Fin 128), (P3 (ix2 r c) : EReal) = v r ⟨384 + c.val, by omega⟩) (r : Fin 2048) (l : Fin 512) :
    (View.canon [(⟨r0_9, P3⟩ : View.Piece (Elt Ideal) S2048x512 .bf16), ⟨r0_6, P2⟩, ⟨r0_3, P1⟩, ⟨r0_0, P0⟩] (ix2 r l) : EReal) = v r l := by
  canon_tiles x h
  all_goals
    idx_vars x
  · exact (q3 _ _).trans (congrArg₂ v (Fin.ext (by omega)) (Fin.ext (by dsimp only; omega)))
  · exact (q2 _ _).trans (congrArg₂ v (Fin.ext (by omega)) (Fin.ext (by dsimp only; omega)))
  · exact (q1 _ _).trans (congrArg₂ v (Fin.ext (by omega)) (Fin.ext (by dsimp only; omega)))
  · exact (q0 _ _).trans (congrArg₂ v (Fin.ext (by omega)) (Fin.ext (by dsimp only; omega)))

theorem out_eq (x0 : Vec Ideal S2048x512 .f32) (x1 : Wgt) (x2 : Scl) (p : Proj) (hp : ∀ i j, (x0 (ix2 i j) : EReal) = p (ix2 i ⟨4608 + j.val, by omega⟩)) (r : Fin 2048) (l : Fin 512) :
    (out0_3 (F := Ideal) x0 x1 x2 (ix2 r l) : EReal) = pooled p x1 x2 r l := by
  frame_out
  refine tiles _ _ _ _ (pooled p x1 x2) (fun r c => (group2 _ _ _ r c).trans ?_) (fun r c => (group4 _ _ _ r c).trans ?_) (fun r c => (group8 _ _ _ r c).trans ?_) (fun r c => (group16 _ _ _ r c).trans ?_) r l
  · exact pooled_at p x1 x2 _ _ _ 0 2 rfl r c (fun r k => (by pointwise [] : _ = (x0 (ix2 r ⟨k.val, by omega⟩) : EReal)).trans ((hp _ _).trans (congrArg (fun n : Fin 12288 => (p (ix2 r n) : EReal)) (Fin.ext (by simp))))) (fun k => by pointwise []) (by pointwise []) _ (by simp)
  · exact pooled_at p x1 x2 _ _ _ 1 4 rfl r c (fun r k => (by pointwise [] : _ = (x0 (ix2 r ⟨128 + k.val, by omega⟩) : EReal)).trans (hp _ _)) (fun k => by pointwise []) (by pointwise []) _ rfl
  · exact pooled_at p x1 x2 _ _ _ 2 8 rfl r c (fun r k => (by pointwise [] : _ = (x0 (ix2 r ⟨256 + k.val, by omega⟩) : EReal)).trans (hp _ _)) (fun k => by pointwise []) (by pointwise []) _ rfl
  · exact pooled_at p x1 x2 _ _ _ 3 16 rfl r c (fun r k => (by pointwise [] : _ = (x0 (ix2 r ⟨384 + k.val, by omega⟩) : EReal)).trans (hp _ _)) (fun k => by pointwise []) (by pointwise []) _ rfl

variable (m : (ℓ : Loc nD τ sig) → Buf (Elt Ideal) ℓ) (c : Dev nD)

abbrev pK : Proj := m ((c.tc : Thread nD τ).loc main_arg0)
abbrev wK : Wgt := m ((c.tc : Thread nD τ).loc main_arg1)
abbrev sK : Scl := m ((c.tc : Thread nD τ).loc main_arg2)

/-- Where the blocks lie. -/
theorem places : ∀ t : Fin cfg0.N, win0_0.index t = ![0, 9] ∧ win0_1.index t = ![0, 0, 0] ∧ win0_2.index t = ![0, 0] ∧ win0_3.index t = ![0, 0] :=
  (by decide +kernel : ∀ t : Fin grid0.N, _)

abbrev xB (t : Fin cfg0.N) : Vec Ideal S2048x512 .f32 := iblk m c 0 t
abbrev wB (t : Fin cfg0.N) : Wgt := iblk m c 1 t
abbrev sB (t : Fin cfg0.N) : Scl := iblk m c 2 t

theorem read_0 (t : Fin cfg0.N) (i : Fin 2048) (j : Fin 512) : (xB m c t (ix2 i j) : EReal) = pK m c (ix2 i ⟨4608 + j.val, by omega⟩) := by
  refine Eq.trans (b := ((V m c main_arg0 : Proj) (ix2 i ⟨4608 + j.val, by omega⟩) : EReal)) ?_ (congrFun (V_main_arg0 m c) _)
  blk_ext [xB, iblk, (places t).1]
theorem read_1 (t : Fin cfg0.N) : wB m c t = wK m c := by
  funext y
  idx_vars y
  refine Eq.trans (b := (V m c main_arg1 : Wgt) (ix3 y0 y1 y2)) ?_ (congrFun (V_main_arg1 m c) _)
  blk_ext [wB, iblk, (places t).2.1]
theorem read_2 (t : Fin cfg0.N) : sB m c t = sK m c := by
  funext y
  idx_vars y
  refine Eq.trans (b := (V m c main_arg2 : Scl) (ix2 y0 y1)) ?_ (congrFun (V_main_arg2 m c) _)
  blk_ext [sB, iblk, (places t).2.2.1]

theorem arr : (dats m 0 c).arrAt 3 cfg0.N = pooledA (pK m c) (wK m c) (sK m c) := by
  refine (dats m 0 c).arrAt_eq_of_covers 3 _ (by decide +kernel) fun t _ y => ?_
  blk_simp
  rw [after0_3]
  idx_vars y
  refine (out_eq (xB m c t) (wB m c t) (sB m c t) (pK m c) (read_0 m c t) y0 y1).trans ?_
  rw [read_1, read_2]
  refine congrArg₂ (pooled _ _ _) (Fin.ext ?_) (Fin.ext ?_)
  · blk_simp [(places t).2.2.2]
  · blk_simp [(places t).2.2.2]

end Kernel

section Reference

open Cert.Reference24Ideal Cert.Reference24Ideal.Gen

abbrev part (p : Proj) : Cols := extractStridedSlice S2048x512 ![0, 4608] p slices_S2048x12288_S2048x512_0_4608
abbrev sums (p : Proj) : Cols := Host.reduceWindowAdd (F := Ideal) (φ := .f32) ![2048, 1] ![1, 1] ![2047, 0] ![0, 0] (part p) (broadcastInDim S_ ![] bcast_S_S_ (constant (F := Ideal) S_ .f32 0x00000000#32)) reduceWindows_S2048x512_S2048x512_w2048s1p2047_0_w1s1p0_0 h_S_
abbrev places1 : Vec Ideal S2048x1 .f32 := broadcastInDim S2048x1 ![0] bcast_S2048_S2048x1_0 (addf (F := Ideal) (φ := .f32) (broadcastInDim S2048 ![] bcast_S_S2048 (constant (F := Ideal) S_ .f32 0x3F800000#32)) (sitofp (F := Ideal) .f32 (iotaInDim S2048 32 0)))
abbrev counts (w : BitVec 32) : Block := broadcastInDim S2048x128 ![0, 1] bcast_S2048x1_S2048x128_0_1 (minimumf (F := Ideal) (φ := .f32) places1 (broadcastInDim S2048x1 ![] bcast_S_S2048x1 (constant (F := Ideal) S_ .f32 w)))
abbrev less2 (s : Block) : Block := subf (F := Ideal) (φ := .f32) s (concatenate S2048x128 0 [⟨S2x128, (broadcastInDim S2x128 ![] bcast_S_S2x128 (constant (F := Ideal) S_ .f32 0x00000000#32))⟩, ⟨S2046x128, (extractStridedSlice S2046x128 ![0, 0] s slices_S2048x128_S2046x128_0_0)⟩] concatenates_S2x128_S2046x128_S2048x128_d0 : (⟨S2048x128, .f32⟩ : BufTy).Contents (Elt Ideal))
abbrev less4 (s : Block) : Block := subf (F := Ideal) (φ := .f32) s (concatenate S2048x128 0 [⟨S4x128, (broadcastInDim S4x128 ![] bcast_S_S4x128 (constant (F := Ideal) S_ .f32 0x00000000#32))⟩, ⟨S2044x128, (extractStridedSlice S2044x128 ![0, 0] s slices_S2048x128_S2044x128_0_0)⟩] concatenates_S4x128_S2044x128_S2048x128_d0 : (⟨S2048x128, .f32⟩ : BufTy).Contents (Elt Ideal))
abbrev less8 (s : Block) : Block := subf (F := Ideal) (φ := .f32) s (concatenate S2048x128 0 [⟨S8x128, (broadcastInDim S8x128 ![] bcast_S_S8x128 (constant (F := Ideal) S_ .f32 0x00000000#32))⟩, ⟨S2040x128, (extractStridedSlice S2040x128 ![0, 0] s slices_S2048x128_S2040x128_0_0)⟩] concatenates_S8x128_S2040x128_S2048x128_d0 : (⟨S2048x128, .f32⟩ : BufTy).Contents (Elt Ideal))
abbrev less16 (s : Block) : Block := subf (F := Ideal) (φ := .f32) s (concatenate S2048x128 0 [⟨S16x128, (broadcastInDim S16x128 ![] bcast_S_S16x128 (constant (F := Ideal) S_ .f32 0x00000000#32))⟩, ⟨S2032x128, (extractStridedSlice S2032x128 ![0, 0] s slices_S2048x128_S2032x128_0_0)⟩] concatenates_S16x128_S2032x128_S2048x128_d0 : (⟨S2048x128, .f32⟩ : BufTy).Contents (Elt Ideal))
abbrev less (l x : Block) (w : BitVec 32) : Block := subf (F := Ideal) (φ := .f32) (Host.divf (F := Ideal) (φ := .f32) l (counts w)) x
abbrev means0 (p : Proj) : Block := less (less2 (extractStridedSlice S2048x128 ![0, 0] (sums p) slices_S2048x512_S2048x128_0_0)) (extractStridedSlice S2048x128 ![0, 0] (part p) slices_S2048x512_S2048x128_0_0) 0x40000000#32
abbrev means1 (p : Proj) : Block := less (less4 (extractStridedSlice S2048x128 ![0, 128] (sums p) slices_S2048x512_S2048x128_0_128)) (extractStridedSlice S2048x128 ![0, 128] (part p) slices_S2048x512_S2048x128_0_128) 0x40800000#32
abbrev means2 (p : Proj) : Block := less (less8 (extractStridedSlice S2048x128 ![0, 256] (sums p) slices_S2048x512_S2048x128_0_256)) (extractStridedSlice S2048x128 ![0, 256] (part p) slices_S2048x512_S2048x128_0_256) 0x41000000#32
abbrev means3 (p : Proj) : Block := less (less16 (extractStridedSlice S2048x128 ![0, 384] (sums p) slices_S2048x512_S2048x128_0_384)) (extractStridedSlice S2048x128 ![0, 384] (part p) slices_S2048x512_S2048x128_0_384) 0x41800000#32
abbrev apart (d : Block) : (⟨S2048x1x128, .f32⟩ : BufTy).Contents (Elt Ideal) := broadcastInDim S2048x1x128 ![0, 2] bcast_S2048x128_S2048x1x128_0_2 d
abbrev side (d0 d1 d2 d3 : Block) : Vec Ideal S2048x4x128 .f32 :=
  (concatenate S2048x4x128 1 [⟨S2048x1x128, apart d0⟩, ⟨S2048x1x128, apart d1⟩, ⟨S2048x1x128, apart d2⟩, ⟨S2048x1x128, apart d3⟩] concatenates_S2048x1x128_S2048x1x128_S2048x1x128_S2048x1x128_S2048x4x128_d1 : (⟨S2048x4x128, .f32⟩ : BufTy).Contents (Elt Ideal))
abbrev scaled (d : Vec Ideal S2048x4x128 .f32) (w : Wgt) (s : Scl) : Vec Ideal S2048x512 .bf16 :=
  truncf (F := Ideal) .bf16 (mulf (F := Ideal) (φ := .f32) (shapeCast _ (transpose S2048x4x128 [2, 0, 1] (Host.dotGeneral (F := Ideal) (φ₁ := .f32) (φ₂ := .f32) dot_S4x128x128_S2048x4x128_S4x128x2048_1_2_2_0_0_1 none w d) transposes_S4x128x2048_S2048x4x128_2_0_1) shapeCasts_S2048x4x128_S2048x512)
    (broadcastInDim S2048x512 ![0, 1] bcast_S1x512_S2048x512_0_1 s)) bitsLt_bf16_f32

theorem run_ref (m : (ℓ : Loc nD τ sig) → Buf (Elt Ideal) ℓ) (c : Dev nD) :
    Cert.Reference24Ideal.Value.res_main_v60 (F := Ideal) m c = scaled (side (means0 (m ((c.tc : Thread nD τ).loc main_arg0))) (means1 (m ((c.tc : Thread nD τ).loc main_arg0))) (means2 (m ((c.tc : Thread nD τ).loc main_arg0))) (means3 (m ((c.tc : Thread nD τ).loc main_arg0))))
      (m ((c.tc : Thread nD τ).loc main_arg1)) (m ((c.tc : Thread nD τ).loc main_arg2)) := rfl

theorem scaled_at (d : Vec Ideal S2048x4x128 .f32) (w : Wgt) (s : Scl) (i : Fin 2048) (j : Fin 512) :
    (scaled d w s (ix2 i j) : EReal) = (∑ k : Fin 128, d (ix3 i ⟨j.val / 128, by omega⟩ k) * w (ix3 ⟨j.val / 128, by omega⟩ k ⟨j.val % 128, by omega⟩)) * s (ix2 0 j) := by
  refine Eq.trans (b := (∑ k : Fin 128, w (ix3 ⟨j.val / 128, by omega⟩ k ⟨j.val % 128, by omega⟩) * d (ix3 i ⟨j.val / 128, by omega⟩ k)) * s (ix2 0 j)) (by pointwise []) ?_
  exact congrArg (fun a : EReal => a * s (ix2 0 j)) (Finset.sum_congr rfl fun k _ => mul_comm _ _)
theorem side_at (d0 d1 d2 d3 : Block) (i : Fin 2048) (a : Fin 4) (k : Fin 128) :
    (side d0 d1 d2 d3 (ix3 i a k) : EReal) = (![d0, d1, d2, d3] a) (ix2 i k) := by
  match a with
  | 0 => pointwise []
  | 1 => pointwise []
  | 2 => pointwise []
  | 3 => pointwise []
theorem counts_at (w : BitVec 32) (n : ℕ) (hw : Ideal.ofBits .f32 w = (((n : ℕ) : ℝ) : EReal)) (i : Fin 2048) (c : Fin 128) : (counts w (ix2 i c) : EReal) = count n i.val := by
  refine Eq.trans (b := min (1 + ((((BitVec.ofNat 32 i.val).toInt : ℤ) : ℝ) : EReal)) (Ideal.ofBits .f32 w)) (by pointwise []; rfl) ?_
  have hi := i.isLt
  rw [WordCmp.toInt_ofNat_of_lt (by omega), hw]
  unfold Pool.count
  rw [Nat.cast_min, show (1 : EReal) = ((1 : ℝ) : EReal) from rfl, ← EReal.coe_add]
  push_cast
  rw [add_comm]
  exact (EReal.coe_strictMono.monotone.map_min).symm
theorem less2_at (s : Block) (x : ℕ → EReal) (hx : ∀ k, x k = (((x k).toReal : ℝ) : EReal)) (c : Fin 128) (h : ∀ i : Fin 2048, (s (ix2 i c) : EReal) = ∑ k ∈ Finset.range (i.val + 1), x k) (i : Fin 2048) : (less2 s (ix2 i c) : EReal) = box 2 x i.val := by
  refine Eq.trans (b := (s (ix2 i c) : EReal) - if h : i.val < 2 then 0 else (s (ix2 ⟨i.val - 2, by omega⟩ c) : EReal)) (by pointwise []) ?_
  rw [← difference 2 x hx i.val, h]
  by_cases hi : i.val < 2
  · rw [dif_pos hi, if_neg (by omega)]
  · rw [dif_neg hi, if_pos (by omega), h]
theorem less4_at (s : Block) (x : ℕ → EReal) (hx : ∀ k, x k = (((x k).toReal : ℝ) : EReal)) (c : Fin 128) (h : ∀ i : Fin 2048, (s (ix2 i c) : EReal) = ∑ k ∈ Finset.range (i.val + 1), x k) (i : Fin 2048) : (less4 s (ix2 i c) : EReal) = box 4 x i.val := by
  refine Eq.trans (b := (s (ix2 i c) : EReal) - if h : i.val < 4 then 0 else (s (ix2 ⟨i.val - 4, by omega⟩ c) : EReal)) (by pointwise []) ?_
  rw [← difference 4 x hx i.val, h]
  by_cases hi : i.val < 4
  · rw [dif_pos hi, if_neg (by omega)]
  · rw [dif_neg hi, if_pos (by omega), h]
theorem less8_at (s : Block) (x : ℕ → EReal) (hx : ∀ k, x k = (((x k).toReal : ℝ) : EReal)) (c : Fin 128) (h : ∀ i : Fin 2048, (s (ix2 i c) : EReal) = ∑ k ∈ Finset.range (i.val + 1), x k) (i : Fin 2048) : (less8 s (ix2 i c) : EReal) = box 8 x i.val := by
  refine Eq.trans (b := (s (ix2 i c) : EReal) - if h : i.val < 8 then 0 else (s (ix2 ⟨i.val - 8, by omega⟩ c) : EReal)) (by pointwise []) ?_
  rw [← difference 8 x hx i.val, h]
  by_cases hi : i.val < 8
  · rw [dif_pos hi, if_neg (by omega)]
  · rw [dif_neg hi, if_pos (by omega), h]
theorem less16_at (s : Block) (x : ℕ → EReal) (hx : ∀ k, x k = (((x k).toReal : ℝ) : EReal)) (c : Fin 128) (h : ∀ i : Fin 2048, (s (ix2 i c) : EReal) = ∑ k ∈ Finset.range (i.val + 1), x k) (i : Fin 2048) : (less16 s (ix2 i c) : EReal) = box 16 x i.val := by
  refine Eq.trans (b := (s (ix2 i c) : EReal) - if h : i.val < 16 then 0 else (s (ix2 ⟨i.val - 16, by omega⟩ c) : EReal)) (by pointwise []) ?_
  rw [← difference 16 x hx i.val, h]
  by_cases hi : i.val < 16
  · rw [dif_pos hi, if_neg (by omega)]
  · rw [dif_neg hi, if_pos (by omega), h]

theorem less_at (l x : Block) (w : BitVec 32) (n : ℕ) (hw : Ideal.ofBits .f32 w = (((n : ℕ) : ℝ) : EReal)) (y : ℕ → EReal) (i : Fin 2048) (c : Fin 128) (hl : (l (ix2 i c) : EReal) = box n y i.val) (hx : (x (ix2 i c) : EReal) = y i.val) :
    (less l x w (ix2 i c) : EReal) = mean n y i.val := by
  refine Eq.trans (b := Ideal.div (l (ix2 i c) : EReal) (counts w (ix2 i c)) - x (ix2 i c)) (by pointwise []) ?_
  rw [counts_at w n hw, hl, hx]
  rfl

theorem part_at (p : Proj) (i : Fin 2048) (j : Fin 512) : (part p (ix2 i j) : EReal) = line p j.val i.val := by
  unfold line
  rw [dif_pos ⟨i.isLt, j.isLt⟩]
  pointwise []

theorem sums_at (p : Proj) (i : Fin 2048) (j : Fin 512) : (sums p (ix2 i j) : EReal) = ∑ k ∈ Finset.range (i.val + 1), line p j.val k :=
  prefix_sum _ (part p) _ (fun i => by pointwise []) _ _ (line p) (part_at p) i j

theorem cut0 (x : Cols) (i : Fin 2048) (k : Fin 128) : (extractStridedSlice S2048x128 ![0, 0] x slices_S2048x512_S2048x128_0_0 (ix2 i k) : EReal) = x (ix2 i ⟨k.val, by omega⟩) := by
  pointwise []
theorem cut1 (x : Cols) (i : Fin 2048) (k : Fin 128) : (extractStridedSlice S2048x128 ![0, 128] x slices_S2048x512_S2048x128_0_128 (ix2 i k) : EReal) = x (ix2 i ⟨128 + k.val, by omega⟩) := by
  pointwise []
theorem cut2 (x : Cols) (i : Fin 2048) (k : Fin 128) : (extractStridedSlice S2048x128 ![0, 256] x slices_S2048x512_S2048x128_0_256 (ix2 i k) : EReal) = x (ix2 i ⟨256 + k.val, by omega⟩) := by
  pointwise []
theorem cut3 (x : Cols) (i : Fin 2048) (k : Fin 128) : (extractStridedSlice S2048x128 ![0, 384] x slices_S2048x512_S2048x128_0_384 (ix2 i k) : EReal) = x (ix2 i ⟨384 + k.val, by omega⟩) := by
  pointwise []

variable (p : Proj) (hp : ∀ i (j : Fin 512), (p (ix2 i ⟨4608 + j.val, by omega⟩) : EReal) = (((p (ix2 i ⟨4608 + j.val, by omega⟩) : EReal).toReal : ℝ) : EReal))
include hp

theorem line_real (j k : ℕ) : line p j k = (((line p j k).toReal : ℝ) : EReal) := by
  unfold line
  split_ifs with h
  · exact hp ⟨k, h.1⟩ ⟨j, h.2⟩
  · rfl

theorem means0_at (i : Fin 2048) (k : Fin 128) : (means0 p (ix2 i k) : EReal) = mean 2 (line p k.val) i.val :=
  less_at _ _ _ 2 (by simp [Ideal.ofBits, Ideal.ieee, -EReal.coe_mul]; norm_num) _ i k
    (less2_at _ _ (line_real p hp _) k (fun i => (cut0 (sums p) i k).trans (sums_at p i _)) i)
    ((cut0 (part p) i k).trans (part_at p i _))
theorem means1_at (i : Fin 2048) (k : Fin 128) : (means1 p (ix2 i k) : EReal) = mean 4 (line p (128 + k.val)) i.val :=
  less_at _ _ _ 4 (by simp [Ideal.ofBits, Ideal.ieee, -EReal.coe_mul]; norm_num) _ i k
    (less4_at _ _ (line_real p hp _) k (fun i => (cut1 (sums p) i k).trans (sums_at p i _)) i)
    ((cut1 (part p) i k).trans (part_at p i _))
theorem means2_at (i : Fin 2048) (k : Fin 128) : (means2 p (ix2 i k) : EReal) = mean 8 (line p (256 + k.val)) i.val :=
  less_at _ _ _ 8 (by simp [Ideal.ofBits, Ideal.ieee, -EReal.coe_mul]; norm_num) _ i k
    (less8_at _ _ (line_real p hp _) k (fun i => (cut2 (sums p) i k).trans (sums_at p i _)) i)
    ((cut2 (part p) i k).trans (part_at p i _))
theorem means3_at (i : Fin 2048) (k : Fin 128) : (means3 p (ix2 i k) : EReal) = mean 16 (line p (384 + k.val)) i.val :=
  less_at _ _ _ 16 (by simp [Ideal.ofBits, Ideal.ieee, -EReal.coe_mul]; norm_num) _ i k
    (less16_at _ _ (line_real p hp _) k (fun i => (cut3 (sums p) i k).trans (sums_at p i _)) i)
    ((cut3 (part p) i k).trans (part_at p i _))

theorem means_at (i : Fin 2048) (a : Fin 4) (k : Fin 128) : (side (means0 p) (means1 p) (means2 p) (means3 p) (ix3 i a k) : EReal) = mean (wide a.val) (line p (128 * a.val + k.val)) i.val := by
  refine (side_at _ _ _ _ i a k).trans ?_
  match a with
  | 0 => exact (means0_at p hp i k).trans (by simp [wide])
  | 1 => exact means1_at p hp i k
  | 2 => exact means2_at p hp i k
  | 3 => exact means3_at p hp i k

theorem ref_eq (w : Wgt) (s : Scl) : scaled (side (means0 p) (means1 p) (means2 p) (means3 p)) w s = pooledA p w s := by
  funext i
  idx_vars i
  refine (scaled_at _ w s i0 i1).trans ?_
  exact congrArg (fun a : EReal => a * s (ix2 0 i1)) (Finset.sum_congr rfl fun k _ => congrArg (fun a : EReal => a * _) (means_at p hp i0 _ k))

end Reference

theorem finite_facts : Cert.Pre_finite_pool.Facts := ⟨by decide, by decide⟩

/-- The pooling's columns are real numbers. -/
theorem real_of_finite [Cert.Pre_finite_pool.Facts] (x0 : Proj) (x1 : Wgt) (x2 : Scl) (h0 : Cert.Pre_finite_pool.fn (F := Ideal) x0 x1 x2 = fun _ => 1#1) (i : Fin 2048) (j : Fin 512) :
    (x0 (ix2 i ⟨4608 + j.val, by omega⟩) : EReal) = (((x0 (ix2 i ⟨4608 + j.val, by omega⟩) : EReal).toReal : ℝ) : EReal) := by
  refine Cert.Proof.Sb.real_of_abs (Eq.trans ?_ (congrFun h0 (ix2 i j)))
  rw [← Cert.Proof.Sb.ofBits_top]
  pointwise [Cert.Pre_finite_pool.fn]
  rfl

open Cert.Kernel24Ideal.Gen in
theorem algebraic : Cert.algebraic_Kernel24Ideal_Reference24Ideal_pre_finite_pool (hKernel24Ideal := Cert.Kernel24Ideal.Gen.facts) (hReference24Ideal := Cert.Reference24Ideal.Gen.facts) (hPre_finite_pool := finite_facts) := by
  intro m ρ m' ρ' hpre hag
  have hp (c) := @real_of_finite finite_facts _ _ _ (hpre c)
  refine ⟨fun c => pooledA (pK m c) (wK m c) (sK m c),
    (θ_run Cert.Kernel24Ideal.defs _ _).mono (fun r h c => ⟨((h c).1 3).trans (arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (Cert.Kernel24Ideal.Gen.run_main (F := Ideal) m ρ),
    (θ_run Cert.Reference24Ideal.defs _ _).mono (fun r h c => ?_) (Cert.Reference24Ideal.Value.run (F := Ideal) m' ρ')⟩
  obtain ⟨h0, h1, h2⟩ := hag c
  refine ⟨(h c).1.trans ((run_ref m' c).trans ?_), (h c).2⟩
  rw [h0, h1, h2]
  exact ref_eq _ (hp c) _ _

end Cert.Proof.PoolFwd

end
-- ==== Proof.PoolBwd.lean ====
/- The pooling's gradients: what the call leaves, and the reference. -/
module

public import proofs.«01_k».proof.Proof.Gen.Kernel23Ideal.Frame
public import proofs.«01_k».proof.Proof.Gen.Reference23Ideal.Run
public import proofs.«01_k».proof.Pre_finite_pool_bwd
public import proofs.«01_k».proof.Proof.PoolFwd
public import proofs.«01_k».proof.Proof.ConvBwd
public import proofs.«01_k».proof.Proof.Input
public import proofs.«01_k».proof.Proof.Tools
public import Idealize.ShloMosaic.Lib.WordCmp

@[expose] public section

set_option maxRecDepth 16384

noncomputable section

namespace Cert.Proof.PoolBwd

open Idealize.ShloMosaic Idealize.ShloMosaic.TcCoe Idealize.ShloMosaic.StableHlo Idealize.SL.Sem Idealize.ShloMosaic.Tactic
open Cert.Proof.Pool
open Cert.Proof.PoolFwd (rows sizes sizes_at meanOf mean_at twice1 twice2 twice4 twice8 box1 box2 box4 box8)
open Cert.Proof.ConvBwd (select_slt)

section Kernel

open Cert.Kernel23Ideal Cert.Kernel23Ideal.Gen

theorem moved1 (s : Block) (r : Fin 2048) (c : Fin 128) :
    (select (cmpi .slt rows (broadcast S2048x128 2047#32)) (dynamicRotate 0 2047#32 none s rotates_S2048x128_d0 : Block) (broadcast S2048x128 (Scalar.ofBits (F := Ideal) .f32 0x00000000#32)) (ix2 r c) : EReal)
      = if h : r.val + 1 < 2048 then (s (ix2 ⟨r.val + 1, h⟩ c) : EReal) else 0 := by
  refine Eq.trans (b := Scalar.select (IntOp.cmpi .slt (BitVec.ofNat 32 r.val) (BitVec.ofNat 32 2047)) (s (ix2 ⟨(r.val + 2048 - 2047) % 2048, Nat.mod_lt _ (by norm_num)⟩ c) : EReal) 0) (by pointwise []) ?_
  have hr := r.isLt
  rw [select_slt _ _ (by omega) (by norm_num)]
  by_cases h : r.val < 2047
  · rw [if_pos h, dif_pos (by omega)]
    exact congrArg (fun n : Fin 2048 => (s (ix2 n c) : EReal)) (Fin.ext (by dsimp only; omega))
  · rw [if_neg h, dif_neg (by omega)]
abbrev up1 (s : Block) : Block := addf (F := Ideal) (φ := .f32) s (select (cmpi .slt rows (broadcast S2048x128 2047#32)) (dynamicRotate 0 2047#32 none s rotates_S2048x128_d0 : Block) (broadcast S2048x128 (Scalar.ofBits (F := Ideal) .f32 0x00000000#32)))
theorem next1 (s : Block) (y : ℕ → EReal) (hy : ∀ k, 2048 ≤ k → y k = 0) (c : Fin 128) (h : ∀ r : Fin 2048, (s (ix2 r c) : EReal) = ahead 1 y r.val) (r : Fin 2048) : (up1 s (ix2 r c) : EReal) = ahead 2 y r.val := by
  refine Eq.trans ?_ (ahead_double 1 y r.val)
  refine congrArg₂ (fun a b : EReal => a + b) (h r) ((moved1 s r c).trans ?_)
  by_cases hr : r.val + 1 < 2048
  · rw [dif_pos hr]; exact h _
  · rw [dif_neg hr, ahead_past 1 y hy _ (by omega)]
theorem moved2 (s : Block) (r : Fin 2048) (c : Fin 128) :
    (select (cmpi .slt rows (broadcast S2048x128 2046#32)) (dynamicRotate 0 2046#32 none s rotates_S2048x128_d0 : Block) (broadcast S2048x128 (Scalar.ofBits (F := Ideal) .f32 0x00000000#32)) (ix2 r c) : EReal)
      = if h : r.val + 2 < 2048 then (s (ix2 ⟨r.val + 2, h⟩ c) : EReal) else 0 := by
  refine Eq.trans (b := Scalar.select (IntOp.cmpi .slt (BitVec.ofNat 32 r.val) (BitVec.ofNat 32 2046)) (s (ix2 ⟨(r.val + 2048 - 2046) % 2048, Nat.mod_lt _ (by norm_num)⟩ c) : EReal) 0) (by pointwise []) ?_
  have hr := r.isLt
  rw [select_slt _ _ (by omega) (by norm_num)]
  by_cases h : r.val < 2046
  · rw [if_pos h, dif_pos (by omega)]
    exact congrArg (fun n : Fin 2048 => (s (ix2 n c) : EReal)) (Fin.ext (by dsimp only; omega))
  · rw [if_neg h, dif_neg (by omega)]
abbrev up2 (s : Block) : Block := addf (F := Ideal) (φ := .f32) s (select (cmpi .slt rows (broadcast S2048x128 2046#32)) (dynamicRotate 0 2046#32 none s rotates_S2048x128_d0 : Block) (broadcast S2048x128 (Scalar.ofBits (F := Ideal) .f32 0x00000000#32)))
theorem next2 (s : Block) (y : ℕ → EReal) (hy : ∀ k, 2048 ≤ k → y k = 0) (c : Fin 128) (h : ∀ r : Fin 2048, (s (ix2 r c) : EReal) = ahead 2 y r.val) (r : Fin 2048) : (up2 s (ix2 r c) : EReal) = ahead 4 y r.val := by
  refine Eq.trans ?_ (ahead_double 2 y r.val)
  refine congrArg₂ (fun a b : EReal => a + b) (h r) ((moved2 s r c).trans ?_)
  by_cases hr : r.val + 2 < 2048
  · rw [dif_pos hr]; exact h _
  · rw [dif_neg hr, ahead_past 2 y hy _ (by omega)]
theorem moved4 (s : Block) (r : Fin 2048) (c : Fin 128) :
    (select (cmpi .slt rows (broadcast S2048x128 2044#32)) (dynamicRotate 0 2044#32 none s rotates_S2048x128_d0 : Block) (broadcast S2048x128 (Scalar.ofBits (F := Ideal) .f32 0x00000000#32)) (ix2 r c) : EReal)
      = if h : r.val + 4 < 2048 then (s (ix2 ⟨r.val + 4, h⟩ c) : EReal) else 0 := by
  refine Eq.trans (b := Scalar.select (IntOp.cmpi .slt (BitVec.ofNat 32 r.val) (BitVec.ofNat 32 2044)) (s (ix2 ⟨(r.val + 2048 - 2044) % 2048, Nat.mod_lt _ (by norm_num)⟩ c) : EReal) 0) (by pointwise []) ?_
  have hr := r.isLt
  rw [select_slt _ _ (by omega) (by norm_num)]
  by_cases h : r.val < 2044
  · rw [if_pos h, dif_pos (by omega)]
    exact congrArg (fun n : Fin 2048 => (s (ix2 n c) : EReal)) (Fin.ext (by dsimp only; omega))
  · rw [if_neg h, dif_neg (by omega)]
abbrev up4 (s : Block) : Block := addf (F := Ideal) (φ := .f32) s (select (cmpi .slt rows (broadcast S2048x128 2044#32)) (dynamicRotate 0 2044#32 none s rotates_S2048x128_d0 : Block) (broadcast S2048x128 (Scalar.ofBits (F := Ideal) .f32 0x00000000#32)))
theorem next4 (s : Block) (y : ℕ → EReal) (hy : ∀ k, 2048 ≤ k → y k = 0) (c : Fin 128) (h : ∀ r : Fin 2048, (s (ix2 r c) : EReal) = ahead 4 y r.val) (r : Fin 2048) : (up4 s (ix2 r c) : EReal) = ahead 8 y r.val := by
  refine Eq.trans ?_ (ahead_double 4 y r.val)
  refine congrArg₂ (fun a b : EReal => a + b) (h r) ((moved4 s r c).trans ?_)
  by_cases hr : r.val + 4 < 2048
  · rw [dif_pos hr]; exact h _
  · rw [dif_neg hr, ahead_past 4 y hy _ (by omega)]
theorem moved8 (s : Block) (r : Fin 2048) (c : Fin 128) :
    (select (cmpi .slt rows (broadcast S2048x128 2040#32)) (dynamicRotate 0 2040#32 none s rotates_S2048x128_d0 : Block) (broadcast S2048x128 (Scalar.ofBits (F := Ideal) .f32 0x00000000#32)) (ix2 r c) : EReal)
      = if h : r.val + 8 < 2048 then (s (ix2 ⟨r.val + 8, h⟩ c) : EReal) else 0 := by
  refine Eq.trans (b := Scalar.select (IntOp.cmpi .slt (BitVec.ofNat 32 r.val) (BitVec.ofNat 32 2040)) (s (ix2 ⟨(r.val + 2048 - 2040) % 2048, Nat.mod_lt _ (by norm_num)⟩ c) : EReal) 0) (by pointwise []) ?_
  have hr := r.isLt
  rw [select_slt _ _ (by omega) (by norm_num)]
  by_cases h : r.val < 2040
  · rw [if_pos h, dif_pos (by omega)]
    exact congrArg (fun n : Fin 2048 => (s (ix2 n c) : EReal)) (Fin.ext (by dsimp only; omega))
  · rw [if_neg h, dif_neg (by omega)]
abbrev up8 (s : Block) : Block := addf (F := Ideal) (φ := .f32) s (select (cmpi .slt rows (broadcast S2048x128 2040#32)) (dynamicRotate 0 2040#32 none s rotates_S2048x128_d0 : Block) (broadcast S2048x128 (Scalar.ofBits (F := Ideal) .f32 0x00000000#32)))
theorem next8 (s : Block) (y : ℕ → EReal) (hy : ∀ k, 2048 ≤ k → y k = 0) (c : Fin 128) (h : ∀ r : Fin 2048, (s (ix2 r c) : EReal) = ahead 8 y r.val) (r : Fin 2048) : (up8 s (ix2 r c) : EReal) = ahead 16 y r.val := by
  refine Eq.trans ?_ (ahead_double 8 y r.val)
  refine congrArg₂ (fun a b : EReal => a + b) (h r) ((moved8 s r c).trans ?_)
  by_cases hr : r.val + 8 < 2048
  · rw [dif_pos hr]; exact h _
  · rw [dif_neg hr, ahead_past 8 y hy _ (by omega)]

theorem kept3 (x : Block) : k0_pay3 (F := Ideal) x = meanOf (twice1 x) x 2#32 := rfl
theorem kept9 (x : Block) : k0_pay9 (F := Ideal) rows x = meanOf (twice2 (twice1 x)) x 4#32 := rfl
theorem kept15 (x : Block) : k0_pay15 (F := Ideal) rows x = meanOf (twice4 (twice2 (twice1 x))) x 8#32 := rfl
theorem kept21 (x : Block) : k0_pay21 (F := Ideal) rows x = meanOf (twice8 (twice4 (twice2 (twice1 x)))) x 16#32 := rfl

abbrev gainOf (l dy : Block) (w : Group) : Gain := k0_pay10 (F := Ideal) l dy w
abbrev matsOf (l dy : Block) (g : Gain) : Group := k0_pay12 (F := Ideal) l dy g
abbrev backOf (dy : Block) (g : Gain) (w : Group) : Block := k0_pay27 (F := Ideal) dy g w
abbrev partsOf (b : Block) (n : BitVec 32) : Block := divf (F := Ideal) (φ := .f32) b (sizes n)
abbrev lessOf (u b : Block) : Vec Ideal ⟨2, ![2048, 128]⟩ .bf16 := truncf (F := Ideal) .bf16 (subf (F := Ideal) (φ := .f32) u b) bitsLt_bf16_f32

theorem gain4 (x dy : Block) (w : Group) : k0_pay4 (F := Ideal) x dy w = gainOf (k0_pay3 x) dy w := rfl
theorem gain16 (x dy : Block) (w : Group) : k0_pay16 (F := Ideal) rows x dy w = gainOf (k0_pay15 rows x) dy w := rfl
theorem gain24 (x dy : Block) (w : Group) : k0_pay24 (F := Ideal) dy (k0_pay22 rows x) (k0_pay23 w) = gainOf (k0_pay21 rows x) dy w := rfl
theorem mats6 (x dy : Block) (g : Gain) : k0_pay6 (F := Ideal) x dy g = matsOf (k0_pay3 x) dy g := rfl
theorem mats18 (l dy : Block) (g : Gain) : k0_pay18 (F := Ideal) l dy g = matsOf l dy g := rfl
theorem mats26 (l dy : Block) (g : Gain) : k0_pay26 (F := Ideal) l dy g = matsOf l dy g := rfl
theorem cols7 (dy : Block) (g : Gain) (w : Group) : k0_pay7 (F := Ideal) rows k0_pay2 (k0_pay5 dy g) w = lessOf (up1 (partsOf (backOf dy g w) 2#32)) (backOf dy g w) := rfl
theorem cols13 (dy : Block) (g : Gain) (w : Group) : k0_pay13 (F := Ideal) rows (k0_pay8 rows) dy g w = lessOf (up2 (up1 (partsOf (backOf dy g w) 4#32))) (backOf dy g w) := rfl
theorem cols19 (dy : Block) (g : Gain) (w : Group) : k0_pay19 (F := Ideal) rows (k0_pay14 rows) dy g w = lessOf (up4 (up2 (up1 (partsOf (backOf dy g w) 8#32)))) (backOf dy g w) := rfl
theorem cols1 (dy : Block) (g : Gain) (w : Group) : k0_pay1 (F := Ideal) rows (k0_pay27 dy g w) (k0_pay28 rows (k0_pay20 rows) dy g w) (k0_pay29 rows) (k0_pay30 rows (k0_pay20 rows) dy g w) (Scalar.ofBits .f32 0x00000000#32)
    = lessOf (up8 (up4 (up2 (up1 (partsOf (backOf dy g w) 16#32))))) (backOf dy g w) := rfl

theorem gainOf_at (l dy : Block) (w : Group) (c : Fin 128) : (gainOf l dy w (ix2 0 c) : EReal) = ∑ r : Fin 2048, dy (ix2 r c) * ∑ k : Fin 128, l (ix2 r k) * w (ix3 0 k c) := by
  pointwise [k0_pay10]
theorem matsOf_at (l dy : Block) (g : Gain) (k c : Fin 128) : (matsOf l dy g (ix3 0 k c) : EReal) = ∑ r : Fin 2048, l (ix2 r k) * (dy (ix2 r c) * g (ix2 0 c)) := by
  pointwise [k0_pay12, k0_pay11]
theorem backOf_at (dy : Block) (g : Gain) (w : Group) (r : Fin 2048) (k : Fin 128) : (backOf dy g w (ix2 r k) : EReal) = ∑ c : Fin 128, dy (ix2 r c) * g (ix2 0 c) * w (ix3 0 k c) := by
  pointwise [k0_pay27, k0_pay25]

theorem partsOf_at (b : Block) (n : BitVec 32) (r : Fin 2048) (k : Fin 128) : (partsOf b n (ix2 r k) : EReal) = Ideal.div (b (ix2 r k) : EReal) (sizes n (ix2 r k)) := by
  pointwise []

section Group

variable (p : Proj) (W : Wgt) (S : Scl) (D : Cols) (a : Fin 4) (x dy : Block) (w : Group) (g : Gain)
  (hx : ∀ r (k : Fin 128), (x (ix2 r k) : EReal) = p (ix2 r ⟨4608 + (128 * a.val + k.val), by omega⟩))
  (hd : ∀ r (k : Fin 128), (dy (ix2 r k) : EReal) = D (ix2 r ⟨128 * a.val + k.val, by omega⟩))
  (hw : ∀ k c, (w (ix3 0 k c) : EReal) = W (ix3 a k c)) (hg : ∀ k : Fin 128, (g (ix2 0 k) : EReal) = S (ix2 0 ⟨128 * a.val + k.val, by omega⟩))

include hx hd hw in
theorem gain_at (l : Block) (hl : ∀ k r, (l (ix2 r k) : EReal) = mean (wide a.val) (column x k) r.val) (c : Fin 128) : (gainOf l dy w (ix2 0 c) : EReal) = dgain p W D a c := by
  refine (gainOf_at l dy w c).trans (Finset.sum_congr rfl fun r _ => congrArg₂ (fun a b : EReal => a * b) (hd r c) (Finset.sum_congr rfl fun k _ => congrArg₂ (fun a b : EReal => a * b) ((hl k r).trans ?_) (hw k c)))
  rw [column_line p x a hx]
include hx hd hg in
theorem mats_at (l : Block) (hl : ∀ k r, (l (ix2 r k) : EReal) = mean (wide a.val) (column x k) r.val) (k c : Fin 128) : (matsOf l dy g (ix3 0 k c) : EReal) = dmats p S D a k c := by
  refine (matsOf_at l dy g k c).trans (Finset.sum_congr rfl fun r _ => congrArg₂ (fun a b : EReal => a * b) ((hl k r).trans ?_) (congrArg₂ (fun a b : EReal => a * b) (hd r c) (hg c)))
  rw [column_line p x a hx]
include hd hw hg in
theorem back_at (r : Fin 2048) (k : Fin 128) : (backOf dy g w (ix2 r k) : EReal) = back W S D a r k :=
  (backOf_at dy g w r k).trans (Finset.sum_congr rfl fun c _ => congrArg₂ (fun a b : EReal => a * b) (congrArg₂ (fun a b : EReal => a * b) (hd r c) (hg c)) (hw k c))
include hd hw hg in
theorem parts_at (n : ℕ) (hn : n = wide a.val) (hn' : n ≤ 16) (k : Fin 128) (r : Fin 2048) : (partsOf (backOf dy g w) (BitVec.ofNat 32 n) (ix2 r k) : EReal) = ahead 1 (spread W S D a k) r.val := by
  refine (partsOf_at _ _ r k).trans ?_
  rw [ahead_one, spread_at, sizes_at n hn', back_at W S D a dy w g hd hw hg, hn]
include hd hw hg in
theorem cols_at (u : Block) (hu : ∀ k r, (u (ix2 r k) : EReal) = ahead (wide a.val) (spread W S D a k) r.val) (r : Fin 2048) (k : Fin 128) : (lessOf u (backOf dy g w) (ix2 r k) : EReal) = dcols W S D r a k :=
  congrArg₂ (fun a b : EReal => a - b) (hu k r) (back_at W S D a dy w g hd hw hg r k)

end Group

theorem kept3_at (x : Block) (k : Fin 128) (r : Fin 2048) : (k0_pay3 (F := Ideal) x (ix2 r k) : EReal) = mean 2 (column x k) r.val := by
  rw [kept3]
  exact mean_at _ x 2 (by norm_num) k (box1 x x k fun r => (column_one x k r).symm) r
theorem kept9_at (x : Block) (k : Fin 128) (r : Fin 2048) : (k0_pay9 (F := Ideal) rows x (ix2 r k) : EReal) = mean 4 (column x k) r.val := by
  rw [kept9]
  exact mean_at _ x 4 (by norm_num) k (box2 _ x k (box1 x x k fun r => (column_one x k r).symm)) r
theorem kept15_at (x : Block) (k : Fin 128) (r : Fin 2048) : (k0_pay15 (F := Ideal) rows x (ix2 r k) : EReal) = mean 8 (column x k) r.val := by
  rw [kept15]
  exact mean_at _ x 8 (by norm_num) k (box4 _ x k (box2 _ x k (box1 x x k fun r => (column_one x k r).symm))) r
theorem kept21_at (x : Block) (k : Fin 128) (r : Fin 2048) : (k0_pay21 (F := Ideal) rows x (ix2 r k) : EReal) = mean 16 (column x k) r.val := by
  rw [kept21]
  exact mean_at _ x 16 (by norm_num) k (box8 _ x k (box4 _ x k (box2 _ x k (box1 x x k fun r => (column_one x k r).symm)))) r

abbrev cB (x : Cols) : Fin 4 → Block := ![View.ld x (Rect.unit (s := S2048x512) ![0, 0] S2048x128.size inb_S2048x512_S2048x128_0_0), View.ld x (Rect.unit (s := S2048x512) ![0, 128] S2048x128.size inb_S2048x512_S2048x128_0_128),
  View.ld x (Rect.unit (s := S2048x512) ![0, 256] S2048x128.size inb_S2048x512_S2048x128_0_256), View.ld x (Rect.unit (s := S2048x512) ![0, 384] S2048x128.size inb_S2048x512_S2048x128_0_384)]
abbrev wB (w : Wgt) : Fin 4 → Group := ![View.ld w (Rect.unit (s := S4x128x128) ![0, 0, 0] S1x128x128.size inb_S4x128x128_S1x128x128_0_0_0), View.ld w (Rect.unit (s := S4x128x128) ![1, 0, 0] S1x128x128.size inb_S4x128x128_S1x128x128_1_0_0),
  View.ld w (Rect.unit (s := S4x128x128) ![2, 0, 0] S1x128x128.size inb_S4x128x128_S1x128x128_2_0_0), View.ld w (Rect.unit (s := S4x128x128) ![3, 0, 0] S1x128x128.size inb_S4x128x128_S1x128x128_3_0_0)]
abbrev gB (s : Scl) : Fin 4 → Gain := ![View.ld s (Rect.unit (s := S1x512) ![0, 0] S1x128.size inb_S1x512_S1x128_0_0), View.ld s (Rect.unit (s := S1x512) ![0, 128] S1x128.size inb_S1x512_S1x128_0_128),
  View.ld s (Rect.unit (s := S1x512) ![0, 256] S1x128.size inb_S1x512_S1x128_0_256), View.ld s (Rect.unit (s := S1x512) ![0, 384] S1x128.size inb_S1x512_S1x128_0_384)]
theorem cB_at (x : Cols) (a : Fin 4) (r : Fin 2048) (k : Fin 128) : (cB x a (ix2 r k) : EReal) = x (ix2 r ⟨128 * a.val + k.val, by omega⟩) := by
  match a with
  | 0 => exact (by pointwise [] : _ = (x (ix2 r ⟨k.val, by omega⟩) : EReal)).trans (congrArg (fun n : Fin 512 => (x (ix2 r n) : EReal)) (Fin.ext (by simp)))
  | 1 => pointwise []
  | 2 => pointwise []
  | 3 => pointwise []
theorem wB_at (w : Wgt) (a : Fin 4) (k c : Fin 128) : (wB w a (ix3 0 k c) : EReal) = w (ix3 a k c) := by
  match a with
  | 0 => pointwise []
  | 1 => pointwise []
  | 2 => pointwise []
  | 3 => pointwise []
theorem gB_at (s : Scl) (a : Fin 4) (k : Fin 128) : (gB s a (ix2 0 k) : EReal) = s (ix2 0 ⟨128 * a.val + k.val, by omega⟩) := by
  match a with
  | 0 => exact (by pointwise [] : _ = (s (ix2 0 ⟨k.val, by omega⟩) : EReal)).trans (congrArg (fun n : Fin 512 => (s (ix2 0 n) : EReal)) (Fin.ext (by simp)))
  | 1 => pointwise []
  | 2 => pointwise []
  | 3 => pointwise []

/-- Four groups' matrices stored one after another. -/
theorem tiles_mats (P0 P1 P2 P3 : Group) (v : Fin 4 → Fin 128 → Fin 128 → EReal) (q0 : ∀ k c, (P0 (ix3 0 k c) : EReal) = v 0 k c) (q1 : ∀ k c, (P1 (ix3 0 k c) : EReal) = v 1 k c)
    (q2 : ∀ k c, (P2 (ix3 0 k c) : EReal) = v 2 k c) (q3 : ∀ k c, (P3 (ix3 0 k c) : EReal) = v 3 k c) (a : Fin 4) (k c : Fin 128) :
    (View.canon [(⟨Rect.unit (s := S4x128x128) ![3, 0, 0] S1x128x128.size inb_S4x128x128_S1x128x128_3_0_0, P3⟩ : View.Piece (Elt Ideal) S4x128x128 .f32), ⟨Rect.unit (s := S4x128x128) ![2, 0, 0] S1x128x128.size inb_S4x128x128_S1x128x128_2_0_0, P2⟩,
      ⟨Rect.unit (s := S4x128x128) ![1, 0, 0] S1x128x128.size inb_S4x128x128_S1x128x128_1_0_0, P1⟩, ⟨Rect.unit (s := S4x128x128) ![0, 0, 0] S1x128x128.size inb_S4x128x128_S1x128x128_0_0_0, P0⟩] (ix3 a k c) : EReal) = v a k c := by
  have e (a a' : Fin 4) (k k' c c' : Fin 128) (h0 : a' = a) (h1 : k' = k) (h2 : c' = c) : v a k c = v a' k' c' := by rw [h0, h1, h2]
  canon_tiles x h
  all_goals
    idx_vars x
    obtain rfl : x0 = 0 := Subsingleton.elim _ _
  · exact (q3 _ _).trans (e _ _ _ _ _ _ (Fin.ext h0) (Fin.ext h1) (Fin.ext h2))
  · exact (q2 _ _).trans (e _ _ _ _ _ _ (Fin.ext h0) (Fin.ext h1) (Fin.ext h2))
  · exact (q1 _ _).trans (e _ _ _ _ _ _ (Fin.ext h0) (Fin.ext h1) (Fin.ext h2))
  · exact (q0 _ _).trans (e _ _ _ _ _ _ (Fin.ext h0) (Fin.ext h1) (Fin.ext h2))

/-- Four groups' gains stored one after another. -/
theorem tiles_gain (P0 P1 P2 P3 : Gain) (v : Fin 512 → EReal) (q0 : ∀ c : Fin 128, (P0 (ix2 0 c) : EReal) = v ⟨c.val, by omega⟩)
    (q1 : ∀ c : Fin 128, (P1 (ix2 0 c) : EReal) = v ⟨128 + c.val, by omega⟩) (q2 : ∀ c : Fin 128, (P2 (ix2 0 c) : EReal) = v ⟨256 + c.val, by omega⟩)
    (q3 : ∀ c : Fin 128, (P3 (ix2 0 c) : EReal) = v ⟨384 + c.val, by omega⟩) (l : Fin 512) :
    (View.canon [(⟨Rect.unit (s := S1x512) ![0, 384] S1x128.size inb_S1x512_S1x128_0_384, P3⟩ : View.Piece (Elt Ideal) S1x512 .f32), ⟨Rect.unit (s := S1x512) ![0, 256] S1x128.size inb_S1x512_S1x128_0_256, P2⟩,
      ⟨Rect.unit (s := S1x512) ![0, 128] S1x128.size inb_S1x512_S1x128_0_128, P1⟩, ⟨Rect.unit (s := S1x512) ![0, 0] S1x128.size inb_S1x512_S1x128_0_0, P0⟩] (ix2 0 l) : EReal) = v l := by
  canon_tiles x h
  all_goals
    idx_vars x
    obtain rfl : x0 = 0 := Subsingleton.elim _ _
  · exact (q3 _).trans (congrArg v (Fin.ext (by dsimp only; omega)))
  · exact (q2 _).trans (congrArg v (Fin.ext (by dsimp only; omega)))
  · exact (q1 _).trans (congrArg v (Fin.ext (by dsimp only; omega)))
  · exact (q0 _).trans (congrArg v (Fin.ext (by dsimp only; omega)))

variable (m : (ℓ : Loc nD τ sig) → Buf (Elt Ideal) ℓ) (c : Dev nD)

abbrev pK : Proj := m ((c.tc : Thread nD τ).loc main_arg0)
abbrev wK : Wgt := m ((c.tc : Thread nD τ).loc main_arg1)
abbrev sK : Scl := m ((c.tc : Thread nD τ).loc main_arg2)
abbrev dK : Cols := m ((c.tc : Thread nD τ).loc main_arg3)
abbrev eK : Proj := m ((c.tc : Thread nD τ).loc main_arg4)

/-- Where the blocks lie. -/
theorem places : ∀ t : Fin cfg0.N, win0_0.index t = ![0, 9] ∧ win0_1.index t = ![0, 0, 0] ∧ win0_2.index t = ![0, 0] ∧ win0_3.index t = ![0, 0] ∧ win0_4.index t = ![0, 9] ∧ win0_5.index t = ![0, 0, 0] ∧ win0_6.index t = ![0, 0] :=
  (by decide +kernel : ∀ t : Fin grid0.N, _)

abbrev xI (t : Fin cfg0.N) : Cols := iblk m c 0 t
abbrev wI (t : Fin cfg0.N) : Wgt := iblk m c 1 t
abbrev sI (t : Fin cfg0.N) : Scl := iblk m c 2 t
abbrev dI (t : Fin cfg0.N) : Cols := iblk m c 3 t

theorem read_0 (t : Fin cfg0.N) (i : Fin 2048) (j : Fin 512) : (xI m c t (ix2 i j) : EReal) = pK m c (ix2 i ⟨4608 + j.val, by omega⟩) := by
  refine Eq.trans (b := ((V m c main_arg0 : Proj) (ix2 i ⟨4608 + j.val, by omega⟩) : EReal)) ?_ (congrFun (V_main_arg0 m c) _)
  blk_ext [xI, iblk, (places t).1]
theorem read_1 (t : Fin cfg0.N) : wI m c t = wK m c := by
  funext y
  idx_vars y
  refine Eq.trans (b := (V m c main_arg1 : Wgt) (ix3 y0 y1 y2)) ?_ (congrFun (V_main_arg1 m c) _)
  blk_ext [wI, iblk, (places t).2.1]
theorem read_2 (t : Fin cfg0.N) : sI m c t = sK m c := by
  funext y
  idx_vars y
  refine Eq.trans (b := (V m c main_arg2 : Scl) (ix2 y0 y1)) ?_ (congrFun (V_main_arg2 m c) _)
  blk_ext [sI, iblk, (places t).2.2.1]
theorem read_3 (t : Fin cfg0.N) : dI m c t = dK m c := by
  funext y
  idx_vars y
  refine Eq.trans (b := (V m c main_arg3 : Cols) (ix2 y0 y1)) ?_ (congrFun (V_main_arg3 m c) _)
  blk_ext [dI, iblk, (places t).2.2.2.1]

/-- The array the call writes into, as it finds it. -/
theorem start (i : Fin 2048) (j : Fin 12288) : ((V m c main_v1_0 : Wide) (ix2 i j) : EReal) = eK m c (ix2 i j) := by
  after_reads_at
  rfl

theorem x_at (t : Fin cfg0.N) (a : Fin 4) (r : Fin 2048) (k : Fin 128) : (cB (xI m c t) a (ix2 r k) : EReal) = pK m c (ix2 r ⟨4608 + (128 * a.val + k.val), by omega⟩) := (cB_at _ a r k).trans (read_0 m c t _ _)
theorem d_at (t : Fin cfg0.N) (a : Fin 4) (r : Fin 2048) (k : Fin 128) : (cB (dI m c t) a (ix2 r k) : EReal) = dK m c (ix2 r ⟨128 * a.val + k.val, by omega⟩) := (cB_at _ a r k).trans (congrFun (read_3 m c t) _)
theorem w_at (t : Fin cfg0.N) (a : Fin 4) (k j : Fin 128) : (wB (wI m c t) a (ix3 0 k j) : EReal) = wK m c (ix3 a k j) := (wB_at _ a k j).trans (congrFun (read_1 m c t) _)
theorem g_at (t : Fin cfg0.N) (a : Fin 4) (k : Fin 128) : (gB (sI m c t) a (ix2 0 k) : EReal) = sK m c (ix2 0 ⟨128 * a.val + k.val, by omega⟩) := (gB_at _ a k).trans (congrFun (read_2 m c t) _)

theorem arr_mats : (dats m 0 c).arrAt 5 cfg0.N = dmatsA (pK m c) (sK m c) (dK m c) := by
  refine (dats m 0 c).arrAt_eq_of_covers 5 _ (by decide +kernel) fun t _ y => ?_
  have e (a a' : Fin 4) (k k' j j' : Fin 128) (h0 : a' = a) (h1 : k' = k) (h2 : j' = j) : dmats (pK m c) (sK m c) (dK m c) a k j = dmats (pK m c) (sK m c) (dK m c) a' k' j' := by rw [h0, h1, h2]
  blk_simp
  rw [after0_5]
  idx_vars y
  unfold outsAt0
  frame_out
  refine (tiles_mats _ _ _ _ (dmats (pK m c) (sK m c) (dK m c)) (fun k j => ?_) (fun k j => ?_) (fun k j => ?_) (fun k j => ?_) y0 y1 y2).trans (e _ _ _ _ _ _ (Fin.ext ?_) (Fin.ext ?_) (Fin.ext ?_))
  · exact mats_at _ _ _ 0 (cB (xI m c t) 0) (cB (dI m c t) 0) (gB (sI m c t) 0) (x_at m c t 0) (d_at m c t 0) (g_at m c t 0) _ (kept3_at _) k j
  · exact mats_at _ _ _ 1 (cB (xI m c t) 1) (cB (dI m c t) 1) (gB (sI m c t) 1) (x_at m c t 1) (d_at m c t 1) (g_at m c t 1) _ (kept9_at _) k j
  · exact mats_at _ _ _ 2 (cB (xI m c t) 2) (cB (dI m c t) 2) (gB (sI m c t) 2) (x_at m c t 2) (d_at m c t 2) (g_at m c t 2) _ (kept15_at _) k j
  · exact mats_at _ _ _ 3 (cB (xI m c t) 3) (cB (dI m c t) 3) (gB (sI m c t) 3) (x_at m c t 3) (d_at m c t 3) (g_at m c t 3) _ (kept21_at _) k j
  · blk_simp [(places t).2.2.2.2.2.1]
  · blk_simp [(places t).2.2.2.2.2.1]
  · blk_simp [(places t).2.2.2.2.2.1]

theorem arr_gain : (dats m 0 c).arrAt 6 cfg0.N = dgainA (pK m c) (wK m c) (dK m c) := by
  refine (dats m 0 c).arrAt_eq_of_covers 6 _ (by decide +kernel) fun t _ y => ?_
  blk_simp
  rw [after0_6]
  idx_vars y
  obtain rfl : y0 = 0 := Subsingleton.elim _ _
  unfold outsAt0
  frame_out
  refine (tiles_gain _ _ _ _ (dgainL (pK m c) (wK m c) (dK m c)) (fun j => ?_) (fun j => ?_) (fun j => ?_) (fun j => ?_) y1).trans (congrArg (dgainL _ _ _) (Fin.ext ?_))
  · exact (gain_at _ _ _ 0 (cB (xI m c t) 0) (cB (dI m c t) 0) (wB (wI m c t) 0) (x_at m c t 0) (d_at m c t 0) (w_at m c t 0) _ (kept3_at _) j).trans (dgainL_at _ _ _ 0 j _ (by simp))
  · exact (gain_at _ _ _ 1 (cB (xI m c t) 1) (cB (dI m c t) 1) (wB (wI m c t) 1) (x_at m c t 1) (d_at m c t 1) (w_at m c t 1) _ (kept9_at _) j).trans (dgainL_at _ _ _ 1 j _ rfl)
  · exact (gain_at _ _ _ 2 (cB (xI m c t) 2) (cB (dI m c t) 2) (wB (wI m c t) 2) (x_at m c t 2) (d_at m c t 2) (w_at m c t 2) _ (kept15_at _) j).trans (dgainL_at _ _ _ 2 j _ rfl)
  · exact (gain_at _ _ _ 3 (cB (xI m c t) 3) (cB (dI m c t) 3) (wB (wI m c t) 3) (x_at m c t 3) (d_at m c t 3) (w_at m c t 3) _ (kept21_at _) j).trans (dgainL_at _ _ _ 3 j _ rfl)
  · blk_simp [(places t).2.2.2.2.2.2]

section Cols

variable (t : Fin cfg0.N)

abbrev bB (a : Fin 4) : Block := backOf (cB (dI m c t) a) (gB (sI m c t) a) (wB (wI m c t) a)
theorem first (a : Fin 4) (n : ℕ) (hn : n = wide a.val) (hn' : n ≤ 16) (k : Fin 128) (r : Fin 2048) : (partsOf (bB m c t a) (BitVec.ofNat 32 n) (ix2 r k) : EReal) = ahead 1 (spread (wK m c) (sK m c) (dK m c) a k) r.val :=
  parts_at _ _ _ a _ _ _ (d_at m c t a) (w_at m c t a) (g_at m c t a) n hn hn' k r
abbrev past (a : Fin 4) (k : Fin 128) := spread_past (wK m c) (sK m c) (dK m c) a k
theorem piece0 (r : Fin 2048) (k : Fin 128) : (lessOf (up1 (partsOf (bB m c t 0) 2#32)) (bB m c t 0) (ix2 r k) : EReal) = dcols (wK m c) (sK m c) (dK m c) r 0 k :=
  cols_at _ _ _ 0 _ _ _ (d_at m c t 0) (w_at m c t 0) (g_at m c t 0) _ (fun k => next1 _ _ (past m c 0 k) k (first m c t 0 2 rfl (by norm_num) k)) r k
theorem piece1 (r : Fin 2048) (k : Fin 128) : (lessOf (up2 (up1 (partsOf (bB m c t 1) 4#32))) (bB m c t 1) (ix2 r k) : EReal) = dcols (wK m c) (sK m c) (dK m c) r 1 k :=
  cols_at _ _ _ 1 _ _ _ (d_at m c t 1) (w_at m c t 1) (g_at m c t 1) _ (fun k => next2 _ _ (past m c 1 k) k (next1 _ _ (past m c 1 k) k (first m c t 1 4 rfl (by norm_num) k))) r k
theorem piece2 (r : Fin 2048) (k : Fin 128) : (lessOf (up4 (up2 (up1 (partsOf (bB m c t 2) 8#32)))) (bB m c t 2) (ix2 r k) : EReal) = dcols (wK m c) (sK m c) (dK m c) r 2 k :=
  cols_at _ _ _ 2 _ _ _ (d_at m c t 2) (w_at m c t 2) (g_at m c t 2) _ (fun k => next4 _ _ (past m c 2 k) k (next2 _ _ (past m c 2 k) k (next1 _ _ (past m c 2 k) k (first m c t 2 8 rfl (by norm_num) k)))) r k
theorem piece3 (r : Fin 2048) (k : Fin 128) : (lessOf (up8 (up4 (up2 (up1 (partsOf (bB m c t 3) 16#32))))) (bB m c t 3) (ix2 r k) : EReal) = dcols (wK m c) (sK m c) (dK m c) r 3 k :=
  cols_at _ _ _ 3 _ _ _ (d_at m c t 3) (w_at m c t 3) (g_at m c t 3) _ (fun k => next8 _ _ (past m c 3 k) k (next4 _ _ (past m c 3 k) k (next2 _ _ (past m c 3 k) k (next1 _ _ (past m c 3 k) k (first m c t 3 16 rfl (by norm_num) k))))) r k

end Cols

/-- The columns' gradient after the call, the other columns as they were. -/
theorem arr_cols : (dats m 0 c).arrAt 4 cfg0.N = dcolsA (wK m c) (sK m c) (dK m c) (eK m c) := by
  refine (dats m 0 c).arrAt_eq_of_coversWhere_of_agree 4 _ (fun β => β (1 : Fin _) = 9) (by decide +kernel) (fun t _ y => ?_) (fun j hj => ?_)
  · blk_simp
    rw [after0_4]
    idx_vars y
    unfold outsAt0
    frame_out
    refine (Cert.Proof.PoolFwd.tiles _ _ _ _ (dcolsL (wK m c) (sK m c) (dK m c)) (fun r k => ?_) (fun r k => ?_) (fun r k => ?_) (fun r k => ?_) y0 y1).trans ?_
    · exact (piece0 m c t r k).trans (dcolsL_at _ _ _ r 0 k _ (by simp))
    · exact (piece1 m c t r k).trans (dcolsL_at _ _ _ r 1 k _ rfl)
    · exact (piece2 m c t r k).trans (dcolsL_at _ _ _ r 2 k _ rfl)
    · exact (piece3 m c t r k).trans (dcolsL_at _ _ _ r 3 k _ rfl)
    · unfold dcolsA
      refine Eq.trans ?_ (dif_pos (by blk_simp [(places t).2.2.2.2.1]; omega)).symm
      refine congrArg₂ (dcolsL _ _ _) (Fin.ext ?_) (Fin.ext ?_)
      · blk_simp [(places t).2.2.2.2.1]
      · blk_simp [(places t).2.2.2.2.1]; dsimp only; omega
  · blk_simp [Pipeline.Window.cell_apply] at hj
    idx_vars j
    refine (start m c j0 j1).trans ?_
    refine Eq.trans ?_ (dcolsA_at (wK m c) (sK m c) (dK m c) (eK m c) j0 j1).symm
    rw [dif_neg (show ¬ (4608 ≤ j1.val ∧ j1.val < 5120) by omega)]

end Kernel

section Reference

open Cert.Reference23Ideal Cert.Reference23Ideal.Gen
open Cert.Proof.PoolFwd (part sums counts counts_at side means0 means1 means2 means3 means_at)

abbrev Three : Type := Vec Ideal ⟨3, ![2048, 4, 128]⟩ .f32
abbrev gainsR (s : Scl) (d : Cols) : Vec Ideal ⟨3, ![4, 128, 2048]⟩ .f32 :=
  transpose S4x128x2048 [1, 2, 0] (shapeCast _ (mulf (F := Ideal) (φ := .f32) d (broadcastInDim S2048x512 ![0, 1] bcast_S1x512_S2048x512_0_1 s)) shapeCasts_S2048x512_S2048x4x128 : Three) transposes_S2048x4x128_S4x128x2048_1_2_0
abbrev backR (w : Wgt) (s : Scl) (d : Cols) : Three :=
  transpose S2048x4x128 [1, 0, 2] (Host.dotGeneral (F := Ideal) (φ₁ := .f32) (φ₂ := .f32) dot_S4x128x2048_S4x128x128_S4x2048x128_1_2_2_1_0_0 none (gainsR s d) w) transposes_S4x2048x128_S2048x4x128_1_0_2
abbrev one0 (b : Three) : Block := shapeCast S2048x128 (extractStridedSlice S2048x1x128 ![0, 0, 0] b slices_S2048x4x128_S2048x1x128_0_0_0) shapeCasts_S2048x1x128_S2048x128
abbrev one1 (b : Three) : Block := shapeCast S2048x128 (extractStridedSlice S2048x1x128 ![0, 1, 0] b slices_S2048x4x128_S2048x1x128_0_1_0) shapeCasts_S2048x1x128_S2048x128
abbrev one2 (b : Three) : Block := shapeCast S2048x128 (extractStridedSlice S2048x1x128 ![0, 2, 0] b slices_S2048x4x128_S2048x1x128_0_2_0) shapeCasts_S2048x1x128_S2048x128
abbrev one3 (b : Three) : Block := shapeCast S2048x128 (extractStridedSlice S2048x1x128 ![0, 3, 0] b slices_S2048x4x128_S2048x1x128_0_3_0) shapeCasts_S2048x1x128_S2048x128
abbrev partsR (b : Block) (n : BitVec 32) : Block := Host.divf (F := Ideal) (φ := .f32) b (counts n)
abbrev turn2 (x : Block) : Block := addf (F := Ideal) (φ := .f32) x (pad S2048x128 ![0, 0] ![2, 0] ![0, 0] (extractStridedSlice S2046x128 ![2, 0] (Host.negf (F := Ideal) (φ := .f32) x) slices_S2048x128_S2046x128_2_0 : Vec Ideal S2046x128 .f32) (constant (F := Ideal) S_ .f32 0x00000000#32) pads_S2046x128_S2048x128_020_000 h_S_ : Block)
theorem turn2_at (x : Block) (y : ℕ → EReal) (hy : ∀ k, 2048 ≤ k → y k = 0) (c : Fin 128) (h : ∀ r : Fin 2048, (x (ix2 r c) : EReal) = y r.val) (r : Fin 2048) : (turn2 x (ix2 r c) : EReal) = y r.val + -y (r.val + 2) := by
  refine Eq.trans (b := (x (ix2 r c) : EReal) + if h : r.val < 2046 then -(x (ix2 ⟨2 + r.val, by omega⟩ c) : EReal) else 0) (by pointwise []) ?_
  by_cases hr : r.val < 2046
  · rw [dif_pos hr, h, h]
    exact congrArg (fun n => y r.val + -y n) (add_comm 2 r.val)
  · rw [dif_neg hr, h, hy (r.val + 2) (by omega), neg_zero]
abbrev turn4 (x : Block) : Block := addf (F := Ideal) (φ := .f32) x (pad S2048x128 ![0, 0] ![4, 0] ![0, 0] (extractStridedSlice S2044x128 ![4, 0] (Host.negf (F := Ideal) (φ := .f32) x) slices_S2048x128_S2044x128_4_0 : Vec Ideal S2044x128 .f32) (constant (F := Ideal) S_ .f32 0x00000000#32) pads_S2044x128_S2048x128_040_000 h_S_ : Block)
theorem turn4_at (x : Block) (y : ℕ → EReal) (hy : ∀ k, 2048 ≤ k → y k = 0) (c : Fin 128) (h : ∀ r : Fin 2048, (x (ix2 r c) : EReal) = y r.val) (r : Fin 2048) : (turn4 x (ix2 r c) : EReal) = y r.val + -y (r.val + 4) := by
  refine Eq.trans (b := (x (ix2 r c) : EReal) + if h : r.val < 2044 then -(x (ix2 ⟨4 + r.val, by omega⟩ c) : EReal) else 0) (by pointwise []) ?_
  by_cases hr : r.val < 2044
  · rw [dif_pos hr, h, h]
    exact congrArg (fun n => y r.val + -y n) (add_comm 4 r.val)
  · rw [dif_neg hr, h, hy (r.val + 4) (by omega), neg_zero]
abbrev turn8 (x : Block) : Block := addf (F := Ideal) (φ := .f32) x (pad S2048x128 ![0, 0] ![8, 0] ![0, 0] (extractStridedSlice S2040x128 ![8, 0] (Host.negf (F := Ideal) (φ := .f32) x) slices_S2048x128_S2040x128_8_0 : Vec Ideal S2040x128 .f32) (constant (F := Ideal) S_ .f32 0x00000000#32) pads_S2040x128_S2048x128_080_000 h_S_ : Block)
theorem turn8_at (x : Block) (y : ℕ → EReal) (hy : ∀ k, 2048 ≤ k → y k = 0) (c : Fin 128) (h : ∀ r : Fin 2048, (x (ix2 r c) : EReal) = y r.val) (r : Fin 2048) : (turn8 x (ix2 r c) : EReal) = y r.val + -y (r.val + 8) := by
  refine Eq.trans (b := (x (ix2 r c) : EReal) + if h : r.val < 2040 then -(x (ix2 ⟨8 + r.val, by omega⟩ c) : EReal) else 0) (by pointwise []) ?_
  by_cases hr : r.val < 2040
  · rw [dif_pos hr, h, h]
    exact congrArg (fun n => y r.val + -y n) (add_comm 8 r.val)
  · rw [dif_neg hr, h, hy (r.val + 8) (by omega), neg_zero]
abbrev turn16 (x : Block) : Block := addf (F := Ideal) (φ := .f32) x (pad S2048x128 ![0, 0] ![16, 0] ![0, 0] (extractStridedSlice S2032x128 ![16, 0] (Host.negf (F := Ideal) (φ := .f32) x) slices_S2048x128_S2032x128_16_0 : Vec Ideal S2032x128 .f32) (constant (F := Ideal) S_ .f32 0x00000000#32) pads_S2032x128_S2048x128_0160_000 h_S_ : Block)
theorem turn16_at (x : Block) (y : ℕ → EReal) (hy : ∀ k, 2048 ≤ k → y k = 0) (c : Fin 128) (h : ∀ r : Fin 2048, (x (ix2 r c) : EReal) = y r.val) (r : Fin 2048) : (turn16 x (ix2 r c) : EReal) = y r.val + -y (r.val + 16) := by
  refine Eq.trans (b := (x (ix2 r c) : EReal) + if h : r.val < 2032 then -(x (ix2 ⟨16 + r.val, by omega⟩ c) : EReal) else 0) (by pointwise []) ?_
  by_cases hr : r.val < 2032
  · rw [dif_pos hr, h, h]
    exact congrArg (fun n => y r.val + -y n) (add_comm 16 r.val)
  · rw [dif_neg hr, h, hy (r.val + 16) (by omega), neg_zero]

abbrev joined (f3 f2 f1 f0 : Block) : Cols :=
  addf (F := Ideal) (φ := .f32) (addf (F := Ideal) (φ := .f32) (addf (F := Ideal) (φ := .f32) (pad S2048x512 ![0, 384] ![0, 0] ![0, 0] f3 (constant (F := Ideal) S_ .f32 0x00000000#32) pads_S2048x128_S2048x512_000_38400 h_S_ : Cols)
    (pad S2048x512 ![0, 256] ![0, 128] ![0, 0] f2 (constant (F := Ideal) S_ .f32 0x00000000#32) pads_S2048x128_S2048x512_000_2561280 h_S_ : Cols))
    (pad S2048x512 ![0, 128] ![0, 256] ![0, 0] f1 (constant (F := Ideal) S_ .f32 0x00000000#32) pads_S2048x128_S2048x512_000_1282560 h_S_ : Cols))
    (pad S2048x512 ![0, 0] ![0, 384] ![0, 0] f0 (constant (F := Ideal) S_ .f32 0x00000000#32) pads_S2048x128_S2048x512_000_03840 h_S_ : Cols)
theorem joined_at (f3 f2 f1 f0 : Block) (v : Fin 4 → Fin 128 → EReal) (i : Fin 2048) (h3 : ∀ k, (f3 (ix2 i k) : EReal) = v 3 k) (h2 : ∀ k, (f2 (ix2 i k) : EReal) = v 2 k) (h1 : ∀ k, (f1 (ix2 i k) : EReal) = v 1 k) (h0 : ∀ k, (f0 (ix2 i k) : EReal) = v 0 k)
    (j : Fin 512) : (joined f3 f2 f1 f0 (ix2 i j) : EReal) = v ⟨j.val / 128, by omega⟩ ⟨j.val % 128, by omega⟩ := by
  have hj := j.isLt
  refine Eq.trans (b := ((((if h : 384 ≤ j.val ∧ j.val - 384 < 128 then (f3 (ix2 i ⟨j.val - 384, h.2⟩) : EReal) else 0) + if h : 256 ≤ j.val ∧ j.val - 256 < 128 then (f2 (ix2 i ⟨j.val - 256, h.2⟩) : EReal) else 0)
    + if h : 128 ≤ j.val ∧ j.val - 128 < 128 then (f1 (ix2 i ⟨j.val - 128, h.2⟩) : EReal) else 0) + if h : j.val < 128 then (f0 (ix2 i ⟨j.val, h⟩) : EReal) else 0)) (by pointwise []) ?_
  by_cases c0 : j.val < 128
  · rw [dif_neg (by omega), dif_neg (by omega), dif_neg (by omega), dif_pos c0, zero_add, zero_add, zero_add]
    exact (h0 _).trans (congrArg₂ v (Fin.ext (by simp; omega)) (Fin.ext (by dsimp only; omega)))
  · by_cases c1 : j.val < 256
    · rw [dif_neg (by omega), dif_neg (by omega), dif_pos (by omega), dif_neg (by omega), zero_add, zero_add, add_zero]
      exact (h1 _).trans (congrArg₂ v (Fin.ext (by simp; omega)) (Fin.ext (by dsimp only; omega)))
    · by_cases c2 : j.val < 384
      · rw [dif_neg (by omega), dif_pos (by omega), dif_neg (by omega), dif_neg (by omega), zero_add, add_zero, add_zero]
        exact (h2 _).trans (congrArg₂ v (Fin.ext (by simp; omega)) (Fin.ext (by dsimp only; omega)))
      · rw [dif_pos (by omega), dif_neg (by omega), dif_neg (by omega), dif_neg (by omega), add_zero, add_zero, add_zero]
        exact (h3 _).trans (congrArg₂ v (Fin.ext (by simp; omega)) (Fin.ext (by dsimp only; omega)))

theorem gainsR_at (s : Scl) (d : Cols) (a : Fin 4) (c : Fin 128) (i : Fin 2048) : (gainsR s d (ix3 a c i) : EReal) = d (ix2 i ⟨128 * a.val + c.val, by omega⟩) * s (ix2 0 ⟨128 * a.val + c.val, by omega⟩) := by
  refine Eq.trans (b := (d (ix2 i ⟨a.val * 128 + c.val, by omega⟩) * s (ix2 0 ⟨a.val * 128 + c.val, by omega⟩) : EReal)) (by pointwise []) ?_
  exact congrArg (fun n : Fin 512 => (d (ix2 i n) * s (ix2 0 n) : EReal)) (Fin.ext (by dsimp only; omega))
theorem backR_at (w : Wgt) (s : Scl) (d : Cols) (i : Fin 2048) (a : Fin 4) (k : Fin 128) : (backR w s d (ix3 i a k) : EReal) = back w s d a i k := by
  refine Eq.trans (b := ∑ c : Fin 128, (d (ix2 i ⟨a.val * 128 + c.val, by omega⟩) * s (ix2 0 ⟨a.val * 128 + c.val, by omega⟩) * w (ix3 a k c) : EReal)) (by pointwise []) ?_
  exact Finset.sum_congr rfl fun c _ => congrArg (fun n : Fin 512 => (d (ix2 i n) * s (ix2 0 n) * w (ix3 a k c) : EReal)) (Fin.ext (by dsimp only; omega))
theorem ones_at (b : Three) (i : Fin 2048) (k : Fin 128) : (one0 b (ix2 i k) : EReal) = b (ix3 i 0 k) ∧ (one1 b (ix2 i k) : EReal) = b (ix3 i 1 k) ∧ (one2 b (ix2 i k) : EReal) = b (ix3 i 2 k) ∧ (one3 b (ix2 i k) : EReal) = b (ix3 i 3 k) := by
  refine ⟨?_, ?_, ?_, ?_⟩ <;> pointwise []

abbrev movedR (b : Three) : Cols := joined (turn16 (partsR (one3 b) 0x41800000#32)) (turn8 (partsR (one2 b) 0x41000000#32)) (turn4 (partsR (one1 b) 0x40800000#32)) (turn2 (partsR (one0 b) 0x40000000#32))
abbrev innerR (b : Three) : Cols := addf (F := Ideal) (φ := .f32) (joined (Host.negf (F := Ideal) (φ := .f32) (one3 b) : Block) (Host.negf (F := Ideal) (φ := .f32) (one2 b) : Block) (Host.negf (F := Ideal) (φ := .f32) (one1 b) : Block) (Host.negf (F := Ideal) (φ := .f32) (one0 b) : Block))
  (Host.reduceWindowAdd (F := Ideal) (φ := .f32) ![2048, 1] ![1, 1] ![0, 0] ![2047, 0] (movedR b) (broadcastInDim S_ ![] bcast_S_S_ (constant (F := Ideal) S_ .f32 0x00000000#32)) reduceWindows_S2048x512_S2048x512_w2048s1p0_2047_w1s1p0_0 h_S_ : Cols)
abbrev colsR (w : Wgt) (s : Scl) (d : Cols) (e : Proj) : Wide :=
  truncf (F := Ideal) .bf16 (concatenate S2048x12288 1 [⟨S2048x4608, (extractStridedSlice S2048x4608 ![0, 0] e slices_S2048x12288_S2048x4608_0_0 : (⟨S2048x4608, .f32⟩ : BufTy).Contents (Elt Ideal))⟩,
    ⟨S2048x512, (innerR (backR w s d) : (⟨S2048x512, .f32⟩ : BufTy).Contents (Elt Ideal))⟩,
    ⟨S2048x7168, (extractStridedSlice S2048x7168 ![0, 5120] e slices_S2048x12288_S2048x7168_0_5120 : (⟨S2048x7168, .f32⟩ : BufTy).Contents (Elt Ideal))⟩] concatenates_S2048x4608_S2048x512_S2048x7168_S2048x12288_d1 : (⟨S2048x12288, .f32⟩ : BufTy).Contents (Elt Ideal)) bitsLt_bf16_f32
abbrev matsR (l : Three) (s : Scl) (d : Cols) : Wgt :=
  transpose S4x128x128 [0, 2, 1] (Host.dotGeneral (F := Ideal) (φ₁ := .f32) (φ₂ := .f32) dot_S4x128x2048_S2048x4x128_S4x128x128_2_0_1_2_0_1 none (gainsR s d) l) transposes_S4x128x128_S4x128x128_0_2_1
abbrev gainR (l : Three) (w : Wgt) (d : Cols) : Scl :=
  shapeCast _ (Host.reduceAdd (F := Ideal) (φ := .f32) (mulf (F := Ideal) (φ := .f32) (shapeCast _ (transpose S2048x4x128 [2, 0, 1] (Host.dotGeneral (F := Ideal) (φ₁ := .f32) (φ₂ := .f32) dot_S4x128x128_S2048x4x128_S4x128x2048_1_2_2_0_0_1 none w l) transposes_S4x128x2048_S2048x4x128_2_0_1) shapeCasts_S2048x4x128_S2048x512) d) (constant (F := Ideal) S_ .f32 0x00000000#32) reducesTo_S2048x512_S512_d0 h_S_) shapeCasts_S512_S1x512

theorem turned_at (g : Vec Ideal ⟨3, ![4, 128, 2048]⟩ .f32) (l : Three) (a : Fin 4) (k c : Fin 128) :
    ((transpose S4x128x128 [0, 2, 1] (Host.dotGeneral (F := Ideal) (φ₁ := .f32) (φ₂ := .f32) dot_S4x128x2048_S2048x4x128_S4x128x128_2_0_1_2_0_1 none g l) transposes_S4x128x128_S4x128x128_0_2_1 : Wgt) (ix3 a k c) : EReal) = ∑ i : Fin 2048, g (ix3 a c i) * l (ix3 i a k) := by
  pointwise []
theorem matsR_at (l : Three) (s : Scl) (d : Cols) (a : Fin 4) (k c : Fin 128) : (matsR l s d (ix3 a k c) : EReal) = ∑ i : Fin 2048, gainsR s d (ix3 a c i) * l (ix3 i a k) :=
  turned_at _ l a k c
theorem gainR_at (l : Three) (w : Wgt) (d : Cols) (j : Fin 512) : (gainR l w d (ix2 0 j) : EReal) = ∑ i : Fin 2048, (∑ k : Fin 128, w (ix3 ⟨j.val / 128, by omega⟩ k ⟨j.val % 128, by omega⟩) * l (ix3 i ⟨j.val / 128, by omega⟩ k)) * d (ix2 i j) := by
  pointwise []

section Run

variable (m : (ℓ : Loc nD τ sig) → Buf (Elt Ideal) ℓ) (c : Dev nD)
abbrev p0 : Proj := m ((c.tc : Thread nD τ).loc main_arg0)
abbrev w0 : Wgt := m ((c.tc : Thread nD τ).loc main_arg1)
abbrev s0 : Scl := m ((c.tc : Thread nD τ).loc main_arg2)
abbrev d0 : Cols := m ((c.tc : Thread nD τ).loc main_arg3)
abbrev e0 : Proj := m ((c.tc : Thread nD τ).loc main_arg4)
abbrev keptR (p : Proj) : Three := side (means0 p) (means1 p) (means2 p) (means3 p)
theorem run_cols : Cert.Reference23Ideal.Value.res_main_v134 (F := Ideal) m c = colsR (w0 m c) (s0 m c) (d0 m c) (e0 m c) := rfl
theorem run_mats : Cert.Reference23Ideal.Value.res_main_v74 (F := Ideal) m c = matsR (keptR (p0 m c)) (s0 m c) (d0 m c) := rfl
theorem run_gain : Cert.Reference23Ideal.Value.res_main_v66 (F := Ideal) m c = gainR (keptR (p0 m c)) (w0 m c) (d0 m c) := rfl

end Run

theorem partsR_at (b : Block) (w : BitVec 32) (n : ℕ) (hw : Ideal.ofBits .f32 w = (((n : ℕ) : ℝ) : EReal)) (r : Fin 2048) (k : Fin 128) : (partsR b w (ix2 r k) : EReal) = Ideal.div (b (ix2 r k) : EReal) (Pool.count n r.val) := by
  refine Eq.trans (b := Ideal.div (b (ix2 r k) : EReal) (counts w (ix2 r k))) (by pointwise []) ?_
  rw [counts_at w n hw]
theorem neg_at (b : Block) (r : Fin 2048) (k : Fin 128) : (Host.negf (F := Ideal) (φ := .f32) b (ix2 r k) : EReal) = -(b (ix2 r k) : EReal) := by
  pointwise []

section Values

variable (p : Proj) (w : Wgt) (s : Scl) (d : Cols) (e : Proj)

theorem one0_at (i : Fin 2048) (k : Fin 128) : (one0 (backR w s d) (ix2 i k) : EReal) = back w s d 0 i k := ((ones_at _ i k).1).trans (backR_at w s d i 0 k)
theorem spread0 (k : Fin 128) (r : Fin 2048) : (partsR (one0 (backR w s d)) 0x40000000#32 (ix2 r k) : EReal) = spread w s d 0 k r.val := by
  rw [partsR_at _ _ 2 (by simp [Ideal.ofBits, Ideal.ieee, -EReal.coe_mul]; norm_num), one0_at]
  exact (spread_at w s d 0 k r).symm
theorem turned0 (k : Fin 128) (r : Fin 2048) : (turn2 (partsR (one0 (backR w s d)) 0x40000000#32) (ix2 r k) : EReal) = spread w s d 0 k r.val + -spread w s d 0 k (r.val + 2) :=
  turn2_at _ _ (spread_past w s d 0 k) k (spread0 w s d k) r
theorem one1_at (i : Fin 2048) (k : Fin 128) : (one1 (backR w s d) (ix2 i k) : EReal) = back w s d 1 i k := ((ones_at _ i k).2.1).trans (backR_at w s d i 1 k)
theorem spread1 (k : Fin 128) (r : Fin 2048) : (partsR (one1 (backR w s d)) 0x40800000#32 (ix2 r k) : EReal) = spread w s d 1 k r.val := by
  rw [partsR_at _ _ 4 (by simp [Ideal.ofBits, Ideal.ieee, -EReal.coe_mul]; norm_num), one1_at]
  exact (spread_at w s d 1 k r).symm
theorem turned1 (k : Fin 128) (r : Fin 2048) : (turn4 (partsR (one1 (backR w s d)) 0x40800000#32) (ix2 r k) : EReal) = spread w s d 1 k r.val + -spread w s d 1 k (r.val + 4) :=
  turn4_at _ _ (spread_past w s d 1 k) k (spread1 w s d k) r
theorem one2_at (i : Fin 2048) (k : Fin 128) : (one2 (backR w s d) (ix2 i k) : EReal) = back w s d 2 i k := ((ones_at _ i k).2.2.1).trans (backR_at w s d i 2 k)
theorem spread2 (k : Fin 128) (r : Fin 2048) : (partsR (one2 (backR w s d)) 0x41000000#32 (ix2 r k) : EReal) = spread w s d 2 k r.val := by
  rw [partsR_at _ _ 8 (by simp [Ideal.ofBits, Ideal.ieee, -EReal.coe_mul]; norm_num), one2_at]
  exact (spread_at w s d 2 k r).symm
theorem turned2 (k : Fin 128) (r : Fin 2048) : (turn8 (partsR (one2 (backR w s d)) 0x41000000#32) (ix2 r k) : EReal) = spread w s d 2 k r.val + -spread w s d 2 k (r.val + 8) :=
  turn8_at _ _ (spread_past w s d 2 k) k (spread2 w s d k) r
theorem one3_at (i : Fin 2048) (k : Fin 128) : (one3 (backR w s d) (ix2 i k) : EReal) = back w s d 3 i k := ((ones_at _ i k).2.2.2).trans (backR_at w s d i 3 k)
theorem spread3 (k : Fin 128) (r : Fin 2048) : (partsR (one3 (backR w s d)) 0x41800000#32 (ix2 r k) : EReal) = spread w s d 3 k r.val := by
  rw [partsR_at _ _ 16 (by simp [Ideal.ofBits, Ideal.ieee, -EReal.coe_mul]; norm_num), one3_at]
  exact (spread_at w s d 3 k r).symm
theorem turned3 (k : Fin 128) (r : Fin 2048) : (turn16 (partsR (one3 (backR w s d)) 0x41800000#32) (ix2 r k) : EReal) = spread w s d 3 k r.val + -spread w s d 3 k (r.val + 16) :=
  turn16_at _ _ (spread_past w s d 3 k) k (spread3 w s d k) r

/-- The parts of a column's means, by its place. -/
def spreadL (j : Fin 512) : ℕ → EReal := spread w s d ⟨j.val / 128, by omega⟩ ⟨j.val % 128, by omega⟩
/-- A row's part less the part it leaves. -/
def step (j i : ℕ) : EReal := if h : j < 512 then spreadL w s d ⟨j, h⟩ i + -spreadL w s d ⟨j, h⟩ (i + wide (j / 128)) else 0
theorem movedR_at (i : Fin 2048) (j : Fin 512) : (movedR (backR w s d) (ix2 i j) : EReal) = step w s d j.val i.val := by
  unfold step
  rw [dif_pos j.isLt]
  exact joined_at _ _ _ _ (fun a k => spread w s d a k i.val + -spread w s d a k (i.val + wide a.val)) i (fun k => turned3 w s d k i) (fun k => turned2 w s d k i) (fun k => turned1 w s d k i) (fun k => turned0 w s d k i) j

variable (hw : ∀ a k c, (w (ix3 a k c) : EReal) = (((w (ix3 a k c) : EReal).toReal : ℝ) : EReal)) (hs : ∀ j, (s (ix2 0 j) : EReal) = (((s (ix2 0 j) : EReal).toReal : ℝ) : EReal))
  (hd : ∀ i j, (d (ix2 i j) : EReal) = (((d (ix2 i j) : EReal).toReal : ℝ) : EReal))

include hw hs hd in
theorem back_real (a : Fin 4) (i : Fin 2048) (k : Fin 128) : ∃ r : ℝ, back w s d a i k = (r : EReal) := by
  unfold back
  refine Finset.sum_induction _ (fun x : EReal => ∃ r : ℝ, x = (r : EReal)) (fun x y hx hy => ?_) ⟨0, rfl⟩ (fun c _ => ?_)
  · obtain ⟨r, rfl⟩ := hx
    obtain ⟨q, rfl⟩ := hy
    exact ⟨r + q, (EReal.coe_add r q).symm⟩
  · rw [hd, hs, hw, ← EReal.coe_mul, ← EReal.coe_mul]
    exact ⟨_, rfl⟩

theorem count_pos (n i : ℕ) (hn : 0 < n) : (0 : ℝ) < ((min (i + 1) n : ℕ) : ℝ) := Nat.cast_pos.mpr (by omega)

include hw hs hd in
theorem spread_real (a : Fin 4) (k : Fin 128) (i : ℕ) : spread w s d a k i = (((spread w s d a k i).toReal : ℝ) : EReal) := by
  unfold spread
  split_ifs with h
  · obtain ⟨r, hr⟩ := back_real w s d hw hs hd a ⟨i, h⟩ k
    have hc := count_pos (wide a.val) i (Nat.pos_of_ne_zero (by unfold wide; positivity))
    have hv : Ideal.div (r : EReal) (Pool.count (wide a.val) i) = ((r * (((min (i + 1) (wide a.val) : ℕ) : ℝ))⁻¹ : ℝ) : EReal) := by
      unfold Ideal.div Pool.count
      rw [if_neg (by intro hz; exact hc.ne' (EReal.coe_eq_zero.mp hz)), ← EReal.coe_inv, ← EReal.coe_mul]
    rw [hr, hv, EReal.toReal_coe]
  · rfl

include hw hs hd in
theorem innerR_at (i : Fin 2048) (j : Fin 512) : (innerR (backR w s d) (ix2 i j) : EReal) = dcolsL w s d i j := by
  have hsum : ∑ k ∈ Finset.range (2048 - i.val), step w s d j.val (i.val + k) = ahead (wide (j.val / 128)) (spreadL w s d j) i.val := by
    refine (Finset.sum_congr rfl fun k _ => ?_).trans (ahead_eq (wide (j.val / 128)) (spreadL w s d j) (spread_real w s d hw hs hd _ _) (spread_past w s d _ _) i.val)
    unfold step
    rw [dif_pos j.isLt]
  refine (congrArg₂ (fun a b : EReal => a + b) (joined_at _ _ _ _ (fun a k => -back w s d a i k) i (fun k => (neg_at _ i k).trans (congrArg _ (one3_at w s d i k))) (fun k => (neg_at _ i k).trans (congrArg _ (one2_at w s d i k)))
    (fun k => (neg_at _ i k).trans (congrArg _ (one1_at w s d i k))) (fun k => (neg_at _ i k).trans (congrArg _ (one0_at w s d i k))) j)
    ((suffix_sum _ _ _ (fun i => by pointwise []) _ _ (step w s d) (movedR_at w s d) i j).trans hsum)).trans ?_
  exact add_comm _ _

theorem parts3_at (g : Cols) (i : Fin 2048) (j : Fin 12288) :
    ((truncf (F := Ideal) .bf16 (concatenate S2048x12288 1 [⟨S2048x4608, (extractStridedSlice S2048x4608 ![0, 0] e slices_S2048x12288_S2048x4608_0_0 : (⟨S2048x4608, .f32⟩ : BufTy).Contents (Elt Ideal))⟩,
    ⟨S2048x512, (g : (⟨S2048x512, .f32⟩ : BufTy).Contents (Elt Ideal))⟩,
    ⟨S2048x7168, (extractStridedSlice S2048x7168 ![0, 5120] e slices_S2048x12288_S2048x7168_0_5120 : (⟨S2048x7168, .f32⟩ : BufTy).Contents (Elt Ideal))⟩] concatenates_S2048x4608_S2048x512_S2048x7168_S2048x12288_d1 : (⟨S2048x12288, .f32⟩ : BufTy).Contents (Elt Ideal)) bitsLt_bf16_f32 : Wide) (ix2 i j) : EReal)
      = if h : 4608 ≤ j.val ∧ j.val < 5120 then (g (ix2 i ⟨j.val - 4608, by omega⟩) : EReal) else e (ix2 i j) := by
  refine Eq.trans (b := if h : j.val < 4608 then (e (ix2 i j) : EReal) else if h' : j.val - 4608 < 512 then (g (ix2 i ⟨j.val - 4608, h'⟩) : EReal) else (e (ix2 i ⟨5120 + (j.val - 4608 - 512), by omega⟩) : EReal)) (by pointwise []) ?_
  by_cases h : j.val < 4608
  · rw [dif_pos h, dif_neg (by omega)]
  · rw [dif_neg h]
    by_cases h' : j.val - 4608 < 512
    · rw [dif_pos h', dif_pos (by omega)]
    · rw [dif_neg h', dif_neg (by omega)]
      exact congrArg (fun n : Fin 12288 => (e (ix2 i n) : EReal)) (Fin.ext (by dsimp only; omega))

include hw hs hd in
theorem colsR_eq : colsR w s d e = dcolsA w s d e := by
  funext i
  idx_vars i
  refine (parts3_at e _ i0 i1).trans (Eq.trans ?_ (dcolsA_at w s d e i0 i1).symm)
  by_cases h : 4608 ≤ i1.val ∧ i1.val < 5120
  · rw [dif_pos h, dif_pos h]
    exact innerR_at w s d hw hs hd i0 _
  · rw [dif_neg h, dif_neg h]

variable (hp : ∀ i (j : Fin 512), (p (ix2 i ⟨4608 + j.val, by omega⟩) : EReal) = (((p (ix2 i ⟨4608 + j.val, by omega⟩) : EReal).toReal : ℝ) : EReal))
include hp

theorem matsR_eq : matsR (keptR p) s d = dmatsA p s d := by
  funext i
  idx_vars i
  refine (matsR_at _ s d i0 i1 i2).trans (Eq.trans ?_ (rfl : dmats p s d i0 i1 i2 = _))
  refine Finset.sum_congr rfl fun i _ => ?_
  rw [gainsR_at, show (keptR p (ix3 i i0 i1) : EReal) = _ from means_at p hp i i0 i1]
  exact mul_comm _ _

theorem gainR_eq : gainR (keptR p) w d = dgainA p w d := by
  funext i
  idx_vars i
  obtain rfl : i0 = 0 := Subsingleton.elim _ _
  refine (gainR_at _ w d i1).trans (Eq.trans ?_ (rfl : dgain p w d ⟨i1.val / 128, by omega⟩ ⟨i1.val % 128, by omega⟩ = _))
  refine Finset.sum_congr rfl fun i _ => (mul_comm _ _).trans ?_
  refine congrArg₂ (fun a b : EReal => a * b) (congrArg (fun n : Fin 512 => (d (ix2 i n) : EReal)) (Fin.ext (by dsimp only; omega))) (Finset.sum_congr rfl fun k _ => (mul_comm _ _).trans ?_)
  rw [show (keptR p (ix3 i ⟨i1.val / 128, by omega⟩ k) : EReal) = _ from means_at p hp i _ k]

end Values

end Reference

theorem finite_facts : Cert.Pre_finite_pool_bwd.Facts := ⟨by decide, by decide, by decide, by decide⟩

section Finite

variable [Cert.Pre_finite_pool_bwd.Facts] (x0 : Proj) (x1 : Wgt) (x2 : Scl) (x3 : Cols) (x4 : Proj)

theorem proj_real (h : (Cert.Pre_finite_pool_bwd.fn (F := Ideal) x0 x1 x2 x3 x4).1 = fun _ => 1#1) (i : Fin 2048) (j : Fin 512) :
    (x0 (ix2 i ⟨4608 + j.val, by omega⟩) : EReal) = (((x0 (ix2 i ⟨4608 + j.val, by omega⟩) : EReal).toReal : ℝ) : EReal) := by
  refine Cert.Proof.Sb.real_of_abs (Eq.trans ?_ (congrFun h (ix2 i j)))
  rw [← Cert.Proof.Sb.ofBits_top]
  pointwise [Cert.Pre_finite_pool_bwd.fn]
  rfl
theorem mats_real (h : (Cert.Pre_finite_pool_bwd.fn (F := Ideal) x0 x1 x2 x3 x4).2.1 = fun _ => 1#1) (a : Fin 4) (k c : Fin 128) : (x1 (ix3 a k c) : EReal) = (((x1 (ix3 a k c) : EReal).toReal : ℝ) : EReal) := by
  refine Cert.Proof.Sb.real_of_abs (Eq.trans ?_ (congrFun h (ix3 a k c)))
  rw [← Cert.Proof.Sb.ofBits_top]
  pointwise [Cert.Pre_finite_pool_bwd.fn]
  rfl
theorem gain_real (h : (Cert.Pre_finite_pool_bwd.fn (F := Ideal) x0 x1 x2 x3 x4).2.2.1 = fun _ => 1#1) (j : Fin 512) : (x2 (ix2 0 j) : EReal) = (((x2 (ix2 0 j) : EReal).toReal : ℝ) : EReal) := by
  refine Cert.Proof.Sb.real_of_abs (Eq.trans ?_ (congrFun h (ix2 0 j)))
  rw [← Cert.Proof.Sb.ofBits_top]
  pointwise [Cert.Pre_finite_pool_bwd.fn]
  rfl
theorem grad_real (h : (Cert.Pre_finite_pool_bwd.fn (F := Ideal) x0 x1 x2 x3 x4).2.2.2 = fun _ => 1#1) (i : Fin 2048) (j : Fin 512) : (x3 (ix2 i j) : EReal) = (((x3 (ix2 i j) : EReal).toReal : ℝ) : EReal) := by
  refine Cert.Proof.Sb.real_of_abs (Eq.trans ?_ (congrFun h (ix2 i j)))
  rw [← Cert.Proof.Sb.ofBits_top]
  pointwise [Cert.Pre_finite_pool_bwd.fn]
  rfl

end Finite

open Cert.Kernel23Ideal.Gen in
theorem algebraic : Cert.algebraic_Kernel23Ideal_Reference23Ideal_pre_finite_pool_bwd (hKernel23Ideal := Cert.Kernel23Ideal.Gen.facts) (hReference23Ideal := Cert.Reference23Ideal.Gen.facts) (hPre_finite_pool_bwd := finite_facts) := by
  intro m ρ m' ρ' hpre hag
  have hp (c) := @proj_real finite_facts _ _ _ _ _ (hpre c).1
  have hw (c) := @mats_real finite_facts _ _ _ _ _ (hpre c).2.1
  have hs (c) := @gain_real finite_facts _ _ _ _ _ (hpre c).2.2.1
  have hd (c) := @grad_real finite_facts _ _ _ _ _ (hpre c).2.2.2
  refine ⟨fun c => dcolsA (wK m c) (sK m c) (dK m c) (eK m c), fun c => dmatsA (pK m c) (sK m c) (dK m c), fun c => dgainA (pK m c) (wK m c) (dK m c),
    (θ_run Cert.Kernel23Ideal.defs _ _).mono (fun r h c => ⟨((h c).1 4).trans (arr_cols m c), ((h c).1 5).trans (arr_mats m c), ((h c).1 6).trans (arr_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 Cert.Kernel23Ideal.main_arg4 (Pipeline.mem_restRefs_of Cert.Kernel23Ideal.main_arg4 (by decide) (by decide))).trans (V_main_arg4 m c)⟩) (Cert.Kernel23Ideal.Gen.run_main (F := Ideal) m ρ),
    (θ_run Cert.Reference23Ideal.defs _ _).mono (fun r h c => ?_) (Cert.Reference23Ideal.Value.run (F := Ideal) m' ρ')⟩
  obtain ⟨h0, h1, h2, h3, h4⟩ := hag c
  refine ⟨(h c).1.trans ((run_cols m' c).trans ?_), (h c).2.1.trans ((run_mats m' c).trans ?_), (h c).2.2.1.trans ((run_gain m' c).trans ?_), (h c).2.2.2⟩
  · rw [show w0 m' c = wK m c from h1, show s0 m' c = sK m c from h2, show d0 m' c = dK m c from h3, show e0 m' c = eK m c from h4]
    exact colsR_eq _ _ _ _ (hw c) (hs c) (hd c)
  · rw [show p0 m' c = pK m c from h0, show s0 m' c = sK m c from h2, show d0 m' c = dK m c from h3]
    exact matsR_eq _ _ _ (hp c)
  · rw [show p0 m' c = pK m c from h0, show w0 m' c = wK m c from h1, show d0 m' c = dK m c from h3]
    exact gainR_eq _ _ _ (hp c)

end Cert.Proof.PoolBwd

end
-- ==== Proof.LossHead.lean ====
/- The loss and its gradients: what the call leaves, and the reference. -/
module

public import proofs.«01_k».proof.Proof.Gen.Kernel25Ideal.Frame
public import proofs.«01_k».proof.Proof.Gen.Reference25Ideal.Run
public import proofs.«01_k».proof.Proof.RmsBwd

@[expose] public section

set_option maxRecDepth 16384

noncomputable section

namespace Cert.Proof.LossHead

open Idealize.ShloMosaic Idealize.ShloMosaic.TcCoe Idealize.ShloMosaic.StableHlo Idealize.SL.Sem Idealize.ShloMosaic.Tactic
open Cert.Proof.RmsBwd (Act Gain Block Col factor factorB meanSq slope slopeA slopeR inner share dg dgA dgR spreadR spread_at row)

abbrev One : Type := Vec Ideal ⟨2, ![1, 1]⟩ .f32

abbrev half : EReal := Ideal.ofBits .f32 0x3F000000#32
/-- How far the scaled row is from its target, its mean square, and the gradient it gets. -/
def err (x : Act) (g : Gain) (y : Act) (i k : Fin 2048) : EReal := x (ix2 i k) * factor x i * g (ix2 0 k) - y (ix2 i k)
def rowLoss (x : Act) (g : Gain) (y : Act) (i : Fin 2048) : EReal := Ideal.div (∑ k : Fin 2048, err x g y i k * err x g y i k) (Ideal.ofBits .f32 0x45000000#32)
def loss (x : Act) (g : Gain) (y : Act) : EReal := half * ∑ i : Fin 2048, rowLoss x g y i
def dyA (x : Act) (g : Gain) (y : Act) : Act := fun i => err x g y (i 0) (i 1) * Ideal.ofBits .f32 0x3A000000#32
def lossA (x : Act) (g : Gain) (y : Act) : One := fun _ => loss x g y

theorem halfReal : half = ((1 / 2 : ℝ) : EReal) := by
  simp [half, Ideal.ofBits, Ideal.ieee]
  rw [← EReal.coe_mul]
  norm_num
theorem unitReal : Ideal.ofBits .f32 0x3F800000#32 = ((1 : ℝ) : EReal) := by
  simp [Ideal.ofBits, Ideal.ieee, -EReal.coe_mul]
  norm_num
theorem twoReal : Ideal.ofBits .f32 0x40000000#32 = ((2 : ℝ) : EReal) := by
  simp [Ideal.ofBits, Ideal.ieee, -EReal.coe_mul]
  norm_num
theorem partReal : Ideal.ofBits .f32 0x3A000000#32 = ((1 / 2048 : ℝ) : EReal) := by
  simp [Ideal.ofBits, Ideal.ieee]
  rw [← EReal.coe_mul]
  norm_num

/-- A half comes out of a sum. -/
theorem half_sum {n : ℕ} (f : Fin n → EReal) : ∑ p, half * f p = half * ∑ p, f p := by
  rw [halfReal, mul_comm]
  exact (Finset.sum_congr rfl fun p _ => mul_comm _ _).trans (RmsReal.sum_mul_real f (1 / 2) (by norm_num))

section Kernel

open Cert.Kernel25Ideal Cert.Kernel25Ideal.Gen

theorem pay5 (x : Block) (r : Fin 256) : (k0_pay5 x (ix2 r 0) : EReal) = factorB x r := by
  unfold factorB
  pointwise [k0_pay5]
theorem pay6 (x : Block) (r : Fin 256) (l : Fin 2048) : (k0_pay6 x (ix2 r l) : EReal) = x (ix2 r l) * factorB x r := by
  rw [← pay5]
  pointwise [k0_pay6]
/-- The same of a block. -/
def errB (x : Block) (g : Gain) (y : Block) (r : Fin 256) (l : Fin 2048) : EReal := x (ix2 r l) * factorB x r * g (ix2 0 l) - y (ix2 r l)
theorem pay7 (x : Block) (g : Gain) (y : Block) (r : Fin 256) (l : Fin 2048) : (k0_pay7 x g y (ix2 r l) : EReal) = errB x g y r l := by
  unfold errB
  rw [← pay6]
  pointwise [k0_pay7]
theorem pay9 (x : Block) (g : Gain) (y : Block) (r : Fin 256) (l : Fin 2048) : (k0_pay9 x g y (ix2 r l) : EReal) = errB x g y r l * Ideal.ofBits .f32 0x3A000000#32 := by
  rw [← pay7]
  pointwise [k0_pay9]
theorem pay8 (x : Block) (g : Gain) (y : Block) (a : One) : (k0_pay8 x g y a (ix2 0 0) : EReal)
    = a (ix2 0 0) + half * ∑ r : Fin 256, Ideal.div (∑ k : Fin 2048, errB x g y r k * errB x g y r k) (Ideal.ofBits .f32 0x45000000#32) := by
  refine Eq.trans (b := (a (ix2 0 0) : EReal) + half * ∑ r : Fin 256, Ideal.div (∑ k : Fin 2048, (k0_pay7 x g y (ix2 r k) : EReal) * (k0_pay7 x g y (ix2 r k) : EReal)) (Ideal.ofBits .f32 0x45000000#32)) (by pointwise [k0_pay8]) ?_
  simp only [pay7]
theorem pay1 (n d : Block) (a : Gain) (l : Fin 2048) : (k0_pay1 n d a (ix2 0 l) : EReal) = a (ix2 0 l) + ∑ r : Fin 256, d (ix2 r l) * n (ix2 r l) := by
  pointwise [k0_pay1]
theorem pay2 (f : Vec Ideal ⟨2, ![256, 1]⟩ .f32) (n d : Block) (g : Gain) (r : Fin 256) (l : Fin 2048) : (k0_pay2 f n d g (ix2 r l) : EReal)
    = f (ix2 r 0) * (d (ix2 r l) * g (ix2 0 l) - n (ix2 r l) * Ideal.div (∑ k : Fin 2048, d (ix2 r k) * g (ix2 0 k) * n (ix2 r k)) (Ideal.ofBits .f32 0x45000000#32)) := by
  pointwise [k0_pay2]

variable (m : (ℓ : Loc nD τ sig) → Buf (Elt Ideal) ℓ) (ρ : Dev nD → PrngReg) (c : Dev nD)

abbrev xK : Act := m ((c.tc : Thread nD τ).loc main_arg0)
abbrev gK : Gain := m ((c.tc : Thread nD τ).loc main_arg1)
abbrev yK : Act := m ((c.tc : Thread nD τ).loc main_arg2)
abbrev dK : Act := dyA (xK m c) (gK m c) (yK m c)

/-- Where the blocks lie. -/
theorem places : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem lt (t : Fin cfg0.N) : t.val < 8 := t.isLt

abbrev xB (t : Fin cfg0.N) : Block := iblk m c 0 t
abbrev gB (t : Fin cfg0.N) : Gain := iblk m c 1 t
abbrev yB (t : Fin cfg0.N) : Block := iblk m c 2 t

theorem read_0 (t : Fin cfg0.N) (r : Fin 256) (l : Fin 2048) : (xB m c t (ix2 r l) : EReal) = xK m c (ix2 (row t.val r (lt t)) l) := by
  refine Eq.trans (b := ((V m c main_arg0 : Act) (ix2 (row t.val r (lt t)) l) : EReal)) ?_ (congrFun (V_main_arg0 m c) _)
  blk_ext [xB, iblk, (places t).1]
theorem read_1 (t : Fin cfg0.N) (l : Fin 2048) : (gB m c t (ix2 0 l) : EReal) = gK m c (ix2 0 l) := by
  refine Eq.trans (b := ((V m c main_arg1 : Gain) (ix2 0 l) : EReal)) ?_ (congrFun (V_main_arg1 m c) _)
  blk_ext [gB, iblk, (places t).2.1]
theorem read_2 (t : Fin cfg0.N) (r : Fin 256) (l : Fin 2048) : (yB m c t (ix2 r l) : EReal) = yK m c (ix2 (row t.val r (lt t)) l) := by
  refine Eq.trans (b := ((V m c main_arg2 : Act) (ix2 (row t.val r (lt t)) l) : EReal)) ?_ (congrFun (V_main_arg2 m c) _)
  blk_ext [yB, iblk, (places t).2.2.1]

theorem factor_at (t : Fin cfg0.N) (r : Fin 256) : factorB (xB m c t) r = factor (xK m c) (row t.val r (lt t)) := by
  unfold factorB factor meanSq
  refine congrArg (fun a : EReal => Ideal.rsqrt (Ideal.div a _ + _)) (Finset.sum_congr rfl fun k _ => ?_)
  rw [read_0 m c t r k]
theorem err_at (t : Fin cfg0.N) (r : Fin 256) (l : Fin 2048) : errB (xB m c t) (gB m c t) (yB m c t) r l = err (xK m c) (gK m c) (yK m c) (row t.val r (lt t)) l := by
  unfold errB err
  rw [factor_at, read_0, read_1, read_2]

/-- What a point leaves of the input's gradient. -/
theorem part_dx (t : Fin cfg0.N) (r : Fin 256) (l : Fin 2048) :
    (k0_pay2 (k0_pay5 (xB m c t)) (k0_pay6 (xB m c t)) (k0_pay9 (xB m c t) (gB m c t) (yB m c t)) (gB m c t) (ix2 r l) : EReal) = slope (dK m c) (xK m c) (gK m c) (row t.val r (lt t)) l := by
  refine (pay2 _ _ _ _ r l).trans ?_
  simp only [pay5, pay6, pay9, factor_at, err_at, read_0, read_1]
  rfl

/-- What a point adds to the gain's gradient and to the loss. -/
theorem part_dg (t : Fin cfg0.N) (a : Gain) (l : Fin 2048) :
    (k0_pay1 (k0_pay6 (xB m c t)) (k0_pay9 (xB m c t) (gB m c t) (yB m c t)) a (ix2 0 l) : EReal) = a (ix2 0 l) + ∑ r : Fin 256, share (dK m c) (xK m c) l (row t.val r (lt t)) := by
  refine (pay1 _ _ _ l).trans ?_
  simp only [pay6, pay9, factor_at, err_at, read_0]
  rfl
theorem part_loss (t : Fin cfg0.N) (a : One) :
    (k0_pay8 (xB m c t) (gB m c t) (yB m c t) a (ix2 0 0) : EReal) = a (ix2 0 0) + half * ∑ r : Fin 256, rowLoss (xK m c) (gK m c) (yK m c) (row t.val r (lt t)) := by
  refine (pay8 _ _ _ _).trans ?_
  simp only [err_at]
  rfl

theorem pay3 (l : Fin 2048) : ((k0_pay3 (F := Ideal)) (ix2 0 l) : EReal) = 0 := by
  pointwise [k0_pay3]
theorem pay4 : ((k0_pay4 (F := Ideal)) (ix2 0 0) : EReal) = 0 := by
  pointwise [k0_pay4]

/-- The input's gradient at each point. -/
theorem out_dx (t : Fin cfg0.N) (r : Fin 256) (l : Fin 2048) :
    ((outsAt0 m c t.val t.isLt).2.1 (ix2 r l) : EReal) = slope (dK m c) (xK m c) (gK m c) (row t.val r (lt t)) l := by
  by_cases h : t.val % 8 = 0
  · rw [outsAt0_A m c t h]
    unfold out0_A_4
    frame_out
    exact part_dx m c t r l
  · rw [outsAt0_B m c t h]
    unfold out0_B_4
    frame_out
    exact part_dx m c t r l

/-- The running sums of the gain's gradient and of the loss. -/
theorem out_dg (n : ℕ) : ∀ (hn : n < cfg0.N) (l : Fin 2048),
    ((outsAt0 m c n hn).2.2 (ix2 0 l) : EReal) = ∑ p : Fin (n + 1), ∑ r : Fin 256, share (dK m c) (xK m c) l (row p.val r (by have : n < 8 := hn; omega)) := by
  induction n with
  | zero =>
    intro hn l
    rw [outsAt0_A m c ⟨0, hn⟩ (by dsimp only)]
    unfold out0_A_5
    frame_out
    refine (part_dg m c ⟨0, hn⟩ _ l).trans ?_
    rw [Fin.sum_univ_one]
    refine (congrArg (fun b : EReal => b + _) (pay3 l)).trans (zero_add _)
  | succ n ih =>
    intro hn l
    have h8 : n + 1 < 8 := hn
    rw [outsAt0_B m c ⟨n + 1, hn⟩ (by dsimp only; omega)]
    unfold out0_B_5
    frame_out
    refine (part_dg m c ⟨n + 1, hn⟩ _ l).trans ?_
    refine Eq.trans ?_ (Fin.sum_univ_castSucc _).symm
    exact congrArg (fun b : EReal => b + _) (ih _ l)
theorem out_loss (n : ℕ) : ∀ (hn : n < cfg0.N),
    ((outsAt0 m c n hn).1 (ix2 0 0) : EReal) = ∑ p : Fin (n + 1), half * ∑ r : Fin 256, rowLoss (xK m c) (gK m c) (yK m c) (row p.val r (by have : n < 8 := hn; omega)) := by
  induction n with
  | zero =>
    intro hn
    rw [outsAt0_A m c ⟨0, hn⟩ (by dsimp only)]
    unfold out0_A_3
    frame_out
    refine (part_loss m c ⟨0, hn⟩ _).trans ?_
    rw [Fin.sum_univ_one]
    refine (congrArg (fun b : EReal => b + _) pay4).trans (zero_add _)
  | succ n ih =>
    intro hn
    have h8 : n + 1 < 8 := hn
    rw [outsAt0_B m c ⟨n + 1, hn⟩ (by dsimp only; omega)]
    unfold out0_B_3
    frame_out
    refine (part_loss m c ⟨n + 1, hn⟩ _).trans ?_
    refine Eq.trans ?_ (Fin.sum_univ_castSucc _).symm
    exact congrArg (fun b : EReal => b + _) (ih _)

theorem arr_dx : (dats m 0 c).arrAt 4 cfg0.N = slopeA (dK m c) (xK m c) (gK m c) := by
  refine (dats m 0 c).arrAt_eq_of_covers 4 _ (by decide +kernel) fun t _ y => ?_
  have hN := lt t
  blk_simp
  rw [after0_4]
  idx_vars y
  refine (out_dx m c t y0 y1).trans ?_
  refine congrArg₂ (slope _ _ _) (Fin.ext ?_) (Fin.ext ?_)
  · blk_simp [(places t).2.2.2.2.1]; dsimp only; omega
  · blk_simp [(places t).2.2.2.2.1]

theorem arr_dg : (dats m 0 c).arrAt 5 cfg0.N = dgA (dK m c) (xK m c) := by
  refine (dats m 0 c).arrAt_eq_of_covers 5 _ (by decide +kernel) fun t hf y => ?_
  have hN := lt t
  have h7 : t.val % 8 = 7 := (flush0_5 t).mp hf
  blk_simp
  rw [after0_5]
  idx_vars y
  obtain rfl : y0 = 0 := Subsingleton.elim _ _
  refine (out_dg m c t.val t.isLt y1).trans ?_
  have key : ∀ (n : ℕ) (hn : n < 8), n = 7 → ∑ p : Fin (n + 1), ∑ r : Fin 256, share (dK m c) (xK m c) y1 (row p.val r (by omega)) = dg (dK m c) (xK m c) y1 := by
    intro n hn e
    subst e
    exact (Dx.sum_stretches (a := 8) (b := 256) (by decide) (fun i => share (dK m c) (xK m c) y1 i)).symm
  refine (key t.val hN (by omega)).trans ?_
  refine congrArg (dg _ _) (Fin.ext ?_)
  blk_simp [(places t).2.2.2.2.2]

theorem arr_loss : (dats m 0 c).arrAt 3 cfg0.N = lossA (xK m c) (gK m c) (yK m c) := by
  refine (dats m 0 c).arrAt_eq_of_covers 3 _ (by decide +kernel) fun t hf y => ?_
  have hN := lt t
  have h7 : t.val % 8 = 7 := (flush0_3 t).mp hf
  blk_simp
  rw [after0_3]
  idx_vars y
  obtain rfl : y0 = 0 := Subsingleton.elim _ _
  obtain rfl : y1 = 0 := Subsingleton.elim _ _
  refine (out_loss m c t.val t.isLt).trans ?_
  have key : ∀ (n : ℕ) (hn : n < 8), n = 7 → ∑ p : Fin (n + 1), half * ∑ r : Fin 256, rowLoss (xK m c) (gK m c) (yK m c) (row p.val r (by omega)) = loss (xK m c) (gK m c) (yK m c) := by
    intro n hn e
    subst e
    rw [half_sum]
    exact congrArg (fun a : EReal => half * a) (Dx.sum_stretches (a := 8) (b := 256) (by decide) (fun i => rowLoss (xK m c) (gK m c) (yK m c) i)).symm
  exact key t.val hN (by omega)

end Kernel

section Reference

open Cert.Reference25Ideal Cert.Reference25Ideal.Gen

def errR (x : Act) (g : Gain) (y : Act) : Act :=
  subf (F := Ideal) (φ := .f32) (mulf (F := Ideal) (φ := .f32) (mulf (F := Ideal) (φ := .f32) x (broadcastInDim S2048x2048 ![0, 1] bcast_S2048x1_S2048x2048_0_1 (Host.rsqrt (F := Ideal) (φ := .f32) (spreadR x)))) (broadcastInDim S2048x2048 ![0, 1] bcast_S1x2048_S2048x2048_0_1 g)) y
def dyR (e : Act) : Act :=
  mulf (F := Ideal) (φ := .f32) (broadcastInDim S2048x2048 ![0] bcast_S2048_S2048x2048_0 (Host.divf (F := Ideal) (φ := .f32) (broadcastInDim S2048 ![] bcast_S_S2048 (mulf (F := Ideal) (φ := .f32) (constant (F := Ideal) S_ .f32 0x3F000000#32) (constant (F := Ideal) S_ .f32 0x3F800000#32))) (broadcastInDim S2048 ![] bcast_S_S2048 (constant (F := Ideal) S_ .f32 0x45000000#32))))
    (mulf (F := Ideal) (φ := .f32) (broadcastInDim S2048x2048 ![] bcast_S_S2048x2048 (constant (F := Ideal) S_ .f32 0x40000000#32)) e)
def lossR (e : Act) : One :=
  shapeCast _ (mulf (F := Ideal) (φ := .f32) (constant (F := Ideal) S_ .f32 0x3F000000#32) (Host.reduceAdd (F := Ideal) (φ := .f32) (Host.divf (F := Ideal) (φ := .f32) (Host.reduceAdd (F := Ideal) (φ := .f32) (mulf (F := Ideal) (φ := .f32) e e) (constant (F := Ideal) S_ .f32 0x00000000#32) reducesTo_S2048x2048_S2048_d1 h_S_) (broadcastInDim S2048 ![] bcast_S_S2048 (constant (F := Ideal) S_ .f32 0x45000000#32))) (constant (F := Ideal) S_ .f32 0x00000000#32) reducesTo_S2048_S_d0 h_S_)) shapeCasts_S_S1x1

theorem errR_at (x : Act) (g : Gain) (y : Act) (i k : Fin 2048) : (errR x g y (ix2 i k) : EReal) = err x g y i k := by
  refine Eq.trans (b := (x (ix2 i k) * Ideal.rsqrt (spreadR x (ix2 i 0)) * g (ix2 0 k) - y (ix2 i k) : EReal)) (by pointwise [errR]) ?_
  rw [spread_at]
  rfl
theorem dyR_at (e : Act) (i k : Fin 2048) : (dyR e (ix2 i k) : EReal) = e (ix2 i k) * Ideal.ofBits .f32 0x3A000000#32 := by
  refine Eq.trans (b := (Ideal.div (Ideal.ofBits .f32 0x3F000000#32 * Ideal.ofBits .f32 0x3F800000#32) (Ideal.ofBits .f32 0x45000000#32) * (Ideal.ofBits .f32 0x40000000#32 * e (ix2 i k)) : EReal)) (by pointwise [dyR]) ?_
  rw [show Ideal.ofBits .f32 0x3F000000#32 = _ from halfReal, unitReal, RmsReal.width, twoReal, partReal, Ideal.div_coe (by norm_num), ← EReal.coe_mul, ← EReal.coe_mul, ← mul_assoc, ← EReal.coe_mul, mul_comm]
  exact congrArg (fun a : ℝ => (e (ix2 i k) : EReal) * (a : EReal)) (by norm_num)
theorem lossR_at (e : Act) : (lossR e (ix2 0 0) : EReal) = half * ∑ i : Fin 2048, Ideal.div (∑ k : Fin 2048, e (ix2 i k) * e (ix2 i k)) (Ideal.ofBits .f32 0x45000000#32) := by
  pointwise [lossR]

theorem ref_dy (x : Act) (g : Gain) (y : Act) : dyR (errR x g y) = dyA x g y := by
  funext i
  idx_vars i
  exact (dyR_at _ i0 i1).trans (congrArg (fun a : EReal => a * _) (errR_at x g y i0 i1))
theorem ref_loss (x : Act) (g : Gain) (y : Act) : lossR (errR x g y) = lossA x g y := by
  funext i
  idx_vars i
  obtain rfl : i0 = 0 := Subsingleton.elim _ _
  obtain rfl : i1 = 0 := Subsingleton.elim _ _
  refine (lossR_at _).trans ?_
  simp only [errR_at]
  rfl

section Run

variable (m : (ℓ : Loc nD τ sig) → Buf (Elt Ideal) ℓ) (c : Dev nD)

abbrev x0 : Act := m ((c.tc : Thread nD τ).loc main_arg0)
abbrev g0 : Gain := m ((c.tc : Thread nD τ).loc main_arg1)
abbrev y0 : Act := m ((c.tc : Thread nD τ).loc main_arg2)

theorem run_dx : Cert.Reference25Ideal.Value.res_main_v48 (F := Ideal) m c = slopeR (dyR (errR (x0 m c) (g0 m c) (y0 m c))) (x0 m c) (g0 m c) := rfl

end Run

end Reference

open Cert.Kernel25Ideal.Gen in
theorem algebraic : Cert.algebraic_Kernel25Ideal_Reference25Ideal (hKernel25Ideal := Cert.Kernel25Ideal.Gen.facts) (hReference25Ideal := Cert.Reference25Ideal.Gen.facts) := by
  intro m ρ m' ρ' _ hag
  refine ⟨fun c => lossA (xK m c) (gK m c) (yK m c), fun c => slopeA (dK m c) (xK m c) (gK m c), fun c => dgA (dK m c) (xK m c),
    (θ_run Cert.Kernel25Ideal.defs _ _).mono (fun r h c => ⟨((h c).1 3).trans (arr_loss m c), ((h c).1 4).trans (arr_dx m c), ((h c).1 5).trans (arr_dg m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (Cert.Kernel25Ideal.Gen.run_main (F := Ideal) m ρ),
    (θ_run Cert.Reference25Ideal.defs _ _).mono (fun r h c => ?_) (Cert.Reference25Ideal.Value.run (F := Ideal) m' ρ')⟩
  obtain ⟨h0, h1, h2⟩ := hag c
  have e0 : x0 m' c = xK m c := h0
  have e1 : g0 m' c = gK m c := h1
  have e2 : y0 m' c = yK m c := h2
  refine ⟨(h c).1.trans ((ref_loss (x0 m' c) (g0 m' c) (y0 m' c)).trans ?_), (h c).2.1.trans ((run_dx m' c).trans ?_), (h c).2.2.1.trans (Eq.trans (b := dgR (dyR (errR (x0 m' c) (g0 m' c) (y0 m' c))) (x0 m' c)) rfl ?_), (h c).2.2.2⟩
  · rw [e0, e1, e2]
  · rw [ref_dy, RmsBwd.ref_slope, e0, e1, e2]
  · rw [ref_dy, RmsBwd.ref_dg, e0, e1, e2]

end Cert.Proof.LossHead

end
-- ==== Proof.Adam.lean ====
/- The optimiser's step of one weight. -/
module

public import Idealize.ShloMosaic.Lib.StableHlo.ReadAt
public import Idealize.ShloMosaic.Lib.Pointwise

@[expose] public section

noncomputable section

namespace Cert.Proof.Adam

open Idealize.ShloMosaic Idealize.ShloMosaic.StableHlo Idealize.ShloMosaic.Tactic

/-- The two moments and the weight's change. -/
def first (g a : EReal) : EReal := Ideal.ofBits .f32 0x3F666666#32 * a + Ideal.ofBits .f32 0x3DCCCCCD#32 * g
def second (g a : EReal) : EReal := Ideal.ofBits .f32 0x3F7FBE77#32 * a + Ideal.ofBits .f32 0x3A83126F#32 * (g * g)
def change (w a b : EReal) : EReal :=
  Ideal.ofBits .f32 0xBA83126F#32 * (Ideal.div (Ideal.div a (Ideal.ofBits .f32 0x3F26BD02#32)) (Ideal.sqrt (Ideal.div b (Ideal.ofBits .f32 0x3C231ACC#32)) + Ideal.ofBits .f32 0x322BCC77#32)
    + Ideal.ofBits .f32 0x3C23D70A#32 * w)

/-- The named factors are the reciprocals of the reference's divisors. -/
theorem over1 (x : EReal) : x * ((8388608 / 5463681 : ℝ) : EReal) = Ideal.div x (Ideal.ofBits .f32 0x3F26BD02#32) := by
  have h : Ideal.ofBits .f32 0x3F26BD02#32 = ((5463681 / 8388608 : ℝ) : EReal) := by
    simp [Ideal.ofBits, Ideal.ieee, -EReal.coe_mul]
    norm_num
  rw [h, Ideal.div_coe (by norm_num)]
  exact congrArg (fun a : ℝ => x * (a : EReal)) (by norm_num)
theorem over2 (x : EReal) : x * ((268435456 / 2672307 : ℝ) : EReal) = Ideal.div x (Ideal.ofBits .f32 0x3C231ACC#32) := by
  have h : Ideal.ofBits .f32 0x3C231ACC#32 = ((2672307 / 268435456 : ℝ) : EReal) := by
    simp [Ideal.ofBits, Ideal.ieee, -EReal.coe_mul]
    norm_num
  rw [h, Ideal.div_coe (by norm_num)]
  exact congrArg (fun a : ℝ => x * (a : EReal)) (by norm_num)

/-- The same over an array of any shape. -/
abbrev Arr (S : Shape) : Type := Vec Ideal S .f32

variable {S : Shape}

def firstA (g a : Arr S) : Arr S := fun i => first (g i) (a i)
def secondA (g a : Arr S) : Arr S := fun i => second (g i) (a i)
def changeA (w g a b : Arr S) : Arr S := fun i => change (w i) (first (g i) (a i)) (second (g i) (b i))

variable (h : Shape.BroadcastsInDim ⟨0, ![]⟩ S ![])

/-- One number in every place, and the reference's results. -/
def all (b : BitVec 32) : Arr S := broadcastInDim S ![] h (constant (F := Ideal) ⟨0, ![]⟩ .f32 b)
def firstR (g a : Arr S) : Arr S :=
  addf (F := Ideal) (φ := .f32) (mulf (F := Ideal) (φ := .f32) (all h 0x3F666666#32) a) (mulf (F := Ideal) (φ := .f32) (all h 0x3DCCCCCD#32) g)
def secondR (g a : Arr S) : Arr S :=
  addf (F := Ideal) (φ := .f32) (mulf (F := Ideal) (φ := .f32) (all h 0x3F7FBE77#32) a) (mulf (F := Ideal) (φ := .f32) (all h 0x3A83126F#32) (mulf (F := Ideal) (φ := .f32) g g))
def changeR (w a b : Arr S) : Arr S :=
  mulf (F := Ideal) (φ := .f32) (all h 0xBA83126F#32) (addf (F := Ideal) (φ := .f32) (Host.divf (F := Ideal) (φ := .f32) (Host.divf (F := Ideal) (φ := .f32) a (all h 0x3F26BD02#32))
    (addf (F := Ideal) (φ := .f32) (Host.sqrt (F := Ideal) (φ := .f32) (Host.divf (F := Ideal) (φ := .f32) b (all h 0x3C231ACC#32))) (all h 0x322BCC77#32))) (mulf (F := Ideal) (φ := .f32) (all h 0x3C23D70A#32) w))

theorem ref_first (g a : Arr S) : firstR h g a = firstA g a := rfl
theorem ref_second (g a : Arr S) : secondR h g a = secondA g a := rfl
theorem ref_change (w g a b : Arr S) : changeR h w (firstR h g a) (secondR h g b) = changeA w g a b := rfl

end Cert.Proof.Adam

end
-- ==== Proof.AdamSmall.lean ====
/- The optimiser's step of the small weights: what the call leaves, and the reference. -/
module

public import proofs.«01_k».proof.Proof.Gen.Kernel26Ideal.Frame
public import proofs.«01_k».proof.Proof.Gen.Reference26Ideal.Run
public import proofs.«01_k».proof.Proof.Adam
public import proofs.«01_k».proof.Proof.Tools

@[expose] public section

set_option maxRecDepth 16384

noncomputable section

namespace Cert.Proof.AdamSmall

open Idealize.ShloMosaic Idealize.ShloMosaic.TcCoe Idealize.ShloMosaic.StableHlo Idealize.SL.Sem Idealize.ShloMosaic.Tactic
open Cert.Proof.Adam

theorem preserves : Cert.preserves_Kernel26_Kernel26Ideal :=
  ⟨IdealRules.named_const.statement Cert.Kernel26Ideal.κ "adam_c1" .f32 0x3FC48605#32 ((8388608 / 5463681 : ℝ) : EReal) rfl,
    IdealRules.named_const.statement Cert.Kernel26Ideal.κ "adam_c2" .f32 0x42C8E6D3#32 ((268435456 / 2672307 : ℝ) : EReal) rfl⟩

section Kernel

open Cert.Kernel26Ideal Cert.Kernel26Ideal.Gen

theorem c1 : Named.named (F := Ideal) κ "adam_c1" (φ := .f32) 0x3FC48605#32 = ((8388608 / 5463681 : ℝ) : EReal) :=
  IdealRules.named_const.ideal_named_scalar _ _ _ _ rfl
theorem c2 : Named.named (F := Ideal) κ "adam_c2" (φ := .f32) 0x42C8E6D3#32 = ((268435456 / 2672307 : ℝ) : EReal) :=
  IdealRules.named_const.ideal_named_scalar _ _ _ _ rfl

abbrev Block : Type := Arr S1176x128

theorem pay1 (g a : Block) (r : Fin 1176) (l : Fin 128) : (k0_pay1 g a (ix2 r l) : EReal) = first (g (ix2 r l)) (a (ix2 r l)) := by
  unfold first
  pointwise [k0_pay1]
theorem pay2 (g a : Block) (r : Fin 1176) (l : Fin 128) : (k0_pay2 g a (ix2 r l) : EReal) = second (g (ix2 r l)) (a (ix2 r l)) := by
  unfold second
  pointwise [k0_pay2]
theorem pay3 (g a b w : Block) (r : Fin 1176) (l : Fin 128) : (k0_pay3 g a b w (ix2 r l) : EReal) = change (w (ix2 r l)) (first (g (ix2 r l)) (a (ix2 r l))) (second (g (ix2 r l)) (b (ix2 r l))) := by
  unfold change
  rw [← over1, ← over2, ← c1, ← c2, ← pay1, ← pay2]
  pointwise [k0_pay3]

variable (m : (ℓ : Loc nD τ sig) → Buf (Elt Ideal) ℓ) (c : Dev nD)

abbrev wK : Block := m ((c.tc : Thread nD τ).loc main_arg0)
abbrev gK : Block := m ((c.tc : Thread nD τ).loc main_arg1)
abbrev aK : Block := m ((c.tc : Thread nD τ).loc main_arg2)
abbrev bK : Block := m ((c.tc : Thread nD τ).loc main_arg3)

theorem places : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

abbrev wB (t : Fin cfg0.N) : Block := iblk m c 0 t
abbrev gB (t : Fin cfg0.N) : Block := iblk m c 1 t
abbrev aB (t : Fin cfg0.N) : Block := iblk m c 2 t
abbrev bB (t : Fin cfg0.N) : Block := iblk m c 3 t

theorem read_0 (t : Fin cfg0.N) (r : Fin 1176) (l : Fin 128) : (wB m c t (ix2 r l) : EReal) = wK m c (ix2 r l) := by
  refine Eq.trans (b := ((V m c main_arg0 : Block) (ix2 r l) : EReal)) ?_ (congrFun (V_main_arg0 m c) _)
  blk_ext [wB, iblk, (places t).1]
theorem read_1 (t : Fin cfg0.N) (r : Fin 1176) (l : Fin 128) : (gB m c t (ix2 r l) : EReal) = gK m c (ix2 r l) := by
  refine Eq.trans (b := ((V m c main_arg1 : Block) (ix2 r l) : EReal)) ?_ (congrFun (V_main_arg1 m c) _)
  blk_ext [gB, iblk, (places t).2.1]
theorem read_2 (t : Fin cfg0.N) (r : Fin 1176) (l : Fin 128) : (aB m c t (ix2 r l) : EReal) = aK m c (ix2 r l) := by
  refine Eq.trans (b := ((V m c main_arg2 : Block) (ix2 r l) : EReal)) ?_ (congrFun (V_main_arg2 m c) _)
  blk_ext [aB, iblk, (places t).2.2.1]
theorem read_3 (t : Fin cfg0.N) (r : Fin 1176) (l : Fin 128) : (bB m c t (ix2 r l) : EReal) = bK m c (ix2 r l) := by
  refine Eq.trans (b := ((V m c main_arg3 : Block) (ix2 r l) : EReal)) ?_ (congrFun (V_main_arg3 m c) _)
  blk_ext [bB, iblk, (places t).2.2.2.1]

theorem arr_change : (dats m 0 c).arrAt 4 cfg0.N = changeA (wK m c) (gK m c) (aK m c) (bK m c) := by
  refine (dats m 0 c).arrAt_eq_of_covers 4 _ (by decide +kernel) fun t _ y => ?_
  blk_simp
  rw [after0_4]
  idx_vars y
  unfold out0_4
  frame_out
  refine (pay3 (gB m c t) (aB m c t) (bB m c t) (wB m c t) y0 y1).trans ?_
  rw [read_0, read_1, read_2, read_3]
  refine congrArg (changeA (wK m c) (gK m c) (aK m c) (bK m c)) (a₁ := ix2 y0 y1) ?_
  blk_ext [(places t).2.2.2.2.1]
theorem arr_first : (dats m 0 c).arrAt 5 cfg0.N = firstA (gK m c) (aK m c) := by
  refine (dats m 0 c).arrAt_eq_of_covers 5 _ (by decide +kernel) fun t _ y => ?_
  blk_simp
  rw [after0_5]
  idx_vars y
  unfold out0_5
  frame_out
  refine (pay1 (gB m c t) (aB m c t) y0 y1).trans ?_
  rw [read_1, read_2]
  refine congrArg (firstA (gK m c) (aK m c)) (a₁ := ix2 y0 y1) ?_
  blk_ext [(places t).2.2.2.2.2.1]
theorem arr_second : (dats m 0 c).arrAt 6 cfg0.N = secondA (gK m c) (bK m c) := by
  refine (dats m 0 c).arrAt_eq_of_covers 6 _ (by decide +kernel) fun t _ y => ?_
  blk_simp
  rw [after0_6]
  idx_vars y
  unfold out0_6
  frame_out
  refine (pay2 (gB m c t) (bB m c t) y0 y1).trans ?_
  rw [read_1, read_3]
  refine congrArg (secondA (gK m c) (bK m c)) (a₁ := ix2 y0 y1) ?_
  blk_ext [(places t).2.2.2.2.2.2]

end Kernel

open Cert.Kernel26Ideal.Gen in
theorem algebraic : Cert.algebraic_Kernel26Ideal_Reference26Ideal (hKernel26Ideal := Cert.Kernel26Ideal.Gen.facts) (hReference26Ideal := Cert.Reference26Ideal.Gen.facts) := by
  intro m ρ m' ρ' _ hag
  refine ⟨fun c => changeA (wK m c) (gK m c) (aK m c) (bK m c), fun c => firstA (gK m c) (aK m c), fun c => secondA (gK m c) (bK m c),
    (θ_run Cert.Kernel26Ideal.defs _ _).mono (fun r h c => ⟨((h c).1 4).trans (arr_change m c), ((h c).1 5).trans (arr_first m c), ((h c).1 6).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (Cert.Kernel26Ideal.Gen.run_main (F := Ideal) m ρ),
    (θ_run Cert.Reference26Ideal.defs _ _).mono (fun r h c => ?_) (Cert.Reference26Ideal.Value.run (F := Ideal) m' ρ')⟩
  obtain ⟨h0, h1, h2, h3⟩ := hag c
  refine ⟨(h c).1.trans ?_, (h c).2.1.trans ?_, (h c).2.2.1.trans ?_, (h c).2.2.2⟩
  · rw [h0, h1, h2, h3]
    exact ref_change _ _ _ _ _
  · rw [h1, h2]
    exact ref_first _ _ _
  · rw [h1, h3]
    exact ref_second _ _ _

end Cert.Proof.AdamSmall

end
-- ==== Proof.AdamLarge.lean ====
/- The optimiser's step of a stacked feed-forward weight: what the call leaves, and the reference. -/
module

public import proofs.«01_k».proof.Proof.Gen.Kernel27Ideal.Frame
public import proofs.«01_k».proof.Proof.Gen.Reference27Ideal.Run
public import proofs.«01_k».proof.Proof.Adam
public import proofs.«01_k».proof.Proof.Tools

@[expose] public section

set_option maxRecDepth 16384

noncomputable section

namespace Cert.Proof.AdamLarge

open Idealize.ShloMosaic Idealize.ShloMosaic.TcCoe Idealize.ShloMosaic.StableHlo Idealize.SL.Sem Idealize.ShloMosaic.Tactic
open Cert.Proof.Adam

theorem preserves : Cert.preserves_Kernel27_Kernel27Ideal :=
  ⟨IdealRules.named_const.statement Cert.Kernel27Ideal.κ "adam_c1" .f32 0x3FC48605#32 ((8388608 / 5463681 : ℝ) : EReal) rfl,
    IdealRules.named_const.statement Cert.Kernel27Ideal.κ "adam_c2" .f32 0x42C8E6D3#32 ((268435456 / 2672307 : ℝ) : EReal) rfl⟩

abbrev Stack : Type := Arr ⟨3, ![2, 2048, 2048]⟩
abbrev Layer : Type := Arr ⟨3, ![2, 1024, 2048]⟩

/-- The two layers' gradients, one on the other, each with its halves joined. -/
def stacked (g h : Layer) : Stack := fun i =>
  if (i 0).val = 0 then g (ix3 ⟨(i 1).val / 1024, by have := (i 1).isLt; simp at this; omega⟩ ⟨(i 1).val % 1024, by omega⟩ (i 2))
  else h (ix3 ⟨(i 1).val / 1024, by have := (i 1).isLt; simp at this; omega⟩ ⟨(i 1).val % 1024, by omega⟩ (i 2))

section Kernel

open Cert.Kernel27Ideal Cert.Kernel27Ideal.Gen

theorem c1 : Named.named (F := Ideal) κ "adam_c1" (φ := .f32) 0x3FC48605#32 = ((8388608 / 5463681 : ℝ) : EReal) :=
  IdealRules.named_const.ideal_named_scalar _ _ _ _ rfl
theorem c2 : Named.named (F := Ideal) κ "adam_c2" (φ := .f32) 0x42C8E6D3#32 = ((268435456 / 2672307 : ℝ) : EReal) :=
  IdealRules.named_const.ideal_named_scalar _ _ _ _ rfl

abbrev Block : Type := Arr S1x256x2048

/-- A block's results, from the gradient `s` of the place. -/
theorem pay2 (i : grid0.Coords) (g h a : Block) (r : Fin 256) (l : Fin 2048) :
    (k0_pay2 (k0_pay5 i g h a) (ix3 0 r l) : EReal) = first (k0_pay4 i g h (ix2 r l)) (a (ix3 0 r l)) := by
  unfold first
  pointwise [k0_pay2, k0_pay5]
theorem pay3 (i : grid0.Coords) (g h a : Block) (r : Fin 256) (l : Fin 2048) :
    (k0_pay3 (k0_pay6 i g h a) (ix3 0 r l) : EReal) = second (k0_pay4 i g h (ix2 r l)) (a (ix3 0 r l)) := by
  unfold second
  pointwise [k0_pay3, k0_pay6]
theorem pay1 (i : grid0.Coords) (g h a b w : Block) (r : Fin 256) (l : Fin 2048) :
    (k0_pay1 (k0_pay8 i g h a b) w (ix3 0 r l) : EReal) = change (w (ix3 0 r l)) (first (k0_pay4 i g h (ix2 r l)) (a (ix3 0 r l))) (second (k0_pay4 i g h (ix2 r l)) (b (ix3 0 r l))) := by
  unfold change first second
  rw [← over1, ← over2, ← c1, ← c2]
  pointwise [k0_pay1, k0_pay8, k0_pay5, k0_pay6]
theorem pay7 (i : grid0.Coords) (g h : Block) (r : Fin 256) (l : Fin 2048) : (k0_pay7 i g h (ix3 0 r l) : EReal) = k0_pay4 i g h (ix2 r l) := by
  pointwise [k0_pay7]
theorem chosen0 (i : grid0.Coords) (g h : Block) (hi : (i 0).val = 0) (r : Fin 256) (l : Fin 2048) : (k0_pay4 i g h (ix2 r l) : EReal) = g (ix3 0 r l) := by
  refine Eq.trans (b := (shapeCast S256x2048 g shapeCasts_S1x256x2048_S256x2048 (ix2 r l) : EReal)) ?_ (by pointwise [])
  simp only [k0_pay4, hi]
  rfl
theorem chosen1 (i : grid0.Coords) (g h : Block) (hi : (i 0).val = 1) (r : Fin 256) (l : Fin 2048) : (k0_pay4 i g h (ix2 r l) : EReal) = h (ix3 0 r l) := by
  refine Eq.trans (b := (shapeCast S256x2048 h shapeCasts_S1x256x2048_S256x2048 (ix2 r l) : EReal)) ?_ (by pointwise [])
  simp only [k0_pay4, hi]
  rfl

variable (m : (ℓ : Loc nD τ sig) → Buf (Elt Ideal) ℓ) (c : Dev nD)

abbrev wK : Stack := m ((c.tc : Thread nD τ).loc main_arg0)
abbrev gK : Layer := m ((c.tc : Thread nD τ).loc main_arg1)
abbrev hK : Layer := m ((c.tc : Thread nD τ).loc main_arg2)
abbrev aK : Stack := m ((c.tc : Thread nD τ).loc main_arg3)
abbrev bK : Stack := m ((c.tc : Thread nD τ).loc main_arg4)
abbrev sK : Stack := stacked (gK m c) (hK m c)

/-- Where the blocks lie. -/
theorem places : ∀ t : Fin cfg0.N, win0_0.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)
theorem place0 : ∀ t : Fin cfg0.N, t.val < 8 → win0_1.index t = ![t.val / 4, t.val % 4, 0] ∧ (grid0.coords t 0).val = 0 :=
  (by decide +kernel : ∀ t : Fin grid0.N, _)
theorem place1 : ∀ t : Fin cfg0.N, ¬ t.val < 8 → win0_2.index t = ![t.val / 4 - 2, t.val % 4, 0] ∧ (grid0.coords t 0).val = 1 :=
  (by decide +kernel : ∀ t : Fin grid0.N, _)

theorem lt (t : Fin cfg0.N) : t.val < 16 := t.isLt

/-- The place of the array a place of a point's block stands for. -/
abbrev at' (t : Fin cfg0.N) (r : Fin 256) (l : Fin 2048) : Shape.Idx ⟨3, ![2, 2048, 2048]⟩ :=
  ix3 ⟨t.val / 8, by have := lt t; omega⟩ ⟨t.val % 8 * 256 + r.val, by omega⟩ l

abbrev wB (t : Fin cfg0.N) : Block := iblk m c 0 t
abbrev gB (t : Fin cfg0.N) : Block := iblk m c 1 t
abbrev hB (t : Fin cfg0.N) : Block := iblk m c 2 t
abbrev aB (t : Fin cfg0.N) : Block := iblk m c 3 t
abbrev bB (t : Fin cfg0.N) : Block := iblk m c 4 t

theorem read_0 (t : Fin cfg0.N) (r : Fin 256) (l : Fin 2048) : (wB m c t (ix3 0 r l) : EReal) = wK m c (at' t r l) := by
  refine Eq.trans (b := ((V m c main_arg0 : Stack) (at' t r l) : EReal)) ?_ (congrFun (V_main_arg0 m c) _)
  blk_ext [wB, iblk, (places t).1] <;> rfl
theorem read_3 (t : Fin cfg0.N) (r : Fin 256) (l : Fin 2048) : (aB m c t (ix3 0 r l) : EReal) = aK m c (at' t r l) := by
  refine Eq.trans (b := ((V m c main_arg3 : Stack) (at' t r l) : EReal)) ?_ (congrFun (V_main_arg3 m c) _)
  blk_ext [aB, iblk, (places t).2.1] <;> rfl
theorem read_4 (t : Fin cfg0.N) (r : Fin 256) (l : Fin 2048) : (bB m c t (ix3 0 r l) : EReal) = bK m c (at' t r l) := by
  refine Eq.trans (b := ((V m c main_arg4 : Stack) (at' t r l) : EReal)) ?_ (congrFun (V_main_arg4 m c) _)
  blk_ext [bB, iblk, (places t).2.2.1] <;> rfl

/-- The gradient of a place. -/
theorem grad (t : Fin cfg0.N) (r : Fin 256) (l : Fin 2048) : (k0_pay4 (grid0.coords t) (gB m c t) (hB m c t) (ix2 r l) : EReal) = sK m c (at' t r l) := by
  have ht := lt t
  have hr := r.isLt
  by_cases h : t.val < 8
  · refine (chosen0 _ _ _ (place0 t h).2 r l).trans (Eq.trans ?_ (if_pos (show t.val / 8 = 0 by omega)).symm)
    refine Eq.trans (b := ((V m c main_arg1 : Layer) (ix3 ⟨t.val / 4, by omega⟩ ⟨t.val % 4 * 256 + r.val, by omega⟩ l) : EReal)) ?_ ((congrFun (V_main_arg1 m c) _).trans ?_)
    · blk_ext [gB, iblk, (place0 t h).1]
    · exact congrArg₂ (fun x y => gK m c (ix3 x y l)) (Fin.ext (by dsimp; omega)) (Fin.ext (by dsimp; omega))
  · refine (chosen1 _ _ _ (place1 t h).2 r l).trans (Eq.trans ?_ (if_neg (show ¬ t.val / 8 = 0 by omega)).symm)
    refine Eq.trans (b := ((V m c main_arg2 : Layer) (ix3 ⟨t.val / 4 - 2, by omega⟩ ⟨t.val % 4 * 256 + r.val, by omega⟩ l) : EReal)) ?_ ((congrFun (V_main_arg2 m c) _).trans ?_)
    · blk_ext [hB, iblk, (place1 t h).1]
    · exact congrArg₂ (fun x y => hK m c (ix3 x y l)) (Fin.ext (by dsimp; omega)) (Fin.ext (by dsimp; omega))

theorem arr_grad : (dats m 0 c).arrAt 5 cfg0.N = sK m c := by
  refine (dats m 0 c).arrAt_eq_of_covers 5 _ (by decide +kernel) fun t _ y => ?_
  blk_simp
  rw [after0_5]
  idx_vars y
  obtain rfl : y0 = 0 := Subsingleton.elim _ _
  unfold out0_5
  frame_out
  refine (pay7 (grid0.coords t) (gB m c t) (hB m c t) y1 y2).trans ?_
  rw [grad]
  refine congrArg (sK m c) (a₁ := at' t y1 y2) ?_
  blk_ext [(places t).2.2.2.1] <;> rfl
theorem arr_change : (dats m 0 c).arrAt 6 cfg0.N = changeA (wK m c) (sK m c) (aK m c) (bK m c) := by
  refine (dats m 0 c).arrAt_eq_of_covers 6 _ (by decide +kernel) fun t _ y => ?_
  blk_simp
  rw [after0_6]
  idx_vars y
  obtain rfl : y0 = 0 := Subsingleton.elim _ _
  unfold out0_6
  frame_out
  refine (pay1 (grid0.coords t) (gB m c t) (hB m c t) (aB m c t) (bB m c t) (wB m c t) y1 y2).trans ?_
  rw [grad, read_0, read_3, read_4]
  refine congrArg (changeA (wK m c) (sK m c) (aK m c) (bK m c)) (a₁ := at' t y1 y2) ?_
  blk_ext [(places t).2.2.2.2.1] <;> rfl
theorem arr_first : (dats m 0 c).arrAt 7 cfg0.N = firstA (sK m c) (aK m c) := by
  refine (dats m 0 c).arrAt_eq_of_covers 7 _ (by decide +kernel) fun t _ y => ?_
  blk_simp
  rw [after0_7]
  idx_vars y
  obtain rfl : y0 = 0 := Subsingleton.elim _ _
  unfold out0_7
  frame_out
  refine (pay2 (grid0.coords t) (gB m c t) (hB m c t) (aB m c t) y1 y2).trans ?_
  rw [grad, read_3]
  refine congrArg (firstA (sK m c) (aK m c)) (a₁ := at' t y1 y2) ?_
  blk_ext [(places t).2.2.2.2.2.1] <;> rfl
theorem arr_second : (dats m 0 c).arrAt 8 cfg0.N = secondA (sK m c) (bK m c) := by
  refine (dats m 0 c).arrAt_eq_of_covers 8 _ (by decide +kernel) fun t _ y => ?_
  blk_simp
  rw [after0_8]
  idx_vars y
  obtain rfl : y0 = 0 := Subsingleton.elim _ _
  unfold out0_8
  frame_out
  refine (pay3 (grid0.coords t) (gB m c t) (hB m c t) (bB m c t) y1 y2).trans ?_
  rw [grad, read_4]
  refine congrArg (secondA (sK m c) (bK m c)) (a₁ := at' t y1 y2) ?_
  blk_ext [(places t).2.2.2.2.2.2] <;> rfl

end Kernel

section Reference

open Cert.Reference27Ideal Cert.Reference27Ideal.Gen

theorem ref_grad (g h : Layer) : (concatenate S2x2048x2048 0 [⟨S1x2048x2048, (broadcastInDim S1x2048x2048 ![1, 2] bcast_S2048x2048_S1x2048x2048_1_2 (shapeCast _ g shapeCasts_S2x1024x2048_S2048x2048) : Arr S1x2048x2048)⟩,
    ⟨S1x2048x2048, (broadcastInDim S1x2048x2048 ![1, 2] bcast_S2048x2048_S1x2048x2048_1_2 (shapeCast _ h shapeCasts_S2x1024x2048_S2048x2048) : Arr S1x2048x2048)⟩] concatenates_S1x2048x2048_S1x2048x2048_S2x2048x2048_d0 : Stack) = stacked g h := by
  funext i
  idx_vars i
  unfold stacked
  fin_cases i0
  · pointwise []
  · pointwise []

end Reference

open Cert.Kernel27Ideal.Gen in
theorem algebraic : Cert.algebraic_Kernel27Ideal_Reference27Ideal (hKernel27Ideal := Cert.Kernel27Ideal.Gen.facts) (hReference27Ideal := Cert.Reference27Ideal.Gen.facts) := by
  intro m ρ m' ρ' _ hag
  refine ⟨fun c => sK m c, fun c => changeA (wK m c) (sK m c) (aK m c) (bK m c), fun c => firstA (sK m c) (aK m c), fun c => secondA (sK m c) (bK m c),
    (θ_run Cert.Kernel27Ideal.defs _ _).mono (fun r h c => ⟨((h c).1 5).trans (arr_grad m c), ((h c).1 6).trans (arr_change m c), ((h c).1 7).trans (arr_first m c), ((h c).1 8).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (Cert.Kernel27Ideal.Gen.run_main (F := Ideal) m ρ),
    (θ_run Cert.Reference27Ideal.defs _ _).mono (fun r h c => ?_) (Cert.Reference27Ideal.Value.run (F := Ideal) m' ρ')⟩
  obtain ⟨h0, h1, h2, h3, h4⟩ := hag c
  have hs := ref_grad (gK m c) (hK m c)
  refine ⟨(h c).1.trans ?_, (h c).2.1.trans ?_, (h c).2.2.1.trans ?_, (h c).2.2.2.1.trans ?_, (h c).2.2.2.2⟩
  · rw [h1, h2]
    exact hs
  · rw [h0, h1, h2, h3, h4]
    exact (congrArg (fun s => changeA (wK m c) s (aK m c) (bK m c)) hs)
  · rw [h1, h2, h3]
    exact (congrArg (fun s => firstA s (aK m c)) hs)
  · rw [h1, h2, h4]
    exact (congrArg (fun s => secondA s (bK m c)) hs)

end Cert.Proof.AdamLarge

end
-- ==== Proof.Same.lean ====
/- The printed kernel and the one read over the extended reals are the same program. -/
module

public import proofs.«01_k».proof.Proof.Gen.Kernel
public import proofs.«01_k».proof.Proof.Gen.KernelIdeal

@[expose] public section

set_option maxRecDepth 100000

noncomputable section

namespace Cert.Proof.Same

open Idealize.ShloMosaic Idealize.SL.Sem

variable {F : FTy → Type} [FloatOps F] [a : Kernel.Facts] [b : KernelIdeal.Facts]

theorem bodies : @Kernel.cc0_sb_bwd F _ a = @KernelIdeal.cc0_sb_bwd F _ b := rfl

theorem table : @Kernel.defs₀ F _ a = @KernelIdeal.defs₀ F _ b := by
  unfold Kernel.defs₀ KernelIdeal.defs₀
  refine congrArg Defs.onTc ?_
  funext l x
  match l, x with
  | ⟨0, _⟩, x => rfl
  | ⟨n + 1, h⟩, _ => exact absurd h (Nat.not_lt.2 (Nat.le_add_left _ _))

/-- The two programs have the same table of bodies -/
theorem defs : @Kernel.defs F _ a = @KernelIdeal.defs F _ b := by
  unfold Kernel.defs KernelIdeal.defs
  rw [table]
  rfl

/-- and the same main function. -/
theorem main : @Kernel.main F _ a = @KernelIdeal.main F _ b := rfl

end Cert.Proof.Same

end
-- ==== Proof.Mlp.lean ====
/- The two-layer network's backward pass: what each of the four calls leaves in its arrays. -/
module

public import proofs.«01_k».proof.Proof.Gen.Kernel2Ideal.Frame
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Proof.Mlp

open Cert.Kernel2Ideal Cert.Kernel2Ideal.Gen
open Idealize.ShloMosaic Idealize.ShloMosaic.TcCoe Idealize.ShloMosaic.Tactic

section Calls

variable (V : (c : Dev nD) → (b : Ref sig .tc) → Buf (Elt Ideal) ((c : Thread nD τ).loc b)) (c : Dev nD)

/-- What a call finds: the input, the first matrix cut by columns, the second one cut by rows, the output's gradient, -/
abbrev input : Vec Ideal S2048x2048 .bf16 := V c main_v0
abbrev first : Vec Ideal S4x2048x2048 .bf16 := V c main_v3
abbrev second : Vec Ideal S4x2048x2048 .bf16 := V c main_v5
abbrev grad : Vec Ideal S2048x2048 .f32 := V c main_arg3
/-- the hidden layer, its square and the gradient before the activation. -/
abbrev hid : Vec Ideal S2048x8192 .bf16 := V c main_v6_0
abbrev sq : Vec Ideal S2048x8192 .bf16 := V c main_v6_1
abbrev before : Vec Ideal S2048x8192 .bf16 := V c main_v7

/-! ## The first call: the hidden layer -/

/-- Where the blocks of the first call lie. -/
theorem places0 : ∀ t : Fin cfg0.N, win0_0.index t = ![t.val / 8, 0] ∧ win0_1.index t = ![t.val % 8 / 2, 0, t.val % 2]
    ∧ win0_2.index t = ![t.val / 8, t.val % 8] ∧ win0_3.index t = ![t.val / 8, t.val % 8] :=
  (by decide +kernel : ∀ t : Fin grid0.N, _)

theorem lt0 (t : Fin cfg0.N) : t.val < 16 := t.isLt

theorem read0_0 (t : Fin cfg0.N) (r : Fin 1024) (k : Fin 2048) :
    (iblk0 V c 0 t : Vec Ideal S1024x2048 .bf16) (ix2 r k) = input V c (ix2 ⟨1024 * (t.val / 8) + r.val, by have := lt0 t; omega⟩ k) := by
  blk_ext [iblk0, (places0 t).1]
theorem read0_1 (t : Fin cfg0.N) (k : Fin 2048) (l : Fin 1024) :
    (iblk0 V c 1 t : Vec Ideal S1x2048x1024 .bf16) (ix3 0 k l) = first V c (ix3 ⟨t.val % 8 / 2, by omega⟩ k ⟨1024 * (t.val % 2) + l.val, by omega⟩) := by
  blk_ext [iblk0, (places0 t).2.1]

/-- The hidden layer from the input and the cut matrix. -/
def hidOf (x : Vec Ideal S2048x2048 .bf16) (w : Vec Ideal S4x2048x2048 .bf16) (i : Fin 2048) (j : Fin 8192) : EReal :=
  max (∑ k : Fin 2048, (x (ix2 i k) : EReal) * (w (ix3 ⟨j.val / 2048, by omega⟩ k ⟨j.val % 2048, by omega⟩) : EReal)) 0

theorem pay0 (x0 : Vec Ideal S1024x2048 .bf16) (x1 : Vec Ideal S1x2048x1024 .bf16) (r l : Fin 1024) :
    (k0_pay1 x0 x1 (ix2 r l) : EReal) = max (∑ k : Fin 2048, (x0 (ix2 r k) : EReal) * (x1 (ix3 0 k l) : EReal)) 0 := by
  pointwise [k0_pay1]

theorem out0 (t : Fin cfg0.N) (r l : Fin 1024) :
    (k0_pay1 (iblk0 V c 0 t) (iblk0 V c 1 t) (ix2 r l) : EReal)
      = hidOf (input V c) (first V c) ⟨1024 * (t.val / 8) + r.val, by have := lt0 t; omega⟩ ⟨1024 * (t.val % 8) + l.val, by omega⟩ := by
  have ht := lt0 t
  refine (pay0 _ _ r l).trans ?_
  unfold hidOf
  refine congrArg (max · (0 : EReal)) (Finset.sum_congr rfl fun k _ => congrArg₂ (· * ·) (read0_0 V c t r k) ((read0_1 V c t k l).trans ?_))
  refine congrArg _ (congr (congrArg (fun a => ix3 a k) (Fin.ext ?_)) (Fin.ext ?_)) <;> dsimp only <;> omega

/-- The hidden layer after the call, -/
theorem arr0_2 : (dat0 V c).arrAt 2 cfg0.N = (fun i => hidOf (input V c) (first V c) (i 0) (i 1) : Vec Ideal S2048x8192 .bf16) := by
  refine (dat0 V c).arrAt_eq_of_covers 2 _ (by decide +kernel) fun t hf y => ?_
  blk_simp
  rw [after0_2]
  idx_vars y
  unfold out0_2
  frame_out
  refine (out0 V c t y0 y1).trans (congrArg₂ (hidOf _ _) (Fin.ext ?_) (Fin.ext ?_))
  · blk_simp [(places0 t).2.2.1]; dsimp only; omega
  · blk_simp [(places0 t).2.2.1]; dsimp only; omega
/-- and its square. -/
theorem arr0_3 : (dat0 V c).arrAt 3 cfg0.N = (fun i => hidOf (input V c) (first V c) (i 0) (i 1) * hidOf (input V c) (first V c) (i 0) (i 1) : Vec Ideal S2048x8192 .bf16) := by
  refine (dat0 V c).arrAt_eq_of_covers 3 _ (by decide +kernel) fun t hf y => ?_
  blk_simp
  rw [after0_3]
  idx_vars y
  unfold out0_3
  frame_out
  have e : (k0_pay1 (iblk0 V c 0 t) (iblk0 V c 1 t) (ix2 y0 y1) : EReal) = hidOf (input V c) (first V c)
      (((View.whole main_v6_1).slice (win0_3.rect t)).emb (ix2 y0 y1) 0) (((View.whole main_v6_1).slice (win0_3.rect t)).emb (ix2 y0 y1) 1) := by
    refine (out0 V c t y0 y1).trans (congrArg₂ (hidOf _ _) (Fin.ext ?_) (Fin.ext ?_))
    · blk_simp [(places0 t).2.2.2]; dsimp only; omega
    · blk_simp [(places0 t).2.2.2]; dsimp only; omega
  exact congrArg₂ (fun a b : EReal => a * b) e e

/-! ## The second call: the gradient before the activation -/

theorem places1 : ∀ t : Fin cfg1.N, win1_0.index t = ![t.val / 8, 0] ∧ win1_1.index t = ![t.val % 8 / 2, t.val % 2, 0]
    ∧ win1_2.index t = ![t.val / 8, t.val % 8] ∧ win1_3.index t = ![t.val / 8, t.val % 8] :=
  (by decide +kernel : ∀ t : Fin grid1.N, _)

theorem lt1 (t : Fin cfg1.N) : t.val < 16 := t.isLt

theorem read1_0 (t : Fin cfg1.N) (r : Fin 1024) (k : Fin 2048) :
    (iblk1 V c 0 t : Vec Ideal S1024x2048 .f32) (ix2 r k) = grad V c (ix2 ⟨1024 * (t.val / 8) + r.val, by have := lt1 t; omega⟩ k) := by
  blk_ext [iblk1, (places1 t).1]
theorem read1_1 (t : Fin cfg1.N) (l : Fin 1024) (k : Fin 2048) :
    (iblk1 V c 1 t : Vec Ideal S1x1024x2048 .bf16) (ix3 0 l k) = second V c (ix3 ⟨t.val % 8 / 2, by omega⟩ ⟨1024 * (t.val % 2) + l.val, by omega⟩ k) := by
  blk_ext [iblk1, (places1 t).2.1]
theorem read1_2 (t : Fin cfg1.N) (r l : Fin 1024) :
    (iblk1 V c 2 t : Vec Ideal S1024x1024 .bf16) (ix2 r l) = hid V c (ix2 ⟨1024 * (t.val / 8) + r.val, by have := lt1 t; omega⟩ ⟨1024 * (t.val % 8) + l.val, by omega⟩) := by
  blk_ext [iblk1, (places1 t).2.2.1]

/-- The gradient before the activation, from the output's gradient, the cut matrix and the hidden layer. -/
def beforeOf (g : Vec Ideal S2048x2048 .f32) (w : Vec Ideal S4x2048x2048 .bf16) (h : Vec Ideal S2048x8192 .bf16) (i : Fin 2048) (j : Fin 8192) : EReal :=
  (∑ k : Fin 2048, (g (ix2 i k) : EReal) * (w (ix3 ⟨j.val / 2048, by omega⟩ ⟨j.val % 2048, by omega⟩ k) : EReal)) * (2 * (h (ix2 i j) : EReal))

/-- The word for two. -/
theorem two_eq : Ideal.ofBits .f32 0x40000000#32 = (2 : EReal) := by
  rw [show (2 : EReal) = ((2 : ℝ) : EReal) by norm_cast]
  simp [Ideal.ofBits, Ideal.ieee, -EReal.coe_mul]; norm_num

theorem pay1 (x0 : Vec Ideal S1024x2048 .f32) (x1 : Vec Ideal S1x1024x2048 .bf16) (x2 : Vec Ideal S1024x1024 .bf16) (r l : Fin 1024) :
    (k1_pay1 x0 x1 x2 (ix2 r l) : EReal) = (∑ k : Fin 2048, (x0 (ix2 r k) : EReal) * (x1 (ix3 0 l k) : EReal)) * (2 * (x2 (ix2 r l) : EReal)) := by
  pointwise [k1_pay1]
  rw [two_eq]

theorem out1 (t : Fin cfg1.N) (r l : Fin 1024) :
    (k1_pay1 (iblk1 V c 0 t) (iblk1 V c 1 t) (iblk1 V c 2 t) (ix2 r l) : EReal)
      = beforeOf (grad V c) (second V c) (hid V c) ⟨1024 * (t.val / 8) + r.val, by have := lt1 t; omega⟩ ⟨1024 * (t.val % 8) + l.val, by omega⟩ := by
  have ht := lt1 t
  refine (pay1 _ _ _ r l).trans ?_
  unfold beforeOf
  refine congrArg₂ (fun a b : EReal => a * (2 * b)) (Finset.sum_congr rfl fun k _ => congrArg₂ (· * ·) (read1_0 V c t r k) ((read1_1 V c t l k).trans ?_)) (read1_2 V c t r l)
  refine congrArg _ (congrArg₂ (fun a b => ix3 a b k) (Fin.ext ?_) (Fin.ext ?_)) <;> dsimp only <;> omega

theorem arr1_3 : (dat1 V c).arrAt 3 cfg1.N = (fun i => beforeOf (grad V c) (second V c) (hid V c) (i 0) (i 1) : Vec Ideal S2048x8192 .bf16) := by
  refine (dat1 V c).arrAt_eq_of_covers 3 _ (by decide +kernel) fun t hf y => ?_
  blk_simp
  rw [after1_3]
  idx_vars y
  unfold out1_3
  frame_out
  refine (out1 V c t y0 y1).trans (congrArg₂ (beforeOf _ _ _) (Fin.ext ?_) (Fin.ext ?_))
  · blk_simp [(places1 t).2.2.2]; dsimp only; omega
  · blk_simp [(places1 t).2.2.2]; dsimp only; omega

/-! ## The third call: the second matrix's gradient -/

theorem places2 : ∀ t : Fin cfg2.N, win2_0.index t = ![0, t.val / 2] ∧ win2_1.index t = ![0, t.val % 2] ∧ win2_2.index t = ![t.val / 2, t.val % 2] :=
  (by decide +kernel : ∀ t : Fin grid2.N, _)

theorem lt2 (t : Fin cfg2.N) : t.val < 16 := t.isLt

theorem read2_0 (t : Fin cfg2.N) (k : Fin 2048) (r : Fin 1024) :
    (iblk2 V c 0 t : Vec Ideal S2048x1024 .bf16) (ix2 k r) = sq V c (ix2 k ⟨1024 * (t.val / 2) + r.val, by have := lt2 t; omega⟩) := by
  blk_ext [iblk2, (places2 t).1]
theorem read2_1 (t : Fin cfg2.N) (k : Fin 2048) (l : Fin 1024) :
    (iblk2 V c 1 t : Vec Ideal S2048x1024 .f32) (ix2 k l) = grad V c (ix2 k ⟨1024 * (t.val % 2) + l.val, by omega⟩) := by
  blk_ext [iblk2, (places2 t).2.1]

theorem pay2 (x0 : Vec Ideal S2048x1024 .bf16) (x1 : Vec Ideal S2048x1024 .f32) (r l : Fin 1024) :
    (k2_pay1 x0 x1 (ix2 r l) : EReal) = ∑ k : Fin 2048, (x0 (ix2 k r) : EReal) * (x1 (ix2 k l) : EReal) := by
  pointwise [k2_pay1]

/-- The second matrix's gradient, from the squared hidden layer and the output's gradient. -/
def secondOf (s : Vec Ideal S2048x8192 .bf16) (g : Vec Ideal S2048x2048 .f32) (i : Fin 8192) (j : Fin 2048) : EReal :=
  ∑ k : Fin 2048, (s (ix2 k i) : EReal) * (g (ix2 k j) : EReal)

theorem out2 (t : Fin cfg2.N) (r l : Fin 1024) :
    (k2_pay1 (iblk2 V c 0 t) (iblk2 V c 1 t) (ix2 r l) : EReal)
      = secondOf (sq V c) (grad V c) ⟨1024 * (t.val / 2) + r.val, by have := lt2 t; omega⟩ ⟨1024 * (t.val % 2) + l.val, by omega⟩ :=
  (pay2 _ _ r l).trans (Finset.sum_congr rfl fun k _ => congrArg₂ (· * ·) (read2_0 V c t k r) (read2_1 V c t k l))

theorem arr2_2 : (dat2 V c).arrAt 2 cfg2.N = (fun i => secondOf (sq V c) (grad V c) (i 0) (i 1) : Vec Ideal S8192x2048 .bf16) := by
  refine (dat2 V c).arrAt_eq_of_covers 2 _ (by decide +kernel) fun t hf y => ?_
  blk_simp
  rw [after2_2]
  idx_vars y
  unfold out2_2
  frame_out
  refine (out2 V c t y0 y1).trans (congrArg₂ (secondOf _ _) (Fin.ext ?_) (Fin.ext ?_))
  · blk_simp [(places2 t).2.2]; dsimp only; omega
  · blk_simp [(places2 t).2.2]; dsimp only; omega

/-! ## The fourth call: the first matrix's gradient -/

theorem places3 : ∀ t : Fin cfg3.N, win3_0.index t = ![0, t.val / 8] ∧ win3_1.index t = ![0, t.val % 8] ∧ win3_2.index t = ![t.val % 8 / 2, t.val / 8, t.val % 2] :=
  (by decide +kernel : ∀ t : Fin grid3.N, _)

theorem lt3 (t : Fin cfg3.N) : t.val < 16 := t.isLt

theorem read3_0 (t : Fin cfg3.N) (k : Fin 2048) (r : Fin 1024) :
    (iblk3 V c 0 t : Vec Ideal S2048x1024 .bf16) (ix2 k r) = input V c (ix2 k ⟨1024 * (t.val / 8) + r.val, by have := lt3 t; omega⟩) := by
  blk_ext [iblk3, (places3 t).1]
theorem read3_1 (t : Fin cfg3.N) (k : Fin 2048) (l : Fin 1024) :
    (iblk3 V c 1 t : Vec Ideal S2048x1024 .bf16) (ix2 k l) = before V c (ix2 k ⟨1024 * (t.val % 8) + l.val, by omega⟩) := by
  blk_ext [iblk3, (places3 t).2.1]

theorem pay3 (x0 x1 : Vec Ideal S2048x1024 .bf16) (r l : Fin 1024) :
    (k3_pay1 x0 x1 (ix3 0 r l) : EReal) = ∑ k : Fin 2048, (x0 (ix2 k r) : EReal) * (x1 (ix2 k l) : EReal) := by
  pointwise [k3_pay1]

/-- The first matrix's gradient, cut by columns, from the input and the gradient before the activation. -/
def firstOf (x : Vec Ideal S2048x2048 .bf16) (d : Vec Ideal S2048x8192 .bf16) (a : Fin 4) (i j : Fin 2048) : EReal :=
  ∑ k : Fin 2048, (x (ix2 k i) : EReal) * (d (ix2 k ⟨2048 * a.val + j.val, by omega⟩) : EReal)

theorem out3 (t : Fin cfg3.N) (r l : Fin 1024) :
    (k3_pay1 (iblk3 V c 0 t) (iblk3 V c 1 t) (ix3 0 r l) : EReal)
      = firstOf (input V c) (before V c) ⟨t.val % 8 / 2, by omega⟩ ⟨1024 * (t.val / 8) + r.val, by have := lt3 t; omega⟩ ⟨1024 * (t.val % 2) + l.val, by omega⟩ := by
  refine (pay3 _ _ r l).trans (Finset.sum_congr rfl fun k _ => congrArg₂ (· * ·) (read3_0 V c t k r) ((read3_1 V c t k l).trans ?_))
  refine congrArg _ (congrArg (ix2 k) (Fin.ext ?_)); dsimp only; omega

theorem arr3_2 : (dat3 V c).arrAt 2 cfg3.N = (fun i => firstOf (input V c) (before V c) (i 0) (i 1) (i 2) : Vec Ideal S4x2048x2048 .bf16) := by
  refine (dat3 V c).arrAt_eq_of_covers 2 _ (by decide +kernel) fun t hf y => ?_
  blk_simp
  rw [after3_2]
  idx_vars y
  unfold out3_2
  frame_out
  obtain rfl : y0 = 0 := Subsingleton.elim _ _
  refine (out3 V c t y1 y2).trans (congr (congrArg₂ (firstOf _ _) (Fin.ext ?_) (Fin.ext ?_)) (Fin.ext ?_))
  · blk_simp [(places3 t).2.2]; rfl
  · blk_simp [(places3 t).2.2]; dsimp only; omega
  · blk_simp [(places3 t).2.2]; dsimp only; omega

end Calls

end Cert.Proof.Mlp

end
-- ==== Proof.MlpChain.lean ====
/- The two-layer network's backward pass: the chain of the four calls, and the reference. -/
module

public import proofs.«01_k».proof.Proof.Mlp
public import proofs.«01_k».proof.Proof.Gen.Reference2Ideal.Run
public import proofs.«01_k».proof.Proof.Gen.Kernel2Ideal
public import proofs.«01_k».proof.Defs

@[expose] public section

set_option maxRecDepth 16384

noncomputable section

namespace Cert.Proof.Mlp

open Idealize.ShloMosaic Idealize.ShloMosaic.TcCoe Idealize.ShloMosaic.StableHlo Idealize.SL.Sem Idealize.ShloMosaic.Tactic

abbrev Sq : Type := Vec Ideal ⟨2, ![2048, 2048]⟩ .f32
abbrev Wide : Type := Vec Ideal ⟨2, ![2048, 8192]⟩ .f32
abbrev Tall : Type := Vec Ideal ⟨2, ![8192, 2048]⟩ .f32

/-- The hidden layer, -/
def hidden (x : Sq) (w : Wide) (i : Fin 2048) (j : Fin 8192) : EReal := max (∑ k : Fin 2048, (x (ix2 i k) : EReal) * (w (ix2 k j) : EReal)) 0
/-- the gradient before the activation, -/
def preGrad (x : Sq) (w : Wide) (v : Tall) (g : Sq) (i : Fin 2048) (j : Fin 8192) : EReal :=
  (∑ k : Fin 2048, (g (ix2 i k) : EReal) * (v (ix2 j k) : EReal)) * (2 * hidden x w i j)
/-- the first matrix's gradient cut by columns, -/
def dFirst (x : Sq) (w : Wide) (v : Tall) (g : Sq) (a : Fin 4) (i j : Fin 2048) : EReal :=
  ∑ k : Fin 2048, (x (ix2 k i) : EReal) * preGrad x w v g k ⟨2048 * a.val + j.val, by omega⟩
/-- and the second matrix's gradient. -/
def dSecond (x : Sq) (w : Wide) (g : Sq) (i : Fin 8192) (j : Fin 2048) : EReal :=
  ∑ k : Fin 2048, (hidden x w k i * hidden x w k i) * (g (ix2 k j) : EReal)

/-- As arrays. -/
def dFirstA (x : Sq) (w : Wide) (v : Tall) (g : Sq) : Vec Ideal ⟨3, ![4, 2048, 2048]⟩ .bf16 := fun i => dFirst x w v g (i 0) (i 1) (i 2)
def dSecondA (x : Sq) (w : Wide) (g : Sq) : Vec Ideal ⟨2, ![8192, 2048]⟩ .bf16 := fun i => dSecond x w g (i 0) (i 1)

section Kernel

open Cert.Kernel2Ideal Cert.Kernel2Ideal.Gen

variable (m : (ℓ : Loc nD τ sig) → Buf (Elt Ideal) ℓ) (ρ : Dev nD → PrngReg) (c : Dev nD)

abbrev xK : Sq := m ((c.tc : Thread nD τ).loc main_arg0)
abbrev wK : Wide := m ((c.tc : Thread nD τ).loc main_arg1)
abbrev vK : Tall := m ((c.tc : Thread nD τ).loc main_arg2)
abbrev gK : Sq := m ((c.tc : Thread nD τ).loc main_arg3)

theorem input_eq (i k : Fin 2048) : input (V1 m ρ) c (ix2 i k) = xK m c (ix2 i k) := by
  unfold input
  after_reads_at
theorem first_eq (a : Fin 4) (k j : Fin 2048) : first (V1 m ρ) c (ix3 a k j) = wK m c (ix2 k ⟨a.val * 2048 + j.val, by omega⟩) := by
  unfold first
  after_reads_at
theorem second_eq (a : Fin 4) (j k : Fin 2048) : second (V1 m ρ) c (ix3 a j k) = vK m c (ix2 ⟨a.val * 2048 + j.val, by omega⟩ k) := by
  unfold second
  after_reads_at

theorem hidOf_eq (i : Fin 2048) (j : Fin 8192) : hidOf (input (V1 m ρ) c) (first (V1 m ρ) c) i j = hidden (xK m c) (wK m c) i j := by
  unfold hidOf hidden
  refine congrArg (max · (0 : EReal)) (Finset.sum_congr rfl fun k _ => congrArg₂ (· * ·) (input_eq m ρ c i k) ((first_eq m ρ c _ k _).trans ?_))
  refine congrArg _ (congrArg (ix2 k) (Fin.ext ?_)); dsimp only; omega

theorem hid2 : hid (V2 m ρ) c = (fun i => hidden (xK m c) (wK m c) (i 0) (i 1) : Vec Ideal S2048x8192 .bf16) :=
  ((W2_arr m ρ c 2).trans (arr0_2 (V1 m ρ) c)).trans (funext fun i => hidOf_eq m ρ c (i 0) (i 1))
theorem sq2 : sq (V2 m ρ) c = (fun i => hidden (xK m c) (wK m c) (i 0) (i 1) * hidden (xK m c) (wK m c) (i 0) (i 1) : Vec Ideal S2048x8192 .bf16) :=
  ((W2_arr m ρ c 3).trans (arr0_3 (V1 m ρ) c)).trans (funext fun i => congrArg₂ (fun a b : EReal => a * b) (hidOf_eq m ρ c (i 0) (i 1)) (hidOf_eq m ρ c (i 0) (i 1)))
theorem second2 : second (V2 m ρ) c = second (V1 m ρ) c := W2_of m ρ c main_v5 (by decide)
theorem grad2 : grad (V2 m ρ) c = gK m c := W2_args m ρ c main_arg3 (by decide)

theorem before3 : before (V3 m ρ) c = (fun i => preGrad (xK m c) (wK m c) (vK m c) (gK m c) (i 0) (i 1) : Vec Ideal S2048x8192 .bf16) := by
  refine ((W3_arr m ρ c 3).trans (arr1_3 (V2 m ρ) c)).trans (funext fun i => ?_)
  rw [second2, grad2, hid2]
  unfold beforeOf preGrad
  refine congrArg₂ (fun a b : EReal => a * (2 * b)) (Finset.sum_congr rfl fun k _ => congrArg₂ (· * ·) rfl ((second_eq m ρ c _ _ k).trans ?_)) rfl
  refine congrArg _ (congrArg (ix2 · k) (Fin.ext ?_)); dsimp only; omega

theorem sq3 : sq (V3 m ρ) c = sq (V2 m ρ) c := W3_of m ρ c main_v6_1 (by decide)
theorem grad3 : grad (V3 m ρ) c = gK m c := W3_args m ρ c main_arg3 (by decide)
theorem before4 : before (V4 m ρ) c = before (V3 m ρ) c := W4_of m ρ c main_v7 (by decide)
theorem input4 : input (V4 m ρ) c = input (V1 m ρ) c :=
  ((W4_of m ρ c main_v0 (by decide)).trans (W3_of m ρ c main_v0 (by decide))).trans (W2_of m ρ c main_v0 (by decide))

theorem out_second : W5 m ρ c (Proc.devRef .tc main_v8) = dSecondA (xK m c) (wK m c) (gK m c) := by
  refine ((W5_of m ρ c main_v8 (by decide)).trans ((W4_arr m ρ c 2).trans (arr2_2 (V3 m ρ) c))).trans ?_
  rw [sq3, grad3, sq2]
  rfl
theorem out_first : W5 m ρ c (Proc.devRef .tc main_v9) = dFirstA (xK m c) (wK m c) (vK m c) (gK m c) := by
  refine ((W5_arr m ρ c 2).trans (arr3_2 (V4 m ρ) c)).trans ?_
  rw [before4, input4, before3]
  unfold dFirstA
  funext i
  exact Finset.sum_congr rfl fun k _ => congrArg₂ (· * ·) (input_eq m ρ c k (i 1)) rfl

end Kernel

end Cert.Proof.Mlp

end
-- ==== Proof.MlpValue.lean ====
/- The two-layer network's backward pass: the kernel and the reference end with the same gradients. -/
module

public import proofs.«01_k».proof.Proof.MlpChain
public import proofs.«01_k».proof.Proof.Gen.Reference2Ideal.Run
public import proofs.«01_k».proof.Proof.Gen.Kernel2Ideal
public import proofs.«01_k».proof.Defs

@[expose] public section

set_option maxRecDepth 16384

noncomputable section

namespace Cert.Proof.Mlp

open Idealize.ShloMosaic Idealize.ShloMosaic.TcCoe Idealize.ShloMosaic.StableHlo Idealize.SL.Sem Idealize.ShloMosaic.Tactic

section Kernel

open Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- A run of the kernel ends with the two gradients, the arguments as they were. -/
theorem run_kernel : θ_run defs (onTc (τ := τ) (main (F := Ideal))) ⟨m, fun _ => 0, ρ⟩ (fun r => ∀ c : Dev nD,
      r.2.mem ((c.tc : Thread nD τ).loc main_v9) = dFirstA (xK m c) (wK m c) (vK m c) (gK m c)
      ∧ r.2.mem ((c.tc : Thread nD τ).loc main_v8) = dSecondA (xK m c) (wK m c) (gK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v9 (by decide))).trans (out_first m ρ c),
       (h c _ (mem_uc main_v8 (by decide))).trans (out_second m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Kernel

section Reference

open Cert.Reference2Ideal Cert.Reference2Ideal.Gen

/-- The product before the activation, decided against zero, carries the same gradient either way. -/
theorem grad_eq (p g : EReal) : (if 0 < p then max p 0 * g + g * max p 0 else 0) = g * (2 * max p 0) := by
  by_cases h : 0 < p
  · rw [if_pos h, max_eq_left h.le, mul_comm p g, ← mul_assoc, mul_comm g 2, mul_assoc, ← one_add_one_eq_two,
      EReal.right_distrib_of_nonneg zero_le_one zero_le_one, one_mul]
  · rw [if_neg h, max_eq_right (not_lt.1 h), mul_zero, mul_zero]

variable (x : Sq) (w : Wide) (v : Tall) (g : Sq)

/-- The reference's product before the activation, -/
abbrev preR : Wide := Host.dotGeneral (F := Ideal) (φ₁ := .f32) (φ₂ := .f32) dot_S2048x2048_S2048x8192_S2048x8192_1_0_0_1_n_n none x w
/-- its hidden layer, -/
abbrev hidR : Wide := maximumf (F := Ideal) (φ := .f32) (preR x w) (broadcastInDim S2048x8192 ![] bcast_S_S2048x8192 (constant (F := Ideal) S_ .f32 0x00000000#32))
/-- the gradient of the squares, -/
abbrev backR : Wide := Host.dotGeneral (F := Ideal) (φ₁ := .f32) (φ₂ := .f32) dot_S2048x2048_S8192x2048_S2048x8192_1_1_0_0_n_n none g v
/-- and the gradient before the activation. -/
abbrev preGradR : Wide :=
  select (cmpf (F := Ideal) (φ := .f32) .ogt (preR x w) (broadcastInDim S2048x8192 ![] bcast_S_S2048x8192 (constant (F := Ideal) S_ .f32 0x00000000#32)))
    (addf (F := Ideal) (φ := .f32) (mulf (F := Ideal) (φ := .f32) (hidR x w) (backR v g)) (mulf (F := Ideal) (φ := .f32) (backR v g) (hidR x w)))
    (broadcastInDim S2048x8192 ![] bcast_S_S2048x8192 (constant (F := Ideal) S_ .f32 0x00000000#32))

theorem preR_apply (i : Fin 2048) (j : Fin 8192) : (preR x w (ix2 i j) : EReal) = ∑ k : Fin 2048, (x (ix2 i k) : EReal) * (w (ix2 k j) : EReal) := by
  pointwise [preR]
theorem hidR_apply (i : Fin 2048) (j : Fin 8192) : (hidR x w (ix2 i j) : EReal) = hidden x w i j := by
  unfold hidden
  rw [← preR_apply]
  pointwise [hidR]
theorem backR_apply (i : Fin 2048) (j : Fin 8192) : (backR v g (ix2 i j) : EReal) = ∑ k : Fin 2048, (g (ix2 i k) : EReal) * (v (ix2 j k) : EReal) := by
  pointwise [backR]
theorem preGradR_apply (i : Fin 2048) (j : Fin 8192) : (preGradR x w v g (ix2 i j) : EReal) = preGrad x w v g i j := by
  unfold preGrad hidden
  rw [← preR_apply, ← backR_apply, ← grad_eq]
  pointwise [preGradR]

theorem first_ref : (truncf (F := Ideal) .bf16 (transpose S4x2048x2048 [1, 0, 2] (shapeCast _ (transpose S2048x8192 [1, 0] (Host.dotGeneral (F := Ideal) (φ₁ := .f32) (φ₂ := .f32) dot_S2048x8192_S2048x2048_S8192x2048_0_0_1_1_n_n none (preGradR x w v g) x) transposes_S8192x2048_S2048x8192_1_0) shapeCasts_S2048x8192_S2048x4x2048) transposes_S2048x4x2048_S4x2048x2048_1_0_2) bitsLt_bf16_f32 : Vec Ideal ⟨3, ![4, 2048, 2048]⟩ .bf16)
    = dFirstA x w v g := by
  funext i
  idx_vars i
  unfold dFirstA dFirst
  pointwise []
  refine Finset.sum_congr rfl fun k _ => ?_
  rw [mul_comm]
  unfold preGrad hidden
  rw [← grad_eq]
  simp only [mul_comm 2048]
theorem second_ref : (truncf (F := Ideal) .bf16 (transpose S8192x2048 [1, 0] (Host.dotGeneral (F := Ideal) (φ₁ := .f32) (φ₂ := .f32) dot_S2048x2048_S2048x8192_S2048x8192_0_0_1_1_n_n none g (mulf (F := Ideal) (φ := .f32) (hidR x w) (hidR x w))) transposes_S2048x8192_S8192x2048_1_0) bitsLt_bf16_f32 : Vec Ideal ⟨2, ![8192, 2048]⟩ .bf16)
    = dSecondA x w g := by
  funext i
  idx_vars i
  unfold dSecondA dSecond
  pointwise []
  exact Finset.sum_congr rfl fun k _ => mul_comm (G := EReal) _ _

end Reference

theorem algebraic : Cert.algebraic_Kernel2Ideal_Reference2Ideal (hKernel2Ideal := Cert.Kernel2Ideal.Gen.facts) (hReference2Ideal := Cert.Reference2Ideal.Gen.facts) := by
  intro m ρ m' ρ' _ hag
  refine ⟨fun c => dFirstA (xK m c) (wK m c) (vK m c) (gK m c), fun c => dSecondA (xK m c) (wK m c) (gK m c), run_kernel m ρ,
    (θ_run Cert.Reference2Ideal.defs _ _).mono (fun r h c => ?_) (Cert.Reference2Ideal.Value.run (F := Ideal) m' ρ')⟩
  obtain ⟨h0, h1, h2, h3⟩ := hag c
  refine ⟨((h c).1.trans (first_ref _ _ _ _)).trans ?_, ((h c).2.1.trans (second_ref _ _ _)).trans ?_, (h c).2.2⟩
  · rw [h0, h1, h2, h3]
  · rw [h0, h1, h3]

end Cert.Proof.Mlp

end
-- ==== Proof.lean ====
/- The claims about the gradients of the stick-breaking attention, of the squared-ReLU network and of the projections. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Dx
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.OutProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.ProjDx
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.ProjDw
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.ProjFwd
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Ff2
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.OutFwd
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.PoolDx
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.SbDx
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.GdnDx
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.PoolDw
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.SbDw
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.GdnDw
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.MergeFwd
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.MergeBwd
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.SbFwd
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.ConvBwd
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.ConvFwd
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.RmsBwd
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.RmsFwd
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.PoolBwd
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.PoolFwd
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.LossHead
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.AdamSmall
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.AdamLarge
public import proofs.«01_k».proof.Proof.Same
public import proofs.«01_k».proof.Proof.MlpValue
public import Idealize.ShloMosaic.Adequacy
public import Idealize.ShloMosaic.Init

@[expose] public section

noncomputable section

namespace Cert.Proof

open Idealize.ShloMosaic Idealize.SL.Sem Cert.Kernel

/-- The kernel over the machine's floats runs, leaves its arguments and ends with every counter at zero. -/
theorem frame_kernel : Cert.quiescent_Kernel (hKernel := Cert.Kernel.Gen.facts) := by
  unfold Cert.quiescent_Kernel
  rw [Same.defs (b := Cert.KernelIdeal.Gen.facts), Same.main (b := Cert.KernelIdeal.Gen.facts)]
  exact fun m ρ _ => Sb.frame_any (F := Bits) m ρ
/-- The kernel over the extended reals runs, leaves its arguments and ends with every counter at zero. -/
theorem frame_ideal : Cert.quiescent_KernelIdeal (hKernelIdeal := Cert.KernelIdeal.Gen.facts) := fun m ρ _ =>
  Sb.frame_any (F := Ideal) m ρ
/-- The reference over the extended reals runs, leaves its arguments and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two frames where the inputs are finite. -/
theorem frame_ideal_finite : Cert.quiescent_KernelIdeal_pre_finite (hKernelIdeal := Cert.KernelIdeal.Gen.facts) (hPre_finite := Sb.finite_facts) := fun m ρ _ =>
  Sb.frame_any (F := Ideal) m ρ
theorem frame_reference_finite : Cert.quiescent_ReferenceIdeal_pre_finite (hReferenceIdeal := Cert.ReferenceIdeal.Gen.facts) (hPre_finite := Sb.finite_facts) := fun m ρ _ =>
  frame_reference m ρ trivial

/-- The network's three programs run, leave their arguments and end with every counter at zero. -/
theorem frame_kernel2 : Cert.quiescent_Kernel2 (hKernel2 := Cert.Kernel2.Gen.facts) := fun m ρ _ => Cert.Kernel2.Gen.frame m ρ
theorem frame_ideal2 : Cert.quiescent_Kernel2Ideal (hKernel2Ideal := Cert.Kernel2Ideal.Gen.facts) := fun m ρ _ => Cert.Kernel2Ideal.Gen.frame m ρ
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The input gradient of the network's first matrix: the three programs run, leave their arguments and end with every counter at zero. -/
theorem frame_kernel3 : Cert.quiescent_Kernel3 (hKernel3 := Cert.Kernel3.Gen.facts) := fun m ρ _ => Cert.Kernel3.Gen.frame m ρ
theorem frame_ideal3 : Cert.quiescent_Kernel3Ideal (hKernel3Ideal := Cert.Kernel3Ideal.Gen.facts) := fun m ρ _ => Cert.Kernel3Ideal.Gen.frame m ρ
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's three programs run, leave their arguments and end with every counter at zero. -/
theorem frame_kernel4 : Cert.quiescent_Kernel4 (hKernel4 := Cert.Kernel4.Gen.facts) := fun m ρ _ => Cert.Kernel4.Gen.frame m ρ
theorem frame_ideal4 : Cert.quiescent_Kernel4Ideal (hKernel4Ideal := Cert.Kernel4Ideal.Gen.facts) := fun m ρ _ => Cert.Kernel4Ideal.Gen.frame m ρ
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection's input gradient: the three programs run, leave their arguments and end with every counter at zero. -/
theorem frame_kernel5 : Cert.quiescent_Kernel5 (hKernel5 := Cert.Kernel5.Gen.facts) := fun m ρ _ => Cert.Kernel5.Gen.frame m ρ
theorem frame_ideal5 : Cert.quiescent_Kernel5Ideal (hKernel5Ideal := Cert.Kernel5Ideal.Gen.facts) := fun m ρ _ => Cert.Kernel5Ideal.Gen.frame m ρ
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The input projection's matrix gradient: the same. -/
theorem frame_kernel6 : Cert.quiescent_Kernel6 (hKernel6 := Cert.Kernel6.Gen.facts) := fun m ρ _ => Cert.Kernel6.Gen.frame m ρ
theorem frame_ideal6 : Cert.quiescent_Kernel6Ideal (hKernel6Ideal := Cert.Kernel6Ideal.Gen.facts) := fun m ρ _ => Cert.Kernel6Ideal.Gen.frame m ρ
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The input projection: the same. -/
theorem frame_kernel7 : Cert.quiescent_Kernel7 (hKernel7 := Cert.Kernel7.Gen.facts) := fun m ρ _ => Cert.Kernel7.Gen.frame m ρ
theorem frame_ideal7 : Cert.quiescent_Kernel7Ideal (hKernel7Ideal := Cert.Kernel7Ideal.Gen.facts) := fun m ρ _ => Cert.Kernel7Ideal.Gen.frame m ρ
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The network's second product: the same. -/
theorem frame_kernel8 : Cert.quiescent_Kernel8 (hKernel8 := Cert.Kernel8.Gen.facts) := fun m ρ _ => Cert.Kernel8.Gen.frame m ρ
theorem frame_ideal8 : Cert.quiescent_Kernel8Ideal (hKernel8Ideal := Cert.Kernel8Ideal.Gen.facts) := fun m ρ _ => Cert.Kernel8Ideal.Gen.frame m ρ
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The output projection: the same. -/
theorem frame_kernel9 : Cert.quiescent_Kernel9 (hKernel9 := Cert.Kernel9.Gen.facts) := fun m ρ _ => Cert.Kernel9.Gen.frame m ρ
theorem frame_ideal9 : Cert.quiescent_Kernel9Ideal (hKernel9Ideal := Cert.Kernel9Ideal.Gen.facts) := fun m ρ _ => Cert.Kernel9Ideal.Gen.frame m ρ
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The pool branch's projection's input gradient: the same. -/
theorem frame_kernel10 : Cert.quiescent_Kernel10 (hKernel10 := Cert.Kernel10.Gen.facts) := fun m ρ _ => Cert.Kernel10.Gen.frame m ρ
theorem frame_ideal10 : Cert.quiescent_Kernel10Ideal (hKernel10Ideal := Cert.Kernel10Ideal.Gen.facts) := fun m ρ _ => Cert.Kernel10Ideal.Gen.frame m ρ
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The stick-breaking branch's projection's input gradient: the same. -/
theorem frame_kernel11 : Cert.quiescent_Kernel11 (hKernel11 := Cert.Kernel11.Gen.facts) := fun m ρ _ => Cert.Kernel11.Gen.frame m ρ
theorem frame_ideal11 : Cert.quiescent_Kernel11Ideal (hKernel11Ideal := Cert.Kernel11Ideal.Gen.facts) := fun m ρ _ => Cert.Kernel11Ideal.Gen.frame m ρ
theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The gated delta branch's projection's input gradient: the same. -/
theorem frame_kernel12 : Cert.quiescent_Kernel12 (hKernel12 := Cert.Kernel12.Gen.facts) := fun m ρ _ => Cert.Kernel12.Gen.frame m ρ
theorem frame_ideal12 : Cert.quiescent_Kernel12Ideal (hKernel12Ideal := Cert.Kernel12Ideal.Gen.facts) := fun m ρ _ => Cert.Kernel12Ideal.Gen.frame m ρ
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The pool branch's projection's matrix gradient: the same. -/
theorem frame_kernel13 : Cert.quiescent_Kernel13 (hKernel13 := Cert.Kernel13.Gen.facts) := fun m ρ _ => Cert.Kernel13.Gen.frame m ρ
theorem frame_ideal13 : Cert.quiescent_Kernel13Ideal (hKernel13Ideal := Cert.Kernel13Ideal.Gen.facts) := fun m ρ _ => Cert.Kernel13Ideal.Gen.frame m ρ
theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The stick-breaking branch's projection's matrix gradient: the same. -/
theorem frame_kernel14 : Cert.quiescent_Kernel14 (hKernel14 := Cert.Kernel14.Gen.facts) := fun m ρ _ => Cert.Kernel14.Gen.frame m ρ
theorem frame_ideal14 : Cert.quiescent_Kernel14Ideal (hKernel14Ideal := Cert.Kernel14Ideal.Gen.facts) := fun m ρ _ => Cert.Kernel14Ideal.Gen.frame m ρ
theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The gated delta branch's projection's matrix gradient: the same. -/
theorem frame_kernel15 : Cert.quiescent_Kernel15 (hKernel15 := Cert.Kernel15.Gen.facts) := fun m ρ _ => Cert.Kernel15.Gen.frame m ρ
theorem frame_ideal15 : Cert.quiescent_Kernel15Ideal (hKernel15Ideal := Cert.Kernel15Ideal.Gen.facts) := fun m ρ _ => Cert.Kernel15Ideal.Gen.frame m ρ
theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- The gated merge: the same. -/
theorem frame_kernel16 : Cert.quiescent_Kernel16 (hKernel16 := Cert.Kernel16.Gen.facts) := fun m ρ _ => Cert.Kernel16.Gen.frame m ρ
theorem frame_ideal16 : Cert.quiescent_Kernel16Ideal (hKernel16Ideal := Cert.Kernel16Ideal.Gen.facts) := fun m ρ _ => Cert.Kernel16Ideal.Gen.frame m ρ
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- The gated merge's gradients: the same. -/
theorem frame_kernel17 : Cert.quiescent_Kernel17 (hKernel17 := Cert.Kernel17.Gen.facts) := fun m ρ _ => Cert.Kernel17.Gen.frame m ρ
theorem frame_ideal17 : Cert.quiescent_Kernel17Ideal (hKernel17Ideal := Cert.Kernel17Ideal.Gen.facts) := fun m ρ _ => Cert.Kernel17Ideal.Gen.frame m ρ
theorem frame_reference17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The stick-breaking attention: the same. -/
theorem frame_kernel18 : Cert.quiescent_Kernel18 (hKernel18 := Cert.Kernel18.Gen.facts) := fun m ρ _ => Cert.Kernel18.Gen.frame m ρ
theorem frame_ideal18 : Cert.quiescent_Kernel18Ideal (hKernel18Ideal := Cert.Kernel18Ideal.Gen.facts) := fun m ρ _ => Cert.Kernel18Ideal.Gen.frame m ρ
theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

/-- The convolution's gradients: the same. -/
theorem frame_kernel19 : Cert.quiescent_Kernel19 (hKernel19 := Cert.Kernel19.Gen.facts) := fun m ρ _ => Cert.Kernel19.Gen.frame m ρ
theorem frame_ideal19 : Cert.quiescent_Kernel19Ideal (hKernel19Ideal := Cert.Kernel19Ideal.Gen.facts) := fun m ρ _ => Cert.Kernel19Ideal.Gen.frame m ρ
theorem frame_reference19 : Cert.quiescent_Reference19Ideal (hReference19Ideal := Cert.Reference19Ideal.Gen.facts) := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The convolution: the same. -/
theorem frame_kernel20 : Cert.quiescent_Kernel20 (hKernel20 := Cert.Kernel20.Gen.facts) := fun m ρ _ => Cert.Kernel20.Gen.frame m ρ
theorem frame_ideal20 : Cert.quiescent_Kernel20Ideal (hKernel20Ideal := Cert.Kernel20Ideal.Gen.facts) := fun m ρ _ => Cert.Kernel20Ideal.Gen.frame m ρ
theorem frame_reference20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

/-- The norm's gradients: the same. -/
theorem frame_kernel21 : Cert.quiescent_Kernel21 (hKernel21 := Cert.Kernel21.Gen.facts) := fun m ρ _ => Cert.Kernel21.Gen.frame m ρ
theorem frame_ideal21 : Cert.quiescent_Kernel21Ideal (hKernel21Ideal := Cert.Kernel21Ideal.Gen.facts) := fun m ρ _ => Cert.Kernel21Ideal.Gen.frame m ρ
theorem frame_reference21 : Cert.quiescent_Reference21Ideal (hReference21Ideal := Cert.Reference21Ideal.Gen.facts) := fun m ρ _ =>
  (θ_run Cert.Reference21Ideal.defs _ _).mono (fun r h => ⟨fun c => (h c).2.2, sem_eq_zero_of_no_sems (by decide) r.2⟩)
    (Cert.Reference21Ideal.Value.run (F := Ideal) m ρ)

/-- The norm: the same. -/
theorem frame_kernel22 : Cert.quiescent_Kernel22 (hKernel22 := Cert.Kernel22.Gen.facts) := fun m ρ _ => Cert.Kernel22.Gen.frame m ρ
theorem frame_ideal22 : Cert.quiescent_Kernel22Ideal (hKernel22Ideal := Cert.Kernel22Ideal.Gen.facts) := fun m ρ _ => Cert.Kernel22Ideal.Gen.frame m ρ
theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

/-- The pooling's gradients: the same. -/
theorem frame_kernel23 : Cert.quiescent_Kernel23 (hKernel23 := Cert.Kernel23.Gen.facts) := fun m ρ _ => Cert.Kernel23.Gen.frame m ρ
theorem frame_ideal23 : Cert.quiescent_Kernel23Ideal (hKernel23Ideal := Cert.Kernel23Ideal.Gen.facts) := fun m ρ _ => Cert.Kernel23Ideal.Gen.frame m ρ
theorem frame_reference23 : Cert.quiescent_Reference23Ideal (hReference23Ideal := Cert.Reference23Ideal.Gen.facts) := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- The pooling: the same. -/
theorem frame_kernel24 : Cert.quiescent_Kernel24 (hKernel24 := Cert.Kernel24.Gen.facts) := fun m ρ _ => Cert.Kernel24.Gen.frame m ρ
theorem frame_ideal24 : Cert.quiescent_Kernel24Ideal (hKernel24Ideal := Cert.Kernel24Ideal.Gen.facts) := fun m ρ _ => Cert.Kernel24Ideal.Gen.frame m ρ
theorem frame_reference24 : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

/-- The loss and its gradients: the same. -/
theorem frame_kernel25 : Cert.quiescent_Kernel25 (hKernel25 := Cert.Kernel25.Gen.facts) := fun m ρ _ => Cert.Kernel25.Gen.frame m ρ
theorem frame_ideal25 : Cert.quiescent_Kernel25Ideal (hKernel25Ideal := Cert.Kernel25Ideal.Gen.facts) := fun m ρ _ => Cert.Kernel25Ideal.Gen.frame m ρ
theorem frame_reference25 : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The small weights' optimiser step: the same. -/
theorem frame_kernel26 : Cert.quiescent_Kernel26 (hKernel26 := Cert.Kernel26.Gen.facts) := fun m ρ _ => Cert.Kernel26.Gen.frame m ρ
theorem frame_ideal26 : Cert.quiescent_Kernel26Ideal (hKernel26Ideal := Cert.Kernel26Ideal.Gen.facts) := fun m ρ _ => Cert.Kernel26Ideal.Gen.frame m ρ
theorem frame_reference26 : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The large weights' optimiser step: the same. -/
theorem frame_kernel27 : Cert.quiescent_Kernel27 (hKernel27 := Cert.Kernel27.Gen.facts) := fun m ρ _ => Cert.Kernel27.Gen.frame m ρ
theorem frame_ideal27 : Cert.quiescent_Kernel27Ideal (hKernel27Ideal := Cert.Kernel27Ideal.Gen.facts) := fun m ρ _ => Cert.Kernel27Ideal.Gen.frame m ρ
theorem frame_reference27 : Cert.quiescent_Reference27Ideal (hReference27Ideal := Cert.Reference27Ideal.Gen.facts) := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem frame_ideal18_finite : Cert.quiescent_Kernel18Ideal_pre_finite_proj (hKernel18Ideal := Cert.Kernel18Ideal.Gen.facts) (hPre_finite_proj := SbFwd.finite_facts) := fun m ρ _ =>
  Cert.Kernel18Ideal.Gen.frame m ρ
theorem frame_reference18_finite : Cert.quiescent_Reference18Ideal_pre_finite_proj (hReference18Ideal := Cert.Reference18Ideal.Gen.facts) (hPre_finite_proj := SbFwd.finite_facts) := fun m ρ _ =>
  frame_reference18 m ρ trivial

theorem frame_ideal19_finite : Cert.quiescent_Kernel19Ideal_pre_finite_dc (hKernel19Ideal := Cert.Kernel19Ideal.Gen.facts) (hPre_finite_dc := ConvBwd.finite_facts) := fun m ρ _ =>
  Cert.Kernel19Ideal.Gen.frame m ρ
theorem frame_reference19_finite : Cert.quiescent_Reference19Ideal_pre_finite_dc (hReference19Ideal := Cert.Reference19Ideal.Gen.facts) (hPre_finite_dc := ConvBwd.finite_facts) := fun m ρ _ =>
  frame_reference19 m ρ trivial

theorem frame_ideal23_finite : Cert.quiescent_Kernel23Ideal_pre_finite_pool_bwd (hKernel23Ideal := Cert.Kernel23Ideal.Gen.facts) (hPre_finite_pool_bwd := PoolBwd.finite_facts) := fun m ρ _ =>
  Cert.Kernel23Ideal.Gen.frame m ρ
theorem frame_reference23_finite : Cert.quiescent_Reference23Ideal_pre_finite_pool_bwd (hReference23Ideal := Cert.Reference23Ideal.Gen.facts) (hPre_finite_pool_bwd := PoolBwd.finite_facts) := fun m ρ _ =>
  frame_reference23 m ρ trivial

theorem frame_ideal24_finite : Cert.quiescent_Kernel24Ideal_pre_finite_pool (hKernel24Ideal := Cert.Kernel24Ideal.Gen.facts) (hPre_finite_pool := PoolFwd.finite_facts) := fun m ρ _ =>
  Cert.Kernel24Ideal.Gen.frame m ρ
theorem frame_reference24_finite : Cert.quiescent_Reference24Ideal_pre_finite_pool (hReference24Ideal := Cert.Reference24Ideal.Gen.facts) (hPre_finite_pool := PoolFwd.finite_facts) := fun m ρ _ =>
  frame_reference24 m ρ trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Sb.finite_facts, SbFwd.finite_facts, ConvBwd.finite_facts, PoolBwd.finite_facts, PoolFwd.finite_facts,
  frame_kernel, frame_ideal, frame_ideal_finite, frame_reference, frame_reference_finite,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_ideal18_finite, frame_reference18, frame_reference18_finite,
  frame_kernel19, frame_ideal19, frame_ideal19_finite, frame_reference19, frame_reference19_finite,
  frame_kernel20, frame_ideal20, frame_reference20,
  frame_kernel21, frame_ideal21, frame_reference21,
  frame_kernel22, frame_ideal22, frame_reference22,
  frame_kernel23, frame_ideal23, frame_ideal23_finite, frame_reference23, frame_reference23_finite,
  frame_kernel24, frame_ideal24, frame_ideal24_finite, frame_reference24, frame_reference24_finite,
  frame_kernel25, frame_ideal25, frame_reference25,
  frame_kernel26, frame_ideal26, frame_reference26,
  frame_kernel27, frame_ideal27, frame_reference27,
  trivial, Sb.algebraic, trivial, Mlp.algebraic, trivial, Dx.algebraic, trivial, OutProj.algebraic, trivial, ProjDx.algebraic, trivial, ProjDw.algebraic, trivial, ProjFwd.algebraic, trivial, Ff2.algebraic, trivial, OutFwd.algebraic, trivial, PoolDx.algebraic, trivial, SbDx.algebraic, trivial, GdnDx.algebraic, trivial, PoolDw.algebraic, trivial, SbDw.algebraic, trivial, GdnDw.algebraic, trivial, MergeFwd.algebraic, trivial, MergeBwd.algebraic, trivial, SbFwd.algebraic, trivial, ConvBwd.algebraic, trivial, ConvFwd.algebraic, trivial, RmsBwd.algebraic, trivial, RmsFwd.algebraic, trivial, PoolBwd.algebraic, trivial, PoolFwd.algebraic, trivial, LossHead.algebraic, AdamSmall.preserves, AdamSmall.algebraic, AdamLarge.preserves, AdamLarge.algebraic⟩

end Cert.Proof

end
